-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_attn_finite [hPre_attn_finite : Cert.Pre_attn_finite.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4))).1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4))).2.1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4))).2.2.1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4))).2.2.2.1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4))).2.2.2.2 = (fun _ => 1#1)

def Pre_AttnBwdRefIdeal (m : (ℓ : Loc Cert.AttnBwdRefIdeal.nD Cert.AttnBwdRefIdeal.τ Cert.AttnBwdRefIdeal.sig) → Buf (Elt Ideal) ℓ) : Prop :=
  True

def Pre_AttnBwdRefIdeal_attn_finite [hPre_attn_finite : Cert.Pre_attn_finite.Facts] (m : (ℓ : Loc Cert.AttnBwdRefIdeal.nD Cert.AttnBwdRefIdeal.τ Cert.AttnBwdRefIdeal.sig) → Buf (Elt Ideal) ℓ) : Prop :=
  ∀ c : Dev Cert.AttnBwdRefIdeal.nD,
    (Cert.Pre_attn_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4))).1 = (fun _ => 1#1)
    ∧ (Cert.Pre_attn_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4))).2.1 = (fun _ => 1#1)
    ∧ (Cert.Pre_attn_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4))).2.2.1 = (fun _ => 1#1)
    ∧ (Cert.Pre_attn_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4))).2.2.2.1 = (fun _ => 1#1)
    ∧ (Cert.Pre_attn_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4))).2.2.2.2 = (fun _ => 1#1)

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_fwd_finite [hPre_fwd_finite : Cert.Pre_fwd_finite.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_fwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3)) (m ((c.tc : Thread Cert.AttnFwdIdeal.nD Cert.AttnFwdIdeal.τ).loc Cert.AttnFwdIdeal.main_arg4))).1 = (fun _ => 1#1)
    ∧ (Cert.Pre_fwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3)) (m ((c.tc : Thread Cert.AttnFwdIdeal.nD Cert.AttnFwdIdeal.τ).loc Cert.AttnFwdIdeal.main_arg4))).2.1 = (fun _ => 1#1)
    ∧ (Cert.Pre_fwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3)) (m ((c.tc : Thread Cert.AttnFwdIdeal.nD Cert.AttnFwdIdeal.τ).loc Cert.AttnFwdIdeal.main_arg4))).2.2.1 = (fun _ => 1#1)
    ∧ (Cert.Pre_fwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3)) (m ((c.tc : Thread Cert.AttnFwdIdeal.nD Cert.AttnFwdIdeal.τ).loc Cert.AttnFwdIdeal.main_arg4))).2.2.2 = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_fwd_finite [hPre_fwd_finite : Cert.Pre_fwd_finite.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_fwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3)) (m ((c.tc : Thread Cert.AttnFwdRefIdeal.nD Cert.AttnFwdRefIdeal.τ).loc Cert.AttnFwdRefIdeal.main_arg4))).1 = (fun _ => 1#1)
    ∧ (Cert.Pre_fwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3)) (m ((c.tc : Thread Cert.AttnFwdRefIdeal.nD Cert.AttnFwdRefIdeal.τ).loc Cert.AttnFwdRefIdeal.main_arg4))).2.1 = (fun _ => 1#1)
    ∧ (Cert.Pre_fwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3)) (m ((c.tc : Thread Cert.AttnFwdRefIdeal.nD Cert.AttnFwdRefIdeal.τ).loc Cert.AttnFwdRefIdeal.main_arg4))).2.2.1 = (fun _ => 1#1)
    ∧ (Cert.Pre_fwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3)) (m ((c.tc : Thread Cert.AttnFwdRefIdeal.nD Cert.AttnFwdRefIdeal.τ).loc Cert.AttnFwdRefIdeal.main_arg4))).2.2.2 = (fun _ => 1#1)

def Pre_FoxOut (m : (ℓ : Loc Cert.FoxOut.nD Cert.FoxOut.τ Cert.FoxOut.sig) → Buf (Elt Bits) ℓ) : Prop :=
  True

def Pre_FoxOutIdeal (m : (ℓ : Loc Cert.FoxOutIdeal.nD Cert.FoxOutIdeal.τ Cert.FoxOutIdeal.sig) → Buf (Elt Ideal) ℓ) : Prop :=
  True

def Pre_FoxOutIdeal_out_finite [hPre_out_finite : Cert.Pre_out_finite.Facts] (m : (ℓ : Loc Cert.FoxOutIdeal.nD Cert.FoxOutIdeal.τ Cert.FoxOutIdeal.sig) → Buf (Elt Ideal) ℓ) : Prop :=
  ∀ c : Dev Cert.FoxOutIdeal.nD,
    (Cert.Pre_out_finite.fn (F := Ideal) (m ((c.tc : Thread Cert.FoxOutIdeal.nD Cert.FoxOutIdeal.τ).loc Cert.FoxOutIdeal.main_arg0)) (m ((c.tc : Thread Cert.FoxOutIdeal.nD Cert.FoxOutIdeal.τ).loc Cert.FoxOutIdeal.main_arg1)) (m ((c.tc : Thread Cert.FoxOutIdeal.nD Cert.FoxOutIdeal.τ).loc Cert.FoxOutIdeal.main_arg2)) (m ((c.tc : Thread Cert.FoxOutIdeal.nD Cert.FoxOutIdeal.τ).loc Cert.FoxOutIdeal.main_arg3)) (m ((c.tc : Thread Cert.FoxOutIdeal.nD Cert.FoxOutIdeal.τ).loc Cert.FoxOutIdeal.main_arg4)) (m ((c.tc : Thread Cert.FoxOutIdeal.nD Cert.FoxOutIdeal.τ).loc Cert.FoxOutIdeal.main_arg5)) (m ((c.tc : Thread Cert.FoxOutIdeal.nD Cert.FoxOutIdeal.τ).loc Cert.FoxOutIdeal.main_arg6))).1 = (fun _ => 1#1)
    ∧ (Cert.Pre_out_finite.fn (F := Ideal) (m ((c.tc : Thread Cert.FoxOutIdeal.nD Cert.FoxOutIdeal.τ).loc Cert.FoxOutIdeal.main_arg0)) (m ((c.tc : Thread Cert.FoxOutIdeal.nD Cert.FoxOutIdeal.τ).loc Cert.FoxOutIdeal.main_arg1)) (m ((c.tc : Thread Cert.FoxOutIdeal.nD Cert.FoxOutIdeal.τ).loc Cert.FoxOutIdeal.main_arg2)) (m ((c.tc : Thread Cert.FoxOutIdeal.nD Cert.FoxOutIdeal.τ).loc Cert.FoxOutIdeal.main_arg3)) (m ((c.tc : Thread Cert.FoxOutIdeal.nD Cert.FoxOutIdeal.τ).loc Cert.FoxOutIdeal.main_arg4)) (m ((c.tc : Thread Cert.FoxOutIdeal.nD Cert.FoxOutIdeal.τ).loc Cert.FoxOutIdeal.main_arg5)) (m ((c.tc : Thread Cert.FoxOutIdeal.nD Cert.FoxOutIdeal.τ).loc Cert.FoxOutIdeal.main_arg6))).2.1 = (fun _ => 1#1)
    ∧ (Cert.Pre_out_finite.fn (F := Ideal) (m ((c.tc : Thread Cert.FoxOutIdeal.nD Cert.FoxOutIdeal.τ).loc Cert.FoxOutIdeal.main_arg0)) (m ((c.tc : Thread Cert.FoxOutIdeal.nD Cert.FoxOutIdeal.τ).loc Cert.FoxOutIdeal.main_arg1)) (m ((c.tc : Thread Cert.FoxOutIdeal.nD Cert.FoxOutIdeal.τ).loc Cert.FoxOutIdeal.main_arg2)) (m ((c.tc : Thread Cert.FoxOutIdeal.nD Cert.FoxOutIdeal.τ).loc Cert.FoxOutIdeal.main_arg3)) (m ((c.tc : Thread Cert.FoxOutIdeal.nD Cert.FoxOutIdeal.τ).loc Cert.FoxOutIdeal.main_arg4)) (m ((c.tc : Thread Cert.FoxOutIdeal.nD Cert.FoxOutIdeal.τ).loc Cert.FoxOutIdeal.main_arg5)) (m ((c.tc : Thread Cert.FoxOutIdeal.nD Cert.FoxOutIdeal.τ).loc Cert.FoxOutIdeal.main_arg6))).2.2.1 = (fun _ => 1#1)
    ∧ (Cert.Pre_out_finite.fn (F := Ideal) (m ((c.tc : Thread Cert.FoxOutIdeal.nD Cert.FoxOutIdeal.τ).loc Cert.FoxOutIdeal.main_arg0)) (m ((c.tc : Thread Cert.FoxOutIdeal.nD Cert.FoxOutIdeal.τ).loc Cert.FoxOutIdeal.main_arg1)) (m ((c.tc : Thread Cert.FoxOutIdeal.nD Cert.FoxOutIdeal.τ).loc Cert.FoxOutIdeal.main_arg2)) (m ((c.tc : Thread Cert.FoxOutIdeal.nD Cert.FoxOutIdeal.τ).loc Cert.FoxOutIdeal.main_arg3)) (m ((c.tc : Thread Cert.FoxOutIdeal.nD Cert.FoxOutIdeal.τ).loc Cert.FoxOutIdeal.main_arg4)) (m ((c.tc : Thread Cert.FoxOutIdeal.nD Cert.FoxOutIdeal.τ).loc Cert.FoxOutIdeal.main_arg5)) (m ((c.tc : Thread Cert.FoxOutIdeal.nD Cert.FoxOutIdeal.τ).loc Cert.FoxOutIdeal.main_arg6))).2.2.2 = (fun _ => 1#1)

def Pre_FoxOutRefIdeal (m : (ℓ : Loc Cert.FoxOutRefIdeal.nD Cert.FoxOutRefIdeal.τ Cert.FoxOutRefIdeal.sig) → Buf (Elt Ideal) ℓ) : Prop :=
  True

def Pre_FoxOutRefIdeal_out_finite [hPre_out_finite : Cert.Pre_out_finite.Facts] (m : (ℓ : Loc Cert.FoxOutRefIdeal.nD Cert.FoxOutRefIdeal.τ Cert.FoxOutRefIdeal.sig) → Buf (Elt Ideal) ℓ) : Prop :=
  ∀ c : Dev Cert.FoxOutRefIdeal.nD,
    (Cert.Pre_out_finite.fn (F := Ideal) (m ((c.tc : Thread Cert.FoxOutRefIdeal.nD Cert.FoxOutRefIdeal.τ).loc Cert.FoxOutRefIdeal.main_arg0)) (m ((c.tc : Thread Cert.FoxOutRefIdeal.nD Cert.FoxOutRefIdeal.τ).loc Cert.FoxOutRefIdeal.main_arg1)) (m ((c.tc : Thread Cert.FoxOutRefIdeal.nD Cert.FoxOutRefIdeal.τ).loc Cert.FoxOutRefIdeal.main_arg2)) (m ((c.tc : Thread Cert.FoxOutRefIdeal.nD Cert.FoxOutRefIdeal.τ).loc Cert.FoxOutRefIdeal.main_arg3)) (m ((c.tc : Thread Cert.FoxOutRefIdeal.nD Cert.FoxOutRefIdeal.τ).loc Cert.FoxOutRefIdeal.main_arg4)) (m ((c.tc : Thread Cert.FoxOutRefIdeal.nD Cert.FoxOutRefIdeal.τ).loc Cert.FoxOutRefIdeal.main_arg5)) (m ((c.tc : Thread Cert.FoxOutRefIdeal.nD Cert.FoxOutRefIdeal.τ).loc Cert.FoxOutRefIdeal.main_arg6))).1 = (fun _ => 1#1)
    ∧ (Cert.Pre_out_finite.fn (F := Ideal) (m ((c.tc : Thread Cert.FoxOutRefIdeal.nD Cert.FoxOutRefIdeal.τ).loc Cert.FoxOutRefIdeal.main_arg0)) (m ((c.tc : Thread Cert.FoxOutRefIdeal.nD Cert.FoxOutRefIdeal.τ).loc Cert.FoxOutRefIdeal.main_arg1)) (m ((c.tc : Thread Cert.FoxOutRefIdeal.nD Cert.FoxOutRefIdeal.τ).loc Cert.FoxOutRefIdeal.main_arg2)) (m ((c.tc : Thread Cert.FoxOutRefIdeal.nD Cert.FoxOutRefIdeal.τ).loc Cert.FoxOutRefIdeal.main_arg3)) (m ((c.tc : Thread Cert.FoxOutRefIdeal.nD Cert.FoxOutRefIdeal.τ).loc Cert.FoxOutRefIdeal.main_arg4)) (m ((c.tc : Thread Cert.FoxOutRefIdeal.nD Cert.FoxOutRefIdeal.τ).loc Cert.FoxOutRefIdeal.main_arg5)) (m ((c.tc : Thread Cert.FoxOutRefIdeal.nD Cert.FoxOutRefIdeal.τ).loc Cert.FoxOutRefIdeal.main_arg6))).2.1 = (fun _ => 1#1)
    ∧ (Cert.Pre_out_finite.fn (F := Ideal) (m ((c.tc : Thread Cert.FoxOutRefIdeal.nD Cert.FoxOutRefIdeal.τ).loc Cert.FoxOutRefIdeal.main_arg0)) (m ((c.tc : Thread Cert.FoxOutRefIdeal.nD Cert.FoxOutRefIdeal.τ).loc Cert.FoxOutRefIdeal.main_arg1)) (m ((c.tc : Thread Cert.FoxOutRefIdeal.nD Cert.FoxOutRefIdeal.τ).loc Cert.FoxOutRefIdeal.main_arg2)) (m ((c.tc : Thread Cert.FoxOutRefIdeal.nD Cert.FoxOutRefIdeal.τ).loc Cert.FoxOutRefIdeal.main_arg3)) (m ((c.tc : Thread Cert.FoxOutRefIdeal.nD Cert.FoxOutRefIdeal.τ).loc Cert.FoxOutRefIdeal.main_arg4)) (m ((c.tc : Thread Cert.FoxOutRefIdeal.nD Cert.FoxOutRefIdeal.τ).loc Cert.FoxOutRefIdeal.main_arg5)) (m ((c.tc : Thread Cert.FoxOutRefIdeal.nD Cert.FoxOutRefIdeal.τ).loc Cert.FoxOutRefIdeal.main_arg6))).2.2.1 = (fun _ => 1#1)
    ∧ (Cert.Pre_out_finite.fn (F := Ideal) (m ((c.tc : Thread Cert.FoxOutRefIdeal.nD Cert.FoxOutRefIdeal.τ).loc Cert.FoxOutRefIdeal.main_arg0)) (m ((c.tc : Thread Cert.FoxOutRefIdeal.nD Cert.FoxOutRefIdeal.τ).loc Cert.FoxOutRefIdeal.main_arg1)) (m ((c.tc : Thread Cert.FoxOutRefIdeal.nD Cert.FoxOutRefIdeal.τ).loc Cert.FoxOutRefIdeal.main_arg2)) (m ((c.tc : Thread Cert.FoxOutRefIdeal.nD Cert.FoxOutRefIdeal.τ).loc Cert.FoxOutRefIdeal.main_arg3)) (m ((c.tc : Thread Cert.FoxOutRefIdeal.nD Cert.FoxOutRefIdeal.τ).loc Cert.FoxOutRefIdeal.main_arg4)) (m ((c.tc : Thread Cert.FoxOutRefIdeal.nD Cert.FoxOutRefIdeal.τ).loc Cert.FoxOutRefIdeal.main_arg5)) (m ((c.tc : Thread Cert.FoxOutRefIdeal.nD Cert.FoxOutRefIdeal.τ).loc Cert.FoxOutRefIdeal.main_arg6))).2.2.2 = (fun _ => 1#1)

def Pre_FoxPrep (m : (ℓ : Loc Cert.FoxPrep.nD Cert.FoxPrep.τ Cert.FoxPrep.sig) → Buf (Elt Bits) ℓ) : Prop :=
  True

def Pre_FoxPrepIdeal (m : (ℓ : Loc Cert.FoxPrepIdeal.nD Cert.FoxPrepIdeal.τ Cert.FoxPrepIdeal.sig) → Buf (Elt Ideal) ℓ) : Prop :=
  True

def Pre_FoxPrepRefIdeal (m : (ℓ : Loc Cert.FoxPrepRefIdeal.nD Cert.FoxPrepRefIdeal.τ Cert.FoxPrepRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Embed (m : (ℓ : Loc Cert.Embed.nD Cert.Embed.τ Cert.Embed.sig) → Buf (Elt Bits) ℓ) : Prop :=
  True

def Pre_EmbedIdeal (m : (ℓ : Loc Cert.EmbedIdeal.nD Cert.EmbedIdeal.τ Cert.EmbedIdeal.sig) → Buf (Elt Ideal) ℓ) : Prop :=
  True

def Pre_EmbedRefIdeal (m : (ℓ : Loc Cert.EmbedRefIdeal.nD Cert.EmbedRefIdeal.τ Cert.EmbedRefIdeal.sig) → Buf (Elt Ideal) ℓ) : Prop :=
  True

def Pre_PrepFwd (m : (ℓ : Loc Cert.PrepFwd.nD Cert.PrepFwd.τ Cert.PrepFwd.sig) → Buf (Elt Bits) ℓ) : Prop :=
  True

def Pre_PrepFwdIdeal (m : (ℓ : Loc Cert.PrepFwdIdeal.nD Cert.PrepFwdIdeal.τ Cert.PrepFwdIdeal.sig) → Buf (Elt Ideal) ℓ) : Prop :=
  True

def Pre_PrepFwdRefIdeal (m : (ℓ : Loc Cert.PrepFwdRefIdeal.nD Cert.PrepFwdRefIdeal.τ Cert.PrepFwdRefIdeal.sig) → Buf (Elt Ideal) ℓ) : Prop :=
  True

def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwRefIdeal (m : (ℓ : Loc Cert.DwRefIdeal.nD Cert.DwRefIdeal.τ Cert.DwRefIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwRefIdeal (m : (ℓ : Loc Cert.AdamwRefIdeal.nD Cert.AdamwRefIdeal.τ Cert.AdamwRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3)
      ∧ r.2.mem ((c.tc : Thread Cert.AttnBwd.nD Cert.AttnBwd.τ).loc Cert.AttnBwd.main_arg4) = m ((c.tc : Thread Cert.AttnBwd.nD Cert.AttnBwd.τ).loc Cert.AttnBwd.main_arg4))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4))
      ∧ r.2.sem = fun _ => 0)

def quiescent_AttnBwdIdeal_pre_attn_finite [hAttnBwdIdeal : Cert.AttnBwdIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_attn_finite m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3)
      ∧ r.2.mem ((c.tc : Thread Cert.AttnBwdRefIdeal.nD Cert.AttnBwdRefIdeal.τ).loc Cert.AttnBwdRefIdeal.main_arg4) = m ((c.tc : Thread Cert.AttnBwdRefIdeal.nD Cert.AttnBwdRefIdeal.τ).loc Cert.AttnBwdRefIdeal.main_arg4))
      ∧ r.2.sem = fun _ => 0)

def quiescent_AttnBwdRefIdeal_pre_attn_finite [hAttnBwdRefIdeal : Cert.AttnBwdRefIdeal.Facts] [hPre_attn_finite : Cert.Pre_attn_finite.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal_attn_finite m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3)
      ∧ r.2.mem ((c.tc : Thread Cert.AttnBwdRefIdeal.nD Cert.AttnBwdRefIdeal.τ).loc Cert.AttnBwdRefIdeal.main_arg4) = m ((c.tc : Thread Cert.AttnBwdRefIdeal.nD Cert.AttnBwdRefIdeal.τ).loc Cert.AttnBwdRefIdeal.main_arg4))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2)
      ∧ r.2.mem ((c.tc : Thread Cert.FfnIn.nD Cert.FfnIn.τ).loc Cert.FfnIn.main_arg3) = m ((c.tc : Thread Cert.FfnIn.nD Cert.FfnIn.τ).loc Cert.FfnIn.main_arg3)
      ∧ r.2.mem ((c.tc : Thread Cert.FfnIn.nD Cert.FfnIn.τ).loc Cert.FfnIn.main_arg4) = m ((c.tc : Thread Cert.FfnIn.nD Cert.FfnIn.τ).loc Cert.FfnIn.main_arg4))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2)
      ∧ r.2.mem ((c.tc : Thread Cert.AttnFwd.nD Cert.AttnFwd.τ).loc Cert.AttnFwd.main_arg3) = m ((c.tc : Thread Cert.AttnFwd.nD Cert.AttnFwd.τ).loc Cert.AttnFwd.main_arg3)
      ∧ r.2.mem ((c.tc : Thread Cert.AttnFwd.nD Cert.AttnFwd.τ).loc Cert.AttnFwd.main_arg4) = m ((c.tc : Thread Cert.AttnFwd.nD Cert.AttnFwd.τ).loc Cert.AttnFwd.main_arg4))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3)
      ∧ r.2.mem ((c.tc : Thread Cert.AttnFwdIdeal.nD Cert.AttnFwdIdeal.τ).loc Cert.AttnFwdIdeal.main_arg4) = m ((c.tc : Thread Cert.AttnFwdIdeal.nD Cert.AttnFwdIdeal.τ).loc Cert.AttnFwdIdeal.main_arg4))
      ∧ r.2.sem = fun _ => 0)

def quiescent_AttnFwdIdeal_pre_fwd_finite [hAttnFwdIdeal : Cert.AttnFwdIdeal.Facts] [hPre_fwd_finite : Cert.Pre_fwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_fwd_finite m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3)
      ∧ r.2.mem ((c.tc : Thread Cert.AttnFwdIdeal.nD Cert.AttnFwdIdeal.τ).loc Cert.AttnFwdIdeal.main_arg4) = m ((c.tc : Thread Cert.AttnFwdIdeal.nD Cert.AttnFwdIdeal.τ).loc Cert.AttnFwdIdeal.main_arg4))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3)
      ∧ r.2.mem ((c.tc : Thread Cert.AttnFwdRefIdeal.nD Cert.AttnFwdRefIdeal.τ).loc Cert.AttnFwdRefIdeal.main_arg4) = m ((c.tc : Thread Cert.AttnFwdRefIdeal.nD Cert.AttnFwdRefIdeal.τ).loc Cert.AttnFwdRefIdeal.main_arg4))
      ∧ r.2.sem = fun _ => 0)

def quiescent_AttnFwdRefIdeal_pre_fwd_finite [hAttnFwdRefIdeal : Cert.AttnFwdRefIdeal.Facts] [hPre_fwd_finite : Cert.Pre_fwd_finite.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_fwd_finite m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3)
      ∧ r.2.mem ((c.tc : Thread Cert.AttnFwdRefIdeal.nD Cert.AttnFwdRefIdeal.τ).loc Cert.AttnFwdRefIdeal.main_arg4) = m ((c.tc : Thread Cert.AttnFwdRefIdeal.nD Cert.AttnFwdRefIdeal.τ).loc Cert.AttnFwdRefIdeal.main_arg4))
      ∧ r.2.sem = fun _ => 0)

def quiescent_FoxOut [hFoxOut : Cert.FoxOut.Facts] : Prop :=
  ∀ (m : (ℓ : Loc Cert.FoxOut.nD Cert.FoxOut.τ Cert.FoxOut.sig) → Buf (Elt Bits) ℓ) (g : Dev Cert.FoxOut.nD → PrngReg), Pre_FoxOut m →
    θ_run (Cert.FoxOut.defs (F := Bits)) (onTc (τ := Cert.FoxOut.τ) (Cert.FoxOut.main (F := Bits))) ⟨m, fun _ => 0, g⟩ (fun r => (∀ c : Dev Cert.FoxOut.nD,
      r.2.mem ((c.tc : Thread Cert.FoxOut.nD Cert.FoxOut.τ).loc Cert.FoxOut.main_arg0) = m ((c.tc : Thread Cert.FoxOut.nD Cert.FoxOut.τ).loc Cert.FoxOut.main_arg0)
      ∧ r.2.mem ((c.tc : Thread Cert.FoxOut.nD Cert.FoxOut.τ).loc Cert.FoxOut.main_arg1) = m ((c.tc : Thread Cert.FoxOut.nD Cert.FoxOut.τ).loc Cert.FoxOut.main_arg1)
      ∧ r.2.mem ((c.tc : Thread Cert.FoxOut.nD Cert.FoxOut.τ).loc Cert.FoxOut.main_arg2) = m ((c.tc : Thread Cert.FoxOut.nD Cert.FoxOut.τ).loc Cert.FoxOut.main_arg2)
      ∧ r.2.mem ((c.tc : Thread Cert.FoxOut.nD Cert.FoxOut.τ).loc Cert.FoxOut.main_arg3) = m ((c.tc : Thread Cert.FoxOut.nD Cert.FoxOut.τ).loc Cert.FoxOut.main_arg3)
      ∧ r.2.mem ((c.tc : Thread Cert.FoxOut.nD Cert.FoxOut.τ).loc Cert.FoxOut.main_arg4) = m ((c.tc : Thread Cert.FoxOut.nD Cert.FoxOut.τ).loc Cert.FoxOut.main_arg4)
      ∧ r.2.mem ((c.tc : Thread Cert.FoxOut.nD Cert.FoxOut.τ).loc Cert.FoxOut.main_arg5) = m ((c.tc : Thread Cert.FoxOut.nD Cert.FoxOut.τ).loc Cert.FoxOut.main_arg5)
      ∧ r.2.mem ((c.tc : Thread Cert.FoxOut.nD Cert.FoxOut.τ).loc Cert.FoxOut.main_arg6) = m ((c.tc : Thread Cert.FoxOut.nD Cert.FoxOut.τ).loc Cert.FoxOut.main_arg6))
      ∧ r.2.sem = fun _ => 0)

def quiescent_FoxOutIdeal [hFoxOutIdeal : Cert.FoxOutIdeal.Facts] : Prop :=
  ∀ (m : (ℓ : Loc Cert.FoxOutIdeal.nD Cert.FoxOutIdeal.τ Cert.FoxOutIdeal.sig) → Buf (Elt Ideal) ℓ) (g : Dev Cert.FoxOutIdeal.nD → PrngReg), Pre_FoxOutIdeal m →
    θ_run (Cert.FoxOutIdeal.defs (F := Ideal)) (onTc (τ := Cert.FoxOutIdeal.τ) (Cert.FoxOutIdeal.main (F := Ideal))) ⟨m, fun _ => 0, g⟩ (fun r => (∀ c : Dev Cert.FoxOutIdeal.nD,
      r.2.mem ((c.tc : Thread Cert.FoxOutIdeal.nD Cert.FoxOutIdeal.τ).loc Cert.FoxOutIdeal.main_arg0) = m ((c.tc : Thread Cert.FoxOutIdeal.nD Cert.FoxOutIdeal.τ).loc Cert.FoxOutIdeal.main_arg0)
      ∧ r.2.mem ((c.tc : Thread Cert.FoxOutIdeal.nD Cert.FoxOutIdeal.τ).loc Cert.FoxOutIdeal.main_arg1) = m ((c.tc : Thread Cert.FoxOutIdeal.nD Cert.FoxOutIdeal.τ).loc Cert.FoxOutIdeal.main_arg1)
      ∧ r.2.mem ((c.tc : Thread Cert.FoxOutIdeal.nD Cert.FoxOutIdeal.τ).loc Cert.FoxOutIdeal.main_arg2) = m ((c.tc : Thread Cert.FoxOutIdeal.nD Cert.FoxOutIdeal.τ).loc Cert.FoxOutIdeal.main_arg2)
      ∧ r.2.mem ((c.tc : Thread Cert.FoxOutIdeal.nD Cert.FoxOutIdeal.τ).loc Cert.FoxOutIdeal.main_arg3) = m ((c.tc : Thread Cert.FoxOutIdeal.nD Cert.FoxOutIdeal.τ).loc Cert.FoxOutIdeal.main_arg3)
      ∧ r.2.mem ((c.tc : Thread Cert.FoxOutIdeal.nD Cert.FoxOutIdeal.τ).loc Cert.FoxOutIdeal.main_arg4) = m ((c.tc : Thread Cert.FoxOutIdeal.nD Cert.FoxOutIdeal.τ).loc Cert.FoxOutIdeal.main_arg4)
      ∧ r.2.mem ((c.tc : Thread Cert.FoxOutIdeal.nD Cert.FoxOutIdeal.τ).loc Cert.FoxOutIdeal.main_arg5) = m ((c.tc : Thread Cert.FoxOutIdeal.nD Cert.FoxOutIdeal.τ).loc Cert.FoxOutIdeal.main_arg5)
      ∧ r.2.mem ((c.tc : Thread Cert.FoxOutIdeal.nD Cert.FoxOutIdeal.τ).loc Cert.FoxOutIdeal.main_arg6) = m ((c.tc : Thread Cert.FoxOutIdeal.nD Cert.FoxOutIdeal.τ).loc Cert.FoxOutIdeal.main_arg6))
      ∧ r.2.sem = fun _ => 0)

def quiescent_FoxOutIdeal_pre_out_finite [hFoxOutIdeal : Cert.FoxOutIdeal.Facts] [hPre_out_finite : Cert.Pre_out_finite.Facts] : Prop :=
  ∀ (m : (ℓ : Loc Cert.FoxOutIdeal.nD Cert.FoxOutIdeal.τ Cert.FoxOutIdeal.sig) → Buf (Elt Ideal) ℓ) (g : Dev Cert.FoxOutIdeal.nD → PrngReg), Pre_FoxOutIdeal_out_finite m →
    θ_run (Cert.FoxOutIdeal.defs (F := Ideal)) (onTc (τ := Cert.FoxOutIdeal.τ) (Cert.FoxOutIdeal.main (F := Ideal))) ⟨m, fun _ => 0, g⟩ (fun r => (∀ c : Dev Cert.FoxOutIdeal.nD,
      r.2.mem ((c.tc : Thread Cert.FoxOutIdeal.nD Cert.FoxOutIdeal.τ).loc Cert.FoxOutIdeal.main_arg0) = m ((c.tc : Thread Cert.FoxOutIdeal.nD Cert.FoxOutIdeal.τ).loc Cert.FoxOutIdeal.main_arg0)
      ∧ r.2.mem ((c.tc : Thread Cert.FoxOutIdeal.nD Cert.FoxOutIdeal.τ).loc Cert.FoxOutIdeal.main_arg1) = m ((c.tc : Thread Cert.FoxOutIdeal.nD Cert.FoxOutIdeal.τ).loc Cert.FoxOutIdeal.main_arg1)
      ∧ r.2.mem ((c.tc : Thread Cert.FoxOutIdeal.nD Cert.FoxOutIdeal.τ).loc Cert.FoxOutIdeal.main_arg2) = m ((c.tc : Thread Cert.FoxOutIdeal.nD Cert.FoxOutIdeal.τ).loc Cert.FoxOutIdeal.main_arg2)
      ∧ r.2.mem ((c.tc : Thread Cert.FoxOutIdeal.nD Cert.FoxOutIdeal.τ).loc Cert.FoxOutIdeal.main_arg3) = m ((c.tc : Thread Cert.FoxOutIdeal.nD Cert.FoxOutIdeal.τ).loc Cert.FoxOutIdeal.main_arg3)
      ∧ r.2.mem ((c.tc : Thread Cert.FoxOutIdeal.nD Cert.FoxOutIdeal.τ).loc Cert.FoxOutIdeal.main_arg4) = m ((c.tc : Thread Cert.FoxOutIdeal.nD Cert.FoxOutIdeal.τ).loc Cert.FoxOutIdeal.main_arg4)
      ∧ r.2.mem ((c.tc : Thread Cert.FoxOutIdeal.nD Cert.FoxOutIdeal.τ).loc Cert.FoxOutIdeal.main_arg5) = m ((c.tc : Thread Cert.FoxOutIdeal.nD Cert.FoxOutIdeal.τ).loc Cert.FoxOutIdeal.main_arg5)
      ∧ r.2.mem ((c.tc : Thread Cert.FoxOutIdeal.nD Cert.FoxOutIdeal.τ).loc Cert.FoxOutIdeal.main_arg6) = m ((c.tc : Thread Cert.FoxOutIdeal.nD Cert.FoxOutIdeal.τ).loc Cert.FoxOutIdeal.main_arg6))
      ∧ r.2.sem = fun _ => 0)

def quiescent_FoxOutRefIdeal [hFoxOutRefIdeal : Cert.FoxOutRefIdeal.Facts] : Prop :=
  ∀ (m : (ℓ : Loc Cert.FoxOutRefIdeal.nD Cert.FoxOutRefIdeal.τ Cert.FoxOutRefIdeal.sig) → Buf (Elt Ideal) ℓ) (g : Dev Cert.FoxOutRefIdeal.nD → PrngReg), Pre_FoxOutRefIdeal m →
    θ_run (Cert.FoxOutRefIdeal.defs (F := Ideal)) (onTc (τ := Cert.FoxOutRefIdeal.τ) (Cert.FoxOutRefIdeal.main (F := Ideal))) ⟨m, fun _ => 0, g⟩ (fun r => (∀ c : Dev Cert.FoxOutRefIdeal.nD,
      r.2.mem ((c.tc : Thread Cert.FoxOutRefIdeal.nD Cert.FoxOutRefIdeal.τ).loc Cert.FoxOutRefIdeal.main_arg0) = m ((c.tc : Thread Cert.FoxOutRefIdeal.nD Cert.FoxOutRefIdeal.τ).loc Cert.FoxOutRefIdeal.main_arg0)
      ∧ r.2.mem ((c.tc : Thread Cert.FoxOutRefIdeal.nD Cert.FoxOutRefIdeal.τ).loc Cert.FoxOutRefIdeal.main_arg1) = m ((c.tc : Thread Cert.FoxOutRefIdeal.nD Cert.FoxOutRefIdeal.τ).loc Cert.FoxOutRefIdeal.main_arg1)
      ∧ r.2.mem ((c.tc : Thread Cert.FoxOutRefIdeal.nD Cert.FoxOutRefIdeal.τ).loc Cert.FoxOutRefIdeal.main_arg2) = m ((c.tc : Thread Cert.FoxOutRefIdeal.nD Cert.FoxOutRefIdeal.τ).loc Cert.FoxOutRefIdeal.main_arg2)
      ∧ r.2.mem ((c.tc : Thread Cert.FoxOutRefIdeal.nD Cert.FoxOutRefIdeal.τ).loc Cert.FoxOutRefIdeal.main_arg3) = m ((c.tc : Thread Cert.FoxOutRefIdeal.nD Cert.FoxOutRefIdeal.τ).loc Cert.FoxOutRefIdeal.main_arg3)
      ∧ r.2.mem ((c.tc : Thread Cert.FoxOutRefIdeal.nD Cert.FoxOutRefIdeal.τ).loc Cert.FoxOutRefIdeal.main_arg4) = m ((c.tc : Thread Cert.FoxOutRefIdeal.nD Cert.FoxOutRefIdeal.τ).loc Cert.FoxOutRefIdeal.main_arg4)
      ∧ r.2.mem ((c.tc : Thread Cert.FoxOutRefIdeal.nD Cert.FoxOutRefIdeal.τ).loc Cert.FoxOutRefIdeal.main_arg5) = m ((c.tc : Thread Cert.FoxOutRefIdeal.nD Cert.FoxOutRefIdeal.τ).loc Cert.FoxOutRefIdeal.main_arg5)
      ∧ r.2.mem ((c.tc : Thread Cert.FoxOutRefIdeal.nD Cert.FoxOutRefIdeal.τ).loc Cert.FoxOutRefIdeal.main_arg6) = m ((c.tc : Thread Cert.FoxOutRefIdeal.nD Cert.FoxOutRefIdeal.τ).loc Cert.FoxOutRefIdeal.main_arg6))
      ∧ r.2.sem = fun _ => 0)

def quiescent_FoxOutRefIdeal_pre_out_finite [hFoxOutRefIdeal : Cert.FoxOutRefIdeal.Facts] [hPre_out_finite : Cert.Pre_out_finite.Facts] : Prop :=
  ∀ (m : (ℓ : Loc Cert.FoxOutRefIdeal.nD Cert.FoxOutRefIdeal.τ Cert.FoxOutRefIdeal.sig) → Buf (Elt Ideal) ℓ) (g : Dev Cert.FoxOutRefIdeal.nD → PrngReg), Pre_FoxOutRefIdeal_out_finite m →
    θ_run (Cert.FoxOutRefIdeal.defs (F := Ideal)) (onTc (τ := Cert.FoxOutRefIdeal.τ) (Cert.FoxOutRefIdeal.main (F := Ideal))) ⟨m, fun _ => 0, g⟩ (fun r => (∀ c : Dev Cert.FoxOutRefIdeal.nD,
      r.2.mem ((c.tc : Thread Cert.FoxOutRefIdeal.nD Cert.FoxOutRefIdeal.τ).loc Cert.FoxOutRefIdeal.main_arg0) = m ((c.tc : Thread Cert.FoxOutRefIdeal.nD Cert.FoxOutRefIdeal.τ).loc Cert.FoxOutRefIdeal.main_arg0)
      ∧ r.2.mem ((c.tc : Thread Cert.FoxOutRefIdeal.nD Cert.FoxOutRefIdeal.τ).loc Cert.FoxOutRefIdeal.main_arg1) = m ((c.tc : Thread Cert.FoxOutRefIdeal.nD Cert.FoxOutRefIdeal.τ).loc Cert.FoxOutRefIdeal.main_arg1)
      ∧ r.2.mem ((c.tc : Thread Cert.FoxOutRefIdeal.nD Cert.FoxOutRefIdeal.τ).loc Cert.FoxOutRefIdeal.main_arg2) = m ((c.tc : Thread Cert.FoxOutRefIdeal.nD Cert.FoxOutRefIdeal.τ).loc Cert.FoxOutRefIdeal.main_arg2)
      ∧ r.2.mem ((c.tc : Thread Cert.FoxOutRefIdeal.nD Cert.FoxOutRefIdeal.τ).loc Cert.FoxOutRefIdeal.main_arg3) = m ((c.tc : Thread Cert.FoxOutRefIdeal.nD Cert.FoxOutRefIdeal.τ).loc Cert.FoxOutRefIdeal.main_arg3)
      ∧ r.2.mem ((c.tc : Thread Cert.FoxOutRefIdeal.nD Cert.FoxOutRefIdeal.τ).loc Cert.FoxOutRefIdeal.main_arg4) = m ((c.tc : Thread Cert.FoxOutRefIdeal.nD Cert.FoxOutRefIdeal.τ).loc Cert.FoxOutRefIdeal.main_arg4)
      ∧ r.2.mem ((c.tc : Thread Cert.FoxOutRefIdeal.nD Cert.FoxOutRefIdeal.τ).loc Cert.FoxOutRefIdeal.main_arg5) = m ((c.tc : Thread Cert.FoxOutRefIdeal.nD Cert.FoxOutRefIdeal.τ).loc Cert.FoxOutRefIdeal.main_arg5)
      ∧ r.2.mem ((c.tc : Thread Cert.FoxOutRefIdeal.nD Cert.FoxOutRefIdeal.τ).loc Cert.FoxOutRefIdeal.main_arg6) = m ((c.tc : Thread Cert.FoxOutRefIdeal.nD Cert.FoxOutRefIdeal.τ).loc Cert.FoxOutRefIdeal.main_arg6))
      ∧ r.2.sem = fun _ => 0)

def quiescent_FoxPrep [hFoxPrep : Cert.FoxPrep.Facts] : Prop :=
  ∀ (m : (ℓ : Loc Cert.FoxPrep.nD Cert.FoxPrep.τ Cert.FoxPrep.sig) → Buf (Elt Bits) ℓ) (g : Dev Cert.FoxPrep.nD → PrngReg), Pre_FoxPrep m →
    θ_run (Cert.FoxPrep.defs (F := Bits)) (onTc (τ := Cert.FoxPrep.τ) (Cert.FoxPrep.main (F := Bits))) ⟨m, fun _ => 0, g⟩ (fun r => (∀ c : Dev Cert.FoxPrep.nD,
      r.2.mem ((c.tc : Thread Cert.FoxPrep.nD Cert.FoxPrep.τ).loc Cert.FoxPrep.main_arg0) = m ((c.tc : Thread Cert.FoxPrep.nD Cert.FoxPrep.τ).loc Cert.FoxPrep.main_arg0)
      ∧ r.2.mem ((c.tc : Thread Cert.FoxPrep.nD Cert.FoxPrep.τ).loc Cert.FoxPrep.main_arg1) = m ((c.tc : Thread Cert.FoxPrep.nD Cert.FoxPrep.τ).loc Cert.FoxPrep.main_arg1)
      ∧ r.2.mem ((c.tc : Thread Cert.FoxPrep.nD Cert.FoxPrep.τ).loc Cert.FoxPrep.main_arg2) = m ((c.tc : Thread Cert.FoxPrep.nD Cert.FoxPrep.τ).loc Cert.FoxPrep.main_arg2)
      ∧ r.2.mem ((c.tc : Thread Cert.FoxPrep.nD Cert.FoxPrep.τ).loc Cert.FoxPrep.main_arg3) = m ((c.tc : Thread Cert.FoxPrep.nD Cert.FoxPrep.τ).loc Cert.FoxPrep.main_arg3)
      ∧ r.2.mem ((c.tc : Thread Cert.FoxPrep.nD Cert.FoxPrep.τ).loc Cert.FoxPrep.main_arg4) = m ((c.tc : Thread Cert.FoxPrep.nD Cert.FoxPrep.τ).loc Cert.FoxPrep.main_arg4)
      ∧ r.2.mem ((c.tc : Thread Cert.FoxPrep.nD Cert.FoxPrep.τ).loc Cert.FoxPrep.main_arg5) = m ((c.tc : Thread Cert.FoxPrep.nD Cert.FoxPrep.τ).loc Cert.FoxPrep.main_arg5)
      ∧ r.2.mem ((c.tc : Thread Cert.FoxPrep.nD Cert.FoxPrep.τ).loc Cert.FoxPrep.main_arg6) = m ((c.tc : Thread Cert.FoxPrep.nD Cert.FoxPrep.τ).loc Cert.FoxPrep.main_arg6)
      ∧ r.2.mem ((c.tc : Thread Cert.FoxPrep.nD Cert.FoxPrep.τ).loc Cert.FoxPrep.main_arg7) = m ((c.tc : Thread Cert.FoxPrep.nD Cert.FoxPrep.τ).loc Cert.FoxPrep.main_arg7)
      ∧ r.2.mem ((c.tc : Thread Cert.FoxPrep.nD Cert.FoxPrep.τ).loc Cert.FoxPrep.main_arg8) = m ((c.tc : Thread Cert.FoxPrep.nD Cert.FoxPrep.τ).loc Cert.FoxPrep.main_arg8))
      ∧ r.2.sem = fun _ => 0)

def quiescent_FoxPrepIdeal [hFoxPrepIdeal : Cert.FoxPrepIdeal.Facts] : Prop :=
  ∀ (m : (ℓ : Loc Cert.FoxPrepIdeal.nD Cert.FoxPrepIdeal.τ Cert.FoxPrepIdeal.sig) → Buf (Elt Ideal) ℓ) (g : Dev Cert.FoxPrepIdeal.nD → PrngReg), Pre_FoxPrepIdeal m →
    θ_run (Cert.FoxPrepIdeal.defs (F := Ideal)) (onTc (τ := Cert.FoxPrepIdeal.τ) (Cert.FoxPrepIdeal.main (F := Ideal))) ⟨m, fun _ => 0, g⟩ (fun r => (∀ c : Dev Cert.FoxPrepIdeal.nD,
      r.2.mem ((c.tc : Thread Cert.FoxPrepIdeal.nD Cert.FoxPrepIdeal.τ).loc Cert.FoxPrepIdeal.main_arg0) = m ((c.tc : Thread Cert.FoxPrepIdeal.nD Cert.FoxPrepIdeal.τ).loc Cert.FoxPrepIdeal.main_arg0)
      ∧ r.2.mem ((c.tc : Thread Cert.FoxPrepIdeal.nD Cert.FoxPrepIdeal.τ).loc Cert.FoxPrepIdeal.main_arg1) = m ((c.tc : Thread Cert.FoxPrepIdeal.nD Cert.FoxPrepIdeal.τ).loc Cert.FoxPrepIdeal.main_arg1)
      ∧ r.2.mem ((c.tc : Thread Cert.FoxPrepIdeal.nD Cert.FoxPrepIdeal.τ).loc Cert.FoxPrepIdeal.main_arg2) = m ((c.tc : Thread Cert.FoxPrepIdeal.nD Cert.FoxPrepIdeal.τ).loc Cert.FoxPrepIdeal.main_arg2)
      ∧ r.2.mem ((c.tc : Thread Cert.FoxPrepIdeal.nD Cert.FoxPrepIdeal.τ).loc Cert.FoxPrepIdeal.main_arg3) = m ((c.tc : Thread Cert.FoxPrepIdeal.nD Cert.FoxPrepIdeal.τ).loc Cert.FoxPrepIdeal.main_arg3)
      ∧ r.2.mem ((c.tc : Thread Cert.FoxPrepIdeal.nD Cert.FoxPrepIdeal.τ).loc Cert.FoxPrepIdeal.main_arg4) = m ((c.tc : Thread Cert.FoxPrepIdeal.nD Cert.FoxPrepIdeal.τ).loc Cert.FoxPrepIdeal.main_arg4)
      ∧ r.2.mem ((c.tc : Thread Cert.FoxPrepIdeal.nD Cert.FoxPrepIdeal.τ).loc Cert.FoxPrepIdeal.main_arg5) = m ((c.tc : Thread Cert.FoxPrepIdeal.nD Cert.FoxPrepIdeal.τ).loc Cert.FoxPrepIdeal.main_arg5)
      ∧ r.2.mem ((c.tc : Thread Cert.FoxPrepIdeal.nD Cert.FoxPrepIdeal.τ).loc Cert.FoxPrepIdeal.main_arg6) = m ((c.tc : Thread Cert.FoxPrepIdeal.nD Cert.FoxPrepIdeal.τ).loc Cert.FoxPrepIdeal.main_arg6)
      ∧ r.2.mem ((c.tc : Thread Cert.FoxPrepIdeal.nD Cert.FoxPrepIdeal.τ).loc Cert.FoxPrepIdeal.main_arg7) = m ((c.tc : Thread Cert.FoxPrepIdeal.nD Cert.FoxPrepIdeal.τ).loc Cert.FoxPrepIdeal.main_arg7)
      ∧ r.2.mem ((c.tc : Thread Cert.FoxPrepIdeal.nD Cert.FoxPrepIdeal.τ).loc Cert.FoxPrepIdeal.main_arg8) = m ((c.tc : Thread Cert.FoxPrepIdeal.nD Cert.FoxPrepIdeal.τ).loc Cert.FoxPrepIdeal.main_arg8))
      ∧ r.2.sem = fun _ => 0)

def quiescent_FoxPrepRefIdeal [hFoxPrepRefIdeal : Cert.FoxPrepRefIdeal.Facts] : Prop :=
  ∀ (m : (ℓ : Loc Cert.FoxPrepRefIdeal.nD Cert.FoxPrepRefIdeal.τ Cert.FoxPrepRefIdeal.sig) → Buf (Elt Ideal) ℓ) (g : Dev Cert.FoxPrepRefIdeal.nD → PrngReg), Pre_FoxPrepRefIdeal m →
    θ_run (Cert.FoxPrepRefIdeal.defs (F := Ideal)) (onTc (τ := Cert.FoxPrepRefIdeal.τ) (Cert.FoxPrepRefIdeal.main (F := Ideal))) ⟨m, fun _ => 0, g⟩ (fun r => (∀ c : Dev Cert.FoxPrepRefIdeal.nD,
      r.2.mem ((c.tc : Thread Cert.FoxPrepRefIdeal.nD Cert.FoxPrepRefIdeal.τ).loc Cert.FoxPrepRefIdeal.main_arg0) = m ((c.tc : Thread Cert.FoxPrepRefIdeal.nD Cert.FoxPrepRefIdeal.τ).loc Cert.FoxPrepRefIdeal.main_arg0)
      ∧ r.2.mem ((c.tc : Thread Cert.FoxPrepRefIdeal.nD Cert.FoxPrepRefIdeal.τ).loc Cert.FoxPrepRefIdeal.main_arg1) = m ((c.tc : Thread Cert.FoxPrepRefIdeal.nD Cert.FoxPrepRefIdeal.τ).loc Cert.FoxPrepRefIdeal.main_arg1)
      ∧ r.2.mem ((c.tc : Thread Cert.FoxPrepRefIdeal.nD Cert.FoxPrepRefIdeal.τ).loc Cert.FoxPrepRefIdeal.main_arg2) = m ((c.tc : Thread Cert.FoxPrepRefIdeal.nD Cert.FoxPrepRefIdeal.τ).loc Cert.FoxPrepRefIdeal.main_arg2)
      ∧ r.2.mem ((c.tc : Thread Cert.FoxPrepRefIdeal.nD Cert.FoxPrepRefIdeal.τ).loc Cert.FoxPrepRefIdeal.main_arg3) = m ((c.tc : Thread Cert.FoxPrepRefIdeal.nD Cert.FoxPrepRefIdeal.τ).loc Cert.FoxPrepRefIdeal.main_arg3)
      ∧ r.2.mem ((c.tc : Thread Cert.FoxPrepRefIdeal.nD Cert.FoxPrepRefIdeal.τ).loc Cert.FoxPrepRefIdeal.main_arg4) = m ((c.tc : Thread Cert.FoxPrepRefIdeal.nD Cert.FoxPrepRefIdeal.τ).loc Cert.FoxPrepRefIdeal.main_arg4)
      ∧ r.2.mem ((c.tc : Thread Cert.FoxPrepRefIdeal.nD Cert.FoxPrepRefIdeal.τ).loc Cert.FoxPrepRefIdeal.main_arg5) = m ((c.tc : Thread Cert.FoxPrepRefIdeal.nD Cert.FoxPrepRefIdeal.τ).loc Cert.FoxPrepRefIdeal.main_arg5)
      ∧ r.2.mem ((c.tc : Thread Cert.FoxPrepRefIdeal.nD Cert.FoxPrepRefIdeal.τ).loc Cert.FoxPrepRefIdeal.main_arg6) = m ((c.tc : Thread Cert.FoxPrepRefIdeal.nD Cert.FoxPrepRefIdeal.τ).loc Cert.FoxPrepRefIdeal.main_arg6)
      ∧ r.2.mem ((c.tc : Thread Cert.FoxPrepRefIdeal.nD Cert.FoxPrepRefIdeal.τ).loc Cert.FoxPrepRefIdeal.main_arg7) = m ((c.tc : Thread Cert.FoxPrepRefIdeal.nD Cert.FoxPrepRefIdeal.τ).loc Cert.FoxPrepRefIdeal.main_arg7)
      ∧ r.2.mem ((c.tc : Thread Cert.FoxPrepRefIdeal.nD Cert.FoxPrepRefIdeal.τ).loc Cert.FoxPrepRefIdeal.main_arg8) = m ((c.tc : Thread Cert.FoxPrepRefIdeal.nD Cert.FoxPrepRefIdeal.τ).loc Cert.FoxPrepRefIdeal.main_arg8))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_Embed [hEmbed : Cert.Embed.Facts] : Prop :=
  ∀ (m : (ℓ : Loc Cert.Embed.nD Cert.Embed.τ Cert.Embed.sig) → Buf (Elt Bits) ℓ) (g : Dev Cert.Embed.nD → PrngReg), Pre_Embed m →
    θ_run (Cert.Embed.defs (F := Bits)) (onTc (τ := Cert.Embed.τ) (Cert.Embed.main (F := Bits))) ⟨m, fun _ => 0, g⟩ (fun r => (∀ c : Dev Cert.Embed.nD,
      r.2.mem ((c.tc : Thread Cert.Embed.nD Cert.Embed.τ).loc Cert.Embed.main_arg0) = m ((c.tc : Thread Cert.Embed.nD Cert.Embed.τ).loc Cert.Embed.main_arg0)
      ∧ r.2.mem ((c.tc : Thread Cert.Embed.nD Cert.Embed.τ).loc Cert.Embed.main_arg1) = m ((c.tc : Thread Cert.Embed.nD Cert.Embed.τ).loc Cert.Embed.main_arg1)
      ∧ r.2.mem ((c.tc : Thread Cert.Embed.nD Cert.Embed.τ).loc Cert.Embed.main_arg2) = m ((c.tc : Thread Cert.Embed.nD Cert.Embed.τ).loc Cert.Embed.main_arg2))
      ∧ r.2.sem = fun _ => 0)

def quiescent_EmbedIdeal [hEmbedIdeal : Cert.EmbedIdeal.Facts] : Prop :=
  ∀ (m : (ℓ : Loc Cert.EmbedIdeal.nD Cert.EmbedIdeal.τ Cert.EmbedIdeal.sig) → Buf (Elt Ideal) ℓ) (g : Dev Cert.EmbedIdeal.nD → PrngReg), Pre_EmbedIdeal m →
    θ_run (Cert.EmbedIdeal.defs (F := Ideal)) (onTc (τ := Cert.EmbedIdeal.τ) (Cert.EmbedIdeal.main (F := Ideal))) ⟨m, fun _ => 0, g⟩ (fun r => (∀ c : Dev Cert.EmbedIdeal.nD,
      r.2.mem ((c.tc : Thread Cert.EmbedIdeal.nD Cert.EmbedIdeal.τ).loc Cert.EmbedIdeal.main_arg0) = m ((c.tc : Thread Cert.EmbedIdeal.nD Cert.EmbedIdeal.τ).loc Cert.EmbedIdeal.main_arg0)
      ∧ r.2.mem ((c.tc : Thread Cert.EmbedIdeal.nD Cert.EmbedIdeal.τ).loc Cert.EmbedIdeal.main_arg1) = m ((c.tc : Thread Cert.EmbedIdeal.nD Cert.EmbedIdeal.τ).loc Cert.EmbedIdeal.main_arg1)
      ∧ r.2.mem ((c.tc : Thread Cert.EmbedIdeal.nD Cert.EmbedIdeal.τ).loc Cert.EmbedIdeal.main_arg2) = m ((c.tc : Thread Cert.EmbedIdeal.nD Cert.EmbedIdeal.τ).loc Cert.EmbedIdeal.main_arg2))
      ∧ r.2.sem = fun _ => 0)

def quiescent_EmbedRefIdeal [hEmbedRefIdeal : Cert.EmbedRefIdeal.Facts] : Prop :=
  ∀ (m : (ℓ : Loc Cert.EmbedRefIdeal.nD Cert.EmbedRefIdeal.τ Cert.EmbedRefIdeal.sig) → Buf (Elt Ideal) ℓ) (g : Dev Cert.EmbedRefIdeal.nD → PrngReg), Pre_EmbedRefIdeal m →
    θ_run (Cert.EmbedRefIdeal.defs (F := Ideal)) (onTc (τ := Cert.EmbedRefIdeal.τ) (Cert.EmbedRefIdeal.main (F := Ideal))) ⟨m, fun _ => 0, g⟩ (fun r => (∀ c : Dev Cert.EmbedRefIdeal.nD,
      r.2.mem ((c.tc : Thread Cert.EmbedRefIdeal.nD Cert.EmbedRefIdeal.τ).loc Cert.EmbedRefIdeal.main_arg0) = m ((c.tc : Thread Cert.EmbedRefIdeal.nD Cert.EmbedRefIdeal.τ).loc Cert.EmbedRefIdeal.main_arg0)
      ∧ r.2.mem ((c.tc : Thread Cert.EmbedRefIdeal.nD Cert.EmbedRefIdeal.τ).loc Cert.EmbedRefIdeal.main_arg1) = m ((c.tc : Thread Cert.EmbedRefIdeal.nD Cert.EmbedRefIdeal.τ).loc Cert.EmbedRefIdeal.main_arg1)
      ∧ r.2.mem ((c.tc : Thread Cert.EmbedRefIdeal.nD Cert.EmbedRefIdeal.τ).loc Cert.EmbedRefIdeal.main_arg2) = m ((c.tc : Thread Cert.EmbedRefIdeal.nD Cert.EmbedRefIdeal.τ).loc Cert.EmbedRefIdeal.main_arg2))
      ∧ r.2.sem = fun _ => 0)

def quiescent_PrepFwd [hPrepFwd : Cert.PrepFwd.Facts] : Prop :=
  ∀ (m : (ℓ : Loc Cert.PrepFwd.nD Cert.PrepFwd.τ Cert.PrepFwd.sig) → Buf (Elt Bits) ℓ) (g : Dev Cert.PrepFwd.nD → PrngReg), Pre_PrepFwd m →
    θ_run (Cert.PrepFwd.defs (F := Bits)) (onTc (τ := Cert.PrepFwd.τ) (Cert.PrepFwd.main (F := Bits))) ⟨m, fun _ => 0, g⟩ (fun r => (∀ c : Dev Cert.PrepFwd.nD,
      r.2.mem ((c.tc : Thread Cert.PrepFwd.nD Cert.PrepFwd.τ).loc Cert.PrepFwd.main_arg0) = m ((c.tc : Thread Cert.PrepFwd.nD Cert.PrepFwd.τ).loc Cert.PrepFwd.main_arg0)
      ∧ r.2.mem ((c.tc : Thread Cert.PrepFwd.nD Cert.PrepFwd.τ).loc Cert.PrepFwd.main_arg1) = m ((c.tc : Thread Cert.PrepFwd.nD Cert.PrepFwd.τ).loc Cert.PrepFwd.main_arg1)
      ∧ r.2.mem ((c.tc : Thread Cert.PrepFwd.nD Cert.PrepFwd.τ).loc Cert.PrepFwd.main_arg2) = m ((c.tc : Thread Cert.PrepFwd.nD Cert.PrepFwd.τ).loc Cert.PrepFwd.main_arg2)
      ∧ r.2.mem ((c.tc : Thread Cert.PrepFwd.nD Cert.PrepFwd.τ).loc Cert.PrepFwd.main_arg3) = m ((c.tc : Thread Cert.PrepFwd.nD Cert.PrepFwd.τ).loc Cert.PrepFwd.main_arg3))
      ∧ r.2.sem = fun _ => 0)

def quiescent_PrepFwdIdeal [hPrepFwdIdeal : Cert.PrepFwdIdeal.Facts] : Prop :=
  ∀ (m : (ℓ : Loc Cert.PrepFwdIdeal.nD Cert.PrepFwdIdeal.τ Cert.PrepFwdIdeal.sig) → Buf (Elt Ideal) ℓ) (g : Dev Cert.PrepFwdIdeal.nD → PrngReg), Pre_PrepFwdIdeal m →
    θ_run (Cert.PrepFwdIdeal.defs (F := Ideal)) (onTc (τ := Cert.PrepFwdIdeal.τ) (Cert.PrepFwdIdeal.main (F := Ideal))) ⟨m, fun _ => 0, g⟩ (fun r => (∀ c : Dev Cert.PrepFwdIdeal.nD,
      r.2.mem ((c.tc : Thread Cert.PrepFwdIdeal.nD Cert.PrepFwdIdeal.τ).loc Cert.PrepFwdIdeal.main_arg0) = m ((c.tc : Thread Cert.PrepFwdIdeal.nD Cert.PrepFwdIdeal.τ).loc Cert.PrepFwdIdeal.main_arg0)
      ∧ r.2.mem ((c.tc : Thread Cert.PrepFwdIdeal.nD Cert.PrepFwdIdeal.τ).loc Cert.PrepFwdIdeal.main_arg1) = m ((c.tc : Thread Cert.PrepFwdIdeal.nD Cert.PrepFwdIdeal.τ).loc Cert.PrepFwdIdeal.main_arg1)
      ∧ r.2.mem ((c.tc : Thread Cert.PrepFwdIdeal.nD Cert.PrepFwdIdeal.τ).loc Cert.PrepFwdIdeal.main_arg2) = m ((c.tc : Thread Cert.PrepFwdIdeal.nD Cert.PrepFwdIdeal.τ).loc Cert.PrepFwdIdeal.main_arg2)
      ∧ r.2.mem ((c.tc : Thread Cert.PrepFwdIdeal.nD Cert.PrepFwdIdeal.τ).loc Cert.PrepFwdIdeal.main_arg3) = m ((c.tc : Thread Cert.PrepFwdIdeal.nD Cert.PrepFwdIdeal.τ).loc Cert.PrepFwdIdeal.main_arg3))
      ∧ r.2.sem = fun _ => 0)

def quiescent_PrepFwdRefIdeal [hPrepFwdRefIdeal : Cert.PrepFwdRefIdeal.Facts] : Prop :=
  ∀ (m : (ℓ : Loc Cert.PrepFwdRefIdeal.nD Cert.PrepFwdRefIdeal.τ Cert.PrepFwdRefIdeal.sig) → Buf (Elt Ideal) ℓ) (g : Dev Cert.PrepFwdRefIdeal.nD → PrngReg), Pre_PrepFwdRefIdeal m →
    θ_run (Cert.PrepFwdRefIdeal.defs (F := Ideal)) (onTc (τ := Cert.PrepFwdRefIdeal.τ) (Cert.PrepFwdRefIdeal.main (F := Ideal))) ⟨m, fun _ => 0, g⟩ (fun r => (∀ c : Dev Cert.PrepFwdRefIdeal.nD,
      r.2.mem ((c.tc : Thread Cert.PrepFwdRefIdeal.nD Cert.PrepFwdRefIdeal.τ).loc Cert.PrepFwdRefIdeal.main_arg0) = m ((c.tc : Thread Cert.PrepFwdRefIdeal.nD Cert.PrepFwdRefIdeal.τ).loc Cert.PrepFwdRefIdeal.main_arg0)
      ∧ r.2.mem ((c.tc : Thread Cert.PrepFwdRefIdeal.nD Cert.PrepFwdRefIdeal.τ).loc Cert.PrepFwdRefIdeal.main_arg1) = m ((c.tc : Thread Cert.PrepFwdRefIdeal.nD Cert.PrepFwdRefIdeal.τ).loc Cert.PrepFwdRefIdeal.main_arg1)
      ∧ r.2.mem ((c.tc : Thread Cert.PrepFwdRefIdeal.nD Cert.PrepFwdRefIdeal.τ).loc Cert.PrepFwdRefIdeal.main_arg2) = m ((c.tc : Thread Cert.PrepFwdRefIdeal.nD Cert.PrepFwdRefIdeal.τ).loc Cert.PrepFwdRefIdeal.main_arg2)
      ∧ r.2.mem ((c.tc : Thread Cert.PrepFwdRefIdeal.nD Cert.PrepFwdRefIdeal.τ).loc Cert.PrepFwdRefIdeal.main_arg3) = m ((c.tc : Thread Cert.PrepFwdRefIdeal.nD Cert.PrepFwdRefIdeal.τ).loc Cert.PrepFwdRefIdeal.main_arg3))
      ∧ r.2.sem = fun _ => 0)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ r.2.sem = fun _ => 0)

def quiescent_DwRefIdeal [hDwRefIdeal : Cert.DwRefIdeal.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v10)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v10) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v11) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_AttnBwd_AttnBwdIdeal : Prop :=
  IdealRules.named_const.Statement Cert.AttnBwdIdeal.κ "mask" .f32 0xF149F2CA#32 ⊥

def algebraic_AttnBwdIdeal_AttnBwdRefIdeal_pre_attn_finite [hAttnBwdIdeal : Cert.AttnBwdIdeal.Facts] [hAttnBwdRefIdeal : Cert.AttnBwdRefIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdRefIdeal.nD Cert.AttnBwdRefIdeal.τ Cert.AttnBwdRefIdeal.sig) → Buf (Elt Ideal) ℓ) (g' : Dev Cert.AttnBwdRefIdeal.nD → PrngReg), Pre_AttnBwdIdeal_attn_finite m →
    (∀ c : Dev Cert.AttnBwdIdeal.nD,
      m' ((c.tc : Thread Cert.AttnBwdRefIdeal.nD Cert.AttnBwdRefIdeal.τ).loc Cert.AttnBwdRefIdeal.main_arg0) = m ((c.tc : Thread Cert.AttnBwdIdeal.nD Cert.AttnBwdIdeal.τ).loc Cert.AttnBwdIdeal.main_arg0)
      ∧ m' ((c.tc : Thread Cert.AttnBwdRefIdeal.nD Cert.AttnBwdRefIdeal.τ).loc Cert.AttnBwdRefIdeal.main_arg1) = m ((c.tc : Thread Cert.AttnBwdIdeal.nD Cert.AttnBwdIdeal.τ).loc Cert.AttnBwdIdeal.main_arg1)
      ∧ m' ((c.tc : Thread Cert.AttnBwdRefIdeal.nD Cert.AttnBwdRefIdeal.τ).loc Cert.AttnBwdRefIdeal.main_arg2) = m ((c.tc : Thread Cert.AttnBwdIdeal.nD Cert.AttnBwdIdeal.τ).loc Cert.AttnBwdIdeal.main_arg2)
      ∧ m' ((c.tc : Thread Cert.AttnBwdRefIdeal.nD Cert.AttnBwdRefIdeal.τ).loc Cert.AttnBwdRefIdeal.main_arg3) = m ((c.tc : Thread Cert.AttnBwdIdeal.nD Cert.AttnBwdIdeal.τ).loc Cert.AttnBwdIdeal.main_arg3)
      ∧ m' ((c.tc : Thread Cert.AttnBwdRefIdeal.nD Cert.AttnBwdRefIdeal.τ).loc Cert.AttnBwdRefIdeal.main_arg4) = m ((c.tc : Thread Cert.AttnBwdIdeal.nD Cert.AttnBwdIdeal.τ).loc Cert.AttnBwdIdeal.main_arg4)) →
    ∃ (v0 : (c : Dev Cert.AttnBwdIdeal.nD) → Buf (Elt Ideal) ((c.tc : Thread Cert.AttnBwdIdeal.nD Cert.AttnBwdIdeal.τ).loc Cert.AttnBwdIdeal.main_v102_0)) (v1 : (c : Dev Cert.AttnBwdIdeal.nD) → Buf (Elt Ideal) ((c.tc : Thread Cert.AttnBwdIdeal.nD Cert.AttnBwdIdeal.τ).loc Cert.AttnBwdIdeal.main_v102_1)) (v2 : (c : Dev Cert.AttnBwdIdeal.nD) → Buf (Elt Ideal) ((c.tc : Thread Cert.AttnBwdIdeal.nD Cert.AttnBwdIdeal.τ).loc Cert.AttnBwdIdeal.main_v102_2)) (v3 : (c : Dev Cert.AttnBwdIdeal.nD) → Buf (Elt Ideal) ((c.tc : Thread Cert.AttnBwdIdeal.nD Cert.AttnBwdIdeal.τ).loc Cert.AttnBwdIdeal.main_v102_3)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v102_0) = v0 c
          ∧ r.2.mem ((c.tc : Thread Cert.AttnBwdIdeal.nD Cert.AttnBwdIdeal.τ).loc Cert.AttnBwdIdeal.main_v102_1) = v1 c
          ∧ r.2.mem ((c.tc : Thread Cert.AttnBwdIdeal.nD Cert.AttnBwdIdeal.τ).loc Cert.AttnBwdIdeal.main_v102_2) = v2 c
          ∧ r.2.mem ((c.tc : Thread Cert.AttnBwdIdeal.nD Cert.AttnBwdIdeal.τ).loc Cert.AttnBwdIdeal.main_v102_3) = v3 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
          ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4))
      ∧ θ_run (Cert.AttnBwdRefIdeal.defs (F := Ideal)) (onTc (τ := Cert.AttnBwdRefIdeal.τ) (Cert.AttnBwdRefIdeal.main (F := Ideal))) ⟨m', fun _ => 0, g'⟩ (fun r => ∀ c : Dev Cert.AttnBwdRefIdeal.nD,
          r.2.mem ((c.tc : Thread Cert.AttnBwdRefIdeal.nD Cert.AttnBwdRefIdeal.τ).loc Cert.AttnBwdRefIdeal.main_v79) = v0 c
          ∧ r.2.mem ((c.tc : Thread Cert.AttnBwdRefIdeal.nD Cert.AttnBwdRefIdeal.τ).loc Cert.AttnBwdRefIdeal.main_v85) = v1 c
          ∧ r.2.mem ((c.tc : Thread Cert.AttnBwdRefIdeal.nD Cert.AttnBwdRefIdeal.τ).loc Cert.AttnBwdRefIdeal.main_v88) = v2 c
          ∧ r.2.mem ((c.tc : Thread Cert.AttnBwdRefIdeal.nD Cert.AttnBwdRefIdeal.τ).loc Cert.AttnBwdRefIdeal.main_v74) = v3 c
          ∧ r.2.mem ((c.tc : Thread Cert.AttnBwdRefIdeal.nD Cert.AttnBwdRefIdeal.τ).loc Cert.AttnBwdRefIdeal.main_arg0) = m' ((c.tc : Thread Cert.AttnBwdRefIdeal.nD Cert.AttnBwdRefIdeal.τ).loc Cert.AttnBwdRefIdeal.main_arg0)
          ∧ r.2.mem ((c.tc : Thread Cert.AttnBwdRefIdeal.nD Cert.AttnBwdRefIdeal.τ).loc Cert.AttnBwdRefIdeal.main_arg1) = m' ((c.tc : Thread Cert.AttnBwdRefIdeal.nD Cert.AttnBwdRefIdeal.τ).loc Cert.AttnBwdRefIdeal.main_arg1)
          ∧ r.2.mem ((c.tc : Thread Cert.AttnBwdRefIdeal.nD Cert.AttnBwdRefIdeal.τ).loc Cert.AttnBwdRefIdeal.main_arg2) = m' ((c.tc : Thread Cert.AttnBwdRefIdeal.nD Cert.AttnBwdRefIdeal.τ).loc Cert.AttnBwdRefIdeal.main_arg2)
          ∧ r.2.mem ((c.tc : Thread Cert.AttnBwdRefIdeal.nD Cert.AttnBwdRefIdeal.τ).loc Cert.AttnBwdRefIdeal.main_arg3) = m' ((c.tc : Thread Cert.AttnBwdRefIdeal.nD Cert.AttnBwdRefIdeal.τ).loc Cert.AttnBwdRefIdeal.main_arg3)
          ∧ r.2.mem ((c.tc : Thread Cert.AttnBwdRefIdeal.nD Cert.AttnBwdRefIdeal.τ).loc Cert.AttnBwdRefIdeal.main_arg4) = m' ((c.tc : Thread Cert.AttnBwdRefIdeal.nD Cert.AttnBwdRefIdeal.τ).loc Cert.AttnBwdRefIdeal.main_arg4))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)
      ∧ m' ((c.tc : Thread Cert.FfnInRefIdeal.nD Cert.FfnInRefIdeal.τ).loc Cert.FfnInRefIdeal.main_arg3) = m ((c.tc : Thread Cert.FfnInIdeal.nD Cert.FfnInIdeal.τ).loc Cert.FfnInIdeal.main_arg3)
      ∧ m' ((c.tc : Thread Cert.FfnInRefIdeal.nD Cert.FfnInRefIdeal.τ).loc Cert.FfnInRefIdeal.main_arg4) = m ((c.tc : Thread Cert.FfnInIdeal.nD Cert.FfnInIdeal.τ).loc Cert.FfnInIdeal.main_arg4)) →
    ∃ (v0 : (c : Dev Cert.FfnInIdeal.nD) → Buf (Elt Ideal) ((c.tc : Thread Cert.FfnInIdeal.nD Cert.FfnInIdeal.τ).loc Cert.FfnInIdeal.main_v3_0)) (v1 : (c : Dev Cert.FfnInIdeal.nD) → Buf (Elt Ideal) ((c.tc : Thread Cert.FfnInIdeal.nD Cert.FfnInIdeal.τ).loc Cert.FfnInIdeal.main_v3_1)) (v2 : (c : Dev Cert.FfnInIdeal.nD) → Buf (Elt Ideal) ((c.tc : Thread Cert.FfnInIdeal.nD Cert.FfnInIdeal.τ).loc Cert.FfnInIdeal.main_v3_2)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v3_0) = v0 c
          ∧ r.2.mem ((c.tc : Thread Cert.FfnInIdeal.nD Cert.FfnInIdeal.τ).loc Cert.FfnInIdeal.main_v3_1) = v1 c
          ∧ r.2.mem ((c.tc : Thread Cert.FfnInIdeal.nD Cert.FfnInIdeal.τ).loc Cert.FfnInIdeal.main_v3_2) = v2 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
          ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
          ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v38) = v0 c
          ∧ r.2.mem ((c.tc : Thread Cert.FfnInRefIdeal.nD Cert.FfnInRefIdeal.τ).loc Cert.FfnInRefIdeal.main_v39) = v1 c
          ∧ r.2.mem ((c.tc : Thread Cert.FfnInRefIdeal.nD Cert.FfnInRefIdeal.τ).loc Cert.FfnInRefIdeal.main_v40) = v2 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2)
          ∧ r.2.mem ((c.tc : Thread Cert.FfnInRefIdeal.nD Cert.FfnInRefIdeal.τ).loc Cert.FfnInRefIdeal.main_arg3) = m' ((c.tc : Thread Cert.FfnInRefIdeal.nD Cert.FfnInRefIdeal.τ).loc Cert.FfnInRefIdeal.main_arg3)
          ∧ r.2.mem ((c.tc : Thread Cert.FfnInRefIdeal.nD Cert.FfnInRefIdeal.τ).loc Cert.FfnInRefIdeal.main_arg4) = m' ((c.tc : Thread Cert.FfnInRefIdeal.nD Cert.FfnInRefIdeal.τ).loc Cert.FfnInRefIdeal.main_arg4))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v2_0)) (v1 : (c : Dev Cert.LossIdeal.nD) → Buf (Elt Ideal) ((c.tc : Thread Cert.LossIdeal.nD Cert.LossIdeal.τ).loc Cert.LossIdeal.main_v2_1)) (v2 : (c : Dev Cert.LossIdeal.nD) → Buf (Elt Ideal) ((c.tc : Thread Cert.LossIdeal.nD Cert.LossIdeal.τ).loc Cert.LossIdeal.main_v2_2)) (v3 : (c : Dev Cert.LossIdeal.nD) → Buf (Elt Ideal) ((c.tc : Thread Cert.LossIdeal.nD Cert.LossIdeal.τ).loc Cert.LossIdeal.main_v2_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v2_0) = v0 c
          ∧ r.2.mem ((c.tc : Thread Cert.LossIdeal.nD Cert.LossIdeal.τ).loc Cert.LossIdeal.main_v2_1) = v1 c
          ∧ r.2.mem ((c.tc : Thread Cert.LossIdeal.nD Cert.LossIdeal.τ).loc Cert.LossIdeal.main_v2_2) = v2 c
          ∧ r.2.mem ((c.tc : Thread Cert.LossIdeal.nD Cert.LossIdeal.τ).loc Cert.LossIdeal.main_v2_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v54) = v0 c
          ∧ r.2.mem ((c.tc : Thread Cert.LossRefIdeal.nD Cert.LossRefIdeal.τ).loc Cert.LossRefIdeal.main_v53) = v1 c
          ∧ r.2.mem ((c.tc : Thread Cert.LossRefIdeal.nD Cert.LossRefIdeal.τ).loc Cert.LossRefIdeal.main_v55) = v2 c
          ∧ r.2.mem ((c.tc : Thread Cert.LossRefIdeal.nD Cert.LossRefIdeal.τ).loc Cert.LossRefIdeal.main_v56) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_AttnFwd_AttnFwdIdeal : Prop :=
  IdealRules.named_const.Statement Cert.AttnFwdIdeal.κ "mask" .f32 0xF149F2CA#32 ⊥

def algebraic_AttnFwdIdeal_AttnFwdRefIdeal_pre_fwd_finite [hAttnFwdIdeal : Cert.AttnFwdIdeal.Facts] [hAttnFwdRefIdeal : Cert.AttnFwdRefIdeal.Facts] [hPre_fwd_finite : Cert.Pre_fwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_fwd_finite m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)
      ∧ m' ((c.tc : Thread Cert.AttnFwdRefIdeal.nD Cert.AttnFwdRefIdeal.τ).loc Cert.AttnFwdRefIdeal.main_arg3) = m ((c.tc : Thread Cert.AttnFwdIdeal.nD Cert.AttnFwdIdeal.τ).loc Cert.AttnFwdIdeal.main_arg3)
      ∧ m' ((c.tc : Thread Cert.AttnFwdRefIdeal.nD Cert.AttnFwdRefIdeal.τ).loc Cert.AttnFwdRefIdeal.main_arg4) = m ((c.tc : Thread Cert.AttnFwdIdeal.nD Cert.AttnFwdIdeal.τ).loc Cert.AttnFwdIdeal.main_arg4)) →
    ∃ (v0 : (c : Dev Cert.AttnFwdIdeal.nD) → Buf (Elt Ideal) ((c.tc : Thread Cert.AttnFwdIdeal.nD Cert.AttnFwdIdeal.τ).loc Cert.AttnFwdIdeal.main_v50_0)) (v1 : (c : Dev Cert.AttnFwdIdeal.nD) → Buf (Elt Ideal) ((c.tc : Thread Cert.AttnFwdIdeal.nD Cert.AttnFwdIdeal.τ).loc Cert.AttnFwdIdeal.main_v50_1)) (v2 : (c : Dev Cert.AttnFwdIdeal.nD) → Buf (Elt Ideal) ((c.tc : Thread Cert.AttnFwdIdeal.nD Cert.AttnFwdIdeal.τ).loc Cert.AttnFwdIdeal.main_v50_2)) (v3 : (c : Dev Cert.AttnFwdIdeal.nD) → Buf (Elt Ideal) ((c.tc : Thread Cert.AttnFwdIdeal.nD Cert.AttnFwdIdeal.τ).loc Cert.AttnFwdIdeal.main_v50_3)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v50_0) = v0 c
          ∧ r.2.mem ((c.tc : Thread Cert.AttnFwdIdeal.nD Cert.AttnFwdIdeal.τ).loc Cert.AttnFwdIdeal.main_v50_1) = v1 c
          ∧ r.2.mem ((c.tc : Thread Cert.AttnFwdIdeal.nD Cert.AttnFwdIdeal.τ).loc Cert.AttnFwdIdeal.main_v50_2) = v2 c
          ∧ r.2.mem ((c.tc : Thread Cert.AttnFwdIdeal.nD Cert.AttnFwdIdeal.τ).loc Cert.AttnFwdIdeal.main_v50_3) = v3 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
          ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3)
          ∧ r.2.mem ((c.tc : Thread Cert.AttnFwdIdeal.nD Cert.AttnFwdIdeal.τ).loc Cert.AttnFwdIdeal.main_arg4) = m ((c.tc : Thread Cert.AttnFwdIdeal.nD Cert.AttnFwdIdeal.τ).loc Cert.AttnFwdIdeal.main_arg4))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v64) = v0 c
          ∧ r.2.mem ((c.tc : Thread Cert.AttnFwdRefIdeal.nD Cert.AttnFwdRefIdeal.τ).loc Cert.AttnFwdRefIdeal.main_v76) = v1 c
          ∧ r.2.mem ((c.tc : Thread Cert.AttnFwdRefIdeal.nD Cert.AttnFwdRefIdeal.τ).loc Cert.AttnFwdRefIdeal.main_v78) = v2 c
          ∧ r.2.mem ((c.tc : Thread Cert.AttnFwdRefIdeal.nD Cert.AttnFwdRefIdeal.τ).loc Cert.AttnFwdRefIdeal.main_v85) = v3 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2)
          ∧ r.2.mem ((c.tc : Thread Cert.AttnFwdRefIdeal.nD Cert.AttnFwdRefIdeal.τ).loc Cert.AttnFwdRefIdeal.main_arg3) = m' ((c.tc : Thread Cert.AttnFwdRefIdeal.nD Cert.AttnFwdRefIdeal.τ).loc Cert.AttnFwdRefIdeal.main_arg3)
          ∧ r.2.mem ((c.tc : Thread Cert.AttnFwdRefIdeal.nD Cert.AttnFwdRefIdeal.τ).loc Cert.AttnFwdRefIdeal.main_arg4) = m' ((c.tc : Thread Cert.AttnFwdRefIdeal.nD Cert.AttnFwdRefIdeal.τ).loc Cert.AttnFwdRefIdeal.main_arg4))

def preserves_FoxOut_FoxOutIdeal : Prop :=
  True

def algebraic_FoxOutIdeal_FoxOutRefIdeal_pre_out_finite [hFoxOutIdeal : Cert.FoxOutIdeal.Facts] [hFoxOutRefIdeal : Cert.FoxOutRefIdeal.Facts] [hPre_out_finite : Cert.Pre_out_finite.Facts] : Prop :=
  ∀ (m : (ℓ : Loc Cert.FoxOutIdeal.nD Cert.FoxOutIdeal.τ Cert.FoxOutIdeal.sig) → Buf (Elt Ideal) ℓ) (g : Dev Cert.FoxOutIdeal.nD → PrngReg)
    (m' : (ℓ : Loc Cert.FoxOutRefIdeal.nD Cert.FoxOutRefIdeal.τ Cert.FoxOutRefIdeal.sig) → Buf (Elt Ideal) ℓ) (g' : Dev Cert.FoxOutRefIdeal.nD → PrngReg), Pre_FoxOutIdeal_out_finite m →
    (∀ c : Dev Cert.FoxOutIdeal.nD,
      m' ((c.tc : Thread Cert.FoxOutRefIdeal.nD Cert.FoxOutRefIdeal.τ).loc Cert.FoxOutRefIdeal.main_arg0) = m ((c.tc : Thread Cert.FoxOutIdeal.nD Cert.FoxOutIdeal.τ).loc Cert.FoxOutIdeal.main_arg0)
      ∧ m' ((c.tc : Thread Cert.FoxOutRefIdeal.nD Cert.FoxOutRefIdeal.τ).loc Cert.FoxOutRefIdeal.main_arg1) = m ((c.tc : Thread Cert.FoxOutIdeal.nD Cert.FoxOutIdeal.τ).loc Cert.FoxOutIdeal.main_arg1)
      ∧ m' ((c.tc : Thread Cert.FoxOutRefIdeal.nD Cert.FoxOutRefIdeal.τ).loc Cert.FoxOutRefIdeal.main_arg2) = m ((c.tc : Thread Cert.FoxOutIdeal.nD Cert.FoxOutIdeal.τ).loc Cert.FoxOutIdeal.main_arg2)
      ∧ m' ((c.tc : Thread Cert.FoxOutRefIdeal.nD Cert.FoxOutRefIdeal.τ).loc Cert.FoxOutRefIdeal.main_arg3) = m ((c.tc : Thread Cert.FoxOutIdeal.nD Cert.FoxOutIdeal.τ).loc Cert.FoxOutIdeal.main_arg3)
      ∧ m' ((c.tc : Thread Cert.FoxOutRefIdeal.nD Cert.FoxOutRefIdeal.τ).loc Cert.FoxOutRefIdeal.main_arg4) = m ((c.tc : Thread Cert.FoxOutIdeal.nD Cert.FoxOutIdeal.τ).loc Cert.FoxOutIdeal.main_arg4)
      ∧ m' ((c.tc : Thread Cert.FoxOutRefIdeal.nD Cert.FoxOutRefIdeal.τ).loc Cert.FoxOutRefIdeal.main_arg5) = m ((c.tc : Thread Cert.FoxOutIdeal.nD Cert.FoxOutIdeal.τ).loc Cert.FoxOutIdeal.main_arg5)
      ∧ m' ((c.tc : Thread Cert.FoxOutRefIdeal.nD Cert.FoxOutRefIdeal.τ).loc Cert.FoxOutRefIdeal.main_arg6) = m ((c.tc : Thread Cert.FoxOutIdeal.nD Cert.FoxOutIdeal.τ).loc Cert.FoxOutIdeal.main_arg6)) →
    ∃ (v0 : (c : Dev Cert.FoxOutIdeal.nD) → Buf (Elt Ideal) ((c.tc : Thread Cert.FoxOutIdeal.nD Cert.FoxOutIdeal.τ).loc Cert.FoxOutIdeal.main_v53_0)) (v1 : (c : Dev Cert.FoxOutIdeal.nD) → Buf (Elt Ideal) ((c.tc : Thread Cert.FoxOutIdeal.nD Cert.FoxOutIdeal.τ).loc Cert.FoxOutIdeal.main_v53_1)) (v2 : (c : Dev Cert.FoxOutIdeal.nD) → Buf (Elt Ideal) ((c.tc : Thread Cert.FoxOutIdeal.nD Cert.FoxOutIdeal.τ).loc Cert.FoxOutIdeal.main_v53_2)),
      θ_run (Cert.FoxOutIdeal.defs (F := Ideal)) (onTc (τ := Cert.FoxOutIdeal.τ) (Cert.FoxOutIdeal.main (F := Ideal))) ⟨m, fun _ => 0, g⟩ (fun r => ∀ c : Dev Cert.FoxOutIdeal.nD,
          r.2.mem ((c.tc : Thread Cert.FoxOutIdeal.nD Cert.FoxOutIdeal.τ).loc Cert.FoxOutIdeal.main_v53_0) = v0 c
          ∧ r.2.mem ((c.tc : Thread Cert.FoxOutIdeal.nD Cert.FoxOutIdeal.τ).loc Cert.FoxOutIdeal.main_v53_1) = v1 c
          ∧ r.2.mem ((c.tc : Thread Cert.FoxOutIdeal.nD Cert.FoxOutIdeal.τ).loc Cert.FoxOutIdeal.main_v53_2) = v2 c
          ∧ r.2.mem ((c.tc : Thread Cert.FoxOutIdeal.nD Cert.FoxOutIdeal.τ).loc Cert.FoxOutIdeal.main_arg0) = m ((c.tc : Thread Cert.FoxOutIdeal.nD Cert.FoxOutIdeal.τ).loc Cert.FoxOutIdeal.main_arg0)
          ∧ r.2.mem ((c.tc : Thread Cert.FoxOutIdeal.nD Cert.FoxOutIdeal.τ).loc Cert.FoxOutIdeal.main_arg1) = m ((c.tc : Thread Cert.FoxOutIdeal.nD Cert.FoxOutIdeal.τ).loc Cert.FoxOutIdeal.main_arg1)
          ∧ r.2.mem ((c.tc : Thread Cert.FoxOutIdeal.nD Cert.FoxOutIdeal.τ).loc Cert.FoxOutIdeal.main_arg2) = m ((c.tc : Thread Cert.FoxOutIdeal.nD Cert.FoxOutIdeal.τ).loc Cert.FoxOutIdeal.main_arg2)
          ∧ r.2.mem ((c.tc : Thread Cert.FoxOutIdeal.nD Cert.FoxOutIdeal.τ).loc Cert.FoxOutIdeal.main_arg3) = m ((c.tc : Thread Cert.FoxOutIdeal.nD Cert.FoxOutIdeal.τ).loc Cert.FoxOutIdeal.main_arg3)
          ∧ r.2.mem ((c.tc : Thread Cert.FoxOutIdeal.nD Cert.FoxOutIdeal.τ).loc Cert.FoxOutIdeal.main_arg4) = m ((c.tc : Thread Cert.FoxOutIdeal.nD Cert.FoxOutIdeal.τ).loc Cert.FoxOutIdeal.main_arg4)
          ∧ r.2.mem ((c.tc : Thread Cert.FoxOutIdeal.nD Cert.FoxOutIdeal.τ).loc Cert.FoxOutIdeal.main_arg5) = m ((c.tc : Thread Cert.FoxOutIdeal.nD Cert.FoxOutIdeal.τ).loc Cert.FoxOutIdeal.main_arg5)
          ∧ r.2.mem ((c.tc : Thread Cert.FoxOutIdeal.nD Cert.FoxOutIdeal.τ).loc Cert.FoxOutIdeal.main_arg6) = m ((c.tc : Thread Cert.FoxOutIdeal.nD Cert.FoxOutIdeal.τ).loc Cert.FoxOutIdeal.main_arg6))
      ∧ θ_run (Cert.FoxOutRefIdeal.defs (F := Ideal)) (onTc (τ := Cert.FoxOutRefIdeal.τ) (Cert.FoxOutRefIdeal.main (F := Ideal))) ⟨m', fun _ => 0, g'⟩ (fun r => ∀ c : Dev Cert.FoxOutRefIdeal.nD,
          r.2.mem ((c.tc : Thread Cert.FoxOutRefIdeal.nD Cert.FoxOutRefIdeal.τ).loc Cert.FoxOutRefIdeal.main_v86) = v0 c
          ∧ r.2.mem ((c.tc : Thread Cert.FoxOutRefIdeal.nD Cert.FoxOutRefIdeal.τ).loc Cert.FoxOutRefIdeal.main_v88) = v1 c
          ∧ r.2.mem ((c.tc : Thread Cert.FoxOutRefIdeal.nD Cert.FoxOutRefIdeal.τ).loc Cert.FoxOutRefIdeal.main_v91) = v2 c
          ∧ r.2.mem ((c.tc : Thread Cert.FoxOutRefIdeal.nD Cert.FoxOutRefIdeal.τ).loc Cert.FoxOutRefIdeal.main_arg0) = m' ((c.tc : Thread Cert.FoxOutRefIdeal.nD Cert.FoxOutRefIdeal.τ).loc Cert.FoxOutRefIdeal.main_arg0)
          ∧ r.2.mem ((c.tc : Thread Cert.FoxOutRefIdeal.nD Cert.FoxOutRefIdeal.τ).loc Cert.FoxOutRefIdeal.main_arg1) = m' ((c.tc : Thread Cert.FoxOutRefIdeal.nD Cert.FoxOutRefIdeal.τ).loc Cert.FoxOutRefIdeal.main_arg1)
          ∧ r.2.mem ((c.tc : Thread Cert.FoxOutRefIdeal.nD Cert.FoxOutRefIdeal.τ).loc Cert.FoxOutRefIdeal.main_arg2) = m' ((c.tc : Thread Cert.FoxOutRefIdeal.nD Cert.FoxOutRefIdeal.τ).loc Cert.FoxOutRefIdeal.main_arg2)
          ∧ r.2.mem ((c.tc : Thread Cert.FoxOutRefIdeal.nD Cert.FoxOutRefIdeal.τ).loc Cert.FoxOutRefIdeal.main_arg3) = m' ((c.tc : Thread Cert.FoxOutRefIdeal.nD Cert.FoxOutRefIdeal.τ).loc Cert.FoxOutRefIdeal.main_arg3)
          ∧ r.2.mem ((c.tc : Thread Cert.FoxOutRefIdeal.nD Cert.FoxOutRefIdeal.τ).loc Cert.FoxOutRefIdeal.main_arg4) = m' ((c.tc : Thread Cert.FoxOutRefIdeal.nD Cert.FoxOutRefIdeal.τ).loc Cert.FoxOutRefIdeal.main_arg4)
          ∧ r.2.mem ((c.tc : Thread Cert.FoxOutRefIdeal.nD Cert.FoxOutRefIdeal.τ).loc Cert.FoxOutRefIdeal.main_arg5) = m' ((c.tc : Thread Cert.FoxOutRefIdeal.nD Cert.FoxOutRefIdeal.τ).loc Cert.FoxOutRefIdeal.main_arg5)
          ∧ r.2.mem ((c.tc : Thread Cert.FoxOutRefIdeal.nD Cert.FoxOutRefIdeal.τ).loc Cert.FoxOutRefIdeal.main_arg6) = m' ((c.tc : Thread Cert.FoxOutRefIdeal.nD Cert.FoxOutRefIdeal.τ).loc Cert.FoxOutRefIdeal.main_arg6))

def preserves_FoxPrep_FoxPrepIdeal : Prop :=
  True

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)) →
    ∃ (v0 : (c : Dev Cert.FfnFwdIdeal.nD) → Buf (Elt Ideal) ((c.tc : Thread Cert.FfnFwdIdeal.nD Cert.FfnFwdIdeal.τ).loc Cert.FfnFwdIdeal.main_v2_0)) (v1 : (c : Dev Cert.FfnFwdIdeal.nD) → Buf (Elt Ideal) ((c.tc : Thread Cert.FfnFwdIdeal.nD Cert.FfnFwdIdeal.τ).loc Cert.FfnFwdIdeal.main_v2_1)) (v2 : (c : Dev Cert.FfnFwdIdeal.nD) → Buf (Elt Ideal) ((c.tc : Thread Cert.FfnFwdIdeal.nD Cert.FfnFwdIdeal.τ).loc Cert.FfnFwdIdeal.main_v2_2)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v2_0) = v0 c
          ∧ r.2.mem ((c.tc : Thread Cert.FfnFwdIdeal.nD Cert.FfnFwdIdeal.τ).loc Cert.FfnFwdIdeal.main_v2_1) = v1 c
          ∧ r.2.mem ((c.tc : Thread Cert.FfnFwdIdeal.nD Cert.FfnFwdIdeal.τ).loc Cert.FfnFwdIdeal.main_v2_2) = v2 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v3) = v0 c
          ∧ r.2.mem ((c.tc : Thread Cert.FfnFwdRefIdeal.nD Cert.FfnFwdRefIdeal.τ).loc Cert.FfnFwdRefIdeal.main_v4) = v1 c
          ∧ r.2.mem ((c.tc : Thread Cert.FfnFwdRefIdeal.nD Cert.FfnFwdRefIdeal.τ).loc Cert.FfnFwdRefIdeal.main_v7) = v2 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v3_0)) (v1 : (c : Dev Cert.OutProjIdeal.nD) → Buf (Elt Ideal) ((c.tc : Thread Cert.OutProjIdeal.nD Cert.OutProjIdeal.τ).loc Cert.OutProjIdeal.main_v3_1)) (v2 : (c : Dev Cert.OutProjIdeal.nD) → Buf (Elt Ideal) ((c.tc : Thread Cert.OutProjIdeal.nD Cert.OutProjIdeal.τ).loc Cert.OutProjIdeal.main_v3_2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v3_0) = v0 c
          ∧ r.2.mem ((c.tc : Thread Cert.OutProjIdeal.nD Cert.OutProjIdeal.τ).loc Cert.OutProjIdeal.main_v3_1) = v1 c
          ∧ r.2.mem ((c.tc : Thread Cert.OutProjIdeal.nD Cert.OutProjIdeal.τ).loc Cert.OutProjIdeal.main_v3_2) = v2 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v1) = v0 c
          ∧ r.2.mem ((c.tc : Thread Cert.OutProjRefIdeal.nD Cert.OutProjRefIdeal.τ).loc Cert.OutProjRefIdeal.main_v15) = v1 c
          ∧ r.2.mem ((c.tc : Thread Cert.OutProjRefIdeal.nD Cert.OutProjRefIdeal.τ).loc Cert.OutProjRefIdeal.main_v17) = v2 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_Embed_EmbedIdeal : Prop :=
  True

def algebraic_EmbedIdeal_EmbedRefIdeal [hEmbedIdeal : Cert.EmbedIdeal.Facts] [hEmbedRefIdeal : Cert.EmbedRefIdeal.Facts] : Prop :=
  ∀ (m : (ℓ : Loc Cert.EmbedIdeal.nD Cert.EmbedIdeal.τ Cert.EmbedIdeal.sig) → Buf (Elt Ideal) ℓ) (g : Dev Cert.EmbedIdeal.nD → PrngReg)
    (m' : (ℓ : Loc Cert.EmbedRefIdeal.nD Cert.EmbedRefIdeal.τ Cert.EmbedRefIdeal.sig) → Buf (Elt Ideal) ℓ) (g' : Dev Cert.EmbedRefIdeal.nD → PrngReg), Pre_EmbedIdeal m →
    (∀ c : Dev Cert.EmbedIdeal.nD,
      m' ((c.tc : Thread Cert.EmbedRefIdeal.nD Cert.EmbedRefIdeal.τ).loc Cert.EmbedRefIdeal.main_arg0) = m ((c.tc : Thread Cert.EmbedIdeal.nD Cert.EmbedIdeal.τ).loc Cert.EmbedIdeal.main_arg0)
      ∧ m' ((c.tc : Thread Cert.EmbedRefIdeal.nD Cert.EmbedRefIdeal.τ).loc Cert.EmbedRefIdeal.main_arg1) = m ((c.tc : Thread Cert.EmbedIdeal.nD Cert.EmbedIdeal.τ).loc Cert.EmbedIdeal.main_arg1)
      ∧ m' ((c.tc : Thread Cert.EmbedRefIdeal.nD Cert.EmbedRefIdeal.τ).loc Cert.EmbedRefIdeal.main_arg2) = m ((c.tc : Thread Cert.EmbedIdeal.nD Cert.EmbedIdeal.τ).loc Cert.EmbedIdeal.main_arg2)) →
    ∃ (v0 : (c : Dev Cert.EmbedIdeal.nD) → Buf (Elt Ideal) ((c.tc : Thread Cert.EmbedIdeal.nD Cert.EmbedIdeal.τ).loc Cert.EmbedIdeal.main_v1_0)) (v1 : (c : Dev Cert.EmbedIdeal.nD) → Buf (Elt Ideal) ((c.tc : Thread Cert.EmbedIdeal.nD Cert.EmbedIdeal.τ).loc Cert.EmbedIdeal.main_v1_1)) (v2 : (c : Dev Cert.EmbedIdeal.nD) → Buf (Elt Ideal) ((c.tc : Thread Cert.EmbedIdeal.nD Cert.EmbedIdeal.τ).loc Cert.EmbedIdeal.main_v1_2)),
      θ_run (Cert.EmbedIdeal.defs (F := Ideal)) (onTc (τ := Cert.EmbedIdeal.τ) (Cert.EmbedIdeal.main (F := Ideal))) ⟨m, fun _ => 0, g⟩ (fun r => ∀ c : Dev Cert.EmbedIdeal.nD,
          r.2.mem ((c.tc : Thread Cert.EmbedIdeal.nD Cert.EmbedIdeal.τ).loc Cert.EmbedIdeal.main_v1_0) = v0 c
          ∧ r.2.mem ((c.tc : Thread Cert.EmbedIdeal.nD Cert.EmbedIdeal.τ).loc Cert.EmbedIdeal.main_v1_1) = v1 c
          ∧ r.2.mem ((c.tc : Thread Cert.EmbedIdeal.nD Cert.EmbedIdeal.τ).loc Cert.EmbedIdeal.main_v1_2) = v2 c
          ∧ r.2.mem ((c.tc : Thread Cert.EmbedIdeal.nD Cert.EmbedIdeal.τ).loc Cert.EmbedIdeal.main_arg0) = m ((c.tc : Thread Cert.EmbedIdeal.nD Cert.EmbedIdeal.τ).loc Cert.EmbedIdeal.main_arg0)
          ∧ r.2.mem ((c.tc : Thread Cert.EmbedIdeal.nD Cert.EmbedIdeal.τ).loc Cert.EmbedIdeal.main_arg1) = m ((c.tc : Thread Cert.EmbedIdeal.nD Cert.EmbedIdeal.τ).loc Cert.EmbedIdeal.main_arg1)
          ∧ r.2.mem ((c.tc : Thread Cert.EmbedIdeal.nD Cert.EmbedIdeal.τ).loc Cert.EmbedIdeal.main_arg2) = m ((c.tc : Thread Cert.EmbedIdeal.nD Cert.EmbedIdeal.τ).loc Cert.EmbedIdeal.main_arg2))
      ∧ θ_run (Cert.EmbedRefIdeal.defs (F := Ideal)) (onTc (τ := Cert.EmbedRefIdeal.τ) (Cert.EmbedRefIdeal.main (F := Ideal))) ⟨m', fun _ => 0, g'⟩ (fun r => ∀ c : Dev Cert.EmbedRefIdeal.nD,
          r.2.mem ((c.tc : Thread Cert.EmbedRefIdeal.nD Cert.EmbedRefIdeal.τ).loc Cert.EmbedRefIdeal.main_v1) = v0 c
          ∧ r.2.mem ((c.tc : Thread Cert.EmbedRefIdeal.nD Cert.EmbedRefIdeal.τ).loc Cert.EmbedRefIdeal.main_v15) = v1 c
          ∧ r.2.mem ((c.tc : Thread Cert.EmbedRefIdeal.nD Cert.EmbedRefIdeal.τ).loc Cert.EmbedRefIdeal.main_v17) = v2 c
          ∧ r.2.mem ((c.tc : Thread Cert.EmbedRefIdeal.nD Cert.EmbedRefIdeal.τ).loc Cert.EmbedRefIdeal.main_arg0) = m' ((c.tc : Thread Cert.EmbedRefIdeal.nD Cert.EmbedRefIdeal.τ).loc Cert.EmbedRefIdeal.main_arg0)
          ∧ r.2.mem ((c.tc : Thread Cert.EmbedRefIdeal.nD Cert.EmbedRefIdeal.τ).loc Cert.EmbedRefIdeal.main_arg1) = m' ((c.tc : Thread Cert.EmbedRefIdeal.nD Cert.EmbedRefIdeal.τ).loc Cert.EmbedRefIdeal.main_arg1)
          ∧ r.2.mem ((c.tc : Thread Cert.EmbedRefIdeal.nD Cert.EmbedRefIdeal.τ).loc Cert.EmbedRefIdeal.main_arg2) = m' ((c.tc : Thread Cert.EmbedRefIdeal.nD Cert.EmbedRefIdeal.τ).loc Cert.EmbedRefIdeal.main_arg2))

def preserves_PrepFwd_PrepFwdIdeal : Prop :=
  True

def preserves_Dw_DwIdeal : Prop :=
  True

def algebraic_DwIdeal_DwRefIdeal [hDwIdeal : Cert.DwIdeal.Facts] [hDwRefIdeal : Cert.DwRefIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwRefIdeal.nD Cert.DwRefIdeal.τ Cert.DwRefIdeal.sig) → Buf (Elt Ideal) ℓ) (g' : Dev Cert.DwRefIdeal.nD → PrngReg), Pre_DwIdeal m →
    (∀ c : Dev Cert.DwIdeal.nD,
      m' ((c.tc : Thread Cert.DwRefIdeal.nD Cert.DwRefIdeal.τ).loc Cert.DwRefIdeal.main_arg0) = m ((c.tc : Thread Cert.DwIdeal.nD Cert.DwIdeal.τ).loc Cert.DwIdeal.main_arg0)
      ∧ m' ((c.tc : Thread Cert.DwRefIdeal.nD Cert.DwRefIdeal.τ).loc Cert.DwRefIdeal.main_arg1) = m ((c.tc : Thread Cert.DwIdeal.nD Cert.DwIdeal.τ).loc Cert.DwIdeal.main_arg1)) →
    ∃ (v0 : (c : Dev Cert.DwIdeal.nD) → Buf (Elt Ideal) ((c.tc : Thread Cert.DwIdeal.nD Cert.DwIdeal.τ).loc Cert.DwIdeal.main_v3)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v3) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ θ_run (Cert.DwRefIdeal.defs (F := Ideal)) (onTc (τ := Cert.DwRefIdeal.τ) (Cert.DwRefIdeal.main (F := Ideal))) ⟨m', fun _ => 0, g'⟩ (fun r => ∀ c : Dev Cert.DwRefIdeal.nD,
          r.2.mem ((c.tc : Thread Cert.DwRefIdeal.nD Cert.DwRefIdeal.τ).loc Cert.DwRefIdeal.main_v3) = v0 c
          ∧ r.2.mem ((c.tc : Thread Cert.DwRefIdeal.nD Cert.DwRefIdeal.τ).loc Cert.DwRefIdeal.main_arg0) = m' ((c.tc : Thread Cert.DwRefIdeal.nD Cert.DwRefIdeal.τ).loc Cert.DwRefIdeal.main_arg0)
          ∧ r.2.mem ((c.tc : Thread Cert.DwRefIdeal.nD Cert.DwRefIdeal.τ).loc Cert.DwRefIdeal.main_arg1) = m' ((c.tc : Thread Cert.DwRefIdeal.nD Cert.DwRefIdeal.τ).loc Cert.DwRefIdeal.main_arg1))

def preserves_Adamw_AdamwIdeal : Prop :=
  True

def algebraic_AdamwIdeal_AdamwRefIdeal [hAdamwIdeal : Cert.AdamwIdeal.Facts] [hAdamwRefIdeal : Cert.AdamwRefIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)) →
    ∃ (v0 : (c : Dev Cert.AdamwIdeal.nD) → Buf (Elt Ideal) ((c.tc : Thread Cert.AdamwIdeal.nD Cert.AdamwIdeal.τ).loc Cert.AdamwIdeal.main_v1_0)) (v1 : (c : Dev Cert.AdamwIdeal.nD) → Buf (Elt Ideal) ((c.tc : Thread Cert.AdamwIdeal.nD Cert.AdamwIdeal.τ).loc Cert.AdamwIdeal.main_v1_1)) (v2 : (c : Dev Cert.AdamwIdeal.nD) → Buf (Elt Ideal) ((c.tc : Thread Cert.AdamwIdeal.nD Cert.AdamwIdeal.τ).loc Cert.AdamwIdeal.main_v1_2)) (v3 : (c : Dev Cert.AdamwIdeal.nD) → Buf (Elt Ideal) ((c.tc : Thread Cert.AdamwIdeal.nD Cert.AdamwIdeal.τ).loc Cert.AdamwIdeal.main_v1_3)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v1_0) = v0 c
          ∧ r.2.mem ((c.tc : Thread Cert.AdamwIdeal.nD Cert.AdamwIdeal.τ).loc Cert.AdamwIdeal.main_v1_1) = v1 c
          ∧ r.2.mem ((c.tc : Thread Cert.AdamwIdeal.nD Cert.AdamwIdeal.τ).loc Cert.AdamwIdeal.main_v1_2) = v2 c
          ∧ r.2.mem ((c.tc : Thread Cert.AdamwIdeal.nD Cert.AdamwIdeal.τ).loc Cert.AdamwIdeal.main_v1_3) = v3 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_v0) = v0 c
          ∧ r.2.mem ((c.tc : Thread Cert.AdamwRefIdeal.nD Cert.AdamwRefIdeal.τ).loc Cert.AdamwRefIdeal.main_v24) = v1 c
          ∧ r.2.mem ((c.tc : Thread Cert.AdamwRefIdeal.nD Cert.AdamwRefIdeal.τ).loc Cert.AdamwRefIdeal.main_v5) = v2 c
          ∧ r.2.mem ((c.tc : Thread Cert.AdamwRefIdeal.nD Cert.AdamwRefIdeal.τ).loc Cert.AdamwRefIdeal.main_v11) = v3 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3))

def Claim : Prop :=
  ∃ (hFfn : Cert.Ffn.Facts) (hFfnIdeal : Cert.FfnIdeal.Facts) (hFfnRefIdeal : Cert.FfnRefIdeal.Facts) (hAttnBwd : Cert.AttnBwd.Facts) (hAttnBwdIdeal : Cert.AttnBwdIdeal.Facts) (hAttnBwdRefIdeal : Cert.AttnBwdRefIdeal.Facts) (hFfnIn : Cert.FfnIn.Facts) (hFfnInIdeal : Cert.FfnInIdeal.Facts) (hFfnInRefIdeal : Cert.FfnInRefIdeal.Facts) (hLoss : Cert.Loss.Facts) (hLossIdeal : Cert.LossIdeal.Facts) (hLossRefIdeal : Cert.LossRefIdeal.Facts) (hAttnFwd : Cert.AttnFwd.Facts) (hAttnFwdIdeal : Cert.AttnFwdIdeal.Facts) (hAttnFwdRefIdeal : Cert.AttnFwdRefIdeal.Facts) (hFoxOut : Cert.FoxOut.Facts) (hFoxOutIdeal : Cert.FoxOutIdeal.Facts) (hFoxOutRefIdeal : Cert.FoxOutRefIdeal.Facts) (hFoxPrep : Cert.FoxPrep.Facts) (hFoxPrepIdeal : Cert.FoxPrepIdeal.Facts) (hFoxPrepRefIdeal : Cert.FoxPrepRefIdeal.Facts) (hFfnFwd : Cert.FfnFwd.Facts) (hFfnFwdIdeal : Cert.FfnFwdIdeal.Facts) (hFfnFwdRefIdeal : Cert.FfnFwdRefIdeal.Facts) (hOutProj : Cert.OutProj.Facts) (hOutProjIdeal : Cert.OutProjIdeal.Facts) (hOutProjRefIdeal : Cert.OutProjRefIdeal.Facts) (hEmbed : Cert.Embed.Facts) (hEmbedIdeal : Cert.EmbedIdeal.Facts) (hEmbedRefIdeal : Cert.EmbedRefIdeal.Facts) (hPrepFwd : Cert.PrepFwd.Facts) (hPrepFwdIdeal : Cert.PrepFwdIdeal.Facts) (hPrepFwdRefIdeal : Cert.PrepFwdRefIdeal.Facts) (hDw : Cert.Dw.Facts) (hDwIdeal : Cert.DwIdeal.Facts) (hDwRefIdeal : Cert.DwRefIdeal.Facts) (hAdamw : Cert.Adamw.Facts) (hAdamwIdeal : Cert.AdamwIdeal.Facts) (hAdamwRefIdeal : Cert.AdamwRefIdeal.Facts) (hPre_attn_finite : Cert.Pre_attn_finite.Facts) (hPre_fwd_finite : Cert.Pre_fwd_finite.Facts) (hPre_out_finite : Cert.Pre_out_finite.Facts),
    quiescent_Ffn (hFfn := hFfn)
    ∧ quiescent_FfnIdeal (hFfnIdeal := hFfnIdeal)
    ∧ quiescent_FfnRefIdeal (hFfnRefIdeal := hFfnRefIdeal)
    ∧ quiescent_AttnBwd (hAttnBwd := hAttnBwd)
    ∧ quiescent_AttnBwdIdeal (hAttnBwdIdeal := hAttnBwdIdeal)
    ∧ quiescent_AttnBwdIdeal_pre_attn_finite (hAttnBwdIdeal := hAttnBwdIdeal) (hPre_attn_finite := hPre_attn_finite)
    ∧ quiescent_AttnBwdRefIdeal (hAttnBwdRefIdeal := hAttnBwdRefIdeal)
    ∧ quiescent_AttnBwdRefIdeal_pre_attn_finite (hAttnBwdRefIdeal := hAttnBwdRefIdeal) (hPre_attn_finite := hPre_attn_finite)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_Loss (hLoss := hLoss)
    ∧ quiescent_LossIdeal (hLossIdeal := hLossIdeal)
    ∧ quiescent_LossRefIdeal (hLossRefIdeal := hLossRefIdeal)
    ∧ quiescent_AttnFwd (hAttnFwd := hAttnFwd)
    ∧ quiescent_AttnFwdIdeal (hAttnFwdIdeal := hAttnFwdIdeal)
    ∧ quiescent_AttnFwdIdeal_pre_fwd_finite (hAttnFwdIdeal := hAttnFwdIdeal) (hPre_fwd_finite := hPre_fwd_finite)
    ∧ quiescent_AttnFwdRefIdeal (hAttnFwdRefIdeal := hAttnFwdRefIdeal)
    ∧ quiescent_AttnFwdRefIdeal_pre_fwd_finite (hAttnFwdRefIdeal := hAttnFwdRefIdeal) (hPre_fwd_finite := hPre_fwd_finite)
    ∧ quiescent_FoxOut (hFoxOut := hFoxOut)
    ∧ quiescent_FoxOutIdeal (hFoxOutIdeal := hFoxOutIdeal)
    ∧ quiescent_FoxOutIdeal_pre_out_finite (hFoxOutIdeal := hFoxOutIdeal) (hPre_out_finite := hPre_out_finite)
    ∧ quiescent_FoxOutRefIdeal (hFoxOutRefIdeal := hFoxOutRefIdeal)
    ∧ quiescent_FoxOutRefIdeal_pre_out_finite (hFoxOutRefIdeal := hFoxOutRefIdeal) (hPre_out_finite := hPre_out_finite)
    ∧ quiescent_FoxPrep (hFoxPrep := hFoxPrep)
    ∧ quiescent_FoxPrepIdeal (hFoxPrepIdeal := hFoxPrepIdeal)
    ∧ quiescent_FoxPrepRefIdeal (hFoxPrepRefIdeal := hFoxPrepRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Embed (hEmbed := hEmbed)
    ∧ quiescent_EmbedIdeal (hEmbedIdeal := hEmbedIdeal)
    ∧ quiescent_EmbedRefIdeal (hEmbedRefIdeal := hEmbedRefIdeal)
    ∧ quiescent_PrepFwd (hPrepFwd := hPrepFwd)
    ∧ quiescent_PrepFwdIdeal (hPrepFwdIdeal := hPrepFwdIdeal)
    ∧ quiescent_PrepFwdRefIdeal (hPrepFwdRefIdeal := hPrepFwdRefIdeal)
    ∧ quiescent_Dw (hDw := hDw)
    ∧ quiescent_DwIdeal (hDwIdeal := hDwIdeal)
    ∧ quiescent_DwRefIdeal (hDwRefIdeal := hDwRefIdeal)
    ∧ quiescent_Adamw (hAdamw := hAdamw)
    ∧ quiescent_AdamwIdeal (hAdamwIdeal := hAdamwIdeal)
    ∧ quiescent_AdamwRefIdeal (hAdamwRefIdeal := hAdamwRefIdeal)
    ∧ preserves_Ffn_FfnIdeal
    ∧ algebraic_FfnIdeal_FfnRefIdeal (hFfnIdeal := hFfnIdeal) (hFfnRefIdeal := hFfnRefIdeal)
    ∧ preserves_AttnBwd_AttnBwdIdeal
    ∧ algebraic_AttnBwdIdeal_AttnBwdRefIdeal_pre_attn_finite (hAttnBwdIdeal := hAttnBwdIdeal) (hAttnBwdRefIdeal := hAttnBwdRefIdeal) (hPre_attn_finite := hPre_attn_finite)
    ∧ preserves_FfnIn_FfnInIdeal
    ∧ algebraic_FfnInIdeal_FfnInRefIdeal (hFfnInIdeal := hFfnInIdeal) (hFfnInRefIdeal := hFfnInRefIdeal)
    ∧ preserves_Loss_LossIdeal
    ∧ algebraic_LossIdeal_LossRefIdeal (hLossIdeal := hLossIdeal) (hLossRefIdeal := hLossRefIdeal)
    ∧ preserves_AttnFwd_AttnFwdIdeal
    ∧ algebraic_AttnFwdIdeal_AttnFwdRefIdeal_pre_fwd_finite (hAttnFwdIdeal := hAttnFwdIdeal) (hAttnFwdRefIdeal := hAttnFwdRefIdeal) (hPre_fwd_finite := hPre_fwd_finite)
    ∧ preserves_FoxOut_FoxOutIdeal
    ∧ algebraic_FoxOutIdeal_FoxOutRefIdeal_pre_out_finite (hFoxOutIdeal := hFoxOutIdeal) (hFoxOutRefIdeal := hFoxOutRefIdeal) (hPre_out_finite := hPre_out_finite)
    ∧ preserves_FoxPrep_FoxPrepIdeal
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_OutProj_OutProjIdeal
    ∧ algebraic_OutProjIdeal_OutProjRefIdeal (hOutProjIdeal := hOutProjIdeal) (hOutProjRefIdeal := hOutProjRefIdeal)
    ∧ preserves_Embed_EmbedIdeal
    ∧ algebraic_EmbedIdeal_EmbedRefIdeal (hEmbedIdeal := hEmbedIdeal) (hEmbedRefIdeal := hEmbedRefIdeal)
    ∧ preserves_PrepFwd_PrepFwdIdeal
    ∧ preserves_Dw_DwIdeal
    ∧ algebraic_DwIdeal_DwRefIdeal (hDwIdeal := hDwIdeal) (hDwRefIdeal := hDwRefIdeal)
    ∧ preserves_Adamw_AdamwIdeal
    ∧ algebraic_AdamwIdeal_AdamwRefIdeal (hAdamwIdeal := hAdamwIdeal) (hAdamwRefIdeal := hAdamwRefIdeal)
-- ==== Pre_attn_finite.lean ====
abbrev S16x8208x64 : Shape := ⟨3, ![16, 8208, 64]⟩
abbrev S16x8208 : Shape := ⟨2, ![16, 8208]⟩
abbrev S_ : Shape := ⟨0, ![]⟩

class Facts : Prop where
  bcast_S_S16x8208x64 : S_.BroadcastsInDim S16x8208x64 (![] : Fin 0 → Fin S16x8208x64.rank)
  bcast_S_S16x8208 : S_.BroadcastsInDim S16x8208 (![] : Fin 0 → Fin S16x8208.rank)

variable [Facts]

def fn {F : FTy → Type} [FloatOps F] (main_arg0 : FVec F S16x8208x64 .f32) (main_arg1 : FVec F S16x8208x64 .f32) (main_arg2 : FVec F S16x8208x64 .f32) (main_arg3 : FVec F S16x8208 .f32) (main_arg4 : FVec F S16x8208x64 .f32) : IVec S16x8208x64 1 × IVec S16x8208x64 1 × IVec S16x8208x64 1 × IVec S16x8208 1 × IVec S16x8208x64 1 :=
  let main_v0 : FVec F S16x8208x64 .f32 := Host.absf main_arg0
  let main_cst : FVec F S_ .f32 := constant S_ .f32 0x7F800000#32
  let main_v1 : FVec F S16x8208x64 .f32 := broadcastInDim S16x8208x64 ![] bcast_S_S16x8208x64 main_cst
  let main_v2 : IVec S16x8208x64 1 := cmpf .olt main_v0 main_v1
  let main_v3 : FVec F S16x8208x64 .f32 := Host.absf main_arg1
  let main_cst_0 : FVec F S_ .f32 := constant S_ .f32 0x7F800000#32
  let main_v4 : FVec F S16x8208x64 .f32 := broadcastInDim S16x8208x64 ![] bcast_S_S16x8208x64 main_cst_0
  let main_v5 : IVec S16x8208x64 1 := cmpf .olt main_v3 main_v4
  let main_v6 : FVec F S16x8208x64 .f32 := Host.absf main_arg2
  let main_cst_1 : FVec F S_ .f32 := constant S_ .f32 0x7F800000#32
  let main_v7 : FVec F S16x8208x64 .f32 := broadcastInDim S16x8208x64 ![] bcast_S_S16x8208x64 main_cst_1
  let main_v8 : IVec S16x8208x64 1 := cmpf .olt main_v6 main_v7
  let main_v9 : FVec F S16x8208 .f32 := Host.absf main_arg3
  let main_cst_2 : FVec F S_ .f32 := constant S_ .f32 0x7F800000#32
  let main_v10 : FVec F S16x8208 .f32 := broadcastInDim S16x8208 ![] bcast_S_S16x8208 main_cst_2
  let main_v11 : IVec S16x8208 1 := cmpf .olt main_v9 main_v10
  let main_v12 : FVec F S16x8208x64 .f32 := Host.absf main_arg4
  let main_cst_3 : FVec F S_ .f32 := constant S_ .f32 0x7F800000#32
  let main_v13 : FVec F S16x8208x64 .f32 := broadcastInDim S16x8208x64 ![] bcast_S_S16x8208x64 main_cst_3
  let main_v14 : IVec S16x8208x64 1 := cmpf .olt main_v12 main_v13
  (main_v2, main_v5, main_v8, main_v11, main_v14)
-- ==== Pre_fwd_finite.lean ====
abbrev S16x8208x64 : Shape := ⟨3, ![16, 8208, 64]⟩
abbrev S16x8208 : Shape := ⟨2, ![16, 8208]⟩
abbrev S8208x1024 : Shape := ⟨2, ![8208, 1024]⟩
abbrev S_ : Shape := ⟨0, ![]⟩

class Facts : Prop where
  bcast_S_S16x8208x64 : S_.BroadcastsInDim S16x8208x64 (![] : Fin 0 → Fin S16x8208x64.rank)
  bcast_S_S16x8208 : S_.BroadcastsInDim S16x8208 (![] : Fin 0 → Fin S16x8208.rank)

variable [Facts]

def fn {F : FTy → Type} [FloatOps F] (main_arg0 : FVec F S16x8208x64 .f32) (main_arg1 : FVec F S16x8208x64 .f32) (main_arg2 : FVec F S16x8208x64 .f32) (main_arg3 : FVec F S16x8208 .f32) (main_arg4 : FVec F S8208x1024 .f32) : IVec S16x8208x64 1 × IVec S16x8208x64 1 × IVec S16x8208x64 1 × IVec S16x8208 1 :=
  let main_v0 : FVec F S16x8208x64 .f32 := Host.absf main_arg0
  let main_cst : FVec F S_ .f32 := constant S_ .f32 0x7F800000#32
  let main_v1 : FVec F S16x8208x64 .f32 := broadcastInDim S16x8208x64 ![] bcast_S_S16x8208x64 main_cst
  let main_v2 : IVec S16x8208x64 1 := cmpf .olt main_v0 main_v1
  let main_v3 : FVec F S16x8208x64 .f32 := Host.absf main_arg1
  let main_cst_0 : FVec F S_ .f32 := constant S_ .f32 0x7F800000#32
  let main_v4 : FVec F S16x8208x64 .f32 := broadcastInDim S16x8208x64 ![] bcast_S_S16x8208x64 main_cst_0
  let main_v5 : IVec S16x8208x64 1 := cmpf .olt main_v3 main_v4
  let main_v6 : FVec F S16x8208x64 .f32 := Host.absf main_arg2
  let main_cst_1 : FVec F S_ .f32 := constant S_ .f32 0x7F800000#32
  let main_v7 : FVec F S16x8208x64 .f32 := broadcastInDim S16x8208x64 ![] bcast_S_S16x8208x64 main_cst_1
  let main_v8 : IVec S16x8208x64 1 := cmpf .olt main_v6 main_v7
  let main_v9 : FVec F S16x8208 .f32 := Host.absf main_arg3
  let main_cst_2 : FVec F S_ .f32 := constant S_ .f32 0x7F800000#32
  let main_v10 : FVec F S16x8208 .f32 := broadcastInDim S16x8208 ![] bcast_S_S16x8208 main_cst_2
  let main_v11 : IVec S16x8208 1 := cmpf .olt main_v9 main_v10
  (main_v2, main_v5, main_v8, main_v11)
-- ==== Pre_out_finite.lean ====
abbrev S16x8208x64 : Shape := ⟨3, ![16, 8208, 64]⟩
abbrev S16x8208 : Shape := ⟨2, ![16, 8208]⟩
abbrev S8208x1024 : Shape := ⟨2, ![8208, 1024]⟩
abbrev S1024x1024 : Shape := ⟨2, ![1024, 1024]⟩
abbrev S_ : Shape := ⟨0, ![]⟩

class Facts : Prop where
  bcast_S_S16x8208x64 : S_.BroadcastsInDim S16x8208x64 (![] : Fin 0 → Fin S16x8208x64.rank)
  bcast_S_S16x8208 : S_.BroadcastsInDim S16x8208 (![] : Fin 0 → Fin S16x8208.rank)

variable [Facts]

def fn {F : FTy → Type} [FloatOps F] (main_arg0 : FVec F S16x8208x64 .f32) (main_arg1 : FVec F S16x8208x64 .f32) (main_arg2 : FVec F S16x8208x64 .f32) (main_arg3 : FVec F S16x8208 .f32) (main_arg4 : FVec F S8208x1024 .f32) (main_arg5 : FVec F S1024x1024 .f32) (main_arg6 : FVec F S8208x1024 .f32) : IVec S16x8208x64 1 × IVec S16x8208x64 1 × IVec S16x8208x64 1 × IVec S16x8208 1 :=
  let main_v0 : FVec F S16x8208x64 .f32 := Host.absf main_arg0
  let main_cst : FVec F S_ .f32 := constant S_ .f32 0x7F800000#32
  let main_v1 : FVec F S16x8208x64 .f32 := broadcastInDim S16x8208x64 ![] bcast_S_S16x8208x64 main_cst
  let main_v2 : IVec S16x8208x64 1 := cmpf .olt main_v0 main_v1
  let main_v3 : FVec F S16x8208x64 .f32 := Host.absf main_arg1
  let main_cst_0 : FVec F S_ .f32 := constant S_ .f32 0x7F800000#32
  let main_v4 : FVec F S16x8208x64 .f32 := broadcastInDim S16x8208x64 ![] bcast_S_S16x8208x64 main_cst_0
  let main_v5 : IVec S16x8208x64 1 := cmpf .olt main_v3 main_v4
  let main_v6 : FVec F S16x8208x64 .f32 := Host.absf main_arg2
  let main_cst_1 : FVec F S_ .f32 := constant S_ .f32 0x7F800000#32
  let main_v7 : FVec F S16x8208x64 .f32 := broadcastInDim S16x8208x64 ![] bcast_S_S16x8208x64 main_cst_1
  let main_v8 : IVec S16x8208x64 1 := cmpf .olt main_v6 main_v7
  let main_v9 : FVec F S16x8208 .f32 := Host.absf main_arg3
  let main_cst_2 : FVec F S_ .f32 := constant S_ .f32 0x7F800000#32
  let main_v10 : FVec F S16x8208 .f32 := broadcastInDim S16x8208 ![] bcast_S_S16x8208 main_cst_2
  let main_v11 : IVec S16x8208 1 := cmpf .olt main_v9 main_v10
  (main_v2, main_v5, main_v8, main_v11)
-- ==== Ffn.lean ====
abbrev S8448x1024 : Shape := ⟨2, ![8448, 1024]⟩
abbrev S1024x5632 : Shape := ⟨2, ![1024, 5632]⟩
abbrev S2816x1024 : Shape := ⟨2, ![2816, 1024]⟩
abbrev S1024x2816 : Shape := ⟨2, ![1024, 2816]⟩
abbrev S8448x2816 : Shape := ⟨2, ![8448, 2816]⟩
abbrev S8448x5632 : Shape := ⟨2, ![8448, 5632]⟩
abbrev S256x1024 : Shape := ⟨2, ![256, 1024]⟩
abbrev S256x2816 : Shape := ⟨2, ![256, 2816]⟩
abbrev S256x5632 : Shape := ⟨2, ![256, 5632]⟩

abbrev nBuf : Space → Nat
  | .hbm => 15
  | .vmem => 9
  | .smem => 0
  | _ => 0

abbrev bufTy : (tb : Table) → Fin (tcTables nBuf tb) → BufTy
  | .hbm, ⟨0, _⟩ => ⟨S8448x1024, .f32⟩
  | .hbm, ⟨1, _⟩ => ⟨S1024x5632, .f32⟩
  | .hbm, ⟨2, _⟩ => ⟨S2816x1024, .f32⟩
  | .hbm, ⟨3, _⟩ => ⟨S8448x1024, .f32⟩
  | .hbm, ⟨4, _⟩ => ⟨S8448x1024, .bf16⟩
  | .hbm, ⟨5, _⟩ => ⟨S1024x5632, .bf16⟩
  | .hbm, ⟨6, _⟩ => ⟨S1024x2816, .bf16⟩
  | .hbm, ⟨7, _⟩ => ⟨S8448x2816, .f32⟩
  | .hbm, ⟨8, _⟩ => ⟨S8448x2816, .bf16⟩
  | .hbm, ⟨9, _⟩ => ⟨S1024x2816, .bf16⟩
  | .hbm, ⟨10, _⟩ => ⟨S8448x2816, .f32⟩
  | .hbm, ⟨11, _⟩ => ⟨S8448x2816, .bf16⟩
  | .hbm, ⟨12, _⟩ => ⟨S8448x1024, .bf16⟩
  | .hbm, ⟨13, _⟩ => ⟨S2816x1024, .bf16⟩
  | .hbm, ⟨14, _⟩ => ⟨S8448x5632, .bf16⟩
  | .local _ .vmem, ⟨0, _⟩ => ⟨S256x1024, .bf16⟩
  | .local _ .vmem, ⟨1, _⟩ => ⟨S256x1024, .bf16⟩
  | .local _ .vmem, ⟨2, _⟩ => ⟨S2816x1024, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x5632, .bf16⟩
  | .local _ .vmem, ⟨8, _⟩ => ⟨S256x5632, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnRefIdeal.lean ====
abbrev S8448x1024 : Shape := ⟨2, ![8448, 1024]⟩
abbrev S1024x5632 : Shape := ⟨2, ![1024, 5632]⟩
abbrev S2816x1024 : Shape := ⟨2, ![2816, 1024]⟩
abbrev S8448x5632 : Shape := ⟨2, ![8448, 5632]⟩
abbrev S8448x2816 : Shape := ⟨2, ![8448, 2816]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x5632, .f32⟩
  | .hbm, ⟨2, _⟩ => ⟨S2816x1024, .f32⟩
  | .hbm, ⟨3, _⟩ => ⟨S8448x1024, .f32⟩
  | .hbm, ⟨4, _⟩ => ⟨S8448x5632, .f32⟩
  | .hbm, ⟨5, _⟩ => ⟨S8448x2816, .f32⟩
  | .hbm, ⟨6, _⟩ => ⟨S8448x2816, .f32⟩
  | .hbm, ⟨7, _⟩ => ⟨S8448x2816, .f32⟩
  | .hbm, ⟨8, _⟩ => ⟨S8448x2816, .f32⟩
  | .hbm, ⟨9, _⟩ => ⟨S_, .f32⟩
  | .hbm, ⟨10, _⟩ => ⟨S8448x2816, .f32⟩
  | .hbm, ⟨11, _⟩ => ⟨S8448x2816, .f32⟩
  | .hbm, ⟨12, _⟩ => ⟨S_, .f32⟩
  | .hbm, ⟨13, _⟩ => ⟨S8448x2816, .f32⟩
  | .hbm, ⟨14, _⟩ => ⟨S8448x2816, .f32⟩
  | .hbm, ⟨15, _⟩ => ⟨S_, .f32⟩
  | .hbm, ⟨16, _⟩ => ⟨S8448x2816, .f32⟩
  | .hbm, ⟨17, _⟩ => ⟨S8448x2816, .f32⟩
  | .hbm, ⟨18, _⟩ => ⟨S8448x2816, .f32⟩
  | .hbm, ⟨19, _⟩ => ⟨S8448x2816, .f32⟩
  | .hbm, ⟨20, _⟩ => ⟨S8448x2816, .f32⟩
  | .hbm, ⟨21, _⟩ => ⟨S8448x1024, .f32⟩
  | .hbm, ⟨22, _⟩ => ⟨S8448x2816, .f32⟩
  | .hbm, ⟨23, _⟩ => ⟨S8448x2816, .f32⟩
  | .hbm, ⟨24, _⟩ => ⟨S8448x2816, .f32⟩
  | .hbm, ⟨25, _⟩ => ⟨S8448x2816, .f32⟩
  | .hbm, ⟨26, _⟩ => ⟨S8448x2816, .f32⟩
  | .hbm, ⟨27, _⟩ => ⟨S8448x2816, .f32⟩
  | .hbm, ⟨28, _⟩ => ⟨S8448x2816, .f32⟩
  | .hbm, ⟨29, _⟩ => ⟨S8448x5632, .f32⟩
  | .hbm, ⟨30, _⟩ => ⟨S8448x5632, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩

abbrev nD : Nat := 1
abbrev τ : Topo := Topo.v7x

variable {F : FTy → Type} [FloatOps F]
-- ==== AttnBwd.lean ====
abbrev S16x8208x64 : Shape := ⟨3, ![16, 8208, 64]⟩
abbrev S16x8208 : Shape := ⟨2, ![16, 8208]⟩
abbrev S_ : Shape := ⟨0, ![]⟩
abbrev S16x8208x8208 : Shape := ⟨3, ![16, 8208, 8208]⟩
abbrev S16x1x8208 : Shape := ⟨3, ![16, 1, 8208]⟩
abbrev S8208 : Shape := ⟨1, ![8208]⟩
abbrev S1x8208 : Shape := ⟨2, ![1, 8208]⟩
abbrev S8208x1 : Shape := ⟨2, ![8208, 1]⟩
abbrev S8208x8208 : Shape := ⟨2, ![8208, 8208]⟩
abbrev S16x8208x1 : Shape := ⟨3, ![16, 8208, 1]⟩
abbrev S16x8448 : Shape := ⟨2, ![16, 8448]⟩
abbrev S16x8448x1 : Shape := ⟨3, ![16, 8448, 1]⟩
abbrev S16x8448x3 : Shape := ⟨3, ![16, 8448, 3]⟩
abbrev S16x8448x61 : Shape := ⟨3, ![16, 8448, 61]⟩
abbrev S16x8448x64 : Shape := ⟨3, ![16, 8448, 64]⟩
abbrev S8x8448x64 : Shape := ⟨3, ![8, 8448, 64]⟩
abbrev S8x8448x128 : Shape := ⟨3, ![8, 8448, 128]⟩
abbrev S8448x8x128 : Shape := ⟨3, ![8448, 8, 128]⟩
abbrev S8448x1024 : Shape := ⟨2, ![8448, 1024]⟩
abbrev S8208x16 : Shape := ⟨2, ![8208, 16]⟩
abbrev S8448x128 : Shape := ⟨2, ![8448, 128]⟩
abbrev S8448x16x64 : Shape := ⟨3, ![8448, 16, 64]⟩
abbrev S8x8x8448 : Shape := ⟨3, ![8, 8, 8448]⟩
abbrev S768x128 : Shape := ⟨2, ![768, 128]⟩
abbrev S1x8x8448 : Shape := ⟨3, ![1, 8, 8448]⟩
abbrev S1x128 : Shape := ⟨2, ![1, 128]⟩
abbrev S768 : Shape := ⟨1, ![768]⟩
abbrev S768x1 : Shape := ⟨2, ![768, 1]⟩
abbrev S768x768 : Shape := ⟨2, ![768, 768]⟩
abbrev S1x1x768 : Shape := ⟨3, ![1, 1, 768]⟩
abbrev S1x768 : Shape := ⟨2, ![1, 768]⟩
abbrev S512x128 : Shape := ⟨2, ![512, 128]⟩
abbrev S1x512 : Shape := ⟨2, ![1, 512]⟩
abbrev S768x512 : Shape := ⟨2, ![768, 512]⟩
abbrev S1x1x512 : Shape := ⟨3, ![1, 1, 512]⟩
abbrev S512 : Shape := ⟨1, ![512]⟩
abbrev S256x128 : Shape := ⟨2, ![256, 128]⟩
abbrev S256x1 : Shape := ⟨2, ![256, 1]⟩
abbrev S1x256 : Shape := ⟨2, ![1, 256]⟩
abbrev S256x256 : Shape := ⟨2, ![256, 256]⟩
abbrev S1x1x256 : Shape := ⟨3, ![1, 1, 256]⟩
abbrev S256 : Shape := ⟨1, ![256]⟩

abbrev nBuf : Space → Nat
  | .hbm => 144
  | .vmem => 24
  | .smem => 0
  | _ => 0

abbrev hbmTy0_0 (i : Nat) : BufTy := match i % 128 with
  | 0 => ⟨S16x8208x64, .f32⟩
  | 1 => ⟨S16x8208x64, .f32⟩
  | 2 => ⟨S16x8208x64, .f32⟩
  | 3 => ⟨S16x8208, .f32⟩
  | 4 => ⟨S16x8208x64, .f32⟩
  | 5 => ⟨S_, .f32⟩
  | 6 => ⟨S_, .f32⟩
  | 7 => ⟨S_, .f32⟩
  | 8 => ⟨S_, .f32⟩
  | 9 => ⟨S16x8208x64, .f32⟩
  | 10 => ⟨S16x8208x64, .f32⟩
  | 11 => ⟨S_, .f32⟩
  | 12 => ⟨S_, .f32⟩
  | 13 => ⟨S16x8208, .f32⟩
  | 14 => ⟨S16x8208, .f32⟩
  | 15 => ⟨S16x8208x64, .bf16⟩
  | 16 => ⟨S16x8208x64, .bf16⟩
  | 17 => ⟨S16x8208x64, .bf16⟩
  | 18 => ⟨S16x8208x8208, .f32⟩
  | 19 => ⟨S16x1x8208, .f32⟩
  | 20 => ⟨S16x8208x8208, .f32⟩
  | 21 => ⟨S16x8208x8208, .f32⟩
  | 22 => ⟨S8208, .i32⟩
  | 23 => ⟨S1x8208, .i32⟩
  | 24 => ⟨S8208x1, .i32⟩
  | 25 => ⟨S8208x8208, .i32⟩
  | 26 => ⟨S8208x8208, .i32⟩
  | 27 => ⟨S8208x8208, .i1⟩
  | 28 => ⟨S_, .f32⟩
  | 29 => ⟨S_, .f32⟩
  | 30 => ⟨S16x8208x8208, .i1⟩
  | 31 => ⟨S16x8208x8208, .f32⟩
  | 32 => ⟨S16x8208x8208, .f32⟩
  | 33 => ⟨S_, .f32⟩
  | 34 => ⟨S16x8208, .f32⟩
  | 35 => ⟨S16x8208, .f32⟩
  | 36 => ⟨S16x8208, .f32⟩
  | 37 => ⟨S_, .f32⟩
  | 38 => ⟨S_, .f32⟩
  | 39 => ⟨S16x8208, .f32⟩
  | 40 => ⟨S16x8208x1, .f32⟩
  | 41 => ⟨S16x8208x8208, .f32⟩
  | 42 => ⟨S16x8208x8208, .f32⟩
  | 43 => ⟨S16x8208x8208, .f32⟩
  | 44 => ⟨S16x8208x8208, .f32⟩
  | 45 => ⟨S16x8208x8208, .f32⟩
  | 46 => ⟨S16x8208x8208, .bf16⟩
  | 47 => ⟨S16x8208x8208, .f32⟩
  | 48 => ⟨S_, .f32⟩
  | 49 => ⟨S16x8208, .f32⟩
  | 50 => ⟨S16x8208x64, .f32⟩
  | 51 => ⟨S16x8208x1, .f32⟩
  | 52 => ⟨S16x8208x64, .f32⟩
  | 53 => ⟨S16x8208x64, .f32⟩
  | 54 => ⟨S_, .f32⟩
  | 55 => ⟨S16x8208, .f32⟩
  | 56 => ⟨S16x8208, .f32⟩
  | 57 => ⟨S16x8208x1, .f32⟩
  | 58 => ⟨S16x8208x64, .f32⟩
  | 59 => ⟨S16x8208x64, .f32⟩
  | 60 => ⟨S16x8208x64, .f32⟩
  | 61 => ⟨S_, .f32⟩
  | 62 => ⟨S16x8208, .f32⟩
  | 63 => ⟨S16x8448, .i32⟩
  | 64 => ⟨S_, .i32⟩
  | 65 => ⟨S_, .f32⟩
  | 66 => ⟨S16x8448, .f32⟩
  | 67 => ⟨S16x8448, .f32⟩
  | 68 => ⟨S16x8448, .bf16⟩
  | 69 => ⟨S16x8448, .f32⟩
  | 70 => ⟨S16x8448, .f32⟩
  | 71 => ⟨S16x8448, .bf16⟩
  | 72 => ⟨S16x8448, .f32⟩
  | 73 => ⟨S16x8448, .f32⟩
  | 74 => ⟨S16x8448, .f32⟩
  | 75 => ⟨S_, .i32⟩
  | 76 => ⟨S16x8448, .i32⟩
  | 77 => ⟨S16x8448, .i1⟩
  | 78 => ⟨S_, .f32⟩
  | 79 => ⟨S_, .f32⟩
  | 80 => ⟨S16x8448, .f32⟩
  | 81 => ⟨S16x8448, .f32⟩
  | 82 => ⟨S16x8448x1, .f32⟩
  | 83 => ⟨S16x8448x1, .f32⟩
  | 84 => ⟨S16x8448x1, .f32⟩
  | 85 => ⟨S16x8448x3, .f32⟩
  | 86 => ⟨S_, .f32⟩
  | 87 => ⟨S16x8448x61, .f32⟩
  | 88 => ⟨S16x8448x64, .f32⟩
  | 89 => ⟨S_, .i32⟩
  | 90 => ⟨S_, .f32⟩
  | 91 => ⟨S16x8448x64, .f32⟩
  | 92 => ⟨S8x8448x64, .f32⟩
  | 93 => ⟨S8x8448x64, .f32⟩
  | 94 => ⟨S8x8448x128, .f32⟩
  | 95 => ⟨S8x8448x64, .f32⟩
  | 96 => ⟨S8x8448x64, .f32⟩
  | 97 => ⟨S8x8448x128, .f32⟩
  | 98 => ⟨S8448x8x128, .f32⟩
  | 99 => ⟨S8448x1024, .f32⟩
  | 100 => ⟨S8448x1024, .bf16⟩
  | 101 => ⟨S8448x8x128, .f32⟩
  | 102 => ⟨S8448x1024, .f32⟩
  | 103 => ⟨S8448x1024, .bf16⟩
  | 104 => ⟨S8208x16, .f32⟩
  | 105 => ⟨S_, .i32⟩
  | 106 => ⟨S_, .f32⟩
  | 107 => ⟨S8448x128, .f32⟩
  | 108 => ⟨S_, .i32⟩
  | 109 => ⟨S_, .f32⟩
  | 110 => ⟨S16x8448x64, .f32⟩
  | 111 => ⟨S8448x16x64, .f32⟩
  | 112 => ⟨S8448x1024, .f32⟩
  | 113 => ⟨S8448x1024, .bf16⟩
  | 114 => ⟨S_, .i32⟩
  | 115 => ⟨S_, .f32⟩
  | 116 => ⟨S16x8448x64, .f32⟩
  | 117 => ⟨S8448x16x64, .f32⟩
  | 118 => ⟨S8448x1024, .f32⟩
  | 119 => ⟨S8448x1024, .bf16⟩
  | 120 => ⟨S_, .i32⟩
  | 121 => ⟨S_, .f32⟩
  | 122 => ⟨S16x8448x64, .f32⟩
  | 123 => ⟨S8448x16x64, .f32⟩
  | 124 => ⟨S8448x1024, .f32⟩
  | 125 => ⟨S8448x1024, .bf16⟩
  | 126 => ⟨S16x8208x1, .f32⟩
  | 127 => ⟨S16x8208x64, .f32⟩
  | _ => ⟨S16x8208x64, .f32⟩

abbrev hbmTy0_1 (i : Nat) : BufTy := match i % 128 with
  | 0 => ⟨S_, .i32⟩
  | 1 => ⟨S_, .f32⟩
  | 2 => ⟨S16x8448x64, .f32⟩
  | 3 => ⟨S8448x16x64, .f32⟩
  | 4 => ⟨S8448x1024, .f32⟩
  | 5 => ⟨S16x8208x1, .f32⟩
  | 6 => ⟨S16x8208x64, .f32⟩
  | 7 => ⟨S_, .i32⟩
  | 8 => ⟨S_, .f32⟩
  | 9 => ⟨S16x8448x64, .f32⟩
  | 10 => ⟨S8448x16x64, .f32⟩
  | 11 => ⟨S8448x1024, .f32⟩
  | 12 => ⟨S8448x1024, .f32⟩
  | 13 => ⟨S8448x1024, .f32⟩
  | 14 => ⟨S8448x1024, .f32⟩
  | 15 => ⟨S8x8x8448, .f32⟩
  | _ => ⟨S16x8208x64, .f32⟩

abbrev hbmTy (i : Nat) : BufTy := match i / 128 with
  | 0 => hbmTy0_0 i
  | 1 => hbmTy0_1 i
  | _ => ⟨S16x8208x64, .f32⟩

abbrev bufTy : (tb : Table) → Fin (tcTables nBuf tb) → BufTy
  | .hbm, ⟨i, _⟩ => hbmTy i
  | .local _ .vmem, ⟨0, _⟩ => ⟨S768x128, .bf16⟩
  | .local _ .vmem, ⟨1, _⟩ => ⟨S768x128, .bf16⟩
  | .local _ .vmem, ⟨2, _⟩ => ⟨S768x128, .bf16⟩
  | .local _ .vmem, ⟨3, _⟩ => ⟨S768x128, .bf16⟩
  | .local _ .vmem, ⟨4, _⟩ => ⟨S768x128, .f32⟩
  | .local _ .vmem, ⟨5, _⟩ => ⟨S768x128, .f32⟩
  | .local _ .vmem, ⟨6, _⟩ => ⟨S768x128, .f32⟩
  | .local _ .vmem, ⟨7, _⟩ => ⟨S768x128, .f32⟩
  | .local _ .vmem, ⟨8, _⟩ => ⟨S768x128, .f32⟩
  | .local _ .vmem, ⟨9, _⟩ => ⟨S768x128, .f32⟩
  | .local _ .vmem, ⟨10, _⟩ => ⟨S8448x128, .bf16⟩
  | .local _ .vmem, ⟨11, _⟩ => ⟨S8448x128, .bf16⟩
  | .local _ .vmem, ⟨12, _⟩ => ⟨S8448x128, .bf16⟩
  | .local _ .vmem, ⟨13, _⟩ => ⟨S8448x128, .bf16⟩
  | .local _ .vmem, ⟨14, _⟩ => ⟨S8448x128, .bf16⟩
  | .local _ .vmem, ⟨15, _⟩ => ⟨S8448x128, .bf16⟩
  | .local _ .vmem, ⟨16, _⟩ => ⟨S768x128, .f32⟩
  | .local _ .vmem, ⟨17, _⟩ => ⟨S768x128, .f32⟩
  | .local _ .vmem, ⟨18, _⟩ => ⟨S8448x128, .f32⟩
  | .local _ .vmem, ⟨19, _⟩ => ⟨S8448x128, .f32⟩
  | .local _ .vmem, ⟨20, _⟩ => ⟨S8448x128, .f32⟩
  | .local _ .vmem, ⟨21, _⟩ => ⟨S8448x128, .f32⟩
  | .local _ .vmem, ⟨22, _⟩ => ⟨S1x8x8448, .f32⟩
  | .local _ .vmem, ⟨23, _⟩ => ⟨S1x8x8448, .f32⟩
  | _, _ => ⟨S16x8208x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_7 : Ref sig .tc := ⟨.hbm, 61, rfl⟩
abbrev main_v45 : Ref sig .tc := ⟨.hbm, 62, rfl⟩
abbrev main_v46 : Ref sig .tc := ⟨.hbm, 63, rfl⟩
abbrev main_c : Ref sig .tc := ⟨.hbm, 64, rfl⟩
abbrev main_call1_v0 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_c_8 : Ref sig .tc := ⟨.hbm, 75, rfl⟩
abbrev main_v56 : Ref sig .tc := ⟨.hbm, 76, rfl⟩
abbrev main_v57 : Ref sig .tc := ⟨.hbm, 77, rfl⟩
abbrev main_cst_9 : Ref sig .tc := ⟨.hbm, 78, rfl⟩
abbrev main_call2_v0 : Ref sig .tc := ⟨.hbm, 79, rfl⟩
abbrev main_call2_v1 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_10 : Ref sig .tc := ⟨.hbm, 86, rfl⟩
abbrev main_v63 : Ref sig .tc := ⟨.hbm, 87, rfl⟩
abbrev main_v64 : Ref sig .tc := ⟨.hbm, 88, rfl⟩
abbrev main_c_11 : Ref sig .tc := ⟨.hbm, 89, rfl⟩
abbrev main_call3_v0 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_c_12 : Ref sig .tc := ⟨.hbm, 105, rfl⟩
abbrev main_call4_v0 : Ref sig .tc := ⟨.hbm, 106, rfl⟩
abbrev main_v79 : Ref sig .tc := ⟨.hbm, 107, rfl⟩
abbrev main_c_13 : Ref sig .tc := ⟨.hbm, 108, rfl⟩
abbrev main_call5_v0 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_c_14 : Ref sig .tc := ⟨.hbm, 114, rfl⟩
abbrev main_call6_v0 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_c_15 : Ref sig .tc := ⟨.hbm, 120, rfl⟩
abbrev main_call7_v0 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_c_16 : Ref sig .tc := ⟨.hbm, 128, rfl⟩
abbrev main_call8_v0 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_c_17 : Ref sig .tc := ⟨.hbm, 135, rfl⟩
abbrev main_call9_v0 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102_0 : Ref sig .tc := ⟨.hbm, 140, rfl⟩
abbrev main_v102_1 : Ref sig .tc := ⟨.hbm, 141, rfl⟩
abbrev main_v102_2 : Ref sig .tc := ⟨.hbm, 142, rfl⟩
abbrev main_v102_3 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 11], ![false, false]⟩

@[reducible] def k0_t1_loop (i : grid0.Coords) : Scf.Loop 32 :=
  let c0_i32_32 : BitVec 32 := 0#32
  let arg1 : BitVec 32 := BitVec.ofNat 32 (i 1).val
  let v102 : BitVec 32 := Scalar.subi arg1 c0_i32_32
  let c1_i32_33 : BitVec 32 := 1#32
  let v104 : BitVec 32 := Scalar.divsi v102 c1_i32_33
  let v105 : BitVec 32 := Scalar.muli v104 c1_i32_33
  let v106 : BitVec 32 := Scalar.addi c0_i32_32 v105
  let c1_i32_34 : BitVec 32 := 1#32
  ⟨c0_i32_32, v106, c1_i32_34⟩
def k0_mult1 (i : grid0.Coords) (k0_t1 : Fin (k0_t1_loop i).trips) : BitVec 32 :=
  let c0_i32_32 : BitVec 32 := 0#32
  let c1_i32_34 : BitVec 32 := 1#32
  let arg14 : BitVec 32 := Scf.iv c0_i32_32 c1_i32_34 k0_t1
  let c768_i32_106 : BitVec 32 := 768#32
  let v341 : BitVec 32 := Scalar.muli arg14 c768_i32_106
  v341
def k0_off1 (i : grid0.Coords) (k0_t1 : Fin (k0_t1_loop i).trips) : Fin 2 → Nat :=
  let c0_i32_32 : BitVec 32 := 0#32
  let c1_i32_34 : BitVec 32 := 1#32
  let arg14 : BitVec 32 := Scf.iv c0_i32_32 c1_i32_34 k0_t1
  let c768_i32_106 : BitVec 32 := 768#32
  let v341 : BitVec 32 := Scalar.muli arg14 c768_i32_106
  let v342 : BitVec 32 := v341
  let v343 : Index := Scalar.indexCast v342
  let c0_107 : Index := 0#32
  ![v343.toNat, 0]
def k0_off2 (i : grid0.Coords) (k0_t1 : Fin (k0_t1_loop i).trips) : Fin 3 → Nat :=
  let c0_115 : Index := 0#32
  let c0_116 : Index := 0#32
  let c0_i32_32 : BitVec 32 := 0#32
  let c1_i32_34 : BitVec 32 := 1#32
  let arg14 : BitVec 32 := Scf.iv c0_i32_32 c1_i32_34 k0_t1
  let c768_i32_106 : BitVec 32 := 768#32
  let v341 : BitVec 32 := Scalar.muli arg14 c768_i32_106
  let v342 : BitVec 32 := v341
  let v367 : Index := Scalar.indexCast v342
  ![0, 0, v367.toNat]
def k0_off3 (i : grid0.Coords) (k0_t1 : Fin (k0_t1_loop i).trips) : Fin 3 → Nat :=
  let c0_126 : Index := 0#32
  let c1_127 : Index := 1#32
  let c0_i32_32 : BitVec 32 := 0#32
  let c1_i32_34 : BitVec 32 := 1#32
  let arg14 : BitVec 32 := Scf.iv c0_i32_32 c1_i32_34 k0_t1
  let c768_i32_106 : BitVec 32 := 768#32
  let v341 : BitVec 32 := Scalar.muli arg14 c768_i32_106
  let v342 : BitVec 32 := v341
  let v394 : Index := Scalar.indexCast v342
  ![0, 1, v394.toNat]
@[reducible] def k0_t2_loop (i : grid0.Coords) : Scf.Loop 32 :=
  let c0_i32_32 : BitVec 32 := 0#32
  let arg1 : BitVec 32 := BitVec.ofNat 32 (i 1).val
  let v102 : BitVec 32 := Scalar.subi arg1 c0_i32_32
  let c1_i32_33 : BitVec 32 := 1#32
  let v104 : BitVec 32 := Scalar.divsi v102 c1_i32_33
  let v105 : BitVec 32 := Scalar.muli v104 c1_i32_33
  let v106 : BitVec 32 := Scalar.addi c0_i32_32 v105
  let v103 : BitVec 32 := Scalar.addi c0_i32_32 v102
  let c1_i32_35 : BitVec 32 := 1#32
  ⟨v106, v103, c1_i32_35⟩
def k0_mult2 (i : grid0.Coords) (k0_t2 : Fin (k0_t2_loop i).trips) : BitVec 32 :=
  let c0_i32_32 : BitVec 32 := 0#32
  let arg1 : BitVec 32 := BitVec.ofNat 32 (i 1).val
  let v102 : BitVec 32 := Scalar.subi arg1 c0_i32_32
  let c1_i32_33 : BitVec 32 := 1#32
  let v104 : BitVec 32 := Scalar.divsi v102 c1_i32_33
  let v105 : BitVec 32 := Scalar.muli v104 c1_i32_33
  let v106 : BitVec 32 := Scalar.addi c0_i32_32 v105
  let c1_i32_35 : BitVec 32 := 1#32
  let arg14 : BitVec 32 := Scf.iv v106 c1_i32_35 k0_t2
  let c768_i32_106 : BitVec 32 := 768#32
  let v341 : BitVec 32 := Scalar.muli arg14 c768_i32_106
  v341
def k0_off4 (i : grid0.Coords) (k0_t2 : Fin (k0_t2_loop i).trips) : Fin 2 → Nat :=
  let c0_i32_32 : BitVec 32 := 0#32
  let arg1 : BitVec 32 := BitVec.ofNat 32 (i 1).val
  let v102 : BitVec 32 := Scalar.subi arg1 c0_i32_32
  let c1_i32_33 : BitVec 32 := 1#32
  let v104 : BitVec 32 := Scalar.divsi v102 c1_i32_33
  let v105 : BitVec 32 := Scalar.muli v104 c1_i32_33
  let v106 : BitVec 32 := Scalar.addi c0_i32_32 v105
  let c1_i32_35 : BitVec 32 := 1#32
  let arg14 : BitVec 32 := Scf.iv v106 c1_i32_35 k0_t2
  let c768_i32_106 : BitVec 32 := 768#32
  let v341 : BitVec 32 := Scalar.muli arg14 c768_i32_106
  let v342 : BitVec 32 := v341
  let v343 : Index := Scalar.indexCast v342
  let c0_107 : Index := 0#32
  ![v343.toNat, 0]
def k0_off5 (i : grid0.Coords) (k0_t2 : Fin (k0_t2_loop i).trips) : Fin 3 → Nat :=
  let c0_115 : Index := 0#32
  let c0_116 : Index := 0#32
  let c0_i32_32 : BitVec 32 := 0#32
  let arg1 : BitVec 32 := BitVec.ofNat 32 (i 1).val
  let v102 : BitVec 32 := Scalar.subi arg1 c0_i32_32
  let c1_i32_33 : BitVec 32 := 1#32
  let v104 : BitVec 32 := Scalar.divsi v102 c1_i32_33
  let v105 : BitVec 32 := Scalar.muli v104 c1_i32_33
  let v106 : BitVec 32 := Scalar.addi c0_i32_32 v105
  let c1_i32_35 : BitVec 32 := 1#32
  let arg14 : BitVec 32 := Scf.iv v106 c1_i32_35 k0_t2
  let c768_i32_106 : BitVec 32 := 768#32
  let v341 : BitVec 32 := Scalar.muli arg14 c768_i32_106
  let v342 : BitVec 32 := v341
  let v367 : Index := Scalar.indexCast v342
  ![0, 0, v367.toNat]
def k0_off6 (i : grid0.Coords) (k0_t2 : Fin (k0_t2_loop i).trips) : Fin 3 → Nat :=
  let c0_126 : Index := 0#32
  let c1_127 : Index := 1#32
  let c0_i32_32 : BitVec 32 := 0#32
  let arg1 : BitVec 32 := BitVec.ofNat 32 (i 1).val
  let v102 : BitVec 32 := Scalar.subi arg1 c0_i32_32
  let c1_i32_33 : BitVec 32 := 1#32
  let v104 : BitVec 32 := Scalar.divsi v102 c1_i32_33
  let v105 : BitVec 32 := Scalar.muli v104 c1_i32_33
  let v106 : BitVec 32 := Scalar.addi c0_i32_32 v105
  let c1_i32_35 : BitVec 32 := 1#32
  let arg14 : BitVec 32 := Scf.iv v106 c1_i32_35 k0_t2
  let c768_i32_106 : BitVec 32 := 768#32
  let v341 : BitVec 32 := Scalar.muli arg14 c768_i32_106
  let v342 : BitVec 32 := v341
  let v394 : Index := Scalar.indexCast v342
  ![0, 1, v394.toNat]
def k0_mult3 (i : grid0.Coords) : BitVec 32 :=
  let arg1 : BitVec 32 := BitVec.ofNat 32 (i 1).val
  let c768_i32 : BitVec 32 := 768#32
  let v109 : BitVec 32 := Scalar.muli arg1 c768_i32
  v109
def k0_off7 (i : grid0.Coords) : Fin 2 → Nat :=
  let arg1 : BitVec 32 := BitVec.ofNat 32 (i 1).val
  let c768_i32 : BitVec 32 := 768#32
  let v109 : BitVec 32 := Scalar.muli arg1 c768_i32
  let v110 : BitVec 32 := v109
  let v111 : Index := Scalar.indexCast v110
  let c0_36 : Index := 0#32
  ![v111.toNat, 0]
def k0_off8 (i : grid0.Coords) : Fin 3 → Nat :=
  let c0_48 : Index := 0#32
  let c0_49 : Index := 0#32
  let arg1 : BitVec 32 := BitVec.ofNat 32 (i 1).val
  let c768_i32 : BitVec 32 := 768#32
  let v109 : BitVec 32 := Scalar.muli arg1 c768_i32
  let v110 : BitVec 32 := v109
  let v156 : Index := Scalar.indexCast v110
  ![0, 0, v156.toNat]
def k0_off9 (i : grid0.Coords) : Fin 3 → Nat :=
  let c0_60 : Index := 0#32
  let c1 : Index := 1#32
  let arg1 : BitVec 32 := BitVec.ofNat 32 (i 1).val
  let c768_i32 : BitVec 32 := 768#32
  let v109 : BitVec 32 := Scalar.muli arg1 c768_i32
  let v110 : BitVec 32 := v109
  let v185 : Index := Scalar.indexCast v110
  ![0, 1, v185.toNat]
def k0_mult4 (i : grid0.Coords) : BitVec 32 :=
  let arg1 : BitVec 32 := BitVec.ofNat 32 (i 1).val
  let c768_i32 : BitVec 32 := 768#32
  let v109 : BitVec 32 := Scalar.muli arg1 c768_i32
  let v110 : BitVec 32 := v109
  let c512_i32 : BitVec 32 := 512#32
  let v215 : BitVec 32 := Scalar.addi v110 c512_i32
  v215
def k0_off10 (i : grid0.Coords) : Fin 2 → Nat :=
  let arg1 : BitVec 32 := BitVec.ofNat 32 (i 1).val
  let c768_i32 : BitVec 32 := 768#32
  let v109 : BitVec 32 := Scalar.muli arg1 c768_i32
  let v110 : BitVec 32 := v109
  let c512_i32 : BitVec 32 := 512#32
  let v215 : BitVec 32 := Scalar.addi v110 c512_i32
  let v216 : BitVec 32 := v215
  let v219 : Index := Scalar.indexCast v216
  let c0_69 : Index := 0#32
  ![v219.toNat, 0]
def k0_off11 (i : grid0.Coords) : Fin 3 → Nat :=
  let c0_82 : Index := 0#32
  let c0_83 : Index := 0#32
  let arg1 : BitVec 32 := BitVec.ofNat 32 (i 1).val
  let c768_i32 : BitVec 32 := 768#32
  let v109 : BitVec 32 := Scalar.muli arg1 c768_i32
  let v110 : BitVec 32 := v109
  let c512_i32 : BitVec 32 := 512#32
  let v215 : BitVec 32 := Scalar.addi v110 c512_i32
  let v216 : BitVec 32 := v215
  let v270 : Index := Scalar.indexCast v216
  ![0, 0, v270.toNat]
def k0_off12 (i : grid0.Coords) : Fin 3 → Nat :=
  let c0_94 : Index := 0#32
  let c1_95 : Index := 1#32
  let arg1 : BitVec 32 := BitVec.ofNat 32 (i 1).val
  let c768_i32 : BitVec 32 := 768#32
  let v109 : BitVec 32 := Scalar.muli arg1 c768_i32
  let v110 : BitVec 32 := v109
  let c512_i32 : BitVec 32 := 512#32
  let v215 : BitVec 32 := Scalar.addi v110 c512_i32
  let v216 : BitVec 32 := v215
  let v303 : Index := Scalar.indexCast v216
  ![0, 1, v303.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S768x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S768x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S768x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S768x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S768x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S8448x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8448x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8448x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S768x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8448x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S8448x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x8x8448 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== AttnBwdIdeal.lean ====
variable {F : FTy → Type} [FloatOps F] [Named F]
def κ : String → Option EReal := fun
  | "mask" => some ⊥
  | _ => none
-- ==== AttnBwdRefIdeal.lean ====
abbrev S16x8208x64 : Shape := ⟨3, ![16, 8208, 64]⟩
abbrev S16x8208 : Shape := ⟨2, ![16, 8208]⟩
abbrev S16x8208x8208 : Shape := ⟨3, ![16, 8208, 8208]⟩
abbrev S_ : Shape := ⟨0, ![]⟩
abbrev S16x8208x1 : Shape := ⟨3, ![16, 8208, 1]⟩
abbrev S16x1x8208 : Shape := ⟨3, ![16, 1, 8208]⟩
abbrev S8208 : Shape := ⟨1, ![8208]⟩
abbrev S1x8208 : Shape := ⟨2, ![1, 8208]⟩
abbrev S8208x1 : Shape := ⟨2, ![8208, 1]⟩
abbrev S8208x8208 : Shape := ⟨2, ![8208, 8208]⟩
abbrev S16x64x8208 : Shape := ⟨3, ![16, 64, 8208]⟩
abbrev S8x2x8208 : Shape := ⟨3, ![8, 2, 8208]⟩
abbrev S8x8x8448 : Shape := ⟨3, ![8, 8, 8448]⟩
abbrev S16x8448x64 : Shape := ⟨3, ![16, 8448, 64]⟩
abbrev S8448x16x64 : Shape := ⟨3, ![8448, 16, 64]⟩
abbrev S8448x1024 : Shape := ⟨2, ![8448, 1024]⟩

abbrev nBuf : Space → Nat
  | .hbm => 130
  | .vmem => 0
  | .smem => 0
  | _ => 0

abbrev hbmTy0_0 (i : Nat) : BufTy := match i % 128 with
  | 0 => ⟨S16x8208x64, .f32⟩
  | 1 => ⟨S16x8208x64, .f32⟩
  | 2 => ⟨S16x8208x64, .f32⟩
  | 3 => ⟨S16x8208, .f32⟩
  | 4 => ⟨S16x8208x64, .f32⟩
  | 5 => ⟨S16x8208x8208, .f32⟩
  | 6 => ⟨S_, .f32⟩
  | 7 => ⟨S16x8208x8208, .f32⟩
  | 8 => ⟨S16x8208x8208, .f32⟩
  | 9 => ⟨S16x8208x1, .f32⟩
  | 10 => ⟨S16x1x8208, .f32⟩
  | 11 => ⟨S16x8208x8208, .f32⟩
  | 12 => ⟨S16x8208x8208, .f32⟩
  | 13 => ⟨S16x8208x8208, .f32⟩
  | 14 => ⟨S16x8208x8208, .f32⟩
  | 15 => ⟨S8208, .i32⟩
  | 16 => ⟨S1x8208, .i32⟩
  | 17 => ⟨S8208x1, .i32⟩
  | 18 => ⟨S8208x8208, .i32⟩
  | 19 => ⟨S8208x8208, .i32⟩
  | 20 => ⟨S8208x8208, .i1⟩
  | 21 => ⟨S_, .f32⟩
  | 22 => ⟨S_, .f32⟩
  | 23 => ⟨S16x8208x8208, .i1⟩
  | 24 => ⟨S16x8208x8208, .f32⟩
  | 25 => ⟨S16x8208x8208, .f32⟩
  | 26 => ⟨S_, .f32⟩
  | 27 => ⟨S16x8208x8208, .f32⟩
  | 28 => ⟨S_, .f32⟩
  | 29 => ⟨S16x8208, .f32⟩
  | 30 => ⟨S16x8208x1, .f32⟩
  | 31 => ⟨S16x8208x8208, .f32⟩
  | 32 => ⟨S16x8208x8208, .i1⟩
  | 33 => ⟨S16x8208x8208, .f32⟩
  | 34 => ⟨S_, .f32⟩
  | 35 => ⟨S16x8208, .f32⟩
  | 36 => ⟨S_, .f32⟩
  | 37 => ⟨S16x8208, .f32⟩
  | 38 => ⟨S16x8208, .f32⟩
  | 39 => ⟨S_, .f32⟩
  | 40 => ⟨S16x8208, .f32⟩
  | 41 => ⟨S16x8208, .i1⟩
  | 42 => ⟨S_, .f32⟩
  | 43 => ⟨S16x8208, .f32⟩
  | 44 => ⟨S16x8208, .i1⟩
  | 45 => ⟨S_, .f32⟩
  | 46 => ⟨S16x8208, .f32⟩
  | 47 => ⟨S_, .f32⟩
  | 48 => ⟨S16x8208, .f32⟩
  | 49 => ⟨S_, .f32⟩
  | 50 => ⟨S16x8208, .f32⟩
  | 51 => ⟨S16x8208, .f32⟩
  | 52 => ⟨S16x8208, .f32⟩
  | 53 => ⟨S16x8208x1, .f32⟩
  | 54 => ⟨S16x8208x8208, .f32⟩
  | 55 => ⟨S16x8208x8208, .f32⟩
  | 56 => ⟨S16x8208x8208, .f32⟩
  | 57 => ⟨S_, .f32⟩
  | 58 => ⟨S16x8208, .f32⟩
  | 59 => ⟨S16x8208x1, .f32⟩
  | 60 => ⟨S16x8208x8208, .f32⟩
  | 61 => ⟨S16x8208x8208, .f32⟩
  | 62 => ⟨S16x8208x1, .f32⟩
  | 63 => ⟨S_, .f32⟩
  | 64 => ⟨S16x8208x1, .f32⟩
  | 65 => ⟨S16x8208x1, .f32⟩
  | 66 => ⟨S16x8208x64, .f32⟩
  | 67 => ⟨S16x64x8208, .f32⟩
  | 68 => ⟨S16x8208x64, .f32⟩
  | 69 => ⟨S16x8208x8208, .f32⟩
  | 70 => ⟨S16x8208x8208, .f32⟩
  | 71 => ⟨S16x8208x8208, .f32⟩
  | 72 => ⟨S16x8208x8208, .f32⟩
  | 73 => ⟨S_, .f32⟩
  | 74 => ⟨S16x8208, .f32⟩
  | 75 => ⟨S16x8208x1, .f32⟩
  | 76 => ⟨S16x8208x1, .f32⟩
  | 77 => ⟨S16x8208x8208, .f32⟩
  | 78 => ⟨S16x8208x8208, .f32⟩
  | 79 => ⟨S_, .f32⟩
  | 80 => ⟨S16x8208, .f32⟩
  | 81 => ⟨S16x8208x8208, .f32⟩
  | 82 => ⟨S16x8208x8208, .f32⟩
  | 83 => ⟨S16x8208x8208, .f32⟩
  | 84 => ⟨S_, .f32⟩
  | 85 => ⟨S16x8208x8208, .f32⟩
  | 86 => ⟨S16x8208x8208, .f32⟩
  | 87 => ⟨S_, .f32⟩
  | 88 => ⟨S16x8208, .f32⟩
  | 89 => ⟨S16x8208x1, .f32⟩
  | 90 => ⟨S16x8208x8208, .f32⟩
  | 91 => ⟨S_, .f32⟩
  | 92 => ⟨S16x8208, .f32⟩
  | 93 => ⟨S16x1x8208, .f32⟩
  | 94 => ⟨S_, .f32⟩
  | 95 => ⟨S16x8208, .f32⟩
  | 96 => ⟨S_, .f32⟩
  | 97 => ⟨S16x8208, .f32⟩
  | 98 => ⟨S16x8208, .f32⟩
  | 99 => ⟨S_, .f32⟩
  | 100 => ⟨S16x8208x8208, .f32⟩
  | 101 => ⟨S16x8208x8208, .f32⟩
  | 102 => ⟨S16x8208x64, .f32⟩
  | 103 => ⟨S16x8208x64, .f32⟩
  | 104 => ⟨S8x2x8208, .f32⟩
  | 105 => ⟨S_, .i32⟩
  | 106 => ⟨S_, .f32⟩
  | 107 => ⟨S8x8x8448, .f32⟩
  | 108 => ⟨S_, .f32⟩
  | 109 => ⟨S16x8208x64, .f32⟩
  | 110 => ⟨S16x8208x64, .f32⟩
  | 111 => ⟨S_, .i32⟩
  | 112 => ⟨S_, .f32⟩
  | 113 => ⟨S16x8448x64, .f32⟩
  | 114 => ⟨S8448x16x64, .f32⟩
  | 115 => ⟨S8448x1024, .f32⟩
  | 116 => ⟨S_, .f32⟩
  | 117 => ⟨S_, .f32⟩
  | 118 => ⟨S16x8208x64, .f32⟩
  | 119 => ⟨S16x8208x64, .f32⟩
  | 120 => ⟨S_, .i32⟩
  | 121 => ⟨S_, .f32⟩
  | 122 => ⟨S16x8448x64, .f32⟩
  | 123 => ⟨S8448x16x64, .f32⟩
  | 124 => ⟨S8448x1024, .f32⟩
  | 125 => ⟨S_, .i32⟩
  | 126 => ⟨S_, .f32⟩
  | 127 => ⟨S16x8448x64, .f32⟩
  | _ => ⟨S16x8208x64, .f32⟩

abbrev hbmTy0_1 (i : Nat) : BufTy := match i % 128 with
  | 0 => ⟨S8448x16x64, .f32⟩
  | 1 => ⟨S8448x1024, .f32⟩
  | _ => ⟨S16x8208x64, .f32⟩

abbrev hbmTy (i : Nat) : BufTy := match i / 128 with
  | 0 => hbmTy0_0 i
  | 1 => hbmTy0_1 i
  | _ => ⟨S16x8208x64, .f32⟩

abbrev bufTy : (tb : Table) → Fin (tcTables nBuf tb) → BufTy
  | .hbm, ⟨i, _⟩ => hbmTy i
  | _, _ => ⟨S16x8208x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_call0_v0 : Ref sig .tc := ⟨.hbm, 22, rfl⟩
abbrev main_v15_1 : Ref sig .tc := ⟨.hbm, 23, rfl⟩
abbrev main_call0_v2 : Ref sig .tc := ⟨.hbm, 24, rfl⟩
abbrev main_v15_0 : Ref sig .tc := ⟨.hbm, 25, rfl⟩
abbrev main_call0_cst : Ref sig .tc := ⟨.hbm, 26, rfl⟩
abbrev main_v15_2 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_cst_8 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_10 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_11 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_12 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_call1_cst : Ref sig .tc := ⟨.hbm, 84, rfl⟩
abbrev main_call1_v0 : Ref sig .tc := ⟨.hbm, 85, rfl⟩
abbrev main_v60 : Ref sig .tc := ⟨.hbm, 86, rfl⟩
abbrev main_cst_13 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_14 : Ref sig .tc := ⟨.hbm, 91, rfl⟩
abbrev main_v64 : Ref sig .tc := ⟨.hbm, 92, rfl⟩
abbrev main_v65 : Ref sig .tc := ⟨.hbm, 93, rfl⟩
abbrev main_cst_15 : Ref sig .tc := ⟨.hbm, 94, rfl⟩
abbrev main_v66 : Ref sig .tc := ⟨.hbm, 95, rfl⟩
abbrev main_cst_16 : Ref sig .tc := ⟨.hbm, 96, rfl⟩
abbrev main_v67 : Ref sig .tc := ⟨.hbm, 97, rfl⟩
abbrev main_v68 : Ref sig .tc := ⟨.hbm, 98, rfl⟩
abbrev main_cst_17 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_c : Ref sig .tc := ⟨.hbm, 105, rfl⟩
abbrev main_call2_v0 : Ref sig .tc := ⟨.hbm, 106, rfl⟩
abbrev main_v74 : Ref sig .tc := ⟨.hbm, 107, rfl⟩
abbrev main_cst_18 : Ref sig .tc := ⟨.hbm, 108, rfl⟩
abbrev main_v75 : Ref sig .tc := ⟨.hbm, 109, rfl⟩
abbrev main_v76 : Ref sig .tc := ⟨.hbm, 110, rfl⟩
abbrev main_c_19 : Ref sig .tc := ⟨.hbm, 111, rfl⟩
abbrev main_call3_v0 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_cst_20 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_c_21 : Ref sig .tc := ⟨.hbm, 120, rfl⟩
abbrev main_call4_v0 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_c_22 : Ref sig .tc := ⟨.hbm, 125, rfl⟩
abbrev main_call5_v0 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩

abbrev nD : Nat := 1
abbrev τ : Topo := Topo.v7x

variable {F : FTy → Type} [FloatOps F]
-- ==== FfnIn.lean ====
abbrev S8448x1024 : Shape := ⟨2, ![8448, 1024]⟩
abbrev S1024 : Shape := ⟨1, ![1024]⟩
abbrev S1024x5632 : Shape := ⟨2, ![1024, 5632]⟩
abbrev S8448x5632 : Shape := ⟨2, ![8448, 5632]⟩
abbrev S1x1024 : Shape := ⟨2, ![1, 1024]⟩
abbrev S384x5632 : Shape := ⟨2, ![384, 5632]⟩
abbrev S384x1024 : Shape := ⟨2, ![384, 1024]⟩
abbrev S384 : Shape := ⟨1, ![384]⟩
abbrev S384x1 : Shape := ⟨2, ![384, 1]⟩

abbrev nBuf : Space → Nat
  | .hbm => 11
  | .vmem => 13
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S1024x5632, .f32⟩
  | .hbm, ⟨3, _⟩ => ⟨S8448x1024, .f32⟩
  | .hbm, ⟨4, _⟩ => ⟨S8448x5632, .f32⟩
  | .hbm, ⟨5, _⟩ => ⟨S8448x5632, .bf16⟩
  | .hbm, ⟨6, _⟩ => ⟨S1024x5632, .bf16⟩
  | .hbm, ⟨7, _⟩ => ⟨S1x1024, .f32⟩
  | .hbm, ⟨8, _⟩ => ⟨S8448x1024, .f32⟩
  | .hbm, ⟨9, _⟩ => ⟨S8448x1024, .bf16⟩
  | .hbm, ⟨10, _⟩ => ⟨S1x1024, .f32⟩
  | .local _ .vmem, ⟨0, _⟩ => ⟨S384x5632, .bf16⟩
  | .local _ .vmem, ⟨1, _⟩ => ⟨S384x5632, .bf16⟩
  | .local _ .vmem, ⟨2, _⟩ => ⟨S1024x5632, .bf16⟩
  | .local _ .vmem, ⟨3, _⟩ => ⟨S384x1024, .f32⟩
  | .local _ .vmem, ⟨4, _⟩ => ⟨S384x1024, .f32⟩
  | .local _ .vmem, ⟨5, _⟩ => ⟨S1x1024, .f32⟩
  | .local _ .vmem, ⟨6, _⟩ => ⟨S384x1024, .f32⟩
  | .local _ .vmem, ⟨7, _⟩ => ⟨S384x1024, .f32⟩
  | .local _ .vmem, ⟨8, _⟩ => ⟨S384x1024, .f32⟩
  | .local _ .vmem, ⟨9, _⟩ => ⟨S384x1024, .f32⟩
  | .local _ .vmem, ⟨10, _⟩ => ⟨S384x1024, .bf16⟩
  | .local _ .vmem, ⟨11, _⟩ => ⟨S384x1024, .bf16⟩
  | .local _ .vmem, ⟨12, _⟩ => ⟨S1x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== FfnInRefIdeal.lean ====
abbrev S8448x1024 : Shape := ⟨2, ![8448, 1024]⟩
abbrev S1024 : Shape := ⟨1, ![1024]⟩
abbrev S1024x5632 : Shape := ⟨2, ![1024, 5632]⟩
abbrev S8448x5632 : Shape := ⟨2, ![8448, 5632]⟩
abbrev S_ : Shape := ⟨0, ![]⟩
abbrev S8448 : Shape := ⟨1, ![8448]⟩
abbrev S8448x1 : Shape := ⟨2, ![8448, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S1024x5632, .f32⟩
  | .hbm, ⟨3, _⟩ => ⟨S8448x1024, .f32⟩
  | .hbm, ⟨4, _⟩ => ⟨S8448x5632, .f32⟩
  | .hbm, ⟨5, _⟩ => ⟨S8448x1024, .f32⟩
  | .hbm, ⟨6, _⟩ => ⟨S_, .f32⟩
  | .hbm, ⟨7, _⟩ => ⟨S8448, .f32⟩
  | .hbm, ⟨8, _⟩ => ⟨S8448x1, .f32⟩
  | .hbm, ⟨9, _⟩ => ⟨S_, .f32⟩
  | .hbm, ⟨10, _⟩ => ⟨S8448x1, .f32⟩
  | .hbm, ⟨11, _⟩ => ⟨S8448x1, .f32⟩
  | .hbm, ⟨12, _⟩ => ⟨S_, .f32⟩
  | .hbm, ⟨13, _⟩ => ⟨S8448x1, .f32⟩
  | .hbm, ⟨14, _⟩ => ⟨S8448x1, .f32⟩
  | .hbm, ⟨15, _⟩ => ⟨S8448x1, .f32⟩
  | .hbm, ⟨16, _⟩ => ⟨S8448x1, .f32⟩
  | .hbm, ⟨17, _⟩ => ⟨S_, .f32⟩
  | .hbm, ⟨18, _⟩ => ⟨S8448x1, .f32⟩
  | .hbm, ⟨19, _⟩ => ⟨S8448x1, .f32⟩
  | .hbm, ⟨20, _⟩ => ⟨S8448x1024, .f32⟩
  | .hbm, ⟨21, _⟩ => ⟨S8448x1024, .f32⟩
  | .hbm, ⟨22, _⟩ => ⟨S1x1024, .f32⟩
  | .hbm, ⟨23, _⟩ => ⟨S8448x1024, .f32⟩
  | .hbm, ⟨24, _⟩ => ⟨S8448x1024, .f32⟩
  | .hbm, ⟨25, _⟩ => ⟨S8448x5632, .f32⟩
  | .hbm, ⟨26, _⟩ => ⟨S8448x1024, .f32⟩
  | .hbm, ⟨27, _⟩ => ⟨S8448x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8448x1024, .f32⟩
  | .hbm, ⟨32, _⟩ => ⟨S8448x1024, .f32⟩
  | .hbm, ⟨33, _⟩ => ⟨S_, .f32⟩
  | .hbm, ⟨34, _⟩ => ⟨S1024, .f32⟩
  | .hbm, ⟨35, _⟩ => ⟨S8448x1024, .f32⟩
  | .hbm, ⟨36, _⟩ => ⟨S_, .f32⟩
  | .hbm, ⟨37, _⟩ => ⟨S8448, .f32⟩
  | .hbm, ⟨38, _⟩ => ⟨S8448x1, .f32⟩
  | .hbm, ⟨39, _⟩ => ⟨S8448x1024, .f32⟩
  | .hbm, ⟨40, _⟩ => ⟨S8448x1024, .f32⟩
  | .hbm, ⟨41, _⟩ => ⟨S8448x1024, .f32⟩
  | .hbm, ⟨42, _⟩ => ⟨S8448x1, .f32⟩
  | .hbm, ⟨43, _⟩ => ⟨S_, .f32⟩
  | .hbm, ⟨44, _⟩ => ⟨S8448x1, .f32⟩
  | .hbm, ⟨45, _⟩ => ⟨S8448x1, .f32⟩
  | .hbm, ⟨46, _⟩ => ⟨S_, .f32⟩
  | .hbm, ⟨47, _⟩ => ⟨S8448, .f32⟩
  | .hbm, ⟨48, _⟩ => ⟨S8448x1024, .f32⟩
  | .hbm, ⟨49, _⟩ => ⟨S8448x1024, .f32⟩
  | .hbm, ⟨50, _⟩ => ⟨S8448x1024, .f32⟩
  | .hbm, ⟨51, _⟩ => ⟨S8448x1024, .f32⟩
  | .hbm, ⟨52, _⟩ => ⟨S8448x1024, .f32⟩
  | .hbm, ⟨53, _⟩ => ⟨S8448x1024, .bf16⟩
  | .hbm, ⟨54, _⟩ => ⟨S1x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Loss.lean ====
abbrev S8208x1024 : Shape := ⟨2, ![8208, 1024]⟩
abbrev S1024 : Shape := ⟨1, ![1024]⟩
abbrev S8192x1024 : Shape := ⟨2, ![8192, 1024]⟩
abbrev S_ : Shape := ⟨0, ![]⟩
abbrev S8448x1024 : Shape := ⟨2, ![8448, 1024]⟩
abbrev S1x1024 : Shape := ⟨2, ![1, 1024]⟩
abbrev S8x128 : Shape := ⟨2, ![8, 128]⟩
abbrev S256x1024 : Shape := ⟨2, ![256, 1024]⟩
abbrev S256 : Shape := ⟨1, ![256]⟩
abbrev S256x1 : Shape := ⟨2, ![256, 1]⟩
abbrev S1x256 : Shape := ⟨2, ![1, 256]⟩
abbrev S1 : Shape := ⟨1, ![1]⟩
abbrev S1x1 : Shape := ⟨2, ![1, 1]⟩

abbrev nBuf : Space → Nat
  | .hbm => 11
  | .vmem => 11
  | .smem => 0
  | _ => 0

abbrev bufTy : (tb : Table) → Fin (tcTables nBuf tb) → BufTy
  | .hbm, ⟨0, _⟩ => ⟨S8208x1024, .f32⟩
  | .hbm, ⟨1, _⟩ => ⟨S1024, .f32⟩
  | .hbm, ⟨2, _⟩ => ⟨S8192x1024, .f32⟩
  | .hbm, ⟨3, _⟩ => ⟨S_, .i32⟩
  | .hbm, ⟨4, _⟩ => ⟨S_, .f32⟩
  | .hbm, ⟨5, _⟩ => ⟨S8448x1024, .f32⟩
  | .hbm, ⟨6, _⟩ => ⟨S1x1024, .f32⟩
  | .hbm, ⟨7, _⟩ => ⟨S8x128, .f32⟩
  | .hbm, ⟨8, _⟩ => ⟨S8448x1024, .f32⟩
  | .hbm, ⟨9, _⟩ => ⟨S8448x1024, .bf16⟩
  | .hbm, ⟨10, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S8x128, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S1x1024, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossRefIdeal.lean ====
abbrev S8208x1024 : Shape := ⟨2, ![8208, 1024]⟩
abbrev S1024 : Shape := ⟨1, ![1024]⟩
abbrev S8192x1024 : Shape := ⟨2, ![8192, 1024]⟩
abbrev S_ : Shape := ⟨0, ![]⟩
abbrev S8208 : Shape := ⟨1, ![8208]⟩
abbrev S8208x1 : Shape := ⟨2, ![8208, 1]⟩
abbrev S1x1024 : Shape := ⟨2, ![1, 1024]⟩
abbrev S8192 : Shape := ⟨1, ![8192]⟩
abbrev S8448x1024 : Shape := ⟨2, ![8448, 1024]⟩
abbrev S8x128 : Shape := ⟨2, ![8, 128]⟩

abbrev nBuf : Space → Nat
  | .hbm => 80
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S1024, .f32⟩
  | .hbm, ⟨2, _⟩ => ⟨S8192x1024, .f32⟩
  | .hbm, ⟨3, _⟩ => ⟨S8208x1024, .f32⟩
  | .hbm, ⟨4, _⟩ => ⟨S_, .f32⟩
  | .hbm, ⟨5, _⟩ => ⟨S8208, .f32⟩
  | .hbm, ⟨6, _⟩ => ⟨S8208x1, .f32⟩
  | .hbm, ⟨7, _⟩ => ⟨S_, .f32⟩
  | .hbm, ⟨8, _⟩ => ⟨S8208x1, .f32⟩
  | .hbm, ⟨9, _⟩ => ⟨S8208x1, .f32⟩
  | .hbm, ⟨10, _⟩ => ⟨S_, .f32⟩
  | .hbm, ⟨11, _⟩ => ⟨S8208x1, .f32⟩
  | .hbm, ⟨12, _⟩ => ⟨S8208x1, .f32⟩
  | .hbm, ⟨13, _⟩ => ⟨S8208x1, .f32⟩
  | .hbm, ⟨14, _⟩ => ⟨S8208x1, .f32⟩
  | .hbm, ⟨15, _⟩ => ⟨S_, .f32⟩
  | .hbm, ⟨16, _⟩ => ⟨S8208x1, .f32⟩
  | .hbm, ⟨17, _⟩ => ⟨S8208x1, .f32⟩
  | .hbm, ⟨18, _⟩ => ⟨S8208x1024, .f32⟩
  | .hbm, ⟨19, _⟩ => ⟨S8208x1024, .f32⟩
  | .hbm, ⟨20, _⟩ => ⟨S1x1024, .f32⟩
  | .hbm, ⟨21, _⟩ => ⟨S8208x1024, .f32⟩
  | .hbm, ⟨22, _⟩ => ⟨S8208x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8208x1024, .f32⟩
  | .hbm, ⟨49, _⟩ => ⟨S8208x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S8208x1024, .f32⟩
  | .hbm, ⟨54, _⟩ => ⟨S8208x1024, .f32⟩
  | .hbm, ⟨55, _⟩ => ⟨S_, .f32⟩
  | .hbm, ⟨56, _⟩ => ⟨S1024, .f32⟩
  | .hbm, ⟨57, _⟩ => ⟨S8208x1024, .f32⟩
  | .hbm, ⟨58, _⟩ => ⟨S_, .f32⟩
  | .hbm, ⟨59, _⟩ => ⟨S8208, .f32⟩
  | .hbm, ⟨60, _⟩ => ⟨S8208x1, .f32⟩
  | .hbm, ⟨61, _⟩ => ⟨S8208x1024, .f32⟩
  | .hbm, ⟨62, _⟩ => ⟨S8208x1024, .f32⟩
  | .hbm, ⟨63, _⟩ => ⟨S8208x1, .f32⟩
  | .hbm, ⟨64, _⟩ => ⟨S_, .f32⟩
  | .hbm, ⟨65, _⟩ => ⟨S8208x1, .f32⟩
  | .hbm, ⟨66, _⟩ => ⟨S8208x1, .f32⟩
  | .hbm, ⟨67, _⟩ => ⟨S_, .f32⟩
  | .hbm, ⟨68, _⟩ => ⟨S8208, .f32⟩
  | .hbm, ⟨69, _⟩ => ⟨S8208x1024, .f32⟩
  | .hbm, ⟨70, _⟩ => ⟨S8208x1024, .f32⟩
  | .hbm, ⟨71, _⟩ => ⟨S8208x1024, .f32⟩
  | .hbm, ⟨72, _⟩ => ⟨S8208x1024, .f32⟩
  | .hbm, ⟨73, _⟩ => ⟨S8208x1024, .f32⟩
  | .hbm, ⟨74, _⟩ => ⟨S_, .i32⟩
  | .hbm, ⟨75, _⟩ => ⟨S_, .f32⟩
  | .hbm, ⟨76, _⟩ => ⟨S8448x1024, .f32⟩
  | .hbm, ⟨77, _⟩ => ⟨S8x128, .f32⟩
  | .hbm, ⟨78, _⟩ => ⟨S8448x1024, .bf16⟩
  | .hbm, ⟨79, _⟩ => ⟨S1x1024, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_cst_12 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_cst_14 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_cst_16 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c : Ref sig .tc := ⟨.hbm, 74, rfl⟩
abbrev main_call0_v0 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩

abbrev nD : Nat := 1
abbrev τ : Topo := Topo.v7x

variable {F : FTy → Type} [FloatOps F]
-- ==== AttnFwd.lean ====
abbrev S16x8208x64 : Shape := ⟨3, ![16, 8208, 64]⟩
abbrev S16x8208 : Shape := ⟨2, ![16, 8208]⟩
abbrev S8208x1024 : Shape := ⟨2, ![8208, 1024]⟩
abbrev S_ : Shape := ⟨0, ![]⟩
abbrev S16x8448 : Shape := ⟨2, ![16, 8448]⟩
abbrev S16x8448x1 : Shape := ⟨3, ![16, 8448, 1]⟩
abbrev S16x8448x3 : Shape := ⟨3, ![16, 8448, 3]⟩
abbrev S16x8448x61 : Shape := ⟨3, ![16, 8448, 61]⟩
abbrev S16x8448x64 : Shape := ⟨3, ![16, 8448, 64]⟩
abbrev S8x8448x64 : Shape := ⟨3, ![8, 8448, 64]⟩
abbrev S8x8448x128 : Shape := ⟨3, ![8, 8448, 128]⟩
abbrev S8448x8x128 : Shape := ⟨3, ![8448, 8, 128]⟩
abbrev S8448x1024 : Shape := ⟨2, ![8448, 1024]⟩
abbrev S8208x16 : Shape := ⟨2, ![8208, 16]⟩
abbrev S8448x128 : Shape := ⟨2, ![8448, 128]⟩
abbrev S8448x4224 : Shape := ⟨2, ![8448, 4224]⟩
abbrev S8448x16x64 : Shape := ⟨3, ![8448, 16, 64]⟩
abbrev S768x128 : Shape := ⟨2, ![768, 128]⟩
abbrev S1x128 : Shape := ⟨2, ![1, 128]⟩
abbrev S768 : Shape := ⟨1, ![768]⟩
abbrev S768x1 : Shape := ⟨2, ![768, 1]⟩
abbrev S256x128 : Shape := ⟨2, ![256, 128]⟩
abbrev S768x256 : Shape := ⟨2, ![768, 256]⟩
abbrev S1x768 : Shape := ⟨2, ![1, 768]⟩
abbrev S768x768 : Shape := ⟨2, ![768, 768]⟩

abbrev nBuf : Space → Nat
  | .hbm => 79
  | .vmem => 20
  | .smem => 0
  | _ => 0

abbrev bufTy : (tb : Table) → Fin (tcTables nBuf tb) → BufTy
  | .hbm, ⟨0, _⟩ => ⟨S16x8208x64, .f32⟩
  | .hbm, ⟨1, _⟩ => ⟨S16x8208x64, .f32⟩
  | .hbm, ⟨2, _⟩ => ⟨S16x8208x64, .f32⟩
  | .hbm, ⟨3, _⟩ => ⟨S16x8208, .f32⟩
  | .hbm, ⟨4, _⟩ => ⟨S8208x1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S16x8208x64, .f32⟩
  | .hbm, ⟨10, _⟩ => ⟨S16x8208x64, .f32⟩
  | .hbm, ⟨11, _⟩ => ⟨S_, .f32⟩
  | .hbm, ⟨12, _⟩ => ⟨S_, .f32⟩
  | .hbm, ⟨13, _⟩ => ⟨S16x8208, .f32⟩
  | .hbm, ⟨14, _⟩ => ⟨S16x8208, .f32⟩
  | .hbm, ⟨15, _⟩ => ⟨S16x8448, .i32⟩
  | .hbm, ⟨16, _⟩ => ⟨S_, .i32⟩
  | .hbm, ⟨17, _⟩ => ⟨S_, .f32⟩
  | .hbm, ⟨18, _⟩ => ⟨S16x8448, .f32⟩
  | .hbm, ⟨19, _⟩ => ⟨S16x8448, .f32⟩
  | .hbm, ⟨20, _⟩ => ⟨S16x8448, .bf16⟩
  | .hbm, ⟨21, _⟩ => ⟨S16x8448, .f32⟩
  | .hbm, ⟨22, _⟩ => ⟨S16x8448, .f32⟩
  | .hbm, ⟨23, _⟩ => ⟨S16x8448, .bf16⟩
  | .hbm, ⟨24, _⟩ => ⟨S16x8448, .f32⟩
  | .hbm, ⟨25, _⟩ => ⟨S16x8448, .f32⟩
  | .hbm, ⟨26, _⟩ => ⟨S16x8448, .f32⟩
  | .hbm, ⟨27, _⟩ => ⟨S_, .i32⟩
  | .hbm, ⟨28, _⟩ => ⟨S16x8448, .i32⟩
  | .hbm, ⟨29, _⟩ => ⟨S16x8448, .i1⟩
  | .hbm, ⟨30, _⟩ => ⟨S_, .f32⟩
  | .hbm, ⟨31, _⟩ => ⟨S_, .f32⟩
  | .hbm, ⟨32, _⟩ => ⟨S16x8448, .f32⟩
  | .hbm, ⟨33, _⟩ => ⟨S16x8448, .f32⟩
  | .hbm, ⟨34, _⟩ => ⟨S16x8448x1, .f32⟩
  | .hbm, ⟨35, _⟩ => ⟨S16x8448x1, .f32⟩
  | .hbm, ⟨36, _⟩ => ⟨S16x8448x1, .f32⟩
  | .hbm, ⟨37, _⟩ => ⟨S16x8448x3, .f32⟩
  | .hbm, ⟨38, _⟩ => ⟨S_, .f32⟩
  | .hbm, ⟨39, _⟩ => ⟨S16x8448x61, .f32⟩
  | .hbm, ⟨40, _⟩ => ⟨S16x8448x64, .f32⟩
  | .hbm, ⟨41, _⟩ => ⟨S_, .i32⟩
  | .hbm, ⟨42, _⟩ => ⟨S_, .f32⟩
  | .hbm, ⟨43, _⟩ => ⟨S16x8448x64, .f32⟩
  | .hbm, ⟨44, _⟩ => ⟨S8x8448x64, .f32⟩
  | .hbm, ⟨45, _⟩ => ⟨S8x8448x64, .f32⟩
  | .hbm, ⟨46, _⟩ => ⟨S8x8448x128, .f32⟩
  | .hbm, ⟨47, _⟩ => ⟨S8x8448x64, .f32⟩
  | .hbm, ⟨48, _⟩ => ⟨S8x8448x64, .f32⟩
  | .hbm, ⟨49, _⟩ => ⟨S8x8448x128, .f32⟩
  | .hbm, ⟨50, _⟩ => ⟨S8448x8x128, .f32⟩
  | .hbm, ⟨51, _⟩ => ⟨S8448x1024, .f32⟩
  | .hbm, ⟨52, _⟩ => ⟨S8448x1024, .bf16⟩
  | .hbm, ⟨53, _⟩ => ⟨S8448x8x128, .f32⟩
  | .hbm, ⟨54, _⟩ => ⟨S8448x1024, .f32⟩
  | .hbm, ⟨55, _⟩ => ⟨S8448x1024, .bf16⟩
  | .hbm, ⟨56, _⟩ => ⟨S8208x16, .f32⟩
  | .hbm, ⟨57, _⟩ => ⟨S_, .i32⟩
  | .hbm, ⟨58, _⟩ => ⟨S_, .f32⟩
  | .hbm, ⟨59, _⟩ => ⟨S8448x128, .f32⟩
  | .hbm, ⟨60, _⟩ => ⟨S_, .i32⟩
  | .hbm, ⟨61, _⟩ => ⟨S_, .f32⟩
  | .hbm, ⟨62, _⟩ => ⟨S8448x4224, .f32⟩
  | .hbm, ⟨63, _⟩ => ⟨S_, .i32⟩
  | .hbm, ⟨64, _⟩ => ⟨S_, .f32⟩
  | .hbm, ⟨65, _⟩ => ⟨S16x8448x64, .f32⟩
  | .hbm, ⟨66, _⟩ => ⟨S8448x16x64, .f32⟩
  | .hbm, ⟨67, _⟩ => ⟨S8448x1024, .f32⟩
  | .hbm, ⟨68, _⟩ => ⟨S8448x1024, .bf16⟩
  | .hbm, ⟨69, _⟩ => ⟨S_, .i32⟩
  | .hbm, ⟨70, _⟩ => ⟨S_, .f32⟩
  | .hbm, ⟨71, _⟩ => ⟨S16x8448x64, .f32⟩
  | .hbm, ⟨72, _⟩ => ⟨S8448x16x64, .f32⟩
  | .hbm, ⟨73, _⟩ => ⟨S8448x1024, .f32⟩
  | .hbm, ⟨74, _⟩ => ⟨S8448x1024, .bf16⟩
  | .hbm, ⟨75, _⟩ => ⟨S8448x1024, .f32⟩
  | .hbm, ⟨76, _⟩ => ⟨S8448x1024, .bf16⟩
  | .hbm, ⟨77, _⟩ => ⟨S8448x1024, .f32⟩
  | .hbm, ⟨78, _⟩ => ⟨S8448x1024, .f32⟩
  | .local _ .vmem, ⟨0, _⟩ => ⟨S768x128, .bf16⟩
  | .local _ .vmem, ⟨1, _⟩ => ⟨S768x128, .bf16⟩
  | .local _ .vmem, ⟨2, _⟩ => ⟨S8448x128, .bf16⟩
  | .local _ .vmem, ⟨3, _⟩ => ⟨S8448x128, .bf16⟩
  | .local _ .vmem, ⟨4, _⟩ => ⟨S8448x128, .bf16⟩
  | .local _ .vmem, ⟨5, _⟩ => ⟨S8448x128, .bf16⟩
  | .local _ .vmem, ⟨6, _⟩ => ⟨S8448x128, .bf16⟩
  | .local _ .vmem, ⟨7, _⟩ => ⟨S8448x128, .bf16⟩
  | .local _ .vmem, ⟨8, _⟩ => ⟨S768x128, .f32⟩
  | .local _ .vmem, ⟨9, _⟩ => ⟨S768x128, .f32⟩
  | .local _ .vmem, ⟨10, _⟩ => ⟨S768x128, .f32⟩
  | .local _ .vmem, ⟨11, _⟩ => ⟨S768x128, .f32⟩
  | .local _ .vmem, ⟨12, _⟩ => ⟨S768x128, .f32⟩
  | .local _ .vmem, ⟨13, _⟩ => ⟨S768x128, .f32⟩
  | .local _ .vmem, ⟨14, _⟩ => ⟨S768x128, .bf16⟩
  | .local _ .vmem, ⟨15, _⟩ => ⟨S768x128, .bf16⟩
  | .local _ .vmem, ⟨16, _⟩ => ⟨S768x128, .f32⟩
  | .local _ .vmem, ⟨17, _⟩ => ⟨S768x128, .f32⟩
  | .local _ .vmem, ⟨18, _⟩ => ⟨S768x128, .f32⟩
  | .local _ .vmem, ⟨19, _⟩ => ⟨S768x128, .f32⟩
  | _, _ => ⟨S16x8208x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_call0_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_call1_v0 : Ref sig .tc := ⟨.hbm, 31, rfl⟩
abbrev main_call1_v1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_call2_v0 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_6 : Ref sig .tc := ⟨.hbm, 57, rfl⟩
abbrev main_call3_v0 : Ref sig .tc := ⟨.hbm, 58, rfl⟩
abbrev main_v40 : Ref sig .tc := ⟨.hbm, 59, rfl⟩
abbrev main_c_7 : Ref sig .tc := ⟨.hbm, 60, rfl⟩
abbrev main_call4_v0 : Ref sig .tc := ⟨.hbm, 61, rfl⟩
abbrev main_v41 : Ref sig .tc := ⟨.hbm, 62, rfl⟩
abbrev main_c_8 : Ref sig .tc := ⟨.hbm, 63, rfl⟩
abbrev main_call5_v0 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_9 : Ref sig .tc := ⟨.hbm, 69, rfl⟩
abbrev main_call6_v0 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50_0 : Ref sig .tc := ⟨.hbm, 75, rfl⟩
abbrev main_v50_1 : Ref sig .tc := ⟨.hbm, 76, rfl⟩
abbrev main_v50_2 : Ref sig .tc := ⟨.hbm, 77, rfl⟩
abbrev main_v50_3 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 11], ![false, false]⟩

@[reducible] def k0_t1_loop (i : grid0.Coords) : Scf.Loop 32 :=
  let c0_i32_16 : BitVec 32 := 0#32
  let arg1 : BitVec 32 := BitVec.ofNat 32 (i 1).val
  let v57 : BitVec 32 := Scalar.subi arg1 c0_i32_16
  let c1_i32_17 : BitVec 32 := 1#32
  let v59 : BitVec 32 := Scalar.divsi v57 c1_i32_17
  let v60 : BitVec 32 := Scalar.muli v59 c1_i32_17
  let v61 : BitVec 32 := Scalar.addi c0_i32_16 v60
  let c1_i32_18 : BitVec 32 := 1#32
  ⟨c0_i32_16, v61, c1_i32_18⟩
def k0_mult1 (i : grid0.Coords) (k0_t1 : Fin (k0_t1_loop i).trips) : BitVec 32 :=
  let c0_i32_16 : BitVec 32 := 0#32
  let c1_i32_18 : BitVec 32 := 1#32
  let arg12 : BitVec 32 := Scf.iv c0_i32_16 c1_i32_18 k0_t1
  let c768_i32_48 : BitVec 32 := 768#32
  let v168 : BitVec 32 := Scalar.muli arg12 c768_i32_48
  let c0_i32_49 : BitVec 32 := 0#32
  let v169 : BitVec 32 := Scalar.addi v168 c0_i32_49
  v169
def k0_off1 (i : grid0.Coords) (k0_t1 : Fin (k0_t1_loop i).trips) (c0_i32_49 : BitVec 32) : Fin 2 → Nat :=
  let c0_i32_16 : BitVec 32 := 0#32
  let c1_i32_18 : BitVec 32 := 1#32
  let arg12 : BitVec 32 := Scf.iv c0_i32_16 c1_i32_18 k0_t1
  let c768_i32_48 : BitVec 32 := 768#32
  let v168 : BitVec 32 := Scalar.muli arg12 c768_i32_48
  let v169 : BitVec 32 := Scalar.addi v168 c0_i32_49
  let v170 : BitVec 32 := v169
  let v171 : Index := Scalar.indexCast v170
  let c0_50 : Index := 0#32
  ![v171.toNat, 0]
def k0_mult2 (i : grid0.Coords) (k0_t1 : Fin (k0_t1_loop i).trips) : BitVec 32 :=
  let c0_i32_16 : BitVec 32 := 0#32
  let c1_i32_18 : BitVec 32 := 1#32
  let arg12 : BitVec 32 := Scf.iv c0_i32_16 c1_i32_18 k0_t1
  let c768_i32_59 : BitVec 32 := 768#32
  let v222 : BitVec 32 := Scalar.muli arg12 c768_i32_59
  let c256_i32 : BitVec 32 := 256#32
  let v223 : BitVec 32 := Scalar.addi v222 c256_i32
  v223
def k0_mult3 (i : grid0.Coords) (k0_t1 : Fin (k0_t1_loop i).trips) : BitVec 32 :=
  let c0_i32_16 : BitVec 32 := 0#32
  let c1_i32_18 : BitVec 32 := 1#32
  let arg12 : BitVec 32 := Scf.iv c0_i32_16 c1_i32_18 k0_t1
  let c768_i32_69 : BitVec 32 := 768#32
  let v276 : BitVec 32 := Scalar.muli arg12 c768_i32_69
  let c512_i32 : BitVec 32 := 512#32
  let v277 : BitVec 32 := Scalar.addi v276 c512_i32
  v277
@[reducible] def k0_t2_loop (i : grid0.Coords) : Scf.Loop 32 :=
  let c0_i32_16 : BitVec 32 := 0#32
  let arg1 : BitVec 32 := BitVec.ofNat 32 (i 1).val
  let v57 : BitVec 32 := Scalar.subi arg1 c0_i32_16
  let c1_i32_17 : BitVec 32 := 1#32
  let v59 : BitVec 32 := Scalar.divsi v57 c1_i32_17
  let v60 : BitVec 32 := Scalar.muli v59 c1_i32_17
  let v61 : BitVec 32 := Scalar.addi c0_i32_16 v60
  let v58 : BitVec 32 := Scalar.addi c0_i32_16 v57
  let c1_i32_19 : BitVec 32 := 1#32
  ⟨v61, v58, c1_i32_19⟩
def k0_mult4 (i : grid0.Coords) (k0_t2 : Fin (k0_t2_loop i).trips) : BitVec 32 :=
  let c0_i32_16 : BitVec 32 := 0#32
  let arg1 : BitVec 32 := BitVec.ofNat 32 (i 1).val
  let v57 : BitVec 32 := Scalar.subi arg1 c0_i32_16
  let c1_i32_17 : BitVec 32 := 1#32
  let v59 : BitVec 32 := Scalar.divsi v57 c1_i32_17
  let v60 : BitVec 32 := Scalar.muli v59 c1_i32_17
  let v61 : BitVec 32 := Scalar.addi c0_i32_16 v60
  let c1_i32_19 : BitVec 32 := 1#32
  let arg12 : BitVec 32 := Scf.iv v61 c1_i32_19 k0_t2
  let c768_i32_48 : BitVec 32 := 768#32
  let v168 : BitVec 32 := Scalar.muli arg12 c768_i32_48
  let c0_i32_49 : BitVec 32 := 0#32
  let v169 : BitVec 32 := Scalar.addi v168 c0_i32_49
  v169
def k0_off2 (i : grid0.Coords) (k0_t2 : Fin (k0_t2_loop i).trips) (c0_i32_49 : BitVec 32) : Fin 2 → Nat :=
  let c0_i32_16 : BitVec 32 := 0#32
  let arg1 : BitVec 32 := BitVec.ofNat 32 (i 1).val
  let v57 : BitVec 32 := Scalar.subi arg1 c0_i32_16
  let c1_i32_17 : BitVec 32 := 1#32
  let v59 : BitVec 32 := Scalar.divsi v57 c1_i32_17
  let v60 : BitVec 32 := Scalar.muli v59 c1_i32_17
  let v61 : BitVec 32 := Scalar.addi c0_i32_16 v60
  let c1_i32_19 : BitVec 32 := 1#32
  let arg12 : BitVec 32 := Scf.iv v61 c1_i32_19 k0_t2
  let c768_i32_48 : BitVec 32 := 768#32
  let v168 : BitVec 32 := Scalar.muli arg12 c768_i32_48
  let v169 : BitVec 32 := Scalar.addi v168 c0_i32_49
  let v170 : BitVec 32 := v169
  let v171 : Index := Scalar.indexCast v170
  let c0_50 : Index := 0#32
  ![v171.toNat, 0]
def k0_mult5 (i : grid0.Coords) (k0_t2 : Fin (k0_t2_loop i).trips) : BitVec 32 :=
  let c0_i32_16 : BitVec 32 := 0#32
  let arg1 : BitVec 32 := BitVec.ofNat 32 (i 1).val
  let v57 : BitVec 32 := Scalar.subi arg1 c0_i32_16
  let c1_i32_17 : BitVec 32 := 1#32
  let v59 : BitVec 32 := Scalar.divsi v57 c1_i32_17
  let v60 : BitVec 32 := Scalar.muli v59 c1_i32_17
  let v61 : BitVec 32 := Scalar.addi c0_i32_16 v60
  let c1_i32_19 : BitVec 32 := 1#32
  let arg12 : BitVec 32 := Scf.iv v61 c1_i32_19 k0_t2
  let c768_i32_59 : BitVec 32 := 768#32
  let v222 : BitVec 32 := Scalar.muli arg12 c768_i32_59
  let c256_i32 : BitVec 32 := 256#32
  let v223 : BitVec 32 := Scalar.addi v222 c256_i32
  v223
def k0_mult6 (i : grid0.Coords) (k0_t2 : Fin (k0_t2_loop i).trips) : BitVec 32 :=
  let c0_i32_16 : BitVec 32 := 0#32
  let arg1 : BitVec 32 := BitVec.ofNat 32 (i 1).val
  let v57 : BitVec 32 := Scalar.subi arg1 c0_i32_16
  let c1_i32_17 : BitVec 32 := 1#32
  let v59 : BitVec 32 := Scalar.divsi v57 c1_i32_17
  let v60 : BitVec 32 := Scalar.muli v59 c1_i32_17
  let v61 : BitVec 32 := Scalar.addi c0_i32_16 v60
  let c1_i32_19 : BitVec 32 := 1#32
  let arg12 : BitVec 32 := Scf.iv v61 c1_i32_19 k0_t2
  let c768_i32_69 : BitVec 32 := 768#32
  let v276 : BitVec 32 := Scalar.muli arg12 c768_i32_69
  let c512_i32 : BitVec 32 := 512#32
  let v277 : BitVec 32 := Scalar.addi v276 c512_i32
  v277
def k0_mult7 (i : grid0.Coords) : BitVec 32 :=
  let arg1 : BitVec 32 := BitVec.ofNat 32 (i 1).val
  let c768_i32 : BitVec 32 := 768#32
  let v64 : BitVec 32 := Scalar.muli arg1 c768_i32
  v64
def k0_off3 (i : grid0.Coords) : Fin 2 → Nat :=
  let arg1 : BitVec 32 := BitVec.ofNat 32 (i 1).val
  let c768_i32 : BitVec 32 := 768#32
  let v64 : BitVec 32 := Scalar.muli arg1 c768_i32
  let v65 : BitVec 32 := v64
  let v66 : Index := Scalar.indexCast v65
  let c0_20 : Index := 0#32
  ![v66.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8448x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S768x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S768x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S768x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S768x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S768x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S768x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== AttnFwdIdeal.lean ====
variable {F : FTy → Type} [FloatOps F] [Named F]
def κ : String → Option EReal := fun
  | "mask" => some ⊥
  | _ => none
-- ==== AttnFwdRefIdeal.lean ====
abbrev S16x8208x64 : Shape := ⟨3, ![16, 8208, 64]⟩
abbrev S16x8208 : Shape := ⟨2, ![16, 8208]⟩
abbrev S8208x1024 : Shape := ⟨2, ![8208, 1024]⟩
abbrev S16x8208x8208 : Shape := ⟨3, ![16, 8208, 8208]⟩
abbrev S_ : Shape := ⟨0, ![]⟩
abbrev S16x8208x1 : Shape := ⟨3, ![16, 8208, 1]⟩
abbrev S16x1x8208 : Shape := ⟨3, ![16, 1, 8208]⟩
abbrev S8208 : Shape := ⟨1, ![8208]⟩
abbrev S1x8208 : Shape := ⟨2, ![1, 8208]⟩
abbrev S8208x1 : Shape := ⟨2, ![8208, 1]⟩
abbrev S8208x8208 : Shape := ⟨2, ![8208, 8208]⟩
abbrev S16x8448x64 : Shape := ⟨3, ![16, 8448, 64]⟩
abbrev S8448x16x64 : Shape := ⟨3, ![8448, 16, 64]⟩
abbrev S8448x1024 : Shape := ⟨2, ![8448, 1024]⟩

abbrev nBuf : Space → Nat
  | .hbm => 122
  | .vmem => 0
  | .smem => 0
  | _ => 0

abbrev bufTy : (tb : Table) → Fin (tcTables nBuf tb) → BufTy
  | .hbm, ⟨0, _⟩ => ⟨S16x8208x64, .f32⟩
  | .hbm, ⟨1, _⟩ => ⟨S16x8208x64, .f32⟩
  | .hbm, ⟨2, _⟩ => ⟨S16x8208x64, .f32⟩
  | .hbm, ⟨3, _⟩ => ⟨S16x8208, .f32⟩
  | .hbm, ⟨4, _⟩ => ⟨S8208x1024, .f32⟩
  | .hbm, ⟨5, _⟩ => ⟨S16x8208x8208, .f32⟩
  | .hbm, ⟨6, _⟩ => ⟨S_, .f32⟩
  | .hbm, ⟨7, _⟩ => ⟨S16x8208x8208, .f32⟩
  | .hbm, ⟨8, _⟩ => ⟨S16x8208x8208, .f32⟩
  | .hbm, ⟨9, _⟩ => ⟨S16x8208x1, .f32⟩
  | .hbm, ⟨10, _⟩ => ⟨S16x1x8208, .f32⟩
  | .hbm, ⟨11, _⟩ => ⟨S16x8208x8208, .f32⟩
  | .hbm, ⟨12, _⟩ => ⟨S16x8208x8208, .f32⟩
  | .hbm, ⟨13, _⟩ => ⟨S16x8208x8208, .f32⟩
  | .hbm, ⟨14, _⟩ => ⟨S16x8208x8208, .f32⟩
  | .hbm, ⟨15, _⟩ => ⟨S8208, .i32⟩
  | .hbm, ⟨16, _⟩ => ⟨S1x8208, .i32⟩
  | .hbm, ⟨17, _⟩ => ⟨S8208x1, .i32⟩
  | .hbm, ⟨18, _⟩ => ⟨S8208x8208, .i32⟩
  | .hbm, ⟨19, _⟩ => ⟨S8208x8208, .i32⟩
  | .hbm, ⟨20, _⟩ => ⟨S8208x8208, .i1⟩
  | .hbm, ⟨21, _⟩ => ⟨S_, .f32⟩
  | .hbm, ⟨22, _⟩ => ⟨S_, .f32⟩
  | .hbm, ⟨23, _⟩ => ⟨S16x8208x8208, .i1⟩
  | .hbm, ⟨24, _⟩ => ⟨S16x8208x8208, .f32⟩
  | .hbm, ⟨25, _⟩ => ⟨S16x8208x8208, .f32⟩
  | .hbm, ⟨26, _⟩ => ⟨S_, .f32⟩
  | .hbm, ⟨27, _⟩ => ⟨S16x8208, .f32⟩
  | .hbm, ⟨28, _⟩ => ⟨S_, .f32⟩
  | .hbm, ⟨29, _⟩ => ⟨S_, .f32⟩
  | .hbm, ⟨30, _⟩ => ⟨S16x8208, .f32⟩
  | .hbm, ⟨31, _⟩ => ⟨S16x8208, .f32⟩
  | .hbm, ⟨32, _⟩ => ⟨S16x8208, .f32⟩
  | .hbm, ⟨33, _⟩ => ⟨S_, .f32⟩
  | .hbm, ⟨34, _⟩ => ⟨S_, .f32⟩
  | .hbm, ⟨35, _⟩ => ⟨S16x8208, .f32⟩
  | .hbm, ⟨36, _⟩ => ⟨S16x8208, .f32⟩
  | .hbm, ⟨37, _⟩ => ⟨S16x8208x1, .f32⟩
  | .hbm, ⟨38, _⟩ => ⟨S16x8208x8208, .f32⟩
  | .hbm, ⟨39, _⟩ => ⟨S16x8208x8208, .f32⟩
  | .hbm, ⟨40, _⟩ => ⟨S16x8208x8208, .f32⟩
  | .hbm, ⟨41, _⟩ => ⟨S_, .f32⟩
  | .hbm, ⟨42, _⟩ => ⟨S16x8208, .f32⟩
  | .hbm, ⟨43, _⟩ => ⟨S16x8208x8208, .f32⟩
  | .hbm, ⟨44, _⟩ => ⟨S_, .f32⟩
  | .hbm, ⟨45, _⟩ => ⟨S16x8208x8208, .f32⟩
  | .hbm, ⟨46, _⟩ => ⟨S16x8208x8208, .f32⟩
  | .hbm, ⟨47, _⟩ => ⟨S16x8208x1, .f32⟩
  | .hbm, ⟨48, _⟩ => ⟨S16x1x8208, .f32⟩
  | .hbm, ⟨49, _⟩ => ⟨S16x8208x8208, .f32⟩
  | .hbm, ⟨50, _⟩ => ⟨S16x8208x8208, .f32⟩
  | .hbm, ⟨51, _⟩ => ⟨S16x8208x8208, .f32⟩
  | .hbm, ⟨52, _⟩ => ⟨S16x8208x8208, .f32⟩
  | .hbm, ⟨53, _⟩ => ⟨S8208, .i32⟩
  | .hbm, ⟨54, _⟩ => ⟨S1x8208, .i32⟩
  | .hbm, ⟨55, _⟩ => ⟨S8208x1, .i32⟩
  | .hbm, ⟨56, _⟩ => ⟨S8208x8208, .i32⟩
  | .hbm, ⟨57, _⟩ => ⟨S8208x8208, .i32⟩
  | .hbm, ⟨58, _⟩ => ⟨S8208x8208, .i1⟩
  | .hbm, ⟨59, _⟩ => ⟨S_, .f32⟩
  | .hbm, ⟨60, _⟩ => ⟨S_, .f32⟩
  | .hbm, ⟨61, _⟩ => ⟨S16x8208x8208, .i1⟩
  | .hbm, ⟨62, _⟩ => ⟨S16x8208x8208, .f32⟩
  | .hbm, ⟨63, _⟩ => ⟨S16x8208x8208, .f32⟩
  | .hbm, ⟨64, _⟩ => ⟨S_, .f32⟩
  | .hbm, ⟨65, _⟩ => ⟨S16x8208, .f32⟩
  | .hbm, ⟨66, _⟩ => ⟨S_, .f32⟩
  | .hbm, ⟨67, _⟩ => ⟨S16x8208, .f32⟩
  | .hbm, ⟨68, _⟩ => ⟨S16x8208, .f32⟩
  | .hbm, ⟨69, _⟩ => ⟨S16x8208x1, .f32⟩
  | .hbm, ⟨70, _⟩ => ⟨S16x8208x8208, .f32⟩
  | .hbm, ⟨71, _⟩ => ⟨S16x8208x8208, .f32⟩
  | .hbm, ⟨72, _⟩ => ⟨S16x8208x8208, .f32⟩
  | .hbm, ⟨73, _⟩ => ⟨S_, .f32⟩
  | .hbm, ⟨74, _⟩ => ⟨S16x8208, .f32⟩
  | .hbm, ⟨75, _⟩ => ⟨S16x8208x1, .f32⟩
  | .hbm, ⟨76, _⟩ => ⟨S16x8208x8208, .f32⟩
  | .hbm, ⟨77, _⟩ => ⟨S16x8208x8208, .f32⟩
  | .hbm, ⟨78, _⟩ => ⟨S16x8208x64, .f32⟩
  | .hbm, ⟨79, _⟩ => ⟨S_, .i32⟩
  | .hbm, ⟨80, _⟩ => ⟨S_, .f32⟩
  | .hbm, ⟨81, _⟩ => ⟨S16x8448x64, .f32⟩
  | .hbm, ⟨82, _⟩ => ⟨S8448x16x64, .f32⟩
  | .hbm, ⟨83, _⟩ => ⟨S8448x1024, .f32⟩
  | .hbm, ⟨84, _⟩ => ⟨S_, .f32⟩
  | .hbm, ⟨85, _⟩ => ⟨S16x8208x64, .f32⟩
  | .hbm, ⟨86, _⟩ => ⟨S_, .i32⟩
  | .hbm, ⟨87, _⟩ => ⟨S_, .f32⟩
  | .hbm, ⟨88, _⟩ => ⟨S16x8448x64, .f32⟩
  | .hbm, ⟨89, _⟩ => ⟨S8448x16x64, .f32⟩
  | .hbm, ⟨90, _⟩ => ⟨S8448x1024, .f32⟩
  | .hbm, ⟨91, _⟩ => ⟨S8448x1024, .f32⟩
  | .hbm, ⟨92, _⟩ => ⟨S_, .i32⟩
  | .hbm, ⟨93, _⟩ => ⟨S_, .f32⟩
  | .hbm, ⟨94, _⟩ => ⟨S8448x1024, .f32⟩
  | .hbm, ⟨95, _⟩ => ⟨S8448x1024, .f32⟩
  | .hbm, ⟨96, _⟩ => ⟨S8448x1024, .f32⟩
  | .hbm, ⟨97, _⟩ => ⟨S_, .f32⟩
  | .hbm, ⟨98, _⟩ => ⟨S8448x1024, .f32⟩
  | .hbm, ⟨99, _⟩ => ⟨S8448x1024, .f32⟩
  | .hbm, ⟨100, _⟩ => ⟨S_, .f32⟩
  | .hbm, ⟨101, _⟩ => ⟨S8448x1024, .f32⟩
  | .hbm, ⟨102, _⟩ => ⟨S8448x1024, .f32⟩
  | .hbm, ⟨103, _⟩ => ⟨S8448x1024, .f32⟩
  | .hbm, ⟨104, _⟩ => ⟨S16x8208x1, .f32⟩
  | .hbm, ⟨105, _⟩ => ⟨S16x8208x64, .f32⟩
  | .hbm, ⟨106, _⟩ => ⟨S_, .f32⟩
  | .hbm, ⟨107, _⟩ => ⟨S_, .f32⟩
  | .hbm, ⟨108, _⟩ => ⟨S16x8448x64, .f32⟩
  | .hbm, ⟨109, _⟩ => ⟨S8448x1024, .bf16⟩
  | .hbm, ⟨110, _⟩ => ⟨S8448x16x64, .f32⟩
  | .hbm, ⟨111, _⟩ => ⟨S8448x1024, .f32⟩
  | .hbm, ⟨112, _⟩ => ⟨S16x8208x1, .f32⟩
  | .hbm, ⟨113, _⟩ => ⟨S16x8208x64, .f32⟩
  | .hbm, ⟨114, _⟩ => ⟨S_, .i32⟩
  | .hbm, ⟨115, _⟩ => ⟨S_, .f32⟩
  | .hbm, ⟨116, _⟩ => ⟨S16x8448x64, .f32⟩
  | .hbm, ⟨117, _⟩ => ⟨S8448x16x64, .f32⟩
  | .hbm, ⟨118, _⟩ => ⟨S8448x1024, .f32⟩
  | .hbm, ⟨119, _⟩ => ⟨S_, .f32⟩
  | .hbm, ⟨120, _⟩ => ⟨S8448x1024, .f32⟩
  | .hbm, ⟨121, _⟩ => ⟨S8448x1024, .f32⟩
  | _, _ => ⟨S16x8208x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v44 : Ref sig .tc := ⟨.hbm, 63, rfl⟩
abbrev main_cst_7 : Ref sig .tc := ⟨.hbm, 64, rfl⟩
abbrev main_v45 : Ref sig .tc := ⟨.hbm, 65, rfl⟩
abbrev main_cst_8 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c : Ref sig .tc := ⟨.hbm, 79, rfl⟩
abbrev main_call2_v0 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_10 : Ref sig .tc := ⟨.hbm, 84, rfl⟩
abbrev main_v60 : Ref sig .tc := ⟨.hbm, 85, rfl⟩
abbrev main_c_11 : Ref sig .tc := ⟨.hbm, 86, rfl⟩
abbrev main_call3_v0 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_12 : Ref sig .tc := ⟨.hbm, 92, rfl⟩
abbrev main_call4_v0 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_13 : Ref sig .tc := ⟨.hbm, 97, rfl⟩
abbrev main_v68 : Ref sig .tc := ⟨.hbm, 98, rfl⟩
abbrev main_v69 : Ref sig .tc := ⟨.hbm, 99, rfl⟩
abbrev main_cst_14 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_15 : Ref sig .tc := ⟨.hbm, 106, rfl⟩
abbrev main_call5_v0 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_c_16 : Ref sig .tc := ⟨.hbm, 114, rfl⟩
abbrev main_call6_v0 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_17 : Ref sig .tc := ⟨.hbm, 119, rfl⟩
abbrev main_v84 : Ref sig .tc := ⟨.hbm, 120, rfl⟩
abbrev main_v85 : Ref sig .tc := ⟨.hbm, 121, rfl⟩

abbrev nD : Nat := 1
abbrev τ : Topo := Topo.v7x

variable {F : FTy → Type} [FloatOps F]
-- ==== FoxOut.lean ====
abbrev S16x8208x64 : Shape := ⟨3, ![16, 8208, 64]⟩
abbrev S16x8208 : Shape := ⟨2, ![16, 8208]⟩
abbrev S8208x1024 : Shape := ⟨2, ![8208, 1024]⟩
abbrev S1024x1024 : Shape := ⟨2, ![1024, 1024]⟩
abbrev S_ : Shape := ⟨0, ![]⟩
abbrev S16x8208x8208 : Shape := ⟨3, ![16, 8208, 8208]⟩
abbrev S16x1x8208 : Shape := ⟨3, ![16, 1, 8208]⟩
abbrev S8208 : Shape := ⟨1, ![8208]⟩
abbrev S1x8208 : Shape := ⟨2, ![1, 8208]⟩
abbrev S8208x1 : Shape := ⟨2, ![8208, 1]⟩
abbrev S8208x8208 : Shape := ⟨2, ![8208, 8208]⟩
abbrev S16x8208x1 : Shape := ⟨3, ![16, 8208, 1]⟩
abbrev S16x8448x64 : Shape := ⟨3, ![16, 8448, 64]⟩
abbrev S8448x16x64 : Shape := ⟨3, ![8448, 16, 64]⟩
abbrev S8448x1024 : Shape := ⟨2, ![8448, 1024]⟩
abbrev S8448x4224 : Shape := ⟨2, ![8448, 4224]⟩
abbrev S256x1024 : Shape := ⟨2, ![256, 1024]⟩
abbrev S1x128 : Shape := ⟨2, ![1, 128]⟩
abbrev S256x128 : Shape := ⟨2, ![256, 128]⟩
abbrev S256 : Shape := ⟨1, ![256]⟩
abbrev S256x1 : Shape := ⟨2, ![256, 1]⟩

abbrev nBuf : Space → Nat
  | .hbm => 82
  | .vmem => 15
  | .smem => 0
  | _ => 0

abbrev bufTy : (tb : Table) → Fin (tcTables nBuf tb) → BufTy
  | .hbm, ⟨0, _⟩ => ⟨S16x8208x64, .f32⟩
  | .hbm, ⟨1, _⟩ => ⟨S16x8208x64, .f32⟩
  | .hbm, ⟨2, _⟩ => ⟨S16x8208x64, .f32⟩
  | .hbm, ⟨3, _⟩ => ⟨S16x8208, .f32⟩
  | .hbm, ⟨4, _⟩ => ⟨S8208x1024, .f32⟩
  | .hbm, ⟨5, _⟩ => ⟨S1024x1024, .f32⟩
  | .hbm, ⟨6, _⟩ => ⟨S8208x1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S16x8208x64, .f32⟩
  | .hbm, ⟨12, _⟩ => ⟨S16x8208x64, .f32⟩
  | .hbm, ⟨13, _⟩ => ⟨S16x8208x64, .bf16⟩
  | .hbm, ⟨14, _⟩ => ⟨S16x8208x64, .bf16⟩
  | .hbm, ⟨15, _⟩ => ⟨S16x8208x64, .bf16⟩
  | .hbm, ⟨16, _⟩ => ⟨S_, .f32⟩
  | .hbm, ⟨17, _⟩ => ⟨S_, .f32⟩
  | .hbm, ⟨18, _⟩ => ⟨S16x8208, .f32⟩
  | .hbm, ⟨19, _⟩ => ⟨S16x8208, .f32⟩
  | .hbm, ⟨20, _⟩ => ⟨S16x8208x8208, .f32⟩
  | .hbm, ⟨21, _⟩ => ⟨S16x1x8208, .f32⟩
  | .hbm, ⟨22, _⟩ => ⟨S16x8208x8208, .f32⟩
  | .hbm, ⟨23, _⟩ => ⟨S16x8208x8208, .f32⟩
  | .hbm, ⟨24, _⟩ => ⟨S8208, .i32⟩
  | .hbm, ⟨25, _⟩ => ⟨S1x8208, .i32⟩
  | .hbm, ⟨26, _⟩ => ⟨S8208x1, .i32⟩
  | .hbm, ⟨27, _⟩ => ⟨S8208x8208, .i32⟩
  | .hbm, ⟨28, _⟩ => ⟨S8208x8208, .i32⟩
  | .hbm, ⟨29, _⟩ => ⟨S8208x8208, .i1⟩
  | .hbm, ⟨30, _⟩ => ⟨S_, .f32⟩
  | .hbm, ⟨31, _⟩ => ⟨S_, .f32⟩
  | .hbm, ⟨32, _⟩ => ⟨S16x8208x8208, .i1⟩
  | .hbm, ⟨33, _⟩ => ⟨S16x8208x8208, .f32⟩
  | .hbm, ⟨34, _⟩ => ⟨S16x8208x8208, .f32⟩
  | .hbm, ⟨35, _⟩ => ⟨S_, .f32⟩
  | .hbm, ⟨36, _⟩ => ⟨S16x8208, .f32⟩
  | .hbm, ⟨37, _⟩ => ⟨S16x8208, .f32⟩
  | .hbm, ⟨38, _⟩ => ⟨S16x8208, .f32⟩
  | .hbm, ⟨39, _⟩ => ⟨S_, .f32⟩
  | .hbm, ⟨40, _⟩ => ⟨S_, .f32⟩
  | .hbm, ⟨41, _⟩ => ⟨S16x8208, .f32⟩
  | .hbm, ⟨42, _⟩ => ⟨S16x8208x1, .f32⟩
  | .hbm, ⟨43, _⟩ => ⟨S16x8208x8208, .f32⟩
  | .hbm, ⟨44, _⟩ => ⟨S16x8208x8208, .f32⟩
  | .hbm, ⟨45, _⟩ => ⟨S16x8208x8208, .f32⟩
  | .hbm, ⟨46, _⟩ => ⟨S16x8208x8208, .f32⟩
  | .hbm, ⟨47, _⟩ => ⟨S16x8208x8208, .f32⟩
  | .hbm, ⟨48, _⟩ => ⟨S16x8208x8208, .bf16⟩
  | .hbm, ⟨49, _⟩ => ⟨S16x8208x8208, .f32⟩
  | .hbm, ⟨50, _⟩ => ⟨S_, .f32⟩
  | .hbm, ⟨51, _⟩ => ⟨S16x8208, .f32⟩
  | .hbm, ⟨52, _⟩ => ⟨S16x8208x64, .f32⟩
  | .hbm, ⟨53, _⟩ => ⟨S16x8208x1, .f32⟩
  | .hbm, ⟨54, _⟩ => ⟨S16x8208x64, .f32⟩
  | .hbm, ⟨55, _⟩ => ⟨S16x8208x64, .f32⟩
  | .hbm, ⟨56, _⟩ => ⟨S_, .f32⟩
  | .hbm, ⟨57, _⟩ => ⟨S16x8208, .f32⟩
  | .hbm, ⟨58, _⟩ => ⟨S16x8208, .f32⟩
  | .hbm, ⟨59, _⟩ => ⟨S16x8208x1, .f32⟩
  | .hbm, ⟨60, _⟩ => ⟨S16x8208x64, .f32⟩
  | .hbm, ⟨61, _⟩ => ⟨S_, .i32⟩
  | .hbm, ⟨62, _⟩ => ⟨S_, .f32⟩
  | .hbm, ⟨63, _⟩ => ⟨S16x8448x64, .f32⟩
  | .hbm, ⟨64, _⟩ => ⟨S8448x16x64, .f32⟩
  | .hbm, ⟨65, _⟩ => ⟨S8448x1024, .f32⟩
  | .hbm, ⟨66, _⟩ => ⟨S_, .i32⟩
  | .hbm, ⟨67, _⟩ => ⟨S_, .f32⟩
  | .hbm, ⟨68, _⟩ => ⟨S8448x4224, .f32⟩
  | .hbm, ⟨69, _⟩ => ⟨S_, .i32⟩
  | .hbm, ⟨70, _⟩ => ⟨S_, .f32⟩
  | .hbm, ⟨71, _⟩ => ⟨S8448x1024, .f32⟩
  | .hbm, ⟨72, _⟩ => ⟨S8448x1024, .bf16⟩
  | .hbm, ⟨73, _⟩ => ⟨S1024x1024, .bf16⟩
  | .hbm, ⟨74, _⟩ => ⟨S_, .i32⟩
  | .hbm, ⟨75, _⟩ => ⟨S_, .f32⟩
  | .hbm, ⟨76, _⟩ => ⟨S16x8448x64, .f32⟩
  | .hbm, ⟨77, _⟩ => ⟨S8448x16x64, .f32⟩
  | .hbm, ⟨78, _⟩ => ⟨S8448x1024, .f32⟩
  | .hbm, ⟨79, _⟩ => ⟨S8448x1024, .bf16⟩
  | .hbm, ⟨80, _⟩ => ⟨S8448x1024, .bf16⟩
  | .hbm, ⟨81, _⟩ => ⟨S8448x1024, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .f32⟩
  | .local _ .vmem, ⟨14, _⟩ => ⟨S256x1024, .f32⟩
  | _, _ => ⟨S16x8208x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c : Ref sig .tc := ⟨.hbm, 61, rfl⟩
abbrev main_call1_v0 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_7 : Ref sig .tc := ⟨.hbm, 66, rfl⟩
abbrev main_call2_v0 : Ref sig .tc := ⟨.hbm, 67, rfl⟩
abbrev main_v46 : Ref sig .tc := ⟨.hbm, 68, rfl⟩
abbrev main_c_8 : Ref sig .tc := ⟨.hbm, 69, rfl⟩
abbrev main_call3_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_c_9 : Ref sig .tc := ⟨.hbm, 74, rfl⟩
abbrev main_call4_v0 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53_0 : Ref sig .tc := ⟨.hbm, 79, rfl⟩
abbrev main_v53_1 : Ref sig .tc := ⟨.hbm, 80, rfl⟩
abbrev main_v53_2 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FoxOutRefIdeal.lean ====
abbrev S16x8208x64 : Shape := ⟨3, ![16, 8208, 64]⟩
abbrev S16x8208 : Shape := ⟨2, ![16, 8208]⟩
abbrev S8208x1024 : Shape := ⟨2, ![8208, 1024]⟩
abbrev S1024x1024 : Shape := ⟨2, ![1024, 1024]⟩
abbrev S16x8208x8208 : Shape := ⟨3, ![16, 8208, 8208]⟩
abbrev S_ : Shape := ⟨0, ![]⟩
abbrev S16x8208x1 : Shape := ⟨3, ![16, 8208, 1]⟩
abbrev S16x1x8208 : Shape := ⟨3, ![16, 1, 8208]⟩
abbrev S8208 : Shape := ⟨1, ![8208]⟩
abbrev S1x8208 : Shape := ⟨2, ![1, 8208]⟩
abbrev S8208x1 : Shape := ⟨2, ![8208, 1]⟩
abbrev S8208x8208 : Shape := ⟨2, ![8208, 8208]⟩
abbrev S8208x16x64 : Shape := ⟨3, ![8208, 16, 64]⟩
abbrev S16x8448x64 : Shape := ⟨3, ![16, 8448, 64]⟩
abbrev S8448x16x64 : Shape := ⟨3, ![8448, 16, 64]⟩
abbrev S8448x1024 : Shape := ⟨2, ![8448, 1024]⟩

abbrev nBuf : Space → Nat
  | .hbm => 126
  | .vmem => 0
  | .smem => 0
  | _ => 0

abbrev bufTy : (tb : Table) → Fin (tcTables nBuf tb) → BufTy
  | .hbm, ⟨0, _⟩ => ⟨S16x8208x64, .f32⟩
  | .hbm, ⟨1, _⟩ => ⟨S16x8208x64, .f32⟩
  | .hbm, ⟨2, _⟩ => ⟨S16x8208x64, .f32⟩
  | .hbm, ⟨3, _⟩ => ⟨S16x8208, .f32⟩
  | .hbm, ⟨4, _⟩ => ⟨S8208x1024, .f32⟩
  | .hbm, ⟨5, _⟩ => ⟨S1024x1024, .f32⟩
  | .hbm, ⟨6, _⟩ => ⟨S8208x1024, .f32⟩
  | .hbm, ⟨7, _⟩ => ⟨S16x8208x8208, .f32⟩
  | .hbm, ⟨8, _⟩ => ⟨S_, .f32⟩
  | .hbm, ⟨9, _⟩ => ⟨S16x8208x8208, .f32⟩
  | .hbm, ⟨10, _⟩ => ⟨S16x8208x8208, .f32⟩
  | .hbm, ⟨11, _⟩ => ⟨S16x8208x1, .f32⟩
  | .hbm, ⟨12, _⟩ => ⟨S16x1x8208, .f32⟩
  | .hbm, ⟨13, _⟩ => ⟨S16x8208x8208, .f32⟩
  | .hbm, ⟨14, _⟩ => ⟨S16x8208x8208, .f32⟩
  | .hbm, ⟨15, _⟩ => ⟨S16x8208x8208, .f32⟩
  | .hbm, ⟨16, _⟩ => ⟨S16x8208x8208, .f32⟩
  | .hbm, ⟨17, _⟩ => ⟨S8208, .i32⟩
  | .hbm, ⟨18, _⟩ => ⟨S1x8208, .i32⟩
  | .hbm, ⟨19, _⟩ => ⟨S8208x1, .i32⟩
  | .hbm, ⟨20, _⟩ => ⟨S8208x8208, .i32⟩
  | .hbm, ⟨21, _⟩ => ⟨S8208x8208, .i32⟩
  | .hbm, ⟨22, _⟩ => ⟨S8208x8208, .i1⟩
  | .hbm, ⟨23, _⟩ => ⟨S_, .f32⟩
  | .hbm, ⟨24, _⟩ => ⟨S_, .f32⟩
  | .hbm, ⟨25, _⟩ => ⟨S16x8208x8208, .i1⟩
  | .hbm, ⟨26, _⟩ => ⟨S16x8208x8208, .f32⟩
  | .hbm, ⟨27, _⟩ => ⟨S16x8208x8208, .f32⟩
  | .hbm, ⟨28, _⟩ => ⟨S_, .f32⟩
  | .hbm, ⟨29, _⟩ => ⟨S16x8208, .f32⟩
  | .hbm, ⟨30, _⟩ => ⟨S_, .f32⟩
  | .hbm, ⟨31, _⟩ => ⟨S16x8208, .f32⟩
  | .hbm, ⟨32, _⟩ => ⟨S16x8208, .f32⟩
  | .hbm, ⟨33, _⟩ => ⟨S16x8208x1, .f32⟩
  | .hbm, ⟨34, _⟩ => ⟨S16x8208x8208, .f32⟩
  | .hbm, ⟨35, _⟩ => ⟨S16x8208x8208, .f32⟩
  | .hbm, ⟨36, _⟩ => ⟨S16x8208x8208, .f32⟩
  | .hbm, ⟨37, _⟩ => ⟨S_, .f32⟩
  | .hbm, ⟨38, _⟩ => ⟨S16x8208, .f32⟩
  | .hbm, ⟨39, _⟩ => ⟨S16x8208x1, .f32⟩
  | .hbm, ⟨40, _⟩ => ⟨S16x8208x8208, .f32⟩
  | .hbm, ⟨41, _⟩ => ⟨S16x8208x8208, .f32⟩
  | .hbm, ⟨42, _⟩ => ⟨S16x8208x64, .f32⟩
  | .hbm, ⟨43, _⟩ => ⟨S8208x16x64, .f32⟩
  | .hbm, ⟨44, _⟩ => ⟨S8208x1024, .f32⟩
  | .hbm, ⟨45, _⟩ => ⟨S8208x1024, .f32⟩
  | .hbm, ⟨46, _⟩ => ⟨S8208x1024, .f32⟩
  | .hbm, ⟨47, _⟩ => ⟨S_, .f32⟩
  | .hbm, ⟨48, _⟩ => ⟨S8208x1024, .f32⟩
  | .hbm, ⟨49, _⟩ => ⟨S8208x1024, .f32⟩
  | .hbm, ⟨50, _⟩ => ⟨S_, .f32⟩
  | .hbm, ⟨51, _⟩ => ⟨S8208x1024, .f32⟩
  | .hbm, ⟨52, _⟩ => ⟨S8208x1024, .f32⟩
  | .hbm, ⟨53, _⟩ => ⟨S_, .f32⟩
  | .hbm, ⟨54, _⟩ => ⟨S8208x1024, .f32⟩
  | .hbm, ⟨55, _⟩ => ⟨S8208x1024, .f32⟩
  | .hbm, ⟨56, _⟩ => ⟨S8208x1024, .f32⟩
  | .hbm, ⟨57, _⟩ => ⟨S8208x1024, .f32⟩
  | .hbm, ⟨58, _⟩ => ⟨S8208x1024, .f32⟩
  | .hbm, ⟨59, _⟩ => ⟨S8208x1024, .f32⟩
  | .hbm, ⟨60, _⟩ => ⟨S8208x1024, .f32⟩
  | .hbm, ⟨61, _⟩ => ⟨S8208x1024, .f32⟩
  | .hbm, ⟨62, _⟩ => ⟨S8208x1024, .f32⟩
  | .hbm, ⟨63, _⟩ => ⟨S8208x16x64, .f32⟩
  | .hbm, ⟨64, _⟩ => ⟨S16x8208x64, .f32⟩
  | .hbm, ⟨65, _⟩ => ⟨S16x8208x8208, .f32⟩
  | .hbm, ⟨66, _⟩ => ⟨S_, .f32⟩
  | .hbm, ⟨67, _⟩ => ⟨S16x8208x8208, .f32⟩
  | .hbm, ⟨68, _⟩ => ⟨S16x8208x8208, .f32⟩
  | .hbm, ⟨69, _⟩ => ⟨S16x8208x1, .f32⟩
  | .hbm, ⟨70, _⟩ => ⟨S16x1x8208, .f32⟩
  | .hbm, ⟨71, _⟩ => ⟨S16x8208x8208, .f32⟩
  | .hbm, ⟨72, _⟩ => ⟨S16x8208x8208, .f32⟩
  | .hbm, ⟨73, _⟩ => ⟨S16x8208x8208, .f32⟩
  | .hbm, ⟨74, _⟩ => ⟨S16x8208x8208, .f32⟩
  | .hbm, ⟨75, _⟩ => ⟨S8208, .i32⟩
  | .hbm, ⟨76, _⟩ => ⟨S1x8208, .i32⟩
  | .hbm, ⟨77, _⟩ => ⟨S8208x1, .i32⟩
  | .hbm, ⟨78, _⟩ => ⟨S8208x8208, .i32⟩
  | .hbm, ⟨79, _⟩ => ⟨S8208x8208, .i32⟩
  | .hbm, ⟨80, _⟩ => ⟨S8208x8208, .i1⟩
  | .hbm, ⟨81, _⟩ => ⟨S_, .f32⟩
  | .hbm, ⟨82, _⟩ => ⟨S_, .f32⟩
  | .hbm, ⟨83, _⟩ => ⟨S16x8208x8208, .i1⟩
  | .hbm, ⟨84, _⟩ => ⟨S16x8208x8208, .f32⟩
  | .hbm, ⟨85, _⟩ => ⟨S16x8208x8208, .f32⟩
  | .hbm, ⟨86, _⟩ => ⟨S_, .f32⟩
  | .hbm, ⟨87, _⟩ => ⟨S16x8208, .f32⟩
  | .hbm, ⟨88, _⟩ => ⟨S_, .f32⟩
  | .hbm, ⟨89, _⟩ => ⟨S_, .f32⟩
  | .hbm, ⟨90, _⟩ => ⟨S16x8208, .f32⟩
  | .hbm, ⟨91, _⟩ => ⟨S16x8208, .f32⟩
  | .hbm, ⟨92, _⟩ => ⟨S16x8208, .f32⟩
  | .hbm, ⟨93, _⟩ => ⟨S_, .f32⟩
  | .hbm, ⟨94, _⟩ => ⟨S_, .f32⟩
  | .hbm, ⟨95, _⟩ => ⟨S16x8208, .f32⟩
  | .hbm, ⟨96, _⟩ => ⟨S16x8208, .f32⟩
  | .hbm, ⟨97, _⟩ => ⟨S16x8208x1, .f32⟩
  | .hbm, ⟨98, _⟩ => ⟨S16x8208x8208, .f32⟩
  | .hbm, ⟨99, _⟩ => ⟨S16x8208x8208, .f32⟩
  | .hbm, ⟨100, _⟩ => ⟨S16x8208x8208, .f32⟩
  | .hbm, ⟨101, _⟩ => ⟨S_, .f32⟩
  | .hbm, ⟨102, _⟩ => ⟨S16x8208, .f32⟩
  | .hbm, ⟨103, _⟩ => ⟨S16x8208x1, .f32⟩
  | .hbm, ⟨104, _⟩ => ⟨S16x8208x64, .f32⟩
  | .hbm, ⟨105, _⟩ => ⟨S16x8208x64, .f32⟩
  | .hbm, ⟨106, _⟩ => ⟨S16x8208x64, .f32⟩
  | .hbm, ⟨107, _⟩ => ⟨S_, .f32⟩
  | .hbm, ⟨108, _⟩ => ⟨S16x8208, .f32⟩
  | .hbm, ⟨109, _⟩ => ⟨S16x8208x1, .f32⟩
  | .hbm, ⟨110, _⟩ => ⟨S16x8208x64, .f32⟩
  | .hbm, ⟨111, _⟩ => ⟨S_, .i32⟩
  | .hbm, ⟨112, _⟩ => ⟨S_, .f32⟩
  | .hbm, ⟨113, _⟩ => ⟨S16x8448x64, .f32⟩
  | .hbm, ⟨114, _⟩ => ⟨S8448x16x64, .f32⟩
  | .hbm, ⟨115, _⟩ => ⟨S8448x1024, .f32⟩
  | .hbm, ⟨116, _⟩ => ⟨S8448x1024, .bf16⟩
  | .hbm, ⟨117, _⟩ => ⟨S_, .i32⟩
  | .hbm, ⟨118, _⟩ => ⟨S_, .f32⟩
  | .hbm, ⟨119, _⟩ => ⟨S8448x1024, .f32⟩
  | .hbm, ⟨120, _⟩ => ⟨S8448x1024, .bf16⟩
  | .hbm, ⟨121, _⟩ => ⟨S_, .i32⟩
  | .hbm, ⟨122, _⟩ => ⟨S_, .f32⟩
  | .hbm, ⟨123, _⟩ => ⟨S16x8448x64, .f32⟩
  | .hbm, ⟨124, _⟩ => ⟨S8448x16x64, .f32⟩
  | .hbm, ⟨125, _⟩ => ⟨S8448x1024, .f32⟩
  | _, _ => ⟨S16x8208x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_7 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_8 : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_v62 : Ref sig .tc := ⟨.hbm, 85, rfl⟩
abbrev main_cst_9 : Ref sig .tc := ⟨.hbm, 86, rfl⟩
abbrev main_v63 : Ref sig .tc := ⟨.hbm, 87, rfl⟩
abbrev main_cst_10 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_11 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_12 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_13 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_c : Ref sig .tc := ⟨.hbm, 111, rfl⟩
abbrev main_call2_v0 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_c_14 : Ref sig .tc := ⟨.hbm, 117, rfl⟩
abbrev main_call3_v0 : Ref sig .tc := ⟨.hbm, 118, rfl⟩
abbrev main_v87 : Ref sig .tc := ⟨.hbm, 119, rfl⟩
abbrev main_v88 : Ref sig .tc := ⟨.hbm, 120, rfl⟩
abbrev main_c_15 : Ref sig .tc := ⟨.hbm, 121, rfl⟩
abbrev main_call4_v0 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩

abbrev nD : Nat := 1
abbrev τ : Topo := Topo.v7x

variable {F : FTy → Type} [FloatOps F]
-- ==== FoxPrep.lean ====
abbrev S8208x4112 : Shape := ⟨2, ![8208, 4112]⟩
abbrev S16 : Shape := ⟨1, ![16]⟩
abbrev S2x64 : Shape := ⟨2, ![2, 64]⟩
abbrev S16x8208x64 : Shape := ⟨3, ![16, 8208, 64]⟩
abbrev S8208x1024 : Shape := ⟨2, ![8208, 1024]⟩
abbrev S16x8208 : Shape := ⟨2, ![16, 8208]⟩
abbrev S8208x16 : Shape := ⟨2, ![8208, 16]⟩
abbrev S_ : Shape := ⟨0, ![]⟩
abbrev S8448x128 : Shape := ⟨2, ![8448, 128]⟩
abbrev S8448x4224 : Shape := ⟨2, ![8448, 4224]⟩
abbrev S1x16 : Shape := ⟨2, ![1, 16]⟩
abbrev S1x128 : Shape := ⟨2, ![1, 128]⟩
abbrev S16x8448x64 : Shape := ⟨3, ![16, 8448, 64]⟩
abbrev S8448x16x64 : Shape := ⟨3, ![8448, 16, 64]⟩
abbrev S8448x1024 : Shape := ⟨2, ![8448, 1024]⟩
abbrev S8x128 : Shape := ⟨2, ![8, 128]⟩
abbrev S384x1024 : Shape := ⟨2, ![384, 1024]⟩
abbrev S384x128 : Shape := ⟨2, ![384, 128]⟩
abbrev S384x4224 : Shape := ⟨2, ![384, 4224]⟩
abbrev S384 : Shape := ⟨1, ![384]⟩
abbrev S384x1 : Shape := ⟨2, ![384, 1]⟩
abbrev S128 : Shape := ⟨1, ![128]⟩
abbrev S384x384 : Shape := ⟨2, ![384, 384]⟩

abbrev nBuf : Space → Nat
  | .hbm => 50
  | .vmem => 23
  | .smem => 0
  | _ => 0

abbrev bufTy : (tb : Table) → Fin (tcTables nBuf tb) → BufTy
  | .hbm, ⟨0, _⟩ => ⟨S8208x4112, .f32⟩
  | .hbm, ⟨1, _⟩ => ⟨S16, .f32⟩
  | .hbm, ⟨2, _⟩ => ⟨S2x64, .f32⟩
  | .hbm, ⟨3, _⟩ => ⟨S2x64, .f32⟩
  | .hbm, ⟨4, _⟩ => ⟨S16x8208x64, .f32⟩
  | .hbm, ⟨5, _⟩ => ⟨S16x8208x64, .f32⟩
  | .hbm, ⟨6, _⟩ => ⟨S16x8208x64, .f32⟩
  | .hbm, ⟨7, _⟩ => ⟨S8208x1024, .f32⟩
  | .hbm, ⟨8, _⟩ => ⟨S16x8208, .f32⟩
  | .hbm, ⟨9, _⟩ => ⟨S8208x16, .f32⟩
  | .hbm, ⟨10, _⟩ => ⟨S_, .i32⟩
  | .hbm, ⟨11, _⟩ => ⟨S_, .f32⟩
  | .hbm, ⟨12, _⟩ => ⟨S8448x128, .f32⟩
  | .hbm, ⟨13, _⟩ => ⟨S_, .i32⟩
  | .hbm, ⟨14, _⟩ => ⟨S_, .f32⟩
  | .hbm, ⟨15, _⟩ => ⟨S8448x4224, .f32⟩
  | .hbm, ⟨16, _⟩ => ⟨S1x16, .f32⟩
  | .hbm, ⟨17, _⟩ => ⟨S_, .i32⟩
  | .hbm, ⟨18, _⟩ => ⟨S_, .f32⟩
  | .hbm, ⟨19, _⟩ => ⟨S1x128, .f32⟩
  | .hbm, ⟨20, _⟩ => ⟨S1x128, .f32⟩
  | .hbm, ⟨21, _⟩ => ⟨S1x128, .f32⟩
  | .hbm, ⟨22, _⟩ => ⟨S_, .f32⟩
  | .hbm, ⟨23, _⟩ => ⟨S16x8208x64, .f32⟩
  | .hbm, ⟨24, _⟩ => ⟨S16x8208x64, .f32⟩
  | .hbm, ⟨25, _⟩ => ⟨S_, .i32⟩
  | .hbm, ⟨26, _⟩ => ⟨S_, .f32⟩
  | .hbm, ⟨27, _⟩ => ⟨S16x8448x64, .f32⟩
  | .hbm, ⟨28, _⟩ => ⟨S8448x16x64, .f32⟩
  | .hbm, ⟨29, _⟩ => ⟨S8448x1024, .f32⟩
  | .hbm, ⟨30, _⟩ => ⟨S_, .f32⟩
  | .hbm, ⟨31, _⟩ => ⟨S_, .f32⟩
  | .hbm, ⟨32, _⟩ => ⟨S16x8208x64, .f32⟩
  | .hbm, ⟨33, _⟩ => ⟨S16x8208x64, .f32⟩
  | .hbm, ⟨34, _⟩ => ⟨S_, .i32⟩
  | .hbm, ⟨35, _⟩ => ⟨S_, .f32⟩
  | .hbm, ⟨36, _⟩ => ⟨S16x8448x64, .f32⟩
  | .hbm, ⟨37, _⟩ => ⟨S8448x16x64, .f32⟩
  | .hbm, ⟨38, _⟩ => ⟨S8448x1024, .f32⟩
  | .hbm, ⟨39, _⟩ => ⟨S_, .i32⟩
  | .hbm, ⟨40, _⟩ => ⟨S_, .f32⟩
  | .hbm, ⟨41, _⟩ => ⟨S16x8448x64, .f32⟩
  | .hbm, ⟨42, _⟩ => ⟨S8448x16x64, .f32⟩
  | .hbm, ⟨43, _⟩ => ⟨S8448x1024, .f32⟩
  | .hbm, ⟨44, _⟩ => ⟨S_, .i32⟩
  | .hbm, ⟨45, _⟩ => ⟨S_, .f32⟩
  | .hbm, ⟨46, _⟩ => ⟨S8448x1024, .f32⟩
  | .hbm, ⟨47, _⟩ => ⟨S8448x1024, .bf16⟩
  | .hbm, ⟨48, _⟩ => ⟨S8448x4224, .bf16⟩
  | .hbm, ⟨49, _⟩ => ⟨S8x128, .f32⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S384x128, .f32⟩
  | .local _ .vmem, ⟨5, _⟩ => ⟨S384x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S384x1024, .f32⟩
  | .local _ .vmem, ⟨10, _⟩ => ⟨S384x1024, .f32⟩
  | .local _ .vmem, ⟨11, _⟩ => ⟨S384x1024, .f32⟩
  | .local _ .vmem, ⟨12, _⟩ => ⟨S384x1024, .f32⟩
  | .local _ .vmem, ⟨13, _⟩ => ⟨S384x1024, .f32⟩
  | .local _ .vmem, ⟨14, _⟩ => ⟨S384x1024, .f32⟩
  | .local _ .vmem, ⟨15, _⟩ => ⟨S384x1024, .bf16⟩
  | .local _ .vmem, ⟨16, _⟩ => ⟨S384x1024, .bf16⟩
  | .local _ .vmem, ⟨17, _⟩ => ⟨S384x128, .f32⟩
  | .local _ .vmem, ⟨18, _⟩ => ⟨S384x128, .f32⟩
  | .local _ .vmem, ⟨19, _⟩ => ⟨S384x4224, .bf16⟩
  | .local _ .vmem, ⟨20, _⟩ => ⟨S384x4224, .bf16⟩
  | .local _ .vmem, ⟨21, _⟩ => ⟨S8x128, .f32⟩
  | .local _ .vmem, ⟨22, _⟩ => ⟨S1x128, .f32⟩
  | _, _ => ⟨S8208x4112, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_c_0 : Ref sig .tc := ⟨.hbm, 13, rfl⟩
abbrev main_call1_v0 : Ref sig .tc := ⟨.hbm, 14, rfl⟩
abbrev main_v2 : Ref sig .tc := ⟨.hbm, 15, rfl⟩
abbrev main_v3 : Ref sig .tc := ⟨.hbm, 16, rfl⟩
abbrev main_c_1 : Ref sig .tc := ⟨.hbm, 17, rfl⟩
abbrev main_call2_v0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_call3_v0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_3 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c_4 : Ref sig .tc := ⟨.hbm, 34, rfl⟩
abbrev main_call4_v0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c_5 : Ref sig .tc := ⟨.hbm, 39, rfl⟩
abbrev main_call5_v0 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c_6 : Ref sig .tc := ⟨.hbm, 44, rfl⟩
abbrev main_call6_v0 : Ref sig .tc := ⟨.hbm, 45, rfl⟩
abbrev main_v21 : Ref sig .tc := ⟨.hbm, 46, rfl⟩
abbrev main_v22 : Ref sig .tc := ⟨.hbm, 47, rfl⟩
abbrev main_v23_0 : Ref sig .tc := ⟨.hbm, 48, rfl⟩
abbrev main_v23_1 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c21_i32 : BitVec 32 := 21#32
  let v0 : BitVec 32 := Scalar.subi c21_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c21_i32 : BitVec 32 := 21#32
  let v0 : BitVec 32 := Scalar.subi c21_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c21_i32 : BitVec 32 := 21#32
  let v0 : BitVec 32 := Scalar.subi c21_i32 arg0
  let c32_i32 : BitVec 32 := 32#32
  let c0_i32 : BitVec 32 := 0#32
  ![v0.toNat, c32_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c21_i32 : BitVec 32 := 21#32
  let v0 : BitVec 32 := Scalar.subi c21_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c21_i32 : BitVec 32 := 21#32
  let v0 : BitVec 32 := Scalar.subi c21_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c21_i32 : BitVec 32 := 21#32
  let v0 : BitVec 32 := Scalar.subi c21_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c21_i32 : BitVec 32 := 21#32
  let v0 : BitVec 32 := Scalar.subi c21_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c21_i32 : BitVec 32 := 21#32
  let v0 : BitVec 32 := Scalar.subi c21_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c21_i32 : BitVec 32 := 21#32
  let v0 : BitVec 32 := Scalar.subi c21_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S384x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S384x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S384x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S384x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S384x4224 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== FoxPrepRefIdeal.lean ====
abbrev S8208x4112 : Shape := ⟨2, ![8208, 4112]⟩
abbrev S16 : Shape := ⟨1, ![16]⟩
abbrev S2x64 : Shape := ⟨2, ![2, 64]⟩
abbrev S16x8208x64 : Shape := ⟨3, ![16, 8208, 64]⟩
abbrev S8208x1024 : Shape := ⟨2, ![8208, 1024]⟩
abbrev S16x8208 : Shape := ⟨2, ![16, 8208]⟩
abbrev S8208x16 : Shape := ⟨2, ![8208, 16]⟩
abbrev S8208x8x2x64 : Shape := ⟨4, ![8208, 8, 2, 64]⟩
abbrev S_ : Shape := ⟨0, ![]⟩
abbrev S8208x8x2 : Shape := ⟨3, ![8208, 8, 2]⟩
abbrev S8208x8x2x1 : Shape := ⟨4, ![8208, 8, 2, 1]⟩
abbrev S1x1x2x64 : Shape := ⟨4, ![1, 1, 2, 64]⟩
abbrev S8208x16x64 : Shape := ⟨3, ![8208, 16, 64]⟩
abbrev S1x16 : Shape := ⟨2, ![1, 16]⟩
abbrev S8448x4224 : Shape := ⟨2, ![8448, 4224]⟩
abbrev S128 : Shape := ⟨1, ![128]⟩
abbrev S1x128 : Shape := ⟨2, ![1, 128]⟩
abbrev S3x128 : Shape := ⟨2, ![3, 128]⟩
abbrev S8x128 : Shape := ⟨2, ![8, 128]⟩

abbrev nBuf : Space → Nat
  | .hbm => 204
  | .vmem => 0
  | .smem => 0
  | _ => 0

abbrev hbmTy0_0 (i : Nat) : BufTy := match i % 128 with
  | 0 => ⟨S8208x4112, .f32⟩
  | 1 => ⟨S16, .f32⟩
  | 2 => ⟨S2x64, .f32⟩
  | 3 => ⟨S2x64, .f32⟩
  | 4 => ⟨S16x8208x64, .f32⟩
  | 5 => ⟨S16x8208x64, .f32⟩
  | 6 => ⟨S16x8208x64, .f32⟩
  | 7 => ⟨S8208x1024, .f32⟩
  | 8 => ⟨S16x8208, .f32⟩
  | 9 => ⟨S8208x1024, .f32⟩
  | 10 => ⟨S8208x1024, .f32⟩
  | 11 => ⟨S8208x1024, .f32⟩
  | 12 => ⟨S8208x1024, .f32⟩
  | 13 => ⟨S8208x16, .f32⟩
  | 14 => ⟨S8208x8x2x64, .f32⟩
  | 15 => ⟨S8208x8x2x64, .f32⟩
  | 16 => ⟨S_, .f32⟩
  | 17 => ⟨S8208x8x2, .f32⟩
  | 18 => ⟨S8208x8x2x1, .f32⟩
  | 19 => ⟨S_, .f32⟩
  | 20 => ⟨S8208x8x2x1, .f32⟩
  | 21 => ⟨S8208x8x2x1, .f32⟩
  | 22 => ⟨S_, .f32⟩
  | 23 => ⟨S8208x8x2x1, .f32⟩
  | 24 => ⟨S8208x8x2x1, .f32⟩
  | 25 => ⟨S8208x8x2x1, .f32⟩
  | 26 => ⟨S8208x8x2x1, .f32⟩
  | 27 => ⟨S_, .f32⟩
  | 28 => ⟨S8208x8x2x1, .f32⟩
  | 29 => ⟨S8208x8x2x1, .f32⟩
  | 30 => ⟨S8208x8x2x64, .f32⟩
  | 31 => ⟨S8208x8x2x64, .f32⟩
  | 32 => ⟨S1x1x2x64, .f32⟩
  | 33 => ⟨S8208x8x2x64, .f32⟩
  | 34 => ⟨S8208x8x2x64, .f32⟩
  | 35 => ⟨S8208x16x64, .f32⟩
  | 36 => ⟨S16x8208x64, .f32⟩
  | 37 => ⟨S8208x8x2x64, .f32⟩
  | 38 => ⟨S8208x8x2x64, .f32⟩
  | 39 => ⟨S_, .f32⟩
  | 40 => ⟨S8208x8x2, .f32⟩
  | 41 => ⟨S8208x8x2x1, .f32⟩
  | 42 => ⟨S_, .f32⟩
  | 43 => ⟨S8208x8x2x1, .f32⟩
  | 44 => ⟨S8208x8x2x1, .f32⟩
  | 45 => ⟨S_, .f32⟩
  | 46 => ⟨S8208x8x2x1, .f32⟩
  | 47 => ⟨S8208x8x2x1, .f32⟩
  | 48 => ⟨S8208x8x2x1, .f32⟩
  | 49 => ⟨S8208x8x2x1, .f32⟩
  | 50 => ⟨S_, .f32⟩
  | 51 => ⟨S8208x8x2x1, .f32⟩
  | 52 => ⟨S8208x8x2x1, .f32⟩
  | 53 => ⟨S8208x8x2x64, .f32⟩
  | 54 => ⟨S8208x8x2x64, .f32⟩
  | 55 => ⟨S1x1x2x64, .f32⟩
  | 56 => ⟨S8208x8x2x64, .f32⟩
  | 57 => ⟨S8208x8x2x64, .f32⟩
  | 58 => ⟨S8208x16x64, .f32⟩
  | 59 => ⟨S16x8208x64, .f32⟩
  | 60 => ⟨S1x16, .f32⟩
  | 61 => ⟨S8208x16, .f32⟩
  | 62 => ⟨S8208x16, .f32⟩
  | 63 => ⟨S8208x16, .f32⟩
  | 64 => ⟨S_, .f32⟩
  | 65 => ⟨S8208x16, .f32⟩
  | 66 => ⟨S8208x16, .f32⟩
  | 67 => ⟨S8208x16, .f32⟩
  | 68 => ⟨S8208x16, .f32⟩
  | 69 => ⟨S8208x16, .i1⟩
  | 70 => ⟨S8208x16, .f32⟩
  | 71 => ⟨S8208x16, .f32⟩
  | 72 => ⟨S8208x16, .f32⟩
  | 73 => ⟨S8208x16, .f32⟩
  | 74 => ⟨S8208x16, .f32⟩
  | 75 => ⟨S8208x16, .f32⟩
  | 76 => ⟨S8208x16, .f32⟩
  | 77 => ⟨S8208x16, .f32⟩
  | 78 => ⟨S_, .f32⟩
  | 79 => ⟨S8208x16, .f32⟩
  | 80 => ⟨S8208x16, .i1⟩
  | 81 => ⟨S_, .f32⟩
  | 82 => ⟨S8208x16, .f32⟩
  | 83 => ⟨S8208x16, .f32⟩
  | 84 => ⟨S_, .f32⟩
  | 85 => ⟨S8208x16, .f32⟩
  | 86 => ⟨S8208x16, .i1⟩
  | 87 => ⟨S_, .f32⟩
  | 88 => ⟨S8208x16, .f32⟩
  | 89 => ⟨S8208x16, .f32⟩
  | 90 => ⟨S8208x16, .f32⟩
  | 91 => ⟨S8208x16, .f32⟩
  | 92 => ⟨S_, .f32⟩
  | 93 => ⟨S_, .f32⟩
  | 94 => ⟨S_, .i1⟩
  | 95 => ⟨S_, .f32⟩
  | 96 => ⟨S_, .f32⟩
  | 97 => ⟨S_, .f32⟩
  | 98 => ⟨S_, .f32⟩
  | 99 => ⟨S8208x16, .f32⟩
  | 100 => ⟨S8208x16, .i1⟩
  | 101 => ⟨S_, .f32⟩
  | 102 => ⟨S8208x16, .f32⟩
  | 103 => ⟨S8208x16, .f32⟩
  | 104 => ⟨S8208x16, .f32⟩
  | 105 => ⟨S8208x16, .f32⟩
  | 106 => ⟨S8208x16, .f32⟩
  | 107 => ⟨S_, .f32⟩
  | 108 => ⟨S8208x16, .f32⟩
  | 109 => ⟨S8208x16, .f32⟩
  | 110 => ⟨S8208x16, .f32⟩
  | 111 => ⟨S_, .f32⟩
  | 112 => ⟨S_, .f32⟩
  | 113 => ⟨S8208x16, .f32⟩
  | 114 => ⟨S16x8208, .f32⟩
  | 115 => ⟨S8208x16x64, .f32⟩
  | 116 => ⟨S16x8208x64, .f32⟩
  | 117 => ⟨S8208x16x64, .f32⟩
  | 118 => ⟨S8208x1024, .f32⟩
  | 119 => ⟨S8208x16, .f32⟩
  | 120 => ⟨S_, .f32⟩
  | 121 => ⟨S_, .f32⟩
  | 122 => ⟨S8208x16, .f32⟩
  | 123 => ⟨S8208x16, .f32⟩
  | 124 => ⟨S8208x16, .f32⟩
  | 125 => ⟨S8208x16, .f32⟩
  | 126 => ⟨S_, .f32⟩
  | 127 => ⟨S16, .f32⟩
  | _ => ⟨S8208x4112, .f32⟩

abbrev hbmTy0_1 (i : Nat) : BufTy := match i % 128 with
  | 0 => ⟨S1x16, .f32⟩
  | 1 => ⟨S_, .f32⟩
  | 2 => ⟨S16, .f32⟩
  | 3 => ⟨S8208x16x64, .f32⟩
  | 4 => ⟨S8208x8x2x64, .f32⟩
  | 5 => ⟨S8208x8x2x64, .f32⟩
  | 6 => ⟨S_, .f32⟩
  | 7 => ⟨S2x64, .f32⟩
  | 8 => ⟨S1x1x2x64, .f32⟩
  | 9 => ⟨S8208x8x2x64, .f32⟩
  | 10 => ⟨S8208x8x2x64, .f32⟩
  | 11 => ⟨S_, .f32⟩
  | 12 => ⟨S2x64, .f32⟩
  | 13 => ⟨S8208x8x2x64, .f32⟩
  | 14 => ⟨S_, .f32⟩
  | 15 => ⟨S8208x8x2, .f32⟩
  | 16 => ⟨S8208x8x2x1, .f32⟩
  | 17 => ⟨S8208x8x2x64, .f32⟩
  | 18 => ⟨S8208x8x2x64, .f32⟩
  | 19 => ⟨S8208x8x2x1, .f32⟩
  | 20 => ⟨S_, .f32⟩
  | 21 => ⟨S8208x8x2x1, .f32⟩
  | 22 => ⟨S8208x8x2x1, .f32⟩
  | 23 => ⟨S_, .f32⟩
  | 24 => ⟨S8208x8x2, .f32⟩
  | 25 => ⟨S8208x8x2x64, .f32⟩
  | 26 => ⟨S8208x8x2x64, .f32⟩
  | 27 => ⟨S8208x8x2x64, .f32⟩
  | 28 => ⟨S8208x8x2x64, .f32⟩
  | 29 => ⟨S8208x8x2x64, .f32⟩
  | 30 => ⟨S8208x1024, .f32⟩
  | 31 => ⟨S8208x16x64, .f32⟩
  | 32 => ⟨S8208x8x2x64, .f32⟩
  | 33 => ⟨S8208x8x2x64, .f32⟩
  | 34 => ⟨S_, .f32⟩
  | 35 => ⟨S2x64, .f32⟩
  | 36 => ⟨S1x1x2x64, .f32⟩
  | 37 => ⟨S8208x8x2x64, .f32⟩
  | 38 => ⟨S8208x8x2x64, .f32⟩
  | 39 => ⟨S_, .f32⟩
  | 40 => ⟨S2x64, .f32⟩
  | 41 => ⟨S8208x8x2x64, .f32⟩
  | 42 => ⟨S_, .f32⟩
  | 43 => ⟨S8208x8x2, .f32⟩
  | 44 => ⟨S8208x8x2x1, .f32⟩
  | 45 => ⟨S8208x8x2x64, .f32⟩
  | 46 => ⟨S8208x8x2x64, .f32⟩
  | 47 => ⟨S8208x8x2x1, .f32⟩
  | 48 => ⟨S_, .f32⟩
  | 49 => ⟨S8208x8x2x1, .f32⟩
  | 50 => ⟨S8208x8x2x1, .f32⟩
  | 51 => ⟨S_, .f32⟩
  | 52 => ⟨S8208x8x2, .f32⟩
  | 53 => ⟨S8208x8x2x64, .f32⟩
  | 54 => ⟨S8208x8x2x64, .f32⟩
  | 55 => ⟨S8208x8x2x64, .f32⟩
  | 56 => ⟨S8208x8x2x64, .f32⟩
  | 57 => ⟨S8208x8x2x64, .f32⟩
  | 58 => ⟨S8208x1024, .f32⟩
  | 59 => ⟨S8208x4112, .f32⟩
  | 60 => ⟨S_, .i32⟩
  | 61 => ⟨S_, .f32⟩
  | 62 => ⟨S8448x4224, .f32⟩
  | 63 => ⟨S_, .i32⟩
  | 64 => ⟨S_, .f32⟩
  | 65 => ⟨S128, .f32⟩
  | 66 => ⟨S128, .f32⟩
  | 67 => ⟨S128, .f32⟩
  | 68 => ⟨S1x128, .f32⟩
  | 69 => ⟨S1x128, .f32⟩
  | 70 => ⟨S1x128, .f32⟩
  | 71 => ⟨S3x128, .f32⟩
  | 72 => ⟨S8448x4224, .bf16⟩
  | 73 => ⟨S_, .i32⟩
  | 74 => ⟨S_, .f32⟩
  | 75 => ⟨S8x128, .f32⟩
  | _ => ⟨S8208x4112, .f32⟩

abbrev hbmTy (i : Nat) : BufTy := match i / 128 with
  | 0 => hbmTy0_0 i
  | 1 => hbmTy0_1 i
  | _ => ⟨S8208x4112, .f32⟩

abbrev bufTy : (tb : Table) → Fin (tcTables nBuf tb) → BufTy
  | .hbm, ⟨i, _⟩ => hbmTy i
  | _, _ => ⟨S8208x4112, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_call0_v0 : Ref sig .tc := ⟨.hbm, 63, rfl⟩
abbrev main_call0_call0_cst : Ref sig .tc := ⟨.hbm, 64, rfl⟩
abbrev main_call0_call0_v0 : Ref sig .tc := ⟨.hbm, 65, rfl⟩
abbrev main_call0_call0_v1 : Ref sig .tc := ⟨.hbm, 66, rfl⟩
abbrev main_call0_call0_v2 : Ref sig .tc := ⟨.hbm, 67, rfl⟩
abbrev main_call0_call0_v3 : Ref sig .tc := ⟨.hbm, 68, rfl⟩
abbrev main_call0_call0_v4 : Ref sig .tc := ⟨.hbm, 69, rfl⟩
abbrev main_call0_call0_v5 : Ref sig .tc := ⟨.hbm, 70, rfl⟩
abbrev main_call0_call0_v6 : Ref sig .tc := ⟨.hbm, 71, rfl⟩
abbrev main_call0_call0_v7 : Ref sig .tc := ⟨.hbm, 72, rfl⟩
abbrev main_call0_call0_v8 : Ref sig .tc := ⟨.hbm, 73, rfl⟩
abbrev main_call0_call0_v9 : Ref sig .tc := ⟨.hbm, 74, rfl⟩
abbrev main_call0_call0_v10 : Ref sig .tc := ⟨.hbm, 75, rfl⟩
abbrev main_call0_call0_v11 : Ref sig .tc := ⟨.hbm, 76, rfl⟩
abbrev main_call0_v1_0 : Ref sig .tc := ⟨.hbm, 77, rfl⟩
abbrev main_call0_call0_cst_0 : Ref sig .tc := ⟨.hbm, 78, rfl⟩
abbrev main_call0_call0_v13 : Ref sig .tc := ⟨.hbm, 79, rfl⟩
abbrev main_call0_call0_v14 : Ref sig .tc := ⟨.hbm, 80, rfl⟩
abbrev main_call0_call0_cst_1 : Ref sig .tc := ⟨.hbm, 81, rfl⟩
abbrev main_call0_call0_v15 : Ref sig .tc := ⟨.hbm, 82, rfl⟩
abbrev main_call0_call0_v16 : Ref sig .tc := ⟨.hbm, 83, rfl⟩
abbrev main_call0_call0_cst_2 : Ref sig .tc := ⟨.hbm, 84, rfl⟩
abbrev main_call0_call0_v17 : Ref sig .tc := ⟨.hbm, 85, rfl⟩
abbrev main_call0_call0_v18 : Ref sig .tc := ⟨.hbm, 86, rfl⟩
abbrev main_call0_call0_cst_3 : Ref sig .tc := ⟨.hbm, 87, rfl⟩
abbrev main_call0_call0_v19 : Ref sig .tc := ⟨.hbm, 88, rfl⟩
abbrev main_call0_call0_v20 : Ref sig .tc := ⟨.hbm, 89, rfl⟩
abbrev main_call0_call0_v21 : Ref sig .tc := ⟨.hbm, 90, rfl⟩
abbrev main_v46_1 : Ref sig .tc := ⟨.hbm, 91, rfl⟩
abbrev main_call0_call0_cst_4 : Ref sig .tc := ⟨.hbm, 92, rfl⟩
abbrev main_call0_call0_cst_5 : Ref sig .tc := ⟨.hbm, 93, rfl⟩
abbrev main_call0_call0_v23 : Ref sig .tc := ⟨.hbm, 94, rfl⟩
abbrev main_call0_call0_cst_6 : Ref sig .tc := ⟨.hbm, 95, rfl⟩
abbrev main_call0_call0_cst_7 : Ref sig .tc := ⟨.hbm, 96, rfl⟩
abbrev main_call0_call0_v24 : Ref sig .tc := ⟨.hbm, 97, rfl⟩
abbrev main_call0_call0_cst_8 : Ref sig .tc := ⟨.hbm, 98, rfl⟩
abbrev main_call0_call0_v25 : Ref sig .tc := ⟨.hbm, 99, rfl⟩
abbrev main_call0_call0_v26 : Ref sig .tc := ⟨.hbm, 100, rfl⟩
abbrev main_call0_call0_cst_9 : Ref sig .tc := ⟨.hbm, 101, rfl⟩
abbrev main_call0_call0_v27 : Ref sig .tc := ⟨.hbm, 102, rfl⟩
abbrev main_call0_call0_v28 : Ref sig .tc := ⟨.hbm, 103, rfl⟩
abbrev main_call0_call0_v29 : Ref sig .tc := ⟨.hbm, 104, rfl⟩
abbrev main_call0_call0_v30 : Ref sig .tc := ⟨.hbm, 105, rfl⟩
abbrev main_call0_call0_v31 : Ref sig .tc := ⟨.hbm, 106, rfl⟩
abbrev main_call0_call0_cst_10 : Ref sig .tc := ⟨.hbm, 107, rfl⟩
abbrev main_call0_call0_v32 : Ref sig .tc := ⟨.hbm, 108, rfl⟩
abbrev main_v46_2 : Ref sig .tc := ⟨.hbm, 109, rfl⟩
abbrev main_v46_0 : Ref sig .tc := ⟨.hbm, 110, rfl⟩
abbrev main_call1_call0_cst : Ref sig .tc := ⟨.hbm, 111, rfl⟩
abbrev main_call1_call0_v0 : Ref sig .tc := ⟨.hbm, 112, rfl⟩
abbrev main_v47 : Ref sig .tc := ⟨.hbm, 113, rfl⟩
abbrev main_v48 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev main_call2_call0_cst : Ref sig .tc := ⟨.hbm, 120, rfl⟩
abbrev main_call2_call0_v0 : Ref sig .tc := ⟨.hbm, 121, rfl⟩
abbrev main_v54 : Ref sig .tc := ⟨.hbm, 122, rfl⟩
abbrev main_call3_v0 : Ref sig .tc := ⟨.hbm, 123, rfl⟩
abbrev main_call3_v1 : Ref sig .tc := ⟨.hbm, 124, rfl⟩
abbrev main_v55 : Ref sig .tc := ⟨.hbm, 125, rfl⟩
abbrev main_cst_7 : Ref sig .tc := ⟨.hbm, 126, rfl⟩
abbrev main_v56 : Ref sig .tc := ⟨.hbm, 127, rfl⟩
abbrev main_v57 : Ref sig .tc := ⟨.hbm, 128, rfl⟩
abbrev main_cst_8 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_cst_9 : Ref sig .tc := ⟨.hbm, 134, rfl⟩
abbrev main_v62 : Ref sig .tc := ⟨.hbm, 135, rfl⟩
abbrev main_v63 : Ref sig .tc := ⟨.hbm, 136, rfl⟩
abbrev main_v64 : Ref sig .tc := ⟨.hbm, 137, rfl⟩
abbrev main_v65 : Ref sig .tc := ⟨.hbm, 138, rfl⟩
abbrev main_cst_10 : Ref sig .tc := ⟨.hbm, 139, rfl⟩
abbrev main_v66 : Ref sig .tc := ⟨.hbm, 140, rfl⟩
abbrev main_v67 : Ref sig .tc := ⟨.hbm, 141, rfl⟩
abbrev main_cst_11 : Ref sig .tc := ⟨.hbm, 142, rfl⟩
abbrev main_v68 : Ref sig .tc := ⟨.hbm, 143, rfl⟩
abbrev main_v69 : Ref sig .tc := ⟨.hbm, 144, rfl⟩
abbrev main_v70 : Ref sig .tc := ⟨.hbm, 145, rfl⟩
abbrev main_v71 : Ref sig .tc := ⟨.hbm, 146, rfl⟩
abbrev main_v72 : Ref sig .tc := ⟨.hbm, 147, rfl⟩
abbrev main_cst_12 : Ref sig .tc := ⟨.hbm, 148, rfl⟩
abbrev main_v73 : Ref sig .tc := ⟨.hbm, 149, rfl⟩
abbrev main_v74 : Ref sig .tc := ⟨.hbm, 150, rfl⟩
abbrev main_cst_13 : Ref sig .tc := ⟨.hbm, 151, rfl⟩
abbrev main_v75 : Ref sig .tc := ⟨.hbm, 152, rfl⟩
abbrev main_v76 : Ref sig .tc := ⟨.hbm, 153, rfl⟩
abbrev main_v77 : Ref sig .tc := ⟨.hbm, 154, rfl⟩
abbrev main_v78 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_cst_14 : Ref sig .tc := ⟨.hbm, 162, rfl⟩
abbrev main_v85 : Ref sig .tc := ⟨.hbm, 163, rfl⟩
abbrev main_v86 : Ref sig .tc := ⟨.hbm, 164, rfl⟩
abbrev main_v87 : Ref sig .tc := ⟨.hbm, 165, rfl⟩
abbrev main_v88 : Ref sig .tc := ⟨.hbm, 166, rfl⟩
abbrev main_cst_15 : Ref sig .tc := ⟨.hbm, 167, rfl⟩
abbrev main_v89 : Ref sig .tc := ⟨.hbm, 168, rfl⟩
abbrev main_v90 : Ref sig .tc := ⟨.hbm, 169, rfl⟩
abbrev main_cst_16 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_v95 : Ref sig .tc := ⟨.hbm, 175, rfl⟩
abbrev main_cst_17 : Ref sig .tc := ⟨.hbm, 176, rfl⟩
abbrev main_v96 : Ref sig .tc := ⟨.hbm, 177, rfl⟩
abbrev main_v97 : Ref sig .tc := ⟨.hbm, 178, rfl⟩
abbrev main_cst_18 : Ref sig .tc := ⟨.hbm, 179, rfl⟩
abbrev main_v98 : Ref sig .tc := ⟨.hbm, 180, rfl⟩
abbrev main_v99 : Ref sig .tc := ⟨.hbm, 181, rfl⟩
abbrev main_v100 : Ref sig .tc := ⟨.hbm, 182, rfl⟩
abbrev main_v101 : Ref sig .tc := ⟨.hbm, 183, rfl⟩
abbrev main_v102 : Ref sig .tc := ⟨.hbm, 184, rfl⟩
abbrev main_v103 : Ref sig .tc := ⟨.hbm, 185, rfl⟩
abbrev main_v104 : Ref sig .tc := ⟨.hbm, 186, rfl⟩
abbrev main_v105 : Ref sig .tc := ⟨.hbm, 187, rfl⟩
abbrev main_c : Ref sig .tc := ⟨.hbm, 188, rfl⟩
abbrev main_call4_v0 : Ref sig .tc := ⟨.hbm, 189, rfl⟩
abbrev main_v106 : Ref sig .tc := ⟨.hbm, 190, rfl⟩
abbrev main_c_19 : Ref sig .tc := ⟨.hbm, 191, rfl⟩
abbrev main_call5_v0 : Ref sig .tc := ⟨.hbm, 192, rfl⟩
abbrev main_v107 : Ref sig .tc := ⟨.hbm, 193, rfl⟩
abbrev main_v108 : Ref sig .tc := ⟨.hbm, 194, rfl⟩
abbrev main_v109 : Ref sig .tc := ⟨.hbm, 195, rfl⟩
abbrev main_v110 : Ref sig .tc := ⟨.hbm, 196, rfl⟩
abbrev main_v111 : Ref sig .tc := ⟨.hbm, 197, rfl⟩
abbrev main_v112 : Ref sig .tc := ⟨.hbm, 198, rfl⟩
abbrev main_v113 : Ref sig .tc := ⟨.hbm, 199, rfl⟩
abbrev main_v114 : Ref sig .tc := ⟨.hbm, 200, rfl⟩
abbrev main_c_20 : Ref sig .tc := ⟨.hbm, 201, rfl⟩
abbrev main_call6_v0 : Ref sig .tc := ⟨.hbm, 202, rfl⟩
abbrev main_v115 : Ref sig .tc := ⟨.hbm, 203, rfl⟩

abbrev nD : Nat := 1
abbrev τ : Topo := Topo.v7x

variable {F : FTy → Type} [FloatOps F]
-- ==== FfnFwd.lean ====
abbrev S8448x1024 : Shape := ⟨2, ![8448, 1024]⟩
abbrev S1024x5632 : Shape := ⟨2, ![1024, 5632]⟩
abbrev S8448x2816 : Shape := ⟨2, ![8448, 2816]⟩
abbrev S768x1024 : Shape := ⟨2, ![768, 1024]⟩
abbrev S1024x1408 : Shape := ⟨2, ![1024, 1408]⟩
abbrev S768x1408 : Shape := ⟨2, ![768, 1408]⟩

abbrev nBuf : Space → Nat
  | .hbm => 7
  | .vmem => 12
  | .smem => 0
  | _ => 0

abbrev bufTy : (tb : Table) → Fin (tcTables nBuf tb) → BufTy
  | .hbm, ⟨0, _⟩ => ⟨S8448x1024, .f32⟩
  | .hbm, ⟨1, _⟩ => ⟨S1024x5632, .f32⟩
  | .hbm, ⟨2, _⟩ => ⟨S8448x1024, .bf16⟩
  | .hbm, ⟨3, _⟩ => ⟨S1024x5632, .bf16⟩
  | .hbm, ⟨4, _⟩ => ⟨S8448x2816, .bf16⟩
  | .hbm, ⟨5, _⟩ => ⟨S8448x2816, .bf16⟩
  | .hbm, ⟨6, _⟩ => ⟨S8448x2816, .bf16⟩
  | .local _ .vmem, ⟨0, _⟩ => ⟨S768x1024, .bf16⟩
  | .local _ .vmem, ⟨1, _⟩ => ⟨S768x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S768x1408, .bf16⟩
  | .local _ .vmem, ⟨7, _⟩ => ⟨S768x1408, .bf16⟩
  | .local _ .vmem, ⟨8, _⟩ => ⟨S768x1408, .bf16⟩
  | .local _ .vmem, ⟨9, _⟩ => ⟨S768x1408, .bf16⟩
  | .local _ .vmem, ⟨10, _⟩ => ⟨S768x1408, .bf16⟩
  | .local _ .vmem, ⟨11, _⟩ => ⟨S768x1408, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S768x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S768x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S768x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnFwdRefIdeal.lean ====
abbrev S8448x1024 : Shape := ⟨2, ![8448, 1024]⟩
abbrev S1024x5632 : Shape := ⟨2, ![1024, 5632]⟩
abbrev S8448x5632 : Shape := ⟨2, ![8448, 5632]⟩
abbrev S8448x2816 : Shape := ⟨2, ![8448, 2816]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x5632, .f32⟩
  | .hbm, ⟨2, _⟩ => ⟨S8448x5632, .f32⟩
  | .hbm, ⟨3, _⟩ => ⟨S8448x2816, .f32⟩
  | .hbm, ⟨4, _⟩ => ⟨S8448x2816, .f32⟩
  | .hbm, ⟨5, _⟩ => ⟨S8448x2816, .bf16⟩
  | .hbm, ⟨6, _⟩ => ⟨S8448x2816, .bf16⟩
  | .hbm, ⟨7, _⟩ => ⟨S8448x2816, .f32⟩
  | .hbm, ⟨8, _⟩ => ⟨S8448x2816, .f32⟩
  | .hbm, ⟨9, _⟩ => ⟨S_, .f32⟩
  | .hbm, ⟨10, _⟩ => ⟨S8448x2816, .f32⟩
  | .hbm, ⟨11, _⟩ => ⟨S8448x2816, .f32⟩
  | .hbm, ⟨12, _⟩ => ⟨S_, .f32⟩
  | .hbm, ⟨13, _⟩ => ⟨S8448x2816, .f32⟩
  | .hbm, ⟨14, _⟩ => ⟨S8448x2816, .f32⟩
  | .hbm, ⟨15, _⟩ => ⟨S8448x2816, .f32⟩
  | .hbm, ⟨16, _⟩ => ⟨S8448x2816, .f32⟩
  | .hbm, ⟨17, _⟩ => ⟨S8448x2816, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== OutProj.lean ====
abbrev S8448x2816 : Shape := ⟨2, ![8448, 2816]⟩
abbrev S2816x1024 : Shape := ⟨2, ![2816, 1024]⟩
abbrev S8448x1024 : Shape := ⟨2, ![8448, 1024]⟩
abbrev S1024 : Shape := ⟨1, ![1024]⟩
abbrev S1x1024 : Shape := ⟨2, ![1, 1024]⟩
abbrev S1024x8448 : Shape := ⟨2, ![1024, 8448]⟩
abbrev S768x2816 : Shape := ⟨2, ![768, 2816]⟩
abbrev S768x1024 : Shape := ⟨2, ![768, 1024]⟩
abbrev S1024x768 : Shape := ⟨2, ![1024, 768]⟩
abbrev S768 : Shape := ⟨1, ![768]⟩
abbrev S768x1 : Shape := ⟨2, ![768, 1]⟩

abbrev nBuf : Space → Nat
  | .hbm => 10
  | .vmem => 12
  | .smem => 0
  | _ => 0

abbrev bufTy : (tb : Table) → Fin (tcTables nBuf tb) → BufTy
  | .hbm, ⟨0, _⟩ => ⟨S8448x2816, .f32⟩
  | .hbm, ⟨1, _⟩ => ⟨S2816x1024, .f32⟩
  | .hbm, ⟨2, _⟩ => ⟨S8448x1024, .f32⟩
  | .hbm, ⟨3, _⟩ => ⟨S1024, .f32⟩
  | .hbm, ⟨4, _⟩ => ⟨S8448x2816, .bf16⟩
  | .hbm, ⟨5, _⟩ => ⟨S2816x1024, .bf16⟩
  | .hbm, ⟨6, _⟩ => ⟨S1x1024, .f32⟩
  | .hbm, ⟨7, _⟩ => ⟨S8448x1024, .f32⟩
  | .hbm, ⟨8, _⟩ => ⟨S8448x1024, .bf16⟩
  | .hbm, ⟨9, _⟩ => ⟨S1024x8448, .bf16⟩
  | .local _ .vmem, ⟨0, _⟩ => ⟨S768x2816, .bf16⟩
  | .local _ .vmem, ⟨1, _⟩ => ⟨S768x2816, .bf16⟩
  | .local _ .vmem, ⟨2, _⟩ => ⟨S2816x1024, .bf16⟩
  | .local _ .vmem, ⟨3, _⟩ => ⟨S768x1024, .f32⟩
  | .local _ .vmem, ⟨4, _⟩ => ⟨S768x1024, .f32⟩
  | .local _ .vmem, ⟨5, _⟩ => ⟨S1x1024, .f32⟩
  | .local _ .vmem, ⟨6, _⟩ => ⟨S768x1024, .f32⟩
  | .local _ .vmem, ⟨7, _⟩ => ⟨S768x1024, .f32⟩
  | .local _ .vmem, ⟨8, _⟩ => ⟨S768x1024, .bf16⟩
  | .local _ .vmem, ⟨9, _⟩ => ⟨S768x1024, .bf16⟩
  | .local _ .vmem, ⟨10, _⟩ => ⟨S1024x768, .bf16⟩
  | .local _ .vmem, ⟨11, _⟩ => ⟨S1024x768, .bf16⟩
  | _, _ => ⟨S8448x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S768x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S768x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutProjRefIdeal.lean ====
abbrev S8448x2816 : Shape := ⟨2, ![8448, 2816]⟩
abbrev S2816x1024 : Shape := ⟨2, ![2816, 1024]⟩
abbrev S8448x1024 : Shape := ⟨2, ![8448, 1024]⟩
abbrev S1024 : Shape := ⟨1, ![1024]⟩
abbrev S_ : Shape := ⟨0, ![]⟩
abbrev S8448 : Shape := ⟨1, ![8448]⟩
abbrev S8448x1 : Shape := ⟨2, ![8448, 1]⟩
abbrev S1x1024 : Shape := ⟨2, ![1, 1024]⟩
abbrev S1024x8448 : Shape := ⟨2, ![1024, 8448]⟩

abbrev nBuf : Space → Nat
  | .hbm => 25
  | .vmem => 0
  | .smem => 0
  | _ => 0

abbrev bufTy : (tb : Table) → Fin (tcTables nBuf tb) → BufTy
  | .hbm, ⟨0, _⟩ => ⟨S8448x2816, .f32⟩
  | .hbm, ⟨1, _⟩ => ⟨S2816x1024, .f32⟩
  | .hbm, ⟨2, _⟩ => ⟨S8448x1024, .f32⟩
  | .hbm, ⟨3, _⟩ => ⟨S1024, .f32⟩
  | .hbm, ⟨4, _⟩ => ⟨S8448x1024, .f32⟩
  | .hbm, ⟨5, _⟩ => ⟨S8448x1024, .f32⟩
  | .hbm, ⟨6, _⟩ => ⟨S8448x1024, .f32⟩
  | .hbm, ⟨7, _⟩ => ⟨S_, .f32⟩
  | .hbm, ⟨8, _⟩ => ⟨S8448, .f32⟩
  | .hbm, ⟨9, _⟩ => ⟨S8448x1, .f32⟩
  | .hbm, ⟨10, _⟩ => ⟨S_, .f32⟩
  | .hbm, ⟨11, _⟩ => ⟨S8448x1, .f32⟩
  | .hbm, ⟨12, _⟩ => ⟨S8448x1, .f32⟩
  | .hbm, ⟨13, _⟩ => ⟨S_, .f32⟩
  | .hbm, ⟨14, _⟩ => ⟨S8448x1, .f32⟩
  | .hbm, ⟨15, _⟩ => ⟨S8448x1, .f32⟩
  | .hbm, ⟨16, _⟩ => ⟨S8448x1, .f32⟩
  | .hbm, ⟨17, _⟩ => ⟨S8448x1024, .f32⟩
  | .hbm, ⟨18, _⟩ => ⟨S8448x1024, .f32⟩
  | .hbm, ⟨19, _⟩ => ⟨S1x1024, .f32⟩
  | .hbm, ⟨20, _⟩ => ⟨S8448x1024, .f32⟩
  | .hbm, ⟨21, _⟩ => ⟨S8448x1024, .f32⟩
  | .hbm, ⟨22, _⟩ => ⟨S8448x1024, .bf16⟩
  | .hbm, ⟨23, _⟩ => ⟨S1024x8448, .f32⟩
  | .hbm, ⟨24, _⟩ => ⟨S1024x8448, .bf16⟩
  | _, _ => ⟨S8448x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Embed.lean ====
abbrev S8192x1024 : Shape := ⟨2, ![8192, 1024]⟩
abbrev S16x1024 : Shape := ⟨2, ![16, 1024]⟩
abbrev S1024 : Shape := ⟨1, ![1024]⟩
abbrev S1x1024 : Shape := ⟨2, ![1, 1024]⟩
abbrev S8448x1024 : Shape := ⟨2, ![8448, 1024]⟩
abbrev S1024x8448 : Shape := ⟨2, ![1024, 8448]⟩
abbrev S256x1024 : Shape := ⟨2, ![256, 1024]⟩
abbrev S1024x256 : Shape := ⟨2, ![1024, 256]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S16x1024, .f32⟩
  | .hbm, ⟨2, _⟩ => ⟨S1024, .f32⟩
  | .hbm, ⟨3, _⟩ => ⟨S1x1024, .f32⟩
  | .hbm, ⟨4, _⟩ => ⟨S8448x1024, .f32⟩
  | .hbm, ⟨5, _⟩ => ⟨S8448x1024, .bf16⟩
  | .hbm, ⟨6, _⟩ => ⟨S1024x8448, .bf16⟩
  | .local _ .vmem, ⟨0, _⟩ => ⟨S256x1024, .f32⟩
  | .local _ .vmem, ⟨1, _⟩ => ⟨S256x1024, .f32⟩
  | .local _ .vmem, ⟨2, _⟩ => ⟨S16x1024, .f32⟩
  | .local _ .vmem, ⟨3, _⟩ => ⟨S1x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S1024x256, .bf16⟩
  | .local _ .vmem, ⟨9, _⟩ => ⟨S1024x256, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== EmbedRefIdeal.lean ====
abbrev S8192x1024 : Shape := ⟨2, ![8192, 1024]⟩
abbrev S16x1024 : Shape := ⟨2, ![16, 1024]⟩
abbrev S1024 : Shape := ⟨1, ![1024]⟩
abbrev S8208x1024 : Shape := ⟨2, ![8208, 1024]⟩
abbrev S_ : Shape := ⟨0, ![]⟩
abbrev S8448x1024 : Shape := ⟨2, ![8448, 1024]⟩
abbrev S8448 : Shape := ⟨1, ![8448]⟩
abbrev S8448x1 : Shape := ⟨2, ![8448, 1]⟩
abbrev S1x1024 : Shape := ⟨2, ![1, 1024]⟩
abbrev S1024x8448 : Shape := ⟨2, ![1024, 8448]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S16x1024, .f32⟩
  | .hbm, ⟨2, _⟩ => ⟨S1024, .f32⟩
  | .hbm, ⟨3, _⟩ => ⟨S8208x1024, .f32⟩
  | .hbm, ⟨4, _⟩ => ⟨S_, .i32⟩
  | .hbm, ⟨5, _⟩ => ⟨S_, .f32⟩
  | .hbm, ⟨6, _⟩ => ⟨S8448x1024, .f32⟩
  | .hbm, ⟨7, _⟩ => ⟨S8448x1024, .f32⟩
  | .hbm, ⟨8, _⟩ => ⟨S_, .f32⟩
  | .hbm, ⟨9, _⟩ => ⟨S8448, .f32⟩
  | .hbm, ⟨10, _⟩ => ⟨S8448x1, .f32⟩
  | .hbm, ⟨11, _⟩ => ⟨S_, .f32⟩
  | .hbm, ⟨12, _⟩ => ⟨S8448x1, .f32⟩
  | .hbm, ⟨13, _⟩ => ⟨S8448x1, .f32⟩
  | .hbm, ⟨14, _⟩ => ⟨S_, .f32⟩
  | .hbm, ⟨15, _⟩ => ⟨S8448x1, .f32⟩
  | .hbm, ⟨16, _⟩ => ⟨S8448x1, .f32⟩
  | .hbm, ⟨17, _⟩ => ⟨S8448x1, .f32⟩
  | .hbm, ⟨18, _⟩ => ⟨S8448x1024, .f32⟩
  | .hbm, ⟨19, _⟩ => ⟨S8448x1024, .f32⟩
  | .hbm, ⟨20, _⟩ => ⟨S1x1024, .f32⟩
  | .hbm, ⟨21, _⟩ => ⟨S8448x1024, .f32⟩
  | .hbm, ⟨22, _⟩ => ⟨S8448x1024, .f32⟩
  | .hbm, ⟨23, _⟩ => ⟨S8448x1024, .bf16⟩
  | .hbm, ⟨24, _⟩ => ⟨S1024x8448, .f32⟩
  | .hbm, ⟨25, _⟩ => ⟨S1024x8448, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== PrepFwd.lean ====
abbrev S8448x4112 : Shape := ⟨2, ![8448, 4112]⟩
abbrev S16 : Shape := ⟨1, ![16]⟩
abbrev S2x64 : Shape := ⟨2, ![2, 64]⟩
abbrev S_ : Shape := ⟨0, ![]⟩
abbrev S8448x4224 : Shape := ⟨2, ![8448, 4224]⟩
abbrev S1x16 : Shape := ⟨2, ![1, 16]⟩
abbrev S1x128 : Shape := ⟨2, ![1, 128]⟩
abbrev S8448x1024 : Shape := ⟨2, ![8448, 1024]⟩
abbrev S8448x128 : Shape := ⟨2, ![8448, 128]⟩
abbrev S384x1024 : Shape := ⟨2, ![384, 1024]⟩
abbrev S384x128 : Shape := ⟨2, ![384, 128]⟩
abbrev S384x384 : Shape := ⟨2, ![384, 384]⟩
abbrev S384x1 : Shape := ⟨2, ![384, 1]⟩
abbrev S128 : Shape := ⟨1, ![128]⟩
abbrev S384 : Shape := ⟨1, ![384]⟩

abbrev nBuf : Space → Nat
  | .hbm => 18
  | .vmem => 22
  | .smem => 0
  | _ => 0

abbrev bufTy : (tb : Table) → Fin (tcTables nBuf tb) → BufTy
  | .hbm, ⟨0, _⟩ => ⟨S8448x4112, .f32⟩
  | .hbm, ⟨1, _⟩ => ⟨S16, .f32⟩
  | .hbm, ⟨2, _⟩ => ⟨S2x64, .f32⟩
  | .hbm, ⟨3, _⟩ => ⟨S2x64, .f32⟩
  | .hbm, ⟨4, _⟩ => ⟨S_, .i32⟩
  | .hbm, ⟨5, _⟩ => ⟨S_, .f32⟩
  | .hbm, ⟨6, _⟩ => ⟨S8448x4224, .f32⟩
  | .hbm, ⟨7, _⟩ => ⟨S1x16, .f32⟩
  | .hbm, ⟨8, _⟩ => ⟨S_, .i32⟩
  | .hbm, ⟨9, _⟩ => ⟨S_, .f32⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S8448x1024, .bf16⟩
  | .hbm, ⟨14, _⟩ => ⟨S8448x1024, .bf16⟩
  | .hbm, ⟨15, _⟩ => ⟨S8448x1024, .bf16⟩
  | .hbm, ⟨16, _⟩ => ⟨S8448x1024, .bf16⟩
  | .hbm, ⟨17, _⟩ => ⟨S8448x128, .f32⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S384x1024, .f32⟩
  | .local _ .vmem, ⟨5, _⟩ => ⟨S384x1024, .f32⟩
  | .local _ .vmem, ⟨6, _⟩ => ⟨S384x128, .f32⟩
  | .local _ .vmem, ⟨7, _⟩ => ⟨S384x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S384x1024, .bf16⟩
  | .local _ .vmem, ⟨12, _⟩ => ⟨S384x1024, .bf16⟩
  | .local _ .vmem, ⟨13, _⟩ => ⟨S384x1024, .bf16⟩
  | .local _ .vmem, ⟨14, _⟩ => ⟨S384x1024, .bf16⟩
  | .local _ .vmem, ⟨15, _⟩ => ⟨S384x1024, .bf16⟩
  | .local _ .vmem, ⟨16, _⟩ => ⟨S384x1024, .bf16⟩
  | .local _ .vmem, ⟨17, _⟩ => ⟨S384x1024, .bf16⟩
  | .local _ .vmem, ⟨18, _⟩ => ⟨S384x1024, .bf16⟩
  | .local _ .vmem, ⟨19, _⟩ => ⟨S384x128, .f32⟩
  | .local _ .vmem, ⟨20, _⟩ => ⟨S384x128, .f32⟩
  | .local _ .vmem, ⟨21, _⟩ => ⟨S1x128, .f32⟩
  | _, _ => ⟨S8448x4112, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call1_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v5_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c32_i32 : BitVec 32 := 32#32
  let c0_i32 : BitVec 32 := 0#32
  ![arg0.toNat, c32_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S384x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S384x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S384x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S384x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S384x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== PrepFwdRefIdeal.lean ====
abbrev S8448x4112 : Shape := ⟨2, ![8448, 4112]⟩
abbrev S16 : Shape := ⟨1, ![16]⟩
abbrev S2x64 : Shape := ⟨2, ![2, 64]⟩
abbrev S8448x1024 : Shape := ⟨2, ![8448, 1024]⟩
abbrev S8448x16 : Shape := ⟨2, ![8448, 16]⟩
abbrev S8448x8x2x64 : Shape := ⟨4, ![8448, 8, 2, 64]⟩
abbrev S_ : Shape := ⟨0, ![]⟩
abbrev S8448x8x2 : Shape := ⟨3, ![8448, 8, 2]⟩
abbrev S8448x8x2x1 : Shape := ⟨4, ![8448, 8, 2, 1]⟩
abbrev S1x1x2x64 : Shape := ⟨4, ![1, 1, 2, 64]⟩
abbrev S8448x16x64 : Shape := ⟨3, ![8448, 16, 64]⟩
abbrev S16x8448x64 : Shape := ⟨3, ![16, 8448, 64]⟩
abbrev S1x16 : Shape := ⟨2, ![1, 16]⟩
abbrev S16x8448 : Shape := ⟨2, ![16, 8448]⟩
abbrev S8448x128 : Shape := ⟨2, ![8448, 128]⟩
abbrev S1x128 : Shape := ⟨2, ![1, 128]⟩
abbrev S8448 : Shape := ⟨1, ![8448]⟩
abbrev S8448x1 : Shape := ⟨2, ![8448, 1]⟩
abbrev S16x8448x1 : Shape := ⟨3, ![16, 8448, 1]⟩
abbrev S8x8448x64 : Shape := ⟨3, ![8, 8448, 64]⟩
abbrev S8x1x8448x64 : Shape := ⟨4, ![8, 1, 8448, 64]⟩
abbrev S8x2x8448x64 : Shape := ⟨4, ![8, 2, 8448, 64]⟩

abbrev nBuf : Space → Nat
  | .hbm => 152
  | .vmem => 0
  | .smem => 0
  | _ => 0

abbrev hbmTy0_0 (i : Nat) : BufTy := match i % 128 with
  | 0 => ⟨S8448x4112, .f32⟩
  | 1 => ⟨S16, .f32⟩
  | 2 => ⟨S2x64, .f32⟩
  | 3 => ⟨S2x64, .f32⟩
  | 4 => ⟨S8448x1024, .f32⟩
  | 5 => ⟨S8448x1024, .f32⟩
  | 6 => ⟨S8448x1024, .f32⟩
  | 7 => ⟨S8448x1024, .f32⟩
  | 8 => ⟨S8448x16, .f32⟩
  | 9 => ⟨S8448x8x2x64, .f32⟩
  | 10 => ⟨S8448x8x2x64, .f32⟩
  | 11 => ⟨S_, .f32⟩
  | 12 => ⟨S8448x8x2, .f32⟩
  | 13 => ⟨S8448x8x2x1, .f32⟩
  | 14 => ⟨S_, .f32⟩
  | 15 => ⟨S8448x8x2x1, .f32⟩
  | 16 => ⟨S8448x8x2x1, .f32⟩
  | 17 => ⟨S_, .f32⟩
  | 18 => ⟨S8448x8x2x1, .f32⟩
  | 19 => ⟨S8448x8x2x1, .f32⟩
  | 20 => ⟨S8448x8x2x1, .f32⟩
  | 21 => ⟨S8448x8x2x64, .f32⟩
  | 22 => ⟨S8448x8x2x64, .f32⟩
  | 23 => ⟨S1x1x2x64, .f32⟩
  | 24 => ⟨S8448x8x2x64, .f32⟩
  | 25 => ⟨S8448x8x2x64, .f32⟩
  | 26 => ⟨S8448x16x64, .f32⟩
  | 27 => ⟨S16x8448x64, .f32⟩
  | 28 => ⟨S8448x8x2x64, .f32⟩
  | 29 => ⟨S8448x8x2x64, .f32⟩
  | 30 => ⟨S_, .f32⟩
  | 31 => ⟨S8448x8x2, .f32⟩
  | 32 => ⟨S8448x8x2x1, .f32⟩
  | 33 => ⟨S_, .f32⟩
  | 34 => ⟨S8448x8x2x1, .f32⟩
  | 35 => ⟨S8448x8x2x1, .f32⟩
  | 36 => ⟨S_, .f32⟩
  | 37 => ⟨S8448x8x2x1, .f32⟩
  | 38 => ⟨S8448x8x2x1, .f32⟩
  | 39 => ⟨S8448x8x2x1, .f32⟩
  | 40 => ⟨S8448x8x2x64, .f32⟩
  | 41 => ⟨S8448x8x2x64, .f32⟩
  | 42 => ⟨S1x1x2x64, .f32⟩
  | 43 => ⟨S8448x8x2x64, .f32⟩
  | 44 => ⟨S8448x8x2x64, .f32⟩
  | 45 => ⟨S8448x16x64, .f32⟩
  | 46 => ⟨S16x8448x64, .f32⟩
  | 47 => ⟨S1x16, .f32⟩
  | 48 => ⟨S8448x16, .f32⟩
  | 49 => ⟨S8448x16, .f32⟩
  | 50 => ⟨S8448x16, .f32⟩
  | 51 => ⟨S_, .f32⟩
  | 52 => ⟨S8448x16, .f32⟩
  | 53 => ⟨S8448x16, .f32⟩
  | 54 => ⟨S8448x16, .f32⟩
  | 55 => ⟨S8448x16, .f32⟩
  | 56 => ⟨S8448x16, .i1⟩
  | 57 => ⟨S8448x16, .f32⟩
  | 58 => ⟨S8448x16, .f32⟩
  | 59 => ⟨S8448x16, .f32⟩
  | 60 => ⟨S8448x16, .f32⟩
  | 61 => ⟨S8448x16, .f32⟩
  | 62 => ⟨S8448x16, .f32⟩
  | 63 => ⟨S8448x16, .f32⟩
  | 64 => ⟨S8448x16, .f32⟩
  | 65 => ⟨S8448x16, .f32⟩
  | 66 => ⟨S_, .f32⟩
  | 67 => ⟨S_, .f32⟩
  | 68 => ⟨S8448x16, .f32⟩
  | 69 => ⟨S16x8448, .f32⟩
  | 70 => ⟨S8448x16x64, .f32⟩
  | 71 => ⟨S16x8448x64, .f32⟩
  | 72 => ⟨S8448x16, .f32⟩
  | 73 => ⟨S1x16, .f32⟩
  | 74 => ⟨S_, .i32⟩
  | 75 => ⟨S_, .f32⟩
  | 76 => ⟨S8448x128, .f32⟩
  | 77 => ⟨S_, .i32⟩
  | 78 => ⟨S_, .f32⟩
  | 79 => ⟨S1x128, .f32⟩
  | 80 => ⟨S8448x128, .f32⟩
  | 81 => ⟨S8448x128, .f32⟩
  | 82 => ⟨S8448x128, .f32⟩
  | 83 => ⟨S_, .f32⟩
  | 84 => ⟨S8448x128, .f32⟩
  | 85 => ⟨S8448x128, .f32⟩
  | 86 => ⟨S8448x128, .f32⟩
  | 87 => ⟨S8448x128, .f32⟩
  | 88 => ⟨S8448x128, .i1⟩
  | 89 => ⟨S8448x128, .f32⟩
  | 90 => ⟨S8448x128, .f32⟩
  | 91 => ⟨S8448x128, .f32⟩
  | 92 => ⟨S8448x128, .f32⟩
  | 93 => ⟨S8448x128, .f32⟩
  | 94 => ⟨S8448x128, .f32⟩
  | 95 => ⟨S8448x128, .f32⟩
  | 96 => ⟨S8448x128, .f32⟩
  | 97 => ⟨S8448x128, .f32⟩
  | 98 => ⟨S_, .f32⟩
  | 99 => ⟨S_, .f32⟩
  | 100 => ⟨S8448x128, .f32⟩
  | 101 => ⟨S_, .f32⟩
  | 102 => ⟨S_, .f32⟩
  | 103 => ⟨S8448x128, .f32⟩
  | 104 => ⟨S8448x128, .f32⟩
  | 105 => ⟨S8448, .i32⟩
  | 106 => ⟨S_, .i32⟩
  | 107 => ⟨S8448, .i32⟩
  | 108 => ⟨S8448, .i1⟩
  | 109 => ⟨S8448x1, .i1⟩
  | 110 => ⟨S8448x128, .f32⟩
  | 111 => ⟨S_, .f32⟩
  | 112 => ⟨S_, .f32⟩
  | 113 => ⟨S8448x128, .i1⟩
  | 114 => ⟨S8448x128, .f32⟩
  | 115 => ⟨S8448x128, .f32⟩
  | 116 => ⟨S8448x16, .f32⟩
  | 117 => ⟨S16x8448, .f32⟩
  | 118 => ⟨S16x8448x1, .f32⟩
  | 119 => ⟨S_, .i32⟩
  | 120 => ⟨S_, .f32⟩
  | 121 => ⟨S16x8448x64, .f32⟩
  | 122 => ⟨S8x8448x64, .f32⟩
  | 123 => ⟨S8x8448x64, .f32⟩
  | 124 => ⟨S8x1x8448x64, .f32⟩
  | 125 => ⟨S8x1x8448x64, .f32⟩
  | 126 => ⟨S8x2x8448x64, .f32⟩
  | 127 => ⟨S16x8448x64, .f32⟩
  | _ => ⟨S8448x4112, .f32⟩

abbrev hbmTy0_1 (i : Nat) : BufTy := match i % 128 with
  | 0 => ⟨S8x8448x64, .f32⟩
  | 1 => ⟨S8x8448x64, .f32⟩
  | 2 => ⟨S8x1x8448x64, .f32⟩
  | 3 => ⟨S8x1x8448x64, .f32⟩
  | 4 => ⟨S8x2x8448x64, .f32⟩
  | 5 => ⟨S16x8448x64, .f32⟩
  | 6 => ⟨S_, .f32⟩
  | 7 => ⟨S_, .f32⟩
  | 8 => ⟨S_, .f32⟩
  | 9 => ⟨S_, .f32⟩
  | 10 => ⟨S16x8448x64, .f32⟩
  | 11 => ⟨S16x8448x64, .f32⟩
  | 12 => ⟨S8448x16x64, .f32⟩
  | 13 => ⟨S8448x1024, .f32⟩
  | 14 => ⟨S8448x1024, .bf16⟩
  | 15 => ⟨S8448x16x64, .f32⟩
  | 16 => ⟨S8448x1024, .f32⟩
  | 17 => ⟨S8448x1024, .bf16⟩
  | 18 => ⟨S8448x16x64, .f32⟩
  | 19 => ⟨S8448x1024, .f32⟩
  | 20 => ⟨S8448x1024, .bf16⟩
  | 21 => ⟨S8448x16x64, .f32⟩
  | 22 => ⟨S8448x1024, .f32⟩
  | 23 => ⟨S8448x1024, .bf16⟩
  | _ => ⟨S8448x4112, .f32⟩

abbrev hbmTy (i : Nat) : BufTy := match i / 128 with
  | 0 => hbmTy0_0 i
  | 1 => hbmTy0_1 i
  | _ => ⟨S8448x4112, .f32⟩

abbrev bufTy : (tb : Table) → Fin (tcTables nBuf tb) → BufTy
  | .hbm, ⟨i, _⟩ => hbmTy i
  | _, _ => ⟨S8448x4112, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_call0_v0 : Ref sig .tc := ⟨.hbm, 50, rfl⟩
abbrev main_call0_call0_cst : Ref sig .tc := ⟨.hbm, 51, rfl⟩
abbrev main_call0_call0_v0 : Ref sig .tc := ⟨.hbm, 52, rfl⟩
abbrev main_call0_call0_v1 : Ref sig .tc := ⟨.hbm, 53, rfl⟩
abbrev main_call0_call0_v2 : Ref sig .tc := ⟨.hbm, 54, rfl⟩
abbrev main_call0_call0_v3 : Ref sig .tc := ⟨.hbm, 55, rfl⟩
abbrev main_call0_call0_v4 : Ref sig .tc := ⟨.hbm, 56, rfl⟩
abbrev main_call0_call0_v5 : Ref sig .tc := ⟨.hbm, 57, rfl⟩
abbrev main_call0_call0_v6 : Ref sig .tc := ⟨.hbm, 58, rfl⟩
abbrev main_call0_call0_v7 : Ref sig .tc := ⟨.hbm, 59, rfl⟩
abbrev main_call0_call0_v8 : Ref sig .tc := ⟨.hbm, 60, rfl⟩
abbrev main_call0_call0_v9 : Ref sig .tc := ⟨.hbm, 61, rfl⟩
abbrev main_call0_call0_v10 : Ref sig .tc := ⟨.hbm, 62, rfl⟩
abbrev main_call0_call0_v11 : Ref sig .tc := ⟨.hbm, 63, rfl⟩
abbrev main_call0_v1 : Ref sig .tc := ⟨.hbm, 64, rfl⟩
abbrev main_v40 : Ref sig .tc := ⟨.hbm, 65, rfl⟩
abbrev main_call1_call0_cst : Ref sig .tc := ⟨.hbm, 66, rfl⟩
abbrev main_call1_call0_v0 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_c : Ref sig .tc := ⟨.hbm, 74, rfl⟩
abbrev main_call2_v0 : Ref sig .tc := ⟨.hbm, 75, rfl⟩
abbrev main_v47 : Ref sig .tc := ⟨.hbm, 76, rfl⟩
abbrev main_c_5 : Ref sig .tc := ⟨.hbm, 77, rfl⟩
abbrev main_call3_v0 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_call4_v0 : Ref sig .tc := ⟨.hbm, 82, rfl⟩
abbrev main_call4_call0_cst : Ref sig .tc := ⟨.hbm, 83, rfl⟩
abbrev main_call4_call0_v0 : Ref sig .tc := ⟨.hbm, 84, rfl⟩
abbrev main_call4_call0_v1 : Ref sig .tc := ⟨.hbm, 85, rfl⟩
abbrev main_call4_call0_v2 : Ref sig .tc := ⟨.hbm, 86, rfl⟩
abbrev main_call4_call0_v3 : Ref sig .tc := ⟨.hbm, 87, rfl⟩
abbrev main_call4_call0_v4 : Ref sig .tc := ⟨.hbm, 88, rfl⟩
abbrev main_call4_call0_v5 : Ref sig .tc := ⟨.hbm, 89, rfl⟩
abbrev main_call4_call0_v6 : Ref sig .tc := ⟨.hbm, 90, rfl⟩
abbrev main_call4_call0_v7 : Ref sig .tc := ⟨.hbm, 91, rfl⟩
abbrev main_call4_call0_v8 : Ref sig .tc := ⟨.hbm, 92, rfl⟩
abbrev main_call4_call0_v9 : Ref sig .tc := ⟨.hbm, 93, rfl⟩
abbrev main_call4_call0_v10 : Ref sig .tc := ⟨.hbm, 94, rfl⟩
abbrev main_call4_call0_v11 : Ref sig .tc := ⟨.hbm, 95, rfl⟩
abbrev main_call4_v1 : Ref sig .tc := ⟨.hbm, 96, rfl⟩
abbrev main_v51 : Ref sig .tc := ⟨.hbm, 97, rfl⟩
abbrev main_call5_call0_cst : Ref sig .tc := ⟨.hbm, 98, rfl⟩
abbrev main_call5_call0_v0 : Ref sig .tc := ⟨.hbm, 99, rfl⟩
abbrev main_v52 : Ref sig .tc := ⟨.hbm, 100, rfl⟩
abbrev main_cst_6 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_c_7 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_cst_8 : Ref sig .tc := ⟨.hbm, 111, rfl⟩
abbrev main_call6_v0 : Ref sig .tc := ⟨.hbm, 112, rfl⟩
abbrev main_call6_v1 : Ref sig .tc := ⟨.hbm, 113, rfl⟩
abbrev main_call6_v2 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_c_9 : Ref sig .tc := ⟨.hbm, 119, rfl⟩
abbrev main_call7_v0 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_cst_10 : Ref sig .tc := ⟨.hbm, 134, rfl⟩
abbrev main_v78 : Ref sig .tc := ⟨.hbm, 135, rfl⟩
abbrev main_cst_11 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩

abbrev nD : Nat := 1
abbrev τ : Topo := Topo.v7x

variable {F : FTy → Type} [FloatOps F]
-- ==== Dw.lean ====
abbrev S8448x1024 : Shape := ⟨2, ![8448, 1024]⟩
abbrev S8448x5632 : Shape := ⟨2, ![8448, 5632]⟩
abbrev S1024x8448 : Shape := ⟨2, ![1024, 8448]⟩
abbrev S1024x5632 : Shape := ⟨2, ![1024, 5632]⟩
abbrev S1024x1408 : Shape := ⟨2, ![1024, 1408]⟩
abbrev S1408x1408 : Shape := ⟨2, ![1408, 1408]⟩

abbrev nBuf : Space → Nat
  | .hbm => 6
  | .vmem => 7
  | .smem => 0
  | _ => 0

abbrev bufTy : (tb : Table) → Fin (tcTables nBuf tb) → BufTy
  | .hbm, ⟨0, _⟩ => ⟨S8448x1024, .f32⟩
  | .hbm, ⟨1, _⟩ => ⟨S8448x5632, .f32⟩
  | .hbm, ⟨2, _⟩ => ⟨S1024x8448, .f32⟩
  | .hbm, ⟨3, _⟩ => ⟨S1024x8448, .bf16⟩
  | .hbm, ⟨4, _⟩ => ⟨S8448x5632, .bf16⟩
  | .hbm, ⟨5, _⟩ => ⟨S1024x5632, .f32⟩
  | .local _ .vmem, ⟨0, _⟩ => ⟨S1024x1408, .bf16⟩
  | .local _ .vmem, ⟨1, _⟩ => ⟨S1024x1408, .bf16⟩
  | .local _ .vmem, ⟨2, _⟩ => ⟨S1408x1408, .bf16⟩
  | .local _ .vmem, ⟨3, _⟩ => ⟨S1408x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 6], ![false, false, false]⟩

def k0_cond2 (i : grid0.Coords) : BitVec 1 :=
  let arg2 : BitVec 32 := BitVec.ofNat 32 (i 2).val
  let c5_i32 : BitVec 32 := 5#32
  let v13 : BitVec 1 := Scalar.cmpi .eq arg2 c5_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwRefIdeal.lean ====
abbrev S8448x1024 : Shape := ⟨2, ![8448, 1024]⟩
abbrev S8448x5632 : Shape := ⟨2, ![8448, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x5632, .f32⟩
  | .hbm, ⟨2, _⟩ => ⟨S_, .f32⟩
  | .hbm, ⟨3, _⟩ => ⟨S1024x5632, .f32⟩
  | .hbm, ⟨4, _⟩ => ⟨S8448x5632, .f32⟩
  | .hbm, ⟨5, _⟩ => ⟨S5632x1024, .f32⟩
  | .hbm, ⟨6, _⟩ => ⟨S1024x5632, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Adamw.lean ====
abbrev S8x2048x704 : Shape := ⟨3, ![8, 2048, 704]⟩
abbrev S2048x704 : Shape := ⟨2, ![2048, 704]⟩
abbrev S8x512x704 : Shape := ⟨3, ![8, 512, 704]⟩
abbrev S512x704 : Shape := ⟨2, ![512, 704]⟩
abbrev S1x512x704 : Shape := ⟨3, ![1, 512, 704]⟩

abbrev nBuf : Space → Nat
  | .hbm => 9
  | .vmem => 16
  | .smem => 0
  | _ => 0

abbrev bufTy : (tb : Table) → Fin (tcTables nBuf tb) → BufTy
  | .hbm, ⟨0, _⟩ => ⟨S8x2048x704, .f32⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S8x2048x704, .bf16⟩
  | .hbm, ⟨5, _⟩ => ⟨S2048x704, .f32⟩
  | .hbm, ⟨6, _⟩ => ⟨S2048x704, .f32⟩
  | .hbm, ⟨7, _⟩ => ⟨S2048x704, .f32⟩
  | .hbm, ⟨8, _⟩ => ⟨S2048x704, .f32⟩
  | .local _ .vmem, ⟨0, _⟩ => ⟨S8x512x704, .bf16⟩
  | .local _ .vmem, ⟨1, _⟩ => ⟨S8x512x704, .bf16⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | .local _ .vmem, ⟨14, _⟩ => ⟨S512x704, .f32⟩
  | .local _ .vmem, ⟨15, _⟩ => ⟨S512x704, .f32⟩
  | _, _ => ⟨S8x2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwRefIdeal.lean ====
abbrev S8x2048x704 : Shape := ⟨3, ![8, 2048, 704]⟩
abbrev S2048x704 : Shape := ⟨2, ![2048, 704]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x2048x704, .f32⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S_, .f32⟩
  | .hbm, ⟨5, _⟩ => ⟨S2048x704, .f32⟩
  | .hbm, ⟨6, _⟩ => ⟨S_, .f32⟩
  | .hbm, ⟨7, _⟩ => ⟨S2048x704, .f32⟩
  | .hbm, ⟨8, _⟩ => ⟨S2048x704, .f32⟩
  | .hbm, ⟨9, _⟩ => ⟨S_, .f32⟩
  | .hbm, ⟨10, _⟩ => ⟨S2048x704, .f32⟩
  | .hbm, ⟨11, _⟩ => ⟨S2048x704, .f32⟩
  | .hbm, ⟨12, _⟩ => ⟨S2048x704, .f32⟩
  | .hbm, ⟨13, _⟩ => ⟨S_, .f32⟩
  | .hbm, ⟨14, _⟩ => ⟨S2048x704, .f32⟩
  | .hbm, ⟨15, _⟩ => ⟨S2048x704, .f32⟩
  | .hbm, ⟨16, _⟩ => ⟨S2048x704, .f32⟩
  | .hbm, ⟨17, _⟩ => ⟨S_, .f32⟩
  | .hbm, ⟨18, _⟩ => ⟨S2048x704, .f32⟩
  | .hbm, ⟨19, _⟩ => ⟨S2048x704, .f32⟩
  | .hbm, ⟨20, _⟩ => ⟨S2048x704, .f32⟩
  | .hbm, ⟨21, _⟩ => ⟨S_, .f32⟩
  | .hbm, ⟨22, _⟩ => ⟨S2048x704, .f32⟩
  | .hbm, ⟨23, _⟩ => ⟨S2048x704, .f32⟩
  | .hbm, ⟨24, _⟩ => ⟨S_, .f32⟩
  | .hbm, ⟨25, _⟩ => ⟨S2048x704, .f32⟩
  | .hbm, ⟨26, _⟩ => ⟨S2048x704, .f32⟩
  | .hbm, ⟨27, _⟩ => ⟨S2048x704, .f32⟩
  | .hbm, ⟨28, _⟩ => ⟨S_, .f32⟩
  | .hbm, ⟨29, _⟩ => ⟨S2048x704, .f32⟩
  | .hbm, ⟨30, _⟩ => ⟨S2048x704, .f32⟩
  | .hbm, ⟨31, _⟩ => ⟨S2048x704, .f32⟩
  | .hbm, ⟨32, _⟩ => ⟨S_, .f32⟩
  | .hbm, ⟨33, _⟩ => ⟨S2048x704, .f32⟩
  | .hbm, ⟨34, _⟩ => ⟨S2048x704, .f32⟩
  | .hbm, ⟨35, _⟩ => ⟨S2048x704, .f32⟩
  | .hbm, ⟨36, _⟩ => ⟨S_, .f32⟩
  | .hbm, ⟨37, _⟩ => ⟨S2048x704, .f32⟩
  | .hbm, ⟨38, _⟩ => ⟨S2048x704, .f32⟩
  | _, _ => ⟨S8x2048x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.FfnValue.lean ====
/- The value of the SwiGLU backward call: what `Cert.FfnIdeal` leaves in its result is the reference's gradient. -/
module

public import proofs.«01_k».proof.Proof.Gen.FfnIdeal.Value
public import proofs.«01_k».proof.Proof.Gen.FfnRefIdeal.Run
public import proofs.«01_k».proof.Proof.Gen.FfnRefIdeal.Read
public import Idealize.ShloMosaic.Lib.Pipeline.ValueKit
public import Idealize.ShloMosaic.Lib.Claim

@[expose] public section

set_option maxRecDepth 16384

noncomputable section

namespace Cert.FfnIdeal.FfnValue

open Idealize.ShloMosaic Idealize.ShloMosaic.TcCoe Idealize.SL.Sem
open Idealize.ShloMosaic.Pipeline (Dat)
open scoped BigOperators
open Cert.FfnIdeal Cert.FfnIdeal.Gen

variable (m : (ℓ : Loc nD τ sig) → Buf (Elt Ideal) ℓ)

/-- The reference's result as a function of its four arguments. -/
abbrev REF (a0 : FVec Ideal S8448x1024 .f32) (a1 : FVec Ideal S1024x5632 .f32)
    (a2 : FVec Ideal S2816x1024 .f32) (a3 : FVec Ideal S8448x1024 .f32) : FVec Ideal S8448x5632 .bf16 :=
  Cert.FfnRefIdeal.Read.val_main_v11 (F := Ideal) a0 a1 a2 a3

/-- Every window's block index at every grid point. -/
theorem idx : ∀ t : Fin cfg0.N, win0_0.index t = ![t.val, 0]
    ∧ win0_1.index t = ![0, 0]
    ∧ win0_2.index t = ![t.val, 0]
    ∧ win0_3.index t = ![t.val, 0]
    ∧ win0_4.index t = ![t.val, 0] :=
  (by decide +kernel : ∀ t : Fin grid0.N, _)

/-- Entry (r, off + q) of `h @ w`. -/
def col (a0 : FVec Ideal S8448x1024 .f32) (a1 : FVec Ideal S1024x5632 .f32) (off : ℕ) (ho : off + 2816 ≤ 5632)
    (r : Fin 8448) (q : Fin 2816) : EReal :=
  ∑ k : Fin 1024, a0 (ix2 r k) * a1 (ix2 k ⟨off + (q : ℕ), by omega⟩)

/-- Entry (r, q) of the cotangent times the transposed output weight. -/
def dact (a2 : FVec Ideal S2816x1024 .f32) (a3 : FVec Ideal S8448x1024 .f32) (r : Fin 8448) (q : Fin 2816) : EReal :=
  ∑ k : Fin 1024, a3 (ix2 r k) * a2 (ix2 q k)

section
open Cert.FfnRefIdeal.Read
variable (a0 : FVec Ideal S8448x1024 .f32) (a1 : FVec Ideal S1024x5632 .f32) (a2 : FVec Ideal S2816x1024 .f32)
  (a3 : FVec Ideal S8448x1024 .f32) (r : Fin 8448) (q : Fin 2816)

/-- The reference's gate half: the gradient through `silu`. -/
theorem ref_gate : REF a0 a1 a2 a3 (ix2 r ⟨(q : ℕ), by omega⟩)
    = dact a2 a3 r q * col a0 a1 2816 (by omega) r q * Ideal.logistic (col a0 a1 0 (by omega) r q)
      + col a0 a1 0 (by omega) r q * (dact a2 a3 r q * col a0 a1 2816 (by omega) r q)
        * (Ideal.logistic (col a0 a1 0 (by omega) r q) * (1 - Ideal.logistic (col a0 a1 0 (by omega) r q))) := by
  pointwise [REF, val_main_v11, val_main_v10, val_main_v9, val_main_v8, val_main_v7, val_main_v6, val_main_call1_v0, val_main_call1_v1, val_main_call1_v2, val_main_v3_0, val_main_v3_1, val_main_v3_2, val_main_call0_v0, val_main_call0_v1, val_main_call0_v2, val_main_call0_v3, val_main_call0_v4, val_main_call0_v6, val_main_call0_v7, val_main_call0_cst, val_main_call0_cst_0, val_main_call0_cst_1, val_main_v0, val_main_v1, val_main_v2, col, dact, Ideal.logistic]

/-- The reference's up half. -/
theorem ref_up : REF a0 a1 a2 a3 (ix2 r ⟨2816 + (q : ℕ), by omega⟩)
    = col a0 a1 0 (by omega) r q * Ideal.logistic (col a0 a1 0 (by omega) r q) * dact a2 a3 r q := by
  pointwise [REF, val_main_v11, val_main_v10, val_main_v9, val_main_v8, val_main_v7, val_main_v6, val_main_call1_v0, val_main_call1_v1, val_main_call1_v2, val_main_v3_0, val_main_v3_1, val_main_v3_2, val_main_call0_v0, val_main_call0_v1, val_main_call0_v2, val_main_call0_v3, val_main_call0_v4, val_main_call0_v6, val_main_call0_v7, val_main_call0_cst, val_main_call0_cst_0, val_main_call0_cst_1, val_main_v0, val_main_v1, val_main_v2, col, dact, Ideal.logistic]
end

section
variable (c : Dev nD)

/-- The saved gate is the first half of the product. -/
theorem gate_at (r : Fin 8448) (q : Fin 2816) :
    (V m c main_v4 : FVec Ideal S8448x2816 .bf16) (ix2 r q)
      = col (m ((c : Thread nD τ).loc main_arg0)) (m ((c : Thread nD τ).loc main_arg1)) 0 (by omega) r q := by
  entry_read
  pointwise [col]

/-- The saved up projection is the second half. -/
theorem up_at (r : Fin 8448) (q : Fin 2816) :
    (V m c main_v7 : FVec Ideal S8448x2816 .bf16) (ix2 r q)
      = col (m ((c : Thread nD τ).loc main_arg0)) (m ((c : Thread nD τ).loc main_arg1)) 2816 (by omega) r q := by
  entry_read
  pointwise [col]

variable (t : Fin cfg0.N) (x : S256x2816.Idx)

/-- The array row of row `x 0` of tile `t`. -/
def row : Fin 8448 := ⟨t.val * 256 + (x 0 : ℕ), by have h : t.val < 33 := lt_of_lt_of_eq t.isLt N_0; have h' : (x 0 : ℕ) < 256 := (x 0).isLt; omega⟩

theorem gate_blk : iblk m c 2 t x
    = col (m ((c : Thread nD τ).loc main_arg0)) (m ((c : Thread nD τ).loc main_arg1)) 0 (by omega) (row t x) (x 1) := by
  refine Eq.trans ?_ (gate_at m c (row t x) (x 1))
  blk_ext [iblk, row, idx t]

theorem up_blk : iblk m c 3 t x
    = col (m ((c : Thread nD τ).loc main_arg0)) (m ((c : Thread nD τ).loc main_arg1)) 2816 (by omega) (row t x) (x 1) := by
  refine Eq.trans ?_ (up_at m c (row t x) (x 1))
  blk_ext [iblk, row, idx t]

theorem ct_blk (k : Fin 1024) : iblk m c 0 t (ix2 (x 0) k)
    = (m ((c : Thread nD τ).loc main_arg3) : FVec Ideal S8448x1024 .f32) (ix2 (row t x) k) := by
  unfold row
  blk_point [iblk, V, idx t]

theorem w_blk (q : Fin 2816) (k : Fin 1024) : iblk m c 1 t (ix2 q k)
    = (m ((c : Thread nD τ).loc main_arg2) : FVec Ideal S2816x1024 .f32) (ix2 q k) := by
  blk_point [iblk, V, idx t]
end

/-- One point's two stores are the reference's two halves on that row tile. -/
theorem point (c : Dev nD) (t : Fin cfg0.N) (y) :
    out0_4 (iblk m c 0 t) (iblk m c 1 t) (iblk m c 2 t) (iblk m c 3 t) y
      = REF (m ((c : Thread nD τ).loc main_arg0)) (m ((c : Thread nD τ).loc main_arg1)) (m ((c : Thread nD τ).loc
        main_arg2)) (m ((c : Thread nD τ).loc main_arg3)) (((cfg0.win 4).blk t).view.emb y) := by
  canon_tiles x h
  · refine Eq.trans ?_ ((ref_up _ _ _ _ (row t x) (x 1)).symm.trans (congrArg _ ?_))
    · open_payloads
      pointwise [gate_blk, up_blk, ct_blk, w_blk, dact]
    · blk_ext [row, idx t]
  · refine Eq.trans ?_ ((ref_gate _ _ _ _ (row t x) (x 1)).symm.trans (congrArg _ ?_))
    · open_payloads
      pointwise [gate_blk, up_blk, ct_blk, w_blk, dact]
    · blk_ext [row, idx t]

theorem final (c : Dev nD) : (dats m 0 c).arrAt 4 (cfgs 0).N = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]
  exact point m c t y

end Cert.FfnIdeal.FfnValue

end
-- ==== Proof.AttnPay.lean ====
module
public import proofs.«01_k».proof.Proof.Gen.AttnBwdIdeal.Value
public import Idealize.ShloMosaic.Lib.Pipeline.ValueKit
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.AttnBwd
open Cert.AttnBwdIdeal Cert.AttnBwdIdeal.Gen

/-- The blocks of one step: queries, cotangents, shifts, row sums, decay sums, the two key operands, values. -/
structure Blocks where
  x0 : Vec Ideal S768x128 .bf16
  x1 : Vec Ideal S768x128 .bf16
  x2 : Vec Ideal S768x128 .f32
  x3 : Vec Ideal S768x128 .f32
  x4 : Vec Ideal S768x128 .f32
  x5 : Vec Ideal S8448x128 .bf16
  x6 : Vec Ideal S8448x128 .bf16
  x7 : Vec Ideal S8448x128 .bf16

variable (X : Blocks)

/-- A query row as head `h` of the pair multiplies it: its own lanes, ones on the lanes of the decay sum, zeros elsewhere. -/
def QH (h : Fin 2) (q : Fin 768) (l : Fin 128) : EReal :=
  if h = 0 then (if l.val < 64 then X.x0 (ix2 q l) else if l.val < 67 then 1 else 0)
  else (if l.val < 64 then (if l.val < 3 then 1 else 0) else X.x0 (ix2 q l))

/-- A cotangent row on the lanes of head `h`. -/
def DOH (h : Fin 2) (q : Fin 768) (l : Fin 128) : EReal :=
  if h = 0 then (if l.val < 64 then X.x1 (ix2 q l) else 0) else (if l.val < 64 then 0 else X.x1 (ix2 q l))

/-- The greatest entry of a row over the lanes of head `h`. -/
def MX (y : Vec Ideal S768x128 .f32) (h : Fin 2) (q : Fin 768) : EReal :=
  Finset.univ.fold max ⊥ fun l : Fin 128 =>
    if h = 0 then (if l.val < 64 then y (ix2 q l) else ⊥) else (if l.val < 64 then ⊥ else y (ix2 q l))

/-- The shift of a row's logits. -/
def SH (p : ℕ) (h : Fin 2) (q : Fin 768) : EReal :=
  (∑ l : Fin 128, if l.val = 2 * p + h.val then X.x4 (ix2 q l) else 0) - MX X.x2 h q

/-- A key row as head `h` meets it. -/
def KH (h : Fin 2) (R : Fin 8448) (l : Fin 128) : EReal := if h = 0 then X.x5 (ix2 R l) else X.x6 (ix2 R l)

/-- A query row against a key row. -/
def TT (h : Fin 2) (q : Fin 768) (R : Fin 8448) : EReal := ∑ l : Fin 128, QH X h q l * KH X h R l

/-- Which keys a query of tile `i` meets: those of earlier tiles, and in its own tile those not after it, no row of padding
    meeting a query that is not one. -/
def OK (i : ℕ) (q : Fin 768) (R : Fin 8448) : Prop :=
  R.val < 768 * i ∨ (R.val ≤ 768 * i + q.val ∧ (240 ≤ R.val ∨ 768 * i + q.val < 240))

instance (i : ℕ) (q : Fin 768) (R : Fin 8448) : Decidable (OK i q R) := by unfold OK; infer_instance

/-- The weight of a key row, before the division by the row's sum. -/
def PB (i p : ℕ) (h : Fin 2) (q : Fin 768) (R : Fin 8448) : EReal :=
  Ideal.exp2 ((if OK i q R then TT X h q R else ⊥) + SH X p h q)

/-- The gradient of a logit. -/
def DS (i p : ℕ) (h : Fin 2) (q : Fin 768) (R : Fin 8448) : EReal :=
  PB X i p h q R * ((∑ l : Fin 128, DOH X h q l * X.x7 (ix2 R l)) - MX X.x3 h q)

theorem qh0 (q : Fin 768) (l : Fin 128) : k0_pay36 (F := Ideal) X.x0 (ix2 q l) = QH X 0 q l := by
  pointwise [k0_pay36, QH, k0_pay31, k0_pay35, k0_pay34, k0_pay33]
  word_cmp
theorem qh1 (q : Fin 768) (l : Fin 128) : k0_pay37 (F := Ideal) X.x0 (ix2 q l) = QH X 1 q l := by
  pointwise [k0_pay37, QH, k0_pay31, k0_pay35, k0_pay34, k0_pay33]
  word_cmp
theorem doh0 (q : Fin 768) (l : Fin 128) : k0_pay38 (F := Ideal) X.x1 (ix2 q l) = DOH X 0 q l := by
  pointwise [k0_pay38, DOH, k0_pay30, k0_pay32, k0_pay33]
  word_cmp
theorem doh1 (q : Fin 768) (l : Fin 128) : k0_pay39 (F := Ideal) X.x1 (ix2 q l) = DOH X 1 q l := by
  pointwise [k0_pay39, DOH, k0_pay30, k0_pay32, k0_pay33]
  word_cmp

theorem neg_inf_word : Ideal.ofBits FTy.f32 4286578688#32 = ⊥ := by simp [Ideal.ofBits, Ideal.ieee]

variable (y : Vec Ideal S768x128 .f32)

theorem mx0 (q : Fin 768) : k0_pay42 (F := Ideal) y (ix2 q 0) = MX y 0 q := by
  pointwise [k0_pay42, MX, k0_pay40, k0_pay41, neg_inf_word]
  word_cmp
theorem mx1 (q : Fin 768) : k0_pay43 (F := Ideal) y (ix2 q 0) = MX y 1 q := by
  pointwise [k0_pay43, MX, k0_pay40, k0_pay41, neg_inf_word]
  word_cmp
theorem dl0 (q : Fin 768) : k0_pay46 (F := Ideal) y (ix2 q 0) = MX y 0 q := by
  pointwise [k0_pay46, MX, k0_pay44, k0_pay45, neg_inf_word]
  word_cmp
theorem dl1 (q : Fin 768) : k0_pay47 (F := Ideal) y (ix2 q 0) = MX y 1 q := by
  pointwise [k0_pay47, MX, k0_pay44, k0_pay45, neg_inf_word]
  word_cmp

/-- The lane of a head among all heads, as the kernel computes it. -/
theorem lane_word (p : Fin 8) (a : ℕ) (ha : a < 2) :
    Scalar.addi (Scalar.muli (2#32) (BitVec.ofNat 32 p.val)) (BitVec.ofNat 32 a) = BitVec.ofNat 32 (2 * p.val + a) := by
  have := p.isLt
  simp only [Scalar.addi, Scalar.muli, IntOp.addi, IntOp.muli]
  apply BitVec.eq_of_toNat_eq
  simp only [BitVec.toNat_add, BitVec.toNat_mul, BitVec.toNat_ofNat]
  omega

theorem sh0 (p : Fin 8) (q : Fin 768) : k0_pay51 (F := Ideal) (k0_pay42 X.x2) (k0_pay48 X.x4) (k0_pay49 (BitVec.ofNat 32 p.val)) k0_pay50 (ix2 q 0)
    = SH X p.val 0 q := by
  pointwise [k0_pay51, k0_pay48, k0_pay49, k0_pay50, SH]
  have := p.isLt
  refine congrArg₂ (· - ·) (Finset.sum_congr rfl fun l _ => ?_) (mx0 X.x2 q)
  rw [lane_word p 0 (by omega), Nat.add_zero]
  word_cmp
theorem sh1 (p : Fin 8) (q : Fin 768) : k0_pay52 (F := Ideal) (BitVec.ofNat 32 p.val) (k0_pay43 X.x2) (k0_pay48 X.x4) (ix2 q 0) = SH X p.val 1 q := by
  pointwise [k0_pay52, k0_pay48, SH]
  have := p.isLt
  refine congrArg₂ (· - ·) (Finset.sum_congr rfl fun l _ => ?_) (mx1 X.x2 q)
  rw [lane_word p 1 (by omega)]
  word_cmp

/-- The head a lane of a pair belongs to. -/
def hd (l : Fin 128) : Fin 2 := if l.val < 64 then 0 else 1

/-! ## The operands of a step, and what a block of keys computes with them -/

/-- The vectors a step's blocks are computed from. -/
structure Ops (p : ℕ) (v5 : IVec S1x128 1) (v7 v9 v23 v33 v36 v39 : FVec Ideal S768x128 .bf16) (v67 v73 v87 v99 : FVec Ideal S768x1 .f32) :
    Prop where
  h5 : v5 = k0_pay30
  h7 : ∀ q l, v7 (ix2 q l) = X.x0 (ix2 q l)
  h9 : ∀ q l, v9 (ix2 q l) = X.x1 (ix2 q l)
  h23 : ∀ q l, v23 (ix2 q l) = QH X 0 q l
  h33 : ∀ q l, v33 (ix2 q l) = QH X 1 q l
  h36 : ∀ q l, v36 (ix2 q l) = DOH X 0 q l
  h39 : ∀ q l, v39 (ix2 q l) = DOH X 1 q l
  h67 : ∀ q, v67 (ix2 q 0) = MX X.x3 0 q
  h73 : ∀ q, v73 (ix2 q 0) = MX X.x3 1 q
  h87 : ∀ q, v87 (ix2 q 0) = SH X p 0 q
  h99 : ∀ q, v99 (ix2 q 0) = SH X p 1 q

/-- `n` rows of the keys and values, row `r` of them being row `R r`. -/
structure Keys {n : ℕ} (ka kb vv : (⟨2, ![n, 128]⟩ : Shape).Idx → EReal) (R : Fin n → Fin 8448) : Prop where
  ha : ∀ r l, ka (ix2 r l) = KH X 0 (R r) l
  hb : ∀ r l, kb (ix2 r l) = KH X 1 (R r) l
  hv : ∀ r l, vv (ix2 r l) = X.x7 (ix2 (R r) l)

section Trip

variable {X} {v5 : IVec S1x128 1} {v7 v9 v23 v33 v36 v39 : FVec Ideal S768x128 .bf16} {v67 v73 v87 v99 : FVec Ideal S768x1 .f32}
  {i p : ℕ} (H : Ops X p v5 v7 v9 v23 v33 v36 v39 v67 v73 v87 v99)

section Full

variable {ka kb vv : Vec Ideal S768x128 .bf16} {R : Fin 768 → Fin 8448} (K : Keys X ka kb vv R) (hok : ∀ q r, OK i q (R r))
include H K hok

theorem trip_pb0 (q r : Fin 768) : k0_pay8 v23 v87 ka (ix2 q r) = PB X i p 0 q (R r) := by
  pointwise [k0_pay8, k0_pay5, PB, TT, H.h23, H.h87, K.ha, hok]; rfl
theorem trip_ds0 (q r : Fin 768) : k0_pay9 v23 v36 v67 v87 ka vv (ix2 q r) = DS X i p 0 q (R r) := by
  pointwise [k0_pay9, k0_pay7, DS, trip_pb0 H K hok, H.h67, H.h36, K.hv]
theorem trip_dq0 (acc : FVec Ideal S768x128 .f32) (q : Fin 768) (l : Fin 128) :
    k0_pay11 v23 v36 v67 v87 acc ka vv (ix2 q l) = acc (ix2 q l) + ∑ r, DS X i p 0 q (R r) * KH X 0 (R r) l := by
  pointwise [k0_pay11, k0_pay10, k0_pay5, trip_ds0 H K hok, K.ha]
theorem trip_dk0 (r : Fin 768) (l : Fin 128) :
    k0_pay12 v7 v23 v36 v67 v87 ka vv (ix2 r l) = ∑ q, DS X i p 0 q (R r) * X.x0 (ix2 q l) := by
  pointwise [k0_pay12, k0_pay10, trip_ds0 H K hok, H.h7]
theorem trip_dv0 (r : Fin 768) (l : Fin 128) : k0_pay13 v9 v23 v87 ka (ix2 r l) = ∑ q, PB X i p 0 q (R r) * X.x1 (ix2 q l) := by
  pointwise [k0_pay13, trip_pb0 H K hok, H.h9]
theorem trip_dc0 (w : Vec Ideal S1x1x768 .f32) (r : Fin 768) :
    k0_pay14 v23 v36 v67 v87 ka vv w (ix3 0 0 r) = w (ix3 0 0 r) - ∑ q, DS X i p 0 q (R r) := by
  pointwise [k0_pay14, trip_ds0 H K hok, zero_sub]; rfl
theorem trip_pb1 (q r : Fin 768) : k0_pay55 (k0_pay15 v33 v99 kb) (ix2 q r) = PB X i p 1 q (R r) := by
  pointwise [k0_pay55, k0_pay15, k0_pay6, PB, TT, H.h33, H.h99, K.hb, hok]; rfl
theorem trip_ds1 (q r : Fin 768) : k0_pay56 v39 v73 (k0_pay7 vv) (k0_pay15 v33 v99 kb) (ix2 q r) = DS X i p 1 q (R r) := by
  pointwise [k0_pay56, k0_pay7, DS, trip_pb1 H K hok, H.h73, H.h39, K.hv]
theorem trip_dq1 (acc : FVec Ideal S768x128 .f32) (q : Fin 768) (l : Fin 128) :
    k0_pay58 v39 v73 acc (k0_pay6 kb) (k0_pay7 vv) (k0_pay15 v33 v99 kb) (ix2 q l)
      = acc (ix2 q l) + ∑ r, DS X i p 1 q (R r) * KH X 1 (R r) l := by
  pointwise [k0_pay58, k0_pay57, k0_pay6, trip_ds1 H K hok, K.hb]
theorem trip_dc1 (w : Vec Ideal S1x1x768 .f32) (r : Fin 768) :
    k0_pay59 v39 v73 (k0_pay7 vv) (k0_pay15 v33 v99 kb) w (ix3 0 0 r) = w (ix3 0 0 r) - ∑ q, DS X i p 1 q (R r) := by
  pointwise [k0_pay59, trip_ds1 H K hok, zero_sub]; rfl
/-- What a block of keys adds to a key row's gradient: the head by the lane. -/
theorem trip_dk (w : Vec Ideal S768x128 .f32) (r : Fin 768) (l : Fin 128) :
    k0_pay60 v5 v7 v39 v73 (k0_pay7 vv) (k0_pay12 v7 v23 v36 v67 v87 ka vv) (k0_pay15 v33 v99 kb) w (ix2 r l)
      = w (ix2 r l) + ∑ q, DS X i p (hd l) q (R r) * X.x0 (ix2 q l) := by
  pointwise [k0_pay60, k0_pay57, k0_pay30, trip_ds1 H K hok, trip_dk0 H K hok, H.h7, H.h5]
  word_cmp
  unfold hd; split <;> rfl
theorem trip_dv (w : Vec Ideal S768x128 .f32) (r : Fin 768) (l : Fin 128) :
    k0_pay61 v5 v9 (k0_pay13 v9 v23 v87 ka) (k0_pay15 v33 v99 kb) w (ix2 r l)
      = w (ix2 r l) + ∑ q, PB X i p (hd l) q (R r) * X.x1 (ix2 q l) := by
  pointwise [k0_pay61, k0_pay30, trip_pb1 H K hok, trip_dv0 H K hok, H.h9, H.h5]
  word_cmp
  unfold hd; split <;> rfl

end Full

section DiagA

variable {ka kb vv : Vec Ideal S512x128 .bf16} {R : Fin 512 → Fin 8448} {v124 : IVec S768x1 32} {v125 v126 : IVec S1x512 32}
  (K : Keys X ka kb vv R) (hm : ∀ q r, k0_pay74 v124 v125 v126 (ix2 q r) = BitVec.ofBool (decide (OK i q (R r))))
include H K hm

theorem mask_const : Named.named (F := Ideal) κ "mask" (φ := .f32) 0xF149F2CA#32 = (⊥ : EReal) := rfl

theorem da_pb0 (q : Fin 768) (r : Fin 512) : k0_pay75 v23 v87 (k0_pay69 ka) v124 v125 v126 (ix2 q r) = PB X i p 0 q (R r) := by
  pointwise [k0_pay75, k0_pay69, PB, TT, H.h23, H.h87, K.ha, hm]; rfl
theorem da_ds0 (q : Fin 768) (r : Fin 512) :
    k0_pay76 v23 v36 v67 v87 (k0_pay69 ka) (k0_pay71 vv) v124 v125 v126 (ix2 q r) = DS X i p 0 q (R r) := by
  pointwise [k0_pay76, k0_pay71, DS, da_pb0 H K hm, H.h67, H.h36, K.hv]
theorem da_dq0 (acc : FVec Ideal S768x128 .f32) (q : Fin 768) (l : Fin 128) :
    k0_pay78 v23 v36 v67 v87 acc (k0_pay69 ka) (k0_pay71 vv) v124 v125 v126 (ix2 q l)
      = acc (ix2 q l) + ∑ r, DS X i p 0 q (R r) * KH X 0 (R r) l := by
  pointwise [k0_pay78, k0_pay77, da_ds0 H K hm]
  pointwise [k0_pay69, K.ha]
theorem da_dk0 (r : Fin 512) (l : Fin 128) :
    k0_pay79 v7 v23 v36 v67 v87 (k0_pay69 ka) (k0_pay71 vv) v124 v125 v126 (ix2 r l) = ∑ q, DS X i p 0 q (R r) * X.x0 (ix2 q l) := by
  pointwise [k0_pay79, k0_pay77, da_ds0 H K hm, H.h7]
theorem da_dv0 (r : Fin 512) (l : Fin 128) :
    k0_pay80 v9 v23 v87 (k0_pay69 ka) v124 v125 v126 (ix2 r l) = ∑ q, PB X i p 0 q (R r) * X.x1 (ix2 q l) := by
  pointwise [k0_pay80, da_pb0 H K hm, H.h9]
theorem da_dc0 (w : Vec Ideal S1x1x512 .f32) (r : Fin 512) :
    k0_pay81 v23 v36 v67 v87 (k0_pay69 ka) (k0_pay71 vv) v124 v125 v126 w (ix3 0 0 r) = w (ix3 0 0 r) - ∑ q, DS X i p 0 q (R r) := by
  pointwise [k0_pay81, da_ds0 H K hm, zero_sub]; rfl
theorem da_pb1 (q : Fin 768) (r : Fin 512) :
    k0_pay84 v99 (k0_pay74 v124 v125 v126) (k0_pay82 v33 (k0_pay70 kb)) k0_pay83 (ix2 q r) = PB X i p 1 q (R r) := by
  pointwise [k0_pay84, k0_pay82, k0_pay83, k0_pay70, PB, TT, H.h33, H.h99, K.hb, hm]; rfl
theorem da_ds1 (q : Fin 768) (r : Fin 512) :
    k0_pay85 v39 v73 v99 (k0_pay71 vv) (k0_pay74 v124 v125 v126) (k0_pay82 v33 (k0_pay70 kb)) k0_pay83 (ix2 q r) = DS X i p 1 q (R r) := by
  pointwise [k0_pay85, k0_pay71, DS, da_pb1 H K hm, H.h73, H.h39, K.hv]
theorem da_dq1 (acc : FVec Ideal S768x128 .f32) (q : Fin 768) (l : Fin 128) :
    k0_pay87 v39 v73 v99 acc (k0_pay70 kb) (k0_pay71 vv) (k0_pay74 v124 v125 v126) (k0_pay82 v33 (k0_pay70 kb)) k0_pay83 (ix2 q l)
      = acc (ix2 q l) + ∑ r, DS X i p 1 q (R r) * KH X 1 (R r) l := by
  pointwise [k0_pay87, k0_pay86, da_ds1 H K hm]
  pointwise [k0_pay70, K.hb]
theorem da_dc1 (w : Vec Ideal S1x1x512 .f32) (r : Fin 512) :
    k0_pay88 v39 v73 v99 (k0_pay71 vv) (k0_pay74 v124 v125 v126) (k0_pay82 v33 (k0_pay70 kb)) k0_pay83 w (ix3 0 0 r)
      = w (ix3 0 0 r) - ∑ q, DS X i p 1 q (R r) := by
  pointwise [k0_pay88, da_ds1 H K hm, zero_sub]; rfl
theorem da_dk (w : Vec Ideal S512x128 .f32) (r : Fin 512) (l : Fin 128) :
    k0_pay89 v5 v7 v39 v73 v99 (k0_pay71 vv) (k0_pay74 v124 v125 v126)
      (k0_pay79 v7 v23 v36 v67 v87 (k0_pay69 ka) (k0_pay71 vv) v124 v125 v126) (k0_pay82 v33 (k0_pay70 kb)) k0_pay83 w (ix2 r l)
      = w (ix2 r l) + ∑ q, DS X i p (hd l) q (R r) * X.x0 (ix2 q l) := by
  pointwise [k0_pay89, k0_pay86, k0_pay30, da_ds1 H K hm, da_dk0 H K hm, H.h7, H.h5]
  word_cmp
  unfold hd; split <;> rfl
theorem da_dv (w : Vec Ideal S512x128 .f32) (r : Fin 512) (l : Fin 128) :
    k0_pay90 v5 v9 v99 (k0_pay74 v124 v125 v126) (k0_pay80 v9 v23 v87 (k0_pay69 ka) v124 v125 v126)
      (k0_pay82 v33 (k0_pay70 kb)) k0_pay83 w (ix2 r l)
      = w (ix2 r l) + ∑ q, PB X i p (hd l) q (R r) * X.x1 (ix2 q l) := by
  pointwise [k0_pay90, k0_pay30, da_pb1 H K hm, da_dv0 H K hm, H.h9, H.h5]
  word_cmp
  unfold hd; split <;> rfl

end DiagA

/-- A row of the last third of a tile. -/
def up (q : Fin 256) : Fin 768 := ⟨512 + q.val, by omega⟩

section DiagB

variable {ka kb vv : Vec Ideal S256x128 .bf16} {R : Fin 256 → Fin 8448} {a1 v110 : BitVec 32}
  (K : Keys X ka kb vv R) (hm : ∀ q r, k0_pay96 a1 v110 (ix2 q r) = BitVec.ofBool (decide (OK i (up q) (R r))))
include H K hm

theorem db_pb0 (q r : Fin 256) : k0_pay99 a1 v23 v87 v110 ka (ix2 q r) = PB X i p 0 (up q) (R r) := by
  pointwise [k0_pay99, k0_pay93, PB, TT, H.h23, H.h87, K.ha, hm]; rfl
theorem db_pb0' (q r : Fin 256) : k0_pay101 a1 v23 v87 v110 ka (ix2 q r) = PB X i p 0 (up q) (R r) := by
  pointwise [k0_pay101, db_pb0 H K hm]
theorem db_ds0 (q r : Fin 256) :
    k0_pay103 (k0_pay100 v36 vv) (k0_pay101 a1 v23 v87 v110 ka) (k0_pay102 v67) (ix2 q r) = DS X i p 0 (up q) (R r) := by
  pointwise [k0_pay103, k0_pay100, k0_pay102, k0_pay95, DS, db_pb0' H K hm, H.h67, H.h36, K.hv]; rfl
theorem db_dq0 (acc : FVec Ideal S256x128 .f32) (q : Fin 256) (l : Fin 128) :
    k0_pay105 acc (k0_pay93 ka) (k0_pay100 v36 vv) (k0_pay101 a1 v23 v87 v110 ka) (k0_pay102 v67) (ix2 q l)
      = acc (ix2 q l) + ∑ r, DS X i p 0 (up q) (R r) * KH X 0 (R r) l := by
  pointwise [k0_pay105, k0_pay104, db_ds0 H K hm]
  pointwise [k0_pay93, K.ha]
theorem db_dk0 (r : Fin 256) (l : Fin 128) :
    k0_pay106 (k0_pay97 v7) (k0_pay100 v36 vv) (k0_pay101 a1 v23 v87 v110 ka) (k0_pay102 v67) (ix2 r l)
      = ∑ q, DS X i p 0 (up q) (R r) * X.x0 (ix2 (up q) l) := by
  pointwise [k0_pay106, k0_pay104, k0_pay97, db_ds0 H K hm, H.h7]; rfl
theorem db_dv0 (r : Fin 256) (l : Fin 128) :
    k0_pay107 (k0_pay98 v9) (k0_pay99 a1 v23 v87 v110 ka) (ix2 r l) = ∑ q, PB X i p 0 (up q) (R r) * X.x1 (ix2 (up q) l) := by
  pointwise [k0_pay107, k0_pay98, db_pb0 H K hm, H.h9]; rfl
theorem db_dc0 (w : Vec Ideal S1x1x256 .f32) (r : Fin 256) :
    k0_pay108 (k0_pay100 v36 vv) (k0_pay101 a1 v23 v87 v110 ka) (k0_pay102 v67) w (ix3 0 0 r)
      = w (ix3 0 0 r) - ∑ q, DS X i p 0 (up q) (R r) := by
  pointwise [k0_pay108, db_ds0 H K hm, zero_sub]; rfl
theorem db_pb1 (q r : Fin 256) : k0_pay109 v33 v99 (k0_pay94 kb) (k0_pay96 a1 v110) (ix2 q r) = PB X i p 1 (up q) (R r) := by
  pointwise [k0_pay109, k0_pay94, PB, TT, H.h33, H.h99, K.hb, hm]; rfl
theorem db_ds1 (q r : Fin 256) :
    k0_pay110 v33 v39 v73 v99 (k0_pay94 kb) (k0_pay95 vv) (k0_pay96 a1 v110) (ix2 q r) = DS X i p 1 (up q) (R r) := by
  pointwise [k0_pay110, k0_pay95, DS, db_pb1 H K hm, H.h73, H.h39, K.hv]; rfl
theorem db_dq1 (acc : FVec Ideal S256x128 .f32) (q : Fin 256) (l : Fin 128) :
    k0_pay112 v33 v39 v73 v99 acc (k0_pay94 kb) (k0_pay95 vv) (k0_pay96 a1 v110) (ix2 q l)
      = acc (ix2 q l) + ∑ r, DS X i p 1 (up q) (R r) * KH X 1 (R r) l := by
  pointwise [k0_pay112, k0_pay111, db_ds1 H K hm]
  pointwise [k0_pay94, K.hb]
theorem db_dc1 (w : Vec Ideal S1x1x256 .f32) (r : Fin 256) :
    k0_pay1 (k0_pay110 v33 v39 v73 v99 (k0_pay94 kb) (k0_pay95 vv) (k0_pay96 a1 v110)) w (ix3 0 0 r)
      = w (ix3 0 0 r) - ∑ q, DS X i p 1 (up q) (R r) := by
  pointwise [k0_pay1, db_ds1 H K hm, zero_sub]; rfl
theorem db_dk1 (r : Fin 256) (l : Fin 128) :
    k0_pay113 v33 v39 v73 v99 (k0_pay94 kb) (k0_pay95 vv) (k0_pay96 a1 v110) (k0_pay97 v7) (ix2 r l)
      = ∑ q, DS X i p 1 (up q) (R r) * X.x0 (ix2 (up q) l) := by
  pointwise [k0_pay113, k0_pay111, k0_pay97, db_ds1 H K hm, H.h7]; rfl
theorem db_dv1 (r : Fin 256) (l : Fin 128) :
    k0_pay114 v33 v99 (k0_pay94 kb) (k0_pay96 a1 v110) (k0_pay98 v9) (ix2 r l)
      = ∑ q, PB X i p 1 (up q) (R r) * X.x1 (ix2 (up q) l) := by
  pointwise [k0_pay114, k0_pay98, db_pb1 H K hm, H.h9]; rfl

end DiagB
end Trip

/-- The lanes of a pair of heads, one head's beside the other's. -/
theorem sel_dk (a b w : FVec Ideal S256x128 .f32) (r : Fin 256) (l : Fin 128) :
    k0_pay2 k0_pay30 a b w (ix2 r l) = w (ix2 r l) + (if l.val < 64 then a (ix2 r l) else b (ix2 r l)) := by
  pointwise [k0_pay2, k0_pay30]; word_cmp
theorem sel_dv (a b w : FVec Ideal S256x128 .f32) (r : Fin 256) (l : Fin 128) :
    k0_pay3 k0_pay30 a b w (ix2 r l) = w (ix2 r l) + (if l.val < 64 then a (ix2 r l) else b (ix2 r l)) := by
  pointwise [k0_pay3, k0_pay30]; word_cmp
theorem sel_dq (a b : FVec Ideal S768x128 .f32) (a' b' : FVec Ideal S256x128 .f32) (q : Fin 768) (l : Fin 128) :
    k0_pay4 k0_pay30 a b a' b' (ix2 q l)
      = if l.val < 64 then (if h : q.val < 512 then a (ix2 q l) else a' (ix2 ⟨q.val - 512, by omega⟩ l))
        else (if h : q.val < 512 then b (ix2 q l) else b' (ix2 ⟨q.val - 512, by omega⟩ l)) := by
  pointwise [k0_pay4, k0_pay30]; word_cmp
end Cert.AttnBwd
-- ==== Proof.AttnTrip.lean ====
module
public import proofs.«01_k».proof.Proof.AttnPay
public import Idealize.ShloMosaic.Lib.WritesUnit
@[expose] public section
set_option maxRecDepth 16384
noncomputable section
open Idealize.ShloMosaic Idealize.ShloMosaic.TcCoe Idealize.SL.Sem
open Idealize.ShloMosaic.Pipeline (Dat)
namespace Cert.AttnBwd
open Cert.AttnBwdIdeal Cert.AttnBwdIdeal.Gen

/-! ## Adding to a stretch of rows -/

/-- A sum over the rows below `n`. -/
def below (n : ℕ) (f : Fin 8448 → EReal) : EReal := ∑ R : Fin 8448, if R.val < n then f R else 0

/-- What a stretch of rows contributes at one of them. -/
def within (o n : ℕ) (R : Fin 8448) (x : EReal) : EReal := if o ≤ R.val ∧ R.val < o + n then x else 0

/-- What the rows below `n` contribute at a row. -/
def under (n : ℕ) (R : Fin 8448) (x : EReal) : EReal := if R.val < n then x else 0

theorem under_within (o n : ℕ) (R : Fin 8448) (x : EReal) : under o R x + within o n R x = under (o + n) R x := by
  unfold under within
  by_cases h : R.val < o
  · rw [if_pos h, if_neg (by omega), if_pos (by omega), add_zero]
  · rw [if_neg h, zero_add]
    by_cases h' : R.val < o + n
    · rw [if_pos (by omega), if_pos h']
    · rw [if_neg (by omega), if_neg h']

theorem below_zero (f : Fin 8448 → EReal) : below 0 f = 0 :=
  Finset.sum_eq_zero fun R _ => if_neg (Nat.not_lt_zero _)

theorem below_add (o n : ℕ) (h : o + n ≤ 8448) (f : Fin 8448 → EReal) :
    below (o + n) f = below o f + ∑ r : Fin n, f ⟨o + r.val, by omega⟩ := by
  have e : ∀ R : Fin 8448, (if R.val < o + n then f R else 0) = (if R.val < o then f R else 0) + within o n R (f R) := fun R =>
    (under_within o n R (f R)).symm
  unfold below
  rw [Finset.sum_congr rfl fun R _ => e R, Finset.sum_add_distrib]
  congr 1
  unfold within
  rw [← Finset.sum_filter]
  refine (Finset.sum_bij (fun (r : Fin n) _ => (⟨o + r.val, by omega⟩ : Fin 8448)) ?_ ?_ ?_ ?_).symm
  · intro r _
    simp only [Finset.mem_filter, Finset.mem_univ, true_and]
    have := r.isLt
    omega
  · intro r _ s _ e
    have := congrArg Fin.val e
    exact Fin.ext (by simpa using this)
  · intro R hR
    simp only [Finset.mem_filter, Finset.mem_univ, true_and] at hR
    exact ⟨⟨R.val - o, by omega⟩, Finset.mem_univ _, Fin.ext (by simp; omega)⟩
  · intro r _
    rfl

section Rows

variable {sig : RefSig} {κ : Kind} {sp : Space}

/-- Storing back rows `[o, o + n)` with something added to each adds it there and leaves the other rows. -/
theorem rows_add (v : View sig κ sp S8448x128 .f32) (f : v.ty.Contents (Elt Ideal)) {n o : ℕ} {off : Fin 2 → ℕ}
    (inb : ∀ a, off a + (![n, 128] : Fin 2 → ℕ) a ≤ S8448x128.size a) (hoff : off = ![o, 0])
    (w : (⟨2, ![n, 128]⟩ : Shape).Idx → EReal) (d : Fin 8448 → Fin 128 → EReal) (ho : o + n ≤ 8448)
    (hw : ∀ (r : Fin n) (l : Fin 128), w (ix2 r l)
      = View.readAt (Elt Ideal) v (Rect.unit (s := S8448x128) off ![n, 128] inb).toLoadRect f (ix2 r l) + d ⟨o + r.val, by omega⟩ l)
    (R : Fin 8448) (l : Fin 128) :
    v.read (Elt Ideal) (v.writes (Elt Ideal) f [⟨Rect.unit (s := S8448x128) off ![n, 128] inb, w⟩]) (ix2 R l)
      = (v.read (Elt Ideal) f (ix2 R l) + within o n R (d R l) : EReal) := by
  unfold within
  by_cases h : o ≤ R.val ∧ R.val < o + n
  · rw [if_pos h]
    have e : (⟨o + (⟨R.val - o, by omega⟩ : Fin n).val, by have := R.isLt; show o + (R.val - o) < 8448; omega⟩ : Fin 8448) = R :=
      Fin.ext (by show o + (R.val - o) = R.val; omega)
    refine (View.read_writes_cons_unit_of_mem (s := S8448x128) v f inb w [] (ix2 R l) (ix2 (⟨R.val - o, by omega⟩ : Fin n) l) hoff ?_).trans ?_
    · intro a
      fin_cases a
      · show R.val = o + (R.val - o); omega
      · show l.val = 0 + l.val; omega
    · rw [hw, e]
      refine congrArg (fun z : EReal => z + d R l) ?_
      rw [View.readAt_eq_ld]
      refine View.ld_unit_apply_of _ _ _ _ _ (ix2 R l) ?_
      intro a
      subst hoff
      fin_cases a
      · show R.val = o + (R.val - o); omega
      · show l.val = 0 + l.val; omega
  · rw [if_neg h, add_zero]
    exact View.read_writes_cons_unit_of_not_mem (s := S8448x128) v f inb w [] (ix2 R l) hoff (0 : Fin 2)
      (by show R.val < o ∨ o + n ≤ R.val; omega)

/-- The same for a stretch of one row of the sums of the decays' gradients, read from contents that agree there. -/
theorem cols_add (v : View sig κ sp S1x8x8448 .f32) (f g : v.ty.Contents (Elt Ideal)) {n o b : ℕ} {off : Fin 3 → ℕ}
    (inb : ∀ a, off a + (![1, 1, n] : Fin 3 → ℕ) a ≤ S1x8x8448.size a) (hoff : off = ![0, b, o])
    (w : (⟨3, ![1, 1, n]⟩ : Shape).Idx → EReal) (d : Fin 8448 → EReal) (ho : o + n ≤ 8448)
    (hb : b < 8)
    (hg : ∀ R, v.read (Elt Ideal) g (ix3 0 ⟨b, hb⟩ R) = v.read (Elt Ideal) f (ix3 0 ⟨b, hb⟩ R))
    (hw : ∀ r : Fin n, w (ix3 0 0 r)
      = View.readAt (Elt Ideal) v (Rect.unit (s := S1x8x8448) off ![1, 1, n] inb).toLoadRect g (ix3 0 0 r) + d ⟨o + r.val, by omega⟩)
    (h : Fin 8) (R : Fin 8448) :
    v.read (Elt Ideal) (v.writes (Elt Ideal) f [⟨Rect.unit (s := S1x8x8448) off ![1, 1, n] inb, w⟩]) (ix3 0 h R)
      = (v.read (Elt Ideal) f (ix3 0 h R) + (if h.val = b then within o n R (d R) else 0) : EReal) := by
  by_cases hhb : h.val = b
  swap
  · rw [if_neg hhb, add_zero]
    exact View.read_writes_cons_unit_of_not_mem (s := S1x8x8448) v f inb w [] (ix3 0 h R) hoff (1 : Fin 3)
      (by show h.val < b ∨ b + 1 ≤ h.val; omega)
  rw [if_pos hhb]
  unfold within
  by_cases h' : o ≤ R.val ∧ R.val < o + n
  · rw [if_pos h']
    have e : (⟨o + (⟨R.val - o, by omega⟩ : Fin n).val, by have := R.isLt; show o + (R.val - o) < 8448; omega⟩ : Fin 8448) = R :=
      Fin.ext (by show o + (R.val - o) = R.val; omega)
    refine (View.read_writes_cons_unit_of_mem (s := S1x8x8448) v f inb w [] (ix3 0 h R) (ix3 (0 : Fin 1) (0 : Fin 1) (⟨R.val - o, by omega⟩ : Fin n)) hoff ?_).trans ?_
    · intro a
      fin_cases a
      · rfl
      · show h.val = b + 0; omega
      · show R.val = o + (R.val - o); omega
    · rw [hw, e]
      refine congrArg (fun z : EReal => z + d R) ?_
      rw [View.readAt_eq_ld]
      have eh : (⟨b, hb⟩ : Fin 8) = h := Fin.ext hhb.symm
      refine (View.ld_unit_apply_of _ _ _ _ _ (ix3 0 h R) ?_).trans (eh ▸ hg R)
      intro a
      subst hoff
      fin_cases a
      · rfl
      · show h.val = b + 0; omega
      · show R.val = o + (R.val - o); omega
  · rw [if_neg h', add_zero]
    exact View.read_writes_cons_unit_of_not_mem (s := S1x8x8448) v f inb w [] (ix3 0 h R) hoff (2 : Fin 3)
      (by show R.val < o ∨ o + n ≤ R.val; omega)

/-- The same onto a list of stores. -/
theorem cols_add_cons (v : View sig κ sp S1x8x8448 .f32) (f : v.ty.Contents (Elt Ideal)) (L : List (View.Piece (Elt Ideal) S1x8x8448 .f32))
    {n o b : ℕ} {off : Fin 3 → ℕ} (inb : ∀ a, off a + (![1, 1, n] : Fin 3 → ℕ) a ≤ S1x8x8448.size a) (hoff : off = ![0, b, o])
    (w : (⟨3, ![1, 1, n]⟩ : Shape).Idx → EReal) (d : Fin 8448 → EReal) (ho : o + n ≤ 8448) (hb : b < 8)
    (hw : ∀ r : Fin n, w (ix3 0 0 r) = View.readAt (Elt Ideal) v (Rect.unit (s := S1x8x8448) off ![1, 1, n] inb).toLoadRect
      (v.writes (Elt Ideal) f L) (ix3 0 0 r) + d ⟨o + r.val, by omega⟩)
    (h : Fin 8) (R : Fin 8448) :
    v.read (Elt Ideal) (v.writes (Elt Ideal) f (⟨Rect.unit (s := S1x8x8448) off ![1, 1, n] inb, w⟩ :: L)) (ix3 0 h R)
      = (v.read (Elt Ideal) (v.writes (Elt Ideal) f L) (ix3 0 h R) + (if h.val = b then within o n R (d R) else 0) : EReal) :=
  cols_add v (v.writes (Elt Ideal) f L) (v.writes (Elt Ideal) f L) inb hoff w d ho hb (fun _ => rfl) hw h R

end Rows

end Cert.AttnBwd
-- ==== Proof.AttnLoop.lean ====
module
public import proofs.«01_k».proof.Proof.AttnTrip
@[expose] public section
set_option maxRecDepth 16384
noncomputable section
open Idealize.ShloMosaic Idealize.ShloMosaic.TcCoe Idealize.SL.Sem
open Idealize.ShloMosaic.Pipeline (Dat)
namespace Cert.AttnBwd
open Cert.AttnBwdIdeal Cert.AttnBwdIdeal.Gen

/-! ## Where a point's blocks lie -/

theorem trips1 : ∀ i : grid0.Coords, (k0_t1_loop i).trips = (i 1).val := by decide +kernel
theorem trips2 : ∀ i : grid0.Coords, (k0_t2_loop i).trips = 0 := by decide +kernel
theorem off1 : ∀ (i : grid0.Coords) (k : Fin (k0_t1_loop i).trips), k0_off1 i k = ![768 * k.val, 0] := by decide +kernel
theorem off2 : ∀ (i : grid0.Coords) (k : Fin (k0_t1_loop i).trips), k0_off2 i k = ![0, 0, 768 * k.val] := by decide +kernel
theorem off3 : ∀ (i : grid0.Coords) (k : Fin (k0_t1_loop i).trips), k0_off3 i k = ![0, 1, 768 * k.val] := by decide +kernel
theorem off7 : ∀ i : grid0.Coords, k0_off7 i = ![768 * (i 1).val, 0] := by decide +kernel
theorem off8 : ∀ i : grid0.Coords, k0_off8 i = ![0, 0, 768 * (i 1).val] := by decide +kernel
theorem off9 : ∀ i : grid0.Coords, k0_off9 i = ![0, 1, 768 * (i 1).val] := by decide +kernel
theorem off10 : ∀ i : grid0.Coords, k0_off10 i = ![768 * (i 1).val + 512, 0] := by decide +kernel
theorem off11 : ∀ i : grid0.Coords, k0_off11 i = ![0, 0, 768 * (i 1).val + 512] := by decide +kernel
theorem off12 : ∀ i : grid0.Coords, k0_off12 i = ![0, 1, 768 * (i 1).val + 512] := by decide +kernel
theorem coord_lt : ∀ i : grid0.Coords, (i 1).val < 11 := by decide +kernel

/-- `n` rows of keys and values loaded from row `o` on are those rows. -/
theorem keys_of {X : Blocks} {sig : RefSig} {κ : Kind} {sp : Space} (u v w : View sig κ sp S8448x128 .bf16)
    (X7 : u.ty.Contents (Elt Ideal)) (X8 : v.ty.Contents (Elt Ideal)) (X9 : w.ty.Contents (Elt Ideal))
    (h7 : u.read (Elt Ideal) X7 = X.x5) (h8 : v.read (Elt Ideal) X8 = X.x6) (h9 : w.read (Elt Ideal) X9 = X.x7)
    {n o : ℕ} {off : Fin 2 → ℕ} (inb : ∀ a, off a + (![n, 128] : Fin 2 → ℕ) a ≤ S8448x128.size a) (hoff : off = ![o, 0])
    (ho : o + n ≤ 8448) :
    Keys X (View.readAt (Elt Ideal) u (Rect.unit (s := S8448x128) off ![n, 128] inb).toLoadRect X7)
      (View.readAt (Elt Ideal) v (Rect.unit (s := S8448x128) off ![n, 128] inb).toLoadRect X8)
      (View.readAt (Elt Ideal) w (Rect.unit (s := S8448x128) off ![n, 128] inb).toLoadRect X9)
      (fun r => ⟨o + r.val, by omega⟩) := by
  have e : ∀ (r : Fin n) (l : Fin 128) (a : Fin 2), ((ix2 (⟨o + r.val, by omega⟩ : Fin 8448) l : S8448x128.Idx) a : ℕ)
      = off a + ((ix2 r l : (⟨2, ![n, 128]⟩ : Shape).Idx) a : ℕ) := by
    intro r l a
    subst hoff
    fin_cases a
    · rfl
    · show l.val = 0 + l.val; omega
  refine ⟨fun r l => ?_, fun r l => ?_, fun r l => ?_⟩
  · rw [View.readAt_eq_ld, h7]
    exact View.ld_unit_apply_of (S := S8448x128) (X.x5 : S8448x128.Idx → EReal) off ![n, 128] inb (ix2 r l) _ (e r l)
  · rw [View.readAt_eq_ld, h8]
    exact View.ld_unit_apply_of (S := S8448x128) (X.x6 : S8448x128.Idx → EReal) off ![n, 128] inb (ix2 r l) _ (e r l)
  · rw [View.readAt_eq_ld, h9]
    exact View.ld_unit_apply_of (S := S8448x128) (X.x7 : S8448x128.Idx → EReal) off ![n, 128] inb (ix2 r l) _ (e r l)

/-! ## What a tile of queries adds -/

/-- What tile `i` of the queries adds to a key row's gradient. -/
def cdk (X : Blocks) (i p : ℕ) (R : Fin 8448) (l : Fin 128) : EReal := ∑ q, DS X i p (hd l) q R * X.x0 (ix2 q l)
/-- What it adds to a value row's gradient. -/
def cdv (X : Blocks) (i p : ℕ) (R : Fin 8448) (l : Fin 128) : EReal := ∑ q, PB X i p (hd l) q R * X.x1 (ix2 q l)
/-- What it adds to a decay's gradient by its keys. -/
def cdc (X : Blocks) (i p : ℕ) (h : Fin 8) (R : Fin 8448) : EReal :=
  if h.val = 0 then -∑ q, DS X i p 0 q R else if h.val = 1 then -∑ q, DS X i p 1 q R else 0
/-- One key's part of a query row's gradient. -/
def cdq (X : Blocks) (i p : ℕ) (h : Fin 2) (q : Fin 768) (l : Fin 128) (R : Fin 8448) : EReal := DS X i p h q R * KH X h R l

theorem ok_before {i k : ℕ} (h : k < i) (q : Fin 768) (R : Fin 8448) (hR : R.val < 768 * k + 768) : OK i q R :=
  Or.inl (by omega)

section Loop

variable (𝒱 : Variants) (c : Dev nD) (bd : Option 𝒱.V) (i : grid0.Coords)
  (arg2 : Memref sig .tc .vmem S768x128 .bf16) (harg2 : arg2.IsWhole)
  (arg3 : Memref sig .tc .vmem S768x128 .bf16) (harg3 : arg3.IsWhole)
  (arg4 : Memref sig .tc .vmem S768x128 .f32) (harg4 : arg4.IsWhole)
  (arg5 : Memref sig .tc .vmem S768x128 .f32) (harg5 : arg5.IsWhole)
  (arg6 : Memref sig .tc .vmem S768x128 .f32) (harg6 : arg6.IsWhole)
  (arg7 : Memref sig .tc .vmem S8448x128 .bf16) (harg7 : arg7.IsWhole)
  (arg8 : Memref sig .tc .vmem S8448x128 .bf16) (harg8 : arg8.IsWhole)
  (arg9 : Memref sig .tc .vmem S8448x128 .bf16) (harg9 : arg9.IsWhole)
  (arg10 : Memref sig .tc .vmem S768x128 .f32) (harg10 : arg10.IsWhole)
  (arg11 : Memref sig .tc .vmem S8448x128 .f32) (harg11 : arg11.IsWhole)
  (arg12 : Memref sig .tc .vmem S8448x128 .f32) (harg12 : arg12.IsWhole)
  (arg13 : Memref sig .tc .vmem S1x8x8448 .f32) (harg13 : arg13.IsWhole)
  (arg0 arg1 : BitVec 32) (v5 : IVec S1x128 1) (v7 v9 v23 v33 v36 v39 : FVec Ideal S768x128 .bf16)
  (v50 v56 v67 v73 : FVec Ideal S768x1 .f32) (v75 : FVec Ideal S768x128 .f32) (v82 : IVec S768x128 1)
  (v83 : FVec Ideal S768x128 .f32)
  (X7 : BufTy.Contents (Elt Ideal) arg7.view.ty) (X8 : BufTy.Contents (Elt Ideal) arg8.view.ty)
  (X9 : BufTy.Contents (Elt Ideal) arg9.view.ty)
  {X : Blocks} {p : ℕ}
  (H : Ops X p v5 v7 v9 v23 v33 v36 v39 v67 v73 (k0_pay51 v50 v75 v82 v83) (k0_pay52 arg0 v56 v75))
  (h7 : arg7.view.read (Elt Ideal) X7 = X.x5) (h8 : arg8.view.read (Elt Ideal) X8 = X.x6)
  (h9 : arg9.view.read (Elt Ideal) X9 = X.x7)

/-- What one full block of keys does: the queries' sums, and the three arrays it adds to. -/
structure Trip (X : Blocks) (i p k : ℕ) (arg11 arg12 : Memref sig .tc .vmem S8448x128 .f32) (arg13 : Memref sig .tc .vmem S1x8x8448 .f32)
    (acc acc' : FVec Ideal S768x128 .f32 × FVec Ideal S768x128 .f32)
    (f11 g11 : BufTy.Contents (Elt Ideal) arg11.view.ty) (f12 g12 : BufTy.Contents (Elt Ideal) arg12.view.ty)
    (f13 g13 : BufTy.Contents (Elt Ideal) arg13.view.ty) (hk : 768 * k + 768 ≤ 8448) : Prop where
  a0 : ∀ q l, acc'.1 (ix2 q l) = acc.1 (ix2 q l) + ∑ r : Fin 768, cdq X i p 0 q l ⟨768 * k + r.val, by omega⟩
  a1 : ∀ q l, acc'.2 (ix2 q l) = acc.2 (ix2 q l) + ∑ r : Fin 768, cdq X i p 1 q l ⟨768 * k + r.val, by omega⟩
  dk : ∀ R l, arg11.view.read (Elt Ideal) g11 (ix2 R l)
    = (arg11.view.read (Elt Ideal) f11 (ix2 R l) + within (768 * k) 768 R (cdk X i p R l) : EReal)
  dv : ∀ R l, arg12.view.read (Elt Ideal) g12 (ix2 R l)
    = (arg12.view.read (Elt Ideal) f12 (ix2 R l) + within (768 * k) 768 R (cdv X i p R l) : EReal)
  dc : ∀ h R, arg13.view.read (Elt Ideal) g13 (ix3 0 h R)
    = (arg13.view.read (Elt Ideal) f13 (ix3 0 h R) + within (768 * k) 768 R (cdc X i p h R) : EReal)

theorem cdc_split (X : Blocks) (i p o n : ℕ) (h : Fin 8) (R : Fin 8448) (x : EReal) :
    x + (if h.val = 0 then within o n R (-∑ q, DS X i p 0 q R) else 0) + (if h.val = 1 then within o n R (-∑ q, DS X i p 1 q R) else 0)
      = x + within o n R (cdc X i p h R) := by
  unfold cdc within
  by_cases h0 : h.val = 0
  · rw [if_pos h0, if_neg (show ¬h.val = 1 by omega), add_zero, if_pos h0]
  · rw [if_neg h0, add_zero, if_neg h0]
    by_cases h1 : h.val = 1
    · rw [if_pos h1, if_pos h1]
    · rw [if_neg h1, if_neg h1, ite_self]

include H h7 h8 h9 in
theorem trip_reads (k : Fin (k0_t1_loop i).trips) (acc : FVec Ideal S768x128 .f32 × FVec Ideal S768x128 .f32)
    (f11 : BufTy.Contents (Elt Ideal) arg11.view.ty) (f12 : BufTy.Contents (Elt Ideal) arg12.view.ty)
    (f13 : BufTy.Contents (Elt Ideal) arg13.view.ty) (hk : 768 * k.val + 768 ≤ 8448) :
    Trip X (i 1).val p k.val arg11 arg12 arg13 acc
      (tripR_k0_t1 (F := Ideal) 𝒱 c bd i arg2 harg2 arg3 harg3 arg4 harg4 arg5 harg5 arg6 harg6 arg7 harg7 arg8 harg8 arg9 harg9 arg10 harg10 arg11 harg11
      arg12 harg12 arg13 harg13 arg0 arg1 v5 v7 v9 v23 v33 v36 v39 v50 v56 v67 v73 v75 v82 v83 X7 X8 X9 k acc f11 f12 f13)
      f11 (arg11.view.writes (Elt Ideal) f11 (tripL_k0_t1 (F := Ideal) 𝒱 c bd i arg2 harg2 arg3 harg3 arg4 harg4 arg5 harg5 arg6 harg6 arg7 harg7 arg8 harg8 arg9 harg9 arg10 harg10 arg11 harg11
      arg12 harg12 arg13 harg13 arg0 arg1 v5 v7 v9 v23 v33 v36 v39 v50 v56 v67 v73 v75 v82 v83 X7 X8 X9 k acc f11 f12 f13).1)
      f12 (arg12.view.writes (Elt Ideal) f12 (tripL_k0_t1 (F := Ideal) 𝒱 c bd i arg2 harg2 arg3 harg3 arg4 harg4 arg5 harg5 arg6 harg6 arg7 harg7 arg8 harg8 arg9 harg9 arg10 harg10 arg11 harg11
      arg12 harg12 arg13 harg13 arg0 arg1 v5 v7 v9 v23 v33 v36 v39 v50 v56 v67 v73 v75 v82 v83 X7 X8 X9 k acc f11 f12 f13).2.1)
      f13 (arg13.view.writes (Elt Ideal) f13 (tripL_k0_t1 (F := Ideal) 𝒱 c bd i arg2 harg2 arg3 harg3 arg4 harg4 arg5 harg5 arg6 harg6 arg7 harg7 arg8 harg8 arg9 harg9 arg10 harg10 arg11 harg11
      arg12 harg12 arg13 harg13 arg0 arg1 v5 v7 v9 v23 v33 v36 v39 v50 v56 v67 v73 v75 v82 v83 X7 X8 X9 k acc f11 f12 f13).2.2) hk := by
  have hki : k.val < (i 1).val := lt_of_lt_of_eq k.isLt (trips1 i)
  have K := keys_of (X := X) arg7.view arg8.view arg9.view X7 X8 X9 h7 h8 h9 (n := 768) (k0_off1_inb i k) (off1 i k) hk
  have hok : ∀ (q r : Fin 768), OK (i 1).val q ⟨768 * k.val + r.val, by omega⟩ := fun q r =>
    ok_before hki q _ (by show 768 * k.val + r.val < _; omega)
  unfold tripR_k0_t1 tripL_k0_t1 trip_k0_t1
  dsimp only
  sl_unfold_words
  refine ⟨?_, ?_, ?_, ?_, ?_⟩
  · exact fun q l => trip_dq0 H K hok acc.1 q l
  · exact fun q l => trip_dq1 H K hok acc.2 q l
  · exact fun R l => rows_add arg11.view f11 _ (off1 i k) _ (cdk X (i 1).val p) hk (fun r l => trip_dk H K hok _ r l) R l
  · exact fun R l => rows_add arg12.view f12 _ (off1 i k) _ (cdv X (i 1).val p) hk (fun r l => trip_dv H K hok _ r l) R l
  · intro h R
    rw [show ∀ a b, arg13.view.writes (Elt Ideal) f13 [a, b] = arg13.view.writes (Elt Ideal) (arg13.view.writes (Elt Ideal) f13 [b]) [a]
      from fun _ _ => rfl]
    have e0 := cols_add arg13.view f13 f13 (k0_off2_inb i k) (off2 i k) _ (fun R => -∑ q, DS X (i 1).val p 0 q R) hk (by decide)
      (fun _ => rfl) (fun r => trip_dc0 H K hok _ r)
    refine (cols_add arg13.view _ f13 (k0_off3_inb i k) (off3 i k) _ (fun R => -∑ q, DS X (i 1).val p 1 q R) hk (by decide)
      (fun R => ?_) (fun r => trip_dc1 H K hok _ r) h R).trans ?_
    · exact ((e0 1 R).trans (by rw [if_neg (by decide), add_zero]; rfl)).symm
    refine (congrArg (fun z : EReal => z + _) (e0 h R)).trans ?_
    exact cdc_split X _ p _ _ h R _

/-- The sums and arrays after the keys below row `o`. -/
structure Upto (X : Blocks) (i p o : ℕ) (arg11 arg12 : Memref sig .tc .vmem S8448x128 .f32) (arg13 : Memref sig .tc .vmem S1x8x8448 .f32)
    (init acc : FVec Ideal S768x128 .f32 × FVec Ideal S768x128 .f32)
    (f11 g11 : BufTy.Contents (Elt Ideal) arg11.view.ty) (f12 g12 : BufTy.Contents (Elt Ideal) arg12.view.ty)
    (f13 g13 : BufTy.Contents (Elt Ideal) arg13.view.ty) : Prop where
  a0 : ∀ q l, acc.1 (ix2 q l) = init.1 (ix2 q l) + below o (cdq X i p 0 q l)
  a1 : ∀ q l, acc.2 (ix2 q l) = init.2 (ix2 q l) + below o (cdq X i p 1 q l)
  dk : ∀ R l, arg11.view.read (Elt Ideal) g11 (ix2 R l)
    = (arg11.view.read (Elt Ideal) f11 (ix2 R l) + under o R (cdk X i p R l) : EReal)
  dv : ∀ R l, arg12.view.read (Elt Ideal) g12 (ix2 R l)
    = (arg12.view.read (Elt Ideal) f12 (ix2 R l) + under o R (cdv X i p R l) : EReal)
  dc : ∀ h R, arg13.view.read (Elt Ideal) g13 (ix3 0 h R)
    = (arg13.view.read (Elt Ideal) f13 (ix3 0 h R) + under o R (cdc X i p h R) : EReal)

theorem under_zero (R : Fin 8448) (x : EReal) : under 0 R x = 0 := if_neg (Nat.not_lt_zero _)

include H h7 h8 h9 in
theorem loop_reads (init : FVec Ideal S768x128 .f32 × FVec Ideal S768x128 .f32)
    (G11 : BufTy.Contents (Elt Ideal) arg11.view.ty) (G12 : BufTy.Contents (Elt Ideal) arg12.view.ty)
    (G13 : BufTy.Contents (Elt Ideal) arg13.view.ty) (n : ℕ) (hn : n ≤ (k0_t1_loop i).trips) :
    Upto X (i 1).val p (768 * n) arg11 arg12 arg13 init
      (st_k0_t1 (F := Ideal) 𝒱 c bd i arg2 harg2 arg3 harg3 arg4 harg4 arg5 harg5 arg6 harg6 arg7 harg7 arg8 harg8 arg9 harg9 arg10 harg10 arg11 harg11
      arg12 harg12 arg13 harg13 arg0 arg1 v5 v7 v9 v23 v33 v36 v39 v50 v56 v67 v73 v75 v82 v83 X7 X8 X9 G11 G12 G13 init n).1
      G11 (arg11.view.writes (Elt Ideal) G11 (st_k0_t1 (F := Ideal) 𝒱 c bd i arg2 harg2 arg3 harg3 arg4 harg4 arg5 harg5 arg6 harg6 arg7 harg7 arg8 harg8 arg9 harg9 arg10 harg10 arg11 harg11
      arg12 harg12 arg13 harg13 arg0 arg1 v5 v7 v9 v23 v33 v36 v39 v50 v56 v67 v73 v75 v82 v83 X7 X8 X9 G11 G12 G13 init n).2.1)
      G12 (arg12.view.writes (Elt Ideal) G12 (st_k0_t1 (F := Ideal) 𝒱 c bd i arg2 harg2 arg3 harg3 arg4 harg4 arg5 harg5 arg6 harg6 arg7 harg7 arg8 harg8 arg9 harg9 arg10 harg10 arg11 harg11
      arg12 harg12 arg13 harg13 arg0 arg1 v5 v7 v9 v23 v33 v36 v39 v50 v56 v67 v73 v75 v82 v83 X7 X8 X9 G11 G12 G13 init n).2.2.1)
      G13 (arg13.view.writes (Elt Ideal) G13 (st_k0_t1 (F := Ideal) 𝒱 c bd i arg2 harg2 arg3 harg3 arg4 harg4 arg5 harg5 arg6 harg6 arg7 harg7 arg8 harg8 arg9 harg9 arg10 harg10 arg11 harg11
      arg12 harg12 arg13 harg13 arg0 arg1 v5 v7 v9 v23 v33 v36 v39 v50 v56 v67 v73 v75 v82 v83 X7 X8 X9 G11 G12 G13 init n).2.2.2) := by
  induction n with
  | zero =>
    refine ⟨fun q l => ?_, fun q l => ?_, fun R l => ?_, fun R l => ?_, fun h R => ?_⟩
    · rw [show 768 * 0 = 0 from rfl, below_zero, add_zero]; rfl
    · rw [show 768 * 0 = 0 from rfl, below_zero, add_zero]; rfl
    · rw [show 768 * 0 = 0 from rfl, under_zero, add_zero]; rfl
    · rw [show 768 * 0 = 0 from rfl, under_zero, add_zero]; rfl
    · rw [show 768 * 0 = 0 from rfl, under_zero, add_zero]; rfl
  | succ n ih =>
    have ih := ih (Nat.le_of_succ_le hn)
    have hi := coord_lt i
    have hn' : n < (i 1).val := lt_of_lt_of_eq hn (trips1 i)
    have hk : 768 * n + 768 ≤ 8448 := by omega
    have e := st_k0_t1_succ (F := Ideal) 𝒱 c bd i arg2 harg2 arg3 harg3 arg4 harg4 arg5 harg5 arg6 harg6 arg7 harg7 arg8 harg8 arg9 harg9 arg10 harg10 arg11 harg11
      arg12 harg12 arg13 harg13 arg0 arg1 v5 v7 v9 v23 v33 v36 v39 v50 v56 v67 v73 v75 v82 v83 X7 X8 X9 G11 G12 G13 init ⟨n, hn⟩
    have T := trip_reads 𝒱 c bd i arg2 harg2 arg3 harg3 arg4 harg4 arg5 harg5 arg6 harg6 arg7 harg7 arg8 harg8 arg9 harg9 arg10 harg10 arg11 harg11
      arg12 harg12 arg13 harg13 arg0 arg1 v5 v7 v9 v23 v33 v36 v39 v50 v56 v67 v73 v75 v82 v83 X7 X8 X9 H h7 h8 h9 ⟨n, hn⟩
      (st_k0_t1 (F := Ideal) 𝒱 c bd i arg2 harg2 arg3 harg3 arg4 harg4 arg5 harg5 arg6 harg6 arg7 harg7 arg8 harg8 arg9 harg9 arg10 harg10 arg11 harg11
      arg12 harg12 arg13 harg13 arg0 arg1 v5 v7 v9 v23 v33 v36 v39 v50 v56 v67 v73 v75 v82 v83 X7 X8 X9 G11 G12 G13 init n).1
      (arg11.view.writes (Elt Ideal) G11 (st_k0_t1 (F := Ideal) 𝒱 c bd i arg2 harg2 arg3 harg3 arg4 harg4 arg5 harg5 arg6 harg6 arg7 harg7 arg8 harg8 arg9 harg9 arg10 harg10 arg11 harg11
      arg12 harg12 arg13 harg13 arg0 arg1 v5 v7 v9 v23 v33 v36 v39 v50 v56 v67 v73 v75 v82 v83 X7 X8 X9 G11 G12 G13 init n).2.1)
      (arg12.view.writes (Elt Ideal) G12 (st_k0_t1 (F := Ideal) 𝒱 c bd i arg2 harg2 arg3 harg3 arg4 harg4 arg5 harg5 arg6 harg6 arg7 harg7 arg8 harg8 arg9 harg9 arg10 harg10 arg11 harg11
      arg12 harg12 arg13 harg13 arg0 arg1 v5 v7 v9 v23 v33 v36 v39 v50 v56 v67 v73 v75 v82 v83 X7 X8 X9 G11 G12 G13 init n).2.2.1)
      (arg13.view.writes (Elt Ideal) G13 (st_k0_t1 (F := Ideal) 𝒱 c bd i arg2 harg2 arg3 harg3 arg4 harg4 arg5 harg5 arg6 harg6 arg7 harg7 arg8 harg8 arg9 harg9 arg10 harg10 arg11 harg11
      arg12 harg12 arg13 harg13 arg0 arg1 v5 v7 v9 v23 v33 v36 v39 v50 v56 v67 v73 v75 v82 v83 X7 X8 X9 G11 G12 G13 init n).2.2.2) hk
    rw [show 768 * (n + 1) = 768 * n + 768 from rfl]
    dsimp only at e
    rw [e]
    dsimp only
    simp only [View.writes_append]
    refine ⟨fun q l => ?_, fun q l => ?_, fun R l => ?_, fun R l => ?_, fun h R => ?_⟩
    · rw [below_add _ _ hk, ← add_assoc, ← ih.a0]; exact T.a0 q l
    · rw [below_add _ _ hk, ← add_assoc, ← ih.a1]; exact T.a1 q l
    · rw [← under_within, ← add_assoc, ← ih.dk]; exact T.dk R l
    · rw [← under_within, ← add_assoc, ← ih.dv]; exact T.dv R l
    · rw [← under_within, ← add_assoc, ← ih.dc]; exact T.dc h R

end Loop
end Cert.AttnBwd
-- ==== Proof.AttnDiag.lean ====
module
public import proofs.«01_k».proof.Proof.AttnLoop
@[expose] public section
set_option maxRecDepth 16384
noncomputable section
open Idealize.ShloMosaic Idealize.ShloMosaic.TcCoe Idealize.SL.Sem
namespace Cert.AttnBwd
open Cert.AttnBwdIdeal Cert.AttnBwdIdeal.Gen

/-! ## The tile's own keys -/

theorem word_add (i r : ℕ) : IntOp.addi (Scalar.muli (BitVec.ofNat 32 i) 768#32) (BitVec.ofNat 32 r) = BitVec.ofNat 32 (768 * i + r) := by
  show BitVec.ofNat 32 i * BitVec.ofNat 32 768 + BitVec.ofNat 32 r = _
  rw [← BitVec.ofNat_mul, ← BitVec.ofNat_add, mul_comm]

theorem word_base (i d : ℕ) : Scalar.addi (Scalar.muli (BitVec.ofNat 32 i) 768#32) (BitVec.ofNat 32 d) = BitVec.ofNat 32 (768 * i + d) := by
  show BitVec.ofNat 32 i * BitVec.ofNat 32 768 + BitVec.ofNat 32 d = _
  rw [← BitVec.ofNat_mul, ← BitVec.ofNat_add, mul_comm]

theorem word_sum (a b : ℕ) : IntOp.addi (BitVec.ofNat 32 a) (BitVec.ofNat 32 b) = BitVec.ofNat 32 (a + b) := by
  show BitVec.ofNat 32 a + BitVec.ofNat 32 b = _
  rw [← BitVec.ofNat_add]

theorem mask_a {i : ℕ} (hi : i < 11) (q : Fin 768) (r : Fin 512) :
    k0_pay74 (k0_pay72 (BitVec.ofNat 32 i)) (iota .tc S1x512 32 [1] iota_S1x512_d1_w32) (k0_pay73 (BitVec.ofNat 32 i)) (ix2 q r)
      = BitVec.ofBool (decide (OK i q ⟨768 * i + r.val, by omega⟩)) := by
  have hq := q.isLt
  have hr := r.isLt
  pointwise [k0_pay74, k0_pay72, k0_pay73]
  rw [word_add, word_base i 0, word_sum]
  word_cmp
  refine congrArg _ ?_
  rw [← Bool.decide_or, ← Bool.decide_and]
  refine decide_eq_decide.mpr ?_
  unfold OK
  dsimp only
  omega

theorem mask_b {i : ℕ} (hi : i < 11) (q r : Fin 256) :
    k0_pay96 (BitVec.ofNat 32 i) (Scalar.muli (BitVec.ofNat 32 i) 768#32) (ix2 q r)
      = BitVec.ofBool (decide (OK i (up q) ⟨768 * i + 512 + r.val, by omega⟩)) := by
  have hq := q.isLt
  have hr := r.isLt
  pointwise [k0_pay96]
  rw [word_base i 512, word_sum, word_sum]
  word_cmp
  refine congrArg _ ?_
  rw [← Bool.decide_or, ← Bool.decide_and]
  refine decide_eq_decide.mpr ?_
  unfold OK up
  dsimp only
  omega

/-! ## Keys a query does not see -/

theorem pb_zero (X : Blocks) {i p : ℕ} {q : Fin 768} {R : Fin 8448} (h : Fin 2) (hn : ¬OK i q R) : PB X i p h q R = 0 := by
  unfold PB
  rw [if_neg hn, EReal.bot_add]
  rfl
theorem ds_zero (X : Blocks) {i p : ℕ} {q : Fin 768} {R : Fin 8448} (h : Fin 2) (hn : ¬OK i q R) : DS X i p h q R = 0 := by
  unfold DS
  rw [pb_zero X h hn, zero_mul]
theorem not_ok_after {i : ℕ} {q : Fin 768} {R : Fin 8448} (h : 768 * i + q.val < R.val) (h' : 768 * i ≤ R.val) : ¬OK i q R := by
  unfold OK
  omega

theorem sum_up (f : Fin 768 → EReal) (h0 : ∀ q, q.val < 512 → f q = 0) : ∑ q : Fin 256, f (up q) = ∑ q, f q := by
  refine Finset.sum_bij_ne_zero (fun q _ _ => up q) (fun _ _ _ => Finset.mem_univ _) ?_ ?_ (fun _ _ _ => rfl)
  · intro a _ _ b _ _ e
    have := congrArg Fin.val e
    exact Fin.ext (by simpa [up] using this)
  · intro q _ hq
    have hlt : ¬q.val < 512 := fun h => hq (h0 q h)
    have e : up ⟨q.val - 512, by omega⟩ = q := Fin.ext (by show 512 + (q.val - 512) = q.val; omega)
    exact ⟨⟨q.val - 512, by omega⟩, Finset.mem_univ _, by rw [e]; exact hq, e⟩

theorem within_within (o n n' : ℕ) (R : Fin 8448) (x : EReal) : within o n R x + within (o + n) n' R x = within o (n + n') R x := by
  unfold within
  by_cases h : o ≤ R.val ∧ R.val < o + n
  · rw [if_pos h, if_neg (by omega), if_pos (by omega), add_zero]
  · rw [if_neg h, zero_add]
    by_cases h' : o + n ≤ R.val ∧ R.val < o + n + n'
    · rw [if_pos h', if_pos (by omega)]
    · rw [if_neg h', if_neg (by omega)]

theorem within_congr {o n : ℕ} {R : Fin 8448} {x y : EReal} (h : o ≤ R.val → R.val < o + n → x = y) :
    within o n R x = within o n R y := by
  unfold within
  by_cases h' : o ≤ R.val ∧ R.val < o + n
  · rw [if_pos h', if_pos h', h h'.1 h'.2]
  · rw [if_neg h', if_neg h']

/-- Past the tile's own keys nothing is added. -/
theorem under_all {o : ℕ} {R : Fin 8448} {x : EReal} (h : o ≤ R.val → x = 0) : under o R x = x := by
  unfold under
  by_cases h' : R.val < o
  · rw [if_pos h']
  · rw [if_neg h', h (by omega)]

theorem below_all {o : ℕ} {f : Fin 8448 → EReal} (h : ∀ R, o ≤ R.val → f R = 0) : below o f = ∑ R, f R :=
  Finset.sum_congr rfl fun R _ => under_all (h R)

theorem cdk_zero (X : Blocks) {i p : ℕ} {R : Fin 8448} (l : Fin 128) (h : 768 * i + 768 ≤ R.val) : cdk X i p R l = 0 :=
  Finset.sum_eq_zero fun q _ => by rw [ds_zero X _ (not_ok_after (by have := q.isLt; omega) (by omega)), zero_mul]
theorem cdv_zero (X : Blocks) {i p : ℕ} {R : Fin 8448} (l : Fin 128) (h : 768 * i + 768 ≤ R.val) : cdv X i p R l = 0 :=
  Finset.sum_eq_zero fun q _ => by rw [pb_zero X _ (not_ok_after (by have := q.isLt; omega) (by omega)), zero_mul]
theorem cdc_zero (X : Blocks) {i p : ℕ} {R : Fin 8448} (h : Fin 8) (hR : 768 * i + 768 ≤ R.val) : cdc X i p h R = 0 := by
  have e : ∀ g : Fin 2, ∑ q, DS X i p g q R = 0 := fun g =>
    Finset.sum_eq_zero fun q _ => ds_zero X _ (not_ok_after (by have := q.isLt; omega) (by omega))
  unfold cdc
  rw [e, e, neg_zero, ite_self, ite_self]

section Diag

variable {X : Blocks} {v5 : IVec S1x128 1} {v7 v9 v23 v33 v36 v39 : FVec Ideal S768x128 .bf16} {v67 v73 v87 v99 : FVec Ideal S768x1 .f32}
  {i p : ℕ} (H : Ops X p v5 v7 v9 v23 v33 v36 v39 v67 v73 v87 v99) (hi : i < 11)
  {ka kb vv : S512x128.Idx → EReal} (K : Keys (n := 512) X ka kb vv (fun r => ⟨768 * i + r.val, by omega⟩))
  {ka' kb' vv' : S256x128.Idx → EReal} (K' : Keys (n := 256) X ka' kb' vv' (fun r => ⟨768 * i + 512 + r.val, by omega⟩))

include H K K' hi

theorem diag_dk {sig : RefSig} {κ : Kind} {sp : Space} (v : View sig κ sp S8448x128 .f32) (f : v.ty.Contents (Elt Ideal))
    {o7 o10 : Fin 2 → ℕ} (b7 : ∀ a, o7 a + (![512, 128] : Fin 2 → ℕ) a ≤ S8448x128.size a)
    (b10 : ∀ a, o10 a + (![256, 128] : Fin 2 → ℕ) a ≤ S8448x128.size a) (e7 : o7 = ![768 * i, 0]) (e10 : o10 = ![768 * i + 512, 0])
    (R : Fin 8448) (l : Fin 128) :
    v.read (Elt Ideal) (v.writes (Elt Ideal) f
      [⟨Rect.unit (s := S8448x128) o10 ![256, 128] b10,
        k0_pay2 k0_pay30 (k0_pay106 (k0_pay97 v7) (k0_pay100 v36 vv') (k0_pay101 (BitVec.ofNat 32 i) v23 v87 (Scalar.muli (BitVec.ofNat 32 i) 768#32) ka') (k0_pay102 v67))
          (k0_pay113 v33 v39 v73 v99 (k0_pay94 kb') (k0_pay95 vv') (k0_pay96 (BitVec.ofNat 32 i) (Scalar.muli (BitVec.ofNat 32 i) 768#32)) (k0_pay97 v7))
          (View.readAt (Elt Ideal) v (Rect.unit (s := S8448x128) o10 ![256, 128] b10).toLoadRect
            (v.writes (Elt Ideal) f [⟨Rect.unit (s := S8448x128) o7 ![512, 128] b7, k0_pay89 v5 v7 v39 v73 v99 (k0_pay71 vv) (k0_pay74 (k0_pay72 (BitVec.ofNat 32 i)) (iota .tc S1x512 32 [1] iota_S1x512_d1_w32) (k0_pay73 (BitVec.ofNat 32 i))) (k0_pay79 v7 v23 v36 v67 v87 (k0_pay69 ka) (k0_pay71 vv) (k0_pay72 (BitVec.ofNat 32 i)) (iota .tc S1x512 32 [1] iota_S1x512_d1_w32) (k0_pay73 (BitVec.ofNat 32 i)))
          (k0_pay82 v33 (k0_pay70 kb)) k0_pay83 (View.readAt (Elt Ideal) v (Rect.unit (s := S8448x128) o7 ![512, 128] b7).toLoadRect f)⟩]))⟩,
       ⟨Rect.unit (s := S8448x128) o7 ![512, 128] b7, k0_pay89 v5 v7 v39 v73 v99 (k0_pay71 vv) (k0_pay74 (k0_pay72 (BitVec.ofNat 32 i)) (iota .tc S1x512 32 [1] iota_S1x512_d1_w32) (k0_pay73 (BitVec.ofNat 32 i))) (k0_pay79 v7 v23 v36 v67 v87 (k0_pay69 ka) (k0_pay71 vv) (k0_pay72 (BitVec.ofNat 32 i)) (iota .tc S1x512 32 [1] iota_S1x512_d1_w32) (k0_pay73 (BitVec.ofNat 32 i)))
          (k0_pay82 v33 (k0_pay70 kb)) k0_pay83 (View.readAt (Elt Ideal) v (Rect.unit (s := S8448x128) o7 ![512, 128] b7).toLoadRect f)⟩]) (ix2 R l)
      = (v.read (Elt Ideal) f (ix2 R l) + within (768 * i) 768 R (cdk X i p R l) : EReal) := by
  rw [show ∀ a b, v.writes (Elt Ideal) f [a, b] = v.writes (Elt Ideal) (v.writes (Elt Ideal) f [b]) [a] from fun _ _ => rfl]
  refine (rows_add v _ b10 e10 _ (fun R l => if l.val < 64 then ∑ q : Fin 256, DS X i p 0 (up q) R * X.x0 (ix2 (up q) l)
    else ∑ q : Fin 256, DS X i p 1 (up q) R * X.x0 (ix2 (up q) l)) (by omega) (fun r l => ?_) R l).trans ?_
  · rw [sel_dk, db_dk0 H K' (fun q r => mask_b hi q r), db_dk1 H K' (fun q r => mask_b hi q r)]
  · rw [rows_add v f b7 e7 _ (cdk X i p) (by omega) (fun r l => da_dk H K (fun q r => mask_a hi q r) _ r l) R l, add_assoc,
      ← within_within (768 * i) 512 256]
    refine congrArg (fun z : EReal => _ + (_ + z)) (within_congr fun h0 _ => ?_)
    have e : ∀ h : Fin 2, (∑ q : Fin 256, DS X i p h (up q) R * X.x0 (ix2 (up q) l)) = ∑ q, DS X i p h q R * X.x0 (ix2 q l) := fun h =>
      sum_up (fun q => DS X i p h q R * X.x0 (ix2 q l)) fun q hq => by
        rw [ds_zero X _ (not_ok_after (by omega) (by omega)), zero_mul]
    rw [e, e]
    unfold cdk hd
    split <;> rfl

theorem diag_dv {sig : RefSig} {κ : Kind} {sp : Space} (v : View sig κ sp S8448x128 .f32) (f : v.ty.Contents (Elt Ideal))
    {o7 o10 : Fin 2 → ℕ} (b7 : ∀ a, o7 a + (![512, 128] : Fin 2 → ℕ) a ≤ S8448x128.size a)
    (b10 : ∀ a, o10 a + (![256, 128] : Fin 2 → ℕ) a ≤ S8448x128.size a) (e7 : o7 = ![768 * i, 0]) (e10 : o10 = ![768 * i + 512, 0])
    (R : Fin 8448) (l : Fin 128) :
    v.read (Elt Ideal) (v.writes (Elt Ideal) f
      [⟨Rect.unit (s := S8448x128) o10 ![256, 128] b10,
        k0_pay3 k0_pay30 (k0_pay107 (k0_pay98 v9) (k0_pay99 (BitVec.ofNat 32 i) v23 v87 (Scalar.muli (BitVec.ofNat 32 i) 768#32) ka'))
          (k0_pay114 v33 v99 (k0_pay94 kb') (k0_pay96 (BitVec.ofNat 32 i) (Scalar.muli (BitVec.ofNat 32 i) 768#32)) (k0_pay98 v9))
          (View.readAt (Elt Ideal) v (Rect.unit (s := S8448x128) o10 ![256, 128] b10).toLoadRect
            (v.writes (Elt Ideal) f [⟨Rect.unit (s := S8448x128) o7 ![512, 128] b7, k0_pay90 v5 v9 v99 (k0_pay74 (k0_pay72 (BitVec.ofNat 32 i)) (iota .tc S1x512 32 [1] iota_S1x512_d1_w32) (k0_pay73 (BitVec.ofNat 32 i))) (k0_pay80 v9 v23 v87 (k0_pay69 ka) (k0_pay72 (BitVec.ofNat 32 i)) (iota .tc S1x512 32 [1] iota_S1x512_d1_w32) (k0_pay73 (BitVec.ofNat 32 i))) (k0_pay82 v33 (k0_pay70 kb)) k0_pay83
          (View.readAt (Elt Ideal) v (Rect.unit (s := S8448x128) o7 ![512, 128] b7).toLoadRect f)⟩]))⟩,
       ⟨Rect.unit (s := S8448x128) o7 ![512, 128] b7, k0_pay90 v5 v9 v99 (k0_pay74 (k0_pay72 (BitVec.ofNat 32 i)) (iota .tc S1x512 32 [1] iota_S1x512_d1_w32) (k0_pay73 (BitVec.ofNat 32 i))) (k0_pay80 v9 v23 v87 (k0_pay69 ka) (k0_pay72 (BitVec.ofNat 32 i)) (iota .tc S1x512 32 [1] iota_S1x512_d1_w32) (k0_pay73 (BitVec.ofNat 32 i))) (k0_pay82 v33 (k0_pay70 kb)) k0_pay83
          (View.readAt (Elt Ideal) v (Rect.unit (s := S8448x128) o7 ![512, 128] b7).toLoadRect f)⟩]) (ix2 R l)
      = (v.read (Elt Ideal) f (ix2 R l) + within (768 * i) 768 R (cdv X i p R l) : EReal) := by
  rw [show ∀ a b, v.writes (Elt Ideal) f [a, b] = v.writes (Elt Ideal) (v.writes (Elt Ideal) f [b]) [a] from fun _ _ => rfl]
  refine (rows_add v _ b10 e10 _ (fun R l => if l.val < 64 then ∑ q : Fin 256, PB X i p 0 (up q) R * X.x1 (ix2 (up q) l)
    else ∑ q : Fin 256, PB X i p 1 (up q) R * X.x1 (ix2 (up q) l)) (by omega) (fun r l => ?_) R l).trans ?_
  · rw [sel_dv, db_dv0 H K' (fun q r => mask_b hi q r), db_dv1 H K' (fun q r => mask_b hi q r)]
  · rw [rows_add v f b7 e7 _ (cdv X i p) (by omega) (fun r l => da_dv H K (fun q r => mask_a hi q r) _ r l) R l, add_assoc,
      ← within_within (768 * i) 512 256]
    refine congrArg (fun z : EReal => _ + (_ + z)) (within_congr fun h0 _ => ?_)
    have e : ∀ h : Fin 2, (∑ q : Fin 256, PB X i p h (up q) R * X.x1 (ix2 (up q) l)) = ∑ q, PB X i p h q R * X.x1 (ix2 q l) := fun h =>
      sum_up (fun q => PB X i p h q R * X.x1 (ix2 q l)) fun q hq => by
        rw [pb_zero X _ (not_ok_after (by omega) (by omega)), zero_mul]
    rw [e, e]
    unfold cdv hd
    split <;> rfl

theorem diag_dq (init acc : FVec Ideal S768x128 .f32 × FVec Ideal S768x128 .f32) (h0 : ∀ q l, init.1 (ix2 q l) = 0)
    (h1 : ∀ q l, init.2 (ix2 q l) = 0) (a0 : ∀ q l, acc.1 (ix2 q l) = init.1 (ix2 q l) + below (768 * i) (cdq X i p 0 q l))
    (a1 : ∀ q l, acc.2 (ix2 q l) = init.2 (ix2 q l) + below (768 * i) (cdq X i p 1 q l)) (q : Fin 768) (l : Fin 128) :
    k0_pay4 k0_pay30 (k0_pay78 v23 v36 v67 v87 acc.1 (k0_pay69 ka) (k0_pay71 vv) (k0_pay72 (BitVec.ofNat 32 i)) (iota .tc S1x512 32 [1] iota_S1x512_d1_w32) (k0_pay73 (BitVec.ofNat 32 i))) (k0_pay87 v39 v73 v99 acc.2 (k0_pay70 kb) (k0_pay71 vv) (k0_pay74 (k0_pay72 (BitVec.ofNat 32 i)) (iota .tc S1x512 32 [1] iota_S1x512_d1_w32) (k0_pay73 (BitVec.ofNat 32 i))) (k0_pay82 v33 (k0_pay70 kb)) k0_pay83)
        (k0_pay105 (k0_pay91 (k0_pay78 v23 v36 v67 v87 acc.1 (k0_pay69 ka) (k0_pay71 vv) (k0_pay72 (BitVec.ofNat 32 i)) (iota .tc S1x512 32 [1] iota_S1x512_d1_w32) (k0_pay73 (BitVec.ofNat 32 i))))
          (k0_pay93 ka') (k0_pay100 v36 vv') (k0_pay101 (BitVec.ofNat 32 i) v23 v87 (Scalar.muli (BitVec.ofNat 32 i) 768#32) ka') (k0_pay102 v67))
        (k0_pay112 v33 v39 v73 v99
          (k0_pay92 (k0_pay87 v39 v73 v99 acc.2 (k0_pay70 kb) (k0_pay71 vv) (k0_pay74 (k0_pay72 (BitVec.ofNat 32 i)) (iota .tc S1x512 32 [1] iota_S1x512_d1_w32) (k0_pay73 (BitVec.ofNat 32 i))) (k0_pay82 v33 (k0_pay70 kb)) k0_pay83))
          (k0_pay94 kb') (k0_pay95 vv') (k0_pay96 (BitVec.ofNat 32 i) (Scalar.muli (BitVec.ofNat 32 i) 768#32))) (ix2 q l)
      = ∑ R, cdq X i p (hd l) q l R := by
  have r0 : ∀ q l, (k0_pay78 v23 v36 v67 v87 acc.1 (k0_pay69 ka) (k0_pay71 vv) (k0_pay72 (BitVec.ofNat 32 i)) (iota .tc S1x512 32 [1] iota_S1x512_d1_w32) (k0_pay73 (BitVec.ofNat 32 i))) (ix2 q l)
      = below (768 * i + 512) (cdq X i p 0 q l) := fun q l => by
    rw [da_dq0 H K (fun q r => mask_a hi q r), a0, h0, zero_add, below_add _ _ (by omega)]; rfl
  have r1 : ∀ q l, (k0_pay87 v39 v73 v99 acc.2 (k0_pay70 kb) (k0_pay71 vv) (k0_pay74 (k0_pay72 (BitVec.ofNat 32 i)) (iota .tc S1x512 32 [1] iota_S1x512_d1_w32) (k0_pay73 (BitVec.ofNat 32 i))) (k0_pay82 v33 (k0_pay70 kb)) k0_pay83) (ix2 q l)
      = below (768 * i + 512) (cdq X i p 1 q l) := fun q l => by
    rw [da_dq1 H K (fun q r => mask_a hi q r), a1, h1, zero_add, below_add _ _ (by omega)]; rfl
  have z : ∀ (h : Fin 2) (q : Fin 768) (R : Fin 8448), 768 * i + q.val < R.val → cdq X i p h q l R = 0 := fun h q R hR => by
    unfold cdq
    rw [ds_zero X h (not_ok_after hR (by omega)), zero_mul]
  have lo : ∀ (h : Fin 2), q.val < 512 → below (768 * i + 512) (cdq X i p h q l) = ∑ R, cdq X i p h q l R := fun h hq =>
    below_all fun R hR => z h q R (by omega)
  have hi' : ∀ (h : Fin 2), below (768 * i + 512 + 256) (cdq X i p h q l) = ∑ R, cdq X i p h q l R := fun h =>
    below_all fun R hR => z h q R (by have := q.isLt; omega)
  have s91 : ∀ (w : FVec Ideal S768x128 .f32) (q : Fin 256), k0_pay91 w (ix2 q l) = w (ix2 (up q) l) := fun w q => by
    pointwise [k0_pay91]; rfl
  have s92 : ∀ (w : FVec Ideal S768x128 .f32) (q : Fin 256), k0_pay92 w (ix2 q l) = w (ix2 (up q) l) := fun w q => by
    pointwise [k0_pay92]; rfl
  rw [sel_dq]
  by_cases hq : q.val < 512
  · rw [dif_pos hq, dif_pos hq, r0, r1, lo 0 hq, lo 1 hq]
    unfold hd
    split <;> rfl
  · have eq : up ⟨q.val - 512, by have := q.isLt; omega⟩ = q := Fin.ext (by show 512 + (q.val - 512) = q.val; omega)
    rw [dif_neg hq, dif_neg hq, db_dq0 H K' (fun q r => mask_b hi q r), db_dq1 H K' (fun q r => mask_b hi q r), s91, s92, r0, r1, eq,
      ← hi' (hd l), below_add (768 * i + 512) 256 (by omega)]
    unfold hd
    split <;> rfl

theorem diag_dc {sig : RefSig} {κ : Kind} {sp : Space} (v : View sig κ sp S1x8x8448 .f32) (f : v.ty.Contents (Elt Ideal))
    (L : List (View.Piece (Elt Ideal) S1x8x8448 .f32))
    {o8 o9 o11 o12 : Fin 3 → ℕ} (b8 : ∀ a, o8 a + (![1, 1, 512] : Fin 3 → ℕ) a ≤ S1x8x8448.size a)
    (b9 : ∀ a, o9 a + (![1, 1, 512] : Fin 3 → ℕ) a ≤ S1x8x8448.size a) (b11 : ∀ a, o11 a + (![1, 1, 256] : Fin 3 → ℕ) a ≤ S1x8x8448.size a)
    (b12 : ∀ a, o12 a + (![1, 1, 256] : Fin 3 → ℕ) a ≤ S1x8x8448.size a) (e8 : o8 = ![0, 0, 768 * i]) (e9 : o9 = ![0, 1, 768 * i])
    (e11 : o11 = ![0, 0, 768 * i + 512]) (e12 : o12 = ![0, 1, 768 * i + 512]) (h : Fin 8) (R : Fin 8448) :
    v.read (Elt Ideal) (v.writes (Elt Ideal) f (⟨Rect.unit (s := S1x8x8448) o12 ![1, 1, 256] b12, k0_pay1 (k0_pay110 v33 v39 v73 v99 (k0_pay94 kb') (k0_pay95 vv') (k0_pay96 (BitVec.ofNat 32 i) (Scalar.muli (BitVec.ofNat 32 i) 768#32)))
  (View.readAt (Elt Ideal) v (Rect.unit (s := S1x8x8448) o12 ![1, 1, 256] b12).toLoadRect (v.writes (Elt Ideal) f (⟨Rect.unit (s := S1x8x8448) o11 ![1, 1, 256] b11, k0_pay108 (k0_pay100 v36 vv') (k0_pay101 (BitVec.ofNat 32 i) v23 v87 (Scalar.muli (BitVec.ofNat 32 i) 768#32) ka') (k0_pay102 v67)
  (View.readAt (Elt Ideal) v (Rect.unit (s := S1x8x8448) o11 ![1, 1, 256] b11).toLoadRect (v.writes (Elt Ideal) f (⟨Rect.unit (s := S1x8x8448) o9 ![1, 1, 512] b9, k0_pay88 v39 v73 v99 (k0_pay71 vv) (k0_pay74 (k0_pay72 (BitVec.ofNat 32 i)) (iota .tc S1x512 32 [1] iota_S1x512_d1_w32) (k0_pay73 (BitVec.ofNat 32 i))) (k0_pay82 v33 (k0_pay70 kb)) k0_pay83
  (View.readAt (Elt Ideal) v (Rect.unit (s := S1x8x8448) o9 ![1, 1, 512] b9).toLoadRect (v.writes (Elt Ideal) f (⟨Rect.unit (s := S1x8x8448) o8 ![1, 1, 512] b8, k0_pay81 v23 v36 v67 v87 (k0_pay69 ka) (k0_pay71 vv) (k0_pay72 (BitVec.ofNat 32 i)) (iota .tc S1x512 32 [1] iota_S1x512_d1_w32) (k0_pay73 (BitVec.ofNat 32 i))
  (View.readAt (Elt Ideal) v (Rect.unit (s := S1x8x8448) o8 ![1, 1, 512] b8).toLoadRect (v.writes (Elt Ideal) f L))⟩ :: L)))⟩ ::
  ⟨Rect.unit (s := S1x8x8448) o8 ![1, 1, 512] b8, k0_pay81 v23 v36 v67 v87 (k0_pay69 ka) (k0_pay71 vv) (k0_pay72 (BitVec.ofNat 32 i)) (iota .tc S1x512 32 [1] iota_S1x512_d1_w32) (k0_pay73 (BitVec.ofNat 32 i))
  (View.readAt (Elt Ideal) v (Rect.unit (s := S1x8x8448) o8 ![1, 1, 512] b8).toLoadRect (v.writes (Elt Ideal) f L))⟩ :: L)))⟩ ::
  ⟨Rect.unit (s := S1x8x8448) o9 ![1, 1, 512] b9, k0_pay88 v39 v73 v99 (k0_pay71 vv) (k0_pay74 (k0_pay72 (BitVec.ofNat 32 i)) (iota .tc S1x512 32 [1] iota_S1x512_d1_w32) (k0_pay73 (BitVec.ofNat 32 i))) (k0_pay82 v33 (k0_pay70 kb)) k0_pay83
  (View.readAt (Elt Ideal) v (Rect.unit (s := S1x8x8448) o9 ![1, 1, 512] b9).toLoadRect (v.writes (Elt Ideal) f (⟨Rect.unit (s := S1x8x8448) o8 ![1, 1, 512] b8, k0_pay81 v23 v36 v67 v87 (k0_pay69 ka) (k0_pay71 vv) (k0_pay72 (BitVec.ofNat 32 i)) (iota .tc S1x512 32 [1] iota_S1x512_d1_w32) (k0_pay73 (BitVec.ofNat 32 i))
  (View.readAt (Elt Ideal) v (Rect.unit (s := S1x8x8448) o8 ![1, 1, 512] b8).toLoadRect (v.writes (Elt Ideal) f L))⟩ :: L)))⟩ ::
  ⟨Rect.unit (s := S1x8x8448) o8 ![1, 1, 512] b8, k0_pay81 v23 v36 v67 v87 (k0_pay69 ka) (k0_pay71 vv) (k0_pay72 (BitVec.ofNat 32 i)) (iota .tc S1x512 32 [1] iota_S1x512_d1_w32) (k0_pay73 (BitVec.ofNat 32 i))
  (View.readAt (Elt Ideal) v (Rect.unit (s := S1x8x8448) o8 ![1, 1, 512] b8).toLoadRect (v.writes (Elt Ideal) f L))⟩ :: L)))⟩ ::
  ⟨Rect.unit (s := S1x8x8448) o11 ![1, 1, 256] b11, k0_pay108 (k0_pay100 v36 vv') (k0_pay101 (BitVec.ofNat 32 i) v23 v87 (Scalar.muli (BitVec.ofNat 32 i) 768#32) ka') (k0_pay102 v67)
  (View.readAt (Elt Ideal) v (Rect.unit (s := S1x8x8448) o11 ![1, 1, 256] b11).toLoadRect (v.writes (Elt Ideal) f (⟨Rect.unit (s := S1x8x8448) o9 ![1, 1, 512] b9, k0_pay88 v39 v73 v99 (k0_pay71 vv) (k0_pay74 (k0_pay72 (BitVec.ofNat 32 i)) (iota .tc S1x512 32 [1] iota_S1x512_d1_w32) (k0_pay73 (BitVec.ofNat 32 i))) (k0_pay82 v33 (k0_pay70 kb)) k0_pay83
  (View.readAt (Elt Ideal) v (Rect.unit (s := S1x8x8448) o9 ![1, 1, 512] b9).toLoadRect (v.writes (Elt Ideal) f (⟨Rect.unit (s := S1x8x8448) o8 ![1, 1, 512] b8, k0_pay81 v23 v36 v67 v87 (k0_pay69 ka) (k0_pay71 vv) (k0_pay72 (BitVec.ofNat 32 i)) (iota .tc S1x512 32 [1] iota_S1x512_d1_w32) (k0_pay73 (BitVec.ofNat 32 i))
  (View.readAt (Elt Ideal) v (Rect.unit (s := S1x8x8448) o8 ![1, 1, 512] b8).toLoadRect (v.writes (Elt Ideal) f L))⟩ :: L)))⟩ ::
  ⟨Rect.unit (s := S1x8x8448) o8 ![1, 1, 512] b8, k0_pay81 v23 v36 v67 v87 (k0_pay69 ka) (k0_pay71 vv) (k0_pay72 (BitVec.ofNat 32 i)) (iota .tc S1x512 32 [1] iota_S1x512_d1_w32) (k0_pay73 (BitVec.ofNat 32 i))
  (View.readAt (Elt Ideal) v (Rect.unit (s := S1x8x8448) o8 ![1, 1, 512] b8).toLoadRect (v.writes (Elt Ideal) f L))⟩ :: L)))⟩ ::
  ⟨Rect.unit (s := S1x8x8448) o9 ![1, 1, 512] b9, k0_pay88 v39 v73 v99 (k0_pay71 vv) (k0_pay74 (k0_pay72 (BitVec.ofNat 32 i)) (iota .tc S1x512 32 [1] iota_S1x512_d1_w32) (k0_pay73 (BitVec.ofNat 32 i))) (k0_pay82 v33 (k0_pay70 kb)) k0_pay83
  (View.readAt (Elt Ideal) v (Rect.unit (s := S1x8x8448) o9 ![1, 1, 512] b9).toLoadRect (v.writes (Elt Ideal) f (⟨Rect.unit (s := S1x8x8448) o8 ![1, 1, 512] b8, k0_pay81 v23 v36 v67 v87 (k0_pay69 ka) (k0_pay71 vv) (k0_pay72 (BitVec.ofNat 32 i)) (iota .tc S1x512 32 [1] iota_S1x512_d1_w32) (k0_pay73 (BitVec.ofNat 32 i))
  (View.readAt (Elt Ideal) v (Rect.unit (s := S1x8x8448) o8 ![1, 1, 512] b8).toLoadRect (v.writes (Elt Ideal) f L))⟩ :: L)))⟩ ::
  ⟨Rect.unit (s := S1x8x8448) o8 ![1, 1, 512] b8, k0_pay81 v23 v36 v67 v87 (k0_pay69 ka) (k0_pay71 vv) (k0_pay72 (BitVec.ofNat 32 i)) (iota .tc S1x512 32 [1] iota_S1x512_d1_w32) (k0_pay73 (BitVec.ofNat 32 i))
  (View.readAt (Elt Ideal) v (Rect.unit (s := S1x8x8448) o8 ![1, 1, 512] b8).toLoadRect (v.writes (Elt Ideal) f L))⟩ :: L)) (ix3 0 h R)
      = (v.read (Elt Ideal) (v.writes (Elt Ideal) f L) (ix3 0 h R) + within (768 * i) 768 R (cdc X i p h R) : EReal) := by
  have e : ∀ g : Fin 2, 768 * i + 512 ≤ R.val → (-∑ q : Fin 256, DS X i p g (up q) R : EReal) = -∑ q, DS X i p g q R := fun g h0 =>
    congrArg _ (sum_up (fun q => DS X i p g q R) fun q hq => ds_zero X _ (not_ok_after (by omega) (by omega)))
  have e0 := within_congr (o := 768 * i + 512) (n := 256) fun h0 _ => e 0 (by omega)
  have e1 := within_congr (o := 768 * i + 512) (n := 256) fun h0 _ => e 1 (by omega)
  rw [cols_add_cons v f _ b12 e12 _ (fun R => -∑ q : Fin 256, DS X i p 1 (up q) R) (by omega) (by decide)
      (fun r => db_dc1 H K' (fun q r => mask_b hi q r) _ r) h R,
    cols_add_cons v f _ b11 e11 _ (fun R => -∑ q : Fin 256, DS X i p 0 (up q) R) (by omega) (by decide)
      (fun r => db_dc0 H K' (fun q r => mask_b hi q r) _ r) h R,
    cols_add_cons v f _ b9 e9 _ (fun R => -∑ q, DS X i p 1 q R) (by omega) (by decide)
      (fun r => da_dc1 H K (fun q r => mask_a hi q r) _ r) h R,
    cols_add_cons v f _ b8 e8 _ (fun R => -∑ q, DS X i p 0 q R) (by omega) (by decide)
      (fun r => da_dc0 H K (fun q r => mask_a hi q r) _ r) h R,
    e0, e1, cdc_split, cdc_split, add_assoc, within_within]

end Diag
end Cert.AttnBwd
-- ==== Proof.AttnRun.lean ====
module
public import proofs.«01_k».proof.Proof.AttnDiag
@[expose] public section
set_option maxRecDepth 16384
noncomputable section
open Idealize.ShloMosaic Idealize.ShloMosaic.TcCoe Idealize.SL.Sem
namespace Cert.AttnBwd
open Cert.AttnBwdIdeal Cert.AttnBwdIdeal.Gen

/-! ## One point of the grid -/

theorem load_whole {e : EltTy} {sp : Space} (a : Memref sig .tc sp S768x128 e) (h : a.IsWhole) (x : S768x128.Idx → Elt Ideal e)
    (inb : ∀ b, (![0, 0] : Fin 2 → ℕ) b + S768x128.size b ≤ S768x128.size b) :
    View.readAt (Elt Ideal) a.view (Rect.unit (s := S768x128) ![0, 0] S768x128.size inb).toLoadRect (h.unread x) = x := by
  rw [View.readAt_eq_ld, h.read_unread]
  exact View.ld_unit_zero (by decide) inb x

/-- What a point's words are, of its blocks. -/
theorem ops_of (X : Blocks) (p : Fin 8) :
    Ops X p.val k0_pay30 (k0_pay31 X.x0) (k0_pay32 X.x1) (k0_pay36 X.x0) (k0_pay37 X.x0) (k0_pay38 X.x1) (k0_pay39 X.x1)
      (k0_pay46 X.x3) (k0_pay47 X.x3)
      (k0_pay51 (k0_pay42 X.x2) (k0_pay48 X.x4) (k0_pay49 (BitVec.ofNat 32 p.val)) k0_pay50)
      (k0_pay52 (BitVec.ofNat 32 p.val) (k0_pay43 X.x2) (k0_pay48 X.x4)) where
  h5 := rfl
  h7 q l := by pointwise [k0_pay31]
  h9 q l := by pointwise [k0_pay32]
  h23 := qh0 X
  h33 := qh1 X
  h36 := doh0 X
  h39 := doh1 X
  h67 := dl0 X.x3
  h73 := dl1 X.x3
  h87 := sh0 X p
  h99 := sh1 X p

theorem no_trips (i : grid0.Coords) : Scf.trips (k0_t2_loop i).lb (k0_t2_loop i).ub (k0_t2_loop i).st = 0 := trips2 i

section Loops

variable (𝒱 : Variants) (c : Dev nD) (bd : Option 𝒱.V) (i : grid0.Coords)
  (arg2 : Memref sig .tc .vmem S768x128 .bf16) (harg2 : arg2.IsWhole)
  (arg3 : Memref sig .tc .vmem S768x128 .bf16) (harg3 : arg3.IsWhole)
  (arg4 : Memref sig .tc .vmem S768x128 .f32) (harg4 : arg4.IsWhole)
  (arg5 : Memref sig .tc .vmem S768x128 .f32) (harg5 : arg5.IsWhole)
  (arg6 : Memref sig .tc .vmem S768x128 .f32) (harg6 : arg6.IsWhole)
  (arg7 : Memref sig .tc .vmem S8448x128 .bf16) (harg7 : arg7.IsWhole)
  (arg8 : Memref sig .tc .vmem S8448x128 .bf16) (harg8 : arg8.IsWhole)
  (arg9 : Memref sig .tc .vmem S8448x128 .bf16) (harg9 : arg9.IsWhole)
  (arg10 : Memref sig .tc .vmem S768x128 .f32) (harg10 : arg10.IsWhole)
  (arg11 : Memref sig .tc .vmem S8448x128 .f32) (harg11 : arg11.IsWhole)
  (arg12 : Memref sig .tc .vmem S8448x128 .f32) (harg12 : arg12.IsWhole)
  (arg13 : Memref sig .tc .vmem S1x8x8448 .f32) (harg13 : arg13.IsWhole)
  (arg0 arg1 : BitVec 32) (v5 : IVec S1x128 1) (v7 v9 v23 v33 v36 v39 : FVec Ideal S768x128 .bf16)
  (v50 v56 v67 v73 : FVec Ideal S768x1 .f32) (v75 : FVec Ideal S768x128 .f32) (v82 : IVec S768x128 1)
  (v83 : FVec Ideal S768x128 .f32)
  (X7 : BufTy.Contents (Elt Ideal) arg7.view.ty) (X8 : BufTy.Contents (Elt Ideal) arg8.view.ty)
  (X9 : BufTy.Contents (Elt Ideal) arg9.view.ty) (v106 : BitVec 32)
  {X : Blocks} {p : ℕ}
  (H : Ops X p v5 v7 v9 v23 v33 v36 v39 v67 v73 (k0_pay51 v50 v75 v82 v83) (k0_pay52 arg0 v56 v75))
  (h7 : arg7.view.read (Elt Ideal) X7 = X.x5) (h8 : arg8.view.read (Elt Ideal) X8 = X.x6)
  (h9 : arg9.view.read (Elt Ideal) X9 = X.x7)

include H h7 h8 h9 in
/-- Both loops of a point: the second makes no trip. -/
theorem loops_reads (init : FVec Ideal S768x128 .f32 × FVec Ideal S768x128 .f32)
    (G11 : BufTy.Contents (Elt Ideal) arg11.view.ty) (G12 : BufTy.Contents (Elt Ideal) arg12.view.ty)
    (G13 : BufTy.Contents (Elt Ideal) arg13.view.ty) (Y11 : BufTy.Contents (Elt Ideal) arg11.view.ty)
    (Y12 : BufTy.Contents (Elt Ideal) arg12.view.ty) (Y13 : BufTy.Contents (Elt Ideal) arg13.view.ty) :
    Upto X (i 1).val p (768 * (i 1).val) arg11 arg12 arg13 init (st_k0_t2 (F := Ideal) 𝒱 c bd i arg2 harg2 arg3 harg3 arg4 harg4 arg5 harg5 arg6 harg6 arg7 harg7 arg8 harg8 arg9 harg9 arg10 harg10 arg11 harg11
      arg12 harg12 arg13 harg13 arg0 arg1 v5 v7 v9 v23 v33 v36 v39 v50 v56 v67 v73 v75 v82 v83 v106 X7 X8 X9 Y11 Y12 Y13 ((st_k0_t1 (F := Ideal) 𝒱 c bd i arg2 harg2 arg3 harg3 arg4 harg4 arg5 harg5 arg6 harg6 arg7 harg7 arg8 harg8 arg9 harg9 arg10 harg10 arg11 harg11
      arg12 harg12 arg13 harg13 arg0 arg1 v5 v7 v9 v23 v33 v36 v39 v50 v56 v67 v73 v75 v82 v83 X7 X8 X9 G11 G12 G13 init (Scf.trips (k0_t1_loop i).lb (k0_t1_loop i).ub (k0_t1_loop i).st)).1.1, (st_k0_t1 (F := Ideal) 𝒱 c bd i arg2 harg2 arg3 harg3 arg4 harg4 arg5 harg5 arg6 harg6 arg7 harg7 arg8 harg8 arg9 harg9 arg10 harg10 arg11 harg11
      arg12 harg12 arg13 harg13 arg0 arg1 v5 v7 v9 v23 v33 v36 v39 v50 v56 v67 v73 v75 v82 v83 X7 X8 X9 G11 G12 G13 init (Scf.trips (k0_t1_loop i).lb (k0_t1_loop i).ub (k0_t1_loop i).st)).1.2) (Scf.trips (k0_t2_loop i).lb (k0_t2_loop i).ub (k0_t2_loop i).st)).1
      G11 (arg11.view.writes (Elt Ideal) G11 ((st_k0_t2 (F := Ideal) 𝒱 c bd i arg2 harg2 arg3 harg3 arg4 harg4 arg5 harg5 arg6 harg6 arg7 harg7 arg8 harg8 arg9 harg9 arg10 harg10 arg11 harg11
      arg12 harg12 arg13 harg13 arg0 arg1 v5 v7 v9 v23 v33 v36 v39 v50 v56 v67 v73 v75 v82 v83 v106 X7 X8 X9 Y11 Y12 Y13 ((st_k0_t1 (F := Ideal) 𝒱 c bd i arg2 harg2 arg3 harg3 arg4 harg4 arg5 harg5 arg6 harg6 arg7 harg7 arg8 harg8 arg9 harg9 arg10 harg10 arg11 harg11
      arg12 harg12 arg13 harg13 arg0 arg1 v5 v7 v9 v23 v33 v36 v39 v50 v56 v67 v73 v75 v82 v83 X7 X8 X9 G11 G12 G13 init (Scf.trips (k0_t1_loop i).lb (k0_t1_loop i).ub (k0_t1_loop i).st)).1.1, (st_k0_t1 (F := Ideal) 𝒱 c bd i arg2 harg2 arg3 harg3 arg4 harg4 arg5 harg5 arg6 harg6 arg7 harg7 arg8 harg8 arg9 harg9 arg10 harg10 arg11 harg11
      arg12 harg12 arg13 harg13 arg0 arg1 v5 v7 v9 v23 v33 v36 v39 v50 v56 v67 v73 v75 v82 v83 X7 X8 X9 G11 G12 G13 init (Scf.trips (k0_t1_loop i).lb (k0_t1_loop i).ub (k0_t1_loop i).st)).1.2) (Scf.trips (k0_t2_loop i).lb (k0_t2_loop i).ub (k0_t2_loop i).st)).2.1 ++ (st_k0_t1 (F := Ideal) 𝒱 c bd i arg2 harg2 arg3 harg3 arg4 harg4 arg5 harg5 arg6 harg6 arg7 harg7 arg8 harg8 arg9 harg9 arg10 harg10 arg11 harg11
      arg12 harg12 arg13 harg13 arg0 arg1 v5 v7 v9 v23 v33 v36 v39 v50 v56 v67 v73 v75 v82 v83 X7 X8 X9 G11 G12 G13 init (Scf.trips (k0_t1_loop i).lb (k0_t1_loop i).ub (k0_t1_loop i).st)).2.1))
      G12 (arg12.view.writes (Elt Ideal) G12 ((st_k0_t2 (F := Ideal) 𝒱 c bd i arg2 harg2 arg3 harg3 arg4 harg4 arg5 harg5 arg6 harg6 arg7 harg7 arg8 harg8 arg9 harg9 arg10 harg10 arg11 harg11
      arg12 harg12 arg13 harg13 arg0 arg1 v5 v7 v9 v23 v33 v36 v39 v50 v56 v67 v73 v75 v82 v83 v106 X7 X8 X9 Y11 Y12 Y13 ((st_k0_t1 (F := Ideal) 𝒱 c bd i arg2 harg2 arg3 harg3 arg4 harg4 arg5 harg5 arg6 harg6 arg7 harg7 arg8 harg8 arg9 harg9 arg10 harg10 arg11 harg11
      arg12 harg12 arg13 harg13 arg0 arg1 v5 v7 v9 v23 v33 v36 v39 v50 v56 v67 v73 v75 v82 v83 X7 X8 X9 G11 G12 G13 init (Scf.trips (k0_t1_loop i).lb (k0_t1_loop i).ub (k0_t1_loop i).st)).1.1, (st_k0_t1 (F := Ideal) 𝒱 c bd i arg2 harg2 arg3 harg3 arg4 harg4 arg5 harg5 arg6 harg6 arg7 harg7 arg8 harg8 arg9 harg9 arg10 harg10 arg11 harg11
      arg12 harg12 arg13 harg13 arg0 arg1 v5 v7 v9 v23 v33 v36 v39 v50 v56 v67 v73 v75 v82 v83 X7 X8 X9 G11 G12 G13 init (Scf.trips (k0_t1_loop i).lb (k0_t1_loop i).ub (k0_t1_loop i).st)).1.2) (Scf.trips (k0_t2_loop i).lb (k0_t2_loop i).ub (k0_t2_loop i).st)).2.2.1 ++ (st_k0_t1 (F := Ideal) 𝒱 c bd i arg2 harg2 arg3 harg3 arg4 harg4 arg5 harg5 arg6 harg6 arg7 harg7 arg8 harg8 arg9 harg9 arg10 harg10 arg11 harg11
      arg12 harg12 arg13 harg13 arg0 arg1 v5 v7 v9 v23 v33 v36 v39 v50 v56 v67 v73 v75 v82 v83 X7 X8 X9 G11 G12 G13 init (Scf.trips (k0_t1_loop i).lb (k0_t1_loop i).ub (k0_t1_loop i).st)).2.2.1))
      G13 (arg13.view.writes (Elt Ideal) G13 ((st_k0_t2 (F := Ideal) 𝒱 c bd i arg2 harg2 arg3 harg3 arg4 harg4 arg5 harg5 arg6 harg6 arg7 harg7 arg8 harg8 arg9 harg9 arg10 harg10 arg11 harg11
      arg12 harg12 arg13 harg13 arg0 arg1 v5 v7 v9 v23 v33 v36 v39 v50 v56 v67 v73 v75 v82 v83 v106 X7 X8 X9 Y11 Y12 Y13 ((st_k0_t1 (F := Ideal) 𝒱 c bd i arg2 harg2 arg3 harg3 arg4 harg4 arg5 harg5 arg6 harg6 arg7 harg7 arg8 harg8 arg9 harg9 arg10 harg10 arg11 harg11
      arg12 harg12 arg13 harg13 arg0 arg1 v5 v7 v9 v23 v33 v36 v39 v50 v56 v67 v73 v75 v82 v83 X7 X8 X9 G11 G12 G13 init (Scf.trips (k0_t1_loop i).lb (k0_t1_loop i).ub (k0_t1_loop i).st)).1.1, (st_k0_t1 (F := Ideal) 𝒱 c bd i arg2 harg2 arg3 harg3 arg4 harg4 arg5 harg5 arg6 harg6 arg7 harg7 arg8 harg8 arg9 harg9 arg10 harg10 arg11 harg11
      arg12 harg12 arg13 harg13 arg0 arg1 v5 v7 v9 v23 v33 v36 v39 v50 v56 v67 v73 v75 v82 v83 X7 X8 X9 G11 G12 G13 init (Scf.trips (k0_t1_loop i).lb (k0_t1_loop i).ub (k0_t1_loop i).st)).1.2) (Scf.trips (k0_t2_loop i).lb (k0_t2_loop i).ub (k0_t2_loop i).st)).2.2.2 ++ (st_k0_t1 (F := Ideal) 𝒱 c bd i arg2 harg2 arg3 harg3 arg4 harg4 arg5 harg5 arg6 harg6 arg7 harg7 arg8 harg8 arg9 harg9 arg10 harg10 arg11 harg11
      arg12 harg12 arg13 harg13 arg0 arg1 v5 v7 v9 v23 v33 v36 v39 v50 v56 v67 v73 v75 v82 v83 X7 X8 X9 G11 G12 G13 init (Scf.trips (k0_t1_loop i).lb (k0_t1_loop i).ub (k0_t1_loop i).st)).2.2.2)) := by
  rw [no_trips]
  have L := loop_reads 𝒱 c bd i arg2 harg2 arg3 harg3 arg4 harg4 arg5 harg5 arg6 harg6 arg7 harg7 arg8 harg8 arg9 harg9 arg10 harg10 arg11
    harg11 arg12 harg12 arg13 harg13 arg0 arg1 v5 v7 v9 v23 v33 v36 v39 v50 v56 v67 v73 v75 v82 v83 X7 X8 X9 H h7 h8 h9 init G11 G12 G13
    (k0_t1_loop i).trips le_rfl
  rw [← trips1 i] at *
  exact L

end Loops

section Run

variable (c : Dev nD) (i : grid0.Coords)
  (arg2 : Memref sig .tc .vmem S768x128 .bf16) (harg2 : arg2.IsWhole)
  (arg3 : Memref sig .tc .vmem S768x128 .bf16) (harg3 : arg3.IsWhole)
  (arg4 : Memref sig .tc .vmem S768x128 .f32) (harg4 : arg4.IsWhole)
  (arg5 : Memref sig .tc .vmem S768x128 .f32) (harg5 : arg5.IsWhole)
  (arg6 : Memref sig .tc .vmem S768x128 .f32) (harg6 : arg6.IsWhole)
  (arg7 : Memref sig .tc .vmem S8448x128 .bf16) (harg7 : arg7.IsWhole)
  (arg8 : Memref sig .tc .vmem S8448x128 .bf16) (harg8 : arg8.IsWhole)
  (arg9 : Memref sig .tc .vmem S8448x128 .bf16) (harg9 : arg9.IsWhole)
  (arg10 : Memref sig .tc .vmem S768x128 .f32) (harg10 : arg10.IsWhole)
  (arg11 : Memref sig .tc .vmem S8448x128 .f32) (harg11 : arg11.IsWhole)
  (arg12 : Memref sig .tc .vmem S8448x128 .f32) (harg12 : arg12.IsWhole)
  (arg13 : Memref sig .tc .vmem S1x8x8448 .f32) (harg13 : arg13.IsWhole)
  (X : Blocks)

/-- What a point leaves: its queries' gradients, and the three arrays with its parts added. -/
structure Point (X : Blocks) (i : grid0.Coords) (dq : S768x128.Idx → EReal) (fk gk fv gv : S8448x128.Idx → EReal) (fc gc : S1x8x8448.Idx → EReal) : Prop where
  dq : ∀ q l, dq (ix2 q l) = ∑ R, cdq X (i 1).val (i 0).val (hd l) q l R
  dk : ∀ R l, gk (ix2 R l) = fk (ix2 R l) + cdk X (i 1).val (i 0).val R l
  dv : ∀ R l, gv (ix2 R l) = fv (ix2 R l) + cdv X (i 1).val (i 0).val R l
  dc : ∀ h R, gc (ix3 0 h R) = fc (ix3 0 h R) + cdc X (i 1).val (i 0).val h R

/-- The words of a point whose buffers hold the blocks `X`. -/
theorem ops_load :
    Ops X (i 0).val k0_pay30 (k0_pay31
        (View.readAt (Elt Ideal) arg2.view (Rect.unit (s := S768x128) ![0, 0] S768x128.size inb_S768x128_S768x128_0_0).toLoadRect (harg2.unread X.x0))) (k0_pay32
        (View.readAt (Elt Ideal) arg3.view (Rect.unit (s := S768x128) ![0, 0] S768x128.size inb_S768x128_S768x128_0_0).toLoadRect (harg3.unread X.x1))) (k0_pay36
        (View.readAt (Elt Ideal) arg2.view (Rect.unit (s := S768x128) ![0, 0] S768x128.size inb_S768x128_S768x128_0_0).toLoadRect (harg2.unread X.x0))) (k0_pay37
        (View.readAt (Elt Ideal) arg2.view (Rect.unit (s := S768x128) ![0, 0] S768x128.size inb_S768x128_S768x128_0_0).toLoadRect (harg2.unread X.x0))) (k0_pay38
        (View.readAt (Elt Ideal) arg3.view (Rect.unit (s := S768x128) ![0, 0] S768x128.size inb_S768x128_S768x128_0_0).toLoadRect (harg3.unread X.x1))) (k0_pay39
        (View.readAt (Elt Ideal) arg3.view (Rect.unit (s := S768x128) ![0, 0] S768x128.size inb_S768x128_S768x128_0_0).toLoadRect (harg3.unread X.x1))) (k0_pay46
        (View.readAt (Elt Ideal) arg5.view (Rect.unit (s := S768x128) ![0, 0] S768x128.size inb_S768x128_S768x128_0_0).toLoadRect (harg5.unread X.x3))) (k0_pay47
        (View.readAt (Elt Ideal) arg5.view (Rect.unit (s := S768x128) ![0, 0] S768x128.size inb_S768x128_S768x128_0_0).toLoadRect (harg5.unread X.x3)))
      (k0_pay51 (k0_pay42
        (View.readAt (Elt Ideal) arg4.view (Rect.unit (s := S768x128) ![0, 0] S768x128.size inb_S768x128_S768x128_0_0).toLoadRect (harg4.unread X.x2))) (k0_pay48
        (View.readAt (Elt Ideal) arg6.view (Rect.unit (s := S768x128) ![0, 0] S768x128.size inb_S768x128_S768x128_0_0).toLoadRect (harg6.unread X.x4))) (k0_pay49 (BitVec.ofNat 32 (i 0).val)) k0_pay50)
      (k0_pay52 (BitVec.ofNat 32 (i 0).val) (k0_pay43
        (View.readAt (Elt Ideal) arg4.view (Rect.unit (s := S768x128) ![0, 0] S768x128.size inb_S768x128_S768x128_0_0).toLoadRect (harg4.unread X.x2))) (k0_pay48
        (View.readAt (Elt Ideal) arg6.view (Rect.unit (s := S768x128) ![0, 0] S768x128.size inb_S768x128_S768x128_0_0).toLoadRect (harg6.unread X.x4)))) := by
  rw [load_whole, load_whole, load_whole, load_whole, load_whole]
  exact ops_of X (i 0)

theorem writes_two {sig : RefSig} {κ : Kind} {sp : Space} {s : Shape} {e : EltTy} (v : View sig κ sp s e) (f : v.ty.Contents (Elt Ideal))
    (a b : View.Piece (Elt Ideal) s e) (L : List (View.Piece (Elt Ideal) s e)) :
    v.writes (Elt Ideal) f (a :: b :: L) = v.writes (Elt Ideal) (v.writes (Elt Ideal) f L) [a, b] := rfl

theorem writes_four {sig : RefSig} {κ : Kind} {sp : Space} {s : Shape} {e : EltTy} (v : View sig κ sp s e) (f : v.ty.Contents (Elt Ideal))
    (a b d g : View.Piece (Elt Ideal) s e) (L : List (View.Piece (Elt Ideal) s e)) :
    v.writes (Elt Ideal) f (a :: b :: d :: g :: L) = v.writes (Elt Ideal) (v.writes (Elt Ideal) f L) [a, b, d, g] := rfl

theorem point_B (hc0 : ¬cond0_0 i) (xo9 xo10 : S8448x128.Idx → EReal) (xo11 : S1x8x8448.Idx → EReal) :
    Point X i (VO0_8.read (Elt Ideal) (VO0_8.writes (Elt Ideal) VO0_8.junk (kernelRun0_B (F := Ideal) c i arg2 harg2 arg3 harg3 arg4 harg4 arg5 harg5 arg6 harg6 arg7 harg7 arg8 harg8 arg9 harg9 arg10 harg10 arg11
      harg11 arg12 harg12 arg13 harg13 hc0 X.x0 X.x1 X.x2 X.x3 X.x4 X.x5 X.x6 X.x7 xo9 xo10 xo11).1))
      xo9 (arg11.view.read (Elt Ideal) (arg11.view.writes (Elt Ideal) (harg11.unread xo9) (kernelRun0_B (F := Ideal) c i arg2 harg2 arg3 harg3 arg4 harg4 arg5 harg5 arg6 harg6 arg7 harg7 arg8 harg8 arg9 harg9 arg10 harg10 arg11
      harg11 arg12 harg12 arg13 harg13 hc0 X.x0 X.x1 X.x2 X.x3 X.x4 X.x5 X.x6 X.x7 xo9 xo10 xo11).2.1))
      xo10 (arg12.view.read (Elt Ideal) (arg12.view.writes (Elt Ideal) (harg12.unread xo10) (kernelRun0_B (F := Ideal) c i arg2 harg2 arg3 harg3 arg4 harg4 arg5 harg5 arg6 harg6 arg7 harg7 arg8 harg8 arg9 harg9 arg10 harg10 arg11
      harg11 arg12 harg12 arg13 harg13 hc0 X.x0 X.x1 X.x2 X.x3 X.x4 X.x5 X.x6 X.x7 xo9 xo10 xo11).2.2.1))
      xo11 (arg13.view.read (Elt Ideal) (arg13.view.writes (Elt Ideal) (harg13.unread xo11) (kernelRun0_B (F := Ideal) c i arg2 harg2 arg3 harg3 arg4 harg4 arg5 harg5 arg6 harg6 arg7 harg7 arg8 harg8 arg9 harg9 arg10 harg10 arg11
      harg11 arg12 harg12 arg13 harg13 hc0 X.x0 X.x1 X.x2 X.x3 X.x4 X.x5 X.x6 X.x7 xo9 xo10 xo11).2.2.2.1)) := by
  have hi := coord_lt i
  have H := ops_load i arg2 harg2 arg3 harg3 arg4 harg4 arg5 harg5 arg6 harg6 X
  have h7 := harg7.read_unread (Val := Elt Ideal) X.x5
  have h8 := harg8.read_unread (Val := Elt Ideal) X.x6
  have h9 := harg9.read_unread (Val := Elt Ideal) X.x7
  have K := keys_of (X := X) arg7.view arg8.view arg9.view _ _ _ h7 h8 h9 (n := 512) (k0_off7_inb i) (off7 i) (by omega)
  have K' := keys_of (X := X) arg7.view arg8.view arg9.view _ _ _ h7 h8 h9 (n := 256) (k0_off10_inb i) (off10 i) (by omega)
  have C := fun Y11 Y12 Y13 => loops_reads Variants.none c none i arg2 harg2 arg3 harg3 arg4 harg4 arg5 harg5 arg6 harg6 arg7 harg7 arg8 harg8 arg9 harg9 arg10
    harg10 arg11 harg11 arg12 harg12 arg13 harg13 (BitVec.ofNat 32 (i 0).val) (BitVec.ofNat 32 (i 1).val) _ _ _ _ _ _ _ _ _ _ _ _ _ _ _ _ _ (Scalar.addi 0#32
      (Scalar.muli (Scalar.divsi (Scalar.subi (BitVec.ofNat 32 (i 1).val) 0#32) 1#32) 1#32)) H h7 h8 h9
    (k0_pay53, k0_pay54) (harg11.unread xo9) (harg12.unread xo10) (harg13.unread xo11) Y11 Y12 Y13
  unfold kernelRun0_B
  dsimp only
  sl_unfold_words
  refine ⟨fun q l => ?_, fun R l => ?_, fun R l => ?_, fun h R => ?_⟩
  · refine (View.read_writes_cons_unit_of_mem (s := S768x128) VO0_8 _ inb_S768x128_S768x128_0_0 _ [] (ix2 q l) (ix2 q l)
      (off' := ![0, 0]) rfl (fun a => by fin_cases a <;> exact (Nat.zero_add _).symm)).trans ?_
    exact diag_dq H hi K K' (k0_pay53, k0_pay54) _ (fun _ _ => by pointwise [k0_pay53]) (fun _ _ => by pointwise [k0_pay54]) (C _ _ _).a0 (C _ _ _).a1 q l
  · rw [writes_two]
    refine (diag_dk H hi K K' arg11.view _ (k0_off7_inb i) (k0_off10_inb i) (off7 i) (off10 i) R l).trans ?_
    rw [(C _ _ _).dk, harg11.read_unread, add_assoc, under_within, under_all fun h => cdk_zero X l h]
  · rw [writes_two]
    refine (diag_dv H hi K K' arg12.view _ (k0_off7_inb i) (k0_off10_inb i) (off7 i) (off10 i) R l).trans ?_
    rw [(C _ _ _).dv, harg12.read_unread, add_assoc, under_within, under_all fun h => cdv_zero X l h]
  · refine (diag_dc H hi K K' arg13.view _ _ (k0_off8_inb i) (k0_off9_inb i) (k0_off11_inb i) (k0_off12_inb i) (off8 i) (off9 i) (off11 i)
      (off12 i) h R).trans ?_
    rw [(C _ _ _).dc, harg13.read_unread, add_assoc, under_within, under_all fun hR => cdc_zero X h hR]

theorem zero_dk {sig : RefSig} {κ : Kind} {sp : Space} (v : View sig κ sp S8448x128 .f32) (f : v.ty.Contents (Elt Ideal)) (R : Fin 8448) (l : Fin 128) :
    v.read (Elt Ideal) (v.writes (Elt Ideal) f [⟨Rect.unit (s := S8448x128) ![0, 0] S8448x128.size inb_S8448x128_S8448x128_0_0, k0_pay27 (F := Ideal)⟩])
      (ix2 R l) = (0 : EReal) :=
  (View.read_writes_cons_unit_of_mem (s := S8448x128) v _ inb_S8448x128_S8448x128_0_0 _ [] (ix2 R l) (ix2 R l)
    (off' := ![0, 0]) rfl (fun a => by fin_cases a <;> exact (Nat.zero_add _).symm)).trans (by pointwise [k0_pay27])
theorem zero_dv {sig : RefSig} {κ : Kind} {sp : Space} (v : View sig κ sp S8448x128 .f32) (f : v.ty.Contents (Elt Ideal)) (R : Fin 8448) (l : Fin 128) :
    v.read (Elt Ideal) (v.writes (Elt Ideal) f [⟨Rect.unit (s := S8448x128) ![0, 0] S8448x128.size inb_S8448x128_S8448x128_0_0, k0_pay28 (F := Ideal)⟩])
      (ix2 R l) = (0 : EReal) :=
  zero_dk v f R l
theorem zero_dc {sig : RefSig} {κ : Kind} {sp : Space} (v : View sig κ sp S1x8x8448 .f32) (f : v.ty.Contents (Elt Ideal)) (h : Fin 8) (R : Fin 8448) :
    v.read (Elt Ideal) (v.writes (Elt Ideal) f
      [⟨Rect.unit (s := S1x8x8448) ![0, 0, 0] S1x8x8448.size inb_S1x8x8448_S1x8x8448_0_0_0, k0_pay29 (F := Ideal)⟩]) (ix3 0 h R) = (0 : EReal) :=
  (View.read_writes_cons_unit_of_mem (s := S1x8x8448) v _ inb_S1x8x8448_S1x8x8448_0_0_0 _ [] (ix3 0 h R) (ix3 0 h R)
    (off' := ![0, 0, 0]) rfl (fun a => by fin_cases a <;> exact (Nat.zero_add _).symm)).trans (by pointwise [k0_pay29])

theorem point_A (hc0 : cond0_0 i) :
    Point X i (VO0_8.read (Elt Ideal) (VO0_8.writes (Elt Ideal) VO0_8.junk (kernelRun0_A (F := Ideal) c i arg2 harg2 arg3 harg3 arg4 harg4 arg5 harg5 arg6 harg6 arg7 harg7 arg8 harg8 arg9 harg9 arg10 harg10 arg11
      harg11 arg12 harg12 arg13 harg13 hc0 X.x0 X.x1 X.x2 X.x3 X.x4 X.x5 X.x6 X.x7).1))
      (fun _ => 0) (arg11.view.read (Elt Ideal) (arg11.view.writes (Elt Ideal) arg11.view.junk (kernelRun0_A (F := Ideal) c i arg2 harg2 arg3 harg3 arg4 harg4 arg5 harg5 arg6 harg6 arg7 harg7 arg8 harg8 arg9 harg9 arg10 harg10 arg11
      harg11 arg12 harg12 arg13 harg13 hc0 X.x0 X.x1 X.x2 X.x3 X.x4 X.x5 X.x6 X.x7).2.1))
      (fun _ => 0) (arg12.view.read (Elt Ideal) (arg12.view.writes (Elt Ideal) arg12.view.junk (kernelRun0_A (F := Ideal) c i arg2 harg2 arg3 harg3 arg4 harg4 arg5 harg5 arg6 harg6 arg7 harg7 arg8 harg8 arg9 harg9 arg10 harg10 arg11
      harg11 arg12 harg12 arg13 harg13 hc0 X.x0 X.x1 X.x2 X.x3 X.x4 X.x5 X.x6 X.x7).2.2.1))
      (fun _ => 0) (arg13.view.read (Elt Ideal) (arg13.view.writes (Elt Ideal) arg13.view.junk (kernelRun0_A (F := Ideal) c i arg2 harg2 arg3 harg3 arg4 harg4 arg5 harg5 arg6 harg6 arg7 harg7 arg8 harg8 arg9 harg9 arg10 harg10 arg11
      harg11 arg12 harg12 arg13 harg13 hc0 X.x0 X.x1 X.x2 X.x3 X.x4 X.x5 X.x6 X.x7).2.2.2.1)) := by
  have hi := coord_lt i
  have H := ops_load i arg2 harg2 arg3 harg3 arg4 harg4 arg5 harg5 arg6 harg6 X
  have h7 := harg7.read_unread (Val := Elt Ideal) X.x5
  have h8 := harg8.read_unread (Val := Elt Ideal) X.x6
  have h9 := harg9.read_unread (Val := Elt Ideal) X.x7
  have K := keys_of (X := X) arg7.view arg8.view arg9.view _ _ _ h7 h8 h9 (n := 512) (k0_off7_inb i) (off7 i) (by omega)
  have K' := keys_of (X := X) arg7.view arg8.view arg9.view _ _ _ h7 h8 h9 (n := 256) (k0_off10_inb i) (off10 i) (by omega)
  have C := fun Y11 Y12 Y13 => loops_reads Variants.none c none i arg2 harg2 arg3 harg3 arg4 harg4 arg5 harg5 arg6 harg6 arg7 harg7 arg8 harg8 arg9 harg9 arg10
    harg10 arg11 harg11 arg12 harg12 arg13 harg13 (BitVec.ofNat 32 (i 0).val) (BitVec.ofNat 32 (i 1).val) _ _ _ _ _ _ _ _ _ _ _ _ _ _ _ _ _ (Scalar.addi 0#32
      (Scalar.muli (Scalar.divsi (Scalar.subi (BitVec.ofNat 32 (i 1).val) 0#32) 1#32) 1#32)) H h7 h8 h9
    (k0_pay53, k0_pay54)
    (arg11.view.writes (Elt Ideal) arg11.view.junk [⟨Rect.unit (s := S8448x128) ![0, 0] S8448x128.size inb_S8448x128_S8448x128_0_0, k0_pay27 (F := Ideal)⟩])
    (arg12.view.writes (Elt Ideal) arg12.view.junk [⟨Rect.unit (s := S8448x128) ![0, 0] S8448x128.size inb_S8448x128_S8448x128_0_0, k0_pay28 (F := Ideal)⟩])
    (arg13.view.writes (Elt Ideal) arg13.view.junk [⟨Rect.unit (s := S1x8x8448) ![0, 0, 0] S1x8x8448.size inb_S1x8x8448_S1x8x8448_0_0_0, k0_pay29 (F := Ideal)⟩]) Y11 Y12 Y13
  unfold kernelRun0_A
  dsimp only
  sl_unfold_words
  refine ⟨fun q l => ?_, fun R l => ?_, fun R l => ?_, fun h R => ?_⟩
  · refine (View.read_writes_cons_unit_of_mem (s := S768x128) VO0_8 _ inb_S768x128_S768x128_0_0 _ [] (ix2 q l) (ix2 q l)
      (off' := ![0, 0]) rfl (fun a => by fin_cases a <;> exact (Nat.zero_add _).symm)).trans ?_
    exact diag_dq H hi K K' (k0_pay53, k0_pay54) _ (fun _ _ => by pointwise [k0_pay53]) (fun _ _ => by pointwise [k0_pay54]) (C _ _ _).a0 (C _ _ _).a1 q l
  · rw [writes_two]
    refine (diag_dk H hi K K' arg11.view _ (k0_off7_inb i) (k0_off10_inb i) (off7 i) (off10 i) R l).trans ?_
    rw [← List.append_assoc, View.writes_append, (C _ _ _).dk, zero_dk, add_assoc, under_within, under_all fun h => cdk_zero X l h]
  · rw [writes_two]
    refine (diag_dv H hi K K' arg12.view _ (k0_off7_inb i) (k0_off10_inb i) (off7 i) (off10 i) R l).trans ?_
    rw [← List.append_assoc, View.writes_append, (C _ _ _).dv, zero_dv, add_assoc, under_within, under_all fun h => cdv_zero X l h]
  · refine (diag_dc H hi K K' arg13.view _ _ (k0_off8_inb i) (k0_off9_inb i) (k0_off11_inb i) (k0_off12_inb i) (off8 i) (off9 i) (off11 i)
      (off12 i) h R).trans ?_
    rw [← List.append_assoc, View.writes_append, (C _ _ _).dc, zero_dc, add_assoc, under_within, under_all fun hR => cdc_zero X h hR]

end Run
end Cert.AttnBwd
-- ==== Proof.AttnSum.lean ====
module
public import proofs.«01_k».proof.Proof.AttnRun
@[expose] public section
set_option maxRecDepth 16384
noncomputable section
open Idealize.ShloMosaic Idealize.ShloMosaic.TcCoe Idealize.SL.Sem
open Idealize.ShloMosaic.Pipeline (Dat)
namespace Cert.AttnBwd
open Cert.AttnBwdIdeal Cert.AttnBwdIdeal.Gen

/-! ## The grid's points together: what the four result arrays hold -/

variable (m : (ℓ : Loc nD τ sig) → Buf (Elt Ideal) ℓ) (c : Dev nD)

/-- The blocks that point `t` reads. -/
def XX (t : Fin cfg0.N) : Blocks :=
  ⟨iblk m c 0 t, iblk m c 1 t, iblk m c 2 t, iblk m c 3 t, iblk m c 4 t, iblk m c 5 t, iblk m c 6 t, iblk m c 7 t⟩

theorem coord : ∀ t : Fin cfg0.N, (grid0.coords t 0).val = t.val / 11 ∧ (grid0.coords t 1).val = t.val % 11 :=
  (by decide +kernel : ∀ t : Fin grid0.N, _)

theorem cfg_N : cfg0.N = 88 := N_0

/-- Point `j` of the run of lane block `p`. -/
def pt (p : Fin 8) (j : Fin 11) : Fin cfg0.N := ⟨11 * p.val + j.val, by have := cfg_N; omega⟩

section
variable (i : grid0.Coords)
  (arg2 : Memref sig .tc .vmem S768x128 .bf16) (harg2 : arg2.IsWhole)
  (arg3 : Memref sig .tc .vmem S768x128 .bf16) (harg3 : arg3.IsWhole)
  (arg4 : Memref sig .tc .vmem S768x128 .f32) (harg4 : arg4.IsWhole)
  (arg5 : Memref sig .tc .vmem S768x128 .f32) (harg5 : arg5.IsWhole)
  (arg6 : Memref sig .tc .vmem S768x128 .f32) (harg6 : arg6.IsWhole)
  (arg7 : Memref sig .tc .vmem S8448x128 .bf16) (harg7 : arg7.IsWhole)
  (arg8 : Memref sig .tc .vmem S8448x128 .bf16) (harg8 : arg8.IsWhole)
  (arg9 : Memref sig .tc .vmem S8448x128 .bf16) (harg9 : arg9.IsWhole)
  (arg10 : Memref sig .tc .vmem S768x128 .f32) (harg10 : arg10.IsWhole)
  (arg11 : Memref sig .tc .vmem S8448x128 .f32) (harg11 : arg11.IsWhole)
  (arg12 : Memref sig .tc .vmem S8448x128 .f32) (harg12 : arg12.IsWhole)
  (arg13 : Memref sig .tc .vmem S1x8x8448 .f32) (harg13 : arg13.IsWhole)
  (X : Blocks)

theorem out_A (hc0 : cond0_0 i) : Point X i (out0_A_8 (F := Ideal) c i arg2 harg2 arg3 harg3 arg4 harg4 arg5 harg5 arg6 harg6 arg7 harg7 arg8 harg8 arg9 harg9 arg10 harg10 arg11 harg11 arg12 harg12 arg13 harg13 hc0 X.x0 X.x1 X.x2 X.x3 X.x4 X.x5 X.x6 X.x7) (fun _ => 0) (out0_A_9 (F := Ideal) c i arg2 harg2 arg3 harg3 arg4 harg4 arg5 harg5 arg6 harg6 arg7 harg7 arg8 harg8 arg9 harg9 arg10 harg10 arg11 harg11 arg12 harg12 arg13 harg13 hc0 X.x0 X.x1 X.x2 X.x3 X.x4 X.x5 X.x6 X.x7)
    (fun _ => 0) (out0_A_10 (F := Ideal) c i arg2 harg2 arg3 harg3 arg4 harg4 arg5 harg5 arg6 harg6 arg7 harg7 arg8 harg8 arg9 harg9 arg10 harg10 arg11 harg11 arg12 harg12 arg13 harg13 hc0 X.x0 X.x1 X.x2 X.x3 X.x4 X.x5 X.x6 X.x7) (fun _ => 0) (out0_A_11 (F := Ideal) c i arg2 harg2 arg3 harg3 arg4 harg4 arg5 harg5 arg6 harg6 arg7 harg7 arg8 harg8 arg9 harg9 arg10 harg10 arg11 harg11 arg12 harg12 arg13 harg13 hc0 X.x0 X.x1 X.x2 X.x3 X.x4 X.x5 X.x6 X.x7) := by
  have P := point_A c i arg2 harg2 arg3 harg3 arg4 harg4 arg5 harg5 arg6 harg6 arg7 harg7 arg8 harg8 arg9 harg9 arg10 harg10 arg11 harg11 arg12 harg12 arg13 harg13 X hc0
  constructor
  · exact P.dq
  · intro R l
    exact (congrFun (View.read_writes_of_cover _ _ arg11.view arg11.view.junk _ (cover0_A_9 (F := Ideal) c i arg2 harg2 arg3 harg3 arg4 harg4 arg5 harg5 arg6 harg6 arg7 harg7 arg8 harg8 arg9 harg9 arg10 harg10 arg11 harg11 arg12 harg12 arg13 harg13 hc0 X.x0 X.x1 X.x2 X.x3 X.x4 X.x5 X.x6 X.x7)) _).trans (P.dk R l)
  · intro R l
    exact (congrFun (View.read_writes_of_cover _ _ arg12.view arg12.view.junk _ (cover0_A_10 (F := Ideal) c i arg2 harg2 arg3 harg3 arg4 harg4 arg5 harg5 arg6 harg6 arg7 harg7 arg8 harg8 arg9 harg9 arg10 harg10 arg11 harg11 arg12 harg12 arg13 harg13 hc0 X.x0 X.x1 X.x2 X.x3 X.x4 X.x5 X.x6 X.x7)) _).trans (P.dv R l)
  · intro h R
    exact (congrFun (View.read_writes_of_cover _ _ arg13.view arg13.view.junk _ (cover0_A_11 (F := Ideal) c i arg2 harg2 arg3 harg3 arg4 harg4 arg5 harg5 arg6 harg6 arg7 harg7 arg8 harg8 arg9 harg9 arg10 harg10 arg11 harg11 arg12 harg12 arg13 harg13 hc0 X.x0 X.x1 X.x2 X.x3 X.x4 X.x5 X.x6 X.x7)) _).trans (P.dc h R)

theorem out_B (hc0 : ¬cond0_0 i) (xo9 xo10 : Vec Ideal S8448x128 .f32) (xo11 : Vec Ideal S1x8x8448 .f32) : Point X i (out0_B_8 (F := Ideal) c i arg2 harg2 arg3 harg3 arg4 harg4 arg5 harg5 arg6 harg6 arg7 harg7 arg8 harg8 arg9 harg9 arg10 harg10 arg11 harg11 arg12 harg12 arg13 harg13 hc0 X.x0 X.x1 X.x2 X.x3 X.x4 X.x5 X.x6 X.x7 xo9 xo10 xo11) xo9 (out0_B_9 (F := Ideal) c i arg2 harg2 arg3 harg3 arg4 harg4 arg5 harg5 arg6 harg6 arg7 harg7 arg8 harg8 arg9 harg9 arg10 harg10 arg11 harg11 arg12 harg12 arg13 harg13 hc0 X.x0 X.x1 X.x2 X.x3 X.x4 X.x5 X.x6 X.x7 xo9 xo10 xo11)
    xo10 (out0_B_10 (F := Ideal) c i arg2 harg2 arg3 harg3 arg4 harg4 arg5 harg5 arg6 harg6 arg7 harg7 arg8 harg8 arg9 harg9 arg10 harg10 arg11 harg11 arg12 harg12 arg13 harg13 hc0 X.x0 X.x1 X.x2 X.x3 X.x4 X.x5 X.x6 X.x7 xo9 xo10 xo11) xo11 (out0_B_11 (F := Ideal) c i arg2 harg2 arg3 harg3 arg4 harg4 arg5 harg5 arg6 harg6 arg7 harg7 arg8 harg8 arg9 harg9 arg10 harg10 arg11 harg11 arg12 harg12 arg13 harg13 hc0 X.x0 X.x1 X.x2 X.x3 X.x4 X.x5 X.x6 X.x7 xo9 xo10 xo11) := by
  have P := point_B c i arg2 harg2 arg3 harg3 arg4 harg4 arg5 harg5 arg6 harg6 arg7 harg7 arg8 harg8 arg9 harg9 arg10 harg10 arg11 harg11 arg12 harg12 arg13 harg13 X hc0 xo9 xo10 xo11
  constructor
  · exact P.dq
  · exact P.dk
  · exact P.dv
  · exact P.dc
end

theorem step_A (t : Fin cfg0.N) (h : t.val % 11 = 0) :
    Point (XX m c t) (grid0.coords t) (outsAt0 m c t.val t.isLt).1 (fun _ => 0) (outsAt0 m c t.val t.isLt).2.1
      (fun _ => 0) (outsAt0 m c t.val t.isLt).2.2.1 (fun _ => 0) (outsAt0 m c t.val t.isLt).2.2.2 := by
  have P := out_A c (grid0.coords t) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (hs0_8 t) (ms0_9 t) (hs0_9 t) (ms0_10 t) (hs0_10 t) (ms0_11 t) (hs0_11 t) (XX m c t) ((hcond0_0 t).mpr h)
  have e := outsAt0_A m c t h
  generalize outsAt0 m c t.val t.isLt = o at e ⊢
  subst e
  unfold XX at P ⊢
  dsimp only at P ⊢
  exact P

theorem step_B (t : Fin cfg0.N) (h : ¬t.val % 11 = 0) :
    Point (XX m c t) (grid0.coords t) (outsAt0 m c t.val t.isLt).1
      (outsAt0 m c (t.val - 1) (Nat.lt_of_le_of_lt (Nat.sub_le _ _) t.isLt)).2.1 (outsAt0 m c t.val t.isLt).2.1
      (outsAt0 m c (t.val - 1) (Nat.lt_of_le_of_lt (Nat.sub_le _ _) t.isLt)).2.2.1 (outsAt0 m c t.val t.isLt).2.2.1
      (outsAt0 m c (t.val - 1) (Nat.lt_of_le_of_lt (Nat.sub_le _ _) t.isLt)).2.2.2 (outsAt0 m c t.val t.isLt).2.2.2 := by
  have e := outsAt0_B m c t h
  generalize outsAt0 m c (t.val - 1) (Nat.lt_of_le_of_lt (Nat.sub_le _ _) t.isLt) = o at e ⊢
  have P := out_B c (grid0.coords t) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (hs0_8 t) (ms0_9 t) (hs0_9 t) (ms0_10 t) (hs0_10 t) (ms0_11 t) (hs0_11 t) (XX m c t) (fun h' => h ((hcond0_0 t).mp h')) o.2.1 o.2.2.1 o.2.2.2
  generalize outsAt0 m c t.val t.isLt = o' at e ⊢
  subst e
  unfold XX at P ⊢
  dsimp only at P ⊢
  exact P

theorem eta2 {a b : ℕ} (x : (⟨2, ![a, b]⟩ : Shape).Idx) : x = ix2 (x 0) (x 1) := by funext i; fin_cases i <;> rfl

theorem run_dk (t : Fin cfg0.N) (hr : t.val % 11 = 10) (x : Fin 8448) (y : Fin 128) :
    (outsAt0 m c t.val t.isLt).2.1 (ix2 x y) = ∑ s : Fin 11, cdk (XX m c ⟨11 * (t.val / 11) + s.val, Pipeline.run_point_lt_of_flush t hr s⟩)
      s.val (t.val / 11) x y := by
  refine (Pipeline.eq_sum_fin_of_reset_step_apply_of_flush (M := EReal) (fun n h (z : Fin 8448 × Fin 128) => (outsAt0 m c n h).2.1 (ix2 z.1 z.2)) 11
    (fun _ => 0) (fun t z => cdk (XX m c t) (t.val % 11) (t.val / 11) z.1 z.2) (fun t h z => ?_) (fun t h z => ?_) t hr (x, y)).trans ?_
  · have P := (step_A m c t h).dk z.1 z.2
    rw [(coord t).1, (coord t).2] at P
    exact P
  · have P := (step_B m c t h).dk z.1 z.2
    rw [(coord t).1, (coord t).2] at P
    exact P
  · refine (zero_add _).trans (Finset.sum_congr rfl fun s _ => ?_)
    have e1 : (11 * (t.val / 11) + s.val) % 11 = s.val := by omega
    have e2 : (11 * (t.val / 11) + s.val) / 11 = t.val / 11 := by omega
    dsimp only
    rw [e1, e2]

theorem run_dv (t : Fin cfg0.N) (hr : t.val % 11 = 10) (x : Fin 8448) (y : Fin 128) :
    (outsAt0 m c t.val t.isLt).2.2.1 (ix2 x y) = ∑ s : Fin 11, cdv (XX m c ⟨11 * (t.val / 11) + s.val, Pipeline.run_point_lt_of_flush t hr s⟩)
      s.val (t.val / 11) x y := by
  refine (Pipeline.eq_sum_fin_of_reset_step_apply_of_flush (M := EReal) (fun n h (z : Fin 8448 × Fin 128) => (outsAt0 m c n h).2.2.1 (ix2 z.1 z.2)) 11
    (fun _ => 0) (fun t z => cdv (XX m c t) (t.val % 11) (t.val / 11) z.1 z.2) (fun t h z => ?_) (fun t h z => ?_) t hr (x, y)).trans ?_
  · have P := (step_A m c t h).dv z.1 z.2
    rw [(coord t).1, (coord t).2] at P
    exact P
  · have P := (step_B m c t h).dv z.1 z.2
    rw [(coord t).1, (coord t).2] at P
    exact P
  · refine (zero_add _).trans (Finset.sum_congr rfl fun s _ => ?_)
    have e1 : (11 * (t.val / 11) + s.val) % 11 = s.val := by omega
    have e2 : (11 * (t.val / 11) + s.val) / 11 = t.val / 11 := by omega
    dsimp only
    rw [e1, e2]

theorem run_dc (t : Fin cfg0.N) (hr : t.val % 11 = 10) (x : Fin 8) (y : Fin 8448) :
    (outsAt0 m c t.val t.isLt).2.2.2 (ix3 0 x y) = ∑ s : Fin 11, cdc (XX m c ⟨11 * (t.val / 11) + s.val, Pipeline.run_point_lt_of_flush t hr s⟩)
      s.val (t.val / 11) x y := by
  refine (Pipeline.eq_sum_fin_of_reset_step_apply_of_flush (M := EReal) (fun n h (z : Fin 8 × Fin 8448) => (outsAt0 m c n h).2.2.2 (ix3 0 z.1 z.2)) 11
    (fun _ => 0) (fun t z => cdc (XX m c t) (t.val % 11) (t.val / 11) z.1 z.2) (fun t h z => ?_) (fun t h z => ?_) t hr (x, y)).trans ?_
  · have P := (step_A m c t h).dc z.1 z.2
    rw [(coord t).1, (coord t).2] at P
    exact P
  · have P := (step_B m c t h).dc z.1 z.2
    rw [(coord t).1, (coord t).2] at P
    exact P
  · refine (zero_add _).trans (Finset.sum_congr rfl fun s _ => ?_)
    have e1 : (11 * (t.val / 11) + s.val) % 11 = s.val := by omega
    have e2 : (11 * (t.val / 11) + s.val) / 11 = t.val / 11 := by omega
    dsimp only
    rw [e1, e2]

theorem idx : ∀ t : Fin cfg0.N, win0_8.index t = ![t.val % 11, t.val / 11] ∧ win0_9.index t = ![0, t.val / 11]
    ∧ win0_10.index t = ![0, t.val / 11] ∧ win0_11.index t = ![t.val / 11, 0, 0] :=
  (by decide +kernel : ∀ t : Fin grid0.N, _)

/-- The lane block of an array's column, and the lane. -/
def lb (x : Fin 1024) : Fin 8 := ⟨x.val / 128, by omega⟩
def ln (x : Fin 1024) : Fin 128 := ⟨x.val % 128, by omega⟩
/-- The tile of an array's row, and the row in it. -/
def tb (x : Fin 8448) : Fin 11 := ⟨x.val / 768, by omega⟩
def rw' (x : Fin 8448) : Fin 768 := ⟨x.val % 768, by omega⟩

def GDQ (x : S8448x1024.Idx) : EReal :=
  ∑ R, cdq (XX m c (pt (lb (x 1)) (tb (x 0)))) (tb (x 0)).val (lb (x 1)).val (hd (ln (x 1))) (rw' (x 0)) (ln (x 1)) R
def GDK (x : S8448x1024.Idx) : EReal := ∑ j : Fin 11, cdk (XX m c (pt (lb (x 1)) j)) j.val (lb (x 1)).val (x 0) (ln (x 1))
def GDV (x : S8448x1024.Idx) : EReal := ∑ j : Fin 11, cdv (XX m c (pt (lb (x 1)) j)) j.val (lb (x 1)).val (x 0) (ln (x 1))
def GDC (x : S8x8x8448.Idx) : EReal := ∑ j : Fin 11, cdc (XX m c (pt (x 0) j)) j.val (x 0).val (x 1) (x 2)

theorem all_dq (t : Fin cfg0.N) (q : Fin 768) (l : Fin 128) : (outsAt0 m c t.val t.isLt).1 (ix2 q l)
    = ∑ R, cdq (XX m c t) (t.val % 11) (t.val / 11) (hd l) q l R := by
  by_cases h : t.val % 11 = 0
  · have P := (step_A m c t h).dq q l
    rw [(coord t).1, (coord t).2] at P
    exact P
  · have P := (step_B m c t h).dq q l
    rw [(coord t).1, (coord t).2] at P
    exact P

theorem pt_eq (t : Fin cfg0.N) (p : Fin 8) (j : Fin 11) (hp : p.val = t.val / 11) (hj : j.val = t.val % 11) : pt p j = t :=
  Fin.ext (by unfold pt; dsimp only; omega)

theorem gdq_at (t : Fin cfg0.N) (q : Fin 768) (l : Fin 128) (x : S8448x1024.Idx) (h0 : (x 0).val = 768 * (t.val % 11) + q.val)
    (h1 : (x 1).val = 128 * (t.val / 11) + l.val) : GDQ m c x = (outsAt0 m c t.val t.isLt).1 (ix2 q l) := by
  rw [all_dq]
  unfold GDQ
  have ep : (lb (x 1)).val = t.val / 11 := by unfold lb; dsimp only; omega
  have ej : (tb (x 0)).val = t.val % 11 := by unfold tb; dsimp only; omega
  have eq : rw' (x 0) = q := Fin.ext (by unfold rw'; dsimp only; omega)
  have el : ln (x 1) = l := Fin.ext (by unfold ln; dsimp only; omega)
  rw [pt_eq t _ _ ep ej, ep, ej, eq, el]

theorem final_dq : (dats m 0 c).arrAt 8 cfg0.N = GDQ m c := by
  refine (dats m 0 c).arrAt_eq_of_covers 8 _ (by decide +kernel) fun t hf y => ?_
  blk_simp; rw [after0_8]
  refine (congrArg _ (eta2 (a := 768) (b := 128) y)).trans (gdq_at m c t (y 0) (y 1) _ ?_ ?_).symm
  · blk_simp [idx t]; omega
  · blk_simp [idx t]; omega

theorem gdk_at (t : Fin cfg0.N) (hr : t.val % 11 = 10) (R : Fin 8448) (l : Fin 128) (x : S8448x1024.Idx) (h0 : (x 0).val = R.val)
    (h1 : (x 1).val = 128 * (t.val / 11) + l.val) : GDK m c x = (outsAt0 m c t.val t.isLt).2.1 (ix2 R l) := by
  rw [run_dk m c t hr]
  unfold GDK
  have ep : (lb (x 1)).val = t.val / 11 := by unfold lb; dsimp only; omega
  have eq : x 0 = R := Fin.ext h0
  have el : ln (x 1) = l := Fin.ext (by unfold ln; dsimp only; omega)
  refine Finset.sum_congr rfl fun j _ => ?_
  rw [pt_eq ⟨11 * (t.val / 11) + j.val, Pipeline.run_point_lt_of_flush t hr j⟩ (lb (x 1)) j (by dsimp only; omega) (by dsimp only; omega), ep, eq, el]

theorem final_dk : (dats m 0 c).arrAt 9 cfg0.N = GDK m c := by
  refine (dats m 0 c).arrAt_eq_of_covers 9 _ (by decide +kernel) fun t hf y => ?_
  blk_simp; rw [after0_9]
  refine (congrArg _ (eta2 (a := 8448) (b := 128) y)).trans (gdk_at m c t ((flush0_9 t).mp hf) (y 0) (y 1) _ ?_ ?_).symm
  · blk_simp [idx t]; try omega
  · blk_simp [idx t]; try omega

theorem gdv_at (t : Fin cfg0.N) (hr : t.val % 11 = 10) (R : Fin 8448) (l : Fin 128) (x : S8448x1024.Idx) (h0 : (x 0).val = R.val)
    (h1 : (x 1).val = 128 * (t.val / 11) + l.val) : GDV m c x = (outsAt0 m c t.val t.isLt).2.2.1 (ix2 R l) := by
  rw [run_dv m c t hr]
  unfold GDV
  have ep : (lb (x 1)).val = t.val / 11 := by unfold lb; dsimp only; omega
  have eq : x 0 = R := Fin.ext h0
  have el : ln (x 1) = l := Fin.ext (by unfold ln; dsimp only; omega)
  refine Finset.sum_congr rfl fun j _ => ?_
  rw [pt_eq ⟨11 * (t.val / 11) + j.val, Pipeline.run_point_lt_of_flush t hr j⟩ (lb (x 1)) j (by dsimp only; omega) (by dsimp only; omega), ep, eq, el]

theorem final_dv : (dats m 0 c).arrAt 10 cfg0.N = GDV m c := by
  refine (dats m 0 c).arrAt_eq_of_covers 10 _ (by decide +kernel) fun t hf y => ?_
  blk_simp; rw [after0_10]
  refine (congrArg _ (eta2 (a := 8448) (b := 128) y)).trans (gdv_at m c t ((flush0_10 t).mp hf) (y 0) (y 1) _ ?_ ?_).symm
  · blk_simp [idx t]; try omega
  · blk_simp [idx t]; try omega

theorem gdc_at (t : Fin cfg0.N) (hr : t.val % 11 = 10) (h : Fin 8) (R : Fin 8448) (x : S8x8x8448.Idx) (h0 : (x 0).val = t.val / 11)
    (h1 : (x 1).val = h.val) (h2 : (x 2).val = R.val) : GDC m c x = (outsAt0 m c t.val t.isLt).2.2.2 (ix3 0 h R) := by
  rw [run_dc m c t hr]
  unfold GDC
  have e1 : x 1 = h := Fin.ext h1
  have e2 : x 2 = R := Fin.ext h2
  refine Finset.sum_congr rfl fun j _ => ?_
  rw [pt_eq ⟨11 * (t.val / 11) + j.val, Pipeline.run_point_lt_of_flush t hr j⟩ (x 0) j (by dsimp only; omega) (by dsimp only; omega), h0, e1, e2]

theorem final_dc : (dats m 0 c).arrAt 11 cfg0.N = GDC m c := by
  refine (dats m 0 c).arrAt_eq_of_covers 11 _ (by decide +kernel) fun t hf y => ?_
  blk_simp; rw [after0_11]
  have e0 : (y : S1x8x8448.Idx) = ix3 0 (y 1) (y 2) := by
    funext i; fin_cases i
    · exact Subsingleton.elim (α := Fin 1) _ _
    · rfl
    · rfl
  refine (congrArg _ e0).trans (gdc_at m c t ((flush0_11 t).mp hf) (y 1) (y 2) _ ?_ ?_ ?_).symm
  · blk_simp [idx t]; try omega
  · blk_simp [idx t]; try omega
  · blk_simp [idx t]; try omega

end Cert.AttnBwd

end
-- ==== Proof.AttnStage.lean ====
module
public import proofs.«01_k».proof.Proof.AttnSum
public import Idealize.ShloMosaic.Lib.StableHlo.RunRead
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.AttnBwd
open Cert.AttnBwdIdeal Cert.AttnBwdIdeal.Gen

/-! ## What the host prepares: the operands of the region as functions of the arguments -/

abbrev Heads := FVec Ideal S16x8208x64 .f32
abbrev Rows := FVec Ideal S16x8208 .f32
abbrev Square := FVec Ideal S16x8208x8208 .f32
abbrev Wide := FVec Ideal S8448x1024 .f32

variable (a0 a1 a2 a4 : Heads) (a3 : Rows)

def ln2 : FVec Ideal S_ .f32 := Host.log (constant S_ .f32 0x40000000#32)
/-- The queries, scaled, in base two. -/
def sQn : Heads := mulf a0 (broadcastInDim S16x8208x64 ![] bcast_S_S16x8208x64 (Host.divf (constant S_ .f32 0x3E000000#32) ln2))
/-- The decay sums in base two. -/
def sC : Rows := Host.divf a3 (broadcastInDim S16x8208 ![] bcast_S_S16x8208 ln2)
/-- The products less the key's decay sum, before the mask. -/
def sT : Square := subf
  (Host.dotGeneral dot_S16x8208x64_S16x8208x64_S16x8208x8208_2_2_1_1_0_0 none
    (truncf .bf16 (sQn a0) bitsLt_bf16_f32 : FVec Ideal S16x8208x64 .bf16) (truncf .bf16 a1 bitsLt_bf16_f32 : FVec Ideal S16x8208x64 .bf16))
  (broadcastInDim S16x8208x8208 ![0, 1, 2] bcast_S16x1x8208_S16x8208x8208_0_1_2
    (broadcastInDim S16x1x8208 ![0, 2] bcast_S16x8208_S16x1x8208_0_2 (sC a3)))
/-- The causal mask. -/
def sMask : IVec S8208x8208 1 := cmpi .sle
  (broadcastInDim S8208x8208 ![0, 1] bcast_S1x8208_S8208x8208_0_1 (broadcastInDim S1x8208 ![1] bcast_S8208_S1x8208_1 (iotaInDim S8208 32 0)))
  (broadcastInDim S8208x8208 ![0, 1] bcast_S8208x1_S8208x8208_0_1 (broadcastInDim S8208x1 ![0] bcast_S8208_S8208x1_0 (iotaInDim S8208 32 0)))
/-- The masked products. -/
def sL : Square := select (broadcastInDim S16x8208x8208 ![1, 2] bcast_S8208x8208_S16x8208x8208_1_2 sMask) (sT a0 a1 a3)
  (broadcastInDim S16x8208x8208 ![] bcast_S_S16x8208x8208 (constant S_ .f32 0xFF800000#32))
/-- The row's shift. -/
def sM : Rows := Host.ceil (addf (sC a3)
  (Host.reduce FloatOps.maximumf (sL a0 a1 a3) (constant S_ .f32 0xFF800000#32) reducesTo_S16x8208x8208_S16x8208_d2 h_S_))
/-- A row's number along the keys. -/
def wideRow (x : Rows) : Square := broadcastInDim S16x8208x8208 ![0, 1, 2] bcast_S16x8208x1_S16x8208x8208_0_1_2
  (broadcastInDim S16x8208x1 ![0, 1] bcast_S16x8208_S16x8208x1_0_1 x)
/-- A row's number along a head's lanes. -/
def laneRow (x : Rows) : Heads := broadcastInDim S16x8208x64 ![0, 1, 2] bcast_S16x8208x1_S16x8208x64_0_1_2
  (broadcastInDim S16x8208x1 ![0, 1] bcast_S16x8208_S16x8208x1_0_1 x)
/-- The unnormalised weights. -/
def sP : FVec Ideal S16x8208x8208 .bf16 := truncf .bf16 (Host.exp (mulf (broadcastInDim S16x8208x8208 ![] bcast_S_S16x8208x8208 ln2)
  (addf (sL a0 a1 a3) (wideRow (subf (sC a3) (sM a0 a1 a3)))))) bitsLt_bf16_f32
/-- A row's sum of weights. -/
def sSum : Rows := Host.reduceAdd (extf .f32 (sP a0 a1 a3) bitsLt_bf16_f32) (constant S_ .f32 0x00000000#32) reducesTo_S16x8208x8208_S16x8208_d2 h_S_
/-- The output. -/
def sO : Heads := Host.divf (Host.dotGeneral dot_S16x8208x8208_S16x8208x64_S16x8208x64_2_1_1_2_0_0 none (sP a0 a1 a3)
  (truncf .bf16 a2 bitsLt_bf16_f32 : FVec Ideal S16x8208x64 .bf16)) (laneRow (sSum a0 a1 a3))
/-- The cotangent over the row's sum. -/
def sDo : Heads := mulf a4 (laneRow (Host.divf (broadcastInDim S16x8208 ![] bcast_S_S16x8208 (constant S_ .f32 0x3F800000#32)) (sSum a0 a1 a3)))
/-- A row's sum of cotangent times output. -/
def sDl : Rows := Host.reduceAdd (mulf (sDo a0 a1 a4 a3) (sO a0 a1 a2 a3)) (constant S_ .f32 0x00000000#32) reducesTo_S16x8208x64_S16x8208_d2 h_S_
def pad3 (x : Heads) : FVec Ideal S16x8448x64 .f32 :=
  pad S16x8448x64 ![0, 240, 0] ![0, 0, 0] ![0, 0, 0] x (sitofp .f32 (constantI S_ 32 0#32)) pads_S16x8208x64_S16x8448x64_000_24000_000 h_S_
/-- Heads padded and laid side by side. -/
def sWide (x : Heads) : Wide := shapeCast S8448x1024
  (transpose S8448x16x64 [1, 0, 2] (pad3 x) transposes_S16x8448x64_S8448x16x64_1_0_2) shapeCasts_S8448x16x64_S8448x1024
/-- The negated decay sums with their padding. -/
def sNeg : FVec Ideal S16x8448 .f32 := Host.negf
  (pad S16x8448 ![0, 240] ![0, 0] ![0, 0] (sC a3) (sitofp .f32 (constantI S_ 32 0#32)) pads_S16x8208_S16x8448_000_24000 h_S_)
def near (x : FVec Ideal S16x8448 .f32) : FVec Ideal S16x8448 .f32 := extf .f32 (truncf .bf16 x bitsLt_bf16_f32 : FVec Ideal S16x8448 .bf16) bitsLt_bf16_f32
def sHi : FVec Ideal S16x8448 .f32 := select (cmpi .slt (iotaInDim S16x8448 32 1) (broadcastInDim S16x8448 ![] bcast_S_S16x8448 (constantI S_ 32 240#32)))
  (broadcastInDim S16x8448 ![] bcast_S_S16x8448 (constant S_ .f32 0xFF800000#32)) (near (sNeg a3))
def sMid : FVec Ideal S16x8448 .f32 := near (subf (sNeg a3) (near (sNeg a3)))
def sLo : FVec Ideal S16x8448 .f32 := subf (subf (sNeg a3) (near (sNeg a3))) (sMid a3)
def one1 (x : FVec Ideal S16x8448 .f32) : FVec Ideal S16x8448x1 .f32 := broadcastInDim S16x8448x1 ![0, 1] bcast_S16x8448_S16x8448x1_0_1 x
def join3 (x y z : FVec Ideal S16x8448x1 .f32) : FVec Ideal S16x8448x3 .f32 := concatenate S16x8448x3 2
  [⟨S16x8448x1, x⟩, ⟨S16x8448x1, y⟩, ⟨S16x8448x1, z⟩] concatenates_S16x8448x1_S16x8448x1_S16x8448x1_S16x8448x3_d2
def join64 (x : FVec Ideal S16x8448x3 .f32) (y : FVec Ideal S16x8448x61 .f32) : FVec Ideal S16x8448x64 .f32 := concatenate S16x8448x64 2
  [⟨S16x8448x3, x⟩, ⟨S16x8448x61, y⟩] concatenates_S16x8448x3_S16x8448x61_S16x8448x64_d2
/-- The lanes that carry the decay sum of a key. -/
def sAug : FVec Ideal S16x8448x64 .f32 := join64 (join3 (one1 (sHi a3)) (one1 (sMid a3)) (one1 (sLo a3)))
  (broadcastInDim S16x8448x61 ![] bcast_S_S16x8448x61 (constant S_ .f32 0x00000000#32))
def evens (x : FVec Ideal S16x8448x64 .f32) : FVec Ideal S8x8448x64 .f32 := Host.slice S8x8448x64 ![0, 0, 0] ![2, 1, 1] x slicesBy_S16x8448x64_S8x8448x64_0s2_0s1_0s1
def odds (x : FVec Ideal S16x8448x64 .f32) : FVec Ideal S8x8448x64 .f32 := Host.slice S8x8448x64 ![1, 0, 0] ![2, 1, 1] x slicesBy_S16x8448x64_S8x8448x64_1s2_0s1_0s1
/-- Two heads' rows beside each other. -/
def beside (x y : FVec Ideal S8x8448x64 .f32) : Wide := shapeCast S8448x1024 (transpose S8448x8x128 [1, 0, 2]
  (concatenate S8x8448x128 2 [⟨S8x8448x64, x⟩, ⟨S8x8448x64, y⟩] concatenates_S8x8448x64_S8x8448x64_S8x8448x128_d2)
  transposes_S8x8448x128_S8448x8x128_1_0_2) shapeCasts_S8448x8x128_S8448x1024
def sKa : Wide := beside (evens (pad3 a1)) (evens (sAug a3))
def sKb : Wide := beside (odds (sAug a3)) (odds (pad3 a1))
/-- The decay sums by rows. -/
def sCs : FVec Ideal S8448x128 .f32 := pad S8448x128 ![240, 0] ![0, 112] ![0, 0]
  (transpose S8208x16 [1, 0] (sC a3) transposes_S16x8208_S8208x16_1_0) (sitofp .f32 (constantI S_ 32 0#32)) pads_S8208x16_S8448x128_24000_01120 h_S_

variable (m : (ℓ : Loc nD τ sig) → Buf (Elt Ideal) ℓ) (c : Dev nD)
def A0 : Heads := m ((c : Thread nD τ).loc main_arg0)
def A1 : Heads := m ((c : Thread nD τ).loc main_arg1)
def A2 : Heads := m ((c : Thread nD τ).loc main_arg2)
def A3 : Rows := m ((c : Thread nD τ).loc main_arg3)
def A4 : Heads := m ((c : Thread nD τ).loc main_arg4)

theorem read_q : V m c main_v83 = (truncf .bf16 (sWide (sQn (A0 m c))) bitsLt_bf16_f32 : FVec Ideal S8448x1024 .bf16) := by
  unfold V
  simp only [List.flatten_cons, List.flatten_nil, List.append_nil]
  after_reads_simp
  rfl
theorem read_v : V m c main_v87 = (truncf .bf16 (sWide (A2 m c)) bitsLt_bf16_f32 : FVec Ideal S8448x1024 .bf16) := by
  unfold V
  simp only [List.flatten_cons, List.flatten_nil, List.append_nil]
  after_reads_simp
  rfl
theorem read_do : V m c main_v91 = (truncf .bf16 (sWide (sDo (A0 m c) (A1 m c) (A4 m c) (A3 m c))) bitsLt_bf16_f32 : FVec Ideal S8448x1024 .bf16) := by
  unfold V
  simp only [List.flatten_cons, List.flatten_nil, List.append_nil]
  after_reads_simp
  rfl
theorem read_m : V m c main_v96 = sWide (laneRow (sM (A0 m c) (A1 m c) (A3 m c))) := by
  unfold V
  simp only [List.flatten_cons, List.flatten_nil, List.append_nil]
  after_reads_simp
  rfl
theorem read_dl : V m c main_v101 = sWide (laneRow (sDl (A0 m c) (A1 m c) (A2 m c) (A4 m c) (A3 m c))) := by
  unfold V
  simp only [List.flatten_cons, List.flatten_nil, List.append_nil]
  after_reads_simp
  rfl
theorem read_cs : V m c main_v79 = sCs (A3 m c) := by
  unfold V
  simp only [List.flatten_cons, List.flatten_nil, List.append_nil]
  after_reads_simp
  rfl
theorem read_ka : V m c main_v74 = (truncf .bf16 (sKa (A1 m c) (A3 m c)) bitsLt_bf16_f32 : FVec Ideal S8448x1024 .bf16) := by
  unfold V
  simp only [List.flatten_cons, List.flatten_nil, List.append_nil]
  after_reads_simp
  change (truncf .bf16 (beside _ _) bitsLt_bf16_f32 : FVec Ideal S8448x1024 .bf16) = _
  after_reads_simp
  change (truncf .bf16 (beside _ (evens (join64 _ _))) bitsLt_bf16_f32 : FVec Ideal S8448x1024 .bf16) = _
  after_reads_simp
  change (truncf .bf16 (beside _ (evens (join64 (join3 _ _ _) _))) bitsLt_bf16_f32 : FVec Ideal S8448x1024 .bf16) = _
  after_reads_simp
  rfl
theorem read_kb : V m c main_v77 = (truncf .bf16 (sKb (A1 m c) (A3 m c)) bitsLt_bf16_f32 : FVec Ideal S8448x1024 .bf16) := by
  unfold V
  simp only [List.flatten_cons, List.flatten_nil, List.append_nil]
  after_reads_simp
  change (truncf .bf16 (beside _ _) bitsLt_bf16_f32 : FVec Ideal S8448x1024 .bf16) = _
  after_reads_simp
  change (truncf .bf16 (beside (odds (join64 _ _)) _) bitsLt_bf16_f32 : FVec Ideal S8448x1024 .bf16) = _
  after_reads_simp
  change (truncf .bf16 (beside (odds (join64 (join3 _ _ _) _)) _) bitsLt_bf16_f32 : FVec Ideal S8448x1024 .bf16) = _
  after_reads_simp
  rfl
end Cert.AttnBwd
end
-- ==== Proof.AttnMath.lean ====
module
public import Mathlib.Analysis.SpecialFunctions.Exp
public import Mathlib.Algebra.BigOperators.Field
public import Mathlib.Analysis.SpecialFunctions.Pow.Real
@[expose] public section
noncomputable section
namespace Cert.AttnBwd.Math

/-! ## The derivative of one head's attention, over the reals -/

variable {n d : ℕ} (q k v w : Fin n → Fin d → ℝ) (c mu : Fin n → ℝ) (Q K : Fin n)

/-- A logit: the scaled product of a query and a key, and the difference of their decay sums. -/
def logit : ℝ := (∑ a, q Q a * k K a) * (1 / 8) + (c Q - c K)
/-- The exponential of a logit less the row's shift, zero after the query. -/
def wt : ℝ := if K ≤ Q then Real.exp (logit q k c Q K - mu Q) else 0
def tot : ℝ := ∑ K, wt q k c mu Q K
/-- The softmax. -/
def prob : ℝ := wt q k c 0 Q K / tot q k c 0 Q
/-- The cotangent of a softmax entry. -/
def dprob : ℝ := ∑ a, w Q a * v K a
/-- The cotangent of a logit. -/
def dlog : ℝ := prob q k c Q K * (dprob v w Q K - ∑ K', prob q k c Q K' * dprob v w Q K')

theorem wt_shift : wt q k c mu Q K = Real.exp (-mu Q) * wt q k c 0 Q K := by
  unfold wt
  split_ifs
  · rw [← Real.exp_add]; congr 1; simp; ring
  · ring

theorem tot_shift : tot q k c mu Q = Real.exp (-mu Q) * tot q k c 0 Q := by
  unfold tot
  rw [Finset.mul_sum]
  exact Finset.sum_congr rfl fun K _ => wt_shift q k c mu Q K

theorem wt_nonneg : 0 ≤ wt q k c mu Q K := by
  unfold wt
  split_ifs
  · exact (Real.exp_pos _).le
  · exact le_rfl

theorem tot_pos : 0 < tot q k c mu Q := by
  refine Finset.sum_pos' (fun K _ => wt_nonneg q k c mu Q K) ⟨Q, Finset.mem_univ _, ?_⟩
  unfold wt
  rw [if_pos le_rfl]
  exact Real.exp_pos _

theorem prob_eq : wt q k c mu Q K / tot q k c mu Q = prob q k c Q K := by
  rw [wt_shift, tot_shift]
  exact mul_div_mul_left _ _ (Real.exp_pos _).ne'

theorem prob_zero (h : ¬K ≤ Q) : prob q k c Q K = 0 := by
  unfold prob wt
  rw [if_neg h, zero_div]

theorem prob_sum : ∑ K, prob q k c Q K = 1 := by
  unfold prob
  rw [← Finset.sum_div]
  exact div_self (tot_pos q k c 0 Q).ne'

theorem dlog_sum : ∑ K, dlog q k v w c Q K = 0 := by
  unfold dlog
  simp_rw [mul_sub]
  rw [Finset.sum_sub_distrib, ← Finset.sum_mul, prob_sum, one_mul, sub_self]

/-- The weight against the cotangent divided by the row's sum. -/
theorem weigh (x : ℝ) : wt q k c mu Q K * (x * (1 / tot q k c mu Q)) = prob q k c Q K * x := by
  rw [← prob_eq q k c mu]; ring

/-- The gradient of a logit with the sum over keys taken as the row sum of cotangent times output. -/
theorem by_output : wt q k c mu Q K * ((∑ a, w Q a * (1 / tot q k c mu Q) * v K a)
    - ∑ a, w Q a * (1 / tot q k c mu Q) * ((∑ K', wt q k c mu Q K' * v K' a) / tot q k c mu Q)) = dlog q k v w c Q K := by
  unfold dlog
  have e1 : (∑ a, w Q a * (1 / tot q k c mu Q) * v K a) = dprob v w Q K * (1 / tot q k c mu Q) := by
    unfold dprob
    rw [Finset.sum_mul]
    exact Finset.sum_congr rfl fun a _ => by ring
  have e2 : (∑ a, w Q a * (1 / tot q k c mu Q) * ((∑ K', wt q k c mu Q K' * v K' a) / tot q k c mu Q))
      = (∑ K', prob q k c Q K' * dprob v w Q K') * (1 / tot q k c mu Q) := by
    unfold dprob
    simp_rw [← prob_eq q k c mu, Finset.sum_div, Finset.mul_sum, Finset.sum_mul]
    rw [Finset.sum_comm]
    exact Finset.sum_congr rfl fun K' _ => Finset.sum_congr rfl fun a _ => by ring
  rw [e1, e2, ← sub_mul, weigh]

/-- The gradient of a logit as the derivative of the quotient spells it. -/
theorem by_quotient : (dprob v w Q K / tot q k c mu Q + -∑ K', dprob v w Q K' * (1 / (tot q k c mu Q * tot q k c mu Q)) * wt q k c mu Q K')
    * wt q k c mu Q K = dlog q k v w c Q K := by
  unfold dlog
  have e : (∑ K', dprob v w Q K' * (1 / (tot q k c mu Q * tot q k c mu Q)) * wt q k c mu Q K')
      = (∑ K', prob q k c Q K' * dprob v w Q K') * (1 / tot q k c mu Q) := by
    simp_rw [← prob_eq q k c mu, Finset.sum_mul]
    refine Finset.sum_congr rfl fun K' _ => ?_
    have := (tot_pos q k c mu Q).ne'
    field_simp
  rw [e, ← prob_eq q k c mu Q K]
  ring

end Cert.AttnBwd.Math

end
-- ==== Proof.AttnHost.lean ====
module
public import proofs.«01_k».proof.Proof.AttnStage
public import proofs.«01_k».proof.Proof.AttnMath
public import Idealize.ShloMosaic.Lib.KernelVsHost
@[expose] public section
set_option maxRecDepth 16384
noncomputable section
open Idealize.ShloMosaic Idealize.ShloMosaic.TcCoe Idealize.SL.Sem
namespace Cert.AttnBwd
open Cert.AttnBwdIdeal Cert.AttnBwdIdeal.Gen

/-! ## The host's stages on finite arguments -/

/-- Real heads as an array. -/
def ofHeads (q : Fin 16 → Fin 8208 → Fin 64 → ℝ) : Heads := fun x => ((q (x 0) (x 1) (x 2) : ℝ) : EReal)
def ofRows (c : Fin 16 → Fin 8208 → ℝ) : Rows := fun x => ((c (x 0) (x 1) : ℝ) : EReal)

theorem coe_sums {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem div_real (x y : ℝ) (h : y ≠ 0) : Ideal.div (x : EReal) (y : EReal) = ((x / y : ℝ) : EReal) := by
  rw [Ideal.div_coe h, ← EReal.coe_mul]
  congr 1; ring

def L2 : ℝ := Real.log 2
theorem L2_pos : 0 < L2 := Real.log_pos (by norm_num)

variable (q k v w : Fin 16 → Fin 8208 → Fin 64 → ℝ) (cc : Fin 16 → Fin 8208 → ℝ) (g : Fin 16) (Q K : Fin 8208) (d : Fin 64)

theorem ln2_at (i : S_.Idx) : ln2 i = (L2 : EReal) := by
  unfold ln2
  pointwise
  have e : Ideal.ofBits FTy.f32 1073741824#32 = ((2 : ℝ) : EReal) := by
    simp [Ideal.ofBits, Ideal.ieee]
    rw [← EReal.coe_mul]; congr 1; norm_num
  rw [e]
  show (if (2 : ℝ) ≤ 0 then ⊥ else ((Real.log 2 : ℝ) : EReal)) = _
  rw [if_neg (by norm_num)]
  rfl

theorem eighth_word : Ideal.ofBits FTy.f32 1040187392#32 = ((1 / 8 : ℝ) : EReal) := by
  simp [Ideal.ofBits, Ideal.ieee]
  rw [← EReal.coe_mul]; congr 1; norm_num
theorem bot_word : Ideal.ofBits FTy.f32 4286578688#32 = ⊥ := by simp [Ideal.ofBits, Ideal.ieee]
theorem zero_word : Ideal.ofBits FTy.f32 0#32 = 0 := by simp [Ideal.ofBits, Ideal.ieee]

theorem heads_at : ofHeads q (ix3 g Q d) = ((q g Q d : ℝ) : EReal) := rfl
theorem rows_at : ofRows cc (ix2 g Q) = ((cc g Q : ℝ) : EReal) := rfl

theorem qn_at : sQn (ofHeads q) (ix3 g Q d) = ((q g Q d * (1 / 8 / L2) : ℝ) : EReal) := by
  unfold sQn
  pointwise [ln2_at]
  rw [heads_at, eighth_word, div_real _ _ L2_pos.ne', EReal.coe_mul]

theorem c_at : sC (ofRows cc) (ix2 g Q) = ((cc g Q / L2 : ℝ) : EReal) := by
  unfold sC
  pointwise [ln2_at]
  rw [rows_at, div_real _ _ L2_pos.ne']

theorem l_at : sL (ofHeads q) (ofHeads k) (ofRows cc) (ix3 g Q K) = if K ≤ Q then
   (((∑ a, q g Q a * (1 / 8 / L2) * k g K a) - cc g K / L2 : ℝ) : EReal) else ⊥ := by
  unfold sL sT sMask
  pointwise [qn_at, c_at]
  simp_rw [heads_at, ← EReal.coe_mul]
  rw [coe_sums, ← EReal.coe_sub, bot_word]
  word_cmp
  rfl

/-- The largest of numbers that are real or -∞, one of them real, is real. -/
theorem fold_real {ι : Type} [Fintype ι] (f : ι → EReal) (i : ι) (r : ℝ) (hi : f i = (r : EReal)) (h : ∀ j, f j ≠ ⊤) :
    ∃ r : ℝ, Finset.fold max ⊥ f Finset.univ = (r : EReal) := by
  have a : Finset.fold max ⊥ f Finset.univ < ⊤ :=
    (Finset.fold_max_lt ⊤).mpr ⟨bot_lt_top, fun j _ => lt_of_le_of_ne le_top (h j)⟩
  have b : ⊥ < Finset.fold max ⊥ f Finset.univ :=
    (Finset.lt_fold_max ⊥).mpr (Or.inr ⟨i, Finset.mem_univ _, hi ▸ EReal.bot_lt_coe r⟩)
  exact ⟨(Finset.fold max ⊥ f Finset.univ).toReal, (EReal.coe_toReal a.ne b.ne').symm⟩

theorem m_real : ∃ mu : Fin 16 → Fin 8208 → ℝ, ∀ g Q, sM (ofHeads q) (ofHeads k) (ofRows cc) (ix2 g Q) = ((mu g Q : ℝ) : EReal) := by
  suffices h : ∀ g Q, ∃ r : ℝ, sM (ofHeads q) (ofHeads k) (ofRows cc) (ix2 g Q) = (r : EReal) from
    ⟨fun g Q => (h g Q).choose, fun g Q => (h g Q).choose_spec⟩
  intro g Q
  unfold sM
  pointwise [c_at]
  rw [bot_word]
  obtain ⟨r, hr⟩ := fold_real (fun x => sL (ofHeads q) (ofHeads k) (ofRows cc) (ix3 g Q x)) Q _
    ((l_at q k cc g Q Q).trans (if_pos le_rfl)) (fun j => by
      show sL (ofHeads q) (ofHeads k) (ofRows cc) (ix3 g Q j) ≠ ⊤
      rw [l_at]; split_ifs
      · exact EReal.coe_ne_top _
      · exact bot_ne_top)
  rw [hr, ← EReal.coe_add]
  exact ⟨_, rfl⟩

variable (mu : Fin 16 → Fin 8208 → ℝ) (hmu : ∀ g Q, sM (ofHeads q) (ofHeads k) (ofRows cc) (ix2 g Q) = ((mu g Q : ℝ) : EReal))
include hmu

/-- The row's shift in natural units. -/
abbrev nat (g : Fin 16) (Q : Fin 8208) : ℝ := L2 * mu g Q

theorem p_at : sP (ofHeads q) (ofHeads k) (ofRows cc) (ix3 g Q K) = ((Math.wt (q g) (k g) (cc g) (nat mu g) Q K : ℝ) : EReal) := by
  unfold sP wideRow
  pointwise [ln2_at, l_at, c_at, hmu]
  unfold Math.wt Math.logit nat
  have hL := L2_pos.ne'
  split_ifs with h
  · rw [← EReal.coe_sub, ← EReal.coe_add, ← EReal.coe_mul]
    refine congrArg (fun r : ℝ => (r : EReal)) (congrArg Real.exp ?_)
    have e : (∑ a, q g Q a * (1 / 8 / L2) * k g K a) = (∑ a, q g Q a * k g K a) * (1 / 8 / L2) := by
      rw [Finset.sum_mul]; exact Finset.sum_congr rfl fun a _ => by ring
    rw [e]; field_simp; ring
  · rw [← EReal.coe_sub, EReal.bot_add, EReal.coe_mul_bot_of_pos L2_pos]
    rfl

theorem sum_at : sSum (ofHeads q) (ofHeads k) (ofRows cc) (ix2 g Q) = ((Math.tot (q g) (k g) (cc g) (nat mu g) Q : ℝ) : EReal) := by
  unfold sSum
  pointwise [p_at q k cc _ _ _ mu hmu]
  rw [coe_sums]
  rfl

theorem o_at : sO (ofHeads q) (ofHeads k) (ofHeads v) (ofRows cc) (ix3 g Q d)
    = (((∑ K, Math.wt (q g) (k g) (cc g) (nat mu g) Q K * v g K d) / Math.tot (q g) (k g) (cc g) (nat mu g) Q : ℝ) : EReal) := by
  unfold sO laneRow
  pointwise [p_at q k cc _ _ _ mu hmu, sum_at q k cc _ _ mu hmu]
  simp_rw [heads_at, ← EReal.coe_mul]
  rw [coe_sums, div_real _ _ (Math.tot_pos (q g) (k g) (cc g) (nat mu g) Q).ne']

theorem do_at : sDo (ofHeads q) (ofHeads k) (ofHeads w) (ofRows cc) (ix3 g Q d)
    = ((w g Q d * (1 / Math.tot (q g) (k g) (cc g) (nat mu g) Q) : ℝ) : EReal) := by
  unfold sDo laneRow
  pointwise [sum_at q k cc _ _ mu hmu]
  rw [heads_at, ← EReal.coe_one, div_real _ _ (Math.tot_pos (q g) (k g) (cc g) (nat mu g) Q).ne', ← EReal.coe_mul]

theorem dl_at : sDl (ofHeads q) (ofHeads k) (ofHeads v) (ofHeads w) (ofRows cc) (ix2 g Q)
    = ((∑ a, w g Q a * (1 / Math.tot (q g) (k g) (cc g) (nat mu g) Q) *
      ((∑ K, Math.wt (q g) (k g) (cc g) (nat mu g) Q K * v g K a) / Math.tot (q g) (k g) (cc g) (nat mu g) Q) : ℝ) : EReal) := by
  unfold sDl
  pointwise [o_at q k v cc _ _ _ mu hmu, do_at q k w cc _ _ _ mu hmu]
  simp_rw [← EReal.coe_mul]
  rw [coe_sums]
end Cert.AttnBwd
end
-- ==== Proof.AttnKeys.lean ====
module
public import proofs.«01_k».proof.Proof.AttnHost
@[expose] public section
set_option maxRecDepth 16384
noncomputable section
open Idealize.ShloMosaic Idealize.ShloMosaic.TcCoe Idealize.SL.Sem
namespace Cert.AttnBwd
open Cert.AttnBwdIdeal Cert.AttnBwdIdeal.Gen

/-! ## The padded operands at an index -/

/-- A row of the sequence among the padded rows, zero on the rows of padding. -/
def lift (f : Fin 8208 → ℝ) (R : Fin 8448) : ℝ := if h : 240 ≤ R.val then f ⟨R.val - 240, by omega⟩ else 0

variable (q k v w : Fin 16 → Fin 8208 → Fin 64 → ℝ) (cc : Fin 16 → Fin 8208 → ℝ) (g : Fin 16) (R : Fin 8448) (d : Fin 64)

theorem zero_int (i : S_.Idx) : (sitofp .f32 (constantI S_ 32 0#32) : FVec Ideal S_ .f32) i = 0 := by
  pointwise
  simp [FloatOps.sitofp]
theorem zero_int' : FloatOps.sitofp (F := Ideal) FTy.f32 0#32 = 0 := by
  simp [FloatOps.sitofp]

theorem pad3_at (x : Heads) (f : Fin 8208 → ℝ) (hx : ∀ Q, x (ix3 g Q d) = ((f Q : ℝ) : EReal)) :
    pad3 x (ix3 g R d) = ((lift f R : ℝ) : EReal) := by
  unfold pad3 lift
  split_ifs with h
  · refine (pad_apply_of_inside (k := ix3 g ⟨R.val - 240, by omega⟩ d) _ _ _ _ _ _ _ _ fun a => ?_).trans (hx _)
    fin_cases a
    · show g.val = 0 + g.val * (0 + 1); omega
    · show R.val = 240 + (R.val - 240) * (0 + 1); omega
    · show d.val = 0 + d.val * (0 + 1); omega
  · refine (pad_apply_of_not_inside (a := 1) _ _ _ _ _ _ _ _ fun hh => h hh.1).trans ?_
    exact zero_int _

theorem neg_at : sNeg (ofRows cc) (ix2 g R) = ((-lift (fun Q => cc g Q / L2) R : ℝ) : EReal) := by
  unfold sNeg
  pointwise [c_at, zero_int']
  unfold lift
  rw [EReal.coe_neg]
  split_ifs
  · rfl
  · omega
  · omega
  · rfl

theorem cs_at (l : Fin 128) : sCs (ofRows cc) (ix2 R l) = if h : l.val < 16 then ((lift (fun Q => cc ⟨l.val, h⟩ Q / L2) R : ℝ) : EReal) else 0 := by
  unfold sCs lift
  split_ifs with h h'
  · refine (pad_apply_of_inside (k := ix2 ⟨R.val - 240, by omega⟩ ⟨l.val, h⟩) _ _ _ _ _ _ _ _ fun a => ?_).trans ?_
    fin_cases a
    · show R.val = 240 + (R.val - 240) * (0 + 1); omega
    · show l.val = 0 + l.val * (0 + 1); omega
    pointwise [c_at]
  · refine (pad_apply_of_not_inside (a := 0) _ _ _ _ _ _ _ _ fun hh => h' hh.1).trans ?_
    exact zero_int _
  · refine (pad_apply_of_not_inside (a := 1) _ _ _ _ _ _ _ _ fun hh => h ?_).trans ?_
    · have := hh.2.2
      change (l.val - 0) / (0 + 1) < 16 at this
      omega
    · exact zero_int _

/-- The lanes of the decay sum: its negative on the first, -∞ there on padding, zeros on the others. -/
theorem aug_at : sAug (ofRows cc) (ix3 g R d) = if d.val = 0 then (if R.val < 240 then ⊥ else ((-lift (fun Q => cc g Q / L2) R : ℝ) : EReal)) else 0 := by
  unfold sAug join64 join3 one1 sHi sMid sLo near
  pointwise [neg_at]
  have z : ∀ r : ℝ, (r : EReal) - (r : EReal) = 0 := fun r => by rw [← EReal.coe_sub, sub_self, EReal.coe_zero]
  have e : sMid (ofRows cc) (ix2 g R) = 0 := by
    unfold sMid near
    pointwise [neg_at]
    exact z _
  rw [e, z, bot_word, sub_zero]
  word_cmp
  by_cases h0 : d.val = 0
  · rw [dif_pos (by omega), dif_pos (by omega), if_pos h0]
  · rw [if_neg h0]
    split_ifs
    · omega
    · omega
    · rfl
    · rfl
    · rfl

theorem ka_at (C : Fin 1024) (a1 : Heads) (a3 : Rows) : sKa a1 a3 (ix2 R C) = if h : C.val % 128 < 64 then pad3 a1 (ix3 ⟨2 * (C.val / 128), by omega⟩ R ⟨C.val % 128, h⟩)
    else sAug a3 (ix3 ⟨2 * (C.val / 128), by omega⟩ R ⟨C.val % 128 - 64, by omega⟩) := by
  unfold sKa beside evens
  pointwise
theorem kb_at (C : Fin 1024) (a1 : Heads) (a3 : Rows) : sKb a1 a3 (ix2 R C) = if h : C.val % 128 < 64 then sAug a3 (ix3 ⟨1 + 2 * (C.val / 128), by omega⟩ R ⟨C.val % 128, h⟩)
    else pad3 a1 (ix3 ⟨1 + 2 * (C.val / 128), by omega⟩ R ⟨C.val % 128 - 64, by omega⟩) := by
  unfold sKb beside odds
  pointwise
theorem wide_at (C : Fin 1024) (x : Heads) : sWide x (ix2 R C) = pad3 x (ix3 ⟨C.val / 64, by omega⟩ R ⟨C.val % 64, by omega⟩) := by
  unfold sWide
  pointwise

variable (m : (ℓ : Loc nD τ sig) → Buf (Elt Ideal) ℓ) (c : Dev nD)

theorem idx_in : ∀ t : Fin cfg0.N, win0_0.index t = ![t.val % 11, t.val / 11] ∧ win0_1.index t = ![t.val % 11, t.val / 11]
    ∧ win0_2.index t = ![t.val % 11, t.val / 11] ∧ win0_3.index t = ![t.val % 11, t.val / 11] ∧ win0_4.index t = ![t.val % 11, 0]
    ∧ win0_5.index t = ![0, t.val / 11] ∧ win0_6.index t = ![0, t.val / 11] ∧ win0_7.index t = ![0, t.val / 11] :=
  (by decide +kernel : ∀ t : Fin grid0.N, _)

/-- Row `q` of tile `j`, lane `l` of block `p`. -/
def rof (j : Fin 11) (q : Fin 768) : Fin 8448 := ⟨768 * j.val + q.val, by omega⟩
def lof (p : Fin 8) (l : Fin 128) : Fin 1024 := ⟨128 * p.val + l.val, by omega⟩
def gof (p : Fin 8) (h : Fin 2) : Fin 16 := ⟨2 * p.val + h.val, by omega⟩
def lane (l : Fin 128) : Fin 64 := ⟨l.val % 64, by omega⟩

variable (p : Fin 8) (j : Fin 11) (y : Fin 768) (l : Fin 128)

theorem pt_div : (pt p j).val / 11 = p.val := by unfold pt; dsimp only; omega
theorem pt_mod : (pt p j).val % 11 = j.val := by unfold pt; dsimp only; omega

theorem blk0 : iblk m c 0 (pt p j) (ix2 y l) = (V m c main_v83 : FVec Ideal S8448x1024 .bf16) (ix2 (rof j y) (lof p l)) := by
  have a := pt_div p j; have b := pt_mod p j
  unfold rof lof
  blk_point [iblk, idx_in (pt p j), a, b]
theorem blk1 : iblk m c 1 (pt p j) (ix2 y l) = (V m c main_v91 : FVec Ideal S8448x1024 .bf16) (ix2 (rof j y) (lof p l)) := by
  have a := pt_div p j; have b := pt_mod p j
  unfold rof lof
  blk_point [iblk, idx_in (pt p j), a, b]
theorem blk2 : iblk m c 2 (pt p j) (ix2 y l) = (V m c main_v96 : FVec Ideal S8448x1024 .f32) (ix2 (rof j y) (lof p l)) := by
  have a := pt_div p j; have b := pt_mod p j
  unfold rof lof
  blk_point [iblk, idx_in (pt p j), a, b]
theorem blk3 : iblk m c 3 (pt p j) (ix2 y l) = (V m c main_v101 : FVec Ideal S8448x1024 .f32) (ix2 (rof j y) (lof p l)) := by
  have a := pt_div p j; have b := pt_mod p j
  unfold rof lof
  blk_point [iblk, idx_in (pt p j), a, b]
theorem blk4 : iblk m c 4 (pt p j) (ix2 y l) = (V m c main_v79 : FVec Ideal S8448x128 .f32) (ix2 (rof j y) l) := by
  have b := pt_mod p j
  unfold rof
  blk_point [iblk, idx_in (pt p j), b]
theorem blk5 : iblk m c 5 (pt p j) (ix2 R l) = (V m c main_v74 : FVec Ideal S8448x1024 .bf16) (ix2 R (lof p l)) := by
  have a := pt_div p j
  unfold lof
  blk_point [iblk, idx_in (pt p j), a]
theorem blk6 : iblk m c 6 (pt p j) (ix2 R l) = (V m c main_v77 : FVec Ideal S8448x1024 .bf16) (ix2 R (lof p l)) := by
  have a := pt_div p j
  unfold lof
  blk_point [iblk, idx_in (pt p j), a]
theorem blk7 : iblk m c 7 (pt p j) (ix2 R l) = (V m c main_v87 : FVec Ideal S8448x1024 .bf16) (ix2 R (lof p l)) := by
  have a := pt_div p j
  unfold lof
  blk_point [iblk, idx_in (pt p j), a]
end Cert.AttnBwd
end
-- ==== Proof.AttnVal.lean ====
module
public import proofs.«01_k».proof.Proof.AttnKeys
@[expose] public section
set_option maxRecDepth 16384
noncomputable section
open Idealize.ShloMosaic Idealize.ShloMosaic.TcCoe Idealize.SL.Sem
namespace Cert.AttnBwd
open Cert.AttnBwdIdeal Cert.AttnBwdIdeal.Gen

/-! ## The kernel's four results on finite arguments -/

theorem lift_eq (f : Fin 8208 → ℝ) (R : Fin 8448) (h : 240 ≤ R.val) : lift f R = f ⟨R.val - 240, by omega⟩ := dif_pos h
theorem lift_pad (f : Fin 8208 → ℝ) (R : Fin 8448) (h : ¬240 ≤ R.val) : lift f R = 0 := dif_neg h
theorem lift_mul (f g : Fin 8208 → ℝ) (R : Fin 8448) : lift f R * lift g R = lift (fun Q => f Q * g Q) R := by
  unfold lift; split_ifs
  · rfl
  · exact mul_zero _

/-- The padded rows in two parts. -/
theorem sum_lift (f : Fin 8208 → ℝ) : ∑ R : Fin 8448, lift f R = ∑ Q, f Q := by
  have e := Fin.sum_univ_add (a := 240) (b := 8208) (fun R : Fin (240 + 8208) => lift f R)
  refine Eq.trans e ?_
  rw [Finset.sum_eq_zero fun i _ => lift_pad f _ (by show ¬240 ≤ i.val; omega), zero_add]
  refine Finset.sum_congr rfl fun Q _ => (lift_eq f _ (by show 240 ≤ 240 + Q.val; omega)).trans (congrArg f (Fin.ext ?_))
  show 240 + Q.val - 240 = Q.val
  omega

theorem sum_tiles (F : Fin 8448 → ℝ) : ∑ j : Fin 11, ∑ y : Fin 768, F (rof j y) = ∑ Y, F Y := by
  rw [← Fintype.sum_prod_type' (fun j y => F (rof j y))]
  refine Eq.trans ?_ (Equiv.sum_comp (finProdFinEquiv (m := 11) (n := 768)) F)
  refine Finset.sum_congr rfl fun x _ => congrArg F (Fin.ext ?_)
  show 768 * x.1.val + x.2.val = x.2.val + 768 * x.1.val
  omega

/-- Lane `d` of head `h`'s half, and of the other half. -/
def own (h : Fin 2) (d : Fin 64) : Fin 128 := ⟨64 * h.val + d.val, by omega⟩
def oth (h : Fin 2) (d : Fin 64) : Fin 128 := ⟨64 * (1 - h.val) + d.val, by omega⟩

theorem hd_own (h : Fin 2) (d : Fin 64) : hd (own h d) = h := by
  unfold hd own
  fin_cases h
  · exact if_pos (by show 64 * 0 + d.val < 64; omega)
  · exact if_neg (by show ¬64 * 1 + d.val < 64; omega)
theorem lane_own (h : Fin 2) (d : Fin 64) : lane (own h d) = d := Fin.ext (by show (64 * h.val + d.val) % 64 = d.val; omega)
theorem own_hd (l : Fin 128) : own (hd l) (lane l) = l := by
  refine Fin.ext ?_
  show 64 * (hd l).val + l.val % 64 = l.val
  unfold hd
  split_ifs
  · show 64 * 0 + l.val % 64 = l.val; omega
  · show 64 * 1 + l.val % 64 = l.val; omega

theorem sum_halves (h : Fin 2) (f : Fin 128 → EReal) : ∑ l, f l = ∑ d, f (own h d) + ∑ d, f (oth h d) := by
  have e : ∑ l, f l = ∑ d, f (own 0 d) + ∑ d, f (own 1 d) := by
    refine (Fin.sum_univ_add (a := 64) (b := 64) f).trans (congrArg₂ (· + ·) ?_ rfl)
    exact Finset.sum_congr rfl fun d _ => congrArg f (Fin.ext (by show d.val = 64 * 0 + d.val; omega))
  fin_cases h
  · exact e
  · exact e.trans (add_comm _ _)

variable (m : (ℓ : Loc nD τ sig) → Buf (Elt Ideal) ℓ) (c : Dev nD)

/-- The arguments are these reals, and the row shifts the host finds are these. -/
structure Real5 (q k v w : Fin 16 → Fin 8208 → Fin 64 → ℝ) (cc mu : Fin 16 → Fin 8208 → ℝ) : Prop where
  h0 : A0 m c = ofHeads q
  h1 : A1 m c = ofHeads k
  h2 : A2 m c = ofHeads v
  h3 : A3 m c = ofRows cc
  h4 : A4 m c = ofHeads w
  hmu : ∀ g Q, sM (ofHeads q) (ofHeads k) (ofRows cc) (ix2 g Q) = ((mu g Q : ℝ) : EReal)

variable {m c} {q k v w : Fin 16 → Fin 8208 → Fin 64 → ℝ} {cc mu : Fin 16 → Fin 8208 → ℝ} (A : Real5 m c q k v w cc mu)
include A
variable (p : Fin 8) (j : Fin 11) (h : Fin 2) (y : Fin 768) (R : Fin 8448) (d : Fin 64)

theorem wide_own (x : Heads) (f : Fin 8208 → ℝ) (Y : Fin 8448) (hx : ∀ Q, x (ix3 (gof p h) Q d) = ((f Q : ℝ) : EReal)) :
    sWide x (ix2 Y (lof p (own h d))) = ((lift f Y : ℝ) : EReal) := by
  rw [wide_at]
  have e1 : (⟨(lof p (own h d)).val / 64, by omega⟩ : Fin 16) = gof p h := Fin.ext (by show (128 * p.val + (64 * h.val + d.val)) / 64 = 2 * p.val + h.val; omega)
  have e2 : (⟨(lof p (own h d)).val % 64, by omega⟩ : Fin 64) = d := Fin.ext (by show (128 * p.val + (64 * h.val + d.val)) % 64 = d.val; omega)
  rw [e1, e2]
  exact pad3_at _ _ _ x f hx

theorem x0_own : (XX m c (pt p j)).x0 (ix2 y (own h d)) = ((lift (fun Q => q (gof p h) Q d * (1 / 8 / L2)) (rof j y) : ℝ) : EReal) := by
  refine (blk0 m c p j y (own h d)).trans ?_
  rw [read_q, A.h0]
  exact wide_own A p h d _ _ _ fun Q => qn_at q _ Q d
theorem x1_own : (XX m c (pt p j)).x1 (ix2 y (own h d))
    = ((lift (fun Q => w (gof p h) Q d * (1 / Math.tot (q (gof p h)) (k (gof p h)) (cc (gof p h)) (nat mu (gof p h)) Q)) (rof j y) : ℝ) : EReal) := by
  refine (blk1 m c p j y (own h d)).trans ?_
  rw [read_do, A.h0, A.h1, A.h3, A.h4]
  exact wide_own A p h d _ _ _ fun Q => do_at q k w cc _ Q d mu A.hmu
theorem x2_own : (XX m c (pt p j)).x2 (ix2 y (own h d)) = ((lift (mu (gof p h)) (rof j y) : ℝ) : EReal) := by
  refine (blk2 m c p j y (own h d)).trans ?_
  rw [read_m, A.h0, A.h1, A.h3]
  refine wide_own A p h d _ _ _ fun Q => ?_
  unfold laneRow
  pointwise [A.hmu]
theorem x3_own : (XX m c (pt p j)).x3 (ix2 y (own h d)) = ((lift (fun Q => ∑ a, w (gof p h) Q a * (1 / Math.tot (q (gof p h)) (k (gof p h)) (cc (gof p h)) (nat mu (gof p h)) Q) *
      ((∑ K, Math.wt (q (gof p h)) (k (gof p h)) (cc (gof p h)) (nat mu (gof p h)) Q K * v (gof p h) K a) / Math.tot (q (gof p h)) (k (gof p h)) (cc (gof p h)) (nat mu (gof p h)) Q)) (rof j y) : ℝ) : EReal) := by
  refine (blk3 m c p j y (own h d)).trans ?_
  rw [read_dl, A.h0, A.h1, A.h2, A.h3, A.h4]
  refine wide_own A p h d _ _ _ fun Q => ?_
  unfold laneRow
  pointwise [dl_at q k v w cc _ _ mu A.hmu]
theorem x4_at (l : Fin 128) (hl : l.val = 2 * p.val + h.val) : (XX m c (pt p j)).x4 (ix2 y l) = ((lift (fun Q => cc (gof p h) Q / L2) (rof j y) : ℝ) : EReal) := by
  refine (blk4 m c p j y l).trans ?_
  rw [read_cs, A.h3, cs_at, dif_pos (by omega)]
  have e : (⟨l.val, by omega⟩ : Fin 16) = gof p h := Fin.ext hl
  rw [e]
theorem x7_own : (XX m c (pt p j)).x7 (ix2 R (own h d)) = ((lift (fun Q => v (gof p h) Q d) R : ℝ) : EReal) := by
  refine (blk7 R m c p j (own h d)).trans ?_
  rw [read_v, A.h2]
  exact wide_own A p h d _ _ _ fun Q => rfl

theorem kh_own : KH (XX m c (pt p j)) h R (own h d) = ((lift (fun Q => k (gof p h) Q d) R : ℝ) : EReal) := by
  unfold KH
  match h with
  | 0 =>
    rw [if_pos rfl]
    refine (blk5 R m c p j (own 0 d)).trans ?_
    rw [read_ka, A.h1]
    refine (ka_at _ _ _ _).trans ?_
    rw [dif_pos (by show (128 * p.val + (64 * 0 + d.val)) % 128 < 64; omega)]
    have e1 : (⟨2 * ((lof p (own 0 d)).val / 128), by omega⟩ : Fin 16) = gof p 0 := Fin.ext (by show 2 * ((128 * p.val + (64 * 0 + d.val)) / 128) = 2 * p.val + 0; omega)
    rw [e1]
    refine (congrArg _ (congrArg _ (Fin.ext ?_))).trans (pad3_at (gof p 0) R d (ofHeads k) _ fun Q => rfl)
    show (128 * p.val + (64 * 0 + d.val)) % 128 = d.val
    omega
  | 1 =>
    rw [if_neg (by decide)]
    refine (blk6 R m c p j (own 1 d)).trans ?_
    rw [read_kb, A.h1]
    refine (kb_at _ _ _ _).trans ?_
    rw [dif_neg (by show ¬(128 * p.val + (64 * 1 + d.val)) % 128 < 64; omega)]
    have e1 : (⟨1 + 2 * ((lof p (own 1 d)).val / 128), by omega⟩ : Fin 16) = gof p 1 := Fin.ext (by show 1 + 2 * ((128 * p.val + (64 * 1 + d.val)) / 128) = 2 * p.val + 1; omega)
    rw [e1]
    refine (congrArg _ (congrArg _ (Fin.ext ?_))).trans (pad3_at (gof p 1) R d (ofHeads k) _ fun Q => rfl)
    show (128 * p.val + (64 * 1 + d.val)) % 128 - 64 = d.val
    omega

theorem kh_oth : KH (XX m c (pt p j)) h R (oth h d)
    = if d.val = 0 then (if R.val < 240 then ⊥ else ((-lift (fun Q => cc (gof p h) Q / L2) R : ℝ) : EReal)) else 0 := by
  rw [← aug_at]
  unfold KH
  match h with
  | 0 =>
    rw [if_pos rfl]
    refine (blk5 R m c p j (oth 0 d)).trans ?_
    rw [read_ka, A.h3]
    refine (ka_at _ _ _ _).trans ?_
    rw [dif_neg (by show ¬(128 * p.val + (64 * (1 - 0) + d.val)) % 128 < 64; omega)]
    have e1 : (⟨2 * ((lof p (oth 0 d)).val / 128), by omega⟩ : Fin 16) = gof p 0 := Fin.ext (by show 2 * ((128 * p.val + (64 * (1 - 0) + d.val)) / 128) = 2 * p.val + 0; omega)
    rw [e1]
    refine congrArg _ (congrArg _ (Fin.ext ?_))
    show (128 * p.val + (64 * (1 - 0) + d.val)) % 128 - 64 = d.val
    omega
  | 1 =>
    rw [if_neg (by decide)]
    refine (blk6 R m c p j (oth 1 d)).trans ?_
    rw [read_kb, A.h3]
    refine (kb_at _ _ _ _).trans ?_
    rw [dif_pos (by show (128 * p.val + (64 * (1 - 1) + d.val)) % 128 < 64; omega)]
    have e1 : (⟨1 + 2 * ((lof p (oth 1 d)).val / 128), by omega⟩ : Fin 16) = gof p 1 := Fin.ext (by show 1 + 2 * ((128 * p.val + (64 * (1 - 1) + d.val)) / 128) = 2 * p.val + 1; omega)
    rw [e1]
    refine congrArg _ (congrArg _ (Fin.ext ?_))
    show (128 * p.val + (64 * (1 - 1) + d.val)) % 128 = d.val
    omega

omit A in
theorem qh_own (X : Blocks) : QH X h y (own h d) = X.x0 (ix2 y (own h d)) := by
  unfold QH
  match h with
  | 0 => rw [if_pos rfl, if_pos (by show 64 * 0 + d.val < 64; omega)]
  | 1 => rw [if_neg (by decide), if_neg (by show ¬64 * 1 + d.val < 64; omega)]
omit A in
theorem qh_oth (X : Blocks) : QH X h y (oth h d) = if d.val < 3 then 1 else 0 := by
  unfold QH
  match h with
  | 0 =>
    rw [if_pos rfl, if_neg (by show ¬64 * (1 - 0) + d.val < 64; omega)]
    exact if_congr (by show 64 * (1 - 0) + d.val < 67 ↔ d.val < 3; omega) rfl rfl
  | 1 =>
    rw [if_neg (by decide), if_pos (by show 64 * (1 - 1) + d.val < 64; omega)]
    exact if_congr (by show 64 * (1 - 1) + d.val < 3 ↔ d.val < 3; omega) rfl rfl
omit A in
theorem doh_own (X : Blocks) : DOH X h y (own h d) = X.x1 (ix2 y (own h d)) := by
  unfold DOH
  match h with
  | 0 => rw [if_pos rfl, if_pos (by show 64 * 0 + d.val < 64; omega)]
  | 1 => rw [if_neg (by decide), if_neg (by show ¬64 * 1 + d.val < 64; omega)]
omit A in
theorem doh_oth (X : Blocks) : DOH X h y (oth h d) = 0 := by
  unfold DOH
  match h with
  | 0 => rw [if_pos rfl, if_neg (by show ¬64 * (1 - 0) + d.val < 64; omega)]
  | 1 => rw [if_neg (by decide), if_pos (by show 64 * (1 - 1) + d.val < 64; omega)]

omit A in
theorem mx_of (z : Vec Ideal S768x128 .f32) (r : EReal) (hz : ∀ d, z (ix2 y (own h d)) = r) : MX z h y = r := by
  unfold MX
  have e : ∀ l : Fin 128, (if h = 0 then (if l.val < 64 then z (ix2 y l) else ⊥) else (if l.val < 64 then ⊥ else z (ix2 y l)))
      = if hd l = h then r else ⊥ := fun l => by
    have hl := hz (lane l)
    have := own_hd l
    by_cases a : hd l = h
    · rw [if_pos a]
      rw [← a, own_hd] at hl
      rw [hl]
      unfold hd at a
      split_ifs at a with b
      · rw [if_pos a.symm, if_pos b]
      · rw [if_neg (by rw [← a]; decide), if_neg b]
    · rw [if_neg a]
      unfold hd at a
      split_ifs at a with b
      · rw [if_neg (fun e => a e.symm), if_pos b]
      · have : h = 0 := by omega
        rw [if_pos this, if_neg b]
  simp_rw [e]
  refine le_antisymm ?_ ?_
  · refine (Finset.fold_max_le _).mpr ⟨bot_le, fun l _ => ?_⟩
    split_ifs
    · exact le_rfl
    · exact bot_le
  · refine (Finset.le_fold_max _).mpr (Or.inr ⟨own h 0, Finset.mem_univ _, ?_⟩)
    rw [if_pos (hd_own h 0)]

end Cert.AttnBwd
end
-- ==== Proof.AttnFin.lean ====
module
public import proofs.«01_k».proof.Proof.AttnVal
@[expose] public section
set_option maxRecDepth 16384
noncomputable section
open Idealize.ShloMosaic Idealize.ShloMosaic.TcCoe Idealize.SL.Sem
namespace Cert.AttnBwd
open Cert.AttnBwdIdeal Cert.AttnBwdIdeal.Gen

variable {m : (ℓ : Loc nD τ sig) → Buf (Elt Ideal) ℓ} {c : Dev nD}
  {q k v w : Fin 16 → Fin 8208 → Fin 64 → ℝ} {cc mu : Fin 16 → Fin 8208 → ℝ} (A : Real5 m c q k v w cc mu)
include A
variable (p : Fin 8) (j : Fin 11) (h : Fin 2) (y : Fin 768) (R : Fin 8448) (d : Fin 64)

/-- A number per query and key among the padded rows. -/
def lift2 (f : Fin 8208 → Fin 8208 → ℝ) (Y R : Fin 8448) : ℝ := lift (fun Q => lift (f Q) R) Y

omit A in
/-- The three lanes of ones pick the decay sum. -/
theorem pick (x : EReal) : ∑ d : Fin 64, (if d.val < 3 then (1 : EReal) else 0) * (if d.val = 0 then x else 0) = x := by
  rw [Finset.sum_eq_single_of_mem 0 (Finset.mem_univ _) fun d _ hd => ?_]
  · rw [if_pos (by decide), if_pos (by decide), one_mul]
  · rw [if_neg (show ¬d.val = 0 from fun e => hd (Fin.ext e)), mul_zero]

theorem tt_at : TT (XX m c (pt p j)) h y R
    = ((∑ d, lift (fun Q => q (gof p h) Q d * (1 / 8 / L2)) (rof j y) * lift (fun Q => k (gof p h) Q d) R : ℝ) : EReal)
      + (if R.val < 240 then ⊥ else ((-lift (fun Q => cc (gof p h) Q / L2) R : ℝ) : EReal)) := by
  unfold TT
  rw [sum_halves h]
  simp_rw [qh_own, qh_oth, kh_own A, kh_oth A, x0_own A, ← EReal.coe_mul]
  rw [pick, coe_sums]

theorem sh_at : SH (XX m c (pt p j)) p.val h y = ((lift (fun Q => cc (gof p h) Q / L2) (rof j y) - lift (mu (gof p h)) (rof j y) : ℝ) : EReal) := by
  unfold SH
  rw [mx_of h y _ _ fun d => x2_own A p j h y d, EReal.coe_sub,
    Finset.sum_eq_single_of_mem (⟨2 * p.val + h.val, by omega⟩ : Fin 128) (Finset.mem_univ _) fun l _ hl => if_neg fun e => hl (Fin.ext e),
    if_pos rfl, x4_at A p j h y _ rfl]

omit A in
theorem two_pow (r : ℝ) : Ideal.exp2 (r : EReal) = ((Real.exp (L2 * r) : ℝ) : EReal) := by
  show (((2 : ℝ) ^ r : ℝ) : EReal) = _
  rw [Real.rpow_def_of_pos (by norm_num)]
  rfl

theorem pb_at : PB (XX m c (pt p j)) j.val p.val h y R
    = ((lift2 (Math.wt (q (gof p h)) (k (gof p h)) (cc (gof p h)) (nat mu (gof p h))) (rof j y) R : ℝ) : EReal) := by
  unfold PB
  rw [tt_at A, sh_at A]
  unfold lift2
  have hz : Ideal.exp2 (⊥ : EReal) = ((0 : ℝ) : EReal) := rfl
  by_cases hR : 240 ≤ R.val
  · rw [if_neg (by omega : ¬R.val < 240)]
    by_cases hY : 240 ≤ (rof j y).val
    · rw [lift_eq _ _ hY, lift_eq _ R hR]
      simp_rw [lift_eq _ _ hY, lift_eq _ _ hR]
      rw [← EReal.coe_add]
      unfold Math.wt Math.logit nat
      by_cases hO : OK j.val y R
      · rw [if_pos hO, ← EReal.coe_add, two_pow, if_pos]
        · refine congrArg (fun r : ℝ => (r : EReal)) (congrArg Real.exp ?_)
          have hL := L2_pos.ne'
          generalize (⟨(rof j y).val - 240, _⟩ : Fin 8208) = Q
          generalize (⟨R.val - 240, _⟩ : Fin 8208) = K
          have e : (∑ a, q (gof p h) Q a * (1 / 8 / L2) * k (gof p h) K a) = (∑ a, q (gof p h) Q a * k (gof p h) K a) * (1 / 8 / L2) := by
            rw [Finset.sum_mul]; exact Finset.sum_congr rfl fun a _ => by ring
          rw [e]; field_simp; ring
        · show R.val - 240 ≤ 768 * j.val + y.val - 240
          unfold OK at hO
          omega
      · rw [if_neg hO, EReal.bot_add, hz, if_neg]
        show ¬R.val - 240 ≤ 768 * j.val + y.val - 240
        unfold OK at hO
        unfold rof at hY
        dsimp only at hY
        omega
    · have hO : ¬OK j.val y R := by
        unfold OK
        unfold rof at hY
        dsimp only at hY
        omega
      rw [if_neg hO, EReal.bot_add, hz, lift_pad (fun Q => lift _ R) _ hY]
  · rw [if_pos (by omega : R.val < 240), EReal.add_bot, ite_self, EReal.bot_add, hz]
    simp_rw [lift_pad _ _ hR]
    unfold lift
    split_ifs <;> rfl

theorem ds_at : DS (XX m c (pt p j)) j.val p.val h y R
    = ((lift2 (Math.dlog (q (gof p h)) (k (gof p h)) (v (gof p h)) (w (gof p h)) (cc (gof p h))) (rof j y) R : ℝ) : EReal) := by
  unfold DS
  rw [pb_at A, mx_of h y _ _ fun d => x3_own A p j h y d, sum_halves h]
  simp_rw [doh_own, doh_oth, zero_mul, x1_own A, x7_own A, ← EReal.coe_mul]
  rw [coe_sums, Finset.sum_const_zero, add_zero, ← EReal.coe_sub, ← EReal.coe_mul]
  refine congrArg (fun r : ℝ => (r : EReal)) ?_
  unfold lift2
  by_cases hR : 240 ≤ R.val
  · by_cases hY : 240 ≤ (rof j y).val
    · simp_rw [lift_eq _ _ hY, lift_eq _ _ hR]
      exact Math.by_output _ _ _ _ _ _ _ _
    · rw [lift_pad _ _ hY, zero_mul, lift_pad (fun Q => lift _ R) _ hY]
  · simp_rw [lift_pad _ _ hR]
    unfold lift
    split_ifs <;> simp

variable (C : Fin 1024)

/-- The head and the lane of a column. -/
def hof (C : Fin 1024) : Fin 16 := ⟨C.val / 64, by omega⟩
def cof (C : Fin 1024) : Fin 64 := ⟨C.val % 64, by omega⟩
omit A in
theorem gof_col : gof (lb C) (hd (ln C)) = hof C := by
  refine Fin.ext ?_
  show 2 * (C.val / 128) + (hd (ln C)).val = C.val / 64
  unfold hd ln
  dsimp only
  split_ifs
  · show 2 * (C.val / 128) + 0 = _; omega
  · show 2 * (C.val / 128) + 1 = _; omega
omit A in
theorem lane_col : lane (ln C) = cof C := Fin.ext (by show C.val % 128 % 64 = C.val % 64; omega)

theorem dk_at : GDK m c (ix2 R C)
    = ((lift (fun K => ∑ Q, Math.dlog (q (hof C)) (k (hof C)) (v (hof C)) (w (hof C)) (cc (hof C)) Q K * (q (hof C) Q (cof C) * (1 / 8 / L2))) R : ℝ) : EReal) := by
  unfold GDK cdk
  have e : ∀ (j : Fin 11) (y : Fin 768), DS (XX m c (pt (lb C) j)) j.val (lb C).val (hd (ln C)) y R * (XX m c (pt (lb C) j)).x0 (ix2 y (ln C))
      = ((lift2 (Math.dlog (q (hof C)) (k (hof C)) (v (hof C)) (w (hof C)) (cc (hof C))) (rof j y) R * lift (fun Q => q (hof C) Q (cof C) * (1 / 8 / L2)) (rof j y) : ℝ) : EReal) := fun j y => by
    have a := x0_own A (lb C) j (hd (ln C)) y (lane (ln C))
    rw [own_hd, gof_col, lane_col] at a
    rw [ds_at A, gof_col, a, EReal.coe_mul]
  show ∑ j : Fin 11, ∑ y : Fin 768, DS (XX m c (pt (lb C) j)) j.val (lb C).val (hd (ln C)) y R * (XX m c (pt (lb C) j)).x0 (ix2 y (ln C)) = _
  simp_rw [e, coe_sums]
  refine congrArg (fun r : ℝ => (r : EReal)) ?_
  rw [sum_tiles fun Y => lift2 (Math.dlog (q (hof C)) (k (hof C)) (v (hof C)) (w (hof C)) (cc (hof C))) Y R * lift (fun Q => q (hof C) Q (cof C) * (1 / 8 / L2)) Y]
  unfold lift2
  simp_rw [lift_mul]
  rw [sum_lift]
  unfold lift
  split_ifs
  · rfl
  · simp

theorem dv_at : GDV m c (ix2 R C)
    = ((lift (fun K => ∑ Q, Math.prob (q (hof C)) (k (hof C)) (cc (hof C)) Q K * w (hof C) Q (cof C)) R : ℝ) : EReal) := by
  unfold GDV cdv
  have e : ∀ (j : Fin 11) (y : Fin 768), PB (XX m c (pt (lb C) j)) j.val (lb C).val (hd (ln C)) y R * (XX m c (pt (lb C) j)).x1 (ix2 y (ln C))
      = ((lift2 (Math.wt (q (hof C)) (k (hof C)) (cc (hof C)) (nat mu (hof C))) (rof j y) R
        * lift (fun Q => w (hof C) Q (cof C) * (1 / Math.tot (q (hof C)) (k (hof C)) (cc (hof C)) (nat mu (hof C)) Q)) (rof j y) : ℝ) : EReal) := fun j y => by
    have a := x1_own A (lb C) j (hd (ln C)) y (lane (ln C))
    rw [own_hd, gof_col, lane_col] at a
    rw [pb_at A, gof_col, a, EReal.coe_mul]
  show ∑ j : Fin 11, ∑ y : Fin 768, PB (XX m c (pt (lb C) j)) j.val (lb C).val (hd (ln C)) y R * (XX m c (pt (lb C) j)).x1 (ix2 y (ln C)) = _
  simp_rw [e, coe_sums]
  refine congrArg (fun r : ℝ => (r : EReal)) ?_
  rw [sum_tiles fun Y => lift2 (Math.wt (q (hof C)) (k (hof C)) (cc (hof C)) (nat mu (hof C))) Y R
        * lift (fun Q => w (hof C) Q (cof C) * (1 / Math.tot (q (hof C)) (k (hof C)) (cc (hof C)) (nat mu (hof C)) Q)) Y]
  unfold lift2
  simp_rw [lift_mul]
  rw [sum_lift]
  unfold lift
  split_ifs
  · exact Finset.sum_congr rfl fun Q _ => Math.weigh _ _ _ _ _ _ _
  · simp

theorem dq_at : GDQ m c (ix2 R C)
    = ((lift (fun Q => ∑ K, Math.dlog (q (hof C)) (k (hof C)) (v (hof C)) (w (hof C)) (cc (hof C)) Q K * k (hof C) K (cof C)) R : ℝ) : EReal) := by
  unfold GDQ cdq
  have er : rof (tb R) (rw' R) = R := Fin.ext (by show 768 * (R.val / 768) + R.val % 768 = R.val; omega)
  have e : ∀ K : Fin 8448, DS (XX m c (pt (lb C) (tb R))) (tb R).val (lb C).val (hd (ln C)) (rw' R) K * KH (XX m c (pt (lb C) (tb R))) (hd (ln C)) K (ln C)
      = ((lift2 (Math.dlog (q (hof C)) (k (hof C)) (v (hof C)) (w (hof C)) (cc (hof C))) R K * lift (fun Q => k (hof C) Q (cof C)) K : ℝ) : EReal) := fun K => by
    have a := kh_own A (lb C) (tb R) (hd (ln C)) K (lane (ln C))
    rw [own_hd, gof_col, lane_col] at a
    rw [ds_at A, gof_col, a, er, EReal.coe_mul]
  show ∑ K : Fin 8448, DS (XX m c (pt (lb C) (tb R))) (tb R).val (lb C).val (hd (ln C)) (rw' R) K * KH (XX m c (pt (lb C) (tb R))) (hd (ln C)) K (ln C) = _
  simp_rw [e, coe_sums]
  refine congrArg (fun r : ℝ => (r : EReal)) ?_
  unfold lift2
  by_cases hR : 240 ≤ R.val
  · simp_rw [lift_eq _ _ hR, lift_mul]
    exact sum_lift _
  · simp_rw [lift_pad _ _ hR, zero_mul]
    exact Finset.sum_const_zero

theorem dc_at (b : Fin 8) : GDC m c (ix3 p b R) = if hb : b.val < 2 then
    ((lift (fun K => -∑ Q, Math.dlog (q (gof p ⟨b.val, hb⟩)) (k (gof p ⟨b.val, hb⟩)) (v (gof p ⟨b.val, hb⟩)) (w (gof p ⟨b.val, hb⟩)) (cc (gof p ⟨b.val, hb⟩)) Q K) R : ℝ) : EReal)
    else 0 := by
  have f : ∀ h : Fin 2, ∑ j : Fin 11, -∑ y : Fin 768, DS (XX m c (pt p j)) j.val p.val h y R
      = ((lift (fun K => -∑ Q, Math.dlog (q (gof p h)) (k (gof p h)) (v (gof p h)) (w (gof p h)) (cc (gof p h)) Q K) R : ℝ) : EReal) := fun h => by
    simp_rw [ds_at A, coe_sums, ← EReal.coe_neg, coe_sums]
    refine congrArg (fun r : ℝ => (r : EReal)) ?_
    rw [Finset.sum_neg_distrib, sum_tiles fun Y => lift2 (Math.dlog (q (gof p h)) (k (gof p h)) (v (gof p h)) (w (gof p h)) (cc (gof p h))) Y R]
    unfold lift2
    rw [sum_lift]
    unfold lift
    split_ifs
    · rfl
    · simp
  unfold GDC cdc
  show (∑ j : Fin 11, if b.val = 0 then -∑ q, DS (XX m c (pt p j)) j.val p.val 0 q R
    else if b.val = 1 then -∑ q, DS (XX m c (pt p j)) j.val p.val 1 q R else 0) = _
  by_cases b0 : b.val = 0
  · have e : (⟨b.val, by omega⟩ : Fin 2) = 0 := Fin.ext b0
    simp_rw [if_pos b0]
    rw [dif_pos (by omega), e]
    exact f 0
  · by_cases b1 : b.val = 1
    · have e : (⟨b.val, by omega⟩ : Fin 2) = 1 := Fin.ext b1
      simp_rw [if_neg b0, if_pos b1]
      rw [dif_pos (by omega), e]
      exact f 1
    · simp_rw [if_neg b0, if_neg b1]
      rw [dif_neg (by omega)]
      exact Finset.sum_const_zero
end Cert.AttnBwd
end
-- ==== Proof.AttnRef.lean ====
module
public import proofs.«01_k».proof.Proof.AttnFin
public import proofs.«01_k».proof.Proof.Gen.AttnBwdRefIdeal.Read
@[expose] public section
set_option maxRecDepth 16384
noncomputable section
open Idealize.ShloMosaic Idealize.ShloMosaic.TcCoe Idealize.SL.Sem
namespace Cert.AttnBwd.Ref
open Cert.AttnBwdRefIdeal Cert.AttnBwdRefIdeal.Gen Cert.AttnBwdRefIdeal.Read

/-! ## The reference's stages on finite arguments -/

variable (q k v w : Fin 16 → Fin 8208 → Fin 64 → ℝ) (cc : Fin 16 → Fin 8208 → ℝ) (g : Fin 16) (Q K : Fin 8208) (d : Fin 64)

abbrev H (q : Fin 16 → Fin 8208 → Fin 64 → ℝ) : FVec Ideal S16x8208x64 .f32 := ofHeads q
abbrev C (c : Fin 16 → Fin 8208 → ℝ) : FVec Ideal S16x8208 .f32 := ofRows c

theorem log_two : Ideal.log (Ideal.ofBits FTy.f32 1073741824#32) = ((L2 : ℝ) : EReal) := ln2_at ix0
theorem eight_word : Ideal.ofBits FTy.f32 1090519040#32 = ((8 : ℝ) : EReal) := by
  simp [Ideal.ofBits, Ideal.ieee]
  rw [← EReal.coe_mul]; congr 1; norm_num

theorem logit_at : val_main_v8 (F := Ideal) (H q) (H k) (C cc) (ix3 g Q K) = ((Math.logit (q g) (k g) (cc g) Q K : ℝ) : EReal) := by
  pointwise [val_main_v8, val_main_v7, val_main_v6, val_main_v5, val_main_v4, val_main_v3, val_main_v2, val_main_v1, val_main_v0, val_main_cst]
  simp_rw [heads_at, ← EReal.coe_mul]
  rw [coe_sums, eighth_word]
  show _ + (((cc g Q : ℝ) : EReal) - ((cc g K : ℝ) : EReal)) = _
  rw [ ← EReal.coe_mul, ← EReal.coe_sub, ← EReal.coe_add]
  rfl

theorem where_at : val_main_v15_1 (F := Ideal) (ix3 g Q K) = BitVec.ofBool (decide (K ≤ Q)) := by
  pointwise [val_main_v15_1, val_main_v14, val_main_v13, val_main_v12, val_main_v11, val_main_v10, val_main_v9]
  word_cmp
  rfl

theorem mask_at : val_main_v15_0 (F := Ideal) (H q) (H k) (C cc) (ix3 g Q K) = if K ≤ Q then ((Math.logit (q g) (k g) (cc g) Q K : ℝ) : EReal) else ⊥ := by
  pointwise [val_main_v15_0, logit_at, where_at, val_main_call0_v2, val_main_call0_v0, val_main_cst_0]
  exact if_congr Iff.rfl rfl bot_word

theorem max_of (f : FVec Ideal S16x8208x8208 .f32) : (Host.reduce FloatOps.maximumf f (val_main_cst_1 (F := Ideal)) reducesTo_S16x8208x8208_S16x8208_d2 h_S_ : FVec Ideal S16x8208 .f32) (ix2 g Q)
    = Finset.fold max ⊥ (fun x => f (ix3 g Q x)) Finset.univ := by
  pointwise [val_main_cst_1]
  rw [bot_word]

theorem floor_at : val_main_v22 (F := Ideal) (ix2 g Q) = ⊥ := by
  pointwise [val_main_v22, val_main_cst_3]
  exact bot_word

theorem max_at (a0 a1 : FVec Ideal S16x8208x64 .f32) (a3 : FVec Ideal S16x8208 .f32) : val_main_v16 (F := Ideal) a0 a1 a3 (ix2 g Q)
    = Finset.fold max ⊥ (fun x => val_main_v15_0 (F := Ideal) a0 a1 a3 (ix3 g Q x)) Finset.univ :=
  max_of g Q (val_main_v15_0 (F := Ideal) a0 a1 a3)

theorem greatest_at (a0 a1 : FVec Ideal S16x8208x64 .f32) (a3 : FVec Ideal S16x8208 .f32) :
    val_main_v23 (F := Ideal) a0 a1 a3 (ix2 g Q) = val_main_v16 (F := Ideal) a0 a1 a3 (ix2 g Q) := by
  rw [val_main_v23_apply, floor_at]
  exact bot_sup_eq _

theorem max_real : ∃ mx : Fin 16 → Fin 8208 → ℝ, ∀ g Q, val_main_v23 (F := Ideal) (H q) (H k) (C cc) (ix2 g Q) = ((mx g Q : ℝ) : EReal) := by
  have h : ∀ g Q, ∃ r : ℝ, val_main_v23 (F := Ideal) (H q) (H k) (C cc) (ix2 g Q) = (r : EReal) := fun g Q => by
    rw [greatest_at, max_at]
    simp_rw [mask_at]
    refine fold_real _ Q _ (if_pos le_rfl) fun j => ?_
    split_ifs
    · exact EReal.coe_ne_top _
    · exact bot_ne_top
  exact ⟨fun g Q => (h g Q).choose, fun g Q => (h g Q).choose_spec⟩

variable (mx : Fin 16 → Fin 8208 → ℝ) (hmx : ∀ g Q, val_main_v23 (F := Ideal) (H q) (H k) (C cc) (ix2 g Q) = ((mx g Q : ℝ) : EReal))
include hmx

theorem e_at : val_main_v36 (F := Ideal) (H q) (H k) (C cc) (ix3 g Q K) = ((Math.wt (q g) (k g) (cc g) (mx g) Q K : ℝ) : EReal) := by
  pointwise [val_main_v36, val_main_v35, val_main_v34, val_main_v33, mask_at, hmx]
  unfold Math.wt
  split_ifs with h
  · rw [← EReal.coe_sub]; rfl
  · rw [EReal.bot_sub]; rfl

theorem tot_at : val_main_v37 (F := Ideal) (H q) (H k) (C cc) (ix2 g Q) = ((Math.tot (q g) (k g) (cc g) (mx g) Q : ℝ) : EReal) := by
  pointwise [val_main_v37, val_main_cst_9, e_at q k cc _ _ _ mx hmx]
  rw [coe_sums]
  rfl

theorem p_at : val_main_v40 (F := Ideal) (H q) (H k) (C cc) (ix3 g Q K) = ((Math.prob (q g) (k g) (cc g) Q K : ℝ) : EReal) := by
  pointwise [val_main_v40, val_main_v39, val_main_v38, e_at q k cc _ _ _ mx hmx, tot_at q k cc _ _ mx hmx]
  rw [div_real _ _ (Math.tot_pos (q g) (k g) (cc g) (mx g) Q).ne', Math.prob_eq]

omit hmx in
theorem dp_at : val_main_v47 (F := Ideal) (H v) (H w) (ix3 g Q K) = ((Math.dprob (v g) (w g) Q K : ℝ) : EReal) := by
  pointwise [val_main_v47]
  simp_rw [heads_at, ← EReal.coe_mul]
  rw [coe_sums]
  rfl

theorem row_at : val_main_v51 (F := Ideal) (H q) (H k) (H v) (C cc) (H w) (ix2 g Q)
    = ((∑ K, Math.dprob (v g) (w g) Q K * (1 / (Math.tot (q g) (k g) (cc g) (mx g) Q * Math.tot (q g) (k g) (cc g) (mx g) Q))
      * Math.wt (q g) (k g) (cc g) (mx g) Q K : ℝ) : EReal) := by
  have t := (Math.tot_pos (q g) (k g) (cc g) (mx g) Q).ne'
  pointwise [val_main_v51, val_main_cst_11, val_main_v50, val_main_v49, val_main_v48, val_main_v43, val_main_v42, val_main_cst_10, val_main_v41, val_main_v38,
    dp_at, e_at q k cc _ _ _ mx hmx, tot_at q k cc _ _ mx hmx]
  simp_rw [← EReal.coe_mul]
  rw [← EReal.coe_one, div_real _ _ (mul_ne_zero t t)]
  simp_rw [← EReal.coe_mul]
  rw [coe_sums]

theorem ds_at : val_main_v60 (F := Ideal) (H q) (H k) (H v) (C cc) (H w) (ix3 g Q K)
    = ((Math.dlog (q g) (k g) (v g) (w g) (cc g) Q K : ℝ) : EReal) := by
  have t := (Math.tot_pos (q g) (k g) (cc g) (mx g) Q).ne'
  pointwise [val_main_v60, val_main_v59, val_main_v58, val_main_v57, val_main_v56, val_main_v55, val_main_v54, val_main_v53, val_main_v52, val_main_cst_12,
    val_main_v38, dp_at, e_at q k cc _ _ _ mx hmx, tot_at q k cc _ _ mx hmx, row_at q k v w cc _ _ mx hmx, where_at, val_main_v15_2, val_main_call0_cst,
    val_main_call1_v0, val_main_call1_cst]
  rw [Finset.sum_const, Finset.card_univ, Fintype.card_fin, one_smul, div_real _ _ t, ← EReal.coe_neg, ← EReal.coe_add, ← EReal.coe_mul, Math.by_quotient]
  split_ifs with h
  · rfl
  · unfold Math.dlog
    rw [Math.prob_zero _ _ _ _ _ h, zero_mul]
    rfl

theorem dv_at : val_main_v46 (F := Ideal) (H q) (H k) (C cc) (H w) (ix3 g K d) = ((∑ Q, Math.prob (q g) (k g) (cc g) Q K * w g Q d : ℝ) : EReal) := by
  pointwise [val_main_v46, val_main_v45, p_at q k cc _ _ _ mx hmx]
  simp_rw [heads_at, ← EReal.coe_mul]
  rw [coe_sums]
  refine congrArg (fun r : ℝ => (r : EReal)) (Finset.sum_congr rfl fun Q _ => mul_comm _ _)

theorem dc_at : val_main_v68 (F := Ideal) (H q) (H k) (H v) (C cc) (H w) (ix2 g K) = ((-∑ Q, Math.dlog (q g) (k g) (v g) (w g) (cc g) Q K : ℝ) : EReal) := by
  pointwise [val_main_v68, val_main_v67, val_main_v66, val_main_v65, val_main_v64, val_main_v63, val_main_v62, val_main_v61, val_main_cst_13, val_main_cst_14, val_main_cst_15, val_main_cst_16, ds_at q k v w cc _ _ _ mx hmx]
  simp_rw [← EReal.coe_neg, coe_sums]
  rw [← EReal.coe_add]
  refine congrArg (fun r : ℝ => (r : EReal)) ?_
  simp only [Finset.sum_const, Finset.card_univ, Fintype.card_fin, one_smul, Math.dlog_sum, add_zero, Finset.sum_neg_distrib]

theorem dk_at : val_main_v82 (F := Ideal) (H q) (H k) (H v) (C cc) (H w) (ix3 g K d)
    = ((∑ Q, Math.dlog (q g) (k g) (v g) (w g) (cc g) Q K * (q g Q d * (1 / 8 / L2)) : ℝ) : EReal) := by
  pointwise [val_main_v82, val_main_v81, val_main_v80, val_main_cst_20, val_main_v71, val_main_v70, val_main_v69, val_main_cst_17, ds_at q k v w cc _ _ _ mx hmx]
  rw [log_two, eighth_word]
  simp_rw [heads_at, ← EReal.coe_mul]
  rw [coe_sums, div_real _ _ L2_pos.ne', Finset.sum_div]
  refine congrArg (fun r : ℝ => (r : EReal)) (Finset.sum_congr rfl fun Q _ => ?_)
  ring

theorem dq_at : val_main_v76 (F := Ideal) (H q) (H k) (H v) (C cc) (H w) (ix3 g Q d)
    = ((∑ K, Math.dlog (q g) (k g) (v g) (w g) (cc g) Q K * k g K d : ℝ) : EReal) := by
  pointwise [val_main_v76, val_main_v75, val_main_cst_18, val_main_v72, val_main_v70, val_main_v69, val_main_cst_17, ds_at q k v w cc _ _ _ mx hmx]
  rw [eighth_word, eight_word]
  simp_rw [heads_at, ← EReal.coe_mul]
  rw [coe_sums, ← EReal.coe_mul, Finset.sum_mul]
  refine congrArg (fun r : ℝ => (r : EReal)) (Finset.sum_congr rfl fun Q _ => ?_)
  ring
end Cert.AttnBwd.Ref
end
-- ==== Proof.AttnOut.lean ====
module
public import proofs.«01_k».proof.Proof.AttnRef
@[expose] public section
set_option maxRecDepth 16384
noncomputable section
open Idealize.ShloMosaic Idealize.ShloMosaic.TcCoe Idealize.SL.Sem
namespace Cert.AttnBwd.Ref
open Cert.AttnBwdRefIdeal Cert.AttnBwdRefIdeal.Gen Cert.AttnBwdRefIdeal.Read

/-! ## The reference's results in the kernel's layout -/

variable (q k v w : Fin 16 → Fin 8208 → Fin 64 → ℝ) (cc : Fin 16 → Fin 8208 → ℝ) (R : Fin 8448) (x : Fin 1024)
  (mx : Fin 16 → Fin 8208 → ℝ) (hmx : ∀ g Q, val_main_v23 (F := Ideal) (H q) (H k) (C cc) (ix2 g Q) = ((mx g Q : ℝ) : EReal))

theorem pad_at (f : FVec Ideal S16x8208x64 .f32) (z : FVec Ideal S_ .f32) (hz : ∀ i, z i = 0) (g : Fin 16) (d : Fin 64) (r : Fin 8208 → ℝ)
    (hf : ∀ Q, f (ix3 g Q d) = ((r Q : ℝ) : EReal)) :
    (pad S16x8448x64 ![0, 240, 0] ![0, 0, 0] ![0, 0, 0] f z pads_S16x8208x64_S16x8448x64_000_24000_000 h_S_ : FVec Ideal S16x8448x64 .f32) (ix3 g R d) = ((lift r R : ℝ) : EReal) := by
  unfold lift
  split_ifs with h
  · refine (pad_apply_of_inside (k := ix3 g ⟨R.val - 240, by omega⟩ d) _ _ _ _ _ _ _ _ fun a => ?_).trans (hf _)
    fin_cases a
    · show g.val = 0 + g.val * (0 + 1); omega
    · show R.val = 240 + (R.val - 240) * (0 + 1); omega
    · show d.val = 0 + d.val * (0 + 1); omega
  · refine (pad_apply_of_not_inside (a := 1) _ _ _ _ _ _ _ _ fun hh => h hh.1).trans ?_
    exact hz _

theorem zero3 (i : S_.Idx) : val_main_call3_v0 (F := Ideal) i = 0 := zero_int'
theorem zero4 (i : S_.Idx) : val_main_call4_v0 (F := Ideal) i = 0 := zero_int'
theorem zero5 (i : S_.Idx) : val_main_call5_v0 (F := Ideal) i = 0 := zero_int'
theorem zero2 (i : S_.Idx) : val_main_call2_v0 (F := Ideal) i = 0 := zero_int'

theorem flat_dq (a0 a1 a2 a4 : FVec Ideal S16x8208x64 .f32) (a3 : FVec Ideal S16x8208 .f32) :
    val_main_v79 (F := Ideal) a0 a1 a2 a3 a4 (ix2 R x) = val_main_v77 (F := Ideal) a0 a1 a2 a3 a4 (ix3 (hof x) R (cof x)) := by
  unfold val_main_v79 val_main_v78
  generalize val_main_v77 (F := Ideal) a0 a1 a2 a3 a4 = f
  pointwise [hof, cof]
theorem flat_dk (a0 a1 a2 a4 : FVec Ideal S16x8208x64 .f32) (a3 : FVec Ideal S16x8208 .f32) :
    val_main_v85 (F := Ideal) a0 a1 a2 a3 a4 (ix2 R x) = val_main_v83 (F := Ideal) a0 a1 a2 a3 a4 (ix3 (hof x) R (cof x)) := by
  unfold val_main_v85 val_main_v84
  generalize val_main_v83 (F := Ideal) a0 a1 a2 a3 a4 = f
  pointwise [hof, cof]
theorem flat_dv (a0 a1 a4 : FVec Ideal S16x8208x64 .f32) (a3 : FVec Ideal S16x8208 .f32) :
    val_main_v88 (F := Ideal) a0 a1 a3 a4 (ix2 R x) = val_main_v86 (F := Ideal) a0 a1 a3 a4 (ix3 (hof x) R (cof x)) := by
  unfold val_main_v88 val_main_v87
  generalize val_main_v86 (F := Ideal) a0 a1 a3 a4 = f
  pointwise [hof, cof]

include hmx

theorem out_dq : val_main_v79 (F := Ideal) (H q) (H k) (H v) (C cc) (H w) (ix2 R x)
    = ((lift (fun Q => ∑ K, Math.dlog (q (hof x)) (k (hof x)) (v (hof x)) (w (hof x)) (cc (hof x)) Q K * k (hof x) K (cof x)) R : ℝ) : EReal) :=
  (flat_dq R x _ _ _ _ _).trans (pad_at R _ _ zero3 _ _ _ fun Q => dq_at q k v w cc _ Q _ mx hmx)
theorem out_dk : val_main_v85 (F := Ideal) (H q) (H k) (H v) (C cc) (H w) (ix2 R x)
    = ((lift (fun K => ∑ Q, Math.dlog (q (hof x)) (k (hof x)) (v (hof x)) (w (hof x)) (cc (hof x)) Q K * (q (hof x) Q (cof x) * (1 / 8 / L2))) R : ℝ) : EReal) :=
  (flat_dk R x _ _ _ _ _).trans (pad_at R _ _ zero4 _ _ _ fun K => dk_at q k v w cc _ K _ mx hmx)
theorem out_dv : val_main_v88 (F := Ideal) (H q) (H k) (C cc) (H w) (ix2 R x)
    = ((lift (fun K => ∑ Q, Math.prob (q (hof x)) (k (hof x)) (cc (hof x)) Q K * w (hof x) Q (cof x)) R : ℝ) : EReal) :=
  (flat_dv R x _ _ _ _).trans (pad_at R _ _ zero5 _ _ _ fun K => dv_at q k w cc _ K _ mx hmx)

theorem pairs_at (p : Fin 8) (h : Fin 2) (K : Fin 8208) : val_main_v73 (F := Ideal) (H q) (H k) (H v) (C cc) (H w) (ix3 p h K)
    = ((-∑ Q, Math.dlog (q (gof p h)) (k (gof p h)) (v (gof p h)) (w (gof p h)) (cc (gof p h)) Q K : ℝ) : EReal) := by
  rw [← dc_at q k v w cc (gof p h) K mx hmx]
  unfold val_main_v73
  generalize val_main_v68 (F := Ideal) (H q) (H k) (H v) (C cc) (H w) = f
  pointwise
  refine congrArg f (congrArg (fun a => ix2 a K) (Fin.ext ?_))
  show p.val * 2 + h.val = 2 * p.val + h.val
  omega

theorem out_dc (p b : Fin 8) : val_main_v74 (F := Ideal) (H q) (H k) (H v) (C cc) (H w) (ix3 p b R) = if hb : b.val < 2 then
    ((lift (fun K => -∑ Q, Math.dlog (q (gof p ⟨b.val, hb⟩)) (k (gof p ⟨b.val, hb⟩)) (v (gof p ⟨b.val, hb⟩)) (w (gof p ⟨b.val, hb⟩)) (cc (gof p ⟨b.val, hb⟩)) Q K) R : ℝ) : EReal)
    else 0 := by
  unfold val_main_v74 lift
  split_ifs with hb h
  · refine (pad_apply_of_inside (k := ix3 p ⟨b.val, hb⟩ ⟨R.val - 240, by omega⟩) _ _ _ _ _ _ _ _ fun a => ?_).trans (pairs_at q k v w cc mx hmx p ⟨b.val, hb⟩ _)
    fin_cases a
    · show p.val = 0 + p.val * (0 + 1); omega
    · show b.val = 0 + b.val * (0 + 1); omega
    · show R.val = 240 + (R.val - 240) * (0 + 1); omega
  · refine (pad_apply_of_not_inside (a := 2) _ _ _ _ _ _ _ _ fun hh => h hh.1).trans ?_
    exact zero2 _
  · refine (pad_apply_of_not_inside (a := 1) _ _ _ _ _ _ _ _ fun hh => hb ?_).trans (zero2 _)
    have := hh.2.2
    change (b.val - 0) / (0 + 1) < 2 at this
    omega
end Cert.AttnBwd.Ref
end
-- ==== Proof.AttnValue.lean ====
module
public import proofs.«01_k».proof.Proof.AttnOut
public import proofs.«01_k».proof.Proof.AttnFin
public import proofs.«01_k».proof.Defs
@[expose] public section
set_option maxRecDepth 16384
noncomputable section
open Idealize.ShloMosaic Idealize.ShloMosaic.TcCoe Idealize.SL.Sem
namespace Cert.AttnBwdIdeal.Results
open Cert.AttnBwdIdeal.Gen
open Cert.AttnBwd (Heads Rows ofHeads ofRows A0 A1 A2 A3 A4 Real5 m_real eta2 final_dq final_dk final_dv final_dc dq_at dk_at dv_at dc_at)

/-! ## The kernel's results are the reference's on finite arguments -/

theorem below_inf {a : EReal} (h : FloatOps.cmpf (F := Ideal) (φ := .f32) .olt (max a (-a)) (Ideal.ofBits FTy.f32 0x7F800000#32) = 1#1) : ∃ r : ℝ, a = (r : EReal) := by
  have lt : max a (-a) < Ideal.ofBits FTy.f32 0x7F800000#32 := by
    by_contra n
    simp [FloatOps.cmpf, Ideal.cmp, n] at h
  have top : Ideal.ofBits FTy.f32 0x7F800000#32 = ⊤ := by simp [Ideal.ofBits, Ideal.ieee]
  rw [top] at lt
  obtain ⟨l, r⟩ := max_lt_iff.mp lt
  refine ⟨a.toReal, (EReal.coe_toReal l.ne ?_).symm⟩
  rintro rfl
  simp at r

theorem eta3 {a b c : ℕ} (x : (⟨3, ![a, b, c]⟩ : Shape).Idx) : x = ix3 (x 0) (x 1) (x 2) := by funext i; fin_cases i <;> rfl

theorem heads_of (a : Heads) (z : FVec Ideal S16x8208x64 .f32) (hz : ∀ i, z i = Ideal.ofBits FTy.f32 0x7F800000#32)
    (h : ∀ i, cmpf .olt (Host.absf a) z i = 1#1) : ∃ q, a = ofHeads q := by
  have e : ∀ i, ∃ r : ℝ, a i = (r : EReal) := fun i => below_inf (by
    have := h i
    rw [← hz i]
    exact this)
  refine ⟨fun g Q d => (e (ix3 g Q d)).choose, funext fun i => ?_⟩
  rw [eta3 i]
  exact (e _).choose_spec

theorem rows_of (a : Rows) (z : FVec Ideal S16x8208 .f32) (hz : ∀ i, z i = Ideal.ofBits FTy.f32 0x7F800000#32)
    (h : ∀ i, cmpf .olt (Host.absf a) z i = 1#1) : ∃ q, a = ofRows q := by
  have e : ∀ i, ∃ r : ℝ, a i = (r : EReal) := fun i => below_inf (by
    have := h i
    rw [← hz i]
    exact this)
  refine ⟨fun g Q => (e (ix2 g Q)).choose, funext fun i => ?_⟩
  rw [eta2 i]
  exact (e _).choose_spec

variable (m : (ℓ : Loc nD τ sig) → Buf (Elt Ideal) ℓ) (c : Dev nD)

theorem reals [Cert.Pre_attn_finite.Facts] (h : Pre_AttnBwdIdeal_attn_finite m) : ∃ q k v w cc mu, Real5 m c q k v w cc mu := by
  obtain ⟨h0, h1, h2, h3, h4⟩ := h c
  obtain ⟨q, hq⟩ := heads_of (A0 m c) _ (fun _ => rfl) (congrFun h0)
  obtain ⟨k, hk⟩ := heads_of (A1 m c) _ (fun _ => rfl) (congrFun h1)
  obtain ⟨v, hv⟩ := heads_of (A2 m c) _ (fun _ => rfl) (congrFun h2)
  obtain ⟨cc, hc⟩ := rows_of (A3 m c) _ (fun _ => rfl) (congrFun h3)
  obtain ⟨w, hw⟩ := heads_of (A4 m c) _ (fun _ => rfl) (congrFun h4)
  obtain ⟨mu, hmu⟩ := m_real q k cc
  exact ⟨q, k, v, w, cc, mu, hq, hk, hv, hc, hw, hmu⟩

/-- The four arrays the region leaves are the reference's results of the arguments. -/
theorem values [Cert.Pre_attn_finite.Facts] (h : Pre_AttnBwdIdeal_attn_finite m) :
    (dats m 0 c).arrAt 8 cfg0.N = Cert.AttnBwdRefIdeal.Read.val_main_v79 (F := Ideal) (A0 m c) (A1 m c) (A2 m c) (A3 m c) (A4 m c)
    ∧ (dats m 0 c).arrAt 9 cfg0.N = Cert.AttnBwdRefIdeal.Read.val_main_v85 (F := Ideal) (A0 m c) (A1 m c) (A2 m c) (A3 m c) (A4 m c)
    ∧ (dats m 0 c).arrAt 10 cfg0.N = Cert.AttnBwdRefIdeal.Read.val_main_v88 (F := Ideal) (A0 m c) (A1 m c) (A3 m c) (A4 m c)
    ∧ (dats m 0 c).arrAt 11 cfg0.N = Cert.AttnBwdRefIdeal.Read.val_main_v74 (F := Ideal) (A0 m c) (A1 m c) (A2 m c) (A3 m c) (A4 m c) := by
  obtain ⟨q, k, v, w, cc, mu, A⟩ := reals m c h
  obtain ⟨mx, hmx⟩ := Cert.AttnBwd.Ref.max_real q k cc
  rw [A.h0, A.h1, A.h2, A.h3, A.h4]
  refine ⟨?_, ?_, ?_, ?_⟩
  · refine (final_dq m c).trans (funext fun (x : S8448x1024.Idx) => ?_)
    rw [eta2 x]
    exact (dq_at A _ _).trans (Cert.AttnBwd.Ref.out_dq q k v w cc _ _ mx hmx).symm
  · refine (final_dk m c).trans (funext fun (x : S8448x1024.Idx) => ?_)
    rw [eta2 x]
    exact (dk_at A _ _).trans (Cert.AttnBwd.Ref.out_dk q k v w cc _ _ mx hmx).symm
  · refine (final_dv m c).trans (funext fun (x : S8448x1024.Idx) => ?_)
    rw [eta2 x]
    exact (dv_at A _ _).trans (Cert.AttnBwd.Ref.out_dv q k w cc _ _ mx hmx).symm
  · refine (final_dc m c).trans (funext fun (x : S8x8x8448.Idx) => ?_)
    rw [eta3 x]
    exact (dc_at A _ _ _).trans (Cert.AttnBwd.Ref.out_dc q k v w cc _ mx hmx _ _).symm
end Cert.AttnBwdIdeal.Results
end
-- ==== Proof.RmsRow.lean ====
/- The gradient of one row's root-mean-square norm, as a function of the row, the gain and the cotangent. -/
module
public import Idealize.ShloMosaic.Lib.Pipeline.ValueKit
public import Idealize.ShloMosaic.Lib.Claim
@[expose] public section
noncomputable section
open Idealize.ShloMosaic
namespace Cert.RmsRow

/-- The mean square of a row of 1024, with the norm's epsilon. -/
def ms (x : Fin 1024 → EReal) : EReal :=
  Ideal.div (∑ k, x k * x k) (Ideal.ofBits FTy.f32 0x44800000#32) + Ideal.ofBits FTy.f32 0x358637BD#32
def rs (x : Fin 1024 → EReal) : EReal := Ideal.rsqrt (ms x)

/-- What the row's mean square hands back to each of its entries, once per factor of the square; `d` the cotangent times the gain. -/
def back (x d : Fin 1024 → EReal) : EReal :=
  ∑ _ : Fin 1, Ideal.div ((∑ k, x k * d k) * (Ideal.ofBits FTy.f32 0xBF000000#32 * Ideal.div (rs x) (ms x))) (Ideal.ofBits FTy.f32 0x44800000#32)
def dx (x g y : Fin 1024 → EReal) (q : Fin 1024) : EReal :=
  y q * g q * rs x + x q * back x (fun k => y k * g k) + back x (fun k => y k * g k) * x q
def dg (x y : Fin 1024 → EReal) (q : Fin 1024) : EReal := x q * rs x * y q

theorem eta2 {a b : ℕ} (x : (⟨2, ![a, b]⟩ : Shape).Idx) : x = ix2 (x 0) (x 1) := by funext i; fin_cases i <;> rfl
theorem eta1 {b : ℕ} (x : (⟨2, ![1, b]⟩ : Shape).Idx) : x = ix2 0 (x 1) := by
  funext i; fin_cases i
  · exact Subsingleton.elim (α := Fin 1) _ _
  · rfl

end Cert.RmsRow
end
-- ==== Proof.FfnInValue.lean ====
/- The value of the feed-forward input's backward call. -/
module
public import proofs.«01_k».proof.Proof.Gen.FfnInIdeal.Value
public import proofs.«01_k».proof.Proof.Gen.FfnInRefIdeal.Run
public import proofs.«01_k».proof.Proof.Gen.FfnInRefIdeal.Read
public import proofs.«01_k».proof.Proof.RmsRow
@[expose] public section
set_option maxRecDepth 16384
noncomputable section
namespace Cert.FfnInIdeal.Result
open Idealize.ShloMosaic Idealize.ShloMosaic.TcCoe Idealize.SL.Sem
open Idealize.ShloMosaic.Pipeline (Dat)
open Cert.FfnInIdeal Cert.FfnInIdeal.Gen

/-- Row `r` of the cotangent times the transposed weight. -/
def part {n : ℕ} (y : FVec Ideal ⟨2, ![n, 5632]⟩ .f32) (w : FVec Ideal S1024x5632 .f32) (r : Fin n) (q : Fin 1024) : EReal :=
  ∑ k : Fin 5632, y (ix2 r k) * w (ix2 q k)

section
open Cert.FfnInRefIdeal.Read
variable (a0 : FVec Ideal S8448x1024 .f32) (a1 : FVec Ideal S1024 .f32) (a2 : FVec Ideal S1024x5632 .f32)
  (a3 : FVec Ideal S8448x1024 .f32) (a4 : FVec Ideal S8448x5632 .f32) (r : Fin 8448) (q : Fin 1024)

theorem ref_dx : val_main_v38 (F := Ideal) a0 a1 a2 a3 a4 (ix2 r q)
    = RmsRow.dx (fun k => a0 (ix2 r k)) (fun k => a1 (ix1 k)) (part a4 a2 r) q + a3 (ix2 r q) := by
  have e : ∀ a b c d : EReal, a + b + c + d = b + c + d + a := fun a b c d => by rw [add_assoc a b c, add_assoc a, add_comm a]
  refine Eq.trans ?_ (e _ _ _ _)
  pointwise [val_main_v38, val_main_v37, val_main_v36, val_main_v35, val_main_v34, val_main_v33, val_main_v32, val_main_v31, val_main_v30, val_main_v29, val_main_v28, val_main_v27, val_main_v26, val_main_v25, val_main_v24, val_main_v22, val_main_v21, val_main_v17, val_main_v13, val_main_v10, val_main_v9, val_main_v8, val_main_v7, val_main_v6, val_main_v5, val_main_v4, val_main_v3, val_main_v2, val_main_v1, val_main_v0, val_main_cst, val_main_cst_0, val_main_cst_1, val_main_cst_2, val_main_cst_5, val_main_cst_6, val_main_cst_7, RmsRow.ms, RmsRow.rs, RmsRow.dx, RmsRow.back, part]

theorem ref_dg : val_main_v40 (F := Ideal) a0 a2 a4 (ix2 0 q) = ∑ r, RmsRow.dg (fun k => a0 (ix2 r k)) (part a4 a2 r) q := by
  pointwise [val_main_v40, val_main_v23, val_main_v20, val_main_v19, val_main_v18, val_main_v12, val_main_v11, val_main_v17, val_main_v7, val_main_v6, val_main_v5, val_main_v4, val_main_v3, val_main_v2, val_main_v1, val_main_v0, val_main_cst, val_main_cst_0, val_main_cst_1, val_main_cst_3, val_main_cst_4, RmsRow.ms, RmsRow.rs, RmsRow.dg, part]
  exact Fin.sum_univ_one _
end

section
variable (v3 : FVec Ideal S384x5632 .bf16) (v5 : FVec Ideal S1024x5632 .bf16) (v8 v44 : FVec Ideal S384x1024 .f32) (v9 : FVec Ideal S1x1024 .f32)
  (r : Fin 384) (q : Fin 1024)

theorem pay_dx : k0_pay1 (F := Ideal) v8 (k0_pay10 v3 v5 v8 v9) (k0_pay11 v3 v5 v8 v9) v44 (ix2 r q)
    = RmsRow.dx (fun k => v8 (ix2 r k)) (fun k => v9 (ix2 0 k)) (part v3 v5 r) q + v44 (ix2 r q) := by
  pointwise [k0_pay1, k0_pay10, k0_pay11, k0_pay9, k0_pay7, k0_pay6, k0_pay5, RmsRow.dx, RmsRow.ms, RmsRow.rs, RmsRow.back, part]

theorem pay_dg (acc : FVec Ideal S1x1024 .f32) : k0_pay3 (F := Ideal) (k0_pay8 v3 v5 v8) acc (ix2 0 q)
    = acc (ix2 0 q) + ∑ r, RmsRow.dg (fun k => v8 (ix2 r k)) (part v3 v5 r) q := by
  pointwise [k0_pay3, k0_pay8, k0_pay7, k0_pay6, k0_pay5, RmsRow.dg, RmsRow.ms, RmsRow.rs, part]
end

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![t.val, 0]
    ∧ win0_7.index t = ![0, 0] :=
  (by decide +kernel : ∀ t : Fin grid0.N, _)

def A0 : FVec Ideal S8448x1024 .f32 := m ((c : Thread nD τ).loc main_arg0)
def A1 : FVec Ideal S1024 .f32 := m ((c : Thread nD τ).loc main_arg1)
def A2 : FVec Ideal S1024x5632 .f32 := m ((c : Thread nD τ).loc main_arg2)
def A3 : FVec Ideal S8448x1024 .f32 := m ((c : Thread nD τ).loc main_arg3)
def A4 : FVec Ideal S8448x5632 .f32 := m ((c : Thread nD τ).loc main_arg4)

/-- The array row of row `r` of tile `t`. -/
def row (t : Fin cfg0.N) (r : Fin 384) : Fin 8448 := ⟨t.val * 384 + r.val, by have h : t.val < 22 := lt_of_lt_of_eq t.isLt N_0; omega⟩

variable (t : Fin cfg0.N) (r : Fin 384) (q : Fin 1024)

theorem y_blk (k : Fin 5632) : (iblk m c 0 t : FVec Ideal S384x5632 .bf16) (ix2 r k) = A4 m c (ix2 (row t r) k) := by
  unfold A4
  refine Eq.trans (b := (V m c main_v0 : FVec Ideal S8448x5632 .bf16) (ix2 (row t r) k)) ?_ ?_
  · blk_ext [iblk, row, idx t]
  · entry_read
    pointwise []

theorem w_blk (k : Fin 5632) : (iblk m c 1 t : FVec Ideal S1024x5632 .bf16) (ix2 q k) = A2 m c (ix2 q k) := by
  unfold A2
  refine Eq.trans (b := (V m c main_v1 : FVec Ideal S1024x5632 .bf16) (ix2 q k)) ?_ ?_
  · blk_ext [iblk, idx t]
  · entry_read
    pointwise []

theorem x_blk : (iblk m c 2 t : FVec Ideal S384x1024 .f32) (ix2 r q) = A0 m c (ix2 (row t r) q) := by
  unfold row A0
  blk_point [iblk, V, idx t]

theorem g_blk : (iblk m c 3 t : FVec Ideal S1x1024 .f32) (ix2 0 q) = A1 m c (ix1 q) := by
  unfold A1
  refine Eq.trans (b := (V m c main_v2 : FVec Ideal S1x1024 .f32) (ix2 0 q)) ?_ ?_
  · blk_ext [iblk, idx t]
  · entry_read
    pointwise []

theorem d_blk : (iblk m c 4 t : FVec Ideal S384x1024 .f32) (ix2 r q) = A3 m c (ix2 (row t r) q) := by
  unfold row A3
  blk_point [iblk, V, idx t]

theorem part_blk : part (n := 384) (iblk m c 0 t) (iblk m c 1 t) r = part (A4 m c) (A2 m c) (row t r) :=
  funext fun q => Finset.sum_congr rfl fun k _ => by rw [y_blk, w_blk]

theorem dx_pt : k0_pay1 (F := Ideal) (iblk m c 2 t) (k0_pay10 (iblk m c 0 t) (iblk m c 1 t) (iblk m c 2 t) (iblk m c 3 t))
      (k0_pay11 (iblk m c 0 t) (iblk m c 1 t) (iblk m c 2 t) (iblk m c 3 t)) (iblk m c 4 t) (ix2 r q)
    = Cert.FfnInRefIdeal.Read.val_main_v38 (F := Ideal) (A0 m c) (A1 m c) (A2 m c) (A3 m c) (A4 m c) (ix2 (row t r) q) := by
  rw [ref_dx, pay_dx, part_blk, d_blk]
  simp only [x_blk, g_blk]

theorem dx_after : (outsAt0 m c t.val t.isLt).1 (ix2 r q)
    = Cert.FfnInRefIdeal.Read.val_main_v38 (F := Ideal) (A0 m c) (A1 m c) (A2 m c) (A3 m c) (A4 m c) (ix2 (row t r) q) := by
  rw [← dx_pt]
  by_cases h : t.val % 22 = 0
  · rw [outsAt0_A m c t h]; frame_out
  · rw [outsAt0_B m c t h]; frame_out

theorem acc_dg (v3 : FVec Ideal S384x5632 .bf16) (v5 : FVec Ideal S1024x5632 .bf16) (v8 : FVec Ideal S384x1024 .f32) (acc : FVec Ideal S1x1024 .f32)
    (j : S1x1024.Idx) : k0_pay3 (F := Ideal) (k0_pay8 v3 v5 v8) acc j
    = acc j + ∑ r, RmsRow.dg (fun k => v8 (ix2 r k)) (part v3 v5 r) (j 1) := by
  obtain ⟨q, rfl⟩ : ∃ q, j = ix2 0 q := ⟨_, RmsRow.eta1 j⟩
  exact pay_dg v3 v5 v8 q acc

theorem zero_fill (j : S1x1024.Idx) : k0_pay4 (F := Ideal) j = 0 := by pointwise [k0_pay4]

theorem final_dx : (dats m 0 c).arrAt 5 (cfgs 0).N
    = Cert.FfnInRefIdeal.Read.val_main_v38 (F := Ideal) (A0 m c) (A1 m c) (A2 m c) (A3 m c) (A4 m c) := by
  refine (dats m 0 c).arrAt_eq_of_covers 5 _ (by decide +kernel) fun t hf y => ?_
  blk_simp; rw [after0_5]
  refine (congrArg _ (RmsRow.eta2 (a := 384) (b := 1024) y)).trans ((dx_after m c t (y 0) (y 1)).trans (congrArg _ ?_))
  blk_ext [row, idx t]

theorem final_dg : (dats m 0 c).arrAt 7 (cfgs 0).N
    = Cert.FfnInRefIdeal.Read.val_main_v40 (F := Ideal) (A0 m c) (A2 m c) (A4 m c) := by
  refine (dats m 0 c).arrAt_eq_of_covers 7 _ (by decide +kernel) fun t hf y => ?_
  blk_simp
  rw [after0_7, Pipeline.eq_sum_fin_of_reset_step_apply_of_flush (fun n h => (outsAt0 m c n h).2.2) 22 (fun _ => 0) _
    (fun t h j => by rw [outsAt0_A m c t h]; frame_out; rw [acc_dg, zero_fill]) (fun t h j => by rw [outsAt0_B m c t h]; frame_out; rw [acc_dg])
    t ((flush0_7 t).mp hf) _, zero_add]
  have ex : (win0_7.blk t).view.emb y = ix2 0 (y 1) := by blk_ext [idx t]
  rw [ex]
  refine Eq.trans ?_ (ref_dg _ _ _ _).symm
  refine Fin.sum_mul_add_congr fun s k hl => ?_
  rw [part_blk]
  simp only [x_blk]
  have e : ∀ hs, row ⟨22 * (t.val / 22) + s.val, hs⟩ k = ⟨s.val * 384 + k.val, hl⟩ := fun hs => Fin.ext (by
    have ht : t.val < 22 := lt_of_lt_of_eq t.isLt N_0
    show (22 * (t.val / 22) + s.val) * 384 + k.val = s.val * 384 + k.val
    omega)
  rw [e]

theorem dxb_after : (outsAt0 m c t.val t.isLt).2.1 (ix2 r q)
    = Cert.FfnInRefIdeal.Read.val_main_v38 (F := Ideal) (A0 m c) (A1 m c) (A2 m c) (A3 m c) (A4 m c) (ix2 (row t r) q) := by
  rw [← dx_pt]
  by_cases h : t.val % 22 = 0
  · rw [outsAt0_A m c t h]; frame_out; rfl
  · rw [outsAt0_B m c t h]; frame_out; rfl

theorem final_dxb : (dats m 0 c).arrAt 6 (cfgs 0).N
    = Cert.FfnInRefIdeal.Read.val_main_v39 (F := Ideal) (A0 m c) (A1 m c) (A2 m c) (A3 m c) (A4 m c) := by
  refine (dats m 0 c).arrAt_eq_of_covers 6 _ (by decide +kernel) fun t hf y => ?_
  blk_simp; rw [after0_6]
  refine (congrArg _ (RmsRow.eta2 (a := 384) (b := 1024) y)).trans ((dxb_after m c t (y 0) (y 1)).trans (congrArg _ ?_))
  blk_ext [row, idx t]
end Cert.FfnInIdeal.Result
end
-- ==== Proof.LossValue.lean ====
/- The value of the final norm and loss, with its gradients. -/
module
public import proofs.«01_k».proof.Proof.Gen.LossIdeal.Value
public import proofs.«01_k».proof.Proof.Gen.LossRefIdeal.Run
public import proofs.«01_k».proof.Proof.Gen.LossRefIdeal.Read
public import proofs.«01_k».proof.Proof.RmsRow
public import Idealize.ShloMosaic.Lib.KernelVsHost
public import Idealize.ShloMosaic.Lib.Claim
public import Idealize.ShloMosaic.Lib.StableHlo.RunRead
@[expose] public section
set_option maxRecDepth 16384
noncomputable section
namespace Cert.LossIdeal.Result
open Idealize.ShloMosaic Idealize.ShloMosaic.TcCoe Idealize.SL.Sem
open Idealize.ShloMosaic.Pipeline (Dat)
open Cert.LossIdeal Cert.LossIdeal.Gen

/-- The normed row against its target. -/
def err (x g t : Fin 1024 → EReal) (q : Fin 1024) : EReal := x q * RmsRow.rs x * g q - t q

/-- The row's mean square error. -/
def sq (x g t : Fin 1024 → EReal) : EReal :=
  Ideal.div (∑ k, err x g t k * err x g t k) (Ideal.ofBits FTy.f32 0x44800000#32)

/-- The loss's gradient with respect to the normed row. -/
def cot (x g t : Fin 1024 → EReal) (q : Fin 1024) : EReal :=
  Ideal.div (Ideal.ofBits FTy.f32 0x3F000000#32 * Ideal.ofBits FTy.f32 0x3F800000#32) (Ideal.ofBits FTy.f32 0x44800000#32)
    * (Ideal.ofBits FTy.f32 0x40000000#32 * err x g t q)

theorem two_word : Ideal.ofBits FTy.f32 0x40000000#32 = 1 + 1 := by
  have e : Ideal.ofBits FTy.f32 0x40000000#32 = ((2 : ℝ) : EReal) := by
    simp [Ideal.ofBits, Ideal.ieee]
    rw [← EReal.coe_mul]; congr 1; norm_num
  rw [e, one_add_one_eq_two]; rfl

theorem half_word : Ideal.ofBits FTy.f32 0x3F000000#32 = ((1 / 2 : ℝ) : EReal) := by
  simp [Ideal.ofBits, Ideal.ieee]
  rw [← EReal.coe_mul]; congr 1; norm_num

theorem kilo_word : Ideal.ofBits FTy.f32 1149239296#32 = ((1024 : ℝ) : EReal) := by
  simp [Ideal.ofBits, Ideal.ieee]
  rw [← EReal.coe_mul]; congr 1; norm_num

theorem zero_word : Ideal.ofBits FTy.f32 0x00000000#32 = 0 := by simp [Ideal.ofBits, Ideal.ieee]

theorem twice (c e : EReal) : e * c + c * e = c * (Ideal.ofBits FTy.f32 0x40000000#32 * e) := by
  rw [two_word, mul_left_comm, EReal.right_distrib_of_nonneg zero_le_one zero_le_one, one_mul, mul_comm e c]

section
open Cert.LossRefIdeal.Read
variable (a0 : FVec Ideal S8208x1024 .f32) (a1 : FVec Ideal S1024 .f32) (a2 : FVec Ideal S8192x1024 .f32) (q : Fin 1024)

/-- The gradient with respect to row `i` of the normed array. -/
def cots (i : Fin 8208) : Fin 1024 → EReal := fun q => val_main_v32 (F := Ideal) a0 a1 a2 (ix2 i q)

theorem cots_meta (i : Fin 8208) (h : i.val < 16) : cots a0 a1 a2 i = fun _ => 0 := by
  funext q
  unfold cots val_main_v32
  refine (pad_apply_of_not_inside (a := 0) _ _ _ _ _ _ _ _ fun hn => ?_).trans ?_
  · exact absurd hn.1 (show ¬ 16 ≤ i.val by omega)
  · exact zero_word

theorem cots_real (j : Fin 8192) (i : Fin 8208) (h : i.val = 16 + j.val) : cots a0 a1 a2 i
    = cot (fun k => a0 (ix2 i k)) (fun k => a1 (ix1 k)) (fun k => a2 (ix2 j k)) := by
  obtain ⟨i, hi⟩ := i
  obtain rfl : i = 16 + j.val := h
  funext q
  unfold cots val_main_v32
  refine (pad_apply_of_inside (k := ix2 j q) _ _ _ _ _ _ _ _ fun a => ?_).trans ?_
  · fin_cases a
    · show 16 + j.val = 16 + j.val * (0 + 1); omega
    · show q.val = 0 + q.val * (0 + 1); omega
  · pointwise [val_main_v31, val_main_v30, val_main_v29, val_main_v27, val_main_v26, val_main_cst_8, val_main_cst_9, val_main_v28, val_main_cst_10, val_main_v20, val_main_v19, val_main_cst_3, val_main_v17, val_main_v16, val_main_v15, val_main_v12, val_main_v11, val_main_v7, val_main_v6, val_main_v4, val_main_v2, val_main_v1, val_main_v0, val_main_cst, val_main_v3, val_main_cst_0, val_main_v5, val_main_cst_1, val_main_v14, val_main_v13, cot, err, RmsRow.rs, RmsRow.ms]

theorem ref_dx (i : Fin 8208) : val_main_v52 (F := Ideal) a0 a1 a2 (ix2 i q)
    = RmsRow.dx (fun k => a0 (ix2 i k)) (fun k => a1 (ix1 k)) (cots a0 a1 a2 i) q := by
  unfold cots
  pointwise [val_main_v52, val_main_v50, val_main_v43, val_main_v37, val_main_v36, val_main_v13, val_main_v42, val_main_v7, val_main_v6, val_main_v4, val_main_v2, val_main_v1, val_main_v0, val_main_cst, val_main_v3, val_main_cst_0, val_main_v5, val_main_cst_1, val_main_v49, val_main_v48, val_main_v47, val_main_v46, val_main_v44, val_main_v41, val_main_v40, val_main_v39, val_main_cst_14, val_main_v10, val_main_v9, val_main_cst_2, val_main_v8, val_main_v45, val_main_cst_15, val_main_cst_16, val_main_v51, RmsRow.dx, RmsRow.back, RmsRow.rs, RmsRow.ms]

theorem ref_dg : val_main_v56 (F := Ideal) a0 a1 a2 (ix2 0 q)
    = ∑ i, RmsRow.dg (fun k => a0 (ix2 i k)) (cots a0 a1 a2 i) q := by
  unfold cots
  pointwise [val_main_v56, val_main_v38, val_main_v35, val_main_v34, val_main_v33, val_main_v12, val_main_v11, val_main_v7, val_main_v6, val_main_v4, val_main_v2, val_main_v1, val_main_v0, val_main_cst, val_main_v3, val_main_cst_0, val_main_v5, val_main_cst_1, val_main_cst_12, val_main_cst_13, RmsRow.dg, RmsRow.rs, RmsRow.ms]
  exact Fin.sum_univ_one _

theorem ref_row_early (R : Fin 8448) (h : R.val < 256) : val_main_v53 (F := Ideal) a0 a1 a2 (ix2 R q) = 0 := by
  unfold val_main_v53
  by_cases h' : 240 ≤ R.val
  · refine (pad_apply_of_inside (k := ix2 ⟨R.val - 240, by omega⟩ q) _ _ _ _ _ _ _ _ fun a => ?_).trans ?_
    · fin_cases a
      · show R.val = 240 + (R.val - 240) * (0 + 1); omega
      · show q.val = 0 + q.val * (0 + 1); omega
    · rw [ref_dx, cots_meta _ _ _ _ (show R.val - 240 < 16 by omega)]
      simp [RmsRow.dx, RmsRow.back, Ideal.div, kilo_word]
  · refine (pad_apply_of_not_inside (a := 0) _ _ _ _ _ _ _ _ fun hn => h' hn.1).trans ?_
    pointwise [val_main_call0_v0]
    simp [FloatOps.sitofp, val_main_c, constantI]

theorem ref_row (R : Fin 8448) (i : Fin 8208) (h : R.val = 240 + i.val) : val_main_v53 (F := Ideal) a0 a1 a2 (ix2 R q)
    = RmsRow.dx (fun k => a0 (ix2 i k)) (fun k => a1 (ix1 k)) (cots a0 a1 a2 i) q := by
  unfold val_main_v53
  refine (pad_apply_of_inside (k := ix2 i q) _ _ _ _ _ _ _ _ fun a => ?_).trans (ref_dx _ _ _ _ _)
  fin_cases a
  · show R.val = 240 + i.val * (0 + 1); omega
  · show q.val = 0 + q.val * (0 + 1); omega

theorem ref_loss (i : S8x128.Idx) : val_main_v54 (F := Ideal) a0 a1 a2 i = Ideal.ofBits FTy.f32 0x3F000000#32
    * ∑ j : Fin 8192, sq (fun k => a0 (ix2 ⟨16 + j.val, by omega⟩ k)) (fun k => a1 (ix1 k)) (fun k => a2 (ix2 j k)) := by
  pointwise [val_main_v54, val_main_v25, val_main_cst_7, val_main_v24, val_main_v23, val_main_v21, val_main_v18, val_main_v17, val_main_v16, val_main_v15, val_main_v12, val_main_v11, val_main_v7, val_main_v6, val_main_v4, val_main_v2, val_main_v1, val_main_v0, val_main_cst, val_main_v3, val_main_cst_0, val_main_v5, val_main_cst_1, val_main_v14, val_main_v13, val_main_cst_4, val_main_v22, val_main_cst_5, val_main_cst_6, sq, err, RmsRow.rs, RmsRow.ms]
end

section
variable (v6 v10 : FVec Ideal S256x1024 .f32) (v8 : FVec Ideal S1x1024 .f32) (r : Fin 256) (q : Fin 1024)

theorem pay_cot : k0_pay17 (F := Ideal) v6 v8 v10 (ix2 r q)
    = cot (fun k => v6 (ix2 r k)) (fun k => v8 (ix2 0 k)) (fun k => v10 (ix2 r k)) q := by
  refine Eq.trans ?_ (twice _ _)
  pointwise [k0_pay17, k0_pay15, k0_pay14, k0_pay12, k0_pay11, k0_pay10, k0_pay9, err, RmsRow.rs, RmsRow.ms]

theorem pay_dx (v44 : FVec Ideal S256x1024 .f32) : k0_pay5 (F := Ideal) (k0_pay9 v6) (k0_pay10 v8) (k0_pay12 v6) (k0_pay13 v6) v44 (ix2 r q)
    = RmsRow.dx (fun k => v6 (ix2 r k)) (fun k => v8 (ix2 0 k)) (fun k => v44 (ix2 r k)) q := by
  pointwise [k0_pay5, k0_pay9, k0_pay10, k0_pay13, k0_pay12, k0_pay11, RmsRow.dx, RmsRow.back, RmsRow.rs, RmsRow.ms]

theorem pay_dg (acc : FVec Ideal S1x1024 .f32) : k0_pay7 (F := Ideal) (k0_pay18 v6 v8 v10) acc (ix2 0 q)
    = acc (ix2 0 q) + ∑ r, RmsRow.dg (fun k => v6 (ix2 r k)) (cot (fun k => v6 (ix2 r k)) (fun k => v8 (ix2 0 k)) (fun k => v10 (ix2 r k))) q := by
  have e : ∀ r, cot (fun k => v6 (ix2 r k)) (fun k => v8 (ix2 0 k)) (fun k => v10 (ix2 r k)) = fun q => k0_pay17 (F := Ideal) v6 v8 v10 (ix2 r q) :=
    fun r => funext fun q => (pay_cot v6 v10 v8 r q).symm
  simp only [e]
  generalize hy : k0_pay17 (F := Ideal) v6 v8 v10 = y
  pointwise [k0_pay7, k0_pay18, hy, k0_pay14, k0_pay12, k0_pay11, k0_pay9, RmsRow.dg, RmsRow.rs, RmsRow.ms]

theorem pay_loss (acc : FVec Ideal S8x128 .f32) (i : S8x128.Idx) : k0_pay8 (F := Ideal) (k0_pay16 v6 v8 v10) acc i
    = acc i + Ideal.ofBits FTy.f32 0x3F000000#32 * ∑ r, sq (fun k => v6 (ix2 r k)) (fun k => v8 (ix2 0 k)) (fun k => v10 (ix2 r k)) := by
  pointwise [k0_pay8, k0_pay16, k0_pay15, k0_pay14, k0_pay12, k0_pay11, k0_pay10, k0_pay9, sq, err, RmsRow.rs, RmsRow.ms]
end

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val - 1, 0]
    ∧ win0_3.index t = ![0, 0] ∧ win0_4.index t = ![t.val, 0] ∧ win0_5.index t = ![t.val, 0] ∧ win0_6.index t = ![0, 0] :=
  (by decide +kernel : ∀ t : Fin grid0.N, _)

def A0 : FVec Ideal S8208x1024 .f32 := m ((c : Thread nD τ).loc main_arg0)
def A1 : FVec Ideal S1024 .f32 := m ((c : Thread nD τ).loc main_arg1)
def A2 : FVec Ideal S8192x1024 .f32 := m ((c : Thread nD τ).loc main_arg2)

theorem lt33 (t : Fin cfg0.N) : t.val < 33 := lt_of_lt_of_eq t.isLt N_0

/-- Row `r` of tile `t` among the padded rows, among the targets, and among the rows with the meta rows in front. -/
def prow (t : Fin cfg0.N) (r : Fin 256) : Fin 8448 := ⟨t.val * 256 + r.val, by have := lt33 t; omega⟩
def trow (t : Fin cfg0.N) (r : Fin 256) : Fin 8192 := ⟨(t.val - 1) * 256 + r.val, by have := lt33 t; omega⟩
def hrow (t : Fin cfg0.N) (r : Fin 256) : Fin 8208 := ⟨16 + (trow t r).val, by omega⟩

variable (t : Fin cfg0.N) (r : Fin 256) (q : Fin 1024)

theorem x_blk (ht : 1 ≤ t.val) : (iblk m c 0 t : FVec Ideal S256x1024 .f32) (ix2 r q) = A0 m c (ix2 (hrow t r) q) := by
  unfold A0
  refine Eq.trans (b := (V m c main_v0 : FVec Ideal S8448x1024 .f32) (ix2 (prow t r) q)) ?_ ?_
  · blk_ext [iblk, prow, idx t]
  · unfold V
    simp only [List.flatten_cons, List.flatten_nil, List.append_nil]
    after_reads_simp
    show pad S8448x1024 ![240, 0] ![0, 0] ![0, 0] (A0 m c) _ pads_S8208x1024_S8448x1024_24000_000 h_S_ (ix2 (prow t r) q) = A0 m c (ix2 (hrow t r) q)
    refine pad_apply_of_inside (k := ix2 (hrow t r) q) _ _ _ _ _ _ _ _ fun a => ?_
    fin_cases a
    · show t.val * 256 + r.val = 240 + (16 + ((t.val - 1) * 256 + r.val)) * (0 + 1); omega
    · show q.val = 0 + q.val * (0 + 1); omega

theorem g_blk : (iblk m c 1 t : FVec Ideal S1x1024 .f32) (ix2 0 q) = A1 m c (ix1 q) := by
  unfold A1
  refine Eq.trans (b := (V m c main_v1 : FVec Ideal S1x1024 .f32) (ix2 0 q)) ?_ ?_
  · blk_ext [iblk, idx t]
  · unfold V
    simp only [List.flatten_cons, List.flatten_nil, List.append_nil]
    after_reads_simp
    pointwise []

theorem t_blk : (iblk m c 2 t : FVec Ideal S256x1024 .f32) (ix2 r q) = A2 m c (ix2 (trow t r) q) := by
  unfold trow A2
  blk_point [iblk, V, idx t]

theorem cot_blk (ht : 1 ≤ t.val) : cot (fun k => (iblk m c 0 t : FVec Ideal S256x1024 .f32) (ix2 r k))
      (fun k => (iblk m c 1 t : FVec Ideal S1x1024 .f32) (ix2 0 k)) (fun k => (iblk m c 2 t : FVec Ideal S256x1024 .f32) (ix2 r k))
    = cots (A0 m c) (A1 m c) (A2 m c) (hrow t r) := by
  rw [cots_real _ _ _ (trow t r) (hrow t r) rfl]
  simp only [x_blk m c t _ _ ht, g_blk, t_blk]

theorem dx_pt (ht : 1 ≤ t.val) : k0_pay5 (F := Ideal) (k0_pay9 (iblk m c 0 t)) (k0_pay10 (iblk m c 1 t)) (k0_pay12 (iblk m c 0 t))
      (k0_pay13 (iblk m c 0 t)) (k0_pay17 (iblk m c 0 t) (iblk m c 1 t) (iblk m c 2 t)) (ix2 r q)
    = Cert.LossRefIdeal.Read.val_main_v53 (F := Ideal) (A0 m c) (A1 m c) (A2 m c) (ix2 (prow t r) q) := by
  rw [ref_row (A0 m c) (A1 m c) (A2 m c) q (prow t r) (hrow t r)
    (show t.val * 256 + r.val = 240 + (16 + ((t.val - 1) * 256 + r.val)) by omega), pay_dx, ← cot_blk m c t r ht]
  simp only [x_blk m c t _ _ ht, g_blk, pay_cot]

theorem dx_after : (outsAt0 m c t.val t.isLt).2.1 (ix2 r q)
    = Cert.LossRefIdeal.Read.val_main_v53 (F := Ideal) (A0 m c) (A1 m c) (A2 m c) (ix2 (prow t r) q) := by
  by_cases h : t.val % 33 = 0
  · have h' : t.val = 0 := by have := lt33 t; omega
    rw [ref_row_early _ _ _ _ _ (show t.val * 256 + r.val < 256 by omega), outsAt0_A m c t h (by omega)]; frame_out
    pointwise [k0_pay3]
  · rw [← dx_pt _ _ _ _ _ (by omega), outsAt0_B m c t h (by omega)]; frame_out

theorem dxb_after : (outsAt0 m c t.val t.isLt).2.2.1 (ix2 r q)
    = Cert.LossRefIdeal.Read.val_main_v53 (F := Ideal) (A0 m c) (A1 m c) (A2 m c) (ix2 (prow t r) q) := by
  by_cases h : t.val % 33 = 0
  · have h' : t.val = 0 := by have := lt33 t; omega
    rw [ref_row_early _ _ _ _ _ (show t.val * 256 + r.val < 256 by omega), outsAt0_A m c t h (by omega)]; frame_out
    pointwise [k0_pay4]
  · rw [← dx_pt _ _ _ _ _ (by omega), outsAt0_B m c t h (by omega)]; frame_out; rfl

theorem final_dx : (dats m 0 c).arrAt 4 (cfgs 0).N
    = Cert.LossRefIdeal.Read.val_main_v53 (F := Ideal) (A0 m c) (A1 m c) (A2 m c) := by
  refine (dats m 0 c).arrAt_eq_of_covers 4 _ (by decide +kernel) fun t hf y => ?_
  blk_simp; rw [after0_4]
  refine (congrArg _ (RmsRow.eta2 (a := 256) (b := 1024) y)).trans ((dx_after m c t (y 0) (y 1)).trans (congrArg _ ?_))
  blk_ext [prow, idx t]

theorem final_dxb : (dats m 0 c).arrAt 5 (cfgs 0).N
    = Cert.LossRefIdeal.Read.val_main_v55 (F := Ideal) (A0 m c) (A1 m c) (A2 m c) := by
  refine (dats m 0 c).arrAt_eq_of_covers 5 _ (by decide +kernel) fun t hf y => ?_
  blk_simp; rw [after0_5]
  refine (congrArg _ (RmsRow.eta2 (a := 256) (b := 1024) y)).trans ((dxb_after m c t (y 0) (y 1)).trans
    (congrArg (Cert.LossRefIdeal.Read.val_main_v53 (F := Ideal) (A0 m c) (A1 m c) (A2 m c)) ?_))
  blk_ext [prow, idx t]

/-- Tile `t`'s contribution to the gain's gradient and to the loss: none from the first tile. -/
def dgTile (t : Fin cfg0.N) (q : Fin 1024) : EReal := if t.val % 33 = 0 then 0 else
  ∑ r, RmsRow.dg (fun k => A0 m c (ix2 (hrow t r) k)) (cots (A0 m c) (A1 m c) (A2 m c) (hrow t r)) q
def lossTile (t : Fin cfg0.N) : EReal := if t.val % 33 = 0 then 0 else Ideal.ofBits FTy.f32 0x3F000000#32
  * ∑ r, sq (fun k => A0 m c (ix2 (hrow t r) k)) (fun k => A1 m c (ix1 k)) (fun k => A2 m c (ix2 (trow t r) k))

theorem dgTile_first (h : t.val % 33 = 0) : dgTile m c t q = 0 := if_pos h
theorem dgTile_later (h : ¬ t.val % 33 = 0) : dgTile m c t q
    = ∑ r, RmsRow.dg (fun k => A0 m c (ix2 (hrow t r) k)) (cots (A0 m c) (A1 m c) (A2 m c) (hrow t r)) q := if_neg h

theorem lossTile_first (h : t.val % 33 = 0) : lossTile m c t = 0 := if_pos h

theorem zero_dg (j : S1x1024.Idx) : k0_pay2 (F := Ideal) j = 0 := by pointwise [k0_pay2]
theorem zero_loss (j : S8x128.Idx) : k0_pay1 (F := Ideal) j = 0 := by pointwise [k0_pay1]

theorem acc_dg (h : ¬ t.val % 33 = 0) (acc : FVec Ideal S1x1024 .f32) (j : S1x1024.Idx) :
    k0_pay7 (F := Ideal) (k0_pay18 (iblk m c 0 t) (iblk m c 1 t) (iblk m c 2 t)) acc j = acc j + dgTile m c t (j 1) := by
  obtain ⟨q, rfl⟩ : ∃ q, j = ix2 0 q := ⟨_, RmsRow.eta1 j⟩
  refine (pay_dg _ _ _ q acc).trans (congrArg (acc (ix2 0 q) + ·) ?_)
  refine Eq.trans ?_ (dgTile_later m c t q h).symm
  simp only [cot_blk m c t _ (by omega : 1 ≤ t.val)]
  simp only [x_blk m c t _ _ (by omega : 1 ≤ t.val)]

theorem acc_loss (h : ¬ t.val % 33 = 0) (acc : FVec Ideal S8x128 .f32) (j : S8x128.Idx) :
    k0_pay8 (F := Ideal) (k0_pay16 (iblk m c 0 t) (iblk m c 1 t) (iblk m c 2 t)) acc j = acc j + lossTile m c t := by
  rw [pay_loss, lossTile, if_neg h]
  simp only [x_blk m c t _ _ (by omega : 1 ≤ t.val), g_blk, t_blk]

theorem half_sum {n : ℕ} (f : Fin n → EReal) : Ideal.ofBits FTy.f32 0x3F000000#32 * ∑ i, f i = ∑ i, Ideal.ofBits FTy.f32 0x3F000000#32 * f i := by
  induction n with
  | zero => simp
  | succ n ih =>
    rw [Fin.sum_univ_succ, Fin.sum_univ_succ, ← ih, half_word]
    exact EReal.left_distrib_of_nonneg_of_ne_top (by norm_num) (EReal.coe_ne_top _) _ _

theorem later (s : Fin 32) (hs : s.succ.val < cfg0.N) : ¬ (⟨s.succ.val, hs⟩ : Fin cfg0.N).val % 33 = 0 := by
  show ¬ (s.val + 1) % 33 = 0
  omega

theorem tile_at (s : Fin 33) (hs : 33 * (t.val / 33) + s.val < cfg0.N) :
    (⟨33 * (t.val / 33) + s.val, hs⟩ : Fin cfg0.N) = ⟨s.val, lt_of_lt_of_eq s.isLt N_0.symm⟩ :=
  Fin.ext (show 33 * (t.val / 33) + s.val = s.val by have := lt33 t; omega)

theorem dg_tiles : ∑ s : Fin 33, dgTile m c ⟨s.val, lt_of_lt_of_eq s.isLt N_0.symm⟩ q
    = Cert.LossRefIdeal.Read.val_main_v56 (F := Ideal) (A0 m c) (A1 m c) (A2 m c) (ix2 0 q) := by
  refine Eq.trans ?_ (ref_dg _ _ _ _).symm
  refine Eq.trans ?_ (Fin.sum_univ_add (a := 16) (b := 8192) fun i : Fin 8208 =>
    RmsRow.dg (fun k => A0 m c (ix2 i k)) (cots (A0 m c) (A1 m c) (A2 m c) i) q).symm
  rw [Finset.sum_eq_zero (s := (Finset.univ : Finset (Fin 16))) fun i _ => by
    rw [cots_meta _ _ _ _ i.isLt]; exact mul_zero _, zero_add]
  rw [Fin.sum_univ_succ, dgTile_first m c _ _ rfl, zero_add]
  refine (Finset.sum_congr rfl fun s _ => dgTile_later m c _ _ (later s _)).trans ?_
  refine Fin.sum_mul_add_congr fun s k hl => ?_
  have e : hrow ⟨s.succ.val, lt_of_lt_of_eq s.succ.isLt N_0.symm⟩ k = Fin.natAdd 16 ⟨s.val * 256 + k.val, hl⟩ := rfl
  rw [e]

theorem loss_tiles (i : S8x128.Idx) : ∑ s : Fin 33, lossTile m c ⟨s.val, lt_of_lt_of_eq s.isLt N_0.symm⟩
    = Cert.LossRefIdeal.Read.val_main_v54 (F := Ideal) (A0 m c) (A1 m c) (A2 m c) i := by
  rw [ref_loss, Fin.sum_univ_succ, lossTile_first m c _ rfl, zero_add]
  refine (Finset.sum_congr rfl fun s _ => if_neg (later s _)).trans ?_
  rw [← half_sum]
  exact congrArg _ (Fin.sum_mul_add_congr fun s k hl => rfl)

theorem final_dg : (dats m 0 c).arrAt 6 (cfgs 0).N
    = Cert.LossRefIdeal.Read.val_main_v56 (F := Ideal) (A0 m c) (A1 m c) (A2 m c) := by
  refine (dats m 0 c).arrAt_eq_of_covers 6 _ (by decide +kernel) fun t hf y => ?_
  blk_simp
  rw [after0_6, Pipeline.eq_sum_fin_of_reset_step_apply_of_flush (fun n h => (outsAt0 m c n h).2.2.2) 33 (fun _ => 0)
    (fun t j => dgTile m c t (j 1))
    (fun t h j => by rw [outsAt0_A m c t h (by have := lt33 t; omega)]; frame_out; rw [zero_dg]; exact ((congrArg (0 + ·) (dgTile_first m c t (j 1) h)).trans (add_zero 0)).symm)
    (fun t h j => by rw [outsAt0_B m c t h (by omega)]; frame_out; rw [acc_dg m c t h])
    t ((flush0_6 t).mp hf) _, zero_add]
  have ex : (win0_6.blk t).view.emb y = ix2 0 (y 1) := by blk_ext [idx t]
  rw [ex]
  exact (congrArg (fun f : Fin 33 → EReal => ∑ s, f s) (funext fun s => congrArg (dgTile m c · (y 1)) (tile_at t s _))).trans (dg_tiles m c (y 1))

theorem final_loss : (dats m 0 c).arrAt 3 (cfgs 0).N
    = Cert.LossRefIdeal.Read.val_main_v54 (F := Ideal) (A0 m c) (A1 m c) (A2 m c) := by
  refine (dats m 0 c).arrAt_eq_of_covers 3 _ (by decide +kernel) fun t hf y => ?_
  blk_simp
  rw [after0_3, Pipeline.eq_sum_fin_of_reset_step_apply_of_flush (fun n h => (outsAt0 m c n h).1) 33 (fun _ => 0)
    (fun t _ => lossTile m c t)
    (fun t h j => by rw [outsAt0_A m c t h (by have := lt33 t; omega)]; frame_out; rw [zero_loss, lossTile, if_pos h, add_zero])
    (fun t h j => by rw [outsAt0_B m c t h (by omega)]; frame_out; rw [acc_loss m c t h])
    t ((flush0_3 t).mp hf) _, zero_add]
  exact (congrArg (fun f : Fin 33 → EReal => ∑ s, f s) (funext fun s => congrArg (lossTile m c) (tile_at t s _))).trans (loss_tiles m c _)
end Cert.LossIdeal.Result
-- ==== Proof.FwdMath.lean ====
module
public import proofs.«01_k».proof.Proof.AttnFin
@[expose] public section
noncomputable section
open Idealize.ShloMosaic
namespace Cert.FwdProof

/-! ## A softmax taken up block by block, with the whole powers of two as its shifts -/

abbrev up : EReal → EReal := Ideal.liftRound Int.ceil

theorem up_real (r : ℝ) : up r = ((⌈r⌉ : ℝ) : EReal) := rfl

theorem up_mono : Monotone up := by
  intro a b h
  induction a with
  | bot => exact bot_le
  | top => rw [top_le_iff.mp h]
  | coe a =>
    induction b with
    | bot => exact absurd h (by simp)
    | top => exact le_top
    | coe b => exact EReal.coe_le_coe_iff.mpr (by exact_mod_cast Int.ceil_le_ceil (EReal.coe_le_coe_iff.mp h))

theorem up_up (a : EReal) : up (up a) = up a := by
  induction a with
  | bot => rfl
  | top => rfl
  | coe a => rw [up_real, up_real, Int.ceil_intCast]

theorem up_bot {a : EReal} (h : up a = ⊥) : a = ⊥ := by
  induction a with
  | bot => rfl
  | top => exact absurd h (by decide)
  | coe a => rw [up_real] at h; exact absurd h (EReal.coe_ne_bot _)

theorem up_top {a : EReal} (h : up a = ⊤) : a = ⊤ := by
  induction a with
  | top => rfl
  | bot => exact absurd h (by decide)
  | coe a => rw [up_real] at h; exact absurd h (EReal.coe_ne_top _)

theorem plus_mono (c : EReal) : Monotone fun x => c + x := fun _ _ h => add_le_add le_rfl h

variable {ι : Type*} [DecidableEq ι] (cq : EReal) (t v : ι → EReal)

/-- The shift of the keys of `S`. -/
def top (S : Finset ι) : EReal := up (cq + S.sup t)
/-- The weighted sum over the keys of `S`. -/
def acc (S : Finset ι) : EReal := ∑ R ∈ S, Ideal.exp2 (t R + (cq - top cq t S)) * v R

theorem top_empty : top cq t ∅ = ⊥ := by unfold top; rw [Finset.sup_empty, EReal.add_bot]; rfl
theorem acc_empty : acc cq t v ∅ = 0 := Finset.sum_empty

theorem top_union (S T : Finset ι) : top cq t (S ∪ T) = up (max (top cq t S) (cq + T.sup t)) := by
  unfold top
  rw [Finset.sup_union, up_mono.map_max, up_up, ← up_mono.map_max]
  congr 1
  exact (plus_mono cq).map_max

structure Fit : Prop where
  c : ∃ r : ℝ, cq = r
  t : ∀ R, t R = ⊥ ∨ ∃ r : ℝ, t R = r
  v : ∀ R, ∃ r : ℝ, v R = r

variable {cq t v}

theorem Fit.not_top (H : Fit cq t v) (S : Finset ι) : top cq t S ≠ ⊤ := by
  intro h
  have h := up_top h
  obtain ⟨r, hr⟩ := H.c
  have hs : S.sup t < ⊤ := (Finset.sup_lt_iff (by decide)).mpr fun R _ => by
    rcases H.t R with e | ⟨x, e⟩ <;> rw [e]
    · decide
    · exact EReal.coe_lt_top x
  rw [hr] at h
  exact (EReal.add_lt_top (EReal.coe_ne_top r) hs.ne).ne h

theorem Fit.bot (H : Fit cq t v) {S : Finset ι} (h : top cq t S = ⊥) {R : ι} (hR : R ∈ S) : t R = ⊥ := by
  have h := up_bot h
  obtain ⟨r, hr⟩ := H.c
  rw [hr, EReal.add_eq_bot_iff] at h
  rcases h with h | h
  · exact absurd h (EReal.coe_ne_bot r)
  · exact le_bot_iff.mp (h ▸ Finset.le_sup (f := t) hR)

theorem exp2_add (a b : ℝ) : Ideal.exp2 ((a : EReal) + b) = Ideal.exp2 a * Ideal.exp2 b := by
  rw [← EReal.coe_add]
  show ((Real.rpow 2 (a + b) : ℝ) : EReal) = ((Real.rpow 2 a : ℝ) : EReal) * ((Real.rpow 2 b : ℝ) : EReal)
  rw [← EReal.coe_mul]
  exact congrArg _ (Real.rpow_add (by norm_num) a b)

theorem exp2_real (a : ℝ) : ∃ r : ℝ, Ideal.exp2 (a : EReal) = r := ⟨_, rfl⟩

theorem mul_sums (S : Finset ι) (a : ℝ) (f : ι → EReal) (h : ∀ R, ∃ r : ℝ, f R = r) : (a : EReal) * ∑ R ∈ S, f R = ∑ R ∈ S, (a : EReal) * f R := by
  choose g hg using h
  obtain rfl : f = fun R => (g R : EReal) := funext hg
  induction S using Finset.induction_on with
  | empty => simp
  | insert R S hR ih =>
    rw [Finset.sum_insert hR, Finset.sum_insert hR, ← ih]
    have e : ∑ R ∈ S, ((g R : ℝ) : EReal) = ((∑ R ∈ S, g R : ℝ) : EReal) := by
      clear ih hR
      induction S using Finset.induction_on with
      | empty => simp
      | insert R S hR ih => rw [Finset.sum_insert hR, Finset.sum_insert hR, ih, EReal.coe_add]
    rw [e, ← EReal.coe_add, ← EReal.coe_mul, ← EReal.coe_mul, ← EReal.coe_mul, ← EReal.coe_add, mul_add]

/-- Going to a greater set of keys rescales the sum over the smaller one. -/
theorem Fit.rescale (H : Fit cq t v) (S T : Finset ι) : ∑ R ∈ S, Ideal.exp2 (t R + (cq - top cq t (S ∪ T))) * v R
    = Ideal.exp2 (top cq t S - top cq t (S ∪ T)) * acc cq t v S := by
  unfold acc
  have hle : top cq t S ≤ top cq t (S ∪ T) :=
    up_mono (plus_mono cq (Finset.sup_mono Finset.subset_union_left))
  have hM' := H.not_top (S ∪ T)
  have hM := H.not_top S
  have hb := fun h R hR => H.bot (S := S) h (R := R) hR
  generalize top cq t (S ∪ T) = M' at hle hM' ⊢
  generalize top cq t S = M at hle hM hb ⊢
  obtain ⟨c, hc⟩ := H.c
  induction M with
  | top => exact absurd rfl hM
  | bot =>
    have e : ∀ y : EReal, ∑ R ∈ S, Ideal.exp2 (t R + y) * v R = 0 := fun y => Finset.sum_eq_zero fun R hR => by
      rw [hb rfl R hR, EReal.bot_add]; exact zero_mul _
    rw [e, e, mul_zero]
  | coe M =>
    induction M' with
    | top => exact absurd rfl hM'
    | bot => exact absurd hle (by simp)
    | coe M' =>
      have hz : ∀ R, ∃ r : ℝ, Ideal.exp2 (t R + (cq - (M : EReal))) * v R = r := by
        intro R
        obtain ⟨x, hx⟩ := H.v R
        rcases H.t R with e | ⟨y, e⟩
        · exact ⟨0, by rw [e, EReal.bot_add]; exact zero_mul _⟩
        · rw [hx, e, hc, ← EReal.coe_sub, ← EReal.coe_add]
          obtain ⟨z, hz⟩ := exp2_real (y + (c - M))
          exact ⟨z * x, by rw [hz, EReal.coe_mul]⟩
      rw [← EReal.coe_sub]
      obtain ⟨z, hz'⟩ := exp2_real (M - M')
      rw [hz', mul_sums S z _ hz]
      refine Finset.sum_congr rfl fun R _ => ?_
      rw [← mul_assoc, ← hz']
      congr 1
      rcases H.t R with e | ⟨y, e⟩
      · rw [e, EReal.bot_add, EReal.bot_add]; exact (mul_zero _).symm
      · rw [e, hc, ← EReal.coe_sub, ← EReal.coe_sub, ← EReal.coe_add, ← EReal.coe_add, ← exp2_add, ← EReal.coe_add]
        congr 2
        ring

theorem Fit.acc_union (H : Fit cq t v) (S T : Finset ι) (h : Disjoint S T) : acc cq t v (S ∪ T)
    = Ideal.exp2 (top cq t S - top cq t (S ∪ T)) * acc cq t v S + ∑ R ∈ T, Ideal.exp2 (t R + (cq - top cq t (S ∪ T))) * v R := by
  rw [← H.rescale S T]
  exact Finset.sum_union h

/-! ### Stretches of the key rows -/

theorem lt_row {o n : ℕ} (r : Fin n) (h : o + n ≤ 8448) : o + r.val < 8448 := by omega
theorem le_tile {i : ℕ} (h : i < 11) : 768 * i + 768 ≤ 8448 := by omega

/-- The key rows below `n`. -/
def under (n : ℕ) : Finset (Fin 8448) := Finset.univ.filter fun R => R.val < n

theorem under_zero : under 0 = ∅ := by
  unfold under
  exact Finset.filter_eq_empty_iff.mpr fun R _ => Nat.not_lt_zero _

/-- The `n` key rows from `o` on. -/
def rows (o n : ℕ) (h : o + n ≤ 8448) : Fin n ↪ Fin 8448 :=
  ⟨fun r => ⟨o + r.val, lt_row r h⟩, fun a b e => Fin.ext (by have := congrArg Fin.val e; simp only at this; omega)⟩

theorem under_add (o n : ℕ) (h : o + n ≤ 8448) : under (o + n) = under o ∪ Finset.univ.map (rows o n h) := by
  ext R
  simp only [under, Finset.mem_filter, Finset.mem_univ, true_and, Finset.mem_union, Finset.mem_map]
  constructor
  · intro hR
    by_cases h' : R.val < o
    · exact .inl h'
    · exact .inr ⟨⟨R.val - o, by omega⟩, Fin.ext (by show o + (R.val - o) = R.val; omega)⟩
  · rintro (h' | ⟨r, rfl⟩)
    · omega
    · show o + r.val < o + n; omega

theorem under_disjoint (o n : ℕ) (h : o + n ≤ 8448) : Disjoint (under o) (Finset.univ.map (rows o n h)) := by
  rw [Finset.disjoint_left]
  intro R hR hR'
  simp only [under, Finset.mem_filter, Finset.mem_univ, true_and, Finset.mem_map] at hR hR'
  obtain ⟨r, rfl⟩ := hR'
  have : o + r.val < o := hR
  omega

theorem fold_sup {n : ℕ} (f : Fin n → EReal) : Finset.univ.fold max ⊥ f = Finset.univ.sup f := rfl

section
variable {t v : Fin 8448 → EReal}

/-- The shift and the sums after `n` more keys, from those before them. -/
theorem top_add (o n : ℕ) (h : o + n ≤ 8448) :
    top cq t (under (o + n)) = up (max (top cq t (under o)) (cq + Finset.univ.fold max ⊥ fun r : Fin n => t ⟨o + r.val, lt_row r h⟩)) := by
  rw [under_add o n h, top_union, Finset.sup_map, fold_sup]
  rfl

theorem acc_add (H : Fit cq t v) (o n : ℕ) (h : o + n ≤ 8448) :
    acc cq t v (under (o + n)) = Ideal.exp2 (top cq t (under o) - top cq t (under (o + n))) * acc cq t v (under o)
      + ∑ r : Fin n, Ideal.exp2 (t ⟨o + r.val, lt_row r h⟩ + (cq - top cq t (under (o + n)))) * v ⟨o + r.val, lt_row r h⟩ := by
  rw [under_add o n h, H.acc_union _ _ (under_disjoint o n h), Finset.sum_map]
  rfl
end

end Cert.FwdProof
end
-- ==== Proof.FwdPay.lean ====
module
public import proofs.«01_k».proof.Proof.FwdMath
public import proofs.«01_k».proof.Proof.Gen.AttnFwdIdeal.Value
@[expose] public section
set_option maxRecDepth 16384
noncomputable section
open Idealize.ShloMosaic Idealize.ShloMosaic.TcCoe Idealize.SL.Sem
open Idealize.ShloMosaic.Pipeline (Dat)
namespace Cert.FwdProof
open Cert.AttnFwdIdeal Cert.AttnFwdIdeal.Gen
open Cert.AttnBwd (Blocks QH KH TT OK hd lane_word neg_inf_word Keys)

variable (X : Blocks)

/-- The decay sum of a query. -/
def CQ (p : ℕ) (h : Fin 2) (q : Fin 768) : EReal := ∑ l : Fin 128, if l.val = 2 * p + h.val then X.x4 (ix2 q l) else 0

/-- A query against a key it may meet. -/
def TM (i : ℕ) (h : Fin 2) (q : Fin 768) (R : Fin 8448) : EReal := if OK i q R then TT X h q R else ⊥

/-- A value row as head `h` sums it: its own lanes, and ones on the others. -/
def VH (h : Fin 2) (l : Fin 128) (R : Fin 8448) : EReal := if hd l = h then X.x7 (ix2 R l) else 1

theorem hd_zero (l : Fin 128) : hd l = 0 ↔ l.val < 64 := by
  unfold hd; split <;> simp [*]
theorem hd_one (l : Fin 128) : hd l = 1 ↔ ¬l.val < 64 := by
  unfold hd; split <;> simp [*]

theorem qh0 (q : Fin 768) (l : Fin 128) : k0_pay64 (F := Ideal) X.x0 (ix2 q l) = QH X 0 q l := by
  pointwise [k0_pay64, QH, k0_pay61, k0_pay62, k0_pay63]
  word_cmp
theorem qh1 (q : Fin 768) (l : Fin 128) : k0_pay65 (F := Ideal) X.x0 (ix2 q l) = QH X 1 q l := by
  pointwise [k0_pay65, QH, k0_pay61, k0_pay62, k0_pay63]
  word_cmp

theorem cq0 (i : grid0.Coords) (q : Fin 768) : k0_pay67 (F := Ideal) i X.x4 (ix2 q 0) = CQ X (i 0).val 0 q := by
  have hi : (i 0).val < 8 := (i 0).isLt
  pointwise [k0_pay67, k0_pay66, CQ]
  refine Finset.sum_congr rfl fun l _ => ?_
  have e := lane_word ⟨(i 0).val, hi⟩ 0 (by omega)
  dsimp only at e
  rw [e, Nat.add_zero]
  word_cmp
theorem cq1 (p : ℕ) (hp : p < 8) (q : Fin 768) :
    k0_pay68 (F := Ideal) (k0_pay66 X.x4) (Scalar.muli 2#32 (BitVec.ofNat 32 p)) (ix2 q 0) = CQ X p 1 q := by
  pointwise [k0_pay68, k0_pay66, CQ]
  refine Finset.sum_congr rfl fun l _ => ?_
  have e := lane_word ⟨p, hp⟩ 1 (by omega)
  dsimp only at e
  rw [e]
  word_cmp

/-- The vectors a tile's sums are computed from. -/
structure Ops (p : ℕ) (v2 : IVec S1x128 1) (v17 v27 : FVec Ideal S768x128 .bf16) (v29 : FVec Ideal S768x128 .f32) (v40 : FVec Ideal S768x1 .f32)
    (v41 : BitVec 32) : Prop where
  h2 : v2 = k0_pay60
  h17 : ∀ q l, v17 (ix2 q l) = QH X 0 q l
  h27 : ∀ q l, v27 (ix2 q l) = QH X 1 q l
  h40 : ∀ q, v40 (ix2 q 0) = CQ X p 0 q
  h51 : ∀ q, k0_pay68 v29 v41 (ix2 q 0) = CQ X p 1 q

/-- What is held of one head once the keys below `o` are summed. -/
structure State (i p : ℕ) (h : Fin 2) (o : ℕ) (mm : FVec Ideal S768x1 .f32) (aa : FVec Ideal S768x128 .f32) : Prop where
  m : ∀ q, mm (ix2 q 0) = top (CQ X p h q) (TM X i h q) (under o)
  a : ∀ q l, aa (ix2 q l) = acc (CQ X p h q) (TM X i h q) (VH X h l) (under o)

/-- A tile's logits are whole numbers, or masked. -/
def Fits (i p : ℕ) : Prop := ∀ h q l, Fit (CQ X p h q) (TM X i h q) (VH X h l)

variable {X}

theorem State.zero (i p : ℕ) (h : Fin 2) (mm : FVec Ideal S768x1 .f32) (aa : FVec Ideal S768x128 .f32) (hm : ∀ q, mm (ix2 q 0) = ⊥)
    (ha : ∀ q l, aa (ix2 q l) = 0) : State X i p h 0 mm aa :=
  ⟨fun q => by rw [hm, under_zero, top_empty], fun q l => by rw [ha, under_zero, acc_empty]⟩

theorem State.step {i p : ℕ} {h : Fin 2} {o : ℕ} {mm mm' : FVec Ideal S768x1 .f32} {aa aa' : FVec Ideal S768x128 .f32} (hF : Fits X i p)
    (S : State X i p h o mm aa) (n : ℕ) (ho : o + n ≤ 8448)
    (hm : ∀ q, mm' (ix2 q 0) = up (max (mm (ix2 q 0)) (CQ X p h q + Finset.univ.fold max ⊥ fun r : Fin n => TM X i h q ⟨o + r.val, lt_row r ho⟩)))
    (ha : ∀ q l, aa' (ix2 q l) = Ideal.exp2 (mm (ix2 q 0) - mm' (ix2 q 0)) * aa (ix2 q l)
      + ∑ r : Fin n, Ideal.exp2 (TM X i h q ⟨o + r.val, lt_row r ho⟩ + (CQ X p h q - mm' (ix2 q 0))) * VH X h l ⟨o + r.val, lt_row r ho⟩) :
    State X i p h (o + n) mm' aa' := by
  have e : ∀ q, mm' (ix2 q 0) = top (CQ X p h q) (TM X i h q) (under (o + n)) := fun q => by
    rw [hm, S.m, top_add o n ho]
  exact ⟨e, fun q l => by rw [ha, S.m, S.a, e, acc_add (hF h q l) o n ho]⟩

theorem ones (q : Fin 768) (l : Fin 128) : k0_pay69 (F := Ideal) (ix2 q l) = 1 := by pointwise [k0_pay69]

section Full
variable {v2 : IVec S1x128 1} {v17 v27 : FVec Ideal S768x128 .bf16} {v29 : FVec Ideal S768x128 .f32} {v40 : FVec Ideal S768x1 .f32} {v41 : BitVec 32}
  {i p : ℕ} (H : Ops X p v2 v17 v27 v29 v40 v41) {ka kb vv : Vec Ideal S256x128 .bf16} {o : ℕ} (ho : o + 256 ≤ 8448)
  (K : Keys X ka kb vv fun r : Fin 256 => ⟨o + r.val, lt_row r ho⟩) (hok : ∀ (q : Fin 768) (r : Fin 256), OK i q ⟨o + r.val, lt_row r ho⟩)
include H ho K hok

theorem a_val1 (r : Fin 256) (l : Fin 128) : k0_pay9 v2 k0_pay69 vv (ix2 r l) = VH X 1 l ⟨o + r.val, lt_row r ho⟩ := by
  pointwise [k0_pay9, k0_pay8, k0_pay60, k0_pay69, H.h2, K.hv, VH]
  word_cmp
  simp only [hd_one, ite_not]
theorem a_log0 (q : Fin 768) (r : Fin 256) : k0_pay10 v17 ka (ix2 q r) = TM X i 0 q ⟨o + r.val, lt_row r ho⟩ := by
  pointwise [k0_pay10, TM, TT, H.h17, K.ha, hok]
theorem a_log1 (q : Fin 768) (r : Fin 256) : k0_pay13 v27 kb (ix2 q r) = TM X i 1 q ⟨o + r.val, lt_row r ho⟩ := by
  pointwise [k0_pay13, TM, TT, H.h27, K.hb, hok]
theorem a_max0 (mm : FVec Ideal S768x1 .f32) (q : Fin 768) : k0_pay11 v17 v40 mm ka (ix2 q 0)
    = up (max (mm (ix2 q 0)) (CQ X p 0 q + Finset.univ.fold max ⊥ fun r : Fin 256 => TM X i 0 q ⟨o + r.val, lt_row r ho⟩)) := by
  pointwise [k0_pay11, a_log0 H ho K hok, H.h40, neg_inf_word]
theorem a_sum0 (mm : FVec Ideal S768x1 .f32) (aa : FVec Ideal S768x128 .f32) (q : Fin 768) (l : Fin 128) :
    k0_pay12 v2 v17 v40 k0_pay69 mm aa ka vv (ix2 q l) = Ideal.exp2 (mm (ix2 q 0) - k0_pay11 v17 v40 mm ka (ix2 q 0)) * aa (ix2 q l)
      + ∑ r : Fin 256, Ideal.exp2 (TM X i 0 q ⟨o + r.val, lt_row r ho⟩ + (CQ X p 0 q - k0_pay11 v17 v40 mm ka (ix2 q 0)))
          * VH X 0 l ⟨o + r.val, lt_row r ho⟩ := by
  pointwise [k0_pay12, k0_pay8, a_log0 H ho K hok, H.h40, H.h2, k0_pay60, k0_pay69, K.hv, VH]
  word_cmp
  simp only [hd_zero]; rfl

theorem b_val1 (r : Fin 256) (l : Fin 128) : k0_pay19 v2 k0_pay69 vv (ix2 r l) = VH X 1 l ⟨o + r.val, lt_row r ho⟩ := by
  pointwise [k0_pay19, k0_pay18, k0_pay60, k0_pay69, H.h2, K.hv, VH]
  word_cmp
  simp only [hd_one, ite_not]
theorem b_log0 (q : Fin 768) (r : Fin 256) : k0_pay20 v17 ka (ix2 q r) = TM X i 0 q ⟨o + r.val, lt_row r ho⟩ := by
  pointwise [k0_pay20, TM, TT, H.h17, K.ha, hok]
theorem b_log1 (q : Fin 768) (r : Fin 256) : k0_pay23 v27 kb (ix2 q r) = TM X i 1 q ⟨o + r.val, lt_row r ho⟩ := by
  pointwise [k0_pay23, TM, TT, H.h27, K.hb, hok]
theorem b_max0 (mm : FVec Ideal S768x1 .f32) (q : Fin 768) : k0_pay21 v17 v40 mm ka (ix2 q 0)
    = up (max (mm (ix2 q 0)) (CQ X p 0 q + Finset.univ.fold max ⊥ fun r : Fin 256 => TM X i 0 q ⟨o + r.val, lt_row r ho⟩)) := by
  pointwise [k0_pay21, b_log0 H ho K hok, H.h40, neg_inf_word]
theorem b_sum0 (mm : FVec Ideal S768x1 .f32) (aa : FVec Ideal S768x128 .f32) (q : Fin 768) (l : Fin 128) :
    k0_pay22 v2 v17 v40 k0_pay69 mm aa ka vv (ix2 q l) = Ideal.exp2 (mm (ix2 q 0) - k0_pay21 v17 v40 mm ka (ix2 q 0)) * aa (ix2 q l)
      + ∑ r : Fin 256, Ideal.exp2 (TM X i 0 q ⟨o + r.val, lt_row r ho⟩ + (CQ X p 0 q - k0_pay21 v17 v40 mm ka (ix2 q 0)))
          * VH X 0 l ⟨o + r.val, lt_row r ho⟩ := by
  pointwise [k0_pay22, k0_pay18, b_log0 H ho K hok, H.h40, H.h2, k0_pay60, k0_pay69, K.hv, VH]
  word_cmp
  simp only [hd_zero]; rfl

theorem c_val1 (r : Fin 256) (l : Fin 128) : k0_pay28 v2 k0_pay69 vv (ix2 r l) = VH X 1 l ⟨o + r.val, lt_row r ho⟩ := by
  pointwise [k0_pay28, k0_pay27, k0_pay60, k0_pay69, H.h2, K.hv, VH]
  word_cmp
  simp only [hd_one, ite_not]
theorem c_log0 (q : Fin 768) (r : Fin 256) : k0_pay29 v17 ka (ix2 q r) = TM X i 0 q ⟨o + r.val, lt_row r ho⟩ := by
  pointwise [k0_pay29, TM, TT, H.h17, K.ha, hok]
theorem c_log1 (q : Fin 768) (r : Fin 256) : k0_pay32 v27 kb (ix2 q r) = TM X i 1 q ⟨o + r.val, lt_row r ho⟩ := by
  pointwise [k0_pay32, TM, TT, H.h27, K.hb, hok]
theorem c_max0 (mm : FVec Ideal S768x1 .f32) (q : Fin 768) : k0_pay30 v17 v40 mm ka (ix2 q 0)
    = up (max (mm (ix2 q 0)) (CQ X p 0 q + Finset.univ.fold max ⊥ fun r : Fin 256 => TM X i 0 q ⟨o + r.val, lt_row r ho⟩)) := by
  pointwise [k0_pay30, c_log0 H ho K hok, H.h40, neg_inf_word]
theorem c_sum0 (mm : FVec Ideal S768x1 .f32) (aa : FVec Ideal S768x128 .f32) (q : Fin 768) (l : Fin 128) :
    k0_pay31 v2 v17 v40 k0_pay69 mm aa ka vv (ix2 q l) = Ideal.exp2 (mm (ix2 q 0) - k0_pay30 v17 v40 mm ka (ix2 q 0)) * aa (ix2 q l)
      + ∑ r : Fin 256, Ideal.exp2 (TM X i 0 q ⟨o + r.val, lt_row r ho⟩ + (CQ X p 0 q - k0_pay30 v17 v40 mm ka (ix2 q 0)))
          * VH X 0 l ⟨o + r.val, lt_row r ho⟩ := by
  pointwise [k0_pay31, k0_pay27, c_log0 H ho K hok, H.h40, H.h2, k0_pay60, k0_pay69, K.hv, VH]
  word_cmp
  simp only [hd_zero]; rfl

theorem a_max1 (mm : FVec Ideal S768x1 .f32) (q : Fin 768) : k0_pay14 v27 (k0_pay68 v29 v41) mm kb (ix2 q 0)
    = up (max (mm (ix2 q 0)) (CQ X p 1 q + Finset.univ.fold max ⊥ fun r : Fin 256 => TM X i 1 q ⟨o + r.val, lt_row r ho⟩)) := by
  pointwise [k0_pay14, a_log1 H ho K hok, H.h51, neg_inf_word]
theorem b_max1 (mm : FVec Ideal S768x1 .f32) (q : Fin 768) : k0_pay24 v27 (k0_pay68 v29 v41) mm kb (ix2 q 0)
    = up (max (mm (ix2 q 0)) (CQ X p 1 q + Finset.univ.fold max ⊥ fun r : Fin 256 => TM X i 1 q ⟨o + r.val, lt_row r ho⟩)) := by
  pointwise [k0_pay24, b_log1 H ho K hok, H.h51, neg_inf_word]
theorem c_max1 (mm : FVec Ideal S768x1 .f32) (q : Fin 768) : k0_pay74 v29 v41 mm (k0_pay33 v27 kb) (ix2 q 0)
    = up (max (mm (ix2 q 0)) (CQ X p 1 q + Finset.univ.fold max ⊥ fun r : Fin 256 => TM X i 1 q ⟨o + r.val, lt_row r ho⟩)) := by
  pointwise [k0_pay74, k0_pay33, c_log1 H ho K hok, H.h51, neg_inf_word]
theorem a_sum1 (mm : FVec Ideal S768x1 .f32) (aa : FVec Ideal S768x128 .f32) (q : Fin 768) (l : Fin 128) :
    k0_pay17 aa (k0_pay9 v2 k0_pay69 vv) (k0_pay15 v27 (k0_pay68 v29 v41) mm kb) (k0_pay16 v27 (k0_pay68 v29 v41) mm kb) (ix2 q l)
      = Ideal.exp2 (mm (ix2 q 0) - k0_pay14 v27 (k0_pay68 v29 v41) mm kb (ix2 q 0)) * aa (ix2 q l)
      + ∑ r : Fin 256, Ideal.exp2 (TM X i 1 q ⟨o + r.val, lt_row r ho⟩ + (CQ X p 1 q - k0_pay14 v27 (k0_pay68 v29 v41) mm kb (ix2 q 0)))
          * VH X 1 l ⟨o + r.val, lt_row r ho⟩ := by
  pointwise [k0_pay17, k0_pay15, k0_pay16, a_log1 H ho K hok, a_val1 H ho K hok, H.h51]; rfl
theorem b_sum1 (mm : FVec Ideal S768x1 .f32) (aa : FVec Ideal S768x128 .f32) (q : Fin 768) (l : Fin 128) :
    k0_pay26 mm aa (k0_pay19 v2 k0_pay69 vv) (k0_pay23 v27 kb) (k0_pay24 v27 (k0_pay68 v29 v41) mm kb) (k0_pay25 v27 (k0_pay68 v29 v41) mm kb) (ix2 q l)
      = Ideal.exp2 (mm (ix2 q 0) - k0_pay24 v27 (k0_pay68 v29 v41) mm kb (ix2 q 0)) * aa (ix2 q l)
      + ∑ r : Fin 256, Ideal.exp2 (TM X i 1 q ⟨o + r.val, lt_row r ho⟩ + (CQ X p 1 q - k0_pay24 v27 (k0_pay68 v29 v41) mm kb (ix2 q 0)))
          * VH X 1 l ⟨o + r.val, lt_row r ho⟩ := by
  pointwise [k0_pay26, k0_pay25, b_log1 H ho K hok, b_val1 H ho K hok, H.h51]; rfl
theorem c_sum1 (mm : FVec Ideal S768x1 .f32) (aa : FVec Ideal S768x128 .f32) (q : Fin 768) (l : Fin 128) :
    k0_pay75 v29 v41 mm aa (k0_pay28 v2 k0_pay69 vv) (k0_pay32 v27 kb) (k0_pay33 v27 kb) (ix2 q l)
      = Ideal.exp2 (mm (ix2 q 0) - k0_pay74 v29 v41 mm (k0_pay33 v27 kb) (ix2 q 0)) * aa (ix2 q l)
      + ∑ r : Fin 256, Ideal.exp2 (TM X i 1 q ⟨o + r.val, lt_row r ho⟩ + (CQ X p 1 q - k0_pay74 v29 v41 mm (k0_pay33 v27 kb) (ix2 q 0)))
          * VH X 1 l ⟨o + r.val, lt_row r ho⟩ := by
  pointwise [k0_pay75, c_log1 H ho K hok, c_val1 H ho K hok, H.h51]; rfl

/-! The three parts of a trip, for each head. -/
variable (hF : Fits X i p) {mm : FVec Ideal S768x1 .f32} {aa : FVec Ideal S768x128 .f32}
include hF

theorem a_head0 (S : State X i p 0 o mm aa) : State X i p 0 (o + 256) (k0_pay11 v17 v40 mm ka) (k0_pay12 v2 v17 v40 k0_pay69 mm aa ka vv) :=
  S.step hF 256 ho (a_max0 H ho K hok mm) (a_sum0 H ho K hok mm aa)
theorem b_head0 (S : State X i p 0 o mm aa) : State X i p 0 (o + 256) (k0_pay21 v17 v40 mm ka) (k0_pay22 v2 v17 v40 k0_pay69 mm aa ka vv) :=
  S.step hF 256 ho (b_max0 H ho K hok mm) (b_sum0 H ho K hok mm aa)
theorem c_head0 (S : State X i p 0 o mm aa) : State X i p 0 (o + 256) (k0_pay30 v17 v40 mm ka) (k0_pay31 v2 v17 v40 k0_pay69 mm aa ka vv) :=
  S.step hF 256 ho (c_max0 H ho K hok mm) (c_sum0 H ho K hok mm aa)
theorem a_head1 (S : State X i p 1 o mm aa) : State X i p 1 (o + 256) (k0_pay14 v27 (k0_pay68 v29 v41) mm kb)
    (k0_pay17 aa (k0_pay9 v2 k0_pay69 vv) (k0_pay15 v27 (k0_pay68 v29 v41) mm kb) (k0_pay16 v27 (k0_pay68 v29 v41) mm kb)) :=
  S.step hF 256 ho (a_max1 H ho K hok mm) (a_sum1 H ho K hok mm aa)
theorem b_head1 (S : State X i p 1 o mm aa) : State X i p 1 (o + 256) (k0_pay24 v27 (k0_pay68 v29 v41) mm kb)
    (k0_pay26 mm aa (k0_pay19 v2 k0_pay69 vv) (k0_pay23 v27 kb) (k0_pay24 v27 (k0_pay68 v29 v41) mm kb) (k0_pay25 v27 (k0_pay68 v29 v41) mm kb)) :=
  S.step hF 256 ho (b_max1 H ho K hok mm) (b_sum1 H ho K hok mm aa)
theorem c_head1 (S : State X i p 1 o mm aa) : State X i p 1 (o + 256) (k0_pay74 v29 v41 mm (k0_pay33 v27 kb))
    (k0_pay75 v29 v41 mm aa (k0_pay28 v2 k0_pay69 vv) (k0_pay32 v27 kb) (k0_pay33 v27 kb)) :=
  S.step hF 256 ho (c_max1 H ho K hok mm) (c_sum1 H ho K hok mm aa)

end Full

section Diag
variable {v2 : IVec S1x128 1} {v17 v27 : FVec Ideal S768x128 .bf16} {v29 : FVec Ideal S768x128 .f32} {v40 : FVec Ideal S768x1 .f32} {v41 : BitVec 32}
  {i p : ℕ} (H : Ops X p v2 v17 v27 v29 v40 v41) {ka kb vv : Vec Ideal S768x128 .bf16} (hi : i < 11)
  (K : Keys X ka kb vv fun r : Fin 768 => ⟨768 * i + r.val, lt_row r (le_tile hi)⟩) {v65 v82 : BitVec 32} {v83 : IVec S768x1 32}
  (hok : ∀ q r : Fin 768, k0_pay83 v65 v82 v83 (ix2 q r) = BitVec.ofBool (decide (OK i q ⟨768 * i + r.val, lt_row r (le_tile hi)⟩)))
include H hi K hok

theorem d_log0 (q r : Fin 768) : k0_pay84 v17 v65 (k0_pay78 ka) v82 v83 (ix2 q r) = TM X i 0 q ⟨768 * i + r.val, lt_row r (le_tile hi)⟩ := by
  pointwise [k0_pay84, k0_pay78, TM, TT, H.h17, K.ha, hok]; rfl
theorem d_log1 (q r : Fin 768) : k0_pay87 v27 v65 (k0_pay79 kb) v82 v83 (ix2 q r) = TM X i 1 q ⟨768 * i + r.val, lt_row r (le_tile hi)⟩ := by
  pointwise [k0_pay87, k0_pay79, TM, TT, H.h27, K.hb, hok]; rfl
theorem d_val0 (r : Fin 768) (l : Fin 128) : k0_pay81 v2 vv (ix2 r l) = VH X 0 l ⟨768 * i + r.val, lt_row r (le_tile hi)⟩ := by
  pointwise [k0_pay81, k0_pay80, k0_pay60, k0_pay69, H.h2, K.hv, VH]
  word_cmp
  simp only [hd_zero]
theorem d_val1 (r : Fin 768) (l : Fin 128) : k0_pay82 v2 vv (ix2 r l) = VH X 1 l ⟨768 * i + r.val, lt_row r (le_tile hi)⟩ := by
  pointwise [k0_pay82, k0_pay80, k0_pay60, k0_pay69, H.h2, K.hv, VH]
  word_cmp
  simp only [hd_one, ite_not]
theorem d_max0 (mm : FVec Ideal S768x1 .f32) (q : Fin 768) : k0_pay85 v17 v40 mm v65 (k0_pay78 ka) v82 v83 (ix2 q 0)
    = up (max (mm (ix2 q 0)) (CQ X p 0 q + Finset.univ.fold max ⊥ fun r : Fin 768 => TM X i 0 q ⟨768 * i + r.val, lt_row r (le_tile hi)⟩)) := by
  pointwise [k0_pay85, d_log0 H hi K hok, H.h40, neg_inf_word]
theorem d_max1 (mm : FVec Ideal S768x1 .f32) (q : Fin 768) : k0_pay88 v27 (k0_pay68 v29 v41) mm v65 (k0_pay79 kb) v82 v83 (ix2 q 0)
    = up (max (mm (ix2 q 0)) (CQ X p 1 q + Finset.univ.fold max ⊥ fun r : Fin 768 => TM X i 1 q ⟨768 * i + r.val, lt_row r (le_tile hi)⟩)) := by
  pointwise [k0_pay88, d_log1 H hi K hok, H.h51, neg_inf_word]
theorem d_sum0 (mm : FVec Ideal S768x1 .f32) (aa : FVec Ideal S768x128 .f32) (q : Fin 768) (l : Fin 128) :
    k0_pay86 v17 v40 mm aa v65 (k0_pay78 ka) (k0_pay81 v2 vv) v82 v83 (ix2 q l)
      = Ideal.exp2 (mm (ix2 q 0) - k0_pay85 v17 v40 mm v65 (k0_pay78 ka) v82 v83 (ix2 q 0)) * aa (ix2 q l)
      + ∑ r : Fin 768, Ideal.exp2 (TM X i 0 q ⟨768 * i + r.val, lt_row r (le_tile hi)⟩ + (CQ X p 0 q - k0_pay85 v17 v40 mm v65 (k0_pay78 ka) v82 v83 (ix2 q 0)))
          * VH X 0 l ⟨768 * i + r.val, lt_row r (le_tile hi)⟩ := by
  pointwise [k0_pay86, d_log0 H hi K hok, d_val0 H hi K hok, H.h40]; rfl
theorem d_sum1 (mm : FVec Ideal S768x1 .f32) (aa : FVec Ideal S768x128 .f32) (q : Fin 768) (l : Fin 128) :
    k0_pay1 aa (k0_pay82 v2 vv) (k0_pay89 v27 (k0_pay68 v29 v41) mm v65 (k0_pay79 kb) v82 v83)
        (k0_pay90 v27 (k0_pay68 v29 v41) mm v65 (k0_pay79 kb) v82 v83) (ix2 q l)
      = Ideal.exp2 (mm (ix2 q 0) - k0_pay88 v27 (k0_pay68 v29 v41) mm v65 (k0_pay79 kb) v82 v83 (ix2 q 0)) * aa (ix2 q l)
      + ∑ r : Fin 768, Ideal.exp2 (TM X i 1 q ⟨768 * i + r.val, lt_row r (le_tile hi)⟩
            + (CQ X p 1 q - k0_pay88 v27 (k0_pay68 v29 v41) mm v65 (k0_pay79 kb) v82 v83 (ix2 q 0)))
          * VH X 1 l ⟨768 * i + r.val, lt_row r (le_tile hi)⟩ := by
  pointwise [k0_pay1, k0_pay89, k0_pay90, d_log1 H hi K hok, d_val1 H hi K hok, H.h51]; rfl

variable (hF : Fits X i p) {mm : FVec Ideal S768x1 .f32} {aa : FVec Ideal S768x128 .f32}
include hF
theorem d_head0 (S : State X i p 0 (768 * i) mm aa) : State X i p 0 (768 * i + 768) (k0_pay85 v17 v40 mm v65 (k0_pay78 ka) v82 v83)
    (k0_pay86 v17 v40 mm aa v65 (k0_pay78 ka) (k0_pay81 v2 vv) v82 v83) :=
  S.step hF 768 (by omega) (d_max0 H hi K hok mm) (d_sum0 H hi K hok mm aa)
theorem d_head1 (S : State X i p 1 (768 * i) mm aa) : State X i p 1 (768 * i + 768) (k0_pay88 v27 (k0_pay68 v29 v41) mm v65 (k0_pay79 kb) v82 v83)
    (k0_pay1 aa (k0_pay82 v2 vv) (k0_pay89 v27 (k0_pay68 v29 v41) mm v65 (k0_pay79 kb) v82 v83)
      (k0_pay90 v27 (k0_pay68 v29 v41) mm v65 (k0_pay79 kb) v82 v83)) :=
  S.step hF 768 (by omega) (d_max1 H hi K hok mm) (d_sum1 H hi K hok mm aa)
end Diag

end Cert.FwdProof
end
-- ==== Proof.FwdRun.lean ====
module
public import proofs.«01_k».proof.Proof.FwdPay
@[expose] public section
set_option maxRecDepth 16384
noncomputable section
open Idealize.ShloMosaic Idealize.ShloMosaic.TcCoe Idealize.SL.Sem
open Idealize.ShloMosaic.Pipeline (Dat)
namespace Cert.FwdProof
open Cert.AttnFwdIdeal Cert.AttnFwdIdeal.Gen
open Cert.AttnBwd (Blocks QH KH TT OK hd Keys keys_of ok_before word_add word_base word_sum)

/-! ## The loop of one point -/

theorem trips1 : ∀ i : grid0.Coords, (k0_t1_loop i).trips = (i 1).val := by decide +kernel
theorem trips2 : ∀ i : grid0.Coords, (k0_t2_loop i).trips = 0 := by decide +kernel
theorem off1_a : ∀ (i : grid0.Coords) (k : Fin (k0_t1_loop i).trips), k0_off1 i k 0#32 = ![768 * k.val, 0] := by decide +kernel
theorem off1_b : ∀ (i : grid0.Coords) (k : Fin (k0_t1_loop i).trips), k0_off1 i k 256#32 = ![768 * k.val + 256, 0] := by decide +kernel
theorem off1_c : ∀ (i : grid0.Coords) (k : Fin (k0_t1_loop i).trips), k0_off1 i k 512#32 = ![768 * k.val + 256 + 256, 0] := by decide +kernel
theorem off3 : ∀ i : grid0.Coords, k0_off3 i = ![768 * (i 1).val, 0] := by decide +kernel
theorem coord_lt : ∀ i : grid0.Coords, (i 1).val < 11 := by decide +kernel
theorem no_trips (i : grid0.Coords) : Scf.trips (k0_t2_loop i).lb (k0_t2_loop i).ub (k0_t2_loop i).st = 0 := trips2 i

theorem mask_d {i : ℕ} (hi : i < 11) (q r : Fin 768) :
    k0_pay83 (Scalar.muli (BitVec.ofNat 32 i) 768#32) (Scalar.addi (Scalar.muli (BitVec.ofNat 32 i) 768#32) 0#32) (iota .tc S768x1 32 [0] iota_S768x1_d0_w32) (ix2 q r)
      = BitVec.ofBool (decide (OK i q ⟨768 * i + r.val, by omega⟩)) := by
  have hq := q.isLt
  have hr := r.isLt
  pointwise [k0_pay83]
  rw [show Scalar.muli (BitVec.ofNat 32 i) 768#32 = BitVec.ofNat 32 (768 * i) from by
    apply BitVec.eq_of_toNat_eq
    simp only [Scalar.muli, IntOp.muli, BitVec.toNat_mul, BitVec.toNat_ofNat]
    omega, show Scalar.addi (BitVec.ofNat 32 (768 * i)) 0#32 = BitVec.ofNat 32 (768 * i) from BitVec.add_zero _, word_sum, word_sum]
  word_cmp
  refine congrArg _ ?_
  rw [← Bool.decide_or, ← Bool.decide_and]
  refine decide_eq_decide.mpr ?_
  unfold OK
  dsimp only
  omega

section Loop
variable (𝒱 : Variants) (c : Dev nD) (bd : Option 𝒱.V) (i : grid0.Coords)
  (arg2 : Memref sig .tc .vmem S768x128 .bf16) (harg2 : arg2.IsWhole)
  (arg3 : Memref sig .tc .vmem S8448x128 .bf16) (harg3 : arg3.IsWhole)
  (arg4 : Memref sig .tc .vmem S8448x128 .bf16) (harg4 : arg4.IsWhole)
  (arg5 : Memref sig .tc .vmem S8448x128 .bf16) (harg5 : arg5.IsWhole)
  (arg6 : Memref sig .tc .vmem S768x128 .f32) (harg6 : arg6.IsWhole)
  (arg7 : Memref sig .tc .vmem S768x128 .f32) (harg7 : arg7.IsWhole)
  (arg8 : Memref sig .tc .vmem S768x128 .f32) (harg8 : arg8.IsWhole)
  (arg9 : Memref sig .tc .vmem S768x128 .bf16) (harg9 : arg9.IsWhole)
  (arg10 : Memref sig .tc .vmem S768x128 .f32) (harg10 : arg10.IsWhole)
  (arg11 : Memref sig .tc .vmem S768x128 .f32) (harg11 : arg11.IsWhole)
  (arg1 : BitVec 32) (v2 : IVec S1x128 1) (v17 v27 : FVec Ideal S768x128 .bf16) (v29 : FVec Ideal S768x128 .f32) (v40 : FVec Ideal S768x1 .f32)
  (v41 v61 : BitVec 32)
  (X3 : BufTy.Contents (Elt Ideal) arg3.view.ty) (X4 : BufTy.Contents (Elt Ideal) arg4.view.ty) (X5 : BufTy.Contents (Elt Ideal) arg5.view.ty)
  {X : Blocks} {p : ℕ} (H : Ops X p v2 v17 v27 v29 v40 v41)
  (h3 : arg3.view.read (Elt Ideal) X3 = X.x5) (h4 : arg4.view.read (Elt Ideal) X4 = X.x6) (h5 : arg5.view.read (Elt Ideal) X5 = X.x7)
  (hF : Fits X (i 1).val p)

/-- What is held of both heads. -/
structure Both (X : Blocks) (i p o : ℕ) (s : FVec Ideal S768x1 .f32 × FVec Ideal S768x128 .f32 × FVec Ideal S768x1 .f32 × FVec Ideal S768x128 .f32) :
    Prop where
  h0 : State X i p 0 o s.1 s.2.1
  h1 : State X i p 1 o s.2.2.1 s.2.2.2

include H h3 h4 h5 hF in
theorem trip_state (k : Fin (k0_t1_loop i).trips)
    (s : FVec Ideal S768x1 .f32 × FVec Ideal S768x128 .f32 × FVec Ideal S768x1 .f32 × FVec Ideal S768x128 .f32)
    (S : Both X (i 1).val p (768 * k.val) s) :
    Both X (i 1).val p (768 * k.val + 256 + 256 + 256) (tripR_k0_t1 (F := Ideal) 𝒱 c bd i arg2 harg2 arg3 harg3 arg4 harg4 arg5 harg5 arg6 harg6 arg7 harg7 arg8 harg8 arg9 harg9 arg10 harg10 arg11 harg11 arg1 v2 v17 v27 v29 v40 v41 X3 X4 X5 k s) := by
  have hki : k.val < (i 1).val := lt_of_lt_of_eq k.isLt (trips1 i)
  have hi := coord_lt i
  have K1 := keys_of (X := X) arg3.view arg4.view arg5.view X3 X4 X5 h3 h4 h5 (n := 256) (k0_off1_inb i k 0) (off1_a i k) (by omega)
  have K2 := keys_of (X := X) arg3.view arg4.view arg5.view X3 X4 X5 h3 h4 h5 (n := 256) (k0_off1_inb i k 1) (off1_b i k) (by omega)
  have K3 := keys_of (X := X) arg3.view arg4.view arg5.view X3 X4 X5 h3 h4 h5 (n := 256) (k0_off1_inb i k 2) (off1_c i k) (by omega)
  have ok1 : ∀ (q : Fin 768) (r : Fin 256), OK (i 1).val q ⟨768 * k.val + r.val, by omega⟩ := fun q r =>
    ok_before hki q _ (by show 768 * k.val + r.val < _; omega)
  have ok2 : ∀ (q : Fin 768) (r : Fin 256), OK (i 1).val q ⟨768 * k.val + 256 + r.val, by omega⟩ := fun q r =>
    ok_before hki q _ (by show 768 * k.val + 256 + r.val < _; omega)
  have ok3 : ∀ (q : Fin 768) (r : Fin 256), OK (i 1).val q ⟨768 * k.val + 256 + 256 + r.val, by omega⟩ := fun q r =>
    ok_before hki q _ (by show 768 * k.val + 256 + 256 + r.val < _; omega)
  unfold tripR_k0_t1 trip_k0_t1
  dsimp only
  sl_unfold_words
  exact ⟨c_head0 H (by omega) K3 ok3 hF (b_head0 H (by omega) K2 ok2 hF (a_head0 H (by omega) K1 ok1 hF S.h0)),
    c_head1 H (by omega) K3 ok3 hF (b_head1 H (by omega) K2 ok2 hF (a_head1 H (by omega) K1 ok1 hF S.h1))⟩

include H h3 h4 h5 hF in
theorem loop_state (s : FVec Ideal S768x1 .f32 × FVec Ideal S768x128 .f32 × FVec Ideal S768x1 .f32 × FVec Ideal S768x128 .f32)
    (S : Both X (i 1).val p 0 s) (n : ℕ) (hn : n ≤ (k0_t1_loop i).trips) :
    Both X (i 1).val p (768 * n) (st_k0_t1 (F := Ideal) 𝒱 c bd i arg2 harg2 arg3 harg3 arg4 harg4 arg5 harg5 arg6 harg6 arg7 harg7 arg8 harg8 arg9 harg9 arg10 harg10 arg11 harg11 arg1 v2 v17 v27 v29 v40 v41 X3 X4 X5 s n) := by
  induction n with
  | zero => exact S
  | succ n ih =>
    have e := st_k0_t1_succ (F := Ideal) 𝒱 c bd i arg2 harg2 arg3 harg3 arg4 harg4 arg5 harg5 arg6 harg6 arg7 harg7 arg8 harg8 arg9 harg9 arg10 harg10 arg11 harg11 arg1 v2 v17 v27 v29 v40 v41 X3 X4 X5 s ⟨n, hn⟩
    dsimp only at e
    rw [e]
    have T := trip_state 𝒱 c bd i arg2 harg2 arg3 harg3 arg4 harg4 arg5 harg5 arg6 harg6 arg7 harg7 arg8 harg8 arg9 harg9 arg10 harg10 arg11 harg11 arg1 v2 v17 v27 v29 v40 v41 X3 X4 X5 H h3 h4 h5 hF ⟨n, hn⟩ _ (ih (by omega))
    rw [show 768 * (n + 1) = 768 * n + 256 + 256 + 256 from by ring]
    exact T

include H h3 h4 h5 hF in
/-- Both loops of a point: the second makes no trip. -/
theorem loops_state (s : FVec Ideal S768x1 .f32 × FVec Ideal S768x128 .f32 × FVec Ideal S768x1 .f32 × FVec Ideal S768x128 .f32)
    (S : Both X (i 1).val p 0 s) :
    Both X (i 1).val p (768 * (i 1).val) (st_k0_t1 (F := Ideal) 𝒱 c bd i arg2 harg2 arg3 harg3 arg4 harg4 arg5 harg5 arg6 harg6 arg7 harg7 arg8 harg8 arg9 harg9 arg10 harg10 arg11 harg11 arg1 v2 v17 v27 v29 v40 v41 X3 X4 X5 s (Scf.trips (k0_t1_loop i).lb (k0_t1_loop i).ub (k0_t1_loop i).st)) := by
  have L := loop_state 𝒱 c bd i arg2 harg2 arg3 harg3 arg4 harg4 arg5 harg5 arg6 harg6 arg7 harg7 arg8 harg8 arg9 harg9 arg10 harg10 arg11 harg11 arg1 v2 v17 v27 v29 v40 v41 X3 X4 X5 H h3 h4 h5 hF s S (k0_t1_loop i).trips le_rfl
  rw [trips1 i] at L
  rw [show Scf.trips (k0_t1_loop i).lb (k0_t1_loop i).ub (k0_t1_loop i).st = (i 1).val from trips1 i]
  exact L

end Loop

/-! ## What one point writes -/

/-- The lane that holds the sum a lane is divided by. -/
def sw (l : Fin 128) : Fin 128 := ⟨(l.val + 64) % 128, Nat.mod_lt _ (by decide)⟩

section Out
variable {X : Blocks} {i p o : ℕ} {m0 m1 : FVec Ideal S768x1 .f32} {a0 w1 : FVec Ideal S768x128 .f32} {v80 : FVec Ideal S768x128 .bf16}
  {v131 : FVec Ideal S768x768 .bf16} {v134 : FVec Ideal S768x128 .f32}
  (S0 : State X i p 0 o m0 a0) (S1 : State X i p 1 o m1 (k0_pay1 w1 v80 v131 v134))

/-- The sum a query holds at a lane. -/
def AC (X : Blocks) (i p o : ℕ) (q : Fin 768) (l l' : Fin 128) : EReal := acc (CQ X p (hd l) q) (TM X i (hd l) q) (VH X (hd l) l') (under o)

include S0 S1

theorem out_m (q : Fin 768) (l : Fin 128) : k0_pay5 k0_pay60 m0 m1 (ix2 q l) = top (CQ X p (hd l) q) (TM X i (hd l) q) (under o) := by
  pointwise [k0_pay5, k0_pay60, S0.m, S1.m]
  word_cmp
  unfold hd; split <;> rfl
theorem out_o (q : Fin 768) (l : Fin 128) :
    k0_pay4 k0_pay60 w1 v80 a0 v131 v134 (ix2 q l) = Ideal.div (AC X i p o q l l) (AC X i p o q l (sw l)) := by
  pointwise [k0_pay4, k0_pay2, k0_pay3, k0_pay60, S0.a, S1.a]
  word_cmp
  unfold AC hd sw; split <;> rfl
theorem out_linv (q : Fin 768) (l : Fin 128) :
    k0_pay6 k0_pay60 w1 v80 a0 v131 v134 (ix2 q l) = Ideal.div 1 (AC X i p o q l (sw l)) := by
  pointwise [k0_pay6, k0_pay2, k0_pay3, k0_pay60, S0.a, S1.a]
  word_cmp
  unfold AC hd sw; split <;> rfl
theorem out_og (g : Vec Ideal S768x128 .f32) (q : Fin 768) (l : Fin 128) :
    k0_pay7 k0_pay60 w1 v80 a0 v131 v134 g (ix2 q l) = Ideal.div (AC X i p o q l l) (AC X i p o q l (sw l)) * Ideal.logistic (g (ix2 q l)) := by
  have e := out_o S0 S1 q l
  pointwise [k0_pay7, e]
end Out

end Cert.FwdProof
end
-- ==== Proof.FwdOut.lean ====
module
public import proofs.«01_k».proof.Proof.FwdRun
public import proofs.«01_k».proof.Proof.AttnRun
@[expose] public section
set_option maxRecDepth 16384
noncomputable section
open Idealize.ShloMosaic Idealize.ShloMosaic.TcCoe Idealize.SL.Sem
open Idealize.ShloMosaic.Pipeline (Dat)
namespace Cert.FwdProof
open Cert.AttnFwdIdeal Cert.AttnFwdIdeal.Gen
open Cert.AttnBwd (Blocks QH KH TT OK hd Keys keys_of)

theorem load_whole {e : EltTy} {sp : Space} (a : Memref sig .tc sp S768x128 e) (h : a.IsWhole) (x : S768x128.Idx → Elt Ideal e)
    (inb : ∀ b, (![0, 0] : Fin 2 → ℕ) b + S768x128.size b ≤ S768x128.size b) :
    View.readAt (Elt Ideal) a.view (Rect.unit (s := S768x128) ![0, 0] S768x128.size inb).toLoadRect (h.unread x) = x := by
  rw [View.readAt_eq_ld, h.read_unread]
  exact View.ld_unit_zero (by decide) inb x

/-- What a point's words are, of its blocks. -/
theorem ops_of (X : Blocks) (i : grid0.Coords) : Ops X (i 0).val k0_pay60 (k0_pay64 X.x0) (k0_pay65 X.x0) (k0_pay66 X.x4) (k0_pay67 i X.x4)
    (Scalar.muli 2#32 (BitVec.ofNat 32 (i 0).val)) where
  h2 := rfl
  h17 := qh0 X
  h27 := qh1 X
  h40 := cq0 X i
  h51 := cq1 X (i 0).val (i 0).isLt

section Run
variable (c : Dev nD) (i : grid0.Coords)
  (arg2 : Memref sig .tc .vmem S768x128 .bf16) (harg2 : arg2.IsWhole)
  (arg3 : Memref sig .tc .vmem S8448x128 .bf16) (harg3 : arg3.IsWhole)
  (arg4 : Memref sig .tc .vmem S8448x128 .bf16) (harg4 : arg4.IsWhole)
  (arg5 : Memref sig .tc .vmem S8448x128 .bf16) (harg5 : arg5.IsWhole)
  (arg6 : Memref sig .tc .vmem S768x128 .f32) (harg6 : arg6.IsWhole)
  (arg7 : Memref sig .tc .vmem S768x128 .f32) (harg7 : arg7.IsWhole)
  (arg8 : Memref sig .tc .vmem S768x128 .f32) (harg8 : arg8.IsWhole)
  (arg9 : Memref sig .tc .vmem S768x128 .bf16) (harg9 : arg9.IsWhole)
  (arg10 : Memref sig .tc .vmem S768x128 .f32) (harg10 : arg10.IsWhole)
  (arg11 : Memref sig .tc .vmem S768x128 .f32) (harg11 : arg11.IsWhole)
  (X : Blocks) (hF : Fits X (i 1).val (i 0).val) (g : Vec Ideal S768x128 .f32)

/-- The words of a point whose buffers hold the blocks `X`. -/
theorem ops_load : Ops X (i 0).val k0_pay60 (k0_pay64 (View.readAt (Elt Ideal) arg2.view (Rect.unit (s := S768x128) ![0, 0] S768x128.size inb_S768x128_S768x128_0_0).toLoadRect (harg2.unread X.x0))) (k0_pay65 (View.readAt (Elt Ideal) arg2.view (Rect.unit (s := S768x128) ![0, 0] S768x128.size inb_S768x128_S768x128_0_0).toLoadRect (harg2.unread X.x0))) (k0_pay66 (View.readAt (Elt Ideal) arg6.view (Rect.unit (s := S768x128) ![0, 0] S768x128.size inb_S768x128_S768x128_0_0).toLoadRect (harg6.unread X.x4))) (k0_pay67 i (View.readAt (Elt Ideal) arg6.view (Rect.unit (s := S768x128) ![0, 0] S768x128.size inb_S768x128_S768x128_0_0).toLoadRect (harg6.unread X.x4)))
    (Scalar.muli 2#32 (BitVec.ofNat 32 (i 0).val)) := by
  rw [load_whole, load_whole]
  exact ops_of X i

include hF in
theorem point_state : Both X (i 1).val (i 0).val (768 * (i 1).val) (st_k0_t1 (F := Ideal) Variants.none c none i arg2 harg2 arg3 harg3 arg4 harg4 arg5 harg5 arg6 harg6 arg7 harg7 arg8 harg8 arg9 harg9 arg10 harg10 arg11 harg11 (BitVec.ofNat 32 (i 1).val) k0_pay60
    (k0_pay64 (View.readAt (Elt Ideal) arg2.view (Rect.unit (s := S768x128) ![0, 0] S768x128.size inb_S768x128_S768x128_0_0).toLoadRect (harg2.unread X.x0))) (k0_pay65 (View.readAt (Elt Ideal) arg2.view (Rect.unit (s := S768x128) ![0, 0] S768x128.size inb_S768x128_S768x128_0_0).toLoadRect (harg2.unread X.x0))) (k0_pay66 (View.readAt (Elt Ideal) arg6.view (Rect.unit (s := S768x128) ![0, 0] S768x128.size inb_S768x128_S768x128_0_0).toLoadRect (harg6.unread X.x4))) (k0_pay67 i (View.readAt (Elt Ideal) arg6.view (Rect.unit (s := S768x128) ![0, 0] S768x128.size inb_S768x128_S768x128_0_0).toLoadRect (harg6.unread X.x4)))
    (Scalar.muli 2#32 (BitVec.ofNat 32 (i 0).val)) (harg3.unread X.x5) (harg4.unread X.x6) (harg5.unread X.x7) (k0_pay70, k0_pay71, k0_pay72, k0_pay73)
    (Scf.trips (k0_t1_loop i).lb (k0_t1_loop i).ub (k0_t1_loop i).st)) :=
  loops_state Variants.none c none i arg2 harg2 arg3 harg3 arg4 harg4 arg5 harg5 arg6 harg6 arg7 harg7 arg8 harg8 arg9 harg9 arg10 harg10 arg11 harg11 _ _ _ _ _ _ _ _ _ _ (ops_load i arg2 harg2 arg6 harg6 X) (harg3.read_unread (Val := Elt Ideal) X.x5)
    (harg4.read_unread (Val := Elt Ideal) X.x6) (harg5.read_unread (Val := Elt Ideal) X.x7) hF _
    ⟨State.zero _ _ _ _ _ (fun q => by pointwise [k0_pay70]; rfl) (fun q l => by pointwise [k0_pay71]),
      State.zero _ _ _ _ _ (fun q => by pointwise [k0_pay72]; rfl) (fun q l => by pointwise [k0_pay73])⟩

include hF

theorem at_6 (q : Fin 768) (l : Fin 128) : out0_A_6 (F := Ideal) c i arg2 harg2 arg3 harg3 arg4 harg4 arg5 harg5 arg6 harg6 arg7 harg7 arg8 harg8 arg9 harg9 arg10 harg10 arg11 harg11 X.x0 X.x5 X.x6 X.x7 X.x4 g (ix2 q l)
    = Ideal.div (AC X (i 1).val (i 0).val (768 * (i 1).val + 768) q l l) (AC X (i 1).val (i 0).val (768 * (i 1).val + 768) q l (sw l)) := by
  have B := point_state c i arg2 harg2 arg3 harg3 arg4 harg4 arg5 harg5 arg6 harg6 arg7 harg7 arg8 harg8 arg9 harg9 arg10 harg10 arg11 harg11 X hF
  have H := ops_load i arg2 harg2 arg6 harg6 X
  have K := keys_of (X := X) arg3.view arg4.view arg5.view _ _ _ (harg3.read_unread (Val := Elt Ideal) X.x5) (harg4.read_unread (Val := Elt Ideal) X.x6)
    (harg5.read_unread (Val := Elt Ideal) X.x7) (n := 768) (k0_off3_inb i) (off3 i) (le_tile (coord_lt i))
  have S0 := d_head0 H (coord_lt i) K (mask_d (coord_lt i)) hF B.h0
  have S1 := d_head1 H (coord_lt i) K (mask_d (coord_lt i)) hF B.h1
  unfold out0_A_6 kernelRun0_A
  dsimp only
  sl_unfold_words
  refine (View.read_writes_cons_unit_of_mem (s := S768x128) VO0_6 _ inb_S768x128_S768x128_0_0 _ [] (ix2 q l) (ix2 q l)
    (off' := ![0, 0]) rfl (fun a => by fin_cases a <;> exact (Nat.zero_add _).symm)).trans ?_
  rw [no_trips]
  exact out_o S0 S1 q l

theorem at_7 (q : Fin 768) (l : Fin 128) : out0_A_7 (F := Ideal) c i arg2 harg2 arg3 harg3 arg4 harg4 arg5 harg5 arg6 harg6 arg7 harg7 arg8 harg8 arg9 harg9 arg10 harg10 arg11 harg11 X.x0 X.x5 X.x6 X.x7 X.x4 g (ix2 q l)
    = Ideal.div (AC X (i 1).val (i 0).val (768 * (i 1).val + 768) q l l) (AC X (i 1).val (i 0).val (768 * (i 1).val + 768) q l (sw l)) * Ideal.logistic (g (ix2 q l)) := by
  have B := point_state c i arg2 harg2 arg3 harg3 arg4 harg4 arg5 harg5 arg6 harg6 arg7 harg7 arg8 harg8 arg9 harg9 arg10 harg10 arg11 harg11 X hF
  have H := ops_load i arg2 harg2 arg6 harg6 X
  have K := keys_of (X := X) arg3.view arg4.view arg5.view _ _ _ (harg3.read_unread (Val := Elt Ideal) X.x5) (harg4.read_unread (Val := Elt Ideal) X.x6)
    (harg5.read_unread (Val := Elt Ideal) X.x7) (n := 768) (k0_off3_inb i) (off3 i) (le_tile (coord_lt i))
  have S0 := d_head0 H (coord_lt i) K (mask_d (coord_lt i)) hF B.h0
  have S1 := d_head1 H (coord_lt i) K (mask_d (coord_lt i)) hF B.h1
  unfold out0_A_7 kernelRun0_A
  dsimp only
  sl_unfold_words
  refine (View.read_writes_cons_unit_of_mem (s := S768x128) VO0_7 _ inb_S768x128_S768x128_0_0 _ [] (ix2 q l) (ix2 q l)
    (off' := ![0, 0]) rfl (fun a => by fin_cases a <;> exact (Nat.zero_add _).symm)).trans ?_
  rw [no_trips]
  exact (out_og S0 S1 _ q l).trans (by rw [load_whole])

theorem at_8 (q : Fin 768) (l : Fin 128) : out0_A_8 (F := Ideal) c i arg2 harg2 arg3 harg3 arg4 harg4 arg5 harg5 arg6 harg6 arg7 harg7 arg8 harg8 arg9 harg9 arg10 harg10 arg11 harg11 X.x0 X.x5 X.x6 X.x7 X.x4 g (ix2 q l)
    = top (CQ X (i 0).val (hd l) q) (TM X (i 1).val (hd l) q) (under (768 * (i 1).val + 768)) := by
  have B := point_state c i arg2 harg2 arg3 harg3 arg4 harg4 arg5 harg5 arg6 harg6 arg7 harg7 arg8 harg8 arg9 harg9 arg10 harg10 arg11 harg11 X hF
  have H := ops_load i arg2 harg2 arg6 harg6 X
  have K := keys_of (X := X) arg3.view arg4.view arg5.view _ _ _ (harg3.read_unread (Val := Elt Ideal) X.x5) (harg4.read_unread (Val := Elt Ideal) X.x6)
    (harg5.read_unread (Val := Elt Ideal) X.x7) (n := 768) (k0_off3_inb i) (off3 i) (le_tile (coord_lt i))
  have S0 := d_head0 H (coord_lt i) K (mask_d (coord_lt i)) hF B.h0
  have S1 := d_head1 H (coord_lt i) K (mask_d (coord_lt i)) hF B.h1
  unfold out0_A_8 kernelRun0_A
  dsimp only
  sl_unfold_words
  refine (View.read_writes_cons_unit_of_mem (s := S768x128) VO0_8 _ inb_S768x128_S768x128_0_0 _ [] (ix2 q l) (ix2 q l)
    (off' := ![0, 0]) rfl (fun a => by fin_cases a <;> exact (Nat.zero_add _).symm)).trans ?_
  rw [no_trips]
  exact out_m S0 S1 q l

theorem at_9 (q : Fin 768) (l : Fin 128) : out0_A_9 (F := Ideal) c i arg2 harg2 arg3 harg3 arg4 harg4 arg5 harg5 arg6 harg6 arg7 harg7 arg8 harg8 arg9 harg9 arg10 harg10 arg11 harg11 X.x0 X.x5 X.x6 X.x7 X.x4 g (ix2 q l)
    = Ideal.div 1 (AC X (i 1).val (i 0).val (768 * (i 1).val + 768) q l (sw l)) := by
  have B := point_state c i arg2 harg2 arg3 harg3 arg4 harg4 arg5 harg5 arg6 harg6 arg7 harg7 arg8 harg8 arg9 harg9 arg10 harg10 arg11 harg11 X hF
  have H := ops_load i arg2 harg2 arg6 harg6 X
  have K := keys_of (X := X) arg3.view arg4.view arg5.view _ _ _ (harg3.read_unread (Val := Elt Ideal) X.x5) (harg4.read_unread (Val := Elt Ideal) X.x6)
    (harg5.read_unread (Val := Elt Ideal) X.x7) (n := 768) (k0_off3_inb i) (off3 i) (le_tile (coord_lt i))
  have S0 := d_head0 H (coord_lt i) K (mask_d (coord_lt i)) hF B.h0
  have S1 := d_head1 H (coord_lt i) K (mask_d (coord_lt i)) hF B.h1
  unfold out0_A_9 kernelRun0_A
  dsimp only
  sl_unfold_words
  refine (View.read_writes_cons_unit_of_mem (s := S768x128) VO0_9 _ inb_S768x128_S768x128_0_0 _ [] (ix2 q l) (ix2 q l)
    (off' := ![0, 0]) rfl (fun a => by fin_cases a <;> exact (Nat.zero_add _).symm)).trans ?_
  rw [no_trips]
  exact out_linv S0 S1 q l

end Run
end Cert.FwdProof
end
-- ==== Proof.FwdHost.lean ====
module
public import proofs.«01_k».proof.Proof.FwdOut
public import proofs.«01_k».proof.Proof.AttnFin
public import Idealize.ShloMosaic.Lib.StableHlo.RunRead
public import Idealize.ShloMosaic.Lib.Claim
@[expose] public section
set_option maxRecDepth 16384
noncomputable section
open Idealize.ShloMosaic Idealize.ShloMosaic.TcCoe Idealize.SL.Sem
namespace Cert.FwdProof
open Cert.AttnFwdIdeal Cert.AttnFwdIdeal.Gen
open Cert.AttnBwd (Heads Rows sWide sQn sCs sKa sKb beside evens odds join64 join3)

/-! ## What the host hands the forward call -/

variable (m : (ℓ : Loc nD τ sig) → Buf (Elt Ideal) ℓ) (c : Dev nD)
def F0 : Heads := m ((c : Thread nD τ).loc main_arg0)
def F1 : Heads := m ((c : Thread nD τ).loc main_arg1)
def F2 : Heads := m ((c : Thread nD τ).loc main_arg2)
def F3 : Rows := m ((c : Thread nD τ).loc main_arg3)
def F4 : FVec Ideal S8208x1024 .f32 := m ((c : Thread nD τ).loc main_arg4)

theorem read_q : V m c main_v45 = (truncf .bf16 (sWide (sQn (F0 m c))) bitsLt_bf16_f32 : FVec Ideal S8448x1024 .bf16) := by
  unfold V
  simp only [List.flatten_cons, List.flatten_nil, List.append_nil]
  after_reads_simp
  rfl
theorem read_v : V m c main_v49 = (truncf .bf16 (sWide (F2 m c)) bitsLt_bf16_f32 : FVec Ideal S8448x1024 .bf16) := by
  unfold V
  simp only [List.flatten_cons, List.flatten_nil, List.append_nil]
  after_reads_simp
  rfl
theorem read_cs : V m c main_v40 = sCs (F3 m c) := by
  unfold V
  simp only [List.flatten_cons, List.flatten_nil, List.append_nil]
  after_reads_simp
  rfl
theorem read_ka : V m c main_v35 = (truncf .bf16 (sKa (F1 m c) (F3 m c)) bitsLt_bf16_f32 : FVec Ideal S8448x1024 .bf16) := by
  unfold V
  simp only [List.flatten_cons, List.flatten_nil, List.append_nil]
  after_reads_simp
  change (truncf .bf16 (beside _ _) bitsLt_bf16_f32 : FVec Ideal S8448x1024 .bf16) = _
  after_reads_simp
  change (truncf .bf16 (beside _ (evens (join64 _ _))) bitsLt_bf16_f32 : FVec Ideal S8448x1024 .bf16) = _
  after_reads_simp
  change (truncf .bf16 (beside _ (evens (join64 (join3 _ _ _) _))) bitsLt_bf16_f32 : FVec Ideal S8448x1024 .bf16) = _
  after_reads_simp
  rfl
theorem read_kb : V m c main_v38 = (truncf .bf16 (sKb (F1 m c) (F3 m c)) bitsLt_bf16_f32 : FVec Ideal S8448x1024 .bf16) := by
  unfold V
  simp only [List.flatten_cons, List.flatten_nil, List.append_nil]
  after_reads_simp
  change (truncf .bf16 (beside _ _) bitsLt_bf16_f32 : FVec Ideal S8448x1024 .bf16) = _
  after_reads_simp
  change (truncf .bf16 (beside (odds (join64 _ _)) _) bitsLt_bf16_f32 : FVec Ideal S8448x1024 .bf16) = _
  after_reads_simp
  change (truncf .bf16 (beside (odds (join64 (join3 _ _ _) _)) _) bitsLt_bf16_f32 : FVec Ideal S8448x1024 .bf16) = _
  after_reads_simp
  rfl
theorem read_g : V m c main_v41 = (pad S8448x4224 ![240, 3072] ![0, 128] ![0, 0] (F4 m c) (sitofp .f32 (constantI S_ 32 0#32)) pads_S8208x1024_S8448x4224_24000_30721280 h_S_ : FVec Ideal S8448x4224 .f32) := by
  unfold V
  simp only [List.flatten_cons, List.flatten_nil, List.append_nil]
  after_reads_simp
  rfl

theorem idx_in : ∀ t : Fin cfg0.N, win0_0.index t = ![t.val % 11, t.val / 11] ∧ win0_1.index t = ![0, t.val / 11]
    ∧ win0_2.index t = ![0, t.val / 11] ∧ win0_3.index t = ![0, t.val / 11] ∧ win0_4.index t = ![t.val % 11, 0]
    ∧ win0_5.index t = ![t.val % 11, t.val / 11 + 24] ∧ win0_6.index t = ![t.val % 11, t.val / 11] ∧ win0_7.index t = ![t.val % 11, t.val / 11]
    ∧ win0_8.index t = ![t.val % 11, t.val / 11] ∧ win0_9.index t = ![t.val % 11, t.val / 11] :=
  (by decide +kernel : ∀ t : Fin grid0.N, _)
theorem coord : ∀ t : Fin cfg0.N, (grid0.coords t 0).val = t.val / 11 ∧ (grid0.coords t 1).val = t.val % 11 :=
  (by decide +kernel : ∀ t : Fin grid0.N, _)

theorem elt_any (e : EltTy) : Nonempty (Elt Ideal e) := by
  cases e <;> first | exact ⟨(0 : EReal)⟩ | exact ⟨(0 : BitVec _)⟩

/-- A buffer of the backward program. -/
abbrev at' (r : Ref Cert.AttnBwdIdeal.sig .tc) : Loc Cert.AttnBwdIdeal.nD Cert.AttnBwdIdeal.τ Cert.AttnBwdIdeal.sig := Thread.loc (Dev.tc c) r

theorem refs_ne {r s : Ref Cert.AttnBwdIdeal.sig .tc} (h : (at' 0 r).2 ≠ (at' 0 s).2) : at' c r ≠ at' c s := by
  intro e
  have e' := congrArg Prod.snd e
  exact h e'

/-- A memory of the backward program that holds the forward arguments, and a cotangent of zeros. -/
theorem twin (a0 a1 a2 a4 : Heads) (a3 : Rows) : ∃ m' : (ℓ : Loc Cert.AttnBwdIdeal.nD Cert.AttnBwdIdeal.τ Cert.AttnBwdIdeal.sig) → Buf (Elt Ideal) ℓ,
    Cert.AttnBwd.A0 m' c = a0 ∧ Cert.AttnBwd.A1 m' c = a1 ∧ Cert.AttnBwd.A2 m' c = a2 ∧ Cert.AttnBwd.A3 m' c = a3 ∧ Cert.AttnBwd.A4 m' c = a4 := by
  classical
  refine ⟨Function.update (Function.update (Function.update (Function.update (Function.update (fun ℓ i => (elt_any _).some)
    (at' c Cert.AttnBwdIdeal.main_arg0) a0) (at' c Cert.AttnBwdIdeal.main_arg1) a1)
    (at' c Cert.AttnBwdIdeal.main_arg2) a2) (at' c Cert.AttnBwdIdeal.main_arg3) a3)
    (at' c Cert.AttnBwdIdeal.main_arg4) a4, ?_, ?_, ?_, ?_, ?_⟩
  · exact (Function.update_of_ne (refs_ne c (r := Cert.AttnBwdIdeal.main_arg0) (s := Cert.AttnBwdIdeal.main_arg4) (by decide)) _ _).trans ((Function.update_of_ne (refs_ne c (r := Cert.AttnBwdIdeal.main_arg0) (s := Cert.AttnBwdIdeal.main_arg3) (by decide)) _ _).trans ((Function.update_of_ne (refs_ne c (r := Cert.AttnBwdIdeal.main_arg0) (s := Cert.AttnBwdIdeal.main_arg2) (by decide)) _ _).trans
      ((Function.update_of_ne (refs_ne c (r := Cert.AttnBwdIdeal.main_arg0) (s := Cert.AttnBwdIdeal.main_arg1) (by decide)) _ _).trans (Function.update_self _ _ _))))
  · exact (Function.update_of_ne (refs_ne c (r := Cert.AttnBwdIdeal.main_arg1) (s := Cert.AttnBwdIdeal.main_arg4) (by decide)) _ _).trans ((Function.update_of_ne (refs_ne c (r := Cert.AttnBwdIdeal.main_arg1) (s := Cert.AttnBwdIdeal.main_arg3) (by decide)) _ _).trans ((Function.update_of_ne (refs_ne c (r := Cert.AttnBwdIdeal.main_arg1) (s := Cert.AttnBwdIdeal.main_arg2) (by decide)) _ _).trans (Function.update_self _ _ _)))
  · exact (Function.update_of_ne (refs_ne c (r := Cert.AttnBwdIdeal.main_arg2) (s := Cert.AttnBwdIdeal.main_arg4) (by decide)) _ _).trans ((Function.update_of_ne (refs_ne c (r := Cert.AttnBwdIdeal.main_arg2) (s := Cert.AttnBwdIdeal.main_arg3) (by decide)) _ _).trans (Function.update_self _ _ _))
  · exact (Function.update_of_ne (refs_ne c (r := Cert.AttnBwdIdeal.main_arg3) (s := Cert.AttnBwdIdeal.main_arg4) (by decide)) _ _).trans (Function.update_self _ _ _)
  · exact Function.update_self _ _ _
end Cert.FwdProof
end
-- ==== Proof.FwdVal.lean ====
module
public import proofs.«01_k».proof.Proof.FwdHost
@[expose] public section
set_option maxRecDepth 16384
noncomputable section
open Idealize.ShloMosaic Idealize.ShloMosaic.TcCoe Idealize.SL.Sem
namespace Cert.FwdProof
open Cert.AttnBwdIdeal Cert.AttnBwdIdeal.Gen
open Cert.AttnBwd

/-! ## The sums of a tile on finite arguments -/

variable {m : (ℓ : Loc nD τ sig) → Buf (Elt Ideal) ℓ} {c : Dev nD}
  {q k v w : Fin 16 → Fin 8208 → Fin 64 → ℝ} {cc mu : Fin 16 → Fin 8208 → ℝ} (A : Real5 m c q k v w cc mu)
include A
variable (p : Fin 8) (j : Fin 11) (h : Fin 2) (y : Fin 768) (R : Fin 8448) (d : Fin 64)

theorem cq_at : CQ (XX m c (pt p j)) p.val h y = ((lift (fun Q => cc (gof p h) Q / L2) (rof j y) : ℝ) : EReal) := by
  unfold CQ
  rw [Finset.sum_eq_single_of_mem (⟨2 * p.val + h.val, by omega⟩ : Fin 128) (Finset.mem_univ _) fun l _ hl => if_neg fun e => hl (Fin.ext e),
    if_pos rfl, x4_at A p j h y _ rfl]

/-- The padding meets nothing that counts. -/
theorem tm_pad (hR : R.val < 240) : TM (XX m c (pt p j)) j.val h y R = ⊥ := by
  unfold TM
  rw [tt_at A, if_pos hR, EReal.add_bot, ite_self]
omit A in
theorem tm_after (X : Blocks) (hR : 768 * j.val + y.val < R.val) : TM X j.val h y R = ⊥ := by
  unfold TM
  rw [if_neg]
  unfold OK
  omega
theorem tm_at (Q K : Fin 8208) (hQ : Q.val + 240 = 768 * j.val + y.val) (hR : R.val = K.val + 240) : TM (XX m c (pt p j)) j.val h y R
    = sL (ofHeads q) (ofHeads k) (ofRows cc) (ix3 (gof p h) Q K) := by
  rw [l_at]
  by_cases hK : K ≤ Q
  · have hK' : K.val ≤ Q.val := hK
    unfold TM
    have eK : (⟨R.val - 240, by omega⟩ : Fin 8208) = K := Fin.ext (by show R.val - 240 = K.val; omega)
    have eQ : (⟨(rof j y).val - 240, by omega⟩ : Fin 8208) = Q := Fin.ext (by show 768 * j.val + y.val - 240 = Q.val; omega)
    have hR' : 240 ≤ R.val := by omega
    have hY' : 240 ≤ (rof j y).val := by show 240 ≤ 768 * j.val + y.val; omega
    rw [if_pos hK, if_pos (by unfold OK; omega), tt_at A, if_neg (by omega), lift_eq _ R hR', ← EReal.coe_add, eK]
    simp_rw [lift_eq _ _ hR', lift_eq _ _ hY', eK, eQ]
    rfl
  · rw [if_neg hK]
    refine tm_after j h y R _ ?_
    have : ¬K.val ≤ Q.val := hK
    omega
theorem tm_real : TM (XX m c (pt p j)) j.val h y R = ⊥ ∨ ∃ r : ℝ, TM (XX m c (pt p j)) j.val h y R = r := by
  by_cases hR : R.val < 240
  · exact .inl (tm_pad A p j h y R hR)
  · unfold TM
    rw [tt_at A, if_neg hR, ← EReal.coe_add]
    split
    · exact .inr ⟨_, rfl⟩
    · exact .inl rfl
/-- A query of padding meets nothing. -/
theorem tm_none (hY : 768 * j.val + y.val < 240) : TM (XX m c (pt p j)) j.val h y R = ⊥ := by
  by_cases hR : R.val < 240
  · exact tm_pad A p j h y R hR
  · exact tm_after j h y R _ (by omega)

theorem vh_at (l : Fin 128) : VH (XX m c (pt p j)) h l R = (((if hd l = h then lift (fun Q => v (gof p h) Q (lane l)) R else 1 : ℝ)) : EReal) := by
  unfold VH
  split
  · next e =>
    have a := x7_own A p j h R (lane l)
    rw [← e, own_hd] at a
    rw [a, e]
  · rfl

theorem fits : Fits (XX m c (pt p j)) j.val p.val := fun h y l =>
  ⟨⟨_, cq_at A p j h y⟩, fun R => tm_real A p j h y R, fun R => ⟨_, vh_at A p j h R l⟩⟩

/-- The shift of a query among the keys its tile meets. -/
theorem top_at (Q : Fin 8208) (hQ : Q.val + 240 = 768 * j.val + y.val) : top (CQ (XX m c (pt p j)) p.val h y) (TM (XX m c (pt p j)) j.val h y)
    (under (768 * j.val + 768)) = ((mu (gof p h) Q : ℝ) : EReal) := by
  have hY' : 240 ≤ (rof j y).val := by show 240 ≤ 768 * j.val + y.val; omega
  have eQ : (⟨(rof j y).val - 240, by omega⟩ : Fin 8208) = Q := Fin.ext (by show 768 * j.val + y.val - 240 = Q.val; omega)
  rw [← A.hmu, top, cq_at A, lift_eq _ _ hY', eQ]
  unfold sM
  pointwise [c_at]
  rw [bot_word]
  refine congrArg (fun x => up (_ + x)) (le_antisymm (Finset.sup_le fun R _ => ?_) (Finset.sup_le fun K _ => ?_))
  · by_cases hR : R.val < 240
    · rw [tm_pad A p j h y R hR]; exact bot_le
    · rw [tm_at A p j h y R Q ⟨R.val - 240, by omega⟩ hQ (by show R.val = R.val - 240 + 240; omega)]
      exact Finset.le_sup (f := fun K => sL (ofHeads q) (ofHeads k) (ofRows cc) (ix3 (gof p h) Q K)) (Finset.mem_univ _)
  · show sL (ofHeads q) (ofHeads k) (ofRows cc) (ix3 (gof p h) Q K) ≤ _
    rw [← tm_at A p j h y ⟨K.val + 240, by omega⟩ Q K hQ rfl]
    by_cases hK : 768 * j.val + y.val < K.val + 240
    · rw [tm_after j h y _ _ hK]; exact bot_le
    · exact Finset.le_sup (f := TM (XX m c (pt p j)) j.val h y) (by
        unfold under
        rw [Finset.mem_filter]
        exact ⟨Finset.mem_univ _, by show K.val + 240 < _; omega⟩)
theorem top_none (hY : 768 * j.val + y.val < 240) : top (CQ (XX m c (pt p j)) p.val h y) (TM (XX m c (pt p j)) j.val h y)
    (under (768 * j.val + 768)) = ⊥ := by
  have e : (under (768 * j.val + 768)).sup (TM (XX m c (pt p j)) j.val h y) = ⊥ := by
    rw [Finset.sup_eq_bot_iff]
    exact fun R _ => tm_none A p j h y R hY
  rw [top, e, EReal.add_bot]
  rfl

/-- The sum of a query's weights with some reals over the keys its tile meets is that over all keys. -/
theorem acc_at (Q : Fin 8208) (hQ : Q.val + 240 = 768 * j.val + y.val) (f : Fin 8448 → ℝ) : acc (CQ (XX m c (pt p j)) p.val h y)
    (TM (XX m c (pt p j)) j.val h y) (fun R => (f R : EReal)) (under (768 * j.val + 768))
    = ((∑ K : Fin 8208, Math.wt (q (gof p h)) (k (gof p h)) (cc (gof p h)) (nat mu (gof p h)) Q K * f ⟨K.val + 240, by omega⟩ : ℝ) : EReal) := by
  have hY' : 240 ≤ (rof j y).val := by show 240 ≤ 768 * j.val + y.val; omega
  have eQ : (⟨(rof j y).val - 240, by omega⟩ : Fin 8208) = Q := Fin.ext (by show 768 * j.val + y.val - 240 = Q.val; omega)
  have e : ∀ R, Ideal.exp2 (TM (XX m c (pt p j)) j.val h y R + (CQ (XX m c (pt p j)) p.val h y - ((mu (gof p h) Q : ℝ) : EReal))) * ((f R : ℝ) : EReal)
      = ((lift (fun K => Math.wt (q (gof p h)) (k (gof p h)) (cc (gof p h)) (nat mu (gof p h)) Q K * f ⟨K.val + 240, by omega⟩) R : ℝ) : EReal) := by
    intro R
    have P := pb_at A p j h y R
    unfold PB lift2 at P
    rw [sh_at A, lift_eq _ _ hY', lift_eq _ _ hY', lift_eq _ _ hY', eQ] at P
    rw [cq_at A, lift_eq _ _ hY', eQ, ← EReal.coe_sub]
    unfold TM
    rw [P, ← EReal.coe_mul]
    refine congrArg (fun r : ℝ => (r : EReal)) ?_
    unfold lift
    split
    · next hR => exact congrArg (_ * f ·) (Fin.ext (by show R.val = R.val - 240 + 240; omega))
    · exact zero_mul _
  unfold acc
  rw [top_at A p j h y Q hQ]
  simp_rw [e]
  rw [← sum_lift, ← coe_sums]
  refine Finset.sum_subset (Finset.subset_univ _) fun R _ hR => ?_
  unfold under at hR
  rw [Finset.mem_filter] at hR
  have hR' : ¬R.val < 768 * j.val + 768 := fun e => hR ⟨Finset.mem_univ _, e⟩
  rw [← e, tm_after j h y R _ (by omega), EReal.bot_add]
  exact zero_mul _
theorem acc_none (hY : 768 * j.val + y.val < 240) (f : Fin 8448 → EReal) : acc (CQ (XX m c (pt p j)) p.val h y)
    (TM (XX m c (pt p j)) j.val h y) f (under (768 * j.val + 768)) = 0 := by
  unfold acc
  refine Finset.sum_eq_zero fun R _ => ?_
  rw [tm_none A p j h y R hY, EReal.bot_add]
  exact zero_mul _

omit A in
theorem hd_sw (l : Fin 128) : hd (sw l) ≠ hd l := by
  unfold hd sw
  dsimp only
  split_ifs <;> first | omega | simp

/-- The weighted sum of the values, and the weights' own sum. -/
theorem ac_own (Q : Fin 8208) (hQ : Q.val + 240 = 768 * j.val + y.val) (l : Fin 128) : AC (XX m c (pt p j)) j.val p.val (768 * j.val + 768) y l l
    = ((∑ K, Math.wt (q (gof p (hd l))) (k (gof p (hd l))) (cc (gof p (hd l))) (nat mu (gof p (hd l))) Q K * v (gof p (hd l)) K (lane l) : ℝ) : EReal) := by
  unfold AC
  have e := funext fun R => vh_at A p j (hd l) R l
  rw [e, acc_at A p j (hd l) y Q hQ]
  refine congrArg (fun r : ℝ => (r : EReal)) (Finset.sum_congr rfl fun K _ => congrArg _ ?_)
  rw [if_pos rfl, lift_eq _ _ (by show 240 ≤ K.val + 240; omega)]
  exact congrArg (v _ · _) (Fin.ext (by show K.val + 240 - 240 = K.val; omega))
theorem ac_sw (Q : Fin 8208) (hQ : Q.val + 240 = 768 * j.val + y.val) (l : Fin 128) : AC (XX m c (pt p j)) j.val p.val (768 * j.val + 768) y l (sw l)
    = ((Math.tot (q (gof p (hd l))) (k (gof p (hd l))) (cc (gof p (hd l))) (nat mu (gof p (hd l))) Q : ℝ) : EReal) := by
  unfold AC
  have e := funext fun R => vh_at A p j (hd l) R (sw l)
  rw [e, acc_at A p j (hd l) y Q hQ]
  refine congrArg (fun r : ℝ => (r : EReal)) (Finset.sum_congr rfl fun K _ => ?_)
  rw [if_neg (hd_sw l), mul_one]
theorem ac_none (hY : 768 * j.val + y.val < 240) (l l' : Fin 128) : AC (XX m c (pt p j)) j.val p.val (768 * j.val + 768) y l l' = 0 :=
  acc_none A p j (hd l) y hY _
end Cert.FwdProof
end
-- ==== Proof.FwdRef.lean ====
module
public import proofs.«01_k».proof.Proof.FwdMath
public import proofs.«01_k».proof.Proof.AttnOut
public import proofs.«01_k».proof.Proof.Gen.AttnFwdRefIdeal.Read
@[expose] public section
set_option maxRecDepth 16384
noncomputable section
open Idealize.ShloMosaic Idealize.ShloMosaic.TcCoe Idealize.SL.Sem
namespace Cert.FwdProof.Ref
open Cert.AttnFwdRefIdeal Cert.AttnFwdRefIdeal.Gen Cert.AttnFwdRefIdeal.Read
open Cert.AttnBwd (ofHeads ofRows heads_at coe_sums div_real L2 L2_pos bot_word zero_word nat hof cof sM sL c_at l_at fold_real)
open Cert.AttnBwd.Ref (H C mask_at max_real)
open Cert.AttnBwd

/-! ## The forward reference's stages on finite arguments -/

variable (q k v : Fin 16 → Fin 8208 → Fin 64 → ℝ) (cc : Fin 16 → Fin 8208 → ℝ) (g : Fin 16) (Q K : Fin 8208) (d : Fin 64)

theorem mask_eq (a0 a1 : FVec Ideal S16x8208x64 .f32) (a3 : FVec Ideal S16x8208 .f32) :
    val_main_v15 (F := Ideal) a0 a1 a3 = Cert.AttnBwdRefIdeal.Read.val_main_v15_0 (F := Ideal) a0 a1 a3 := rfl
theorem prob_eq (a0 a1 : FVec Ideal S16x8208x64 .f32) (a3 : FVec Ideal S16x8208 .f32) :
    val_main_v55 (F := Ideal) a0 a1 a3 = Cert.AttnBwdRefIdeal.Read.val_main_v40 (F := Ideal) a0 a1 a3 := rfl

theorem attend_at : val_main_v56 (F := Ideal) (H q) (H k) (H v) (C cc) (ix3 g Q d)
    = ((∑ K, Math.prob (q g) (k g) (cc g) Q K * v g K d : ℝ) : EReal) := by
  obtain ⟨mx, hmx⟩ := max_real q k cc
  have e := fun K => (congrFun (prob_eq (H q) (H k) (C cc)) (ix3 g Q K)).trans (Cert.AttnBwd.Ref.p_at q k cc g Q K mx hmx)
  pointwise [val_main_v56, e]
  simp_rw [heads_at, ← EReal.coe_mul]
  exact coe_sums _ _

theorem max_at (a0 a1 : FVec Ideal S16x8208x64 .f32) (a3 : FVec Ideal S16x8208 .f32) : val_main_v16 (F := Ideal) a0 a1 a3 (ix2 g Q)
    = Finset.univ.sup (fun x => val_main_v15 (F := Ideal) a0 a1 a3 (ix3 g Q x)) :=
  Cert.AttnBwd.Ref.max_of g Q (val_main_v15 (F := Ideal) a0 a1 a3)

theorem div_mono (r : ℝ) (hr : 0 < r) : Monotone fun x => Ideal.div x (r : EReal) := by
  intro a b h
  have h0 : ((r : ℝ) : EReal) ≠ 0 := by exact_mod_cast hr.ne'
  show Ideal.div a _ ≤ Ideal.div b _
  unfold Ideal.div
  rw [if_neg h0, if_neg h0]
  exact mul_le_mul_of_nonneg_right h (EReal.inv_nonneg_of_nonneg (by exact_mod_cast hr.le))

theorem div_bot (r : ℝ) (hr : 0 < r) : Ideal.div ⊥ (r : EReal) = ⊥ := by
  have h0 : ((r : ℝ) : EReal) ≠ 0 := by exact_mod_cast hr.ne'
  unfold Ideal.div
  rw [if_neg h0, ← EReal.coe_inv]
  exact EReal.bot_mul_coe_of_pos (inv_pos.mpr hr)

/-- The row's shift is that of the kernel's host lines. -/
theorem shift_at : val_main_v20 (F := Ideal) (H q) (H k) (C cc) (ix2 g Q) = sM (H q) (H k) (C cc) (ix2 g Q) := by
  unfold sM
  pointwise [val_main_v20, val_main_v19, val_main_v18, val_main_v17, val_main_cst_2, max_at, c_at]
  rw [bot_word, Cert.AttnBwd.Ref.log_two]
  refine congrArg up ?_
  have e1 := Finset.comp_sup_eq_sup_comp (s := Finset.univ) (f := fun x => val_main_v15 (F := Ideal) (H q) (H k) (C cc) (ix3 g Q x))
    (fun x => Ideal.div x ((L2 : ℝ) : EReal)) (fun x y => (div_mono L2 L2_pos).map_max) (div_bot L2 L2_pos)
  have e2 := Finset.comp_sup_eq_sup_comp (s := Finset.univ) (f := fun x => sL (H q) (H k) (C cc) (ix3 g Q x))
    (fun x => ((cc g Q / L2 : ℝ) : EReal) + x) (fun x y => (plus_mono _).map_max) (EReal.add_bot _)
  refine e1.trans (Eq.trans ?_ e2.symm)
  refine congrArg (Finset.univ.sup) (funext fun K => ?_)
  show Ideal.div (val_main_v15 (F := Ideal) (H q) (H k) (C cc) (ix3 g Q K)) _ = _ + sL (H q) (H k) (C cc) (ix3 g Q K)
  rw [mask_eq, mask_at, l_at]
  split_ifs
  · rw [div_real _ _ L2_pos.ne', ← EReal.coe_add]
    refine congrArg (fun r : ℝ => (r : EReal)) ?_
    unfold Math.logit
    have hL := L2_pos.ne'
    have e : (∑ a, q g Q a * (1 / 8 / L2) * k g K a) = (∑ a, q g Q a * k g K a) * (1 / 8 / L2) := by
      rw [Finset.sum_mul]; exact Finset.sum_congr rfl fun a _ => by ring
    rw [e]; field_simp; ring
  · rw [div_bot _ L2_pos, EReal.add_bot]

variable (mu : Fin 16 → Fin 8208 → ℝ) (hmu : ∀ g Q, sM (H q) (H k) (C cc) (ix2 g Q) = ((mu g Q : ℝ) : EReal))
include hmu

theorem row_at : val_main_v28 (F := Ideal) (H q) (H k) (C cc) (ix2 g Q) = ((Math.tot (q g) (k g) (cc g) (nat mu g) Q : ℝ) : EReal) := by
  have e : ∀ K, val_main_v27 (F := Ideal) (H q) (H k) (C cc) (ix3 g Q K) = ((Math.wt (q g) (k g) (cc g) (nat mu g) Q K : ℝ) : EReal) := fun K => by
    pointwise [val_main_v27, val_main_v26, val_main_v25, val_main_v24, val_main_v23, val_main_v22, val_main_v21, val_main_cst_3, shift_at, hmu, mask_eq, mask_at]
    rw [Cert.AttnBwd.Ref.log_two, ← EReal.coe_mul]
    unfold Math.wt nat
    split_ifs with h
    · rw [← EReal.coe_sub, mul_comm]; rfl
    · rw [EReal.bot_sub]; rfl
  pointwise [val_main_v28, val_main_cst_4, e]
  rw [coe_sums]
  rfl

/-! ### The results in the kernel's layout -/

variable (R : Fin 8448) (x : Fin 1024)

omit hmu in
theorem flat_at (f : FVec Ideal S16x8448x64 .f32) : (shapeCast S8448x1024 (transpose S8448x16x64 [1, 0, 2] f transposes_S16x8448x64_S8448x16x64_1_0_2)
    shapeCasts_S8448x16x64_S8448x1024 : FVec Ideal S8448x1024 .f32) (ix2 R x) = f (ix3 (hof x) R (cof x)) := by
  pointwise [hof, cof]

omit hmu in
theorem pad_in (f : FVec Ideal S16x8208x64 .f32) (z : FVec Ideal S_ .f32) (hR : R.val = Q.val + 240) :
    (pad S16x8448x64 ![0, 240, 0] ![0, 0, 0] ![0, 0, 0] f z pads_S16x8208x64_S16x8448x64_000_24000_000 h_S_ : FVec Ideal S16x8448x64 .f32) (ix3 g R d) = f (ix3 g Q d) := by
  refine pad_apply_of_inside (k := ix3 g Q d) _ _ _ _ _ _ _ _ fun a => ?_
  fin_cases a
  · show g.val = 0 + g.val * (0 + 1); omega
  · show R.val = 240 + Q.val * (0 + 1); omega
  · show d.val = 0 + d.val * (0 + 1); omega
omit hmu in
theorem pad_out (f : FVec Ideal S16x8208x64 .f32) (z : FVec Ideal S_ .f32) (b : EReal) (hz : ∀ i, z i = b) (hR : R.val < 240) :
    (pad S16x8448x64 ![0, 240, 0] ![0, 0, 0] ![0, 0, 0] f z pads_S16x8208x64_S16x8448x64_000_24000_000 h_S_ : FVec Ideal S16x8448x64 .f32) (ix3 g R d) = b := by
  refine (pad_apply_of_not_inside (a := 1) _ _ _ _ _ _ _ _ fun hh => ?_).trans (hz _)
  have : 240 ≤ R.val := hh.1
  omega

omit hmu in
theorem one_word' : Ideal.ofBits FTy.f32 1065353216#32 = 1 := by
  simp [Ideal.ofBits, Ideal.ieee]
  rw [← EReal.coe_mul, ← EReal.coe_one]; congr 1; norm_num

omit hmu in
theorem wide_in (f : FVec Ideal S16x8208x64 .f32) (z : FVec Ideal S_ .f32) (hR : R.val = Q.val + 240) :
    (shapeCast S8448x1024 (transpose S8448x16x64 [1, 0, 2] (pad S16x8448x64 ![0, 240, 0] ![0, 0, 0] ![0, 0, 0] f z pads_S16x8208x64_S16x8448x64_000_24000_000 h_S_
      : FVec Ideal S16x8448x64 .f32) transposes_S16x8448x64_S8448x16x64_1_0_2)
    shapeCasts_S8448x16x64_S8448x1024 : FVec Ideal S8448x1024 .f32) (ix2 R x) = f (ix3 (hof x) Q (cof x)) :=
  (flat_at R x _).trans (pad_in _ Q _ R f z hR)
omit hmu in
theorem wide_out (f : FVec Ideal S16x8208x64 .f32) (z : FVec Ideal S_ .f32) (b : EReal) (hz : ∀ i, z i = b) (hR : R.val < 240) :
    (shapeCast S8448x1024 (transpose S8448x16x64 [1, 0, 2] (pad S16x8448x64 ![0, 240, 0] ![0, 0, 0] ![0, 0, 0] f z pads_S16x8208x64_S16x8448x64_000_24000_000 h_S_
      : FVec Ideal S16x8448x64 .f32) transposes_S16x8448x64_S8448x16x64_1_0_2)
    shapeCasts_S8448x16x64_S8448x1024 : FVec Ideal S8448x1024 .f32) (ix2 R x) = b :=
  (flat_at R x _).trans (pad_out _ _ R f z b hz hR)

omit hmu in
theorem zero_call (i : S_.Idx) : (sitofp .f32 (constantI S_ 32 0#32) : FVec Ideal S_ .f32) i = 0 := Cert.AttnBwd.zero_int i

omit hmu in
theorem o_in (hR : R.val = Q.val + 240) : val_main_v64 (F := Ideal) (H q) (H k) (H v) (C cc) (ix2 R x)
    = ((∑ K, Math.prob (q (hof x)) (k (hof x)) (cc (hof x)) Q K * v (hof x) K (cof x) : ℝ) : EReal) := by
  refine (congrArg₂ Ideal.div ((wide_in Q R x (val_main_v56 (F := Ideal) (H q) (H k) (H v) (C cc)) _ hR).trans (attend_at q k v cc _ Q _))
    ((wide_in Q R x (val_main_v60 (F := Ideal)) _ hR).trans ?_)).trans ((div_real _ 1 one_ne_zero).trans (by rw [div_one]))
  exact one_word'
omit hmu in
theorem o_out (a0 a1 a2 : FVec Ideal S16x8208x64 .f32) (a3 : FVec Ideal S16x8208 .f32) (hR : R.val < 240) :
    val_main_v64 (F := Ideal) a0 a1 a2 a3 (ix2 R x) = Ideal.div 0 0 :=
  congrArg₂ Ideal.div (wide_out R x (val_main_v56 (F := Ideal) a0 a1 a2 a3) _ 0 zero_call hR) (wide_out R x (val_main_v60 (F := Ideal)) _ 0 zero_call hR)

theorem m_in (hR : R.val = Q.val + 240) : val_main_v78 (F := Ideal) (H q) (H k) (C cc) (ix2 R x) = ((mu (hof x) Q : ℝ) : EReal) := by
  refine (wide_in Q R x (val_main_v74 (F := Ideal) (H q) (H k) (C cc)) _ hR).trans ?_
  rw [← hmu, ← shift_at]
  unfold val_main_v74 val_main_v73
  generalize val_main_v20 (F := Ideal) (H q) (H k) (C cc) = f
  pointwise
omit hmu in
theorem m_out (a0 a1 : FVec Ideal S16x8208x64 .f32) (a3 : FVec Ideal S16x8208 .f32) (hR : R.val < 240) :
    val_main_v78 (F := Ideal) a0 a1 a3 (ix2 R x) = ⊥ :=
  wide_out R x (val_main_v74 (F := Ideal) a0 a1 a3) _ ⊥ (fun i => bot_word) hR

theorem linv_in (hR : R.val = Q.val + 240) : val_main_v85 (F := Ideal) (H q) (H k) (C cc) (ix2 R x)
    = Ideal.div 1 ((Math.tot (q (hof x)) (k (hof x)) (cc (hof x)) (nat mu (hof x)) Q : ℝ) : EReal) := by
  refine congrArg₂ Ideal.div one_word' ((wide_in Q R x (val_main_v80 (F := Ideal) (H q) (H k) (C cc)) _ hR).trans ?_)
  rw [← row_at q k cc _ Q mu hmu]
  unfold val_main_v80 val_main_v79
  generalize val_main_v28 (F := Ideal) (H q) (H k) (C cc) = f
  pointwise
omit hmu in
theorem linv_out (a0 a1 : FVec Ideal S16x8208x64 .f32) (a3 : FVec Ideal S16x8208 .f32) (hR : R.val < 240) :
    val_main_v85 (F := Ideal) a0 a1 a3 (ix2 R x) = Ideal.div 1 0 :=
  congrArg₂ Ideal.div one_word' (wide_out R x (val_main_v80 (F := Ideal) a0 a1 a3) _ 0 zero_call hR)

omit hmu in
theorem og_at (a0 a1 a2 : FVec Ideal S16x8208x64 .f32) (a3 : FVec Ideal S16x8208 .f32) (a4 : FVec Ideal S8208x1024 .f32) :
    val_main_v76 (F := Ideal) a0 a1 a2 a3 a4 (ix2 R x) = val_main_v64 (F := Ideal) a0 a1 a2 a3 (ix2 R x) * Ideal.logistic (val_main_v65 (F := Ideal) a4 (ix2 R x)) := by
  unfold val_main_v76 val_main_v72 val_main_v71 val_main_v70 val_main_v69 val_main_v68 val_main_v67 val_main_v66
  generalize val_main_v64 (F := Ideal) a0 a1 a2 a3 = f
  generalize val_main_v65 (F := Ideal) a4 = g
  pointwise [val_main_cst_13, val_main_cst_14]
  rfl
end Cert.FwdProof.Ref
end
-- ==== Proof.FwdArr.lean ====
module
public import proofs.«01_k».proof.Proof.FwdVal
public import proofs.«01_k».proof.Proof.FwdRef
public import proofs.«01_k».proof.Proof.AttnValue
@[expose] public section
set_option maxRecDepth 16384
noncomputable section
open Idealize.ShloMosaic Idealize.ShloMosaic.TcCoe Idealize.SL.Sem
open Idealize.ShloMosaic.Pipeline (Dat)
namespace Cert.FwdProof
open Cert.AttnFwdIdeal Cert.AttnFwdIdeal.Gen
open Cert.AttnBwd (Heads Rows Blocks rof lof lb ln tb rw' eta2 hd XX Real5)

/-! ## What the four arrays hold -/

variable (m : (ℓ : Loc nD τ sig) → Buf (Elt Ideal) ℓ) (c : Dev nD)

theorem cfg_N : cfg0.N = 88 := N_0
/-- Point `j` of the run of lane block `p`. -/
def ft (p : Fin 8) (j : Fin 11) : Fin cfg0.N := ⟨11 * p.val + j.val, by have := cfg_N; omega⟩

variable (p : Fin 8) (j : Fin 11) (y : Fin 768) (l : Fin 128) (R : Fin 8448)
theorem ft_div : (ft p j).val / 11 = p.val := by unfold ft; dsimp only; omega
theorem ft_mod : (ft p j).val % 11 = j.val := by unfold ft; dsimp only; omega

theorem blk0 : iblk m c 0 (ft p j) (ix2 y l) = (V m c main_v45 : FVec Ideal S8448x1024 .bf16) (ix2 (rof j y) (lof p l)) := by
  have a := ft_div p j; have b := ft_mod p j
  unfold rof lof
  blk_point [iblk, idx_in (ft p j), a, b]
theorem blk1 : iblk m c 1 (ft p j) (ix2 R l) = (V m c main_v35 : FVec Ideal S8448x1024 .bf16) (ix2 R (lof p l)) := by
  have a := ft_div p j
  unfold lof
  blk_point [iblk, idx_in (ft p j), a]
theorem blk2 : iblk m c 2 (ft p j) (ix2 R l) = (V m c main_v38 : FVec Ideal S8448x1024 .bf16) (ix2 R (lof p l)) := by
  have a := ft_div p j
  unfold lof
  blk_point [iblk, idx_in (ft p j), a]
theorem blk3 : iblk m c 3 (ft p j) (ix2 R l) = (V m c main_v49 : FVec Ideal S8448x1024 .bf16) (ix2 R (lof p l)) := by
  have a := ft_div p j
  unfold lof
  blk_point [iblk, idx_in (ft p j), a]
theorem blk4 : iblk m c 4 (ft p j) (ix2 y l) = (V m c main_v40 : FVec Ideal S8448x128 .f32) (ix2 (rof j y) l) := by
  have b := ft_mod p j
  unfold rof
  blk_point [iblk, idx_in (ft p j), b]
theorem wide_lane : 3072 + (lof p l).val < 4224 := by unfold lof; dsimp only; omega
theorem blk5 : iblk m c 5 (ft p j) (ix2 y l) = (V m c main_v41 : FVec Ideal S8448x4224 .f32) (ix2 (rof j y) ⟨3072 + (lof p l).val, wide_lane p l⟩) := by
  have a := ft_div p j; have b := ft_mod p j
  unfold rof lof
  blk_point [iblk, idx_in (ft p j), a, b]

/-- The gate a point reads is the reference's padded gate. -/
theorem gate_at : iblk m c 5 (ft p j) (ix2 y l) = Cert.AttnFwdRefIdeal.Read.val_main_v65 (F := Ideal) (F4 m c) (ix2 (rof j y) (lof p l)) := by
  rw [blk5, read_g]
  by_cases hY : 240 ≤ (rof j y).val
  · refine (pad_apply_of_inside (k := ix2 (⟨(rof j y).val - 240, by omega⟩ : Fin 8208) (lof p l)) _ _ _ _ _ _ _ _ fun a => ?_).trans
      (pad_apply_of_inside (k := ix2 (⟨(rof j y).val - 240, by omega⟩ : Fin 8208) (lof p l)) _ _ _ _ _ _ _ _ fun a => ?_).symm
    · fin_cases a
      · show (rof j y).val = 240 + ((rof j y).val - 240) * (0 + 1); omega
      · show 3072 + (lof p l).val = 3072 + (lof p l).val * (0 + 1); omega
    · fin_cases a
      · show (rof j y).val = 240 + ((rof j y).val - 240) * (0 + 1); omega
      · show (lof p l).val = 0 + (lof p l).val * (0 + 1); omega
  · exact (pad_apply_of_not_inside (a := 0) _ _ _ _ _ _ _ _ fun hh => hY hh.1).trans (pad_apply_of_not_inside (a := 0) _ _ _ _ _ _ _ _ fun hh => hY hh.1).symm

section Same
variable {m c} {m' : (ℓ : Loc Cert.AttnBwdIdeal.nD Cert.AttnBwdIdeal.τ Cert.AttnBwdIdeal.sig) → Buf (Elt Ideal) ℓ}
  (e0 : Cert.AttnBwd.A0 m' c = F0 m c) (e1 : Cert.AttnBwd.A1 m' c = F1 m c) (e2 : Cert.AttnBwd.A2 m' c = F2 m c) (e3 : Cert.AttnBwd.A3 m' c = F3 m c)

include e0 in
theorem same0 : iblk m c 0 (ft p j) = (XX m' c (Cert.AttnBwd.pt p j)).x0 := by
  have hv : (V m c main_v45 : FVec Ideal S8448x1024 .bf16) = Cert.AttnBwdIdeal.Gen.V m' c Cert.AttnBwdIdeal.main_v83 := by
    rw [read_q, ← e0]
    exact (Cert.AttnBwd.read_q m' c).symm
  exact funext fun (i : S768x128.Idx) => (congrArg _ (eta2 i)).trans (((fun a b => (blk0 m c p j a b).trans ((congrFun hv _).trans (Cert.AttnBwd.blk0 m' c p j a b).symm) :
    ∀ a b, iblk m c 0 (ft p j) (ix2 a b) = (XX m' c (Cert.AttnBwd.pt p j)).x0 (ix2 a b)) (i 0) (i 1)).trans (congrArg _ (eta2 i)).symm)
include e1 e3 in
theorem same1 : iblk m c 1 (ft p j) = (XX m' c (Cert.AttnBwd.pt p j)).x5 := by
  have hv : (V m c main_v35 : FVec Ideal S8448x1024 .bf16) = Cert.AttnBwdIdeal.Gen.V m' c Cert.AttnBwdIdeal.main_v74 := by
    rw [read_ka, ← e1, ← e3]
    exact (Cert.AttnBwd.read_ka m' c).symm
  exact funext fun (i : S8448x128.Idx) => (congrArg _ (eta2 i)).trans (((fun a b => (blk1 m c p j b a).trans ((congrFun hv _).trans (Cert.AttnBwd.blk5 a m' c p j b).symm) :
    ∀ a b, iblk m c 1 (ft p j) (ix2 a b) = (XX m' c (Cert.AttnBwd.pt p j)).x5 (ix2 a b)) (i 0) (i 1)).trans (congrArg _ (eta2 i)).symm)
include e1 e3 in
theorem same2 : iblk m c 2 (ft p j) = (XX m' c (Cert.AttnBwd.pt p j)).x6 := by
  have hv : (V m c main_v38 : FVec Ideal S8448x1024 .bf16) = Cert.AttnBwdIdeal.Gen.V m' c Cert.AttnBwdIdeal.main_v77 := by
    rw [read_kb, ← e1, ← e3]
    exact (Cert.AttnBwd.read_kb m' c).symm
  exact funext fun (i : S8448x128.Idx) => (congrArg _ (eta2 i)).trans (((fun a b => (blk2 m c p j b a).trans ((congrFun hv _).trans (Cert.AttnBwd.blk6 a m' c p j b).symm) :
    ∀ a b, iblk m c 2 (ft p j) (ix2 a b) = (XX m' c (Cert.AttnBwd.pt p j)).x6 (ix2 a b)) (i 0) (i 1)).trans (congrArg _ (eta2 i)).symm)
include e2 in
theorem same3 : iblk m c 3 (ft p j) = (XX m' c (Cert.AttnBwd.pt p j)).x7 := by
  have hv : (V m c main_v49 : FVec Ideal S8448x1024 .bf16) = Cert.AttnBwdIdeal.Gen.V m' c Cert.AttnBwdIdeal.main_v87 := by
    rw [read_v, ← e2]
    exact (Cert.AttnBwd.read_v m' c).symm
  exact funext fun (i : S8448x128.Idx) => (congrArg _ (eta2 i)).trans (((fun a b => (blk3 m c p j b a).trans ((congrFun hv _).trans (Cert.AttnBwd.blk7 a m' c p j b).symm) :
    ∀ a b, iblk m c 3 (ft p j) (ix2 a b) = (XX m' c (Cert.AttnBwd.pt p j)).x7 (ix2 a b)) (i 0) (i 1)).trans (congrArg _ (eta2 i)).symm)
include e3 in
theorem same4 : iblk m c 4 (ft p j) = (XX m' c (Cert.AttnBwd.pt p j)).x4 := by
  have hv : (V m c main_v40 : FVec Ideal S8448x128 .f32) = Cert.AttnBwdIdeal.Gen.V m' c Cert.AttnBwdIdeal.main_v79 := by
    rw [read_cs, ← e3]
    exact (Cert.AttnBwd.read_cs m' c).symm
  exact funext fun (i : S768x128.Idx) => (congrArg _ (eta2 i)).trans (((fun a b => (blk4 m c p j a b).trans ((congrFun hv _).trans (Cert.AttnBwd.blk4 m' c p j a b).symm) :
    ∀ a b, iblk m c 4 (ft p j) (ix2 a b) = (XX m' c (Cert.AttnBwd.pt p j)).x4 (ix2 a b)) (i 0) (i 1)).trans (congrArg _ (eta2 i)).symm)
end Same

theorem hof_lof : Cert.AttnBwd.hof (lof p l) = Cert.AttnBwd.gof p (hd l) := by
  refine Fin.ext ?_
  show (128 * p.val + l.val) / 64 = 2 * p.val + (hd l).val
  unfold hd
  split_ifs
  · show _ = 2 * p.val + 0; omega
  · show _ = 2 * p.val + 1; omega
theorem cof_lof : Cert.AttnBwd.cof (lof p l) = Cert.AttnBwd.lane l := Fin.ext (by show (128 * p.val + l.val) % 64 = l.val % 64; omega)

theorem place (x : S8448x1024.Idx) (h0 : (x 0).val = 768 * j.val + y.val) (h1 : (x 1).val = 128 * p.val + l.val) : ix2 (rof j y) (lof p l) = x := by
  rw [eta2 x]
  exact congrArg₂ ix2 (Fin.ext h0.symm) (Fin.ext h1.symm)

section Points
variable {m c} {m' : (ℓ : Loc Cert.AttnBwdIdeal.nD Cert.AttnBwdIdeal.τ Cert.AttnBwdIdeal.sig) → Buf (Elt Ideal) ℓ}
  {q k v w : Fin 16 → Fin 8208 → Fin 64 → ℝ} {cc mu : Fin 16 → Fin 8208 → ℝ} (A : Real5 m' c q k v w cc mu)
  (e0 : Cert.AttnBwd.A0 m' c = F0 m c) (e1 : Cert.AttnBwd.A1 m' c = F1 m c) (e2 : Cert.AttnBwd.A2 m' c = F2 m c) (e3 : Cert.AttnBwd.A3 m' c = F3 m c)
theorem c0 : (grid0.coords (ft p j) 0).val = p.val := (coord (ft p j)).1.trans (ft_div p j)
theorem c1 : (grid0.coords (ft p j) 1).val = j.val := (coord (ft p j)).2.trans (ft_mod p j)

include A in
theorem point_fits : Fits (XX m' c (Cert.AttnBwd.pt p j)) (grid0.coords (ft p j) 1).val (grid0.coords (ft p j) 0).val := by
  rw [c0, c1]
  exact fits A p j
include A e0 e1 e2 e3

theorem left_6 : (outsAt0 m c (ft p j)).1 (ix2 y l) = Ideal.div (AC (XX m' c (Cert.AttnBwd.pt p j)) j.val p.val (768 * j.val + 768) y l l) (AC (XX m' c (Cert.AttnBwd.pt p j)) j.val p.val (768 * j.val + 768) y l (sw l)) := by
  have P := at_6 c (grid0.coords (ft p j)) (ms0_0 (ft p j)) (hs0_0 (ft p j)) (ms0_1 (ft p j)) (hs0_1 (ft p j)) (ms0_2 (ft p j)) (hs0_2 (ft p j)) (ms0_3 (ft p j)) (hs0_3 (ft p j)) (ms0_4 (ft p j)) (hs0_4 (ft p j)) (ms0_5 (ft p j)) (hs0_5 (ft p j)) (ms0_6 (ft p j)) (hs0_6 (ft p j)) (ms0_7 (ft p j)) (hs0_7 (ft p j)) (ms0_8 (ft p j)) (hs0_8 (ft p j)) (ms0_9 (ft p j)) (hs0_9 (ft p j)) (XX m' c (Cert.AttnBwd.pt p j)) (point_fits p j A) (iblk m c 5 (ft p j)) y l
  rw [c0, c1] at P
  refine Eq.trans ?_ P
  unfold outsAt0
  rw [same0 p j e0, same1 p j e1 e3, same2 p j e1 e3, same3 p j e2, same4 p j e3]
theorem left_7 : (outsAt0 m c (ft p j)).2.1 (ix2 y l) = Ideal.div (AC (XX m' c (Cert.AttnBwd.pt p j)) j.val p.val (768 * j.val + 768) y l l) (AC (XX m' c (Cert.AttnBwd.pt p j)) j.val p.val (768 * j.val + 768) y l (sw l)) * Ideal.logistic (Cert.AttnFwdRefIdeal.Read.val_main_v65 (F := Ideal) (F4 m c) (ix2 (rof j y) (lof p l))) := by
  have P := at_7 c (grid0.coords (ft p j)) (ms0_0 (ft p j)) (hs0_0 (ft p j)) (ms0_1 (ft p j)) (hs0_1 (ft p j)) (ms0_2 (ft p j)) (hs0_2 (ft p j)) (ms0_3 (ft p j)) (hs0_3 (ft p j)) (ms0_4 (ft p j)) (hs0_4 (ft p j)) (ms0_5 (ft p j)) (hs0_5 (ft p j)) (ms0_6 (ft p j)) (hs0_6 (ft p j)) (ms0_7 (ft p j)) (hs0_7 (ft p j)) (ms0_8 (ft p j)) (hs0_8 (ft p j)) (ms0_9 (ft p j)) (hs0_9 (ft p j)) (XX m' c (Cert.AttnBwd.pt p j)) (point_fits p j A) (iblk m c 5 (ft p j)) y l
  rw [c0, c1, gate_at] at P
  refine Eq.trans ?_ P
  unfold outsAt0
  rw [same0 p j e0, same1 p j e1 e3, same2 p j e1 e3, same3 p j e2, same4 p j e3]
theorem left_8 : (outsAt0 m c (ft p j)).2.2.1 (ix2 y l) = top (CQ (XX m' c (Cert.AttnBwd.pt p j)) p.val (hd l) y) (TM (XX m' c (Cert.AttnBwd.pt p j)) j.val (hd l) y) (under (768 * j.val + 768)) := by
  have P := at_8 c (grid0.coords (ft p j)) (ms0_0 (ft p j)) (hs0_0 (ft p j)) (ms0_1 (ft p j)) (hs0_1 (ft p j)) (ms0_2 (ft p j)) (hs0_2 (ft p j)) (ms0_3 (ft p j)) (hs0_3 (ft p j)) (ms0_4 (ft p j)) (hs0_4 (ft p j)) (ms0_5 (ft p j)) (hs0_5 (ft p j)) (ms0_6 (ft p j)) (hs0_6 (ft p j)) (ms0_7 (ft p j)) (hs0_7 (ft p j)) (ms0_8 (ft p j)) (hs0_8 (ft p j)) (ms0_9 (ft p j)) (hs0_9 (ft p j)) (XX m' c (Cert.AttnBwd.pt p j)) (point_fits p j A) (iblk m c 5 (ft p j)) y l
  rw [c0, c1] at P
  refine Eq.trans ?_ P
  unfold outsAt0
  rw [same0 p j e0, same1 p j e1 e3, same2 p j e1 e3, same3 p j e2, same4 p j e3]
theorem left_9 : (outsAt0 m c (ft p j)).2.2.2 (ix2 y l) = Ideal.div 1 (AC (XX m' c (Cert.AttnBwd.pt p j)) j.val p.val (768 * j.val + 768) y l (sw l)) := by
  have P := at_9 c (grid0.coords (ft p j)) (ms0_0 (ft p j)) (hs0_0 (ft p j)) (ms0_1 (ft p j)) (hs0_1 (ft p j)) (ms0_2 (ft p j)) (hs0_2 (ft p j)) (ms0_3 (ft p j)) (hs0_3 (ft p j)) (ms0_4 (ft p j)) (hs0_4 (ft p j)) (ms0_5 (ft p j)) (hs0_5 (ft p j)) (ms0_6 (ft p j)) (hs0_6 (ft p j)) (ms0_7 (ft p j)) (hs0_7 (ft p j)) (ms0_8 (ft p j)) (hs0_8 (ft p j)) (ms0_9 (ft p j)) (hs0_9 (ft p j)) (XX m' c (Cert.AttnBwd.pt p j)) (point_fits p j A) (iblk m c 5 (ft p j)) y l
  rw [c0, c1] at P
  refine Eq.trans ?_ P
  unfold outsAt0
  rw [same0 p j e0, same1 p j e1 e3, same2 p j e1 e3, same3 p j e2, same4 p j e3]

omit A e0 e1 e2 e3 in
/-- A row of the padding, or one of a query. -/
theorem row_cases : (768 * j.val + y.val < 240) ∨ ∃ Q : Fin 8208, Q.val + 240 = 768 * j.val + y.val := by
  by_cases h : 768 * j.val + y.val < 240
  · exact .inl h
  · exact .inr ⟨⟨768 * j.val + y.val - 240, by omega⟩, by show 768 * j.val + y.val - 240 + 240 = _; omega⟩

theorem is_o : Ideal.div (AC (XX m' c (Cert.AttnBwd.pt p j)) j.val p.val (768 * j.val + 768) y l l) (AC (XX m' c (Cert.AttnBwd.pt p j)) j.val p.val (768 * j.val + 768) y l (sw l))
    = Cert.AttnFwdRefIdeal.Read.val_main_v64 (F := Ideal) (F0 m c) (F1 m c) (F2 m c) (F3 m c) (ix2 (rof j y) (lof p l)) := by
  rcases row_cases j y with h | ⟨Q, hQ⟩
  · rw [ac_none A p j y h, ac_none A p j y h]
    exact (Ref.o_out _ _ _ _ _ _ h).symm
  · rw [ac_own A p j y Q hQ, ac_sw A p j y Q hQ, ← e0, ← e1, ← e2, ← e3, A.h0, A.h1, A.h2, A.h3]
    refine Eq.trans ?_ (Ref.o_in q k v cc Q (rof j y) (lof p l) hQ.symm).symm
    rw [hof_lof, cof_lof, Cert.AttnBwd.div_real _ _ (Cert.AttnBwd.Math.tot_pos _ _ _ _ _).ne', Finset.sum_div]
    refine congrArg (fun r : ℝ => (r : EReal)) (Finset.sum_congr rfl fun K _ => ?_)
    rw [← Cert.AttnBwd.Math.prob_eq _ _ _ (Cert.AttnBwd.nat mu (Cert.AttnBwd.gof p (hd l)))]
    ring
theorem is_m : top (CQ (XX m' c (Cert.AttnBwd.pt p j)) p.val (hd l) y) (TM (XX m' c (Cert.AttnBwd.pt p j)) j.val (hd l) y) (under (768 * j.val + 768))
    = Cert.AttnFwdRefIdeal.Read.val_main_v78 (F := Ideal) (F0 m c) (F1 m c) (F3 m c) (ix2 (rof j y) (lof p l)) := by
  rcases row_cases j y with h | ⟨Q, hQ⟩
  · rw [top_none A p j _ y h]
    exact (Ref.m_out _ _ _ _ _ h).symm
  · rw [top_at A p j _ y Q hQ, ← e0, ← e1, ← e3, A.h0, A.h1, A.h3]
    refine Eq.trans ?_ (Ref.m_in q k cc Q mu A.hmu (rof j y) (lof p l) hQ.symm).symm
    rw [hof_lof]
theorem is_linv : Ideal.div 1 (AC (XX m' c (Cert.AttnBwd.pt p j)) j.val p.val (768 * j.val + 768) y l (sw l))
    = Cert.AttnFwdRefIdeal.Read.val_main_v85 (F := Ideal) (F0 m c) (F1 m c) (F3 m c) (ix2 (rof j y) (lof p l)) := by
  rcases row_cases j y with h | ⟨Q, hQ⟩
  · rw [ac_none A p j y h]
    exact (Ref.linv_out _ _ _ _ _ h).symm
  · rw [ac_sw A p j y Q hQ, ← e0, ← e1, ← e3, A.h0, A.h1, A.h3]
    refine Eq.trans ?_ (Ref.linv_in q k cc Q mu A.hmu (rof j y) (lof p l) hQ.symm).symm
    rw [hof_lof]
theorem is_og : Ideal.div (AC (XX m' c (Cert.AttnBwd.pt p j)) j.val p.val (768 * j.val + 768) y l l) (AC (XX m' c (Cert.AttnBwd.pt p j)) j.val p.val (768 * j.val + 768) y l (sw l))
      * Ideal.logistic (Cert.AttnFwdRefIdeal.Read.val_main_v65 (F := Ideal) (F4 m c) (ix2 (rof j y) (lof p l)))
    = Cert.AttnFwdRefIdeal.Read.val_main_v76 (F := Ideal) (F0 m c) (F1 m c) (F2 m c) (F3 m c) (F4 m c) (ix2 (rof j y) (lof p l)) := by
  rw [is_o p j y l A e0 e1 e2 e3]
  exact (Ref.og_at _ _ _ _ _ _ _).symm

theorem final_6 : (dats m 0 c).arrAt 6 cfg0.N = Cert.AttnFwdRefIdeal.Read.val_main_v64 (F := Ideal) (F0 m c) (F1 m c) (F2 m c) (F3 m c) := by
  refine (dats m 0 c).arrAt_eq_of_covers 6 _ (by decide +kernel) fun t hf y => ?_
  blk_simp; rw [after0_6]
  have hp : t.val / 11 < 8 := by have := lt_of_lt_of_eq t.isLt N_0; omega
  have ht : ft ⟨t.val / 11, hp⟩ ⟨t.val % 11, Nat.mod_lt _ (by decide)⟩ = t := Fin.ext (by unfold ft; dsimp only; omega)
  have P := (left_6 ⟨t.val / 11, hp⟩ ⟨t.val % 11, Nat.mod_lt _ (by decide)⟩ (y 0) (y 1) A e0 e1 e2 e3).trans (is_o _ _ _ _ A e0 e1 e2 e3)
  rw [ht] at P
  refine (congrArg _ (eta2 (a := 768) (b := 128) y)).trans (P.trans (congrArg _ (place _ _ _ _ _ ?_ ?_)))
  · blk_simp [idx_in t]; dsimp only; omega
  · blk_simp [idx_in t]; dsimp only; omega

theorem final_7 : (dats m 0 c).arrAt 7 cfg0.N = Cert.AttnFwdRefIdeal.Read.val_main_v76 (F := Ideal) (F0 m c) (F1 m c) (F2 m c) (F3 m c) (F4 m c) := by
  refine (dats m 0 c).arrAt_eq_of_covers 7 _ (by decide +kernel) fun t hf y => ?_
  blk_simp; rw [after0_7]
  have hp : t.val / 11 < 8 := by have := lt_of_lt_of_eq t.isLt N_0; omega
  have ht : ft ⟨t.val / 11, hp⟩ ⟨t.val % 11, Nat.mod_lt _ (by decide)⟩ = t := Fin.ext (by unfold ft; dsimp only; omega)
  have P := (left_7 ⟨t.val / 11, hp⟩ ⟨t.val % 11, Nat.mod_lt _ (by decide)⟩ (y 0) (y 1) A e0 e1 e2 e3).trans (is_og _ _ _ _ A e0 e1 e2 e3)
  rw [ht] at P
  refine (congrArg _ (eta2 (a := 768) (b := 128) y)).trans (P.trans (congrArg _ (place _ _ _ _ _ ?_ ?_)))
  · blk_simp [idx_in t]; dsimp only; omega
  · blk_simp [idx_in t]; dsimp only; omega

theorem final_8 : (dats m 0 c).arrAt 8 cfg0.N = Cert.AttnFwdRefIdeal.Read.val_main_v78 (F := Ideal) (F0 m c) (F1 m c) (F3 m c) := by
  refine (dats m 0 c).arrAt_eq_of_covers 8 _ (by decide +kernel) fun t hf y => ?_
  blk_simp; rw [after0_8]
  have hp : t.val / 11 < 8 := by have := lt_of_lt_of_eq t.isLt N_0; omega
  have ht : ft ⟨t.val / 11, hp⟩ ⟨t.val % 11, Nat.mod_lt _ (by decide)⟩ = t := Fin.ext (by unfold ft; dsimp only; omega)
  have P := (left_8 ⟨t.val / 11, hp⟩ ⟨t.val % 11, Nat.mod_lt _ (by decide)⟩ (y 0) (y 1) A e0 e1 e2 e3).trans (is_m _ _ _ _ A e0 e1 e2 e3)
  rw [ht] at P
  refine (congrArg _ (eta2 (a := 768) (b := 128) y)).trans (P.trans (congrArg _ (place _ _ _ _ _ ?_ ?_)))
  · blk_simp [idx_in t]; dsimp only; omega
  · blk_simp [idx_in t]; dsimp only; omega

theorem final_9 : (dats m 0 c).arrAt 9 cfg0.N = Cert.AttnFwdRefIdeal.Read.val_main_v85 (F := Ideal) (F0 m c) (F1 m c) (F3 m c) := by
  refine (dats m 0 c).arrAt_eq_of_covers 9 _ (by decide +kernel) fun t hf y => ?_
  blk_simp; rw [after0_9]
  have hp : t.val / 11 < 8 := by have := lt_of_lt_of_eq t.isLt N_0; omega
  have ht : ft ⟨t.val / 11, hp⟩ ⟨t.val % 11, Nat.mod_lt _ (by decide)⟩ = t := Fin.ext (by unfold ft; dsimp only; omega)
  have P := (left_9 ⟨t.val / 11, hp⟩ ⟨t.val % 11, Nat.mod_lt _ (by decide)⟩ (y 0) (y 1) A e0 e1 e2 e3).trans (is_linv _ _ _ _ A e0 e1 e2 e3)
  rw [ht] at P
  refine (congrArg _ (eta2 (a := 768) (b := 128) y)).trans (P.trans (congrArg _ (place _ _ _ _ _ ?_ ?_)))
  · blk_simp [idx_in t]; dsimp only; omega
  · blk_simp [idx_in t]; dsimp only; omega
end Points
end Cert.FwdProof
end
-- ==== Proof.FwdValue.lean ====
module
public import proofs.«01_k».proof.Proof.FwdArr
public import proofs.«01_k».proof.Defs
@[expose] public section
set_option maxRecDepth 16384
noncomputable section
open Idealize.ShloMosaic Idealize.ShloMosaic.TcCoe Idealize.SL.Sem
namespace Cert.AttnFwdIdeal.Results
open Cert.AttnFwdIdeal.Gen
open Cert.FwdProof (F0 F1 F2 F3 F4 twin final_6 final_7 final_8 final_9)
open Cert.AttnBwd (Real5 m_real ofHeads)
open Cert.AttnBwdIdeal.Results (heads_of rows_of)

/-! ## The forward kernel's results are the reference's on finite arguments -/

variable (m : (ℓ : Loc nD τ sig) → Buf (Elt Ideal) ℓ) (c : Dev nD)

theorem values [Cert.Pre_fwd_finite.Facts] (h : Pre_AttnFwdIdeal_fwd_finite m) :
    (dats m 0 c).arrAt 6 cfg0.N = Cert.AttnFwdRefIdeal.Read.val_main_v64 (F := Ideal) (F0 m c) (F1 m c) (F2 m c) (F3 m c)
    ∧ (dats m 0 c).arrAt 7 cfg0.N = Cert.AttnFwdRefIdeal.Read.val_main_v76 (F := Ideal) (F0 m c) (F1 m c) (F2 m c) (F3 m c) (F4 m c)
    ∧ (dats m 0 c).arrAt 8 cfg0.N = Cert.AttnFwdRefIdeal.Read.val_main_v78 (F := Ideal) (F0 m c) (F1 m c) (F3 m c)
    ∧ (dats m 0 c).arrAt 9 cfg0.N = Cert.AttnFwdRefIdeal.Read.val_main_v85 (F := Ideal) (F0 m c) (F1 m c) (F3 m c) := by
  obtain ⟨h0, h1, h2, h3⟩ := h c
  obtain ⟨q, hq⟩ := heads_of (F0 m c) _ (fun _ => rfl) (congrFun h0)
  obtain ⟨k, hk⟩ := heads_of (F1 m c) _ (fun _ => rfl) (congrFun h1)
  obtain ⟨v, hv⟩ := heads_of (F2 m c) _ (fun _ => rfl) (congrFun h2)
  obtain ⟨cc, hc⟩ := rows_of (F3 m c) _ (fun _ => rfl) (congrFun h3)
  obtain ⟨mu, hmu⟩ := m_real q k cc
  obtain ⟨m', e0, e1, e2, e3, e4⟩ := twin c (F0 m c) (F1 m c) (F2 m c) (ofHeads fun _ _ _ => 0) (F3 m c)
  have A : Real5 m' c q k v (fun _ _ _ => 0) cc mu := ⟨e0.trans hq, e1.trans hk, e2.trans hv, e3.trans hc, e4, hmu⟩
  exact ⟨final_6 A e0 e1 e2 e3, final_7 A e0 e1 e2 e3, final_8 A e0 e1 e2 e3, final_9 A e0 e1 e2 e3⟩
end Cert.AttnFwdIdeal.Results
end
-- ==== Proof.GateTile.lean ====
module
public import proofs.«01_k».proof.Proof.Gen.FoxOutIdeal.Value
public import Idealize.ShloMosaic.Lib.Pipeline.ValueKit
public import Idealize.ShloMosaic.Lib.Claim
public import Idealize.ShloMosaic.Lib.KernelVsHost
@[expose] public section
set_option maxRecDepth 16384
noncomputable section
open Idealize.ShloMosaic Idealize.ShloMosaic.TcCoe Idealize.SL.Sem
namespace Cert.GateOut
open Cert.FoxOutIdeal Cert.FoxOutIdeal.Gen

/-! ## One lane block of the gate's backward body -/

abbrev Part := FVec Ideal S256x128 .f32
abbrev Tile := FVec Ideal S256x1024 .f32

variable (d g ov li : Part) (r : Fin 256) (l : Fin 128)

def same (x : Part) : Part := shapeCast S256x128 x shapeCasts_S256x128_S256x128
/-- The cotangent of the attention over its row sum. -/
def doV : FVec Ideal S256x128 .bf16 := truncf .bf16 (mulf (mulf d (logistic (same g))) (same li)) bitsLt_bf16_f32
/-- The cotangent of the gate. -/
def dgV : FVec Ideal S256x128 .bf16 := truncf .bf16 (mulf (mulf (mulf d (same ov)) (logistic (same g)))
  (subf (broadcast S256x128 (Scalar.ofBits .f32 0x3F800000#32)) (logistic (same g)))) bitsLt_bf16_f32
def tV : Part := mulf (extf .f32 (doV d g li) bitsLt_bf16_f32) (same ov)
/-- Each head's sum of its lanes of `t`, along the head's lanes. -/
def dlV (t : Part) : Part := k0_pay1 (F := Ideal) k0_pay2 t (k0_pay68 k0_pay2) k0_pay69

theorem one_word : Ideal.ofBits FTy.f32 1065353216#32 = 1 := by
  simp [Ideal.ofBits, Ideal.ieee]
  rw [← EReal.coe_mul, ← EReal.coe_one]; congr 1; norm_num
theorem zero_word : Ideal.ofBits FTy.f32 0#32 = 0 := by simp [Ideal.ofBits, Ideal.ieee]

theorem same_at (x : Part) : same x (ix2 r l) = x (ix2 r l) := by unfold same; pointwise
theorem doV_at : doV d g li (ix2 r l) = d (ix2 r l) * Ideal.logistic (g (ix2 r l)) * li (ix2 r l) := by
  unfold doV
  pointwise [same_at]
theorem dgV_at : dgV d g ov (ix2 r l) = d (ix2 r l) * ov (ix2 r l) * Ideal.logistic (g (ix2 r l)) * (1 - Ideal.logistic (g (ix2 r l))) := by
  unfold dgV
  pointwise [same_at]
theorem tV_at : tV d g ov li (ix2 r l) = d (ix2 r l) * Ideal.logistic (g (ix2 r l)) * li (ix2 r l) * ov (ix2 r l) := by
  unfold tV
  pointwise [same_at, doV_at]

theorem low_half (f : Fin 128 → EReal) : ∑ x : Fin 128, (if x.val < 64 then f x else 0) = ∑ x : Fin 64, f ⟨x.val, Nat.lt_trans x.isLt (by decide)⟩ := by
  rw [show (∑ x : Fin 128, (if x.val < 64 then f x else 0)) = ∑ x : Fin (64 + 64), (if x.val < 64 then f x else 0) from rfl, Fin.sum_univ_add]
  have a : ∀ x : Fin 64, (if (Fin.castAdd 64 x).val < 64 then f (Fin.castAdd 64 x) else 0) = f ⟨x.val, Nat.lt_trans x.isLt (by decide)⟩ := fun x => if_pos x.isLt
  have b : ∀ x : Fin 64, (if (Fin.natAdd 64 x).val < 64 then f (Fin.natAdd 64 x) else 0) = 0 := fun x => if_neg (Nat.not_lt.mpr (Nat.le_add_right _ _))
  simp only [a, b, Finset.sum_const_zero, add_zero]
theorem high_half (f : Fin 128 → EReal) : ∑ x : Fin 128, (if x.val < 64 then 0 else f x) = ∑ x : Fin 64, f ⟨64 + x.val, Nat.add_lt_add_left x.isLt 64⟩ := by
  rw [show (∑ x : Fin 128, (if x.val < 64 then 0 else f x)) = ∑ x : Fin (64 + 64), (if x.val < 64 then 0 else f x) from rfl, Fin.sum_univ_add]
  have a : ∀ x : Fin 64, (if (Fin.castAdd 64 x).val < 64 then 0 else f (Fin.castAdd 64 x)) = 0 := fun x => if_pos x.isLt
  have b : ∀ x : Fin 64, (if (Fin.natAdd 64 x).val < 64 then 0 else f (Fin.natAdd 64 x)) = f ⟨64 + x.val, Nat.add_lt_add_left x.isLt 64⟩ := fun x => if_neg (Nat.not_lt.mpr (Nat.le_add_right _ _))
  simp only [a, b, Finset.sum_const_zero, zero_add]

/-- Lane `x` of the head that lane `l` belongs to. -/
def mate (l : Fin 128) (x : Fin 64) : Fin 128 := ⟨64 * (l.val / 64) + x.val, Nat.lt_of_lt_of_le (Nat.add_lt_add_left x.isLt _) (by have := l.isLt; omega)⟩

theorem dlV_at (t : Part) : dlV t (ix2 r l) = ∑ x : Fin 64, t (ix2 r (mate l x)) := by
  have e : dlV t (ix2 r l) = if l.val < 64 then ∑ x : Fin 128, (if x.val < 64 then t (ix2 r x) else 0) else ∑ x : Fin 128, (if x.val < 64 then 0 else t (ix2 r x)) := by
    unfold dlV
    pointwise [k0_pay1, k0_pay2, k0_pay68, k0_pay69]
    word_cmp
    rw [low_half (fun x => t (ix2 r x)), high_half (fun x => t (ix2 r x))]
    simp only [Finset.sum_const_zero, zero_add, add_zero]
  rw [e, low_half (fun x => t (ix2 r x)), high_half (fun x => t (ix2 r x))]
  have hl := l.isLt
  split_ifs with h
  · refine Finset.sum_congr rfl fun x _ => congrArg (fun z => t (ix2 r z)) (Fin.ext ?_)
    show x.val = 64 * (l.val / 64) + x.val; omega
  · refine Finset.sum_congr rfl fun x _ => congrArg (fun z => t (ix2 r z)) (Fin.ext ?_)
    show 64 + x.val = 64 * (l.val / 64) + x.val; omega
end Cert.GateOut
end
-- ==== Proof.GateBody.lean ====
module
public import proofs.«01_k».proof.Proof.GateTile
@[expose] public section
set_option maxRecDepth 16384
noncomputable section
open Idealize.ShloMosaic Idealize.ShloMosaic.TcCoe Idealize.SL.Sem
namespace Cert.GateOut
open Cert.FoxOutIdeal Cert.FoxOutIdeal.Gen

/-! ## What the gate's backward body leaves in its three blocks -/

variable (D x2 x3 x4 : Tile)

/-- Column `x` of the head that column `q` belongs to. -/
def peer (q : Fin 1024) (x : Fin 64) : Fin 1024 := ⟨64 * (q.val / 64) + x.val, by have := q.isLt; omega⟩
def doT (y : S256x1024.Idx) : EReal := D y * Ideal.logistic (x3 y) * x4 y
def dgT (y : S256x1024.Idx) : EReal := D y * x2 y * Ideal.logistic (x3 y) * (1 - Ideal.logistic (x3 y))
def dlT (y : S256x1024.Idx) : EReal := ∑ x : Fin 64, doT D x3 x4 (ix2 (y 0) (peer (y 1) x)) * x2 (ix2 (y 0) (peer (y 1) x))

theorem two (x : S256x128.Idx) : x = ix2 (x 0) (x 1) := by funext i; fin_cases i <;> rfl

section Piece
variable (o : ℕ) (hs : S256x1024.Slices ![0, o] S256x128) (inb : ∀ a, (![0, o] : Fin 2 → ℕ) a + S256x128.size a ≤ S256x1024.size a)

/-- The lanes from `o` of a tile. -/
def cut (x : Tile) : Part := extractStridedSlice S256x128 ![0, o] x hs

theorem load_at {a : Memref sig .tc .vmem S256x1024 .f32} (h : a.IsWhole) (x : Tile) :
    a.view.readAt (Elt Ideal) (Rect.unit (s := S256x1024) ![0, o] S256x128.size inb) (h.unread x) = cut o hs x := by
  rw [View.readAt_eq_ld, h.read_unread, View.ld_unit]
  rfl
theorem cut_at (x : Tile) (y : S256x128.Idx) : cut o hs x y = x ((Rect.unit (s := S256x1024) ![0, o] S256x128.size inb).emb y) :=
  (congrFun (View.ld_unit (Val := Elt Ideal) (e := .f32) (S := S256x1024) x ![0, o] S256x128.size inb) y).symm

/-- Where lane `l` of the part lies in the tile. -/
abbrev spot (y : S256x128.Idx) : S256x1024.Idx := (Rect.unit (s := S256x1024) ![0, o] S256x128.size inb).emb y
variable (r : Fin 256) (l : Fin 128)

theorem part_do : doV (cut o hs D) (cut o hs x3) (cut o hs x4) (ix2 r l) = doT D x3 x4 (spot o inb (ix2 r l)) := by
  rw [doV_at, cut_at o hs inb, cut_at o hs inb, cut_at o hs inb]
  rfl
theorem part_dg : dgV (cut o hs D) (cut o hs x3) (cut o hs x2) (ix2 r l) = dgT D x2 x3 (spot o inb (ix2 r l)) := by
  rw [dgV_at, cut_at o hs inb, cut_at o hs inb, cut_at o hs inb]
  rfl
theorem part_dl (ho : o % 128 = 0) : dlV (tV (cut o hs D) (cut o hs x3) (cut o hs x2) (cut o hs x4)) (ix2 r l) = dlT D x2 x3 x4 (spot o inb (ix2 r l)) := by
  rw [dlV_at]
  refine Finset.sum_congr rfl fun x _ => ?_
  rw [tV_at, cut_at o hs inb, cut_at o hs inb, cut_at o hs inb, cut_at o hs inb]
  have e : spot o inb (ix2 r (mate l x)) = ix2 (spot o inb (ix2 r l) 0) (peer (spot o inb (ix2 r l) 1) x) := by
    funext a
    fin_cases a
    · rfl
    · refine Fin.ext ?_
      show o + 1 * (64 * (l.val / 64) + x.val) = 64 * ((o + 1 * l.val) / 64) + x.val
      omega
  exact congrArg (fun z => D z * Ideal.logistic (x3 z) * x4 z * x2 z) e

theorem piece_do (y : S256x128.Idx) : doV (cut o hs D) (cut o hs x3) (cut o hs x4) y = doT D x3 x4 (spot o inb y) :=
  (congrArg _ (two y)).trans ((part_do D x3 x4 o hs inb (y 0) (y 1)).trans (congrArg (fun z => doT D x3 x4 (spot o inb z)) (two y)).symm)
theorem piece_dg (y : S256x128.Idx) : dgV (cut o hs D) (cut o hs x3) (cut o hs x2) y = dgT D x2 x3 (spot o inb y) :=
  (congrArg _ (two y)).trans ((part_dg D x2 x3 o hs inb (y 0) (y 1)).trans (congrArg (fun z => dgT D x2 x3 (spot o inb z)) (two y)).symm)
theorem piece_dl (ho : o % 128 = 0) (y : S256x128.Idx) : dlV (tV (cut o hs D) (cut o hs x3) (cut o hs x2) (cut o hs x4)) y = dlT D x2 x3 x4 (spot o inb y) :=
  (congrArg _ (two y)).trans ((part_dl D x2 x3 x4 o hs inb (y 0) (y 1) ho).trans (congrArg (fun z => dlT D x2 x3 x4 (spot o inb z)) (two y)).symm)
end Piece

/-! ### The three blocks, read at an index -/

section Out
variable (c : Dev nD) (i : grid0.Coords) (arg1 : Memref sig .tc .vmem S256x1024 .bf16) (harg1 : arg1.IsWhole) (arg2 : Memref sig .tc .vmem S1024x1024 .bf16) (harg2 : arg2.IsWhole)
  (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole)
  (arg6 : Memref sig .tc .vmem S256x1024 .bf16) (harg6 : arg6.IsWhole) (arg7 : Memref sig .tc .vmem S256x1024 .bf16) (harg7 : arg7.IsWhole) (arg8 : Memref sig .tc .vmem S256x1024 .f32) (harg8 : arg8.IsWhole)
  (x0 : FVec Ideal S256x1024 .bf16) (x1 : FVec Ideal S1024x1024 .bf16)

theorem whole_at {S : Shape} {e : EltTy} {a : Memref sig .tc .vmem S e} (h : a.IsWhole) (x : S.Idx → Elt Ideal e) {off : Fin S.rank → ℕ} (h0 : off = fun _ => 0)
    (inb : ∀ b, off b + S.size b ≤ S.size b) : a.view.readAt (Elt Ideal) (Rect.unit (s := S) off S.size inb) (h.unread x) = x := by
  rw [View.readAt_eq_ld, h.read_unread]
  exact View.ld_unit_zero h0 inb x

section Store
variable (o : ℕ) (hs : S256x1024.Slices ![0, o] S256x128) (inb : ∀ a, (![0, o] : Fin 2 → ℕ) a + S256x128.size a ≤ S256x1024.size a) (x : S256x128.Idx)
  {inb0 : ∀ a, (![0, 0] : Fin 2 → ℕ) a + S256x1024.size a ≤ S256x1024.size a} {inb1 : ∀ a, (![0, 0] : Fin 2 → ℕ) a + S1024x1024.size a ≤ S1024x1024.size a}

/-- The product of the tile as the body computes it. -/
abbrev prod (a1 : Memref sig .tc .vmem S256x1024 .bf16) (h1 : a1.IsWhole) (a2 : Memref sig .tc .vmem S1024x1024 .bf16) (h2 : a2.IsWhole)
    (inb0 : ∀ a, (![0, 0] : Fin 2 → ℕ) a + S256x1024.size a ≤ S256x1024.size a) (inb1 : ∀ a, (![0, 0] : Fin 2 → ℕ) a + S1024x1024.size a ≤ S1024x1024.size a) : Tile :=
  k0_pay3 (F := Ideal) (a1.view.readAt (Elt Ideal) (Rect.unit (s := S256x1024) ![0, 0] S256x1024.size inb0) (h1.unread x0))
    (a2.view.readAt (Elt Ideal) (Rect.unit (s := S1024x1024) ![0, 0] S1024x1024.size inb1) (h2.unread x1))
/-- A part of a block as the body loads it. -/
abbrev load (a : Memref sig .tc .vmem S256x1024 .f32) (h : a.IsWhole) (z : Tile) : Part :=
  a.view.readAt (Elt Ideal) (Rect.unit (s := S256x1024) ![0, o] S256x128.size inb) (h.unread z)

theorem prod_eq : prod x0 x1 arg1 harg1 arg2 harg2 inb0 inb1 = k0_pay3 x0 x1 :=
  congrArg₂ k0_pay3 (whole_at harg1 x0 (by decide) inb0) (whole_at harg2 x1 (by decide) inb1)

theorem store_do : doV (cut o hs (prod x0 x1 arg1 harg1 arg2 harg2 inb0 inb1)) (load o inb arg4 harg4 x3) (load o inb arg5 harg5 x4) x
    = doT (k0_pay3 x0 x1) x3 x4 (spot o inb x) := by
  rw [prod_eq, load, load, load_at o hs inb, load_at o hs inb]
  exact piece_do _ x3 x4 o hs inb x
theorem store_dg : dgV (cut o hs (prod x0 x1 arg1 harg1 arg2 harg2 inb0 inb1)) (load o inb arg4 harg4 x3) (load o inb arg3 harg3 x2) x
    = dgT (k0_pay3 x0 x1) x2 x3 (spot o inb x) := by
  rw [prod_eq, load, load, load_at o hs inb, load_at o hs inb]
  exact piece_dg _ x2 x3 o hs inb x
theorem store_dl (ho : o % 128 = 0) : dlV (tV (cut o hs (prod x0 x1 arg1 harg1 arg2 harg2 inb0 inb1)) (load o inb arg4 harg4 x3) (load o inb arg3 harg3 x2) (load o inb arg5 harg5 x4)) x
    = dlT (k0_pay3 x0 x1) x2 x3 x4 (spot o inb x) := by
  rw [prod_eq, load, load, load, load_at o hs inb, load_at o hs inb, load_at o hs inb]
  exact piece_dl _ x2 x3 x4 o hs inb ho x
end Store

theorem at_5 (y : S256x1024.Idx) : out0_A_5 (F := Ideal) c i arg1 harg1 arg2 harg2 arg3 harg3 arg4 harg4 arg5 harg5 arg6 harg6 arg7 harg7 arg8 harg8 x0 x1 x2 x3 x4 y = doT (k0_pay3 x0 x1) x3 x4 y := by
  have hc := cover0_A_5 (F := Ideal) c i arg1 harg1 arg2 harg2 arg3 harg3 arg4 harg4 arg5 harg5 arg6 harg6 arg7 harg7 arg8 harg8 x0 x1 x2 x3 x4 y
  unfold out0_A_5
  revert hc
  unfold kernelRun0_A
  dsimp only
  intro hc
  refine View.read_writes_apply_of_pieces _ _ _ _ ?_ y hc
  clear hc
  have S := store_do x3 x4 arg1 harg1 arg2 harg2 arg4 harg4 arg5 harg5 x0 x1
  refine List.forall_mem_cons.mpr ⟨fun x => S 896 slices_S256x1024_o0_896_S256x128 inb_S256x1024_S256x128_0_896 x, ?_⟩
  refine List.forall_mem_cons.mpr ⟨fun x => S 768 slices_S256x1024_o0_768_S256x128 inb_S256x1024_S256x128_0_768 x, ?_⟩
  refine List.forall_mem_cons.mpr ⟨fun x => S 640 slices_S256x1024_o0_640_S256x128 inb_S256x1024_S256x128_0_640 x, ?_⟩
  refine List.forall_mem_cons.mpr ⟨fun x => S 512 slices_S256x1024_o0_512_S256x128 inb_S256x1024_S256x128_0_512 x, ?_⟩
  refine List.forall_mem_cons.mpr ⟨fun x => S 384 slices_S256x1024_o0_384_S256x128 inb_S256x1024_S256x128_0_384 x, ?_⟩
  refine List.forall_mem_cons.mpr ⟨fun x => S 256 slices_S256x1024_o0_256_S256x128 inb_S256x1024_S256x128_0_256 x, ?_⟩
  refine List.forall_mem_cons.mpr ⟨fun x => S 128 slices_S256x1024_o0_128_S256x128 inb_S256x1024_S256x128_0_128 x, ?_⟩
  refine List.forall_mem_cons.mpr ⟨fun x => S 0 slices_S256x1024_o0_0_S256x128 inb_S256x1024_S256x128_0_0 x, ?_⟩
  exact fun _ h => absurd h List.not_mem_nil
theorem at_6 (y : S256x1024.Idx) : out0_A_6 (F := Ideal) c i arg1 harg1 arg2 harg2 arg3 harg3 arg4 harg4 arg5 harg5 arg6 harg6 arg7 harg7 arg8 harg8 x0 x1 x2 x3 x4 y = dgT (k0_pay3 x0 x1) x2 x3 y := by
  have hc := cover0_A_6 (F := Ideal) c i arg1 harg1 arg2 harg2 arg3 harg3 arg4 harg4 arg5 harg5 arg6 harg6 arg7 harg7 arg8 harg8 x0 x1 x2 x3 x4 y
  unfold out0_A_6
  revert hc
  unfold kernelRun0_A
  dsimp only
  intro hc
  refine View.read_writes_apply_of_pieces _ _ _ _ ?_ y hc
  clear hc
  have S := store_dg x2 x3 arg1 harg1 arg2 harg2 arg3 harg3 arg4 harg4 x0 x1
  refine List.forall_mem_cons.mpr ⟨fun x => S 896 slices_S256x1024_o0_896_S256x128 inb_S256x1024_S256x128_0_896 x, ?_⟩
  refine List.forall_mem_cons.mpr ⟨fun x => S 768 slices_S256x1024_o0_768_S256x128 inb_S256x1024_S256x128_0_768 x, ?_⟩
  refine List.forall_mem_cons.mpr ⟨fun x => S 640 slices_S256x1024_o0_640_S256x128 inb_S256x1024_S256x128_0_640 x, ?_⟩
  refine List.forall_mem_cons.mpr ⟨fun x => S 512 slices_S256x1024_o0_512_S256x128 inb_S256x1024_S256x128_0_512 x, ?_⟩
  refine List.forall_mem_cons.mpr ⟨fun x => S 384 slices_S256x1024_o0_384_S256x128 inb_S256x1024_S256x128_0_384 x, ?_⟩
  refine List.forall_mem_cons.mpr ⟨fun x => S 256 slices_S256x1024_o0_256_S256x128 inb_S256x1024_S256x128_0_256 x, ?_⟩
  refine List.forall_mem_cons.mpr ⟨fun x => S 128 slices_S256x1024_o0_128_S256x128 inb_S256x1024_S256x128_0_128 x, ?_⟩
  refine List.forall_mem_cons.mpr ⟨fun x => S 0 slices_S256x1024_o0_0_S256x128 inb_S256x1024_S256x128_0_0 x, ?_⟩
  exact fun _ h => absurd h List.not_mem_nil
theorem at_7 (y : S256x1024.Idx) : out0_A_7 (F := Ideal) c i arg1 harg1 arg2 harg2 arg3 harg3 arg4 harg4 arg5 harg5 arg6 harg6 arg7 harg7 arg8 harg8 x0 x1 x2 x3 x4 y = dlT (k0_pay3 x0 x1) x2 x3 x4 y := by
  have hc := cover0_A_7 (F := Ideal) c i arg1 harg1 arg2 harg2 arg3 harg3 arg4 harg4 arg5 harg5 arg6 harg6 arg7 harg7 arg8 harg8 x0 x1 x2 x3 x4 y
  unfold out0_A_7
  revert hc
  unfold kernelRun0_A
  dsimp only
  intro hc
  refine View.read_writes_apply_of_pieces _ _ _ _ ?_ y hc
  clear hc
  have S := store_dl x2 x3 x4 arg1 harg1 arg2 harg2 arg3 harg3 arg4 harg4 arg5 harg5 x0 x1
  refine List.forall_mem_cons.mpr ⟨fun x => S 896 slices_S256x1024_o0_896_S256x128 inb_S256x1024_S256x128_0_896 x rfl, ?_⟩
  refine List.forall_mem_cons.mpr ⟨fun x => S 768 slices_S256x1024_o0_768_S256x128 inb_S256x1024_S256x128_0_768 x rfl, ?_⟩
  refine List.forall_mem_cons.mpr ⟨fun x => S 640 slices_S256x1024_o0_640_S256x128 inb_S256x1024_S256x128_0_640 x rfl, ?_⟩
  refine List.forall_mem_cons.mpr ⟨fun x => S 512 slices_S256x1024_o0_512_S256x128 inb_S256x1024_S256x128_0_512 x rfl, ?_⟩
  refine List.forall_mem_cons.mpr ⟨fun x => S 384 slices_S256x1024_o0_384_S256x128 inb_S256x1024_S256x128_0_384 x rfl, ?_⟩
  refine List.forall_mem_cons.mpr ⟨fun x => S 256 slices_S256x1024_o0_256_S256x128 inb_S256x1024_S256x128_0_256 x rfl, ?_⟩
  refine List.forall_mem_cons.mpr ⟨fun x => S 128 slices_S256x1024_o0_128_S256x128 inb_S256x1024_S256x128_0_128 x rfl, ?_⟩
  refine List.forall_mem_cons.mpr ⟨fun x => S 0 slices_S256x1024_o0_0_S256x128 inb_S256x1024_S256x128_0_0 x rfl, ?_⟩
  exact fun _ h => absurd h List.not_mem_nil
end Out
end Cert.GateOut
end
-- ==== Proof.GateHost.lean ====
module
public import proofs.«01_k».proof.Proof.GateBody
public import proofs.«01_k».proof.Proof.AttnOut
public import Idealize.ShloMosaic.Lib.StableHlo.RunRead
@[expose] public section
set_option maxRecDepth 16384
noncomputable section
open Idealize.ShloMosaic Idealize.ShloMosaic.TcCoe Idealize.SL.Sem
open Idealize.ShloMosaic.Pipeline (Dat)
namespace Cert.GateOut
open Cert.FoxOutIdeal Cert.FoxOutIdeal.Gen
open Cert.AttnBwd (Heads Rows sWide sO sSum laneRow)

/-! ## What the host hands the gate's backward call -/

variable (m : (ℓ : Loc nD τ sig) → Buf (Elt Ideal) ℓ) (c : Dev nD)
def G0 : Heads := m ((c : Thread nD τ).loc main_arg0)
def G1 : Heads := m ((c : Thread nD τ).loc main_arg1)
def G2 : Heads := m ((c : Thread nD τ).loc main_arg2)
def G3 : Rows := m ((c : Thread nD τ).loc main_arg3)
def G4 : FVec Ideal S8208x1024 .f32 := m ((c : Thread nD τ).loc main_arg4)
def G5 : FVec Ideal S1024x1024 .f32 := m ((c : Thread nD τ).loc main_arg5)
def G6 : FVec Ideal S8208x1024 .f32 := m ((c : Thread nD τ).loc main_arg6)

def zero1 : FVec Ideal S_ .f32 := sitofp .f32 (constantI S_ 32 0#32)
/-- One over each row's sum, along the lanes of its head. -/
def over (a0 a1 : Heads) (a3 : Rows) : Heads := laneRow (Host.divf (broadcastInDim S16x8208 ![] bcast_S_S16x8208 (constant S_ .f32 0x3F800000#32)) (sSum a0 a1 a3))

theorem read_y : V m c main_v48 = (truncf .bf16 (pad S8448x1024 ![240, 0] ![0, 0] ![0, 0] (G6 m c) zero1 pads_S8208x1024_S8448x1024_24000_000 h_S_ : FVec Ideal S8448x1024 .f32) bitsLt_bf16_f32 : FVec Ideal S8448x1024 .bf16) := by
  unfold V
  simp only [List.flatten_cons, List.flatten_nil, List.append_nil]
  after_reads_simp
  rfl
theorem read_w : V m c main_v49 = (truncf .bf16 (G5 m c) bitsLt_bf16_f32 : FVec Ideal S1024x1024 .bf16) := by
  unfold V
  simp only [List.flatten_cons, List.flatten_nil, List.append_nil]
  after_reads_simp
  rfl
theorem read_o : V m c main_v52 = sWide (sO (G0 m c) (G1 m c) (G2 m c) (G3 m c)) := by
  unfold V
  simp only [List.flatten_cons, List.flatten_nil, List.append_nil]
  after_reads_simp
  rfl
theorem read_l : V m c main_v45 = sWide (over (G0 m c) (G1 m c) (G3 m c)) := by
  unfold V
  simp only [List.flatten_cons, List.flatten_nil, List.append_nil]
  after_reads_simp
  rfl
theorem read_g : V m c main_v46 = (pad S8448x4224 ![240, 3072] ![0, 128] ![0, 0] (G4 m c) zero1 pads_S8208x1024_S8448x4224_24000_30721280 h_S_ : FVec Ideal S8448x4224 .f32) := by
  unfold V
  simp only [List.flatten_cons, List.flatten_nil, List.append_nil]
  after_reads_simp
  rfl

theorem idx_in : ∀ t : Fin cfg0.N, win0_0.index t = ![t.val, 0] ∧ win0_1.index t = ![0, 0] ∧ win0_2.index t = ![t.val, 0]
    ∧ win0_3.index t = ![t.val, 3] ∧ win0_4.index t = ![t.val, 0] ∧ win0_5.index t = ![t.val, 0] ∧ win0_6.index t = ![t.val, 0] ∧ win0_7.index t = ![t.val, 0] :=
  (by decide +kernel : ∀ t : Fin grid0.N, _)

theorem cfg_N : cfg0.N = 33 := N_0
variable (t : Fin cfg0.N) (r : Fin 256) (q k : Fin 1024)
/-- Row `r` of tile `t`. -/
def row (t : Fin cfg0.N) (r : Fin 256) : Fin 8448 := ⟨256 * t.val + r.val, by have := cfg_N; have := t.isLt; have := r.isLt; omega⟩
/-- Column `q` of the gate among the projections. -/
def col (q : Fin 1024) : Fin 4224 := ⟨3072 + q.val, by have := q.isLt; omega⟩

theorem blk0 : iblk m c 0 t (ix2 r k) = (V m c main_v48 : FVec Ideal S8448x1024 .bf16) (ix2 (row t r) k) := by
  unfold row
  blk_point [iblk, idx_in t]
theorem blk1 : iblk m c 1 t (ix2 q k) = (V m c main_v49 : FVec Ideal S1024x1024 .bf16) (ix2 q k) := by
  blk_point [iblk, idx_in t]
theorem blk2 : iblk m c 2 t (ix2 r q) = (V m c main_v52 : FVec Ideal S8448x1024 .f32) (ix2 (row t r) q) := by
  unfold row
  blk_point [iblk, idx_in t]
theorem blk4 : iblk m c 4 t (ix2 r q) = (V m c main_v45 : FVec Ideal S8448x1024 .f32) (ix2 (row t r) q) := by
  unfold row
  blk_point [iblk, idx_in t]
theorem blk3 : X0_3 m c t (ix2 r q) = (V m c main_v46 : FVec Ideal S8448x4224 .f32) (ix2 (row t r) (col q)) := by
  unfold X0_3 Pipeline.Window.fill row col
  rw [dif_pos (moved0_3 t _)]
  blk_point [iblk, idx_in t]

theorem prod_at (x0 : FVec Ideal S256x1024 .bf16) (x1 : FVec Ideal S1024x1024 .bf16) :
    (k0_pay3 (F := Ideal) x0 x1 : Tile) (ix2 r q) = (∑ k : Fin 1024, x0 (ix2 r k) * x1 (ix2 q k) : EReal) := by
  pointwise [k0_pay3]

/-! ### The three arrays -/

def aY : FVec Ideal S8448x1024 .bf16 := V m c main_v48
def aW : FVec Ideal S1024x1024 .bf16 := V m c main_v49
def aO : FVec Ideal S8448x1024 .f32 := V m c main_v52
def aG : FVec Ideal S8448x4224 .f32 := V m c main_v46
def aL : FVec Ideal S8448x1024 .f32 := V m c main_v45
variable (R : Fin 8448)
def aP : EReal := ∑ k : Fin 1024, aY m c (ix2 R k) * aW m c (ix2 q k)
def aS : EReal := Ideal.logistic (aG m c (ix2 R (col q)))
def aDo : EReal := aP m c q R * aS m c q R * aL m c (ix2 R q)
def aDg : EReal := aP m c q R * aO m c (ix2 R q) * aS m c q R * (1 - aS m c q R)
def aDl : EReal := ∑ x : Fin 64, aDo m c (peer q x) R * aO m c (ix2 R (peer q x))

theorem prod_tile : (k0_pay3 (F := Ideal) (iblk m c 0 t) (iblk m c 1 t) : Tile) (ix2 r q) = aP m c q (row t r) :=
  (prod_at r q (iblk m c 0 t) (iblk m c 1 t)).trans (Finset.sum_congr rfl fun k _ => congrArg₂ (fun a b : EReal => a * b) (blk0 m c t r k) (blk1 m c t q k))
theorem do_tile : doT (k0_pay3 (F := Ideal) (iblk m c 0 t) (iblk m c 1 t)) (X0_3 m c t) (iblk m c 4 t) (ix2 r q) = aDo m c q (row t r) :=
  congrArg₂ (fun a b : EReal => a * b) (congrArg₂ (fun a b : EReal => a * b) (prod_tile m c t r q) (congrArg Ideal.logistic (blk3 m c t r q))) (blk4 m c t r q)

theorem sum_of (D x2 x3 x4 : Tile) : dlT D x2 x3 x4 (ix2 r q) = (∑ x : Fin 64, doT D x3 x4 (ix2 r (peer q x)) * x2 (ix2 r (peer q x)) : EReal) := rfl

theorem left_5 : (outsAt0 m c t).1 (ix2 r q) = aDo m c q (row t r) := by
  unfold outsAt0
  refine (at_5 (iblk m c 2 t) (X0_3 m c t) (iblk m c 4 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (ix2 r q)).trans ?_
  exact do_tile m c t r q
theorem left_6 : (outsAt0 m c t).2.1 (ix2 r q) = aDg m c q (row t r) := by
  unfold outsAt0
  refine (at_6 (iblk m c 2 t) (X0_3 m c t) (iblk m c 4 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (ix2 r q)).trans ?_
  unfold dgT
  rw [prod_tile, blk3, show (iblk m c 2 t : Tile) (ix2 r q) = aO m c (ix2 (row t r) q) from blk2 m c t r q]
  rfl
theorem left_7 : (outsAt0 m c t).2.2 (ix2 r q) = aDl m c q (row t r) := by
  unfold outsAt0
  refine (at_7 (iblk m c 2 t) (X0_3 m c t) (iblk m c 4 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (ix2 r q)).trans ?_
  rw [sum_of]
  unfold aDl
  refine Finset.sum_congr rfl fun x _ => ?_
  rw [show (iblk m c 2 t : Tile) (ix2 r (peer q x)) = aO m c (ix2 (row t r) (peer q x)) from blk2 m c t r (peer q x), ← do_tile m c t r (peer q x)]

/-- An index from its row and column. -/
theorem from_spot (t : Fin cfg0.N) (r : Fin 256) (q : Fin 1024) (f : Fin 1024 → Fin 8448 → EReal) (x : S8448x1024.Idx) (h0 : (x 0).val = 256 * t.val + r.val) (h1 : (x 1).val = q.val) : f q (row t r) = f (x 1) (x 0) :=
  congrArg₂ f (Fin.ext h1.symm) (Fin.ext h0.symm)

theorem end_5 : (dats m 0 c).arrAt 5 cfg0.N = fun y : S8448x1024.Idx => aDo m c (y 1) (y 0) := by
  refine (dats m 0 c).arrAt_eq_of_covers 5 _ (by decide +kernel) fun t hf y => ?_
  blk_simp; rw [after0_5]
  refine (congrArg _ (Cert.AttnBwd.eta2 (a := 256) (b := 1024) y)).trans ((left_5 m c t (y 0) (y 1)).trans ?_)
  refine from_spot t (y 0) (y 1) (aDo m c) _ ?_ ?_
  · blk_simp [idx_in t]
    try (dsimp only; omega)
  · blk_simp [idx_in t]
    try (dsimp only; omega)
theorem end_6 : (dats m 0 c).arrAt 6 cfg0.N = fun y : S8448x1024.Idx => aDg m c (y 1) (y 0) := by
  refine (dats m 0 c).arrAt_eq_of_covers 6 _ (by decide +kernel) fun t hf y => ?_
  blk_simp; rw [after0_6]
  refine (congrArg _ (Cert.AttnBwd.eta2 (a := 256) (b := 1024) y)).trans ((left_6 m c t (y 0) (y 1)).trans ?_)
  refine from_spot t (y 0) (y 1) (aDg m c) _ ?_ ?_
  · blk_simp [idx_in t]
    try (dsimp only; omega)
  · blk_simp [idx_in t]
    try (dsimp only; omega)
theorem end_7 : (dats m 0 c).arrAt 7 cfg0.N = fun y : S8448x1024.Idx => aDl m c (y 1) (y 0) := by
  refine (dats m 0 c).arrAt_eq_of_covers 7 _ (by decide +kernel) fun t hf y => ?_
  blk_simp; rw [after0_7]
  refine (congrArg _ (Cert.AttnBwd.eta2 (a := 256) (b := 1024) y)).trans ((left_7 m c t (y 0) (y 1)).trans ?_)
  refine from_spot t (y 0) (y 1) (aDl m c) _ ?_ ?_
  · blk_simp [idx_in t]
    try (dsimp only; omega)
  · blk_simp [idx_in t]
    try (dsimp only; omega)
end Cert.GateOut
end
-- ==== Proof.GateRef.lean ====
module
public import proofs.«01_k».proof.Proof.FwdRef
public import proofs.«01_k».proof.Proof.Gen.FoxOutRefIdeal.Read
@[expose] public section
set_option maxRecDepth 16384
noncomputable section
open Idealize.ShloMosaic Idealize.ShloMosaic.TcCoe Idealize.SL.Sem
namespace Cert.GateOut.Ref
open Cert.FoxOutRefIdeal Cert.FoxOutRefIdeal.Gen Cert.FoxOutRefIdeal.Read
open Cert.AttnBwd (ofHeads ofRows nat hof cof sM)
open Cert.AttnBwd.Ref (H C)

/-! ## The gate's backward reference at an index -/

variable (a0 a1 a2 : FVec Ideal S16x8208x64 .f32) (a3 : FVec Ideal S16x8208 .f32) (a4 : FVec Ideal S8208x1024 .f32) (a5 : FVec Ideal S1024x1024 .f32) (a6 : FVec Ideal S8208x1024 .f32)
variable (g : Fin 16) (Q : Fin 8208) (d : Fin 64) (R : Fin 8448) (x : Fin 1024)

theorem attend_eq : val_main_v27 (F := Ideal) a0 a1 a2 a3 = Cert.AttnFwdRefIdeal.Read.val_main_v56 (F := Ideal) a0 a1 a2 a3 := rfl
theorem row_eq : val_main_v75 (F := Ideal) a0 a1 a3 = Cert.AttnFwdRefIdeal.Read.val_main_v28 (F := Ideal) a0 a1 a3 := rfl

/-- Column of lane `d` of head `g`. -/
def cat (g : Fin 16) (d : Fin 64) : Fin 1024 := ⟨g.val * 64 + d.val, by have := g.isLt; have := d.isLt; omega⟩
theorem cat_hof : cat (hof x) (cof x) = x := Fin.ext (by show x.val / 64 * 64 + x.val % 64 = x.val; omega)

def dog : EReal := ∑ k : Fin 1024, a6 (ix2 Q k) * a5 (ix2 x k)
def sig : EReal := Ideal.logistic (a4 (ix2 Q x))

theorem dog_at : val_main_v41 (F := Ideal) a5 a6 (ix2 Q x) = dog a5 a6 Q x := by
  unfold dog
  pointwise [val_main_v41]
theorem sig_at : val_main_v35 (F := Ideal) a4 (ix2 Q x) = sig a4 Q x := by
  unfold sig
  pointwise [val_main_v35, val_main_v34, val_main_cst_5, val_main_v33, val_main_v32, val_main_cst_4, val_main_v31, val_main_v30]
  rfl
theorem head_at : val_main_v46 (F := Ideal) a4 a5 a6 (ix3 g Q d) = dog a5 a6 Q (cat g d) * sig a4 Q (cat g d) := by
  rw [← dog_at, ← sig_at]
  unfold val_main_v46 val_main_v45 val_main_v43 cat
  generalize val_main_v41 (F := Ideal) a5 a6 = f
  generalize val_main_v35 (F := Ideal) a4 = h
  pointwise
theorem do_at : val_main_v78 (F := Ideal) a0 a1 a3 a4 a5 a6 (ix3 g Q d)
    = Ideal.div (dog a5 a6 Q (cat g d) * sig a4 Q (cat g d)) (Cert.AttnFwdRefIdeal.Read.val_main_v28 (F := Ideal) a0 a1 a3 (ix2 g Q)) := by
  rw [← head_at, ← row_eq]
  unfold val_main_v78 val_main_v77 val_main_v76
  generalize val_main_v46 (F := Ideal) a4 a5 a6 = f
  generalize val_main_v75 (F := Ideal) a0 a1 a3 = h
  pointwise
theorem dl_at : val_main_v80 (F := Ideal) a0 a1 a2 a3 a4 a5 a6 (ix2 g Q)
    = ∑ d : Fin 64, val_main_v78 (F := Ideal) a0 a1 a3 a4 a5 a6 (ix3 g Q d) * val_main_v27 (F := Ideal) a0 a1 a2 a3 (ix3 g Q d) := by
  unfold val_main_v80 val_main_v79
  generalize val_main_v78 (F := Ideal) a0 a1 a3 a4 a5 a6 = f
  generalize val_main_v27 (F := Ideal) a0 a1 a2 a3 = h
  pointwise [val_main_cst_13]
theorem flat_at : val_main_v29 (F := Ideal) a0 a1 a2 a3 (ix2 Q x) = val_main_v27 (F := Ideal) a0 a1 a2 a3 (ix3 (hof x) Q (cof x)) := by
  unfold val_main_v29 val_main_v28 hof cof
  generalize val_main_v27 (F := Ideal) a0 a1 a2 a3 = h
  pointwise
theorem dg_at : val_main_v44 (F := Ideal) a0 a1 a2 a3 a4 a5 a6 (ix2 Q x)
    = val_main_v27 (F := Ideal) a0 a1 a2 a3 (ix3 (hof x) Q (cof x)) * dog a5 a6 Q x * (sig a4 Q x * (1 - sig a4 Q x)) := by
  rw [← flat_at, ← dog_at, ← sig_at]
  unfold val_main_v44 val_main_v42 val_main_v38 val_main_v37
  generalize val_main_v29 (F := Ideal) a0 a1 a2 a3 = e
  generalize val_main_v41 (F := Ideal) a5 a6 = f
  generalize val_main_v35 (F := Ideal) a4 = h
  pointwise [val_main_v36, val_main_cst_6]

/-! ### In the kernel's layout -/

theorem out_do (hR : R.val = Q.val + 240) : val_main_v86 (F := Ideal) a0 a1 a3 a4 a5 a6 (ix2 R x) = val_main_v78 (F := Ideal) a0 a1 a3 a4 a5 a6 (ix3 (hof x) Q (cof x)) :=
  Cert.FwdProof.Ref.wide_in Q R x (val_main_v78 (F := Ideal) a0 a1 a3 a4 a5 a6) _ hR
theorem out_do0 (hR : R.val < 240) : val_main_v86 (F := Ideal) a0 a1 a3 a4 a5 a6 (ix2 R x) = 0 :=
  Cert.FwdProof.Ref.wide_out R x (val_main_v78 (F := Ideal) a0 a1 a3 a4 a5 a6) _ 0 Cert.FwdProof.Ref.zero_call hR
theorem out_dl (hR : R.val = Q.val + 240) : val_main_v91 (F := Ideal) a0 a1 a2 a3 a4 a5 a6 (ix2 R x) = val_main_v80 (F := Ideal) a0 a1 a2 a3 a4 a5 a6 (ix2 (hof x) Q) := by
  refine (Cert.FwdProof.Ref.wide_in Q R x (val_main_v82 (F := Ideal) a0 a1 a2 a3 a4 a5 a6) _ hR).trans ?_
  unfold val_main_v82 val_main_v81
  generalize val_main_v80 (F := Ideal) a0 a1 a2 a3 a4 a5 a6 = f
  pointwise
theorem out_dl0 (hR : R.val < 240) : val_main_v91 (F := Ideal) a0 a1 a2 a3 a4 a5 a6 (ix2 R x) = 0 :=
  Cert.FwdProof.Ref.wide_out R x (val_main_v82 (F := Ideal) a0 a1 a2 a3 a4 a5 a6) _ 0 Cert.FwdProof.Ref.zero_call hR

theorem pad2_in (f : FVec Ideal S8208x1024 .f32) (z : FVec Ideal S_ .f32) (hR : R.val = Q.val + 240) :
    (pad S8448x1024 ![240, 0] ![0, 0] ![0, 0] f z pads_S8208x1024_S8448x1024_24000_000 h_S_ : FVec Ideal S8448x1024 .f32) (ix2 R x) = f (ix2 Q x) := by
  refine pad_apply_of_inside (k := ix2 Q x) _ _ _ _ _ _ _ _ fun a => ?_
  fin_cases a
  · show R.val = 240 + Q.val * (0 + 1); omega
  · show x.val = 0 + x.val * (0 + 1); omega
theorem pad2_out (f : FVec Ideal S8208x1024 .f32) (z : FVec Ideal S_ .f32) (hz : ∀ i, z i = 0) (hR : R.val < 240) :
    (pad S8448x1024 ![240, 0] ![0, 0] ![0, 0] f z pads_S8208x1024_S8448x1024_24000_000 h_S_ : FVec Ideal S8448x1024 .f32) (ix2 R x) = 0 := by
  refine (pad_apply_of_not_inside (a := 0) _ _ _ _ _ _ _ _ fun hh => ?_).trans (hz _)
  have : 240 ≤ R.val := hh.1
  omega
theorem pad4_in (f : FVec Ideal S8208x1024 .f32) (z : FVec Ideal S_ .f32) (y : Fin 4224) (hy : y.val = 3072 + x.val) (hR : R.val = Q.val + 240)
    (hp : S8208x1024.Pads ![240, 3072] ![0, 128] ![0, 0] ⟨2, ![8448, 4224]⟩) :
    (pad ⟨2, ![8448, 4224]⟩ ![240, 3072] ![0, 128] ![0, 0] f z hp h_S_ : FVec Ideal ⟨2, ![8448, 4224]⟩ .f32) (ix2 R y) = f (ix2 Q x) := by
  refine pad_apply_of_inside (k := ix2 Q x) _ _ _ _ _ _ _ _ fun a => ?_
  fin_cases a
  · show R.val = 240 + Q.val * (0 + 1); omega
  · show y.val = 3072 + x.val * (0 + 1); omega
theorem out_dg (hR : R.val = Q.val + 240) : val_main_v88 (F := Ideal) a0 a1 a2 a3 a4 a5 a6 (ix2 R x) = val_main_v44 (F := Ideal) a0 a1 a2 a3 a4 a5 a6 (ix2 Q x) :=
  pad2_in Q R x (val_main_v44 (F := Ideal) a0 a1 a2 a3 a4 a5 a6) _ hR
theorem out_dg0 (hR : R.val < 240) : val_main_v88 (F := Ideal) a0 a1 a2 a3 a4 a5 a6 (ix2 R x) = 0 :=
  pad2_out R x (val_main_v44 (F := Ideal) a0 a1 a2 a3 a4 a5 a6) _ Cert.FwdProof.Ref.zero_call hR
end Cert.GateOut.Ref
end
-- ==== Proof.GateValue.lean ====
module
public import proofs.«01_k».proof.Proof.GateHost
public import proofs.«01_k».proof.Proof.GateRef
public import proofs.«01_k».proof.Proof.AttnValue
public import proofs.«01_k».proof.Defs
@[expose] public section
set_option maxRecDepth 16384
noncomputable section
open Idealize.ShloMosaic Idealize.ShloMosaic.TcCoe Idealize.SL.Sem
namespace Cert.GateOut
open Cert.FoxOutIdeal Cert.FoxOutIdeal.Gen
open Cert.AttnBwd (Heads Rows sWide sO sSum sM laneRow ofHeads ofRows hof cof nat m_real sum_at o_at div_real)
open Cert.AttnBwdIdeal.Results (heads_of rows_of)

/-! ## The gate's backward kernel and its reference agree on finite attention arguments -/

variable (m : (ℓ : Loc nD τ sig) → Buf (Elt Ideal) ℓ) (c : Dev nD)

/-- The attention's arguments are real. -/
structure Real4 (q k v : Fin 16 → Fin 8208 → Fin 64 → ℝ) (cc mu : Fin 16 → Fin 8208 → ℝ) : Prop where
  h0 : G0 m c = ofHeads q
  h1 : G1 m c = ofHeads k
  h2 : G2 m c = ofHeads v
  h3 : G3 m c = ofRows cc
  hm : ∀ g Q, sM (ofHeads q) (ofHeads k) (ofRows cc) (ix2 g Q) = ((mu g Q : ℝ) : EReal)

theorem zero_at (i : S_.Idx) : zero1 i = 0 := Cert.FwdProof.Ref.zero_call i

theorem hof_peer (x : Fin 1024) (d : Fin 64) : hof (peer x d) = hof x := Fin.ext (by
  show (64 * (x.val / 64) + d.val) / 64 = x.val / 64
  have := d.isLt; omega)
theorem cof_peer (x : Fin 1024) (d : Fin 64) : cof (peer x d) = d := Fin.ext (by
  show (64 * (x.val / 64) + d.val) % 64 = d.val
  have := d.isLt; omega)
theorem cat_peer (x : Fin 1024) (d : Fin 64) : Ref.cat (hof x) d = peer x d := Fin.ext (by
  show x.val / 64 * 64 + d.val = 64 * (x.val / 64) + d.val; omega)

variable (R : Fin 8448) (Q : Fin 8208) (x : Fin 1024)

theorem over_at (a0 a1 : Heads) (a3 : Rows) (g : Fin 16) (d : Fin 64) : over a0 a1 a3 (ix3 g Q d) = Ideal.div 1 (sSum a0 a1 a3 (ix2 g Q)) := by
  unfold over laneRow
  generalize sSum a0 a1 a3 = f
  pointwise

theorem y_in (hR : R.val = Q.val + 240) : aY m c (ix2 R x) = G6 m c (ix2 Q x) := by
  unfold aY
  rw [read_y]
  exact Ref.pad2_in Q R x (G6 m c) zero1 hR
theorem y_out (hR : R.val < 240) : aY m c (ix2 R x) = 0 := by
  unfold aY
  rw [read_y]
  exact Ref.pad2_out R x (G6 m c) zero1 zero_at hR
theorem w_at (k : Fin 1024) : aW m c (ix2 x k) = G5 m c (ix2 x k) := by
  unfold aW
  rw [read_w]
  rfl
theorem p_in (hR : R.val = Q.val + 240) : aP m c x R = Ref.dog (G5 m c) (G6 m c) Q x :=
  Finset.sum_congr rfl fun k _ => congrArg₂ (fun a b : EReal => a * b) (y_in m c R Q k hR) (w_at m c x k)
theorem p_out (hR : R.val < 240) : aP m c x R = 0 :=
  Finset.sum_eq_zero fun k _ => by rw [y_out m c R k hR, zero_mul]
theorem s_in (hR : R.val = Q.val + 240) : aS m c x R = Ref.sig (G4 m c) Q x := by
  unfold aS aG
  rw [read_g]
  exact congrArg Ideal.logistic (Ref.pad4_in Q R x (G4 m c) zero1 (col x) rfl hR pads_S8208x1024_S8448x4224_24000_30721280)
theorem o_in (hR : R.val = Q.val + 240) : aO m c (ix2 R x) = sO (G0 m c) (G1 m c) (G2 m c) (G3 m c) (ix3 (hof x) Q (cof x)) := by
  unfold aO
  rw [read_o]
  exact Cert.FwdProof.Ref.wide_in Q R x _ _ hR
theorem l_in (hR : R.val = Q.val + 240) : aL m c (ix2 R x) = Ideal.div 1 (sSum (G0 m c) (G1 m c) (G3 m c) (ix2 (hof x) Q)) := by
  unfold aL
  rw [read_l, ← over_at Q (G0 m c) (G1 m c) (G3 m c) (hof x) (cof x)]
  exact Cert.FwdProof.Ref.wide_in Q R x _ _ hR

theorem div_one' (a : EReal) (r : ℝ) (hr : r ≠ 0) : a * Ideal.div 1 (r : EReal) = Ideal.div a (r : EReal) := by
  have h0 : ((r : ℝ) : EReal) ≠ 0 := by exact_mod_cast hr
  unfold Ideal.div
  rw [if_neg h0, if_neg h0, one_mul]

theorem row_cases : R.val < 240 ∨ ∃ Q : Fin 8208, R.val = Q.val + 240 := by
  rcases Nat.lt_or_ge R.val 240 with h | h
  · exact Or.inl h
  · exact Or.inr ⟨⟨R.val - 240, by have := R.isLt; omega⟩, by show R.val = R.val - 240 + 240; omega⟩

section Finite
variable {m c} {q k v : Fin 16 → Fin 8208 → Fin 64 → ℝ} {cc mu : Fin 16 → Fin 8208 → ℝ} (A : Real4 m c q k v cc mu)
include A

theorem same_o (g : Fin 16) (d : Fin 64) : sO (G0 m c) (G1 m c) (G2 m c) (G3 m c) (ix3 g Q d)
    = Cert.FoxOutRefIdeal.Read.val_main_v27 (F := Ideal) (G0 m c) (G1 m c) (G2 m c) (G3 m c) (ix3 g Q d) := by
  rw [Ref.attend_eq, A.h0, A.h1, A.h2, A.h3, o_at q k v cc g Q d mu A.hm]
  refine Eq.trans ?_ (Cert.FwdProof.Ref.attend_at q k v cc g Q d).symm
  rw [Finset.sum_div]
  refine congrArg (fun r : ℝ => (r : EReal)) (Finset.sum_congr rfl fun K _ => ?_)
  rw [← Cert.AttnBwd.Math.prob_eq _ _ _ (nat mu g)]
  ring
theorem same_l (g : Fin 16) : ∃ r : ℝ, r ≠ 0 ∧ sSum (G0 m c) (G1 m c) (G3 m c) (ix2 g Q) = (r : EReal)
    ∧ Cert.AttnFwdRefIdeal.Read.val_main_v28 (F := Ideal) (G0 m c) (G1 m c) (G3 m c) (ix2 g Q) = (r : EReal) := by
  refine ⟨_, (Cert.AttnBwd.Math.tot_pos (q g) (k g) (cc g) (nat mu g) Q).ne', ?_, ?_⟩
  · rw [A.h0, A.h1, A.h3]
    exact sum_at q k cc g Q mu A.hm
  · rw [A.h0, A.h1, A.h3]
    exact Cert.FwdProof.Ref.row_at q k cc g Q mu A.hm

theorem do_in (hR : R.val = Q.val + 240) : aDo m c x R
    = Cert.FoxOutRefIdeal.Read.val_main_v78 (F := Ideal) (G0 m c) (G1 m c) (G3 m c) (G4 m c) (G5 m c) (G6 m c) (ix3 (hof x) Q (cof x)) := by
  obtain ⟨r, h0, h1, h2⟩ := same_l Q A (hof x)
  rw [Ref.do_at, h2, Ref.cat_hof]
  unfold aDo
  rw [p_in m c R Q x hR, s_in m c R Q x hR, l_in m c R Q x hR, h1]
  exact div_one' _ r h0

theorem is_do : aDo m c x R = Cert.FoxOutRefIdeal.Read.val_main_v86 (F := Ideal) (G0 m c) (G1 m c) (G3 m c) (G4 m c) (G5 m c) (G6 m c) (ix2 R x) := by
  rcases row_cases R with h | ⟨Q, hQ⟩
  · rw [Ref.out_do0 _ _ _ _ _ _ _ _ h]
    unfold aDo
    rw [p_out m c R x h, zero_mul, zero_mul]
  · rw [Ref.out_do _ _ _ _ _ _ Q _ _ hQ]
    exact do_in R Q x A hQ
theorem is_dg : aDg m c x R = Cert.FoxOutRefIdeal.Read.val_main_v88 (F := Ideal) (G0 m c) (G1 m c) (G2 m c) (G3 m c) (G4 m c) (G5 m c) (G6 m c) (ix2 R x) := by
  rcases row_cases R with h | ⟨Q, hQ⟩
  · rw [Ref.out_dg0 _ _ _ _ _ _ _ _ _ h]
    unfold aDg
    rw [p_out m c R x h, zero_mul, zero_mul, zero_mul]
  · rw [Ref.out_dg _ _ _ _ _ _ _ Q _ _ hQ, Ref.dg_at, ← same_o Q A]
    unfold aDg
    rw [p_in m c R Q x hQ, s_in m c R Q x hQ, o_in m c R Q x hQ, mul_assoc, mul_comm (Ref.dog _ _ _ _)]
theorem is_dl : aDl m c x R = Cert.FoxOutRefIdeal.Read.val_main_v91 (F := Ideal) (G0 m c) (G1 m c) (G2 m c) (G3 m c) (G4 m c) (G5 m c) (G6 m c) (ix2 R x) := by
  rcases row_cases R with h | ⟨Q, hQ⟩
  · rw [Ref.out_dl0 _ _ _ _ _ _ _ _ _ h]
    refine Finset.sum_eq_zero fun d _ => ?_
    unfold aDo
    rw [p_out m c R _ h, zero_mul, zero_mul, zero_mul]
  · rw [Ref.out_dl _ _ _ _ _ _ _ Q _ _ hQ, Ref.dl_at]
    refine Finset.sum_congr rfl fun d _ => ?_
    rw [do_in R Q (peer x d) A hQ, o_in m c R Q (peer x d) hQ, same_o Q A, hof_peer, cof_peer]
end Finite
end Cert.GateOut

namespace Cert.FoxOutIdeal.Results
open Cert.FoxOutIdeal.Gen
open Cert.GateOut
open Cert.AttnBwd (m_real)
open Cert.AttnBwdIdeal.Results (heads_of rows_of)

variable (m : (ℓ : Loc nD τ sig) → Buf (Elt Ideal) ℓ) (c : Dev nD)

theorem values [Cert.Pre_out_finite.Facts] (h : Pre_FoxOutIdeal_out_finite m) :
    (dats m 0 c).arrAt 5 cfg0.N = Cert.FoxOutRefIdeal.Read.val_main_v86 (F := Ideal) (G0 m c) (G1 m c) (G3 m c) (G4 m c) (G5 m c) (G6 m c)
    ∧ (dats m 0 c).arrAt 6 cfg0.N = Cert.FoxOutRefIdeal.Read.val_main_v88 (F := Ideal) (G0 m c) (G1 m c) (G2 m c) (G3 m c) (G4 m c) (G5 m c) (G6 m c)
    ∧ (dats m 0 c).arrAt 7 cfg0.N = Cert.FoxOutRefIdeal.Read.val_main_v91 (F := Ideal) (G0 m c) (G1 m c) (G2 m c) (G3 m c) (G4 m c) (G5 m c) (G6 m c) := by
  obtain ⟨h0, h1, h2, h3⟩ := h c
  obtain ⟨q, hq⟩ := heads_of (G0 m c) _ (fun _ => rfl) (congrFun h0)
  obtain ⟨k, hk⟩ := heads_of (G1 m c) _ (fun _ => rfl) (congrFun h1)
  obtain ⟨v, hv⟩ := heads_of (G2 m c) _ (fun _ => rfl) (congrFun h2)
  obtain ⟨cc, hc⟩ := rows_of (G3 m c) _ (fun _ => rfl) (congrFun h3)
  obtain ⟨mu, hmu⟩ := m_real q k cc
  have A : Real4 m c q k v cc mu := ⟨hq, hk, hv, hc, hmu⟩
  refine ⟨(end_5 m c).trans (funext fun y => ?_), (end_6 m c).trans (funext fun y => ?_), (end_7 m c).trans (funext fun y => ?_)⟩
  · exact (is_do (y 0) (y 1) A).trans (congrArg _ (Cert.AttnBwd.eta2 (a := 8448) (b := 1024) y).symm)
  · exact (is_dg (y 0) (y 1) A).trans (congrArg _ (Cert.AttnBwd.eta2 (a := 8448) (b := 1024) y).symm)
  · exact (is_dl (y 0) (y 1) A).trans (congrArg _ (Cert.AttnBwd.eta2 (a := 8448) (b := 1024) y).symm)
end Cert.FoxOutIdeal.Results
end
-- ==== Proof.FfnFwdValue.lean ====
/- The value of the feed-forward's first half, forward. -/
module
public import proofs.«01_k».proof.Proof.Gen.FfnFwdIdeal.Value
public import proofs.«01_k».proof.Proof.Gen.FfnFwdRefIdeal.Run
public import proofs.«01_k».proof.Proof.Gen.FfnFwdRefIdeal.Read
public import Idealize.ShloMosaic.Lib.Pipeline.ValueKit
public import Idealize.ShloMosaic.Lib.Claim
@[expose] public section
set_option maxRecDepth 16384
noncomputable section
namespace Cert.FfnFwdIdeal.Results
open Idealize.ShloMosaic Idealize.ShloMosaic.TcCoe Idealize.SL.Sem
open Idealize.ShloMosaic.Pipeline (Dat)
open Cert.FfnFwdIdeal Cert.FfnFwdIdeal.Gen

/-- Entry (r, q) of the hidden state times the input weight. -/
def full (a0 : FVec Ideal S8448x1024 .f32) (a1 : FVec Ideal S1024x5632 .f32) (r : Fin 8448) (q : Fin 5632) : EReal :=
  ∑ k : Fin 1024, a0 (ix2 r k) * a1 (ix2 k q)
def gateCol (q : Fin 2816) : Fin 5632 := ⟨q.val, by have := q.isLt; omega⟩
def upCol (q : Fin 2816) : Fin 5632 := ⟨2816 + q.val, by have := q.isLt; omega⟩

section
open Cert.FfnFwdRefIdeal.Read
variable (a0 : FVec Ideal S8448x1024 .f32) (a1 : FVec Ideal S1024x5632 .f32) (r : Fin 8448) (q : Fin 2816)
theorem ref_g : val_main_v3 (F := Ideal) a0 a1 (ix2 r q) = full a0 a1 r (gateCol q) := by
  unfold gateCol
  pointwise [val_main_v3, val_main_v1, val_main_v0, full]
theorem ref_u : val_main_v4 (F := Ideal) a0 a1 (ix2 r q) = full a0 a1 r (upCol q) := by
  unfold upCol
  pointwise [val_main_v4, val_main_v2, val_main_v0, full]
theorem ref_act : val_main_v7 (F := Ideal) a0 a1 (ix2 r q)
    = full a0 a1 r (gateCol q) * Ideal.logistic (full a0 a1 r (gateCol q)) * full a0 a1 r (upCol q) := by
  unfold upCol gateCol
  pointwise [val_main_v7, val_main_v6, val_main_v5, val_main_call0_v5, val_main_call0_v4, val_main_call0_v3, val_main_call0_v2, val_main_call0_v1, val_main_call0_v0, val_main_call0_cst, val_main_call0_cst_0, val_main_v2, val_main_v1, val_main_v0, full, Ideal.logistic]
end

variable (m : (ℓ : Loc nD τ sig) → Buf (Elt Ideal) ℓ) (c : Dev nD) (t : Fin cfg0.N)

theorem idx : ∀ t : Fin cfg0.N, win0_0.index t = ![t.val % 11, 0] ∧ win0_1.index t = ![0, t.val / 11] ∧ win0_2.index t = ![0, 2 + t.val / 11]
    ∧ win0_3.index t = ![t.val % 11, t.val / 11] ∧ win0_4.index t = ![t.val % 11, t.val / 11] ∧ win0_5.index t = ![t.val % 11, t.val / 11] :=
  (by decide +kernel : ∀ t : Fin grid0.N, _)

theorem lt22 : t.val < 22 := lt_of_lt_of_eq t.isLt N_0
def A0 : FVec Ideal S8448x1024 .f32 := m ((c : Thread nD τ).loc main_arg0)
def A1 : FVec Ideal S1024x5632 .f32 := m ((c : Thread nD τ).loc main_arg1)
variable (x : S768x1408.Idx)
/-- The array row and column of an entry of tile `t`. -/
def row : Fin 8448 := ⟨t.val % 11 * 768 + (x 0 : ℕ), by have h' : (x 0 : ℕ) < 768 := (x 0).isLt; omega⟩
def col : Fin 2816 := ⟨t.val / 11 * 1408 + (x 1 : ℕ), by have := lt22 t; have h' : (x 1 : ℕ) < 1408 := (x 1).isLt; omega⟩

theorem h_blk (k : Fin 1024) : (iblk m c 0 t : FVec Ideal S768x1024 .bf16) (ix2 (x 0) k) = A0 m c (ix2 (row t x) k) := by
  unfold A0
  refine Eq.trans (b := (V m c main_v0 : FVec Ideal S8448x1024 .bf16) (ix2 (row t x) k)) ?_ ?_
  · blk_ext [iblk, row, idx t]
  · entry_read
    pointwise []
theorem g_blk (k : Fin 1024) : (iblk m c 1 t : FVec Ideal S1024x1408 .bf16) (ix2 k (x 1)) = A1 m c (ix2 k (gateCol (col t x))) := by
  unfold A1
  refine Eq.trans (b := (V m c main_v1 : FVec Ideal S1024x5632 .bf16) (ix2 k (gateCol (col t x)))) ?_ ?_
  · blk_ext [iblk, gateCol, col, idx t]
  · entry_read
    pointwise []
theorem u_blk (k : Fin 1024) : (iblk m c 2 t : FVec Ideal S1024x1408 .bf16) (ix2 k (x 1)) = A1 m c (ix2 k (upCol (col t x))) := by
  unfold A1
  refine Eq.trans (b := (V m c main_v1 : FVec Ideal S1024x5632 .bf16) (ix2 k (upCol (col t x)))) ?_ ?_
  · blk_ext [iblk, upCol, col, idx t]
  · entry_read
    pointwise []

section
variable (h : FVec Ideal S768x1024 .bf16) (w w' : FVec Ideal S1024x1408 .bf16) (r : Fin 768) (q : Fin 1408)
theorem pay_g : k0_pay2 (F := Ideal) h w (ix2 r q) = (∑ k : Fin 1024, h (ix2 r k) * w (ix2 k q) : EReal) := by
  pointwise [k0_pay2, k0_pay1]
theorem pay_u : k0_pay3 (F := Ideal) h w (ix2 r q) = (∑ k : Fin 1024, h (ix2 r k) * w (ix2 k q) : EReal) := by
  pointwise [k0_pay3, k0_pay1]
end

theorem two (x : S768x1408.Idx) : x = ix2 (x 0) (x 1) := by funext i; fin_cases i <;> rfl
theorem gate_at : k0_pay2 (F := Ideal) (iblk m c 0 t) (iblk m c 1 t) x = full (A0 m c) (A1 m c) (row t x) (gateCol (col t x)) :=
  (congrArg _ (two x)).trans ((pay_g (iblk m c 0 t) (iblk m c 1 t) (x 0) (x 1)).trans
    (Finset.sum_congr rfl fun k _ => congrArg₂ (fun a b : EReal => a * b) (h_blk m c t x k) (g_blk m c t x k)))
theorem up_at : k0_pay3 (F := Ideal) (iblk m c 0 t) (iblk m c 2 t) x = full (A0 m c) (A1 m c) (row t x) (upCol (col t x)) :=
  (congrArg _ (two x)).trans ((pay_u (iblk m c 0 t) (iblk m c 2 t) (x 0) (x 1)).trans
    (Finset.sum_congr rfl fun k _ => congrArg₂ (fun a b : EReal => a * b) (h_blk m c t x k) (u_blk m c t x k)))

theorem final_g : (dats m 0 c).arrAt 3 (cfgs 0).N = Cert.FfnFwdRefIdeal.Read.val_main_v3 (F := Ideal) (A0 m c) (A1 m c) := by
  refine (dats m 0 c).arrAt_eq_of_covers 3 _ (by decide +kernel) fun t hf y => ?_
  blk_simp; rw [after0_3]; frame_out
  refine Eq.trans ?_ ((ref_g _ _ (row t y) (col t y)).symm.trans (congrArg _ ?_))
  · exact gate_at m c t y
  · blk_ext [row, col, idx t]
theorem final_u : (dats m 0 c).arrAt 4 (cfgs 0).N = Cert.FfnFwdRefIdeal.Read.val_main_v4 (F := Ideal) (A0 m c) (A1 m c) := by
  refine (dats m 0 c).arrAt_eq_of_covers 4 _ (by decide +kernel) fun t hf y => ?_
  blk_simp; rw [after0_4]; frame_out
  refine Eq.trans ?_ ((ref_u _ _ (row t y) (col t y)).symm.trans (congrArg _ ?_))
  · exact up_at m c t y
  · blk_ext [row, col, idx t]
theorem final_act : (dats m 0 c).arrAt 5 (cfgs 0).N = Cert.FfnFwdRefIdeal.Read.val_main_v7 (F := Ideal) (A0 m c) (A1 m c) := by
  refine (dats m 0 c).arrAt_eq_of_covers 5 _ (by decide +kernel) fun t hf y => ?_
  blk_simp; rw [after0_5]; frame_out
  refine Eq.trans ?_ ((ref_act _ _ (row t y) (col t y)).symm.trans (congrArg _ ?_))
  · rw [← gate_at m c t y, ← up_at m c t y]
    rfl
  · blk_ext [row, col, idx t]
end Cert.FfnFwdIdeal.Results
end
-- ==== Proof.OutProjValue.lean ====
/- The value of the output projection, forward. -/
module
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.RmsRow
@[expose] public section
set_option maxRecDepth 16384
noncomputable section
namespace Cert.OutProjIdeal.Results
open Idealize.ShloMosaic Idealize.ShloMosaic.TcCoe Idealize.SL.Sem
open Idealize.ShloMosaic.Pipeline (Dat)
open Cert.OutProjIdeal Cert.OutProjIdeal.Gen

/-- The normed row times the gain. -/
def normed (x g : Fin 1024 → EReal) (q : Fin 1024) : EReal := x q * Cert.RmsRow.rs x * g q
/-- Row `r` of the projection plus the residual. -/
def hid {n : ℕ} (a : FVec Ideal ⟨2, ![n, 2816]⟩ .f32) (w : FVec Ideal S2816x1024 .f32) (s : FVec Ideal ⟨2, ![n, 1024]⟩ .f32) (r : Fin n) (q : Fin 1024) : EReal :=
  (∑ k : Fin 2816, a (ix2 r k) * w (ix2 k q)) + s (ix2 r q)

section
open Cert.OutProjRefIdeal.Read
variable (a0 : FVec Ideal S8448x2816 .f32) (a1 : FVec Ideal S2816x1024 .f32) (a2 : FVec Ideal S8448x1024 .f32) (a3 : FVec Ideal S1024 .f32) (r : Fin 8448) (q : Fin 1024)
theorem ref_h : val_main_v1 (F := Ideal) a0 a1 a2 (ix2 r q) = hid a0 a1 a2 r q := by
  pointwise [val_main_v1, val_main_v0, hid]
theorem ref_n : val_main_v14 (F := Ideal) a0 a1 a2 a3 (ix2 r q) = normed (hid a0 a1 a2 r) (fun k => a3 (ix1 k)) q := by
  pointwise [val_main_v14, val_main_v13, val_main_v12, val_main_v11, val_main_v10, val_main_v9, val_main_v8, val_main_v7, val_main_v6, val_main_v5, val_main_v4, val_main_v3, val_main_v2, val_main_cst, val_main_cst_0, val_main_cst_1, ref_h, normed, Cert.RmsRow.rs, Cert.RmsRow.ms]
theorem ref_t : val_main_v17 (F := Ideal) a0 a1 a2 a3 (ix2 q r) = normed (hid a0 a1 a2 r) (fun k => a3 (ix1 k)) q := by
  rw [← ref_n]
  generalize hf : val_main_v14 (F := Ideal) a0 a1 a2 a3 = f
  unfold val_main_v17 val_main_v16
  rw [hf]
  pointwise []
end

section
variable (a : FVec Ideal S768x2816 .bf16) (w : FVec Ideal S2816x1024 .bf16) (s : FVec Ideal S768x1024 .f32) (g : FVec Ideal S1x1024 .f32) (r : Fin 768) (q : Fin 1024)
theorem pay_h : k0_pay1 (F := Ideal) a w s (ix2 r q) = hid (n := 768) a w s r q := by
  pointwise [k0_pay1, hid]
theorem pay_n : k0_pay2 (F := Ideal) a w s g (ix2 r q) = normed (hid (n := 768) a w s r) (fun k => g (ix2 0 k)) q := by
  pointwise [k0_pay2, pay_h, normed, Cert.RmsRow.rs, Cert.RmsRow.ms]
theorem pay_t : k0_pay4 (F := Ideal) a w s g (ix2 q r) = normed (hid (n := 768) a w s r) (fun k => g (ix2 0 k)) q := by
  rw [← pay_n]
  unfold k0_pay4
  generalize k0_pay2 (F := Ideal) a w s g = f
  pointwise []
end

variable (m : (ℓ : Loc nD τ sig) → Buf (Elt Ideal) ℓ) (c : Dev nD) (t : Fin cfg0.N)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, t.val] :=
  (by decide +kernel : ∀ t : Fin grid0.N, _)

def A0 : FVec Ideal S8448x2816 .f32 := m ((c : Thread nD τ).loc main_arg0)
def A1 : FVec Ideal S2816x1024 .f32 := m ((c : Thread nD τ).loc main_arg1)
def A2 : FVec Ideal S8448x1024 .f32 := m ((c : Thread nD τ).loc main_arg2)
def A3 : FVec Ideal S1024 .f32 := m ((c : Thread nD τ).loc main_arg3)

/-- The array row of row `r` of tile `t`. -/
def row (r : Fin 768) : Fin 8448 := ⟨t.val * 768 + r.val, by have h : t.val < 11 := lt_of_lt_of_eq t.isLt N_0; omega⟩
variable (r : Fin 768) (q : Fin 1024)

theorem a_blk (k : Fin 2816) : (iblk m c 0 t : FVec Ideal S768x2816 .bf16) (ix2 r k) = A0 m c (ix2 (row t r) k) := by
  unfold A0
  refine Eq.trans (b := (V m c main_v0 : FVec Ideal S8448x2816 .bf16) (ix2 (row t r) k)) ?_ ?_
  · blk_ext [iblk, row, idx t]
  · entry_read
    pointwise []
theorem w_blk (k : Fin 2816) : (iblk m c 1 t : FVec Ideal S2816x1024 .bf16) (ix2 k q) = A1 m c (ix2 k q) := by
  unfold A1
  refine Eq.trans (b := (V m c main_v1 : FVec Ideal S2816x1024 .bf16) (ix2 k q)) ?_ ?_
  · blk_ext [iblk, idx t]
  · entry_read
    pointwise []
theorem s_blk : (iblk m c 2 t : FVec Ideal S768x1024 .f32) (ix2 r q) = A2 m c (ix2 (row t r) q) := by
  unfold row A2
  blk_point [iblk, V, idx t]
theorem g_blk : (iblk m c 3 t : FVec Ideal S1x1024 .f32) (ix2 0 q) = A3 m c (ix1 q) := by
  unfold A3
  refine Eq.trans (b := (V m c main_v2 : FVec Ideal S1x1024 .f32) (ix2 0 q)) ?_ ?_
  · blk_ext [iblk, idx t]
  · entry_read
    pointwise []

theorem hid_blk : hid (n := 768) (iblk m c 0 t) (iblk m c 1 t) (iblk m c 2 t) r = hid (A0 m c) (A1 m c) (A2 m c) (row t r) :=
  funext fun q => congrArg₂ (fun a b : EReal => a + b) (Finset.sum_congr rfl fun k _ => congrArg₂ (fun a b : EReal => a * b) (a_blk m c t r k) (w_blk m c t q k)) (s_blk m c t r q)
theorem h_pt : k0_pay1 (F := Ideal) (iblk m c 0 t) (iblk m c 1 t) (iblk m c 2 t) (ix2 r q)
    = Cert.OutProjRefIdeal.Read.val_main_v1 (F := Ideal) (A0 m c) (A1 m c) (A2 m c) (ix2 (row t r) q) := by
  rw [ref_h, ← hid_blk]
  exact pay_h _ _ _ r q
theorem n_pt : k0_pay3 (F := Ideal) (iblk m c 0 t) (iblk m c 1 t) (iblk m c 2 t) (iblk m c 3 t) (ix2 r q)
    = Cert.OutProjRefIdeal.Read.val_main_v15 (F := Ideal) (A0 m c) (A1 m c) (A2 m c) (A3 m c) (ix2 (row t r) q) := by
  refine Eq.trans ?_ (ref_n (A0 m c) (A1 m c) (A2 m c) (A3 m c) (row t r) q).symm
  refine (pay_n (iblk m c 0 t) (iblk m c 1 t) (iblk m c 2 t) (iblk m c 3 t) r q).trans ?_
  rw [← hid_blk]
  exact congrArg (fun f : Fin 1024 → EReal => normed (hid (n := 768) (iblk m c 0 t) (iblk m c 1 t) (iblk m c 2 t) r) f q) (funext fun k => g_blk m c t k)
theorem t_pt : k0_pay4 (F := Ideal) (iblk m c 0 t) (iblk m c 1 t) (iblk m c 2 t) (iblk m c 3 t) (ix2 q r)
    = Cert.OutProjRefIdeal.Read.val_main_v17 (F := Ideal) (A0 m c) (A1 m c) (A2 m c) (A3 m c) (ix2 q (row t r)) := by
  rw [ref_t]
  refine (pay_t (iblk m c 0 t) (iblk m c 1 t) (iblk m c 2 t) (iblk m c 3 t) r q).trans ?_
  rw [← hid_blk]
  exact congrArg (fun f : Fin 1024 → EReal => normed (hid (n := 768) (iblk m c 0 t) (iblk m c 1 t) (iblk m c 2 t) r) f q) (funext fun k => g_blk m c t k)

theorem final_h : (dats m 0 c).arrAt 4 (cfgs 0).N = Cert.OutProjRefIdeal.Read.val_main_v1 (F := Ideal) (A0 m c) (A1 m c) (A2 m c) := by
  refine (dats m 0 c).arrAt_eq_of_covers 4 _ (by decide +kernel) fun t hf y => ?_
  blk_simp; rw [after0_4]; frame_out
  refine (congrArg _ (Cert.RmsRow.eta2 (a := 768) (b := 1024) y)).trans ((h_pt m c t (y 0) (y 1)).trans (congrArg _ ?_))
  blk_ext [row, idx t]
theorem final_n : (dats m 0 c).arrAt 5 (cfgs 0).N = Cert.OutProjRefIdeal.Read.val_main_v15 (F := Ideal) (A0 m c) (A1 m c) (A2 m c) (A3 m c) := by
  refine (dats m 0 c).arrAt_eq_of_covers 5 _ (by decide +kernel) fun t hf y => ?_
  blk_simp; rw [after0_5]; frame_out
  refine (congrArg _ (Cert.RmsRow.eta2 (a := 768) (b := 1024) y)).trans ((n_pt m c t (y 0) (y 1)).trans (congrArg _ ?_))
  blk_ext [row, idx t]
theorem final_t : (dats m 0 c).arrAt 6 (cfgs 0).N = Cert.OutProjRefIdeal.Read.val_main_v17 (F := Ideal) (A0 m c) (A1 m c) (A2 m c) (A3 m c) := by
  refine (dats m 0 c).arrAt_eq_of_covers 6 _ (by decide +kernel) fun t hf y => ?_
  blk_simp; rw [after0_6]; frame_out
  refine (congrArg _ (Cert.RmsRow.eta2 (a := 1024) (b := 768) y)).trans ((t_pt m c t (y 1) (y 0)).trans (congrArg _ ?_))
  blk_ext [row, idx t]
end Cert.OutProjIdeal.Results
end
-- ==== Proof.EmbedValue.lean ====
/- The value of the embedding, forward: the meta rows ahead of the input, zero rows ahead of both, the norm. -/
module
public import proofs.«01_k».proof.Proof.Gen.EmbedIdeal.Value
public import proofs.«01_k».proof.Proof.Gen.EmbedRefIdeal.Run
public import proofs.«01_k».proof.Proof.Gen.EmbedRefIdeal.Read
public import proofs.«01_k».proof.Proof.OutProjValue
public import Idealize.ShloMosaic.Lib.KernelVsHost
@[expose] public section
set_option maxRecDepth 16384
noncomputable section
namespace Cert.EmbedIdeal.Results
open Idealize.ShloMosaic Idealize.ShloMosaic.TcCoe Idealize.SL.Sem
open Idealize.ShloMosaic.Pipeline (Dat)
open Cert.EmbedIdeal Cert.EmbedIdeal.Gen
open Cert.OutProjIdeal.Results (normed)

/-- Row `R` of the lengthened array: zero rows, then the meta rows, then the input. -/
def hrow (x : FVec Ideal S8192x1024 .f32) (e : FVec Ideal S16x1024 .f32) (R : Fin 8448) (q : Fin 1024) : EReal :=
  if R.val < 240 then 0
  else if h : R.val < 256 then e (ix2 ⟨R.val - 240, by omega⟩ q)
  else x (ix2 ⟨R.val - 256, by omega⟩ q)

section
open Cert.EmbedRefIdeal.Read Cert.EmbedRefIdeal.Gen
open Cert.EmbedRefIdeal (S8208x1024 S_)
variable (a0 : FVec Ideal S8192x1024 .f32) (a1 : FVec Ideal S16x1024 .f32) (a2 : FVec Ideal S1024 .f32) (r : Fin 8448) (q : Fin 1024)
theorem cat_meta (Q : Fin 8208) (k : Fin 16) (h : k.val = Q.val) : val_main_v0 (F := Ideal) a0 a1 (ix2 Q q) = a1 (ix2 k q) := by
  unfold val_main_v0
  refine concatenate_pair_apply_left (t := S8208x1024) (s₁ := S16x1024) (s₂ := S8192x1024) 0 a1 a0 _ (ix2 Q q) rfl (ix2 k q) fun b => ?_
  fin_cases b
  · exact h
  · rfl
theorem cat_in (Q : Fin 8208) (k : Fin 8192) (h : k.val + 16 = Q.val) : val_main_v0 (F := Ideal) a0 a1 (ix2 Q q) = a0 (ix2 k q) := by
  unfold val_main_v0
  refine concatenate_pair_apply_right (t := S8208x1024) (s₁ := S16x1024) (s₂ := S8192x1024) 0 a1 a0 _ (ix2 Q q) rfl rfl (ix2 k q) (fun b hb => ?_) h
  fin_cases b
  · exact absurd rfl hb
  · rfl
theorem zero_pad (i : S_.Idx) : val_main_call0_v0 (F := Ideal) i = 0 := by
  unfold val_main_call0_v0 val_main_c
  pointwise
  simp [FloatOps.sitofp]
theorem ref_h : val_main_v1 (F := Ideal) a0 a1 (ix2 r q) = hrow a0 a1 r q := by
  unfold hrow val_main_v1
  split
  · rename_i hr
    refine (pad_apply_of_not_inside (a := 0) _ _ _ _ _ _ _ _ fun hh => ?_).trans (zero_pad _)
    have : 240 ≤ r.val := hh.1
    omega
  · rename_i hr
    refine (pad_apply_of_inside (k := ix2 (⟨r.val - 240, by omega⟩ : Fin 8208) q) _ _ _ _ _ _ _ _ fun a => ?_).trans ?_
    · fin_cases a
      · show r.val = 240 + (r.val - 240) * (0 + 1); omega
      · show q.val = 0 + q.val * (0 + 1); omega
    split
    · exact cat_meta a0 a1 q _ _ rfl
    · exact cat_in a0 a1 q _ _ (show r.val - 256 + 16 = r.val - 240 by omega)
theorem ref_n : val_main_v14 (F := Ideal) a0 a1 a2 (ix2 r q) = normed (hrow a0 a1 r) (fun k => a2 (ix1 k)) q := by
  pointwise [val_main_v14, val_main_v13, val_main_v12, val_main_v11, val_main_v10, val_main_v9, val_main_v8, val_main_v7, val_main_v6, val_main_v5, val_main_v4, val_main_v3, val_main_v2, val_main_cst, val_main_cst_0, val_main_cst_1, ref_h, normed, Cert.RmsRow.rs, Cert.RmsRow.ms]
theorem ref_t : val_main_v17 (F := Ideal) a0 a1 a2 (ix2 q r) = normed (hrow a0 a1 r) (fun k => a2 (ix1 k)) q := by
  rw [← ref_n]
  generalize hf : val_main_v14 (F := Ideal) a0 a1 a2 = f
  unfold val_main_v17 val_main_v16
  rw [hf]
  pointwise []
end

section
variable (v : FVec Ideal S256x1024 .f32) (g : FVec Ideal S1x1024 .f32) (r : Fin 256) (q : Fin 1024)
theorem pay_n : k0_pay2 (F := Ideal) v g (ix2 r q) = normed (fun k => v (ix2 r k)) (fun k => g (ix2 0 k)) q := by
  pointwise [k0_pay2, normed, Cert.RmsRow.rs, Cert.RmsRow.ms]
theorem pay_t : k0_pay4 (F := Ideal) v g (ix2 q r) = normed (fun k => v (ix2 r k)) (fun k => g (ix2 0 k)) q := by
  rw [← pay_n]
  unfold k0_pay4
  generalize k0_pay2 (F := Ideal) v g = f
  pointwise []
end

variable (m : (ℓ : Loc nD τ sig) → Buf (Elt Ideal) ℓ) (c : Dev nD) (t : Fin cfg0.N)

theorem idx : ∀ t : Fin cfg0.N, win0_0.index t = ![t.val - 1, 0] ∧ win0_1.index t = ![0, 0] ∧ win0_2.index t = ![0, 0]
    ∧ win0_3.index t = ![t.val, 0] ∧ win0_4.index t = ![t.val, 0] ∧ win0_5.index t = ![0, t.val] :=
  (by decide +kernel : ∀ t : Fin grid0.N, _)

def A0 : FVec Ideal S8192x1024 .f32 := m ((c : Thread nD τ).loc main_arg0)
def A1 : FVec Ideal S16x1024 .f32 := m ((c : Thread nD τ).loc main_arg1)
def A2 : FVec Ideal S1024 .f32 := m ((c : Thread nD τ).loc main_arg2)

theorem t_lt : t.val < 33 := lt_of_lt_of_eq t.isLt N_0
/-- The array row of row `r` of tile `t`. -/
def row (r : Fin 256) : Fin 8448 := ⟨t.val * 256 + r.val, by have h := t_lt t; omega⟩
variable (r : Fin 256) (q : Fin 1024)

theorem g_blk : (iblk m c 2 t : FVec Ideal S1x1024 .f32) (ix2 0 q) = A2 m c (ix1 q) := by
  unfold A2
  refine Eq.trans (b := (V m c main_v0 : FVec Ideal S1x1024 .f32) (ix2 0 q)) ?_ ?_
  · blk_ext [iblk, idx t]
  · entry_read
    pointwise []
theorem e_blk (k : Fin 16) : (iblk m c 1 t : FVec Ideal S16x1024 .f32) (ix2 k q) = A1 m c (ix2 k q) := by
  unfold A1
  blk_point [iblk, V, idx t]
theorem x_blk (h : 1 ≤ t.val) : (iblk m c 0 t : FVec Ideal S256x1024 .f32) (ix2 r q) = hrow (A0 m c) (A1 m c) (row t r) q := by
  have ht := t_lt t
  unfold hrow
  rw [if_neg (show ¬ (row t r).val < 240 by show ¬ t.val * 256 + r.val < 240; omega),
    dif_neg (show ¬ (row t r).val < 256 by show ¬ t.val * 256 + r.val < 256; omega)]
  unfold A0
  have e : (row t r).val - 256 = (t.val - 1) * 256 + r.val := by show t.val * 256 + r.val - 256 = _; omega
  simp only [e]
  blk_point [iblk, V, idx t]

/-- Tile `t` of the lengthened array. -/
def tile : FVec Ideal S256x1024 .f32 := fun i => hrow (A0 m c) (A1 m c) (row t (i 0)) (i 1)
theorem first (h : t.val = 0) : View.canon (Val := Elt Ideal) (s := S256x1024) (e := .f32)
    [⟨Rect.unit ![240, 0] ![16, 1024] inb_S256x1024_S16x1024_240_0, iblk m c 1 t⟩, ⟨Rect.unit ![0, 0] ![256, 1024] inb_S256x1024_S256x1024_0_0, k0_pay1 (F := Ideal)⟩] = tile m c t := by
  funext y
  rw [Cert.RmsRow.eta2 (a := 256) (b := 1024) y]
  obtain ⟨r, hr0⟩ : ∃ r : Fin 256, r = y 0 := ⟨_, rfl⟩
  obtain ⟨q, hq0⟩ : ∃ q : Fin 1024, q = y 1 := ⟨_, rfl⟩
  rw [← hr0, ← hq0]
  show _ = hrow (A0 m c) (A1 m c) (row t r) q
  have e : (row t r).val = r.val := by show t.val * 256 + r.val = r.val; omega
  unfold hrow
  simp only [e]
  split
  · rename_i hr
    refine (View.canon_cons_of_not_mem _ _ fun hm => ?_).trans ?_
    · have h0 : 240 ≤ r.val := ((Rect.mem_set_unit (inb := inb_S256x1024_S16x1024_240_0)).mp hm 0).1
      omega
    · refine (congrFun (View.canon_cons_unit_lit inb_S256x1024_S256x1024_0_0 _ _ (by decide)) _).trans ?_
      pointwise [k0_pay1]
  · rename_i hr
    rw [dif_pos r.isLt]
    refine Eq.trans ?_ (e_blk m c t q (⟨r.val - 240, by omega⟩ : Fin 16))
    have e2 : (ix2 r q : S256x1024.Idx) = (Rect.unit (s := S256x1024) ![240, 0] ![16, 1024] inb_S256x1024_S16x1024_240_0).emb (ix2 (⟨r.val - 240, by omega⟩ : Fin 16) q) := by
      funext a
      apply Fin.ext
      fin_cases a
      · show r.val = 240 + 1 * (r.val - 240); omega
      · show q.val = 0 + 1 * q.val; omega
    exact (congrArg _ e2).trans (View.canon_cons_emb _ _ _ _)
theorem first_rd (h : t.val = 0) : (ms0_3 t).view.readCov
    [⟨Rect.unit ![240, 0] ![16, 1024] inb_S256x1024_S16x1024_240_0, iblk m c 1 t⟩, ⟨Rect.unit ![0, 0] ![256, 1024] inb_S256x1024_S256x1024_0_0, k0_pay1 (F := Ideal)⟩]
    (Rect.unit ![0, 0] ![256, 1024] inb_S256x1024_S256x1024_0_0).toLoadRect = tile m c t := by
  refine (View.readCov_eq_canon_ld _ _ _ fun y => ⟨_, List.mem_cons_of_mem _ List.mem_cons_self, ?_⟩).trans ?_
  · refine (Rect.mem_set_unit (inb := inb_S256x1024_S256x1024_0_0)).mpr fun a => ?_
    fin_cases a
    · exact ⟨Nat.zero_le _, by show (y 0).val < 0 + 256; exact (Nat.zero_add 256).symm ▸ (y 0).isLt⟩
    · exact ⟨Nat.zero_le _, by show (y 1).val < 0 + 1024; exact (Nat.zero_add 1024).symm ▸ (y 1).isLt⟩
  · rw [first m c t h]
    exact View.ld_unit_lit inb_S256x1024_S256x1024_0_0 _ (by decide)

section
variable (v : FVec Ideal S256x1024 .f32) (hv : ∀ r q, v (ix2 r q) = hrow (A0 m c) (A1 m c) (row t r) q)
include hv
theorem gain (x : Fin 1024 → EReal) : normed x (fun k => (iblk m c 2 t : FVec Ideal S1x1024 .f32) (ix2 0 k)) q = normed x (fun k => A2 m c (ix1 k)) q :=
  congrArg (fun f : Fin 1024 → EReal => normed x f q) (funext fun k => g_blk m c t k)
theorem rows : (fun k => v (ix2 r k)) = hrow (A0 m c) (A1 m c) (row t r) := funext fun k => hv r k
theorem n_pt : k0_pay3 (F := Ideal) v (iblk m c 2 t) (ix2 r q)
    = Cert.EmbedRefIdeal.Read.val_main_v15 (F := Ideal) (A0 m c) (A1 m c) (A2 m c) (ix2 (row t r) q) := by
  refine ((pay_n v (iblk m c 2 t) r q).trans ?_).trans (ref_n (A0 m c) (A1 m c) (A2 m c) (row t r) q).symm
  rw [rows m c t r v hv]
  exact gain m c t q v hv _
theorem t_pt : k0_pay4 (F := Ideal) v (iblk m c 2 t) (ix2 q r)
    = Cert.EmbedRefIdeal.Read.val_main_v17 (F := Ideal) (A0 m c) (A1 m c) (A2 m c) (ix2 q (row t r)) := by
  refine ((pay_t v (iblk m c 2 t) r q).trans ?_).trans (ref_t (A0 m c) (A1 m c) (A2 m c) (row t r) q).symm
  rw [rows m c t r v hv]
  exact gain m c t q v hv _
end

theorem cases_t : (t.val % 33 = 0 ∧ ¬1 ≤ t.val ∧ t.val = 0) ∨ (¬t.val % 33 = 0 ∧ 1 ≤ t.val) := by
  have := t_lt t
  omega

theorem final_h : (dats m 0 c).arrAt 3 (cfgs 0).N = Cert.EmbedRefIdeal.Read.val_main_v1 (F := Ideal) (A0 m c) (A1 m c) := by
  refine (dats m 0 c).arrAt_eq_of_covers 3 _ (by decide +kernel) fun t hf y => ?_
  blk_simp; rw [after0_3]
  refine Eq.trans (b := hrow (A0 m c) (A1 m c) (row t (y 0)) (y 1)) ?_ ((ref_h _ _ _ _).symm.trans (congrArg _ ?_))
  · rcases cases_t t with ⟨h0, h1, h2⟩ | ⟨h0, h1⟩
    · rw [outsAt0_A m c t h0 h1]; frame_out
      rw [first m c t h2]; rfl
    · rw [outsAt0_B m c t h0 h1]; frame_out
      exact (congrArg _ (Cert.RmsRow.eta2 (a := 256) (b := 1024) y)).trans (x_blk m c t (y 0) (y 1) h1)
  · blk_ext [row, idx t]
theorem final_n : (dats m 0 c).arrAt 4 (cfgs 0).N = Cert.EmbedRefIdeal.Read.val_main_v15 (F := Ideal) (A0 m c) (A1 m c) (A2 m c) := by
  refine (dats m 0 c).arrAt_eq_of_covers 4 _ (by decide +kernel) fun t hf y => ?_
  blk_simp; rw [after0_4]
  refine Eq.trans (b := Cert.EmbedRefIdeal.Read.val_main_v15 (F := Ideal) (A0 m c) (A1 m c) (A2 m c) (ix2 (row t (y 0)) (y 1))) ?_ (congrArg _ ?_)
  · rcases cases_t t with ⟨h0, h1, h2⟩ | ⟨h0, h1⟩
    · rw [outsAt0_A m c t h0 h1]; frame_out
      rw [first_rd m c t h2]
      exact (congrArg _ (Cert.RmsRow.eta2 (a := 256) (b := 1024) y)).trans (n_pt m c t (y 0) (y 1) (tile m c t) fun r q => rfl)
    · rw [outsAt0_B m c t h0 h1]; frame_out
      exact (congrArg _ (Cert.RmsRow.eta2 (a := 256) (b := 1024) y)).trans (n_pt m c t (y 0) (y 1) (iblk m c 0 t) fun r q => x_blk m c t r q h1)
  · blk_ext [row, idx t]
theorem final_t : (dats m 0 c).arrAt 5 (cfgs 0).N = Cert.EmbedRefIdeal.Read.val_main_v17 (F := Ideal) (A0 m c) (A1 m c) (A2 m c) := by
  refine (dats m 0 c).arrAt_eq_of_covers 5 _ (by decide +kernel) fun t hf y => ?_
  blk_simp; rw [after0_5]
  refine Eq.trans (b := Cert.EmbedRefIdeal.Read.val_main_v17 (F := Ideal) (A0 m c) (A1 m c) (A2 m c) (ix2 (y 0) (row t (y 1)))) ?_ (congrArg _ ?_)
  · rcases cases_t t with ⟨h0, h1, h2⟩ | ⟨h0, h1⟩
    · rw [outsAt0_A m c t h0 h1]; frame_out
      rw [first_rd m c t h2]
      exact (congrArg _ (Cert.RmsRow.eta2 (a := 1024) (b := 256) y)).trans (t_pt m c t (y 1) (y 0) (tile m c t) fun r q => rfl)
    · rw [outsAt0_B m c t h0 h1]; frame_out
      exact (congrArg _ (Cert.RmsRow.eta2 (a := 1024) (b := 256) y)).trans (t_pt m c t (y 1) (y 0) (iblk m c 0 t) fun r q => x_blk m c t r q h1)
  · blk_ext [row, idx t]
end Cert.EmbedIdeal.Results
end
-- ==== Proof.DwValue.lean ====
/- The value of the gradient of the feed-forward's input weight. -/
module
public import proofs.«01_k».proof.Proof.Gen.DwIdeal.Value
public import proofs.«01_k».proof.Proof.Gen.DwRefIdeal.Run
public import proofs.«01_k».proof.Proof.Gen.DwRefIdeal.Read
public import Idealize.ShloMosaic.Lib.Pipeline.ValueKit
public import Idealize.ShloMosaic.Lib.Claim
@[expose] public section
set_option maxRecDepth 16384
noncomputable section
namespace Cert.DwIdeal.Results
open Idealize.ShloMosaic Idealize.ShloMosaic.TcCoe Idealize.SL.Sem
open Idealize.ShloMosaic.Pipeline (Dat)
open Cert.DwIdeal Cert.DwIdeal.Gen

section
open Cert.DwRefIdeal.Read
theorem ref_dw (a0 : FVec Ideal S8448x1024 .f32) (a1 : FVec Ideal S8448x5632 .f32) (r : Fin 1024) (q : Fin 5632) :
    val_main_v3 (F := Ideal) a0 a1 (ix2 r q) = (∑ k : Fin 8448, a0 (ix2 k r) * a1 (ix2 k q) : EReal) := by
  refine Eq.trans (b := (∑ k : Fin 8448, a1 (ix2 k q) * a0 (ix2 k r) : EReal)) ?_ (Finset.sum_congr rfl fun k _ => mul_comm _ _)
  pointwise [val_main_v3, val_main_v2]
end

theorem pay_acc (acc : FVec Ideal S1024x1408 .f32) (x : FVec Ideal S1024x1408 .bf16) (y : FVec Ideal S1408x1408 .bf16) (r : Fin 1024) (q : Fin 1408) :
    k0_pay2 (F := Ideal) acc x y (ix2 r q) = (acc (ix2 r q) + ∑ k : Fin 1408, x (ix2 r k) * y (ix2 k q) : EReal) := by
  pointwise [k0_pay2]
theorem two (x : S1024x1408.Idx) : x = ix2 (x 0) (x 1) := by funext i; fin_cases i <;> rfl
/-- What one point adds to an entry of the accumulator. -/
def part (x : FVec Ideal S1024x1408 .bf16) (y : FVec Ideal S1408x1408 .bf16) (j : S1024x1408.Idx) : EReal :=
  ∑ k : Fin 1408, x (ix2 (j 0) k) * y (ix2 k (j 1))
theorem acc_at (acc : FVec Ideal S1024x1408 .f32) (x : FVec Ideal S1024x1408 .bf16) (y : FVec Ideal S1408x1408 .bf16) (j : S1024x1408.Idx) :
    k0_pay2 (F := Ideal) acc x y j = acc j + part x y j := by
  obtain ⟨r, q, rfl⟩ : ∃ r q, j = ix2 r q := ⟨_, _, two j⟩
  exact pay_acc acc x y r q
theorem zero_fill (j : S1024x1408.Idx) : k0_pay1 (F := Ideal) j = 0 := by pointwise [k0_pay1]

variable (m : (ℓ : Loc nD τ sig) → Buf (Elt Ideal) ℓ) (c : Dev nD) (t : Fin cfg0.N)

theorem idx : ∀ t : Fin cfg0.N, win0_0.index t = ![0, t.val % 6] ∧ win0_1.index t = ![t.val % 6, t.val / 6] ∧ win0_2.index t = ![0, t.val / 6] :=
  (by decide +kernel : ∀ t : Fin grid0.N, _)
theorem lt24 : t.val < 24 := lt_of_lt_of_eq t.isLt N_0
def A0 : FVec Ideal S8448x1024 .f32 := m ((c : Thread nD τ).loc main_arg0)
def A1 : FVec Ideal S8448x5632 .f32 := m ((c : Thread nD τ).loc main_arg1)
/-- The array row that contracted position `k` of point `t` is, and the array column of column `q` of its tile. -/
def mid (k : Fin 1408) : Fin 8448 := ⟨t.val % 6 * 1408 + k.val, by have := k.isLt; omega⟩
def col (q : Fin 1408) : Fin 5632 := ⟨t.val / 6 * 1408 + q.val, by have := lt24 t; have := q.isLt; omega⟩

theorem x_blk (r : Fin 1024) (k : Fin 1408) : (iblk m c 0 t : FVec Ideal S1024x1408 .bf16) (ix2 r k) = A0 m c (ix2 (mid t k) r) := by
  unfold A0
  refine Eq.trans (b := (V m c main_v1 : FVec Ideal S1024x8448 .bf16) (ix2 r (mid t k))) ?_ ?_
  · blk_ext [iblk, mid, idx t]
  · entry_read
    pointwise []
theorem y_blk (k q : Fin 1408) : (iblk m c 1 t : FVec Ideal S1408x1408 .bf16) (ix2 k q) = A1 m c (ix2 (mid t k) (col t q)) := by
  unfold A1
  refine Eq.trans (b := (V m c main_v2 : FVec Ideal S8448x5632 .bf16) (ix2 (mid t k) (col t q))) ?_ ?_
  · blk_ext [iblk, mid, col, idx t]
  · entry_read
    pointwise []

theorem step0 (h : t.val % 6 = 0) (j : S1024x1408.Idx) :
    (outsAt0 m c t.val t.isLt).2 j = 0 + part (iblk m c 0 t) (iblk m c 1 t) j := by
  rw [outsAt0_A m c t h (by omega)]; frame_out; rw [acc_at, zero_fill]
theorem step (h : ¬t.val % 6 = 0) (j : S1024x1408.Idx) :
    (outsAt0 m c t.val t.isLt).2 j
      = (outsAt0 m c (t.val - 1) (Nat.lt_of_le_of_lt (Nat.sub_le _ _) t.isLt)).2 j + part (iblk m c 0 t) (iblk m c 1 t) j := by
  by_cases h1 : t.val % 6 = 5
  · rw [outsAt0_C m c t h h1]; frame_out; rw [acc_at]; exact congrArg (· + _) (congrFun ((Memref.isWhole_whole (cc0_scratch0 : Ref sig .tc)).read_unread _) j)
  · rw [outsAt0_B m c t h h1]; frame_out; rw [acc_at]; exact congrArg (· + _) (congrFun ((Memref.isWhole_whole (cc0_scratch0 : Ref sig .tc)).read_unread _) j)
/-- The point that writes the tile out writes the accumulator. -/
theorem last (h : t.val % 6 = 5) : (outsAt0 m c t.val t.isLt).1 = (outsAt0 m c t.val t.isLt).2 := by
  rw [outsAt0_C m c t (by omega) h]; frame_out

theorem sum_at (h : t.val % 6 = 5) (j : S1024x1408.Idx) :
    (outsAt0 m c t.val t.isLt).2 j = (∑ k : Fin 8448, A0 m c (ix2 k (j 0)) * A1 m c (ix2 k (col t (j 1))) : EReal) := by
  rw [Pipeline.eq_sum_fin_of_reset_step_apply_of_flush (fun n h => (outsAt0 m c n h).2) 6 (fun _ => 0) _
    (fun t h j => step0 m c t h j) (fun t h j => step m c t h j) t h j, zero_add]
  refine Fin.sum_mul_add_congr (n := 1408) fun s k hl => ?_
  have ht := lt24 t
  have hs : ∀ hs, mid ⟨6 * (t.val / 6) + s.val, hs⟩ k = ⟨s.val * 1408 + k.val, hl⟩ := fun hs => Fin.ext (by
    show (6 * (t.val / 6) + s.val) % 6 * 1408 + k.val = s.val * 1408 + k.val
    have := s.isLt; omega)
  have hc : ∀ hs, col ⟨6 * (t.val / 6) + s.val, hs⟩ (j 1) = col t (j 1) := fun hs => Fin.ext (by
    show (6 * (t.val / 6) + s.val) / 6 * 1408 + (j 1).val = t.val / 6 * 1408 + (j 1).val
    have := s.isLt; omega)
  refine congrArg₂ (fun a b : EReal => a * b) ((x_blk m c _ (j 0) k).trans ?_) ((y_blk m c _ k (j 1)).trans ?_)
  · rw [hs]
  · rw [hs, hc]

theorem final_dw : (dats m 0 c).arrAt 2 (cfgs 0).N = Cert.DwRefIdeal.Read.val_main_v3 (F := Ideal) (A0 m c) (A1 m c) := by
  refine (dats m 0 c).arrAt_eq_of_covers 2 _ (by decide +kernel) fun t hf y => ?_
  blk_simp; rw [after0_2]
  have h : t.val % 6 = 5 := (flush0_2 t).mp hf
  rw [last m c t h]
  refine (sum_at m c t h y).trans ((ref_dw _ _ (y 0) (col t (y 1))).symm.trans (congrArg _ ?_))
  blk_ext [col, idx t]
end Cert.DwIdeal.Results
end
-- ==== Proof.AdamwValue.lean ====
/- The value of the optimiser step on the largest weight. -/
module
public import proofs.«01_k».proof.Proof.Gen.AdamwIdeal.Value
public import proofs.«01_k».proof.Proof.Gen.AdamwRefIdeal.Run
public import proofs.«01_k».proof.Proof.Gen.AdamwRefIdeal.Read
public import Idealize.ShloMosaic.Lib.Pipeline.ValueKit
public import Idealize.ShloMosaic.Lib.Claim
@[expose] public section
set_option maxRecDepth 16384
noncomputable section
namespace Cert.AdamwIdeal.Results
open Idealize.ShloMosaic Idealize.ShloMosaic.TcCoe Idealize.SL.Sem
open Idealize.ShloMosaic.Pipeline (Dat)
open Cert.AdamwIdeal Cert.AdamwIdeal.Gen

/-- The eight devices' gradients of one entry, added up. -/
def total (p : Fin 8 → EReal) : EReal := ∑ k, p k
def beta1 : EReal := FloatOps.ofBits (F := Ideal) .f32 0x3F666666#32
def mom1 (g a : EReal) : EReal := beta1 * a + FloatOps.ofBits (F := Ideal) .f32 0x3DCCCCCD#32 * g
def mom2 (g b : EReal) : EReal :=
  FloatOps.ofBits (F := Ideal) .f32 0x3F7FBE77#32 * b + FloatOps.ofBits (F := Ideal) .f32 0x3A83126F#32 * (g * g)
/-- The change of the weight: the corrected first moment over the root of the corrected second, plus the decay. -/
def delta (g w a b : EReal) : EReal :=
  FloatOps.ofBits (F := Ideal) .f32 0xBA83126F#32 *
    (Ideal.div (Ideal.div (mom1 g a) (FloatOps.ofBits (F := Ideal) .f32 0x3F26BD02#32))
        (Ideal.sqrt (Ideal.div (mom2 g b) (FloatOps.ofBits (F := Ideal) .f32 0x3C231ACC#32)) + FloatOps.ofBits (F := Ideal) .f32 0x322BCC77#32)
      + FloatOps.ofBits (F := Ideal) .f32 0x3C23D70A#32 * w)

section
open Cert.AdamwRefIdeal.Read
variable (p : FVec Ideal S8x2048x704 .f32) (w a b : FVec Ideal S2048x704 .f32) (r : Fin 2048) (q : Fin 704)
theorem ref_g : val_main_v0 (F := Ideal) p (ix2 r q) = total fun k => p (ix3 k r q) := by
  pointwise [val_main_v0, val_main_cst, total]
theorem ref_m : val_main_v5 (F := Ideal) p a (ix2 r q) = mom1 (total fun k => p (ix3 k r q)) (a (ix2 r q)) := by
  rw [← ref_g]; rfl
theorem ref_v : val_main_v11 (F := Ideal) p b (ix2 r q) = mom2 (total fun k => p (ix3 k r q)) (b (ix2 r q)) := by
  rw [← ref_g]; rfl
theorem ref_d : val_main_v24 (F := Ideal) p w a b (ix2 r q)
    = delta (total fun k => p (ix3 k r q)) (w (ix2 r q)) (a (ix2 r q)) (b (ix2 r q)) := by
  rw [← ref_g]; rfl
end

section
variable (p : FVec Ideal S8x512x704 .bf16) (w a b g : FVec Ideal S512x704 .f32) (r : Fin 512) (q : Fin 704)
theorem shard (k : Fin 8) (off : Fin 3 → ℕ) (inb : ∀ i, off i + S1x512x704.size i ≤ S8x512x704.size i) (h0 : off 0 = k.val) (h1 : off 1 = 0) (h2 : off 2 = 0) :
    View.ld (Val := Elt Ideal) (e' := .bf16) p (Rect.unit (s := S8x512x704) off S1x512x704.size inb) (ix3 0 r q) = p (ix3 k r q) := by
  refine View.ld_unit_apply_of (Val := Elt Ideal) (e := .bf16) (S := S8x512x704) p _ _ inb _ _ fun i => ?_
  fin_cases i
  · exact h0.symm
  · exact ((congrArg (· + r.val) h1).trans (Nat.zero_add _)).symm
  · exact ((congrArg (· + q.val) h2).trans (Nat.zero_add _)).symm
theorem pay_sum (u0 u1 u2 u3 u4 u5 u6 u7 : FVec Ideal S1x512x704 .bf16) : k0_pay4 (F := Ideal) u0 u1 u2 u3 u4 u5 u6 u7 (ix2 r q)
    = (u0 (ix3 0 r q) + u1 (ix3 0 r q) + u2 (ix3 0 r q) + u3 (ix3 0 r q) + u4 (ix3 0 r q) + u5 (ix3 0 r q) + u6 (ix3 0 r q) + u7 (ix3 0 r q) : EReal) := by
  pointwise [k0_pay4]
theorem pay_g : k0_pay5 (F := Ideal) p w a b (ix2 r q) = total fun k => p (ix3 k r q) := by
  unfold k0_pay5 total
  rw [pay_sum, Fin.sum_univ_eight, shard p r q 0 _ _ rfl rfl rfl, shard p r q 1 _ _ rfl rfl rfl, shard p r q 2 _ _ rfl rfl rfl,
    shard p r q 3 _ _ rfl rfl rfl, shard p r q 4 _ _ rfl rfl rfl, shard p r q 5 _ _ rfl rfl rfl, shard p r q 6 _ _ rfl rfl rfl,
    shard p r q 7 _ _ rfl rfl rfl]
theorem pay_m : k0_pay1 (F := Ideal) g a (Scalar.ofBits .f32 0x3F666666#32) (ix2 r q) = mom1 (g (ix2 r q)) (a (ix2 r q)) := rfl
theorem pay_v : k0_pay2 (F := Ideal) g b (ix2 r q) = mom2 (g (ix2 r q)) (b (ix2 r q)) := rfl
theorem pay_d : k0_pay3 (F := Ideal) g a (Scalar.ofBits .f32 0x3F666666#32) b w (ix2 r q)
    = delta (g (ix2 r q)) (w (ix2 r q)) (a (ix2 r q)) (b (ix2 r q)) := rfl
end

variable (m : (ℓ : Loc nD τ sig) → Buf (Elt Ideal) ℓ) (c : Dev nD) (t : Fin cfg0.N)

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)
def A0 : FVec Ideal S8x2048x704 .f32 := m ((c : Thread nD τ).loc main_arg0)
def A1 : FVec Ideal S2048x704 .f32 := m ((c : Thread nD τ).loc main_arg1)
def A2 : FVec Ideal S2048x704 .f32 := m ((c : Thread nD τ).loc main_arg2)
def A3 : FVec Ideal S2048x704 .f32 := m ((c : Thread nD τ).loc main_arg3)
/-- The weight's row that row `r` of tile `t` is. -/
def row (r : Fin 512) : Fin 2048 := ⟨t.val * 512 + r.val, by have h : t.val < 4 := lt_of_lt_of_eq t.isLt N_0; omega⟩

section
variable (r : Fin 512) (q : Fin 704)
theorem p_blk (k : Fin 8) : (iblk m c 0 t : FVec Ideal S8x512x704 .bf16) (ix3 k r q) = A0 m c (ix3 k (row t r) q) := by
  unfold A0
  refine Eq.trans (b := (V m c main_v0 : FVec Ideal S8x2048x704 .bf16) (ix3 k (row t r) q)) ?_ ?_
  · blk_ext [iblk, row, idx t]
  · entry_read
    pointwise []
theorem w_blk : (iblk m c 1 t : FVec Ideal S512x704 .f32) (ix2 r q) = A1 m c (ix2 (row t r) q) := by
  unfold row A1
  blk_point [iblk, V, idx t]
theorem a_blk : (iblk m c 2 t : FVec Ideal S512x704 .f32) (ix2 r q) = A2 m c (ix2 (row t r) q) := by
  unfold row A2
  blk_point [iblk, V, idx t]
theorem b_blk : (iblk m c 3 t : FVec Ideal S512x704 .f32) (ix2 r q) = A3 m c (ix2 (row t r) q) := by
  unfold row A3
  blk_point [iblk, V, idx t]
theorem g_pt : k0_pay5 (F := Ideal) (iblk m c 0 t) (iblk m c 1 t) (iblk m c 2 t) (iblk m c 3 t) (ix2 r q)
    = total fun k => A0 m c (ix3 k (row t r) q) :=
  (pay_g (iblk m c 0 t) (iblk m c 1 t) (iblk m c 2 t) (iblk m c 3 t) r q).trans (congrArg total (funext fun k => p_blk m c t r q k))
end

theorem two (x : S512x704.Idx) : x = ix2 (x 0) (x 1) := by funext i; fin_cases i <;> rfl

theorem final_g : (dats m 0 c).arrAt 4 (cfgs 0).N = Cert.AdamwRefIdeal.Read.val_main_v0 (F := Ideal) (A0 m c) := by
  refine (dats m 0 c).arrAt_eq_of_covers 4 _ (by decide +kernel) fun t hf y => ?_
  blk_simp; rw [after0_4]; frame_out
  refine (congrArg _ (two y)).trans ((g_pt m c t (y 0) (y 1)).trans ((ref_g _ (row t (y 0)) (y 1)).symm.trans (congrArg _ ?_)))
  blk_ext [row, idx t]
theorem final_d : (dats m 0 c).arrAt 5 (cfgs 0).N
    = Cert.AdamwRefIdeal.Read.val_main_v24 (F := Ideal) (A0 m c) (A1 m c) (A2 m c) (A3 m c) := by
  refine (dats m 0 c).arrAt_eq_of_covers 5 _ (by decide +kernel) fun t hf y => ?_
  blk_simp; rw [after0_5]; frame_out
  refine (congrArg _ (two y)).trans ((pay_d (iblk m c 1 t) (iblk m c 2 t) (iblk m c 3 t) _ (y 0) (y 1)).trans (Eq.trans ?_
    ((ref_d _ (A1 m c) (A2 m c) (A3 m c) (row t (y 0)) (y 1)).symm.trans (congrArg _ ?_))))
  · refine (congrArg (fun x : EReal => delta x _ _ _) (g_pt m c t (y 0) (y 1))).trans ?_
    refine (congrArg (fun x : EReal => delta _ x _ _) (w_blk m c t (y 0) (y 1))).trans ?_
    exact congrArg₂ (fun x x' : EReal => delta _ _ x x') (a_blk m c t (y 0) (y 1)) (b_blk m c t (y 0) (y 1))
  · blk_ext [row, idx t]
theorem final_m : (dats m 0 c).arrAt 6 (cfgs 0).N = Cert.AdamwRefIdeal.Read.val_main_v5 (F := Ideal) (A0 m c) (A2 m c) := by
  refine (dats m 0 c).arrAt_eq_of_covers 6 _ (by decide +kernel) fun t hf y => ?_
  blk_simp; rw [after0_6]; frame_out
  refine (congrArg _ (two y)).trans ((pay_m (iblk m c 2 t) _ (y 0) (y 1)).trans (Eq.trans ?_
    ((ref_m _ (A2 m c) (row t (y 0)) (y 1)).symm.trans (congrArg _ ?_))))
  · exact congrArg₂ mom1 (g_pt m c t (y 0) (y 1)) (a_blk m c t (y 0) (y 1))
  · blk_ext [row, idx t]
theorem final_v : (dats m 0 c).arrAt 7 (cfgs 0).N = Cert.AdamwRefIdeal.Read.val_main_v11 (F := Ideal) (A0 m c) (A3 m c) := by
  refine (dats m 0 c).arrAt_eq_of_covers 7 _ (by decide +kernel) fun t hf y => ?_
  blk_simp; rw [after0_7]; frame_out
  refine (congrArg _ (two y)).trans ((pay_v (iblk m c 3 t) _ (y 0) (y 1)).trans (Eq.trans ?_
    ((ref_v _ (A3 m c) (row t (y 0)) (y 1)).symm.trans (congrArg _ ?_))))
  · exact congrArg₂ mom2 (g_pt m c t (y 0) (y 1)) (b_blk m c t (y 0) (y 1))
  · blk_ext [row, idx t]
end Cert.AdamwIdeal.Results
end
-- ==== Proof.lean ====
module

public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.FfnFwdIdeal.Value
public import proofs.«01_k».proof.Proof.Gen.FfnFwdRefIdeal.Run
public import proofs.«01_k».proof.Proof.Gen.FfnFwdRefIdeal.Read
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.Gen.EmbedIdeal.Value
public import proofs.«01_k».proof.Proof.Gen.EmbedRefIdeal.Run
public import proofs.«01_k».proof.Proof.Gen.EmbedRefIdeal.Read
public import proofs.«01_k».proof.Proof.Gen.DwIdeal.Value
public import proofs.«01_k».proof.Proof.Gen.DwRefIdeal.Run
public import proofs.«01_k».proof.Proof.Gen.DwRefIdeal.Read
public import proofs.«01_k».proof.Proof.Gen.AdamwIdeal.Value
public import proofs.«01_k».proof.Proof.Gen.AdamwRefIdeal.Run
public import proofs.«01_k».proof.Proof.Gen.AdamwRefIdeal.Read
public import proofs.«01_k».proof.Proof.Gen.PrepFwdRefIdeal.Run
public import proofs.«01_k».proof.Defs
public import proofs.«01_k».proof.Proof.FfnValue
public import proofs.«01_k».proof.Proof.AttnValue
public import proofs.«01_k».proof.Proof.FfnInValue
public import proofs.«01_k».proof.Proof.LossValue
public import proofs.«01_k».proof.Proof.FwdValue
public import proofs.«01_k».proof.Proof.GateValue
public import proofs.«01_k».proof.Proof.FfnFwdValue
public import proofs.«01_k».proof.Proof.OutProjValue
public import proofs.«01_k».proof.Proof.EmbedValue
public import proofs.«01_k».proof.Proof.DwValue
public import proofs.«01_k».proof.Proof.AdamwValue
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.AttnBwd
public import proofs.«01_k».proof.Proof.Gen.AttnBwd.Skeleton
public import proofs.«01_k».proof.Proof.Gen.AttnBwd.Launch
public import proofs.«01_k».proof.Proof.Gen.AttnBwd.Points
public import proofs.«01_k».proof.Proof.Gen.AttnBwd.Loops
public import proofs.«01_k».proof.Proof.Gen.AttnBwd.Frame
public import proofs.«01_k».proof.Proof.Gen.AttnBwdIdeal
public import proofs.«01_k».proof.Proof.Gen.AttnBwdIdeal.Skeleton
public import proofs.«01_k».proof.Proof.Gen.AttnBwdIdeal.Launch
public import proofs.«01_k».proof.Proof.Gen.AttnBwdIdeal.Points
public import proofs.«01_k».proof.Proof.Gen.AttnBwdIdeal.Frame
public import proofs.«01_k».proof.Proof.Gen.AttnBwdIdeal.Value
public import proofs.«01_k».proof.Proof.Gen.AttnBwdRefIdeal
public import proofs.«01_k».proof.Proof.Gen.AttnBwdRefIdeal.Run
public import proofs.«01_k».proof.Proof.Gen.AttnBwdRefIdeal.Read
public import proofs.«01_k».proof.Proof.Gen.FfnIn
public import proofs.«01_k».proof.Proof.Gen.FfnIn.Skeleton
public import proofs.«01_k».proof.Proof.Gen.FfnIn.Launch
public import proofs.«01_k».proof.Proof.Gen.FfnIn.Points
public import proofs.«01_k».proof.Proof.Gen.FfnIn.Frame
public import proofs.«01_k».proof.Proof.Gen.FfnInIdeal
public import proofs.«01_k».proof.Proof.Gen.FfnInIdeal.Skeleton
public import proofs.«01_k».proof.Proof.Gen.FfnInIdeal.Launch
public import proofs.«01_k».proof.Proof.Gen.FfnInIdeal.Points
public import proofs.«01_k».proof.Proof.Gen.FfnInIdeal.Frame
public import proofs.«01_k».proof.Proof.Gen.FfnInIdeal.Value
public import proofs.«01_k».proof.Proof.Gen.FfnInRefIdeal
public import proofs.«01_k».proof.Proof.Gen.FfnInRefIdeal.Run
public import proofs.«01_k».proof.Proof.Gen.FfnInRefIdeal.Read
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.Gen.AttnFwd
public import proofs.«01_k».proof.Proof.Gen.AttnFwd.Skeleton
public import proofs.«01_k».proof.Proof.Gen.AttnFwd.Launch
public import proofs.«01_k».proof.Proof.Gen.AttnFwd.Points
public import proofs.«01_k».proof.Proof.Gen.AttnFwd.Frame
public import proofs.«01_k».proof.Proof.Gen.AttnFwdIdeal
public import proofs.«01_k».proof.Proof.Gen.AttnFwdIdeal.Skeleton
public import proofs.«01_k».proof.Proof.Gen.AttnFwdIdeal.Launch
public import proofs.«01_k».proof.Proof.Gen.AttnFwdIdeal.Points
public import proofs.«01_k».proof.Proof.Gen.AttnFwdIdeal.Frame
public import proofs.«01_k».proof.Proof.Gen.AttnFwdIdeal.Value
public import proofs.«01_k».proof.Proof.Gen.AttnFwdRefIdeal
public import proofs.«01_k».proof.Proof.Gen.AttnFwdRefIdeal.Run
public import proofs.«01_k».proof.Proof.Gen.AttnFwdRefIdeal.Read
public import proofs.«01_k».proof.Proof.Gen.FoxOut
public import proofs.«01_k».proof.Proof.Gen.FoxOut.Skeleton
public import proofs.«01_k».proof.Proof.Gen.FoxOut.Launch
public import proofs.«01_k».proof.Proof.Gen.FoxOut.Points
public import proofs.«01_k».proof.Proof.Gen.FoxOut.Frame
public import proofs.«01_k».proof.Proof.Gen.FoxOutIdeal
public import proofs.«01_k».proof.Proof.Gen.FoxOutIdeal.Skeleton
public import proofs.«01_k».proof.Proof.Gen.FoxOutIdeal.Launch
public import proofs.«01_k».proof.Proof.Gen.FoxOutIdeal.Points
public import proofs.«01_k».proof.Proof.Gen.FoxOutIdeal.Frame
public import proofs.«01_k».proof.Proof.Gen.FoxOutIdeal.Value
public import proofs.«01_k».proof.Proof.Gen.FoxOutRefIdeal
public import proofs.«01_k».proof.Proof.Gen.FoxOutRefIdeal.Run
public import proofs.«01_k».proof.Proof.Gen.FoxOutRefIdeal.Read
public import proofs.«01_k».proof.Proof.Gen.FoxPrep
public import proofs.«01_k».proof.Proof.Gen.FoxPrep.Skeleton
public import proofs.«01_k».proof.Proof.Gen.FoxPrep.Launch
public import proofs.«01_k».proof.Proof.Gen.FoxPrep.Points
public import proofs.«01_k».proof.Proof.Gen.FoxPrep.Frame
public import proofs.«01_k».proof.Proof.Gen.FoxPrepIdeal
public import proofs.«01_k».proof.Proof.Gen.FoxPrepIdeal.Skeleton
public import proofs.«01_k».proof.Proof.Gen.FoxPrepIdeal.Launch
public import proofs.«01_k».proof.Proof.Gen.FoxPrepIdeal.Points
public import proofs.«01_k».proof.Proof.Gen.FoxPrepIdeal.Frame
public import proofs.«01_k».proof.Proof.Gen.FoxPrepRefIdeal
public import proofs.«01_k».proof.Proof.Gen.FoxPrepRefIdeal.Run
public import proofs.«01_k».proof.Proof.Gen.FfnFwd
public import proofs.«01_k».proof.Proof.Gen.FfnFwd.Skeleton
public import proofs.«01_k».proof.Proof.Gen.FfnFwd.Launch
public import proofs.«01_k».proof.Proof.Gen.FfnFwd.Points
public import proofs.«01_k».proof.Proof.Gen.FfnFwd.Frame
public import proofs.«01_k».proof.Proof.Gen.FfnFwdIdeal
public import proofs.«01_k».proof.Proof.Gen.FfnFwdIdeal.Skeleton
public import proofs.«01_k».proof.Proof.Gen.FfnFwdIdeal.Launch
public import proofs.«01_k».proof.Proof.Gen.FfnFwdIdeal.Points
public import proofs.«01_k».proof.Proof.Gen.FfnFwdIdeal.Frame
public import proofs.«01_k».proof.Proof.Gen.FfnFwdRefIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.Embed
public import proofs.«01_k».proof.Proof.Gen.Embed.Skeleton
public import proofs.«01_k».proof.Proof.Gen.Embed.Launch
public import proofs.«01_k».proof.Proof.Gen.Embed.Points
public import proofs.«01_k».proof.Proof.Gen.Embed.Frame
public import proofs.«01_k».proof.Proof.Gen.EmbedIdeal
public import proofs.«01_k».proof.Proof.Gen.EmbedIdeal.Skeleton
public import proofs.«01_k».proof.Proof.Gen.EmbedIdeal.Launch
public import proofs.«01_k».proof.Proof.Gen.EmbedIdeal.Points
public import proofs.«01_k».proof.Proof.Gen.EmbedIdeal.Frame
public import proofs.«01_k».proof.Proof.Gen.EmbedRefIdeal
public import proofs.«01_k».proof.Proof.Gen.PrepFwd
public import proofs.«01_k».proof.Proof.Gen.PrepFwd.Skeleton
public import proofs.«01_k».proof.Proof.Gen.PrepFwd.Launch
public import proofs.«01_k».proof.Proof.Gen.PrepFwd.Points
public import proofs.«01_k».proof.Proof.Gen.PrepFwd.Frame
public import proofs.«01_k».proof.Proof.Gen.PrepFwdIdeal
public import proofs.«01_k».proof.Proof.Gen.PrepFwdIdeal.Skeleton
public import proofs.«01_k».proof.Proof.Gen.PrepFwdIdeal.Launch
public import proofs.«01_k».proof.Proof.Gen.PrepFwdIdeal.Points
public import proofs.«01_k».proof.Proof.Gen.PrepFwdIdeal.Frame
public import proofs.«01_k».proof.Proof.Gen.PrepFwdRefIdeal
public import proofs.«01_k».proof.Proof.Gen.Dw
public import proofs.«01_k».proof.Proof.Gen.Dw.Skeleton
public import proofs.«01_k».proof.Proof.Gen.Dw.Launch
public import proofs.«01_k».proof.Proof.Gen.Dw.Points
public import proofs.«01_k».proof.Proof.Gen.Dw.Frame
public import proofs.«01_k».proof.Proof.Gen.DwIdeal
public import proofs.«01_k».proof.Proof.Gen.DwIdeal.Skeleton
public import proofs.«01_k».proof.Proof.Gen.DwIdeal.Launch
public import proofs.«01_k».proof.Proof.Gen.DwIdeal.Points
public import proofs.«01_k».proof.Proof.Gen.DwIdeal.Frame
public import proofs.«01_k».proof.Proof.Gen.DwRefIdeal
public import proofs.«01_k».proof.Proof.Gen.Adamw
public import proofs.«01_k».proof.Proof.Gen.Adamw.Skeleton
public import proofs.«01_k».proof.Proof.Gen.Adamw.Launch
public import proofs.«01_k».proof.Proof.Gen.Adamw.Points
public import proofs.«01_k».proof.Proof.Gen.Adamw.Frame
public import proofs.«01_k».proof.Proof.Gen.AdamwIdeal
public import proofs.«01_k».proof.Proof.Gen.AdamwIdeal.Skeleton
public import proofs.«01_k».proof.Proof.Gen.AdamwIdeal.Launch
public import proofs.«01_k».proof.Proof.Gen.AdamwIdeal.Points
public import proofs.«01_k».proof.Proof.Gen.AdamwIdeal.Frame
public import proofs.«01_k».proof.Proof.Gen.AdamwRefIdeal
public import Idealize.ShloMosaic.Adequacy
public import Idealize.ShloMosaic.Init

@[expose] public section

set_option maxRecDepth 16384

noncomputable section

namespace Cert.Proof

open Idealize.ShloMosaic Idealize.SL.Sem Cert.Ffn

theorem frame_FfnRefIdeal : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

theorem ffn : Cert.algebraic_FfnIdeal_FfnRefIdeal := by
  intro m g m' g' _ hagree
  refine ⟨fun c => _, (θ_run Cert.FfnIdeal.defs _ _).mono
      (fun r h c => ⟨(h c).1.trans (Cert.FfnIdeal.FfnValue.final m c), (h c).2⟩) (Cert.FfnIdeal.Value.run_blocks m g),
    (θ_run Cert.FfnRefIdeal.defs _ _).mono (fun r h c => ⟨(h c).1.trans ?_, (h c).2⟩) (Cert.FfnRefIdeal.Value.run m' g')⟩
  obtain ⟨h0, h1, h2, h3⟩ := hagree c
  refine (Cert.FfnRefIdeal.Read.val_main_v11_eq _ _ _ _).trans ?_
  rw [h0, h1, h2, h3]

theorem frame_AttnBwdRefIdeal : Cert.quiescent_AttnBwdRefIdeal := fun m ρ _ =>
  (θ_run Cert.AttnBwdRefIdeal.defs _ _).mono (fun r h => ⟨fun c => (h c).2.2.2.2, sem_eq_zero_of_no_sems (by decide) r.2⟩)
    (Cert.AttnBwdRefIdeal.Value.run (F := Ideal) m ρ)

theorem finite_facts : Cert.Pre_attn_finite.Facts := ⟨by decide, by decide⟩

theorem attnBwd [hPre : Cert.Pre_attn_finite.Facts] : Cert.algebraic_AttnBwdIdeal_AttnBwdRefIdeal_pre_attn_finite (hPre_attn_finite := hPre) := by
  intro m g m' g' pre hagree
  have V : ∀ c, _ := fun c => Cert.AttnBwdIdeal.Results.values m c pre
  refine ⟨fun c => _, fun c => _, fun c => _, fun c => _, (θ_run Cert.AttnBwdIdeal.defs _ _).mono
      (fun r h c => ⟨(h c).1.trans (V c).1, (h c).2.1.trans (V c).2.1, (h c).2.2.1.trans (V c).2.2.1, (h c).2.2.2.1.trans (V c).2.2.2, (h c).2.2.2.2⟩)
      (Cert.AttnBwdIdeal.Value.run_blocks m g),
    (θ_run Cert.AttnBwdRefIdeal.defs _ _).mono
      (fun r h c => ⟨(h c).1.trans ?_, (h c).2.1.trans ?_, (h c).2.2.1.trans ?_, (h c).2.2.2.1.trans ?_, (h c).2.2.2.2⟩)
      (Cert.AttnBwdRefIdeal.Value.run m' g')⟩
  all_goals obtain ⟨h0, h1, h2, h3, h4⟩ := hagree c
  · refine (Cert.AttnBwdRefIdeal.Read.val_main_v79_eq m' c).trans ?_
    rw [h0, h1, h2, h3, h4]; rfl
  · refine (Cert.AttnBwdRefIdeal.Read.val_main_v85_eq m' c).trans ?_
    rw [h0, h1, h2, h3, h4]; rfl
  · refine (Cert.AttnBwdRefIdeal.Read.val_main_v88_eq m' c).trans ?_
    rw [h0, h1, h3, h4]; rfl
  · refine (Cert.AttnBwdRefIdeal.Read.val_main_v74_eq m' c).trans ?_
    rw [h0, h1, h2, h3, h4]; rfl

theorem frame_FfnInRefIdeal : Cert.quiescent_FfnInRefIdeal := fun m ρ _ =>
  (θ_run Cert.FfnInRefIdeal.defs _ _).mono (fun r h => ⟨fun c => (h c).2.2.2, sem_eq_zero_of_no_sems (by decide) r.2⟩)
    (Cert.FfnInRefIdeal.Value.run (F := Ideal) m ρ)

theorem ffnIn : Cert.algebraic_FfnInIdeal_FfnInRefIdeal := by
  intro m g m' g' _ hagree
  refine ⟨fun c => _, fun c => _, fun c => _, (θ_run Cert.FfnInIdeal.defs _ _).mono
      (fun r h c => ⟨(h c).1.trans (Cert.FfnInIdeal.Result.final_dx m c), (h c).2.1.trans (Cert.FfnInIdeal.Result.final_dxb m c), (h c).2.2.1.trans (Cert.FfnInIdeal.Result.final_dg m c), (h c).2.2.2⟩)
      (Cert.FfnInIdeal.Value.run_blocks m g),
    (θ_run Cert.FfnInRefIdeal.defs _ _).mono (fun r h c => ⟨(h c).1.trans ?_, (h c).2.1.trans ?_, (h c).2.2.1.trans ?_, (h c).2.2.2⟩)
      (Cert.FfnInRefIdeal.Value.run m' g')⟩
  all_goals obtain ⟨h0, h1, h2, h3, h4⟩ := hagree c
  · refine (Cert.FfnInRefIdeal.Read.val_main_v38_eq m' c).trans ?_
    rw [h0, h1, h2, h3, h4]; rfl
  · refine (Cert.FfnInRefIdeal.Read.val_main_v39_eq m' c).trans ?_
    rw [h0, h1, h2, h3, h4]; rfl
  · refine (Cert.FfnInRefIdeal.Read.val_main_v40_eq _ _ _).trans ?_
    rw [h0, h2, h4]; rfl

theorem frame_LossRefIdeal : Cert.quiescent_LossRefIdeal := fun m ρ _ =>
  (θ_run Cert.LossRefIdeal.defs _ _).mono (fun r h => ⟨fun c => (h c).2.2.2.2, sem_eq_zero_of_no_sems (by decide) r.2⟩)
    (Cert.LossRefIdeal.Value.run (F := Ideal) m ρ)

theorem loss : Cert.algebraic_LossIdeal_LossRefIdeal := by
  intro m g m' g' _ hagree
  refine ⟨fun c => _, fun c => _, fun c => _, fun c => _, (θ_run Cert.LossIdeal.defs _ _).mono
      (fun r h c => ⟨(h c).1.trans (Cert.LossIdeal.Result.final_loss m c), (h c).2.1.trans (Cert.LossIdeal.Result.final_dx m c), (h c).2.2.1.trans (Cert.LossIdeal.Result.final_dxb m c), (h c).2.2.2.1.trans (Cert.LossIdeal.Result.final_dg m c), (h c).2.2.2.2⟩)
      (Cert.LossIdeal.Value.run_blocks m g),
    (θ_run Cert.LossRefIdeal.defs _ _).mono (fun r h c => ⟨(h c).1.trans ?_, (h c).2.1.trans ?_, (h c).2.2.1.trans ?_, (h c).2.2.2.1.trans ?_, (h c).2.2.2.2⟩)
      (Cert.LossRefIdeal.Value.run m' g')⟩
  all_goals obtain ⟨h0, h1, h2⟩ := hagree c
  · refine (Cert.LossRefIdeal.Read.val_main_v54_eq _ _ _).trans ?_
    rw [h0, h1, h2]; rfl
  · refine (Cert.LossRefIdeal.Read.val_main_v53_eq m' c).trans ?_
    rw [h0, h1, h2]; rfl
  · refine (Cert.LossRefIdeal.Read.val_main_v55_eq m' c).trans ?_
    rw [h0, h1, h2]; rfl
  · refine (Cert.LossRefIdeal.Read.val_main_v56_eq _ _ _).trans ?_
    rw [h0, h1, h2]; rfl

theorem frame_AttnFwdRefIdeal : Cert.quiescent_AttnFwdRefIdeal := fun m ρ _ =>
  (θ_run Cert.AttnFwdRefIdeal.defs _ _).mono (fun r h => ⟨fun c => (h c).2.2.2.2, sem_eq_zero_of_no_sems (by decide) r.2⟩)
    (Cert.AttnFwdRefIdeal.Value.run (F := Ideal) m ρ)

theorem fwd_facts : Cert.Pre_fwd_finite.Facts := ⟨by decide, by decide⟩

theorem attnFwd [hPre : Cert.Pre_fwd_finite.Facts] : Cert.algebraic_AttnFwdIdeal_AttnFwdRefIdeal_pre_fwd_finite (hPre_fwd_finite := hPre) := by
  intro m g m' g' pre hagree
  have V : ∀ c, _ := fun c => Cert.AttnFwdIdeal.Results.values m c pre
  refine ⟨fun c => _, fun c => _, fun c => _, fun c => _, (θ_run Cert.AttnFwdIdeal.defs _ _).mono
      (fun r h c => ⟨(h c).1.trans (V c).1, (h c).2.1.trans (V c).2.1, (h c).2.2.1.trans (V c).2.2.1, (h c).2.2.2.1.trans (V c).2.2.2, (h c).2.2.2.2⟩)
      (Cert.AttnFwdIdeal.Value.run_blocks m g),
    (θ_run Cert.AttnFwdRefIdeal.defs _ _).mono
      (fun r h c => ⟨(h c).1.trans ?_, (h c).2.1.trans ?_, (h c).2.2.1.trans ?_, (h c).2.2.2.1.trans ?_, (h c).2.2.2.2⟩)
      (Cert.AttnFwdRefIdeal.Value.run m' g')⟩
  all_goals obtain ⟨h0, h1, h2, h3, h4⟩ := hagree c
  · refine (Cert.AttnFwdRefIdeal.Read.val_main_v64_eq m' c).trans ?_
    rw [h0, h1, h2, h3]; rfl
  · refine (Cert.AttnFwdRefIdeal.Read.val_main_v76_eq m' c).trans ?_
    rw [h0, h1, h2, h3, h4]; rfl
  · refine (Cert.AttnFwdRefIdeal.Read.val_main_v78_eq _ _ _).trans ?_
    rw [h0, h1, h3]; rfl
  · refine (Cert.AttnFwdRefIdeal.Read.val_main_v85_eq _ _ _).trans ?_
    rw [h0, h1, h3]; rfl

theorem frame_FoxOutRefIdeal : Cert.quiescent_FoxOutRefIdeal := fun m ρ _ =>
  (θ_run Cert.FoxOutRefIdeal.defs _ _).mono (fun r h => ⟨fun c => (h c).2.2.2, sem_eq_zero_of_no_sems (by decide) r.2⟩)
    (Cert.FoxOutRefIdeal.Value.run (F := Ideal) m ρ)

theorem out_facts : Cert.Pre_out_finite.Facts := ⟨by decide, by decide⟩

theorem foxOut [hPre : Cert.Pre_out_finite.Facts] : Cert.algebraic_FoxOutIdeal_FoxOutRefIdeal_pre_out_finite (hPre_out_finite := hPre) := by
  intro m g m' g' pre hagree
  have V : ∀ c, _ := fun c => Cert.FoxOutIdeal.Results.values m c pre
  refine ⟨fun c => _, fun c => _, fun c => _, (θ_run Cert.FoxOutIdeal.defs _ _).mono
      (fun r h c => ⟨(h c).1.trans (V c).1, (h c).2.1.trans (V c).2.1, (h c).2.2.1.trans (V c).2.2, (h c).2.2.2⟩)
      (Cert.FoxOutIdeal.Value.run_blocks m g),
    (θ_run Cert.FoxOutRefIdeal.defs _ _).mono
      (fun r h c => ⟨(h c).1.trans ?_, (h c).2.1.trans ?_, (h c).2.2.1.trans ?_, (h c).2.2.2⟩)
      (Cert.FoxOutRefIdeal.Value.run m' g')⟩
  all_goals obtain ⟨h0, h1, h2, h3, h4, h5, h6⟩ := hagree c
  · refine (Cert.FoxOutRefIdeal.Read.val_main_v86_eq _ _ _ _ _ _).trans ?_
    rw [h0, h1, h3, h4, h5, h6]; rfl
  · refine (Cert.FoxOutRefIdeal.Read.val_main_v88_eq m' c).trans ?_
    rw [h0, h1, h2, h3, h4, h5, h6]; rfl
  · refine (Cert.FoxOutRefIdeal.Read.val_main_v91_eq m' c).trans ?_
    rw [h0, h1, h2, h3, h4, h5, h6]; rfl

theorem frame_FoxPrepRefIdeal : Cert.quiescent_FoxPrepRefIdeal := fun m ρ _ =>
  (θ_run Cert.FoxPrepRefIdeal.defs _ _).mono (fun r h => ⟨fun c => (h c).2.2, sem_eq_zero_of_no_sems (by decide) r.2⟩)
    (Cert.FoxPrepRefIdeal.Value.run (F := Ideal) m ρ)

theorem frame_FfnFwdRefIdeal : Cert.quiescent_FfnFwdRefIdeal := fun m ρ _ =>
  (θ_run Cert.FfnFwdRefIdeal.defs _ _).mono (fun r h => ⟨fun c => (h c).2.2.2, sem_eq_zero_of_no_sems (by decide) r.2⟩)
    (Cert.FfnFwdRefIdeal.Value.run (F := Ideal) m ρ)

theorem ffnFwd : Cert.algebraic_FfnFwdIdeal_FfnFwdRefIdeal := by
  intro m g m' g' _ hagree
  refine ⟨fun c => _, fun c => _, fun c => _, (θ_run Cert.FfnFwdIdeal.defs _ _).mono
      (fun r h c => ⟨(h c).1.trans (Cert.FfnFwdIdeal.Results.final_g m c), (h c).2.1.trans (Cert.FfnFwdIdeal.Results.final_u m c), (h c).2.2.1.trans (Cert.FfnFwdIdeal.Results.final_act m c), (h c).2.2.2⟩)
      (Cert.FfnFwdIdeal.Value.run_blocks m g),
    (θ_run Cert.FfnFwdRefIdeal.defs _ _).mono (fun r h c => ⟨(h c).1.trans ?_, (h c).2.1.trans ?_, (h c).2.2.1.trans ?_, (h c).2.2.2⟩)
      (Cert.FfnFwdRefIdeal.Value.run m' g')⟩
  all_goals obtain ⟨h0, h1⟩ := hagree c
  · refine (Cert.FfnFwdRefIdeal.Read.val_main_v3_eq _ _).trans ?_
    rw [h0, h1]; rfl
  · refine (Cert.FfnFwdRefIdeal.Read.val_main_v4_eq _ _).trans ?_
    rw [h0, h1]; rfl
  · refine (Cert.FfnFwdRefIdeal.Read.val_main_v7_eq _ _).trans ?_
    rw [h0, h1]; rfl

theorem frame_OutProjRefIdeal : Cert.quiescent_OutProjRefIdeal := fun m ρ _ =>
  (θ_run Cert.OutProjRefIdeal.defs _ _).mono (fun r h => ⟨fun c => (h c).2.2.2, sem_eq_zero_of_no_sems (by decide) r.2⟩)
    (Cert.OutProjRefIdeal.Value.run (F := Ideal) m ρ)

theorem outProj : Cert.algebraic_OutProjIdeal_OutProjRefIdeal := by
  intro m g m' g' _ hagree
  refine ⟨fun c => _, fun c => _, fun c => _, (θ_run Cert.OutProjIdeal.defs _ _).mono
      (fun r h c => ⟨(h c).1.trans (Cert.OutProjIdeal.Results.final_h m c), (h c).2.1.trans (Cert.OutProjIdeal.Results.final_n m c), (h c).2.2.1.trans (Cert.OutProjIdeal.Results.final_t m c), (h c).2.2.2⟩)
      (Cert.OutProjIdeal.Value.run_blocks m g),
    (θ_run Cert.OutProjRefIdeal.defs _ _).mono (fun r h c => ⟨(h c).1.trans ?_, (h c).2.1.trans ?_, (h c).2.2.1.trans ?_, (h c).2.2.2⟩)
      (Cert.OutProjRefIdeal.Value.run m' g')⟩
  all_goals obtain ⟨h0, h1, h2, h3⟩ := hagree c
  · refine (Cert.OutProjRefIdeal.Read.val_main_v1_eq _ _ _).trans ?_
    rw [h0, h1, h2]; rfl
  · refine (Cert.OutProjRefIdeal.Read.val_main_v15_eq _ _ _ _).trans ?_
    rw [h0, h1, h2, h3]; rfl
  · refine (Cert.OutProjRefIdeal.Read.val_main_v17_eq _ _ _ _).trans ?_
    rw [h0, h1, h2, h3]; rfl

theorem frame_EmbedRefIdeal : Cert.quiescent_EmbedRefIdeal := fun m ρ _ =>
  (θ_run Cert.EmbedRefIdeal.defs _ _).mono (fun r h => ⟨fun c => (h c).2.2.2, sem_eq_zero_of_no_sems (by decide) r.2⟩)
    (Cert.EmbedRefIdeal.Value.run (F := Ideal) m ρ)

theorem embed : Cert.algebraic_EmbedIdeal_EmbedRefIdeal := by
  intro m g m' g' _ hagree
  refine ⟨fun c => _, fun c => _, fun c => _, (θ_run Cert.EmbedIdeal.defs _ _).mono
      (fun r h c => ⟨(h c).1.trans (Cert.EmbedIdeal.Results.final_h m c), (h c).2.1.trans (Cert.EmbedIdeal.Results.final_n m c), (h c).2.2.1.trans (Cert.EmbedIdeal.Results.final_t m c), (h c).2.2.2⟩)
      (Cert.EmbedIdeal.Value.run_blocks m g),
    (θ_run Cert.EmbedRefIdeal.defs _ _).mono (fun r h c => ⟨(h c).1.trans ?_, (h c).2.1.trans ?_, (h c).2.2.1.trans ?_, (h c).2.2.2⟩)
      (Cert.EmbedRefIdeal.Value.run m' g')⟩
  all_goals obtain ⟨h0, h1, h2⟩ := hagree c
  · refine (Cert.EmbedRefIdeal.Read.val_main_v1_eq _ _).trans ?_
    rw [h0, h1]; rfl
  · refine (Cert.EmbedRefIdeal.Read.val_main_v15_eq _ _ _).trans ?_
    rw [h0, h1, h2]; rfl
  · refine (Cert.EmbedRefIdeal.Read.val_main_v17_eq _ _ _).trans ?_
    rw [h0, h1, h2]; rfl

theorem frame_PrepFwdRefIdeal : Cert.quiescent_PrepFwdRefIdeal := fun m ρ _ =>
  (θ_run Cert.PrepFwdRefIdeal.defs _ _).mono (fun r h => ⟨fun c => (h c).2.2.2.2.2, sem_eq_zero_of_no_sems (by decide) r.2⟩)
    (Cert.PrepFwdRefIdeal.Value.run (F := Ideal) m ρ)

theorem frame_DwRefIdeal : Cert.quiescent_DwRefIdeal := fun m ρ _ =>
  (θ_run Cert.DwRefIdeal.defs _ _).mono (fun r h => ⟨fun c => (h c).2, sem_eq_zero_of_no_sems (by decide) r.2⟩)
    (Cert.DwRefIdeal.Value.run (F := Ideal) m ρ)

theorem dw : Cert.algebraic_DwIdeal_DwRefIdeal := by
  intro m g m' g' _ hagree
  refine ⟨fun c => _, (θ_run Cert.DwIdeal.defs _ _).mono
      (fun r h c => ⟨(h c).1.trans (Cert.DwIdeal.Results.final_dw m c), (h c).2⟩) (Cert.DwIdeal.Value.run_blocks m g),
    (θ_run Cert.DwRefIdeal.defs _ _).mono (fun r h c => ⟨(h c).1.trans ?_, (h c).2⟩) (Cert.DwRefIdeal.Value.run m' g')⟩
  obtain ⟨h0, h1⟩ := hagree c
  refine (Cert.DwRefIdeal.Read.val_main_v3_eq _ _).trans ?_
  rw [h0, h1]; rfl

theorem frame_AdamwRefIdeal : Cert.quiescent_AdamwRefIdeal := fun m ρ _ =>
  (θ_run Cert.AdamwRefIdeal.defs _ _).mono (fun r h => ⟨fun c => (h c).2.2.2.2, sem_eq_zero_of_no_sems (by decide) r.2⟩)
    (Cert.AdamwRefIdeal.Value.run (F := Ideal) m ρ)

theorem adamw : Cert.algebraic_AdamwIdeal_AdamwRefIdeal := by
  intro m g m' g' _ hagree
  refine ⟨fun c => _, fun c => _, fun c => _, fun c => _, (θ_run Cert.AdamwIdeal.defs _ _).mono
      (fun r h c => ⟨(h c).1.trans (Cert.AdamwIdeal.Results.final_g m c), (h c).2.1.trans (Cert.AdamwIdeal.Results.final_d m c), (h c).2.2.1.trans (Cert.AdamwIdeal.Results.final_m m c), (h c).2.2.2.1.trans (Cert.AdamwIdeal.Results.final_v m c), (h c).2.2.2.2⟩)
      (Cert.AdamwIdeal.Value.run_blocks m g),
    (θ_run Cert.AdamwRefIdeal.defs _ _).mono (fun r h c => ⟨(h c).1.trans ?_, (h c).2.1.trans ?_, (h c).2.2.1.trans ?_, (h c).2.2.2.1.trans ?_, (h c).2.2.2.2⟩)
      (Cert.AdamwRefIdeal.Value.run m' g')⟩
  all_goals obtain ⟨h0, h1, h2, h3⟩ := hagree c
  · refine (Cert.AdamwRefIdeal.Read.val_main_v0_eq _).trans ?_
    rw [h0]; rfl
  · refine (Cert.AdamwRefIdeal.Read.val_main_v24_eq _ _ _ _).trans ?_
    rw [h0, h1, h2, h3]; rfl
  · refine (Cert.AdamwRefIdeal.Read.val_main_v5_eq _ _).trans ?_
    rw [h0, h2]; rfl
  · refine (Cert.AdamwRefIdeal.Read.val_main_v11_eq _ _).trans ?_
    rw [h0, h3]; rfl

theorem claim : Cert.Claim := ⟨Cert.Ffn.Gen.facts, Cert.FfnIdeal.Gen.facts, Cert.FfnRefIdeal.Gen.facts,
  Cert.AttnBwd.Gen.facts, Cert.AttnBwdIdeal.Gen.facts, Cert.AttnBwdRefIdeal.Gen.facts,
  Cert.FfnIn.Gen.facts, Cert.FfnInIdeal.Gen.facts, Cert.FfnInRefIdeal.Gen.facts,
  Cert.Loss.Gen.facts, Cert.LossIdeal.Gen.facts, Cert.LossRefIdeal.Gen.facts,
  Cert.AttnFwd.Gen.facts, Cert.AttnFwdIdeal.Gen.facts, Cert.AttnFwdRefIdeal.Gen.facts,
  Cert.FoxOut.Gen.facts, Cert.FoxOutIdeal.Gen.facts, Cert.FoxOutRefIdeal.Gen.facts,
  Cert.FoxPrep.Gen.facts, Cert.FoxPrepIdeal.Gen.facts, Cert.FoxPrepRefIdeal.Gen.facts,
  Cert.FfnFwd.Gen.facts, Cert.FfnFwdIdeal.Gen.facts, Cert.FfnFwdRefIdeal.Gen.facts,
  Cert.OutProj.Gen.facts, Cert.OutProjIdeal.Gen.facts, Cert.OutProjRefIdeal.Gen.facts,
  Cert.Embed.Gen.facts, Cert.EmbedIdeal.Gen.facts, Cert.EmbedRefIdeal.Gen.facts,
  Cert.PrepFwd.Gen.facts, Cert.PrepFwdIdeal.Gen.facts, Cert.PrepFwdRefIdeal.Gen.facts,
  Cert.Dw.Gen.facts, Cert.DwIdeal.Gen.facts, Cert.DwRefIdeal.Gen.facts,
  Cert.Adamw.Gen.facts, Cert.AdamwIdeal.Gen.facts, Cert.AdamwRefIdeal.Gen.facts,
  finite_facts, fwd_facts, out_facts,
  fun m ρ _ => Cert.Ffn.Gen.frame m ρ,
  fun m ρ _ => Cert.FfnIdeal.Gen.frame m ρ,
  frame_FfnRefIdeal,
  fun m ρ _ => Cert.AttnBwd.Gen.frame m ρ,
  fun m ρ _ => Cert.AttnBwdIdeal.Gen.frame m ρ,
  fun m ρ _ => Cert.AttnBwdIdeal.Gen.frame m ρ,
  frame_AttnBwdRefIdeal,
  fun m ρ _ => frame_AttnBwdRefIdeal m ρ trivial,
  fun m ρ _ => Cert.FfnIn.Gen.frame m ρ,
  fun m ρ _ => Cert.FfnInIdeal.Gen.frame m ρ,
  frame_FfnInRefIdeal,
  fun m ρ _ => Cert.Loss.Gen.frame m ρ,
  fun m ρ _ => Cert.LossIdeal.Gen.frame m ρ,
  frame_LossRefIdeal,
  fun m ρ _ => Cert.AttnFwd.Gen.frame m ρ,
  fun m ρ _ => Cert.AttnFwdIdeal.Gen.frame m ρ,
  fun m ρ _ => Cert.AttnFwdIdeal.Gen.frame m ρ,
  frame_AttnFwdRefIdeal,
  fun m ρ _ => frame_AttnFwdRefIdeal m ρ trivial,
  fun m ρ _ => Cert.FoxOut.Gen.frame m ρ,
  fun m ρ _ => Cert.FoxOutIdeal.Gen.frame m ρ,
  fun m ρ _ => Cert.FoxOutIdeal.Gen.frame m ρ,
  frame_FoxOutRefIdeal,
  fun m ρ _ => frame_FoxOutRefIdeal m ρ trivial,
  fun m ρ _ => Cert.FoxPrep.Gen.frame m ρ,
  fun m ρ _ => Cert.FoxPrepIdeal.Gen.frame m ρ,
  frame_FoxPrepRefIdeal,
  fun m ρ _ => Cert.FfnFwd.Gen.frame m ρ,
  fun m ρ _ => Cert.FfnFwdIdeal.Gen.frame m ρ,
  frame_FfnFwdRefIdeal,
  fun m ρ _ => Cert.OutProj.Gen.frame m ρ,
  fun m ρ _ => Cert.OutProjIdeal.Gen.frame m ρ,
  frame_OutProjRefIdeal,
  fun m ρ _ => Cert.Embed.Gen.frame m ρ,
  fun m ρ _ => Cert.EmbedIdeal.Gen.frame m ρ,
  frame_EmbedRefIdeal,
  fun m ρ _ => Cert.PrepFwd.Gen.frame m ρ,
  fun m ρ _ => Cert.PrepFwdIdeal.Gen.frame m ρ,
  frame_PrepFwdRefIdeal,
  fun m ρ _ => Cert.Dw.Gen.frame m ρ,
  fun m ρ _ => Cert.DwIdeal.Gen.frame m ρ,
  frame_DwRefIdeal,
  fun m ρ _ => Cert.Adamw.Gen.frame m ρ,
  fun m ρ _ => Cert.AdamwIdeal.Gen.frame m ρ,
  frame_AdamwRefIdeal,
  trivial,
  ffn,
  IdealRules.named_const.statement Cert.AttnBwdIdeal.κ "mask" .f32 0xF149F2CA#32 ⊥ rfl,
  attnBwd (hPre := finite_facts),
  trivial,
  ffnIn,
  trivial,
  loss,
  IdealRules.named_const.statement Cert.AttnFwdIdeal.κ "mask" .f32 0xF149F2CA#32 ⊥ rfl,
  attnFwd (hPre := fwd_facts),
  trivial,
  foxOut (hPre := out_facts),
  trivial,
  trivial,
  ffnFwd,
  trivial,
  outProj,
  trivial,
  embed,
  trivial,
  trivial,
  dw,
  trivial,
  adamw⟩

end Cert.Proof

end
